-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_real_scores [hPre_real_scores : Cert.Pre_real_scores.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_real_scores.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2))) = (fun _ => 1#1)

def Pre_MemSpecIdeal (m : (ℓ : Loc Cert.MemSpecIdeal.nD Cert.MemSpecIdeal.τ Cert.MemSpecIdeal.sig) → Buf (Elt Ideal) ℓ) : Prop :=
  True

def Pre_MemSpecIdeal_real_scores [hPre_real_scores : Cert.Pre_real_scores.Facts] (m : (ℓ : Loc Cert.MemSpecIdeal.nD Cert.MemSpecIdeal.τ Cert.MemSpecIdeal.sig) → Buf (Elt Ideal) ℓ) : Prop :=
  ∀ c : Dev Cert.MemSpecIdeal.nD,
    (Cert.Pre_real_scores.fn (F := Ideal) (m ((c.tc : Thread Cert.MemSpecIdeal.nD Cert.MemSpecIdeal.τ).loc Cert.MemSpecIdeal.main_arg0)) (m ((c.tc : Thread Cert.MemSpecIdeal.nD Cert.MemSpecIdeal.τ).loc Cert.MemSpecIdeal.main_arg1)) (m ((c.tc : Thread Cert.MemSpecIdeal.nD Cert.MemSpecIdeal.τ).loc Cert.MemSpecIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpSpecIdeal (m : (ℓ : Loc Cert.FfnUpSpecIdeal.nD Cert.FfnUpSpecIdeal.τ Cert.FfnUpSpecIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdSpecIdeal (m : (ℓ : Loc Cert.DownFwdSpecIdeal.nD Cert.DownFwdSpecIdeal.τ Cert.DownFwdSpecIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInSpecIdeal (m : (ℓ : Loc Cert.AInSpecIdeal.nD Cert.AInSpecIdeal.τ Cert.AInSpecIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvSpecIdeal (m : (ℓ : Loc Cert.MemKvSpecIdeal.nD Cert.MemKvSpecIdeal.τ Cert.MemKvSpecIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdSpecIdeal (m : (ℓ : Loc Cert.OutFwdSpecIdeal.nD Cert.OutFwdSpecIdeal.τ Cert.OutFwdSpecIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdSpecIdeal (m : (ℓ : Loc Cert.KvFwdSpecIdeal.nD Cert.KvFwdSpecIdeal.τ Cert.KvFwdSpecIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInSpecIdeal (m : (ℓ : Loc Cert.BInSpecIdeal.nD Cert.BInSpecIdeal.τ Cert.BInSpecIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxSpecIdeal (m : (ℓ : Loc Cert.DownDxSpecIdeal.nD Cert.DownDxSpecIdeal.τ Cert.DownDxSpecIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwSpecIdeal (m : (ℓ : Loc Cert.DownDwSpecIdeal.nD Cert.DownDwSpecIdeal.τ Cert.DownDwSpecIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxSpecIdeal (m : (ℓ : Loc Cert.UpDxSpecIdeal.nD Cert.UpDxSpecIdeal.τ Cert.UpDxSpecIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwSpecIdeal (m : (ℓ : Loc Cert.UpDwSpecIdeal.nD Cert.UpDwSpecIdeal.τ Cert.UpDwSpecIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxSpecIdeal (m : (ℓ : Loc Cert.OutDxSpecIdeal.nD Cert.OutDxSpecIdeal.τ Cert.OutDxSpecIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwSpecIdeal (m : (ℓ : Loc Cert.OutDwSpecIdeal.nD Cert.OutDwSpecIdeal.τ Cert.OutDwSpecIdeal.sig) → Buf (Elt Ideal) ℓ) : Prop :=
  True

def Pre_BInDx (m : (ℓ : Loc Cert.BInDx.nD Cert.BInDx.τ Cert.BInDx.sig) → Buf (Elt Bits) ℓ) : Prop :=
  True

def Pre_BInDxIdeal (m : (ℓ : Loc Cert.BInDxIdeal.nD Cert.BInDxIdeal.τ Cert.BInDxIdeal.sig) → Buf (Elt Ideal) ℓ) : Prop :=
  True

def Pre_BInDxSpecIdeal (m : (ℓ : Loc Cert.BInDxSpecIdeal.nD Cert.BInDxSpecIdeal.τ Cert.BInDxSpecIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxSpecIdeal (m : (ℓ : Loc Cert.KvDxSpecIdeal.nD Cert.KvDxSpecIdeal.τ Cert.KvDxSpecIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwSpecIdeal (m : (ℓ : Loc Cert.KvDwSpecIdeal.nD Cert.KvDwSpecIdeal.τ Cert.KvDwSpecIdeal.sig) → Buf (Elt Ideal) ℓ) : Prop :=
  True

def Pre_MemKvDx (m : (ℓ : Loc Cert.MemKvDx.nD Cert.MemKvDx.τ Cert.MemKvDx.sig) → Buf (Elt Bits) ℓ) : Prop :=
  True

def Pre_MemKvDxIdeal (m : (ℓ : Loc Cert.MemKvDxIdeal.nD Cert.MemKvDxIdeal.τ Cert.MemKvDxIdeal.sig) → Buf (Elt Ideal) ℓ) : Prop :=
  True

def Pre_MemKvDxSpecIdeal (m : (ℓ : Loc Cert.MemKvDxSpecIdeal.nD Cert.MemKvDxSpecIdeal.τ Cert.MemKvDxSpecIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwSpecIdeal (m : (ℓ : Loc Cert.MemKvDwSpecIdeal.nD Cert.MemKvDwSpecIdeal.τ Cert.MemKvDwSpecIdeal.sig) → Buf (Elt Ideal) ℓ) : Prop :=
  True

def Pre_AInDw (m : (ℓ : Loc Cert.AInDw.nD Cert.AInDw.τ Cert.AInDw.sig) → Buf (Elt Bits) ℓ) : Prop :=
  True

def Pre_AInDwIdeal (m : (ℓ : Loc Cert.AInDwIdeal.nD Cert.AInDwIdeal.τ Cert.AInDwIdeal.sig) → Buf (Elt Ideal) ℓ) : Prop :=
  True

def Pre_AInDwSpecIdeal (m : (ℓ : Loc Cert.AInDwSpecIdeal.nD Cert.AInDwSpecIdeal.τ Cert.AInDwSpecIdeal.sig) → Buf (Elt Ideal) ℓ) : Prop :=
  True

def Pre_AInDx (m : (ℓ : Loc Cert.AInDx.nD Cert.AInDx.τ Cert.AInDx.sig) → Buf (Elt Bits) ℓ) : Prop :=
  True

def Pre_AInDxIdeal (m : (ℓ : Loc Cert.AInDxIdeal.nD Cert.AInDxIdeal.τ Cert.AInDxIdeal.sig) → Buf (Elt Ideal) ℓ) : Prop :=
  True

def Pre_AInDxSpecIdeal (m : (ℓ : Loc Cert.AInDxSpecIdeal.nD Cert.AInDxSpecIdeal.τ Cert.AInDxSpecIdeal.sig) → Buf (Elt Ideal) ℓ) : Prop :=
  True

def Pre_AdamAIn (m : (ℓ : Loc Cert.AdamAIn.nD Cert.AdamAIn.τ Cert.AdamAIn.sig) → Buf (Elt Bits) ℓ) : Prop :=
  True

def Pre_AdamAInIdeal (m : (ℓ : Loc Cert.AdamAInIdeal.nD Cert.AdamAInIdeal.τ Cert.AdamAInIdeal.sig) → Buf (Elt Ideal) ℓ) : Prop :=
  True

def Pre_AdamAInSpecIdeal (m : (ℓ : Loc Cert.AdamAInSpecIdeal.nD Cert.AdamAInSpecIdeal.τ Cert.AdamAInSpecIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutSpecIdeal (m : (ℓ : Loc Cert.AdamOutSpecIdeal.nD Cert.AdamOutSpecIdeal.τ Cert.AdamOutSpecIdeal.sig) → Buf (Elt Ideal) ℓ) : Prop :=
  True

def Pre_AdamMemKv (m : (ℓ : Loc Cert.AdamMemKv.nD Cert.AdamMemKv.τ Cert.AdamMemKv.sig) → Buf (Elt Bits) ℓ) : Prop :=
  True

def Pre_AdamMemKvIdeal (m : (ℓ : Loc Cert.AdamMemKvIdeal.nD Cert.AdamMemKvIdeal.τ Cert.AdamMemKvIdeal.sig) → Buf (Elt Ideal) ℓ) : Prop :=
  True

def Pre_AdamMemKvSpecIdeal (m : (ℓ : Loc Cert.AdamMemKvSpecIdeal.nD Cert.AdamMemKvSpecIdeal.τ Cert.AdamMemKvSpecIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpSpecIdeal (m : (ℓ : Loc Cert.AdamUpSpecIdeal.nD Cert.AdamUpSpecIdeal.τ Cert.AdamUpSpecIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownSpecIdeal (m : (ℓ : Loc Cert.AdamDownSpecIdeal.nD Cert.AdamDownSpecIdeal.τ Cert.AdamDownSpecIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvSpecIdeal (m : (ℓ : Loc Cert.AdamKvSpecIdeal.nD Cert.AdamKvSpecIdeal.τ Cert.AdamKvSpecIdeal.sig) → Buf (Elt Ideal) ℓ) : Prop :=
  True

def Pre_AdamNormShard (m : (ℓ : Loc Cert.AdamNormShard.nD Cert.AdamNormShard.τ Cert.AdamNormShard.sig) → Buf (Elt Bits) ℓ) : Prop :=
  True

def Pre_AdamNormShardIdeal (m : (ℓ : Loc Cert.AdamNormShardIdeal.nD Cert.AdamNormShardIdeal.τ Cert.AdamNormShardIdeal.sig) → Buf (Elt Ideal) ℓ) : Prop :=
  True

def Pre_AdamNormShardSpecIdeal (m : (ℓ : Loc Cert.AdamNormShardSpecIdeal.nD Cert.AdamNormShardSpecIdeal.τ Cert.AdamNormShardSpecIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvSpecIdeal (m : (ℓ : Loc Cert.AdamConvSpecIdeal.nD Cert.AdamConvSpecIdeal.τ Cert.AdamConvSpecIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormSpecIdeal (m : (ℓ : Loc Cert.AdamNormSpecIdeal.nD Cert.AdamNormSpecIdeal.τ Cert.AdamNormSpecIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdSpecIdeal (m : (ℓ : Loc Cert.NormBwdSpecIdeal.nD Cert.NormBwdSpecIdeal.τ Cert.NormBwdSpecIdeal.sig) → Buf (Elt Ideal) ℓ) : Prop :=
  True

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdSpecIdeal (m : (ℓ : Loc Cert.MemNormBwdSpecIdeal.nD Cert.MemNormBwdSpecIdeal.τ Cert.MemNormBwdSpecIdeal.sig) → Buf (Elt Ideal) ℓ) : Prop :=
  True

def Pre_PairNormBwd (m : (ℓ : Loc Cert.PairNormBwd.nD Cert.PairNormBwd.τ Cert.PairNormBwd.sig) → Buf (Elt Bits) ℓ) : Prop :=
  True

def Pre_PairNormBwdIdeal (m : (ℓ : Loc Cert.PairNormBwdIdeal.nD Cert.PairNormBwdIdeal.τ Cert.PairNormBwdIdeal.sig) → Buf (Elt Ideal) ℓ) : Prop :=
  True

def Pre_PairNormBwdSpecIdeal (m : (ℓ : Loc Cert.PairNormBwdSpecIdeal.nD Cert.PairNormBwdSpecIdeal.τ Cert.PairNormBwdSpecIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadSpecIdeal (m : (ℓ : Loc Cert.LossHeadSpecIdeal.nD Cert.LossHeadSpecIdeal.τ Cert.LossHeadSpecIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdSpecIdeal (m : (ℓ : Loc Cert.NormFwdSpecIdeal.nD Cert.NormFwdSpecIdeal.τ Cert.NormFwdSpecIdeal.sig) → Buf (Elt Ideal) ℓ) : Prop :=
  True

def Pre_MemNormFwd (m : (ℓ : Loc Cert.MemNormFwd.nD Cert.MemNormFwd.τ Cert.MemNormFwd.sig) → Buf (Elt Bits) ℓ) : Prop :=
  True

def Pre_MemNormFwdIdeal (m : (ℓ : Loc Cert.MemNormFwdIdeal.nD Cert.MemNormFwdIdeal.τ Cert.MemNormFwdIdeal.sig) → Buf (Elt Ideal) ℓ) : Prop :=
  True

def Pre_MemNormFwdSpecIdeal (m : (ℓ : Loc Cert.MemNormFwdSpecIdeal.nD Cert.MemNormFwdSpecIdeal.τ Cert.MemNormFwdSpecIdeal.sig) → Buf (Elt Ideal) ℓ) : Prop :=
  True

def Pre_PairNormFwd (m : (ℓ : Loc Cert.PairNormFwd.nD Cert.PairNormFwd.τ Cert.PairNormFwd.sig) → Buf (Elt Bits) ℓ) : Prop :=
  True

def Pre_PairNormFwdIdeal (m : (ℓ : Loc Cert.PairNormFwdIdeal.nD Cert.PairNormFwdIdeal.τ Cert.PairNormFwdIdeal.sig) → Buf (Elt Ideal) ℓ) : Prop :=
  True

def Pre_PairNormFwdSpecIdeal (m : (ℓ : Loc Cert.PairNormFwdSpecIdeal.nD Cert.PairNormFwdSpecIdeal.τ Cert.PairNormFwdSpecIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdIdeal_real_scores_b [hPre_real_scores_b : Cert.Pre_real_scores_b.Facts] (m : (ℓ : Loc Cert.MemFwdIdeal.nD Cert.MemFwdIdeal.τ Cert.MemFwdIdeal.sig) → Buf (Elt Ideal) ℓ) : Prop :=
  ∀ c : Dev Cert.MemFwdIdeal.nD,
    (Cert.Pre_real_scores_b.fn (F := Ideal) (m ((c.tc : Thread Cert.MemFwdIdeal.nD Cert.MemFwdIdeal.τ).loc Cert.MemFwdIdeal.main_arg0)) (m ((c.tc : Thread Cert.MemFwdIdeal.nD Cert.MemFwdIdeal.τ).loc Cert.MemFwdIdeal.main_arg1))) = (fun _ => 1#1)

def Pre_MemFwdSpecIdeal (m : (ℓ : Loc Cert.MemFwdSpecIdeal.nD Cert.MemFwdSpecIdeal.τ Cert.MemFwdSpecIdeal.sig) → Buf (Elt Ideal) ℓ) : Prop :=
  True

def Pre_MemFwdSpecIdeal_real_scores_b [hPre_real_scores_b : Cert.Pre_real_scores_b.Facts] (m : (ℓ : Loc Cert.MemFwdSpecIdeal.nD Cert.MemFwdSpecIdeal.τ Cert.MemFwdSpecIdeal.sig) → Buf (Elt Ideal) ℓ) : Prop :=
  ∀ c : Dev Cert.MemFwdSpecIdeal.nD,
    (Cert.Pre_real_scores_b.fn (F := Ideal) (m ((c.tc : Thread Cert.MemFwdSpecIdeal.nD Cert.MemFwdSpecIdeal.τ).loc Cert.MemFwdSpecIdeal.main_arg0)) (m ((c.tc : Thread Cert.MemFwdSpecIdeal.nD Cert.MemFwdSpecIdeal.τ).loc Cert.MemFwdSpecIdeal.main_arg1))) = (fun _ => 1#1)

def Pre_MemFwdA (m : (ℓ : Loc Cert.MemFwdA.nD Cert.MemFwdA.τ Cert.MemFwdA.sig) → Buf (Elt Bits) ℓ) : Prop :=
  True

def Pre_MemFwdAIdeal (m : (ℓ : Loc Cert.MemFwdAIdeal.nD Cert.MemFwdAIdeal.τ Cert.MemFwdAIdeal.sig) → Buf (Elt Ideal) ℓ) : Prop :=
  True

def Pre_MemFwdAIdeal_real_scores_a [hPre_real_scores_a : Cert.Pre_real_scores_a.Facts] (m : (ℓ : Loc Cert.MemFwdAIdeal.nD Cert.MemFwdAIdeal.τ Cert.MemFwdAIdeal.sig) → Buf (Elt Ideal) ℓ) : Prop :=
  ∀ c : Dev Cert.MemFwdAIdeal.nD,
    (Cert.Pre_real_scores_a.fn (F := Ideal) (m ((c.tc : Thread Cert.MemFwdAIdeal.nD Cert.MemFwdAIdeal.τ).loc Cert.MemFwdAIdeal.main_arg0)) (m ((c.tc : Thread Cert.MemFwdAIdeal.nD Cert.MemFwdAIdeal.τ).loc Cert.MemFwdAIdeal.main_arg1))) = (fun _ => 1#1)

def Pre_MemFwdASpecIdeal (m : (ℓ : Loc Cert.MemFwdASpecIdeal.nD Cert.MemFwdASpecIdeal.τ Cert.MemFwdASpecIdeal.sig) → Buf (Elt Ideal) ℓ) : Prop :=
  True

def Pre_MemFwdASpecIdeal_real_scores_a [hPre_real_scores_a : Cert.Pre_real_scores_a.Facts] (m : (ℓ : Loc Cert.MemFwdASpecIdeal.nD Cert.MemFwdASpecIdeal.τ Cert.MemFwdASpecIdeal.sig) → Buf (Elt Ideal) ℓ) : Prop :=
  ∀ c : Dev Cert.MemFwdASpecIdeal.nD,
    (Cert.Pre_real_scores_a.fn (F := Ideal) (m ((c.tc : Thread Cert.MemFwdASpecIdeal.nD Cert.MemFwdASpecIdeal.τ).loc Cert.MemFwdASpecIdeal.main_arg0)) (m ((c.tc : Thread Cert.MemFwdASpecIdeal.nD Cert.MemFwdASpecIdeal.τ).loc Cert.MemFwdASpecIdeal.main_arg1))) = (fun _ => 1#1)

def Pre_MemBwdA (m : (ℓ : Loc Cert.MemBwdA.nD Cert.MemBwdA.τ Cert.MemBwdA.sig) → Buf (Elt Bits) ℓ) : Prop :=
  True

def Pre_MemBwdAIdeal (m : (ℓ : Loc Cert.MemBwdAIdeal.nD Cert.MemBwdAIdeal.τ Cert.MemBwdAIdeal.sig) → Buf (Elt Ideal) ℓ) : Prop :=
  True

def Pre_MemBwdAIdeal_real_scores_a_bwd [hPre_real_scores_a_bwd : Cert.Pre_real_scores_a_bwd.Facts] (m : (ℓ : Loc Cert.MemBwdAIdeal.nD Cert.MemBwdAIdeal.τ Cert.MemBwdAIdeal.sig) → Buf (Elt Ideal) ℓ) : Prop :=
  ∀ c : Dev Cert.MemBwdAIdeal.nD,
    (Cert.Pre_real_scores_a_bwd.fn (F := Ideal) (m ((c.tc : Thread Cert.MemBwdAIdeal.nD Cert.MemBwdAIdeal.τ).loc Cert.MemBwdAIdeal.main_arg0)) (m ((c.tc : Thread Cert.MemBwdAIdeal.nD Cert.MemBwdAIdeal.τ).loc Cert.MemBwdAIdeal.main_arg1)) (m ((c.tc : Thread Cert.MemBwdAIdeal.nD Cert.MemBwdAIdeal.τ).loc Cert.MemBwdAIdeal.main_arg2))) = (fun _ => 1#1)

def Pre_MemBwdASpecIdeal (m : (ℓ : Loc Cert.MemBwdASpecIdeal.nD Cert.MemBwdASpecIdeal.τ Cert.MemBwdASpecIdeal.sig) → Buf (Elt Ideal) ℓ) : Prop :=
  True

def Pre_MemBwdASpecIdeal_real_scores_a_bwd [hPre_real_scores_a_bwd : Cert.Pre_real_scores_a_bwd.Facts] (m : (ℓ : Loc Cert.MemBwdASpecIdeal.nD Cert.MemBwdASpecIdeal.τ Cert.MemBwdASpecIdeal.sig) → Buf (Elt Ideal) ℓ) : Prop :=
  ∀ c : Dev Cert.MemBwdASpecIdeal.nD,
    (Cert.Pre_real_scores_a_bwd.fn (F := Ideal) (m ((c.tc : Thread Cert.MemBwdASpecIdeal.nD Cert.MemBwdASpecIdeal.τ).loc Cert.MemBwdASpecIdeal.main_arg0)) (m ((c.tc : Thread Cert.MemBwdASpecIdeal.nD Cert.MemBwdASpecIdeal.τ).loc Cert.MemBwdASpecIdeal.main_arg1)) (m ((c.tc : Thread Cert.MemBwdASpecIdeal.nD Cert.MemBwdASpecIdeal.τ).loc Cert.MemBwdASpecIdeal.main_arg2))) = (fun _ => 1#1)

def Pre_CombineFwd (m : (ℓ : Loc Cert.CombineFwd.nD Cert.CombineFwd.τ Cert.CombineFwd.sig) → Buf (Elt Bits) ℓ) : Prop :=
  True

def Pre_CombineFwdIdeal (m : (ℓ : Loc Cert.CombineFwdIdeal.nD Cert.CombineFwdIdeal.τ Cert.CombineFwdIdeal.sig) → Buf (Elt Ideal) ℓ) : Prop :=
  True

def Pre_CombineFwdIdeal_real_lses [hPre_real_lses : Cert.Pre_real_lses.Facts] (m : (ℓ : Loc Cert.CombineFwdIdeal.nD Cert.CombineFwdIdeal.τ Cert.CombineFwdIdeal.sig) → Buf (Elt Ideal) ℓ) : Prop :=
  ∀ c : Dev Cert.CombineFwdIdeal.nD,
    (Cert.Pre_real_lses.fn (F := Ideal) (m ((c.tc : Thread Cert.CombineFwdIdeal.nD Cert.CombineFwdIdeal.τ).loc Cert.CombineFwdIdeal.main_arg0)) (m ((c.tc : Thread Cert.CombineFwdIdeal.nD Cert.CombineFwdIdeal.τ).loc Cert.CombineFwdIdeal.main_arg1)) (m ((c.tc : Thread Cert.CombineFwdIdeal.nD Cert.CombineFwdIdeal.τ).loc Cert.CombineFwdIdeal.main_arg2)) (m ((c.tc : Thread Cert.CombineFwdIdeal.nD Cert.CombineFwdIdeal.τ).loc Cert.CombineFwdIdeal.main_arg3)) (m ((c.tc : Thread Cert.CombineFwdIdeal.nD Cert.CombineFwdIdeal.τ).loc Cert.CombineFwdIdeal.main_arg4)) (m ((c.tc : Thread Cert.CombineFwdIdeal.nD Cert.CombineFwdIdeal.τ).loc Cert.CombineFwdIdeal.main_arg5))) = (fun _ => 1#1)

def Pre_CombineFwdSpecIdeal (m : (ℓ : Loc Cert.CombineFwdSpecIdeal.nD Cert.CombineFwdSpecIdeal.τ Cert.CombineFwdSpecIdeal.sig) → Buf (Elt Ideal) ℓ) : Prop :=
  True

def Pre_CombineFwdSpecIdeal_real_lses [hPre_real_lses : Cert.Pre_real_lses.Facts] (m : (ℓ : Loc Cert.CombineFwdSpecIdeal.nD Cert.CombineFwdSpecIdeal.τ Cert.CombineFwdSpecIdeal.sig) → Buf (Elt Ideal) ℓ) : Prop :=
  ∀ c : Dev Cert.CombineFwdSpecIdeal.nD,
    (Cert.Pre_real_lses.fn (F := Ideal) (m ((c.tc : Thread Cert.CombineFwdSpecIdeal.nD Cert.CombineFwdSpecIdeal.τ).loc Cert.CombineFwdSpecIdeal.main_arg0)) (m ((c.tc : Thread Cert.CombineFwdSpecIdeal.nD Cert.CombineFwdSpecIdeal.τ).loc Cert.CombineFwdSpecIdeal.main_arg1)) (m ((c.tc : Thread Cert.CombineFwdSpecIdeal.nD Cert.CombineFwdSpecIdeal.τ).loc Cert.CombineFwdSpecIdeal.main_arg2)) (m ((c.tc : Thread Cert.CombineFwdSpecIdeal.nD Cert.CombineFwdSpecIdeal.τ).loc Cert.CombineFwdSpecIdeal.main_arg3)) (m ((c.tc : Thread Cert.CombineFwdSpecIdeal.nD Cert.CombineFwdSpecIdeal.τ).loc Cert.CombineFwdSpecIdeal.main_arg4)) (m ((c.tc : Thread Cert.CombineFwdSpecIdeal.nD Cert.CombineFwdSpecIdeal.τ).loc Cert.CombineFwdSpecIdeal.main_arg5))) = (fun _ => 1#1)

def Pre_CombineBwd (m : (ℓ : Loc Cert.CombineBwd.nD Cert.CombineBwd.τ Cert.CombineBwd.sig) → Buf (Elt Bits) ℓ) : Prop :=
  True

def Pre_CombineBwdIdeal (m : (ℓ : Loc Cert.CombineBwdIdeal.nD Cert.CombineBwdIdeal.τ Cert.CombineBwdIdeal.sig) → Buf (Elt Ideal) ℓ) : Prop :=
  True

def Pre_CombineBwdIdeal_real_groups [hPre_real_groups : Cert.Pre_real_groups.Facts] (m : (ℓ : Loc Cert.CombineBwdIdeal.nD Cert.CombineBwdIdeal.τ Cert.CombineBwdIdeal.sig) → Buf (Elt Ideal) ℓ) : Prop :=
  ∀ c : Dev Cert.CombineBwdIdeal.nD,
    (Cert.Pre_real_groups.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))) = (fun _ => 1#1)

def Pre_CombineBwdSpecIdeal (m : (ℓ : Loc Cert.CombineBwdSpecIdeal.nD Cert.CombineBwdSpecIdeal.τ Cert.CombineBwdSpecIdeal.sig) → Buf (Elt Ideal) ℓ) : Prop :=
  True

def Pre_CombineBwdSpecIdeal_real_groups [hPre_real_groups : Cert.Pre_real_groups.Facts] (m : (ℓ : Loc Cert.CombineBwdSpecIdeal.nD Cert.CombineBwdSpecIdeal.τ Cert.CombineBwdSpecIdeal.sig) → Buf (Elt Ideal) ℓ) : Prop :=
  ∀ c : Dev Cert.CombineBwdSpecIdeal.nD,
    (Cert.Pre_real_groups.fn (F := Ideal) (m ((c.tc : Thread Cert.CombineBwdSpecIdeal.nD Cert.CombineBwdSpecIdeal.τ).loc Cert.CombineBwdSpecIdeal.main_arg0)) (m ((c.tc : Thread Cert.CombineBwdSpecIdeal.nD Cert.CombineBwdSpecIdeal.τ).loc Cert.CombineBwdSpecIdeal.main_arg1)) (m ((c.tc : Thread Cert.CombineBwdSpecIdeal.nD Cert.CombineBwdSpecIdeal.τ).loc Cert.CombineBwdSpecIdeal.main_arg2)) (m ((c.tc : Thread Cert.CombineBwdSpecIdeal.nD Cert.CombineBwdSpecIdeal.τ).loc Cert.CombineBwdSpecIdeal.main_arg3)) (m ((c.tc : Thread Cert.CombineBwdSpecIdeal.nD Cert.CombineBwdSpecIdeal.τ).loc Cert.CombineBwdSpecIdeal.main_arg4)) (m ((c.tc : Thread Cert.CombineBwdSpecIdeal.nD Cert.CombineBwdSpecIdeal.τ).loc Cert.CombineBwdSpecIdeal.main_arg5)) (m ((c.tc : Thread Cert.CombineBwdSpecIdeal.nD Cert.CombineBwdSpecIdeal.τ).loc Cert.CombineBwdSpecIdeal.main_arg6))) = (fun _ => 1#1)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemBwdIdeal_pre_real_scores [hMemBwdIdeal : Cert.MemBwdIdeal.Facts] [hPre_real_scores : Cert.Pre_real_scores.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_real_scores m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemSpecIdeal [hMemSpecIdeal : Cert.MemSpecIdeal.Facts] : Prop :=
  ∀ (m : (ℓ : Loc Cert.MemSpecIdeal.nD Cert.MemSpecIdeal.τ Cert.MemSpecIdeal.sig) → Buf (Elt Ideal) ℓ) (g : Dev Cert.MemSpecIdeal.nD → PrngReg), Pre_MemSpecIdeal m →
    θ_run (Cert.MemSpecIdeal.defs (F := Ideal)) (onTc (τ := Cert.MemSpecIdeal.τ) (Cert.MemSpecIdeal.main (F := Ideal))) ⟨m, fun _ => 0, g⟩ (fun r => (∀ c : Dev Cert.MemSpecIdeal.nD,
      r.2.mem ((c.tc : Thread Cert.MemSpecIdeal.nD Cert.MemSpecIdeal.τ).loc Cert.MemSpecIdeal.main_arg0) = m ((c.tc : Thread Cert.MemSpecIdeal.nD Cert.MemSpecIdeal.τ).loc Cert.MemSpecIdeal.main_arg0)
      ∧ r.2.mem ((c.tc : Thread Cert.MemSpecIdeal.nD Cert.MemSpecIdeal.τ).loc Cert.MemSpecIdeal.main_arg1) = m ((c.tc : Thread Cert.MemSpecIdeal.nD Cert.MemSpecIdeal.τ).loc Cert.MemSpecIdeal.main_arg1)
      ∧ r.2.mem ((c.tc : Thread Cert.MemSpecIdeal.nD Cert.MemSpecIdeal.τ).loc Cert.MemSpecIdeal.main_arg2) = m ((c.tc : Thread Cert.MemSpecIdeal.nD Cert.MemSpecIdeal.τ).loc Cert.MemSpecIdeal.main_arg2))
      ∧ r.2.sem = fun _ => 0)

def quiescent_MemSpecIdeal_pre_real_scores [hMemSpecIdeal : Cert.MemSpecIdeal.Facts] [hPre_real_scores : Cert.Pre_real_scores.Facts] : Prop :=
  ∀ (m : (ℓ : Loc Cert.MemSpecIdeal.nD Cert.MemSpecIdeal.τ Cert.MemSpecIdeal.sig) → Buf (Elt Ideal) ℓ) (g : Dev Cert.MemSpecIdeal.nD → PrngReg), Pre_MemSpecIdeal_real_scores m →
    θ_run (Cert.MemSpecIdeal.defs (F := Ideal)) (onTc (τ := Cert.MemSpecIdeal.τ) (Cert.MemSpecIdeal.main (F := Ideal))) ⟨m, fun _ => 0, g⟩ (fun r => (∀ c : Dev Cert.MemSpecIdeal.nD,
      r.2.mem ((c.tc : Thread Cert.MemSpecIdeal.nD Cert.MemSpecIdeal.τ).loc Cert.MemSpecIdeal.main_arg0) = m ((c.tc : Thread Cert.MemSpecIdeal.nD Cert.MemSpecIdeal.τ).loc Cert.MemSpecIdeal.main_arg0)
      ∧ r.2.mem ((c.tc : Thread Cert.MemSpecIdeal.nD Cert.MemSpecIdeal.τ).loc Cert.MemSpecIdeal.main_arg1) = m ((c.tc : Thread Cert.MemSpecIdeal.nD Cert.MemSpecIdeal.τ).loc Cert.MemSpecIdeal.main_arg1)
      ∧ r.2.mem ((c.tc : Thread Cert.MemSpecIdeal.nD Cert.MemSpecIdeal.τ).loc Cert.MemSpecIdeal.main_arg2) = m ((c.tc : Thread Cert.MemSpecIdeal.nD Cert.MemSpecIdeal.τ).loc Cert.MemSpecIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpSpecIdeal [hFfnUpSpecIdeal : Cert.FfnUpSpecIdeal.Facts] : Prop :=
  ∀ (m : (ℓ : Loc Cert.FfnUpSpecIdeal.nD Cert.FfnUpSpecIdeal.τ Cert.FfnUpSpecIdeal.sig) → Buf (Elt Ideal) ℓ) (g : Dev Cert.FfnUpSpecIdeal.nD → PrngReg), Pre_FfnUpSpecIdeal m →
    θ_run (Cert.FfnUpSpecIdeal.defs (F := Ideal)) (onTc (τ := Cert.FfnUpSpecIdeal.τ) (Cert.FfnUpSpecIdeal.main (F := Ideal))) ⟨m, fun _ => 0, g⟩ (fun r => (∀ c : Dev Cert.FfnUpSpecIdeal.nD,
      r.2.mem ((c.tc : Thread Cert.FfnUpSpecIdeal.nD Cert.FfnUpSpecIdeal.τ).loc Cert.FfnUpSpecIdeal.main_arg0) = m ((c.tc : Thread Cert.FfnUpSpecIdeal.nD Cert.FfnUpSpecIdeal.τ).loc Cert.FfnUpSpecIdeal.main_arg0)
      ∧ r.2.mem ((c.tc : Thread Cert.FfnUpSpecIdeal.nD Cert.FfnUpSpecIdeal.τ).loc Cert.FfnUpSpecIdeal.main_arg1) = m ((c.tc : Thread Cert.FfnUpSpecIdeal.nD Cert.FfnUpSpecIdeal.τ).loc Cert.FfnUpSpecIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdSpecIdeal [hDownFwdSpecIdeal : Cert.DownFwdSpecIdeal.Facts] : Prop :=
  ∀ (m : (ℓ : Loc Cert.DownFwdSpecIdeal.nD Cert.DownFwdSpecIdeal.τ Cert.DownFwdSpecIdeal.sig) → Buf (Elt Ideal) ℓ) (g : Dev Cert.DownFwdSpecIdeal.nD → PrngReg), Pre_DownFwdSpecIdeal m →
    θ_run (Cert.DownFwdSpecIdeal.defs (F := Ideal)) (onTc (τ := Cert.DownFwdSpecIdeal.τ) (Cert.DownFwdSpecIdeal.main (F := Ideal))) ⟨m, fun _ => 0, g⟩ (fun r => (∀ c : Dev Cert.DownFwdSpecIdeal.nD,
      r.2.mem ((c.tc : Thread Cert.DownFwdSpecIdeal.nD Cert.DownFwdSpecIdeal.τ).loc Cert.DownFwdSpecIdeal.main_arg0) = m ((c.tc : Thread Cert.DownFwdSpecIdeal.nD Cert.DownFwdSpecIdeal.τ).loc Cert.DownFwdSpecIdeal.main_arg0)
      ∧ r.2.mem ((c.tc : Thread Cert.DownFwdSpecIdeal.nD Cert.DownFwdSpecIdeal.τ).loc Cert.DownFwdSpecIdeal.main_arg1) = m ((c.tc : Thread Cert.DownFwdSpecIdeal.nD Cert.DownFwdSpecIdeal.τ).loc Cert.DownFwdSpecIdeal.main_arg1)
      ∧ r.2.mem ((c.tc : Thread Cert.DownFwdSpecIdeal.nD Cert.DownFwdSpecIdeal.τ).loc Cert.DownFwdSpecIdeal.main_arg2) = m ((c.tc : Thread Cert.DownFwdSpecIdeal.nD Cert.DownFwdSpecIdeal.τ).loc Cert.DownFwdSpecIdeal.main_arg2))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInSpecIdeal [hAInSpecIdeal : Cert.AInSpecIdeal.Facts] : Prop :=
  ∀ (m : (ℓ : Loc Cert.AInSpecIdeal.nD Cert.AInSpecIdeal.τ Cert.AInSpecIdeal.sig) → Buf (Elt Ideal) ℓ) (g : Dev Cert.AInSpecIdeal.nD → PrngReg), Pre_AInSpecIdeal m →
    θ_run (Cert.AInSpecIdeal.defs (F := Ideal)) (onTc (τ := Cert.AInSpecIdeal.τ) (Cert.AInSpecIdeal.main (F := Ideal))) ⟨m, fun _ => 0, g⟩ (fun r => (∀ c : Dev Cert.AInSpecIdeal.nD,
      r.2.mem ((c.tc : Thread Cert.AInSpecIdeal.nD Cert.AInSpecIdeal.τ).loc Cert.AInSpecIdeal.main_arg0) = m ((c.tc : Thread Cert.AInSpecIdeal.nD Cert.AInSpecIdeal.τ).loc Cert.AInSpecIdeal.main_arg0)
      ∧ r.2.mem ((c.tc : Thread Cert.AInSpecIdeal.nD Cert.AInSpecIdeal.τ).loc Cert.AInSpecIdeal.main_arg1) = m ((c.tc : Thread Cert.AInSpecIdeal.nD Cert.AInSpecIdeal.τ).loc Cert.AInSpecIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvSpecIdeal [hMemKvSpecIdeal : Cert.MemKvSpecIdeal.Facts] : Prop :=
  ∀ (m : (ℓ : Loc Cert.MemKvSpecIdeal.nD Cert.MemKvSpecIdeal.τ Cert.MemKvSpecIdeal.sig) → Buf (Elt Ideal) ℓ) (g : Dev Cert.MemKvSpecIdeal.nD → PrngReg), Pre_MemKvSpecIdeal m →
    θ_run (Cert.MemKvSpecIdeal.defs (F := Ideal)) (onTc (τ := Cert.MemKvSpecIdeal.τ) (Cert.MemKvSpecIdeal.main (F := Ideal))) ⟨m, fun _ => 0, g⟩ (fun r => (∀ c : Dev Cert.MemKvSpecIdeal.nD,
      r.2.mem ((c.tc : Thread Cert.MemKvSpecIdeal.nD Cert.MemKvSpecIdeal.τ).loc Cert.MemKvSpecIdeal.main_arg0) = m ((c.tc : Thread Cert.MemKvSpecIdeal.nD Cert.MemKvSpecIdeal.τ).loc Cert.MemKvSpecIdeal.main_arg0)
      ∧ r.2.mem ((c.tc : Thread Cert.MemKvSpecIdeal.nD Cert.MemKvSpecIdeal.τ).loc Cert.MemKvSpecIdeal.main_arg1) = m ((c.tc : Thread Cert.MemKvSpecIdeal.nD Cert.MemKvSpecIdeal.τ).loc Cert.MemKvSpecIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdSpecIdeal [hOutFwdSpecIdeal : Cert.OutFwdSpecIdeal.Facts] : Prop :=
  ∀ (m : (ℓ : Loc Cert.OutFwdSpecIdeal.nD Cert.OutFwdSpecIdeal.τ Cert.OutFwdSpecIdeal.sig) → Buf (Elt Ideal) ℓ) (g : Dev Cert.OutFwdSpecIdeal.nD → PrngReg), Pre_OutFwdSpecIdeal m →
    θ_run (Cert.OutFwdSpecIdeal.defs (F := Ideal)) (onTc (τ := Cert.OutFwdSpecIdeal.τ) (Cert.OutFwdSpecIdeal.main (F := Ideal))) ⟨m, fun _ => 0, g⟩ (fun r => (∀ c : Dev Cert.OutFwdSpecIdeal.nD,
      r.2.mem ((c.tc : Thread Cert.OutFwdSpecIdeal.nD Cert.OutFwdSpecIdeal.τ).loc Cert.OutFwdSpecIdeal.main_arg0) = m ((c.tc : Thread Cert.OutFwdSpecIdeal.nD Cert.OutFwdSpecIdeal.τ).loc Cert.OutFwdSpecIdeal.main_arg0)
      ∧ r.2.mem ((c.tc : Thread Cert.OutFwdSpecIdeal.nD Cert.OutFwdSpecIdeal.τ).loc Cert.OutFwdSpecIdeal.main_arg1) = m ((c.tc : Thread Cert.OutFwdSpecIdeal.nD Cert.OutFwdSpecIdeal.τ).loc Cert.OutFwdSpecIdeal.main_arg1)
      ∧ r.2.mem ((c.tc : Thread Cert.OutFwdSpecIdeal.nD Cert.OutFwdSpecIdeal.τ).loc Cert.OutFwdSpecIdeal.main_arg2) = m ((c.tc : Thread Cert.OutFwdSpecIdeal.nD Cert.OutFwdSpecIdeal.τ).loc Cert.OutFwdSpecIdeal.main_arg2))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1))
      ∧ r.2.sem = fun _ => 0)

def quiescent_KvFwdSpecIdeal [hKvFwdSpecIdeal : Cert.KvFwdSpecIdeal.Facts] : Prop :=
  ∀ (m : (ℓ : Loc Cert.KvFwdSpecIdeal.nD Cert.KvFwdSpecIdeal.τ Cert.KvFwdSpecIdeal.sig) → Buf (Elt Ideal) ℓ) (g : Dev Cert.KvFwdSpecIdeal.nD → PrngReg), Pre_KvFwdSpecIdeal m →
    θ_run (Cert.KvFwdSpecIdeal.defs (F := Ideal)) (onTc (τ := Cert.KvFwdSpecIdeal.τ) (Cert.KvFwdSpecIdeal.main (F := Ideal))) ⟨m, fun _ => 0, g⟩ (fun r => (∀ c : Dev Cert.KvFwdSpecIdeal.nD,
      r.2.mem ((c.tc : Thread Cert.KvFwdSpecIdeal.nD Cert.KvFwdSpecIdeal.τ).loc Cert.KvFwdSpecIdeal.main_arg0) = m ((c.tc : Thread Cert.KvFwdSpecIdeal.nD Cert.KvFwdSpecIdeal.τ).loc Cert.KvFwdSpecIdeal.main_arg0)
      ∧ r.2.mem ((c.tc : Thread Cert.KvFwdSpecIdeal.nD Cert.KvFwdSpecIdeal.τ).loc Cert.KvFwdSpecIdeal.main_arg1) = m ((c.tc : Thread Cert.KvFwdSpecIdeal.nD Cert.KvFwdSpecIdeal.τ).loc Cert.KvFwdSpecIdeal.main_arg1))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ r.2.sem = fun _ => 0)

def quiescent_BInSpecIdeal [hBInSpecIdeal : Cert.BInSpecIdeal.Facts] : Prop :=
  ∀ (m : (ℓ : Loc Cert.BInSpecIdeal.nD Cert.BInSpecIdeal.τ Cert.BInSpecIdeal.sig) → Buf (Elt Ideal) ℓ) (g : Dev Cert.BInSpecIdeal.nD → PrngReg), Pre_BInSpecIdeal m →
    θ_run (Cert.BInSpecIdeal.defs (F := Ideal)) (onTc (τ := Cert.BInSpecIdeal.τ) (Cert.BInSpecIdeal.main (F := Ideal))) ⟨m, fun _ => 0, g⟩ (fun r => (∀ c : Dev Cert.BInSpecIdeal.nD,
      r.2.mem ((c.tc : Thread Cert.BInSpecIdeal.nD Cert.BInSpecIdeal.τ).loc Cert.BInSpecIdeal.main_arg0) = m ((c.tc : Thread Cert.BInSpecIdeal.nD Cert.BInSpecIdeal.τ).loc Cert.BInSpecIdeal.main_arg0)
      ∧ r.2.mem ((c.tc : Thread Cert.BInSpecIdeal.nD Cert.BInSpecIdeal.τ).loc Cert.BInSpecIdeal.main_arg1) = m ((c.tc : Thread Cert.BInSpecIdeal.nD Cert.BInSpecIdeal.τ).loc Cert.BInSpecIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxSpecIdeal [hDownDxSpecIdeal : Cert.DownDxSpecIdeal.Facts] : Prop :=
  ∀ (m : (ℓ : Loc Cert.DownDxSpecIdeal.nD Cert.DownDxSpecIdeal.τ Cert.DownDxSpecIdeal.sig) → Buf (Elt Ideal) ℓ) (g : Dev Cert.DownDxSpecIdeal.nD → PrngReg), Pre_DownDxSpecIdeal m →
    θ_run (Cert.DownDxSpecIdeal.defs (F := Ideal)) (onTc (τ := Cert.DownDxSpecIdeal.τ) (Cert.DownDxSpecIdeal.main (F := Ideal))) ⟨m, fun _ => 0, g⟩ (fun r => (∀ c : Dev Cert.DownDxSpecIdeal.nD,
      r.2.mem ((c.tc : Thread Cert.DownDxSpecIdeal.nD Cert.DownDxSpecIdeal.τ).loc Cert.DownDxSpecIdeal.main_arg0) = m ((c.tc : Thread Cert.DownDxSpecIdeal.nD Cert.DownDxSpecIdeal.τ).loc Cert.DownDxSpecIdeal.main_arg0)
      ∧ r.2.mem ((c.tc : Thread Cert.DownDxSpecIdeal.nD Cert.DownDxSpecIdeal.τ).loc Cert.DownDxSpecIdeal.main_arg1) = m ((c.tc : Thread Cert.DownDxSpecIdeal.nD Cert.DownDxSpecIdeal.τ).loc Cert.DownDxSpecIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwSpecIdeal [hDownDwSpecIdeal : Cert.DownDwSpecIdeal.Facts] : Prop :=
  ∀ (m : (ℓ : Loc Cert.DownDwSpecIdeal.nD Cert.DownDwSpecIdeal.τ Cert.DownDwSpecIdeal.sig) → Buf (Elt Ideal) ℓ) (g : Dev Cert.DownDwSpecIdeal.nD → PrngReg), Pre_DownDwSpecIdeal m →
    θ_run (Cert.DownDwSpecIdeal.defs (F := Ideal)) (onTc (τ := Cert.DownDwSpecIdeal.τ) (Cert.DownDwSpecIdeal.main (F := Ideal))) ⟨m, fun _ => 0, g⟩ (fun r => (∀ c : Dev Cert.DownDwSpecIdeal.nD,
      r.2.mem ((c.tc : Thread Cert.DownDwSpecIdeal.nD Cert.DownDwSpecIdeal.τ).loc Cert.DownDwSpecIdeal.main_arg0) = m ((c.tc : Thread Cert.DownDwSpecIdeal.nD Cert.DownDwSpecIdeal.τ).loc Cert.DownDwSpecIdeal.main_arg0)
      ∧ r.2.mem ((c.tc : Thread Cert.DownDwSpecIdeal.nD Cert.DownDwSpecIdeal.τ).loc Cert.DownDwSpecIdeal.main_arg1) = m ((c.tc : Thread Cert.DownDwSpecIdeal.nD Cert.DownDwSpecIdeal.τ).loc Cert.DownDwSpecIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxSpecIdeal [hUpDxSpecIdeal : Cert.UpDxSpecIdeal.Facts] : Prop :=
  ∀ (m : (ℓ : Loc Cert.UpDxSpecIdeal.nD Cert.UpDxSpecIdeal.τ Cert.UpDxSpecIdeal.sig) → Buf (Elt Ideal) ℓ) (g : Dev Cert.UpDxSpecIdeal.nD → PrngReg), Pre_UpDxSpecIdeal m →
    θ_run (Cert.UpDxSpecIdeal.defs (F := Ideal)) (onTc (τ := Cert.UpDxSpecIdeal.τ) (Cert.UpDxSpecIdeal.main (F := Ideal))) ⟨m, fun _ => 0, g⟩ (fun r => (∀ c : Dev Cert.UpDxSpecIdeal.nD,
      r.2.mem ((c.tc : Thread Cert.UpDxSpecIdeal.nD Cert.UpDxSpecIdeal.τ).loc Cert.UpDxSpecIdeal.main_arg0) = m ((c.tc : Thread Cert.UpDxSpecIdeal.nD Cert.UpDxSpecIdeal.τ).loc Cert.UpDxSpecIdeal.main_arg0)
      ∧ r.2.mem ((c.tc : Thread Cert.UpDxSpecIdeal.nD Cert.UpDxSpecIdeal.τ).loc Cert.UpDxSpecIdeal.main_arg1) = m ((c.tc : Thread Cert.UpDxSpecIdeal.nD Cert.UpDxSpecIdeal.τ).loc Cert.UpDxSpecIdeal.main_arg1)
      ∧ r.2.mem ((c.tc : Thread Cert.UpDxSpecIdeal.nD Cert.UpDxSpecIdeal.τ).loc Cert.UpDxSpecIdeal.main_arg2) = m ((c.tc : Thread Cert.UpDxSpecIdeal.nD Cert.UpDxSpecIdeal.τ).loc Cert.UpDxSpecIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwSpecIdeal [hUpDwSpecIdeal : Cert.UpDwSpecIdeal.Facts] : Prop :=
  ∀ (m : (ℓ : Loc Cert.UpDwSpecIdeal.nD Cert.UpDwSpecIdeal.τ Cert.UpDwSpecIdeal.sig) → Buf (Elt Ideal) ℓ) (g : Dev Cert.UpDwSpecIdeal.nD → PrngReg), Pre_UpDwSpecIdeal m →
    θ_run (Cert.UpDwSpecIdeal.defs (F := Ideal)) (onTc (τ := Cert.UpDwSpecIdeal.τ) (Cert.UpDwSpecIdeal.main (F := Ideal))) ⟨m, fun _ => 0, g⟩ (fun r => (∀ c : Dev Cert.UpDwSpecIdeal.nD,
      r.2.mem ((c.tc : Thread Cert.UpDwSpecIdeal.nD Cert.UpDwSpecIdeal.τ).loc Cert.UpDwSpecIdeal.main_arg0) = m ((c.tc : Thread Cert.UpDwSpecIdeal.nD Cert.UpDwSpecIdeal.τ).loc Cert.UpDwSpecIdeal.main_arg0)
      ∧ r.2.mem ((c.tc : Thread Cert.UpDwSpecIdeal.nD Cert.UpDwSpecIdeal.τ).loc Cert.UpDwSpecIdeal.main_arg1) = m ((c.tc : Thread Cert.UpDwSpecIdeal.nD Cert.UpDwSpecIdeal.τ).loc Cert.UpDwSpecIdeal.main_arg1)
      ∧ r.2.mem ((c.tc : Thread Cert.UpDwSpecIdeal.nD Cert.UpDwSpecIdeal.τ).loc Cert.UpDwSpecIdeal.main_arg2) = m ((c.tc : Thread Cert.UpDwSpecIdeal.nD Cert.UpDwSpecIdeal.τ).loc Cert.UpDwSpecIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxSpecIdeal [hOutDxSpecIdeal : Cert.OutDxSpecIdeal.Facts] : Prop :=
  ∀ (m : (ℓ : Loc Cert.OutDxSpecIdeal.nD Cert.OutDxSpecIdeal.τ Cert.OutDxSpecIdeal.sig) → Buf (Elt Ideal) ℓ) (g : Dev Cert.OutDxSpecIdeal.nD → PrngReg), Pre_OutDxSpecIdeal m →
    θ_run (Cert.OutDxSpecIdeal.defs (F := Ideal)) (onTc (τ := Cert.OutDxSpecIdeal.τ) (Cert.OutDxSpecIdeal.main (F := Ideal))) ⟨m, fun _ => 0, g⟩ (fun r => (∀ c : Dev Cert.OutDxSpecIdeal.nD,
      r.2.mem ((c.tc : Thread Cert.OutDxSpecIdeal.nD Cert.OutDxSpecIdeal.τ).loc Cert.OutDxSpecIdeal.main_arg0) = m ((c.tc : Thread Cert.OutDxSpecIdeal.nD Cert.OutDxSpecIdeal.τ).loc Cert.OutDxSpecIdeal.main_arg0)
      ∧ r.2.mem ((c.tc : Thread Cert.OutDxSpecIdeal.nD Cert.OutDxSpecIdeal.τ).loc Cert.OutDxSpecIdeal.main_arg1) = m ((c.tc : Thread Cert.OutDxSpecIdeal.nD Cert.OutDxSpecIdeal.τ).loc Cert.OutDxSpecIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwSpecIdeal [hOutDwSpecIdeal : Cert.OutDwSpecIdeal.Facts] : Prop :=
  ∀ (m : (ℓ : Loc Cert.OutDwSpecIdeal.nD Cert.OutDwSpecIdeal.τ Cert.OutDwSpecIdeal.sig) → Buf (Elt Ideal) ℓ) (g : Dev Cert.OutDwSpecIdeal.nD → PrngReg), Pre_OutDwSpecIdeal m →
    θ_run (Cert.OutDwSpecIdeal.defs (F := Ideal)) (onTc (τ := Cert.OutDwSpecIdeal.τ) (Cert.OutDwSpecIdeal.main (F := Ideal))) ⟨m, fun _ => 0, g⟩ (fun r => (∀ c : Dev Cert.OutDwSpecIdeal.nD,
      r.2.mem ((c.tc : Thread Cert.OutDwSpecIdeal.nD Cert.OutDwSpecIdeal.τ).loc Cert.OutDwSpecIdeal.main_arg0) = m ((c.tc : Thread Cert.OutDwSpecIdeal.nD Cert.OutDwSpecIdeal.τ).loc Cert.OutDwSpecIdeal.main_arg0)
      ∧ r.2.mem ((c.tc : Thread Cert.OutDwSpecIdeal.nD Cert.OutDwSpecIdeal.τ).loc Cert.OutDwSpecIdeal.main_arg1) = m ((c.tc : Thread Cert.OutDwSpecIdeal.nD Cert.OutDwSpecIdeal.τ).loc Cert.OutDwSpecIdeal.main_arg1))
      ∧ r.2.sem = fun _ => 0)

def quiescent_BInDx [hBInDx : Cert.BInDx.Facts] : Prop :=
  ∀ (m : (ℓ : Loc Cert.BInDx.nD Cert.BInDx.τ Cert.BInDx.sig) → Buf (Elt Bits) ℓ) (g : Dev Cert.BInDx.nD → PrngReg), Pre_BInDx m →
    θ_run (Cert.BInDx.defs (F := Bits)) (onTc (τ := Cert.BInDx.τ) (Cert.BInDx.main (F := Bits))) ⟨m, fun _ => 0, g⟩ (fun r => (∀ c : Dev Cert.BInDx.nD,
      r.2.mem ((c.tc : Thread Cert.BInDx.nD Cert.BInDx.τ).loc Cert.BInDx.main_arg0) = m ((c.tc : Thread Cert.BInDx.nD Cert.BInDx.τ).loc Cert.BInDx.main_arg0)
      ∧ r.2.mem ((c.tc : Thread Cert.BInDx.nD Cert.BInDx.τ).loc Cert.BInDx.main_arg1) = m ((c.tc : Thread Cert.BInDx.nD Cert.BInDx.τ).loc Cert.BInDx.main_arg1))
      ∧ r.2.sem = fun _ => 0)

def quiescent_BInDxIdeal [hBInDxIdeal : Cert.BInDxIdeal.Facts] : Prop :=
  ∀ (m : (ℓ : Loc Cert.BInDxIdeal.nD Cert.BInDxIdeal.τ Cert.BInDxIdeal.sig) → Buf (Elt Ideal) ℓ) (g : Dev Cert.BInDxIdeal.nD → PrngReg), Pre_BInDxIdeal m →
    θ_run (Cert.BInDxIdeal.defs (F := Ideal)) (onTc (τ := Cert.BInDxIdeal.τ) (Cert.BInDxIdeal.main (F := Ideal))) ⟨m, fun _ => 0, g⟩ (fun r => (∀ c : Dev Cert.BInDxIdeal.nD,
      r.2.mem ((c.tc : Thread Cert.BInDxIdeal.nD Cert.BInDxIdeal.τ).loc Cert.BInDxIdeal.main_arg0) = m ((c.tc : Thread Cert.BInDxIdeal.nD Cert.BInDxIdeal.τ).loc Cert.BInDxIdeal.main_arg0)
      ∧ r.2.mem ((c.tc : Thread Cert.BInDxIdeal.nD Cert.BInDxIdeal.τ).loc Cert.BInDxIdeal.main_arg1) = m ((c.tc : Thread Cert.BInDxIdeal.nD Cert.BInDxIdeal.τ).loc Cert.BInDxIdeal.main_arg1))
      ∧ r.2.sem = fun _ => 0)

def quiescent_BInDxSpecIdeal [hBInDxSpecIdeal : Cert.BInDxSpecIdeal.Facts] : Prop :=
  ∀ (m : (ℓ : Loc Cert.BInDxSpecIdeal.nD Cert.BInDxSpecIdeal.τ Cert.BInDxSpecIdeal.sig) → Buf (Elt Ideal) ℓ) (g : Dev Cert.BInDxSpecIdeal.nD → PrngReg), Pre_BInDxSpecIdeal m →
    θ_run (Cert.BInDxSpecIdeal.defs (F := Ideal)) (onTc (τ := Cert.BInDxSpecIdeal.τ) (Cert.BInDxSpecIdeal.main (F := Ideal))) ⟨m, fun _ => 0, g⟩ (fun r => (∀ c : Dev Cert.BInDxSpecIdeal.nD,
      r.2.mem ((c.tc : Thread Cert.BInDxSpecIdeal.nD Cert.BInDxSpecIdeal.τ).loc Cert.BInDxSpecIdeal.main_arg0) = m ((c.tc : Thread Cert.BInDxSpecIdeal.nD Cert.BInDxSpecIdeal.τ).loc Cert.BInDxSpecIdeal.main_arg0)
      ∧ r.2.mem ((c.tc : Thread Cert.BInDxSpecIdeal.nD Cert.BInDxSpecIdeal.τ).loc Cert.BInDxSpecIdeal.main_arg1) = m ((c.tc : Thread Cert.BInDxSpecIdeal.nD Cert.BInDxSpecIdeal.τ).loc Cert.BInDxSpecIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxSpecIdeal [hKvDxSpecIdeal : Cert.KvDxSpecIdeal.Facts] : Prop :=
  ∀ (m : (ℓ : Loc Cert.KvDxSpecIdeal.nD Cert.KvDxSpecIdeal.τ Cert.KvDxSpecIdeal.sig) → Buf (Elt Ideal) ℓ) (g : Dev Cert.KvDxSpecIdeal.nD → PrngReg), Pre_KvDxSpecIdeal m →
    θ_run (Cert.KvDxSpecIdeal.defs (F := Ideal)) (onTc (τ := Cert.KvDxSpecIdeal.τ) (Cert.KvDxSpecIdeal.main (F := Ideal))) ⟨m, fun _ => 0, g⟩ (fun r => (∀ c : Dev Cert.KvDxSpecIdeal.nD,
      r.2.mem ((c.tc : Thread Cert.KvDxSpecIdeal.nD Cert.KvDxSpecIdeal.τ).loc Cert.KvDxSpecIdeal.main_arg0) = m ((c.tc : Thread Cert.KvDxSpecIdeal.nD Cert.KvDxSpecIdeal.τ).loc Cert.KvDxSpecIdeal.main_arg0)
      ∧ r.2.mem ((c.tc : Thread Cert.KvDxSpecIdeal.nD Cert.KvDxSpecIdeal.τ).loc Cert.KvDxSpecIdeal.main_arg1) = m ((c.tc : Thread Cert.KvDxSpecIdeal.nD Cert.KvDxSpecIdeal.τ).loc Cert.KvDxSpecIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwSpecIdeal [hKvDwSpecIdeal : Cert.KvDwSpecIdeal.Facts] : Prop :=
  ∀ (m : (ℓ : Loc Cert.KvDwSpecIdeal.nD Cert.KvDwSpecIdeal.τ Cert.KvDwSpecIdeal.sig) → Buf (Elt Ideal) ℓ) (g : Dev Cert.KvDwSpecIdeal.nD → PrngReg), Pre_KvDwSpecIdeal m →
    θ_run (Cert.KvDwSpecIdeal.defs (F := Ideal)) (onTc (τ := Cert.KvDwSpecIdeal.τ) (Cert.KvDwSpecIdeal.main (F := Ideal))) ⟨m, fun _ => 0, g⟩ (fun r => (∀ c : Dev Cert.KvDwSpecIdeal.nD,
      r.2.mem ((c.tc : Thread Cert.KvDwSpecIdeal.nD Cert.KvDwSpecIdeal.τ).loc Cert.KvDwSpecIdeal.main_arg0) = m ((c.tc : Thread Cert.KvDwSpecIdeal.nD Cert.KvDwSpecIdeal.τ).loc Cert.KvDwSpecIdeal.main_arg0)
      ∧ r.2.mem ((c.tc : Thread Cert.KvDwSpecIdeal.nD Cert.KvDwSpecIdeal.τ).loc Cert.KvDwSpecIdeal.main_arg1) = m ((c.tc : Thread Cert.KvDwSpecIdeal.nD Cert.KvDwSpecIdeal.τ).loc Cert.KvDwSpecIdeal.main_arg1))
      ∧ r.2.sem = fun _ => 0)

def quiescent_MemKvDx [hMemKvDx : Cert.MemKvDx.Facts] : Prop :=
  ∀ (m : (ℓ : Loc Cert.MemKvDx.nD Cert.MemKvDx.τ Cert.MemKvDx.sig) → Buf (Elt Bits) ℓ) (g : Dev Cert.MemKvDx.nD → PrngReg), Pre_MemKvDx m →
    θ_run (Cert.MemKvDx.defs (F := Bits)) (onTc (τ := Cert.MemKvDx.τ) (Cert.MemKvDx.main (F := Bits))) ⟨m, fun _ => 0, g⟩ (fun r => (∀ c : Dev Cert.MemKvDx.nD,
      r.2.mem ((c.tc : Thread Cert.MemKvDx.nD Cert.MemKvDx.τ).loc Cert.MemKvDx.main_arg0) = m ((c.tc : Thread Cert.MemKvDx.nD Cert.MemKvDx.τ).loc Cert.MemKvDx.main_arg0)
      ∧ r.2.mem ((c.tc : Thread Cert.MemKvDx.nD Cert.MemKvDx.τ).loc Cert.MemKvDx.main_arg1) = m ((c.tc : Thread Cert.MemKvDx.nD Cert.MemKvDx.τ).loc Cert.MemKvDx.main_arg1))
      ∧ r.2.sem = fun _ => 0)

def quiescent_MemKvDxIdeal [hMemKvDxIdeal : Cert.MemKvDxIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg), Pre_MemKvDxIdeal m →
    θ_run (Cert.MemKvDxIdeal.defs (F := Ideal)) (onTc (τ := Cert.MemKvDxIdeal.τ) (Cert.MemKvDxIdeal.main (F := Ideal))) ⟨m, fun _ => 0, g⟩ (fun r => (∀ c : Dev Cert.MemKvDxIdeal.nD,
      r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
      ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ r.2.sem = fun _ => 0)

def quiescent_MemKvDxSpecIdeal [hMemKvDxSpecIdeal : Cert.MemKvDxSpecIdeal.Facts] : Prop :=
  ∀ (m : (ℓ : Loc Cert.MemKvDxSpecIdeal.nD Cert.MemKvDxSpecIdeal.τ Cert.MemKvDxSpecIdeal.sig) → Buf (Elt Ideal) ℓ) (g : Dev Cert.MemKvDxSpecIdeal.nD → PrngReg), Pre_MemKvDxSpecIdeal m →
    θ_run (Cert.MemKvDxSpecIdeal.defs (F := Ideal)) (onTc (τ := Cert.MemKvDxSpecIdeal.τ) (Cert.MemKvDxSpecIdeal.main (F := Ideal))) ⟨m, fun _ => 0, g⟩ (fun r => (∀ c : Dev Cert.MemKvDxSpecIdeal.nD,
      r.2.mem ((c.tc : Thread Cert.MemKvDxSpecIdeal.nD Cert.MemKvDxSpecIdeal.τ).loc Cert.MemKvDxSpecIdeal.main_arg0) = m ((c.tc : Thread Cert.MemKvDxSpecIdeal.nD Cert.MemKvDxSpecIdeal.τ).loc Cert.MemKvDxSpecIdeal.main_arg0)
      ∧ r.2.mem ((c.tc : Thread Cert.MemKvDxSpecIdeal.nD Cert.MemKvDxSpecIdeal.τ).loc Cert.MemKvDxSpecIdeal.main_arg1) = m ((c.tc : Thread Cert.MemKvDxSpecIdeal.nD Cert.MemKvDxSpecIdeal.τ).loc Cert.MemKvDxSpecIdeal.main_arg1))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ r.2.sem = fun _ => 0)

def quiescent_MemKvDwSpecIdeal [hMemKvDwSpecIdeal : Cert.MemKvDwSpecIdeal.Facts] : Prop :=
  ∀ (m : (ℓ : Loc Cert.MemKvDwSpecIdeal.nD Cert.MemKvDwSpecIdeal.τ Cert.MemKvDwSpecIdeal.sig) → Buf (Elt Ideal) ℓ) (g : Dev Cert.MemKvDwSpecIdeal.nD → PrngReg), Pre_MemKvDwSpecIdeal m →
    θ_run (Cert.MemKvDwSpecIdeal.defs (F := Ideal)) (onTc (τ := Cert.MemKvDwSpecIdeal.τ) (Cert.MemKvDwSpecIdeal.main (F := Ideal))) ⟨m, fun _ => 0, g⟩ (fun r => (∀ c : Dev Cert.MemKvDwSpecIdeal.nD,
      r.2.mem ((c.tc : Thread Cert.MemKvDwSpecIdeal.nD Cert.MemKvDwSpecIdeal.τ).loc Cert.MemKvDwSpecIdeal.main_arg0) = m ((c.tc : Thread Cert.MemKvDwSpecIdeal.nD Cert.MemKvDwSpecIdeal.τ).loc Cert.MemKvDwSpecIdeal.main_arg0)
      ∧ r.2.mem ((c.tc : Thread Cert.MemKvDwSpecIdeal.nD Cert.MemKvDwSpecIdeal.τ).loc Cert.MemKvDwSpecIdeal.main_arg1) = m ((c.tc : Thread Cert.MemKvDwSpecIdeal.nD Cert.MemKvDwSpecIdeal.τ).loc Cert.MemKvDwSpecIdeal.main_arg1))
      ∧ r.2.sem = fun _ => 0)

def quiescent_AInDw [hAInDw : Cert.AInDw.Facts] : Prop :=
  ∀ (m : (ℓ : Loc Cert.AInDw.nD Cert.AInDw.τ Cert.AInDw.sig) → Buf (Elt Bits) ℓ) (g : Dev Cert.AInDw.nD → PrngReg), Pre_AInDw m →
    θ_run (Cert.AInDw.defs (F := Bits)) (onTc (τ := Cert.AInDw.τ) (Cert.AInDw.main (F := Bits))) ⟨m, fun _ => 0, g⟩ (fun r => (∀ c : Dev Cert.AInDw.nD,
      r.2.mem ((c.tc : Thread Cert.AInDw.nD Cert.AInDw.τ).loc Cert.AInDw.main_arg0) = m ((c.tc : Thread Cert.AInDw.nD Cert.AInDw.τ).loc Cert.AInDw.main_arg0)
      ∧ r.2.mem ((c.tc : Thread Cert.AInDw.nD Cert.AInDw.τ).loc Cert.AInDw.main_arg1) = m ((c.tc : Thread Cert.AInDw.nD Cert.AInDw.τ).loc Cert.AInDw.main_arg1))
      ∧ r.2.sem = fun _ => 0)

def quiescent_AInDwIdeal [hAInDwIdeal : Cert.AInDwIdeal.Facts] : Prop :=
  ∀ (m : (ℓ : Loc Cert.AInDwIdeal.nD Cert.AInDwIdeal.τ Cert.AInDwIdeal.sig) → Buf (Elt Ideal) ℓ) (g : Dev Cert.AInDwIdeal.nD → PrngReg), Pre_AInDwIdeal m →
    θ_run (Cert.AInDwIdeal.defs (F := Ideal)) (onTc (τ := Cert.AInDwIdeal.τ) (Cert.AInDwIdeal.main (F := Ideal))) ⟨m, fun _ => 0, g⟩ (fun r => (∀ c : Dev Cert.AInDwIdeal.nD,
      r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
      ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ r.2.sem = fun _ => 0)

def quiescent_AInDwSpecIdeal [hAInDwSpecIdeal : Cert.AInDwSpecIdeal.Facts] : Prop :=
  ∀ (m : (ℓ : Loc Cert.AInDwSpecIdeal.nD Cert.AInDwSpecIdeal.τ Cert.AInDwSpecIdeal.sig) → Buf (Elt Ideal) ℓ) (g : Dev Cert.AInDwSpecIdeal.nD → PrngReg), Pre_AInDwSpecIdeal m →
    θ_run (Cert.AInDwSpecIdeal.defs (F := Ideal)) (onTc (τ := Cert.AInDwSpecIdeal.τ) (Cert.AInDwSpecIdeal.main (F := Ideal))) ⟨m, fun _ => 0, g⟩ (fun r => (∀ c : Dev Cert.AInDwSpecIdeal.nD,
      r.2.mem ((c.tc : Thread Cert.AInDwSpecIdeal.nD Cert.AInDwSpecIdeal.τ).loc Cert.AInDwSpecIdeal.main_arg0) = m ((c.tc : Thread Cert.AInDwSpecIdeal.nD Cert.AInDwSpecIdeal.τ).loc Cert.AInDwSpecIdeal.main_arg0)
      ∧ r.2.mem ((c.tc : Thread Cert.AInDwSpecIdeal.nD Cert.AInDwSpecIdeal.τ).loc Cert.AInDwSpecIdeal.main_arg1) = m ((c.tc : Thread Cert.AInDwSpecIdeal.nD Cert.AInDwSpecIdeal.τ).loc Cert.AInDwSpecIdeal.main_arg1))
      ∧ r.2.sem = fun _ => 0)

def quiescent_AInDx [hAInDx : Cert.AInDx.Facts] : Prop :=
  ∀ (m : (ℓ : Loc Cert.AInDx.nD Cert.AInDx.τ Cert.AInDx.sig) → Buf (Elt Bits) ℓ) (g : Dev Cert.AInDx.nD → PrngReg), Pre_AInDx m →
    θ_run (Cert.AInDx.defs (F := Bits)) (onTc (τ := Cert.AInDx.τ) (Cert.AInDx.main (F := Bits))) ⟨m, fun _ => 0, g⟩ (fun r => (∀ c : Dev Cert.AInDx.nD,
      r.2.mem ((c.tc : Thread Cert.AInDx.nD Cert.AInDx.τ).loc Cert.AInDx.main_arg0) = m ((c.tc : Thread Cert.AInDx.nD Cert.AInDx.τ).loc Cert.AInDx.main_arg0)
      ∧ r.2.mem ((c.tc : Thread Cert.AInDx.nD Cert.AInDx.τ).loc Cert.AInDx.main_arg1) = m ((c.tc : Thread Cert.AInDx.nD Cert.AInDx.τ).loc Cert.AInDx.main_arg1))
      ∧ r.2.sem = fun _ => 0)

def quiescent_AInDxIdeal [hAInDxIdeal : Cert.AInDxIdeal.Facts] : Prop :=
  ∀ (m : (ℓ : Loc Cert.AInDxIdeal.nD Cert.AInDxIdeal.τ Cert.AInDxIdeal.sig) → Buf (Elt Ideal) ℓ) (g : Dev Cert.AInDxIdeal.nD → PrngReg), Pre_AInDxIdeal m →
    θ_run (Cert.AInDxIdeal.defs (F := Ideal)) (onTc (τ := Cert.AInDxIdeal.τ) (Cert.AInDxIdeal.main (F := Ideal))) ⟨m, fun _ => 0, g⟩ (fun r => (∀ c : Dev Cert.AInDxIdeal.nD,
      r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
      ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ r.2.sem = fun _ => 0)

def quiescent_AInDxSpecIdeal [hAInDxSpecIdeal : Cert.AInDxSpecIdeal.Facts] : Prop :=
  ∀ (m : (ℓ : Loc Cert.AInDxSpecIdeal.nD Cert.AInDxSpecIdeal.τ Cert.AInDxSpecIdeal.sig) → Buf (Elt Ideal) ℓ) (g : Dev Cert.AInDxSpecIdeal.nD → PrngReg), Pre_AInDxSpecIdeal m →
    θ_run (Cert.AInDxSpecIdeal.defs (F := Ideal)) (onTc (τ := Cert.AInDxSpecIdeal.τ) (Cert.AInDxSpecIdeal.main (F := Ideal))) ⟨m, fun _ => 0, g⟩ (fun r => (∀ c : Dev Cert.AInDxSpecIdeal.nD,
      r.2.mem ((c.tc : Thread Cert.AInDxSpecIdeal.nD Cert.AInDxSpecIdeal.τ).loc Cert.AInDxSpecIdeal.main_arg0) = m ((c.tc : Thread Cert.AInDxSpecIdeal.nD Cert.AInDxSpecIdeal.τ).loc Cert.AInDxSpecIdeal.main_arg0)
      ∧ r.2.mem ((c.tc : Thread Cert.AInDxSpecIdeal.nD Cert.AInDxSpecIdeal.τ).loc Cert.AInDxSpecIdeal.main_arg1) = m ((c.tc : Thread Cert.AInDxSpecIdeal.nD Cert.AInDxSpecIdeal.τ).loc Cert.AInDxSpecIdeal.main_arg1))
      ∧ r.2.sem = fun _ => 0)

def quiescent_AdamAIn [hAdamAIn : Cert.AdamAIn.Facts] : Prop :=
  ∀ (m : (ℓ : Loc Cert.AdamAIn.nD Cert.AdamAIn.τ Cert.AdamAIn.sig) → Buf (Elt Bits) ℓ) (g : Dev Cert.AdamAIn.nD → PrngReg), Pre_AdamAIn m →
    θ_run (Cert.AdamAIn.defs (F := Bits)) (onTc (τ := Cert.AdamAIn.τ) (Cert.AdamAIn.main (F := Bits))) ⟨m, fun _ => 0, g⟩ (fun r => (∀ c : Dev Cert.AdamAIn.nD,
      r.2.mem ((c.tc : Thread Cert.AdamAIn.nD Cert.AdamAIn.τ).loc Cert.AdamAIn.main_arg0) = m ((c.tc : Thread Cert.AdamAIn.nD Cert.AdamAIn.τ).loc Cert.AdamAIn.main_arg0)
      ∧ r.2.mem ((c.tc : Thread Cert.AdamAIn.nD Cert.AdamAIn.τ).loc Cert.AdamAIn.main_arg1) = m ((c.tc : Thread Cert.AdamAIn.nD Cert.AdamAIn.τ).loc Cert.AdamAIn.main_arg1)
      ∧ r.2.mem ((c.tc : Thread Cert.AdamAIn.nD Cert.AdamAIn.τ).loc Cert.AdamAIn.main_arg2) = m ((c.tc : Thread Cert.AdamAIn.nD Cert.AdamAIn.τ).loc Cert.AdamAIn.main_arg2)
      ∧ r.2.mem ((c.tc : Thread Cert.AdamAIn.nD Cert.AdamAIn.τ).loc Cert.AdamAIn.main_arg3) = m ((c.tc : Thread Cert.AdamAIn.nD Cert.AdamAIn.τ).loc Cert.AdamAIn.main_arg3)
      ∧ r.2.mem ((c.tc : Thread Cert.AdamAIn.nD Cert.AdamAIn.τ).loc Cert.AdamAIn.main_arg4) = m ((c.tc : Thread Cert.AdamAIn.nD Cert.AdamAIn.τ).loc Cert.AdamAIn.main_arg4))
      ∧ r.2.sem = fun _ => 0)

def quiescent_AdamAInIdeal [hAdamAInIdeal : Cert.AdamAInIdeal.Facts] : Prop :=
  ∀ (m : (ℓ : Loc Cert.AdamAInIdeal.nD Cert.AdamAInIdeal.τ Cert.AdamAInIdeal.sig) → Buf (Elt Ideal) ℓ) (g : Dev Cert.AdamAInIdeal.nD → PrngReg), Pre_AdamAInIdeal m →
    θ_run (Cert.AdamAInIdeal.defs (F := Ideal)) (onTc (τ := Cert.AdamAInIdeal.τ) (Cert.AdamAInIdeal.main (F := Ideal))) ⟨m, fun _ => 0, g⟩ (fun r => (∀ c : Dev Cert.AdamAInIdeal.nD,
      r.2.mem ((c.tc : Thread Cert.AdamAInIdeal.nD Cert.AdamAInIdeal.τ).loc Cert.AdamAInIdeal.main_arg0) = m ((c.tc : Thread Cert.AdamAInIdeal.nD Cert.AdamAInIdeal.τ).loc Cert.AdamAInIdeal.main_arg0)
      ∧ r.2.mem ((c.tc : Thread Cert.AdamAInIdeal.nD Cert.AdamAInIdeal.τ).loc Cert.AdamAInIdeal.main_arg1) = m ((c.tc : Thread Cert.AdamAInIdeal.nD Cert.AdamAInIdeal.τ).loc Cert.AdamAInIdeal.main_arg1)
      ∧ r.2.mem ((c.tc : Thread Cert.AdamAInIdeal.nD Cert.AdamAInIdeal.τ).loc Cert.AdamAInIdeal.main_arg2) = m ((c.tc : Thread Cert.AdamAInIdeal.nD Cert.AdamAInIdeal.τ).loc Cert.AdamAInIdeal.main_arg2)
      ∧ r.2.mem ((c.tc : Thread Cert.AdamAInIdeal.nD Cert.AdamAInIdeal.τ).loc Cert.AdamAInIdeal.main_arg3) = m ((c.tc : Thread Cert.AdamAInIdeal.nD Cert.AdamAInIdeal.τ).loc Cert.AdamAInIdeal.main_arg3)
      ∧ r.2.mem ((c.tc : Thread Cert.AdamAInIdeal.nD Cert.AdamAInIdeal.τ).loc Cert.AdamAInIdeal.main_arg4) = m ((c.tc : Thread Cert.AdamAInIdeal.nD Cert.AdamAInIdeal.τ).loc Cert.AdamAInIdeal.main_arg4))
      ∧ r.2.sem = fun _ => 0)

def quiescent_AdamAInSpecIdeal [hAdamAInSpecIdeal : Cert.AdamAInSpecIdeal.Facts] : Prop :=
  ∀ (m : (ℓ : Loc Cert.AdamAInSpecIdeal.nD Cert.AdamAInSpecIdeal.τ Cert.AdamAInSpecIdeal.sig) → Buf (Elt Ideal) ℓ) (g : Dev Cert.AdamAInSpecIdeal.nD → PrngReg), Pre_AdamAInSpecIdeal m →
    θ_run (Cert.AdamAInSpecIdeal.defs (F := Ideal)) (onTc (τ := Cert.AdamAInSpecIdeal.τ) (Cert.AdamAInSpecIdeal.main (F := Ideal))) ⟨m, fun _ => 0, g⟩ (fun r => (∀ c : Dev Cert.AdamAInSpecIdeal.nD,
      r.2.mem ((c.tc : Thread Cert.AdamAInSpecIdeal.nD Cert.AdamAInSpecIdeal.τ).loc Cert.AdamAInSpecIdeal.main_arg0) = m ((c.tc : Thread Cert.AdamAInSpecIdeal.nD Cert.AdamAInSpecIdeal.τ).loc Cert.AdamAInSpecIdeal.main_arg0)
      ∧ r.2.mem ((c.tc : Thread Cert.AdamAInSpecIdeal.nD Cert.AdamAInSpecIdeal.τ).loc Cert.AdamAInSpecIdeal.main_arg1) = m ((c.tc : Thread Cert.AdamAInSpecIdeal.nD Cert.AdamAInSpecIdeal.τ).loc Cert.AdamAInSpecIdeal.main_arg1)
      ∧ r.2.mem ((c.tc : Thread Cert.AdamAInSpecIdeal.nD Cert.AdamAInSpecIdeal.τ).loc Cert.AdamAInSpecIdeal.main_arg2) = m ((c.tc : Thread Cert.AdamAInSpecIdeal.nD Cert.AdamAInSpecIdeal.τ).loc Cert.AdamAInSpecIdeal.main_arg2)
      ∧ r.2.mem ((c.tc : Thread Cert.AdamAInSpecIdeal.nD Cert.AdamAInSpecIdeal.τ).loc Cert.AdamAInSpecIdeal.main_arg3) = m ((c.tc : Thread Cert.AdamAInSpecIdeal.nD Cert.AdamAInSpecIdeal.τ).loc Cert.AdamAInSpecIdeal.main_arg3)
      ∧ r.2.mem ((c.tc : Thread Cert.AdamAInSpecIdeal.nD Cert.AdamAInSpecIdeal.τ).loc Cert.AdamAInSpecIdeal.main_arg4) = m ((c.tc : Thread Cert.AdamAInSpecIdeal.nD Cert.AdamAInSpecIdeal.τ).loc Cert.AdamAInSpecIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutSpecIdeal [hAdamOutSpecIdeal : Cert.AdamOutSpecIdeal.Facts] : Prop :=
  ∀ (m : (ℓ : Loc Cert.AdamOutSpecIdeal.nD Cert.AdamOutSpecIdeal.τ Cert.AdamOutSpecIdeal.sig) → Buf (Elt Ideal) ℓ) (g : Dev Cert.AdamOutSpecIdeal.nD → PrngReg), Pre_AdamOutSpecIdeal m →
    θ_run (Cert.AdamOutSpecIdeal.defs (F := Ideal)) (onTc (τ := Cert.AdamOutSpecIdeal.τ) (Cert.AdamOutSpecIdeal.main (F := Ideal))) ⟨m, fun _ => 0, g⟩ (fun r => (∀ c : Dev Cert.AdamOutSpecIdeal.nD,
      r.2.mem ((c.tc : Thread Cert.AdamOutSpecIdeal.nD Cert.AdamOutSpecIdeal.τ).loc Cert.AdamOutSpecIdeal.main_arg0) = m ((c.tc : Thread Cert.AdamOutSpecIdeal.nD Cert.AdamOutSpecIdeal.τ).loc Cert.AdamOutSpecIdeal.main_arg0)
      ∧ r.2.mem ((c.tc : Thread Cert.AdamOutSpecIdeal.nD Cert.AdamOutSpecIdeal.τ).loc Cert.AdamOutSpecIdeal.main_arg1) = m ((c.tc : Thread Cert.AdamOutSpecIdeal.nD Cert.AdamOutSpecIdeal.τ).loc Cert.AdamOutSpecIdeal.main_arg1)
      ∧ r.2.mem ((c.tc : Thread Cert.AdamOutSpecIdeal.nD Cert.AdamOutSpecIdeal.τ).loc Cert.AdamOutSpecIdeal.main_arg2) = m ((c.tc : Thread Cert.AdamOutSpecIdeal.nD Cert.AdamOutSpecIdeal.τ).loc Cert.AdamOutSpecIdeal.main_arg2)
      ∧ r.2.mem ((c.tc : Thread Cert.AdamOutSpecIdeal.nD Cert.AdamOutSpecIdeal.τ).loc Cert.AdamOutSpecIdeal.main_arg3) = m ((c.tc : Thread Cert.AdamOutSpecIdeal.nD Cert.AdamOutSpecIdeal.τ).loc Cert.AdamOutSpecIdeal.main_arg3)
      ∧ r.2.mem ((c.tc : Thread Cert.AdamOutSpecIdeal.nD Cert.AdamOutSpecIdeal.τ).loc Cert.AdamOutSpecIdeal.main_arg4) = m ((c.tc : Thread Cert.AdamOutSpecIdeal.nD Cert.AdamOutSpecIdeal.τ).loc Cert.AdamOutSpecIdeal.main_arg4))
      ∧ r.2.sem = fun _ => 0)

def quiescent_AdamMemKv [hAdamMemKv : Cert.AdamMemKv.Facts] : Prop :=
  ∀ (m : (ℓ : Loc Cert.AdamMemKv.nD Cert.AdamMemKv.τ Cert.AdamMemKv.sig) → Buf (Elt Bits) ℓ) (g : Dev Cert.AdamMemKv.nD → PrngReg), Pre_AdamMemKv m →
    θ_run (Cert.AdamMemKv.defs (F := Bits)) (onTc (τ := Cert.AdamMemKv.τ) (Cert.AdamMemKv.main (F := Bits))) ⟨m, fun _ => 0, g⟩ (fun r => (∀ c : Dev Cert.AdamMemKv.nD,
      r.2.mem ((c.tc : Thread Cert.AdamMemKv.nD Cert.AdamMemKv.τ).loc Cert.AdamMemKv.main_arg0) = m ((c.tc : Thread Cert.AdamMemKv.nD Cert.AdamMemKv.τ).loc Cert.AdamMemKv.main_arg0)
      ∧ r.2.mem ((c.tc : Thread Cert.AdamMemKv.nD Cert.AdamMemKv.τ).loc Cert.AdamMemKv.main_arg1) = m ((c.tc : Thread Cert.AdamMemKv.nD Cert.AdamMemKv.τ).loc Cert.AdamMemKv.main_arg1)
      ∧ r.2.mem ((c.tc : Thread Cert.AdamMemKv.nD Cert.AdamMemKv.τ).loc Cert.AdamMemKv.main_arg2) = m ((c.tc : Thread Cert.AdamMemKv.nD Cert.AdamMemKv.τ).loc Cert.AdamMemKv.main_arg2)
      ∧ r.2.mem ((c.tc : Thread Cert.AdamMemKv.nD Cert.AdamMemKv.τ).loc Cert.AdamMemKv.main_arg3) = m ((c.tc : Thread Cert.AdamMemKv.nD Cert.AdamMemKv.τ).loc Cert.AdamMemKv.main_arg3)
      ∧ r.2.mem ((c.tc : Thread Cert.AdamMemKv.nD Cert.AdamMemKv.τ).loc Cert.AdamMemKv.main_arg4) = m ((c.tc : Thread Cert.AdamMemKv.nD Cert.AdamMemKv.τ).loc Cert.AdamMemKv.main_arg4))
      ∧ r.2.sem = fun _ => 0)

def quiescent_AdamMemKvIdeal [hAdamMemKvIdeal : Cert.AdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg), Pre_AdamMemKvIdeal m →
    θ_run (Cert.AdamMemKvIdeal.defs (F := Ideal)) (onTc (τ := Cert.AdamMemKvIdeal.τ) (Cert.AdamMemKvIdeal.main (F := Ideal))) ⟨m, fun _ => 0, g⟩ (fun r => (∀ c : Dev Cert.AdamMemKvIdeal.nD,
      r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
      ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
      ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
      ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
      ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4))
      ∧ r.2.sem = fun _ => 0)

def quiescent_AdamMemKvSpecIdeal [hAdamMemKvSpecIdeal : Cert.AdamMemKvSpecIdeal.Facts] : Prop :=
  ∀ (m : (ℓ : Loc Cert.AdamMemKvSpecIdeal.nD Cert.AdamMemKvSpecIdeal.τ Cert.AdamMemKvSpecIdeal.sig) → Buf (Elt Ideal) ℓ) (g : Dev Cert.AdamMemKvSpecIdeal.nD → PrngReg), Pre_AdamMemKvSpecIdeal m →
    θ_run (Cert.AdamMemKvSpecIdeal.defs (F := Ideal)) (onTc (τ := Cert.AdamMemKvSpecIdeal.τ) (Cert.AdamMemKvSpecIdeal.main (F := Ideal))) ⟨m, fun _ => 0, g⟩ (fun r => (∀ c : Dev Cert.AdamMemKvSpecIdeal.nD,
      r.2.mem ((c.tc : Thread Cert.AdamMemKvSpecIdeal.nD Cert.AdamMemKvSpecIdeal.τ).loc Cert.AdamMemKvSpecIdeal.main_arg0) = m ((c.tc : Thread Cert.AdamMemKvSpecIdeal.nD Cert.AdamMemKvSpecIdeal.τ).loc Cert.AdamMemKvSpecIdeal.main_arg0)
      ∧ r.2.mem ((c.tc : Thread Cert.AdamMemKvSpecIdeal.nD Cert.AdamMemKvSpecIdeal.τ).loc Cert.AdamMemKvSpecIdeal.main_arg1) = m ((c.tc : Thread Cert.AdamMemKvSpecIdeal.nD Cert.AdamMemKvSpecIdeal.τ).loc Cert.AdamMemKvSpecIdeal.main_arg1)
      ∧ r.2.mem ((c.tc : Thread Cert.AdamMemKvSpecIdeal.nD Cert.AdamMemKvSpecIdeal.τ).loc Cert.AdamMemKvSpecIdeal.main_arg2) = m ((c.tc : Thread Cert.AdamMemKvSpecIdeal.nD Cert.AdamMemKvSpecIdeal.τ).loc Cert.AdamMemKvSpecIdeal.main_arg2)
      ∧ r.2.mem ((c.tc : Thread Cert.AdamMemKvSpecIdeal.nD Cert.AdamMemKvSpecIdeal.τ).loc Cert.AdamMemKvSpecIdeal.main_arg3) = m ((c.tc : Thread Cert.AdamMemKvSpecIdeal.nD Cert.AdamMemKvSpecIdeal.τ).loc Cert.AdamMemKvSpecIdeal.main_arg3)
      ∧ r.2.mem ((c.tc : Thread Cert.AdamMemKvSpecIdeal.nD Cert.AdamMemKvSpecIdeal.τ).loc Cert.AdamMemKvSpecIdeal.main_arg4) = m ((c.tc : Thread Cert.AdamMemKvSpecIdeal.nD Cert.AdamMemKvSpecIdeal.τ).loc Cert.AdamMemKvSpecIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpSpecIdeal [hAdamUpSpecIdeal : Cert.AdamUpSpecIdeal.Facts] : Prop :=
  ∀ (m : (ℓ : Loc Cert.AdamUpSpecIdeal.nD Cert.AdamUpSpecIdeal.τ Cert.AdamUpSpecIdeal.sig) → Buf (Elt Ideal) ℓ) (g : Dev Cert.AdamUpSpecIdeal.nD → PrngReg), Pre_AdamUpSpecIdeal m →
    θ_run (Cert.AdamUpSpecIdeal.defs (F := Ideal)) (onTc (τ := Cert.AdamUpSpecIdeal.τ) (Cert.AdamUpSpecIdeal.main (F := Ideal))) ⟨m, fun _ => 0, g⟩ (fun r => (∀ c : Dev Cert.AdamUpSpecIdeal.nD,
      r.2.mem ((c.tc : Thread Cert.AdamUpSpecIdeal.nD Cert.AdamUpSpecIdeal.τ).loc Cert.AdamUpSpecIdeal.main_arg0) = m ((c.tc : Thread Cert.AdamUpSpecIdeal.nD Cert.AdamUpSpecIdeal.τ).loc Cert.AdamUpSpecIdeal.main_arg0)
      ∧ r.2.mem ((c.tc : Thread Cert.AdamUpSpecIdeal.nD Cert.AdamUpSpecIdeal.τ).loc Cert.AdamUpSpecIdeal.main_arg1) = m ((c.tc : Thread Cert.AdamUpSpecIdeal.nD Cert.AdamUpSpecIdeal.τ).loc Cert.AdamUpSpecIdeal.main_arg1)
      ∧ r.2.mem ((c.tc : Thread Cert.AdamUpSpecIdeal.nD Cert.AdamUpSpecIdeal.τ).loc Cert.AdamUpSpecIdeal.main_arg2) = m ((c.tc : Thread Cert.AdamUpSpecIdeal.nD Cert.AdamUpSpecIdeal.τ).loc Cert.AdamUpSpecIdeal.main_arg2)
      ∧ r.2.mem ((c.tc : Thread Cert.AdamUpSpecIdeal.nD Cert.AdamUpSpecIdeal.τ).loc Cert.AdamUpSpecIdeal.main_arg3) = m ((c.tc : Thread Cert.AdamUpSpecIdeal.nD Cert.AdamUpSpecIdeal.τ).loc Cert.AdamUpSpecIdeal.main_arg3)
      ∧ r.2.mem ((c.tc : Thread Cert.AdamUpSpecIdeal.nD Cert.AdamUpSpecIdeal.τ).loc Cert.AdamUpSpecIdeal.main_arg4) = m ((c.tc : Thread Cert.AdamUpSpecIdeal.nD Cert.AdamUpSpecIdeal.τ).loc Cert.AdamUpSpecIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownSpecIdeal [hAdamDownSpecIdeal : Cert.AdamDownSpecIdeal.Facts] : Prop :=
  ∀ (m : (ℓ : Loc Cert.AdamDownSpecIdeal.nD Cert.AdamDownSpecIdeal.τ Cert.AdamDownSpecIdeal.sig) → Buf (Elt Ideal) ℓ) (g : Dev Cert.AdamDownSpecIdeal.nD → PrngReg), Pre_AdamDownSpecIdeal m →
    θ_run (Cert.AdamDownSpecIdeal.defs (F := Ideal)) (onTc (τ := Cert.AdamDownSpecIdeal.τ) (Cert.AdamDownSpecIdeal.main (F := Ideal))) ⟨m, fun _ => 0, g⟩ (fun r => (∀ c : Dev Cert.AdamDownSpecIdeal.nD,
      r.2.mem ((c.tc : Thread Cert.AdamDownSpecIdeal.nD Cert.AdamDownSpecIdeal.τ).loc Cert.AdamDownSpecIdeal.main_arg0) = m ((c.tc : Thread Cert.AdamDownSpecIdeal.nD Cert.AdamDownSpecIdeal.τ).loc Cert.AdamDownSpecIdeal.main_arg0)
      ∧ r.2.mem ((c.tc : Thread Cert.AdamDownSpecIdeal.nD Cert.AdamDownSpecIdeal.τ).loc Cert.AdamDownSpecIdeal.main_arg1) = m ((c.tc : Thread Cert.AdamDownSpecIdeal.nD Cert.AdamDownSpecIdeal.τ).loc Cert.AdamDownSpecIdeal.main_arg1)
      ∧ r.2.mem ((c.tc : Thread Cert.AdamDownSpecIdeal.nD Cert.AdamDownSpecIdeal.τ).loc Cert.AdamDownSpecIdeal.main_arg2) = m ((c.tc : Thread Cert.AdamDownSpecIdeal.nD Cert.AdamDownSpecIdeal.τ).loc Cert.AdamDownSpecIdeal.main_arg2)
      ∧ r.2.mem ((c.tc : Thread Cert.AdamDownSpecIdeal.nD Cert.AdamDownSpecIdeal.τ).loc Cert.AdamDownSpecIdeal.main_arg3) = m ((c.tc : Thread Cert.AdamDownSpecIdeal.nD Cert.AdamDownSpecIdeal.τ).loc Cert.AdamDownSpecIdeal.main_arg3)
      ∧ r.2.mem ((c.tc : Thread Cert.AdamDownSpecIdeal.nD Cert.AdamDownSpecIdeal.τ).loc Cert.AdamDownSpecIdeal.main_arg4) = m ((c.tc : Thread Cert.AdamDownSpecIdeal.nD Cert.AdamDownSpecIdeal.τ).loc Cert.AdamDownSpecIdeal.main_arg4))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ r.2.sem = fun _ => 0)

def quiescent_AdamKvSpecIdeal [hAdamKvSpecIdeal : Cert.AdamKvSpecIdeal.Facts] : Prop :=
  ∀ (m : (ℓ : Loc Cert.AdamKvSpecIdeal.nD Cert.AdamKvSpecIdeal.τ Cert.AdamKvSpecIdeal.sig) → Buf (Elt Ideal) ℓ) (g : Dev Cert.AdamKvSpecIdeal.nD → PrngReg), Pre_AdamKvSpecIdeal m →
    θ_run (Cert.AdamKvSpecIdeal.defs (F := Ideal)) (onTc (τ := Cert.AdamKvSpecIdeal.τ) (Cert.AdamKvSpecIdeal.main (F := Ideal))) ⟨m, fun _ => 0, g⟩ (fun r => (∀ c : Dev Cert.AdamKvSpecIdeal.nD,
      r.2.mem ((c.tc : Thread Cert.AdamKvSpecIdeal.nD Cert.AdamKvSpecIdeal.τ).loc Cert.AdamKvSpecIdeal.main_arg0) = m ((c.tc : Thread Cert.AdamKvSpecIdeal.nD Cert.AdamKvSpecIdeal.τ).loc Cert.AdamKvSpecIdeal.main_arg0)
      ∧ r.2.mem ((c.tc : Thread Cert.AdamKvSpecIdeal.nD Cert.AdamKvSpecIdeal.τ).loc Cert.AdamKvSpecIdeal.main_arg1) = m ((c.tc : Thread Cert.AdamKvSpecIdeal.nD Cert.AdamKvSpecIdeal.τ).loc Cert.AdamKvSpecIdeal.main_arg1)
      ∧ r.2.mem ((c.tc : Thread Cert.AdamKvSpecIdeal.nD Cert.AdamKvSpecIdeal.τ).loc Cert.AdamKvSpecIdeal.main_arg2) = m ((c.tc : Thread Cert.AdamKvSpecIdeal.nD Cert.AdamKvSpecIdeal.τ).loc Cert.AdamKvSpecIdeal.main_arg2)
      ∧ r.2.mem ((c.tc : Thread Cert.AdamKvSpecIdeal.nD Cert.AdamKvSpecIdeal.τ).loc Cert.AdamKvSpecIdeal.main_arg3) = m ((c.tc : Thread Cert.AdamKvSpecIdeal.nD Cert.AdamKvSpecIdeal.τ).loc Cert.AdamKvSpecIdeal.main_arg3)
      ∧ r.2.mem ((c.tc : Thread Cert.AdamKvSpecIdeal.nD Cert.AdamKvSpecIdeal.τ).loc Cert.AdamKvSpecIdeal.main_arg4) = m ((c.tc : Thread Cert.AdamKvSpecIdeal.nD Cert.AdamKvSpecIdeal.τ).loc Cert.AdamKvSpecIdeal.main_arg4))
      ∧ r.2.sem = fun _ => 0)

def quiescent_AdamNormShard [hAdamNormShard : Cert.AdamNormShard.Facts] : Prop :=
  ∀ (m : (ℓ : Loc Cert.AdamNormShard.nD Cert.AdamNormShard.τ Cert.AdamNormShard.sig) → Buf (Elt Bits) ℓ) (g : Dev Cert.AdamNormShard.nD → PrngReg), Pre_AdamNormShard m →
    θ_run (Cert.AdamNormShard.defs (F := Bits)) (onTc (τ := Cert.AdamNormShard.τ) (Cert.AdamNormShard.main (F := Bits))) ⟨m, fun _ => 0, g⟩ (fun r => (∀ c : Dev Cert.AdamNormShard.nD,
      r.2.mem ((c.tc : Thread Cert.AdamNormShard.nD Cert.AdamNormShard.τ).loc Cert.AdamNormShard.main_arg0) = m ((c.tc : Thread Cert.AdamNormShard.nD Cert.AdamNormShard.τ).loc Cert.AdamNormShard.main_arg0)
      ∧ r.2.mem ((c.tc : Thread Cert.AdamNormShard.nD Cert.AdamNormShard.τ).loc Cert.AdamNormShard.main_arg1) = m ((c.tc : Thread Cert.AdamNormShard.nD Cert.AdamNormShard.τ).loc Cert.AdamNormShard.main_arg1)
      ∧ r.2.mem ((c.tc : Thread Cert.AdamNormShard.nD Cert.AdamNormShard.τ).loc Cert.AdamNormShard.main_arg2) = m ((c.tc : Thread Cert.AdamNormShard.nD Cert.AdamNormShard.τ).loc Cert.AdamNormShard.main_arg2)
      ∧ r.2.mem ((c.tc : Thread Cert.AdamNormShard.nD Cert.AdamNormShard.τ).loc Cert.AdamNormShard.main_arg3) = m ((c.tc : Thread Cert.AdamNormShard.nD Cert.AdamNormShard.τ).loc Cert.AdamNormShard.main_arg3))
      ∧ r.2.sem = fun _ => 0)

def quiescent_AdamNormShardIdeal [hAdamNormShardIdeal : Cert.AdamNormShardIdeal.Facts] : Prop :=
  ∀ (m : (ℓ : Loc Cert.AdamNormShardIdeal.nD Cert.AdamNormShardIdeal.τ Cert.AdamNormShardIdeal.sig) → Buf (Elt Ideal) ℓ) (g : Dev Cert.AdamNormShardIdeal.nD → PrngReg), Pre_AdamNormShardIdeal m →
    θ_run (Cert.AdamNormShardIdeal.defs (F := Ideal)) (onTc (τ := Cert.AdamNormShardIdeal.τ) (Cert.AdamNormShardIdeal.main (F := Ideal))) ⟨m, fun _ => 0, g⟩ (fun r => (∀ c : Dev Cert.AdamNormShardIdeal.nD,
      r.2.mem ((c.tc : Thread Cert.AdamNormShardIdeal.nD Cert.AdamNormShardIdeal.τ).loc Cert.AdamNormShardIdeal.main_arg0) = m ((c.tc : Thread Cert.AdamNormShardIdeal.nD Cert.AdamNormShardIdeal.τ).loc Cert.AdamNormShardIdeal.main_arg0)
      ∧ r.2.mem ((c.tc : Thread Cert.AdamNormShardIdeal.nD Cert.AdamNormShardIdeal.τ).loc Cert.AdamNormShardIdeal.main_arg1) = m ((c.tc : Thread Cert.AdamNormShardIdeal.nD Cert.AdamNormShardIdeal.τ).loc Cert.AdamNormShardIdeal.main_arg1)
      ∧ r.2.mem ((c.tc : Thread Cert.AdamNormShardIdeal.nD Cert.AdamNormShardIdeal.τ).loc Cert.AdamNormShardIdeal.main_arg2) = m ((c.tc : Thread Cert.AdamNormShardIdeal.nD Cert.AdamNormShardIdeal.τ).loc Cert.AdamNormShardIdeal.main_arg2)
      ∧ r.2.mem ((c.tc : Thread Cert.AdamNormShardIdeal.nD Cert.AdamNormShardIdeal.τ).loc Cert.AdamNormShardIdeal.main_arg3) = m ((c.tc : Thread Cert.AdamNormShardIdeal.nD Cert.AdamNormShardIdeal.τ).loc Cert.AdamNormShardIdeal.main_arg3))
      ∧ r.2.sem = fun _ => 0)

def quiescent_AdamNormShardSpecIdeal [hAdamNormShardSpecIdeal : Cert.AdamNormShardSpecIdeal.Facts] : Prop :=
  ∀ (m : (ℓ : Loc Cert.AdamNormShardSpecIdeal.nD Cert.AdamNormShardSpecIdeal.τ Cert.AdamNormShardSpecIdeal.sig) → Buf (Elt Ideal) ℓ) (g : Dev Cert.AdamNormShardSpecIdeal.nD → PrngReg), Pre_AdamNormShardSpecIdeal m →
    θ_run (Cert.AdamNormShardSpecIdeal.defs (F := Ideal)) (onTc (τ := Cert.AdamNormShardSpecIdeal.τ) (Cert.AdamNormShardSpecIdeal.main (F := Ideal))) ⟨m, fun _ => 0, g⟩ (fun r => (∀ c : Dev Cert.AdamNormShardSpecIdeal.nD,
      r.2.mem ((c.tc : Thread Cert.AdamNormShardSpecIdeal.nD Cert.AdamNormShardSpecIdeal.τ).loc Cert.AdamNormShardSpecIdeal.main_arg0) = m ((c.tc : Thread Cert.AdamNormShardSpecIdeal.nD Cert.AdamNormShardSpecIdeal.τ).loc Cert.AdamNormShardSpecIdeal.main_arg0)
      ∧ r.2.mem ((c.tc : Thread Cert.AdamNormShardSpecIdeal.nD Cert.AdamNormShardSpecIdeal.τ).loc Cert.AdamNormShardSpecIdeal.main_arg1) = m ((c.tc : Thread Cert.AdamNormShardSpecIdeal.nD Cert.AdamNormShardSpecIdeal.τ).loc Cert.AdamNormShardSpecIdeal.main_arg1)
      ∧ r.2.mem ((c.tc : Thread Cert.AdamNormShardSpecIdeal.nD Cert.AdamNormShardSpecIdeal.τ).loc Cert.AdamNormShardSpecIdeal.main_arg2) = m ((c.tc : Thread Cert.AdamNormShardSpecIdeal.nD Cert.AdamNormShardSpecIdeal.τ).loc Cert.AdamNormShardSpecIdeal.main_arg2)
      ∧ r.2.mem ((c.tc : Thread Cert.AdamNormShardSpecIdeal.nD Cert.AdamNormShardSpecIdeal.τ).loc Cert.AdamNormShardSpecIdeal.main_arg3) = m ((c.tc : Thread Cert.AdamNormShardSpecIdeal.nD Cert.AdamNormShardSpecIdeal.τ).loc Cert.AdamNormShardSpecIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvSpecIdeal [hAdamConvSpecIdeal : Cert.AdamConvSpecIdeal.Facts] : Prop :=
  ∀ (m : (ℓ : Loc Cert.AdamConvSpecIdeal.nD Cert.AdamConvSpecIdeal.τ Cert.AdamConvSpecIdeal.sig) → Buf (Elt Ideal) ℓ) (g : Dev Cert.AdamConvSpecIdeal.nD → PrngReg), Pre_AdamConvSpecIdeal m →
    θ_run (Cert.AdamConvSpecIdeal.defs (F := Ideal)) (onTc (τ := Cert.AdamConvSpecIdeal.τ) (Cert.AdamConvSpecIdeal.main (F := Ideal))) ⟨m, fun _ => 0, g⟩ (fun r => (∀ c : Dev Cert.AdamConvSpecIdeal.nD,
      r.2.mem ((c.tc : Thread Cert.AdamConvSpecIdeal.nD Cert.AdamConvSpecIdeal.τ).loc Cert.AdamConvSpecIdeal.main_arg0) = m ((c.tc : Thread Cert.AdamConvSpecIdeal.nD Cert.AdamConvSpecIdeal.τ).loc Cert.AdamConvSpecIdeal.main_arg0)
      ∧ r.2.mem ((c.tc : Thread Cert.AdamConvSpecIdeal.nD Cert.AdamConvSpecIdeal.τ).loc Cert.AdamConvSpecIdeal.main_arg1) = m ((c.tc : Thread Cert.AdamConvSpecIdeal.nD Cert.AdamConvSpecIdeal.τ).loc Cert.AdamConvSpecIdeal.main_arg1)
      ∧ r.2.mem ((c.tc : Thread Cert.AdamConvSpecIdeal.nD Cert.AdamConvSpecIdeal.τ).loc Cert.AdamConvSpecIdeal.main_arg2) = m ((c.tc : Thread Cert.AdamConvSpecIdeal.nD Cert.AdamConvSpecIdeal.τ).loc Cert.AdamConvSpecIdeal.main_arg2)
      ∧ r.2.mem ((c.tc : Thread Cert.AdamConvSpecIdeal.nD Cert.AdamConvSpecIdeal.τ).loc Cert.AdamConvSpecIdeal.main_arg3) = m ((c.tc : Thread Cert.AdamConvSpecIdeal.nD Cert.AdamConvSpecIdeal.τ).loc Cert.AdamConvSpecIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormSpecIdeal [hAdamNormSpecIdeal : Cert.AdamNormSpecIdeal.Facts] : Prop :=
  ∀ (m : (ℓ : Loc Cert.AdamNormSpecIdeal.nD Cert.AdamNormSpecIdeal.τ Cert.AdamNormSpecIdeal.sig) → Buf (Elt Ideal) ℓ) (g : Dev Cert.AdamNormSpecIdeal.nD → PrngReg), Pre_AdamNormSpecIdeal m →
    θ_run (Cert.AdamNormSpecIdeal.defs (F := Ideal)) (onTc (τ := Cert.AdamNormSpecIdeal.τ) (Cert.AdamNormSpecIdeal.main (F := Ideal))) ⟨m, fun _ => 0, g⟩ (fun r => (∀ c : Dev Cert.AdamNormSpecIdeal.nD,
      r.2.mem ((c.tc : Thread Cert.AdamNormSpecIdeal.nD Cert.AdamNormSpecIdeal.τ).loc Cert.AdamNormSpecIdeal.main_arg0) = m ((c.tc : Thread Cert.AdamNormSpecIdeal.nD Cert.AdamNormSpecIdeal.τ).loc Cert.AdamNormSpecIdeal.main_arg0)
      ∧ r.2.mem ((c.tc : Thread Cert.AdamNormSpecIdeal.nD Cert.AdamNormSpecIdeal.τ).loc Cert.AdamNormSpecIdeal.main_arg1) = m ((c.tc : Thread Cert.AdamNormSpecIdeal.nD Cert.AdamNormSpecIdeal.τ).loc Cert.AdamNormSpecIdeal.main_arg1)
      ∧ r.2.mem ((c.tc : Thread Cert.AdamNormSpecIdeal.nD Cert.AdamNormSpecIdeal.τ).loc Cert.AdamNormSpecIdeal.main_arg2) = m ((c.tc : Thread Cert.AdamNormSpecIdeal.nD Cert.AdamNormSpecIdeal.τ).loc Cert.AdamNormSpecIdeal.main_arg2)
      ∧ r.2.mem ((c.tc : Thread Cert.AdamNormSpecIdeal.nD Cert.AdamNormSpecIdeal.τ).loc Cert.AdamNormSpecIdeal.main_arg3) = m ((c.tc : Thread Cert.AdamNormSpecIdeal.nD Cert.AdamNormSpecIdeal.τ).loc Cert.AdamNormSpecIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdSpecIdeal [hNormBwdSpecIdeal : Cert.NormBwdSpecIdeal.Facts] : Prop :=
  ∀ (m : (ℓ : Loc Cert.NormBwdSpecIdeal.nD Cert.NormBwdSpecIdeal.τ Cert.NormBwdSpecIdeal.sig) → Buf (Elt Ideal) ℓ) (g : Dev Cert.NormBwdSpecIdeal.nD → PrngReg), Pre_NormBwdSpecIdeal m →
    θ_run (Cert.NormBwdSpecIdeal.defs (F := Ideal)) (onTc (τ := Cert.NormBwdSpecIdeal.τ) (Cert.NormBwdSpecIdeal.main (F := Ideal))) ⟨m, fun _ => 0, g⟩ (fun r => (∀ c : Dev Cert.NormBwdSpecIdeal.nD,
      r.2.mem ((c.tc : Thread Cert.NormBwdSpecIdeal.nD Cert.NormBwdSpecIdeal.τ).loc Cert.NormBwdSpecIdeal.main_arg0) = m ((c.tc : Thread Cert.NormBwdSpecIdeal.nD Cert.NormBwdSpecIdeal.τ).loc Cert.NormBwdSpecIdeal.main_arg0)
      ∧ r.2.mem ((c.tc : Thread Cert.NormBwdSpecIdeal.nD Cert.NormBwdSpecIdeal.τ).loc Cert.NormBwdSpecIdeal.main_arg1) = m ((c.tc : Thread Cert.NormBwdSpecIdeal.nD Cert.NormBwdSpecIdeal.τ).loc Cert.NormBwdSpecIdeal.main_arg1)
      ∧ r.2.mem ((c.tc : Thread Cert.NormBwdSpecIdeal.nD Cert.NormBwdSpecIdeal.τ).loc Cert.NormBwdSpecIdeal.main_arg2) = m ((c.tc : Thread Cert.NormBwdSpecIdeal.nD Cert.NormBwdSpecIdeal.τ).loc Cert.NormBwdSpecIdeal.main_arg2)
      ∧ r.2.mem ((c.tc : Thread Cert.NormBwdSpecIdeal.nD Cert.NormBwdSpecIdeal.τ).loc Cert.NormBwdSpecIdeal.main_arg3) = m ((c.tc : Thread Cert.NormBwdSpecIdeal.nD Cert.NormBwdSpecIdeal.τ).loc Cert.NormBwdSpecIdeal.main_arg3))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdSpecIdeal [hMemNormBwdSpecIdeal : Cert.MemNormBwdSpecIdeal.Facts] : Prop :=
  ∀ (m : (ℓ : Loc Cert.MemNormBwdSpecIdeal.nD Cert.MemNormBwdSpecIdeal.τ Cert.MemNormBwdSpecIdeal.sig) → Buf (Elt Ideal) ℓ) (g : Dev Cert.MemNormBwdSpecIdeal.nD → PrngReg), Pre_MemNormBwdSpecIdeal m →
    θ_run (Cert.MemNormBwdSpecIdeal.defs (F := Ideal)) (onTc (τ := Cert.MemNormBwdSpecIdeal.τ) (Cert.MemNormBwdSpecIdeal.main (F := Ideal))) ⟨m, fun _ => 0, g⟩ (fun r => (∀ c : Dev Cert.MemNormBwdSpecIdeal.nD,
      r.2.mem ((c.tc : Thread Cert.MemNormBwdSpecIdeal.nD Cert.MemNormBwdSpecIdeal.τ).loc Cert.MemNormBwdSpecIdeal.main_arg0) = m ((c.tc : Thread Cert.MemNormBwdSpecIdeal.nD Cert.MemNormBwdSpecIdeal.τ).loc Cert.MemNormBwdSpecIdeal.main_arg0)
      ∧ r.2.mem ((c.tc : Thread Cert.MemNormBwdSpecIdeal.nD Cert.MemNormBwdSpecIdeal.τ).loc Cert.MemNormBwdSpecIdeal.main_arg1) = m ((c.tc : Thread Cert.MemNormBwdSpecIdeal.nD Cert.MemNormBwdSpecIdeal.τ).loc Cert.MemNormBwdSpecIdeal.main_arg1)
      ∧ r.2.mem ((c.tc : Thread Cert.MemNormBwdSpecIdeal.nD Cert.MemNormBwdSpecIdeal.τ).loc Cert.MemNormBwdSpecIdeal.main_arg2) = m ((c.tc : Thread Cert.MemNormBwdSpecIdeal.nD Cert.MemNormBwdSpecIdeal.τ).loc Cert.MemNormBwdSpecIdeal.main_arg2))
      ∧ r.2.sem = fun _ => 0)

def quiescent_PairNormBwd [hPairNormBwd : Cert.PairNormBwd.Facts] : Prop :=
  ∀ (m : (ℓ : Loc Cert.PairNormBwd.nD Cert.PairNormBwd.τ Cert.PairNormBwd.sig) → Buf (Elt Bits) ℓ) (g : Dev Cert.PairNormBwd.nD → PrngReg), Pre_PairNormBwd m →
    θ_run (Cert.PairNormBwd.defs (F := Bits)) (onTc (τ := Cert.PairNormBwd.τ) (Cert.PairNormBwd.main (F := Bits))) ⟨m, fun _ => 0, g⟩ (fun r => (∀ c : Dev Cert.PairNormBwd.nD,
      r.2.mem ((c.tc : Thread Cert.PairNormBwd.nD Cert.PairNormBwd.τ).loc Cert.PairNormBwd.main_arg0) = m ((c.tc : Thread Cert.PairNormBwd.nD Cert.PairNormBwd.τ).loc Cert.PairNormBwd.main_arg0)
      ∧ r.2.mem ((c.tc : Thread Cert.PairNormBwd.nD Cert.PairNormBwd.τ).loc Cert.PairNormBwd.main_arg1) = m ((c.tc : Thread Cert.PairNormBwd.nD Cert.PairNormBwd.τ).loc Cert.PairNormBwd.main_arg1)
      ∧ r.2.mem ((c.tc : Thread Cert.PairNormBwd.nD Cert.PairNormBwd.τ).loc Cert.PairNormBwd.main_arg2) = m ((c.tc : Thread Cert.PairNormBwd.nD Cert.PairNormBwd.τ).loc Cert.PairNormBwd.main_arg2)
      ∧ r.2.mem ((c.tc : Thread Cert.PairNormBwd.nD Cert.PairNormBwd.τ).loc Cert.PairNormBwd.main_arg3) = m ((c.tc : Thread Cert.PairNormBwd.nD Cert.PairNormBwd.τ).loc Cert.PairNormBwd.main_arg3)
      ∧ r.2.mem ((c.tc : Thread Cert.PairNormBwd.nD Cert.PairNormBwd.τ).loc Cert.PairNormBwd.main_arg4) = m ((c.tc : Thread Cert.PairNormBwd.nD Cert.PairNormBwd.τ).loc Cert.PairNormBwd.main_arg4)
      ∧ r.2.mem ((c.tc : Thread Cert.PairNormBwd.nD Cert.PairNormBwd.τ).loc Cert.PairNormBwd.main_arg5) = m ((c.tc : Thread Cert.PairNormBwd.nD Cert.PairNormBwd.τ).loc Cert.PairNormBwd.main_arg5))
      ∧ r.2.sem = fun _ => 0)

def quiescent_PairNormBwdIdeal [hPairNormBwdIdeal : Cert.PairNormBwdIdeal.Facts] : Prop :=
  ∀ (m : (ℓ : Loc Cert.PairNormBwdIdeal.nD Cert.PairNormBwdIdeal.τ Cert.PairNormBwdIdeal.sig) → Buf (Elt Ideal) ℓ) (g : Dev Cert.PairNormBwdIdeal.nD → PrngReg), Pre_PairNormBwdIdeal m →
    θ_run (Cert.PairNormBwdIdeal.defs (F := Ideal)) (onTc (τ := Cert.PairNormBwdIdeal.τ) (Cert.PairNormBwdIdeal.main (F := Ideal))) ⟨m, fun _ => 0, g⟩ (fun r => (∀ c : Dev Cert.PairNormBwdIdeal.nD,
      r.2.mem ((c.tc : Thread Cert.PairNormBwdIdeal.nD Cert.PairNormBwdIdeal.τ).loc Cert.PairNormBwdIdeal.main_arg0) = m ((c.tc : Thread Cert.PairNormBwdIdeal.nD Cert.PairNormBwdIdeal.τ).loc Cert.PairNormBwdIdeal.main_arg0)
      ∧ r.2.mem ((c.tc : Thread Cert.PairNormBwdIdeal.nD Cert.PairNormBwdIdeal.τ).loc Cert.PairNormBwdIdeal.main_arg1) = m ((c.tc : Thread Cert.PairNormBwdIdeal.nD Cert.PairNormBwdIdeal.τ).loc Cert.PairNormBwdIdeal.main_arg1)
      ∧ r.2.mem ((c.tc : Thread Cert.PairNormBwdIdeal.nD Cert.PairNormBwdIdeal.τ).loc Cert.PairNormBwdIdeal.main_arg2) = m ((c.tc : Thread Cert.PairNormBwdIdeal.nD Cert.PairNormBwdIdeal.τ).loc Cert.PairNormBwdIdeal.main_arg2)
      ∧ r.2.mem ((c.tc : Thread Cert.PairNormBwdIdeal.nD Cert.PairNormBwdIdeal.τ).loc Cert.PairNormBwdIdeal.main_arg3) = m ((c.tc : Thread Cert.PairNormBwdIdeal.nD Cert.PairNormBwdIdeal.τ).loc Cert.PairNormBwdIdeal.main_arg3)
      ∧ r.2.mem ((c.tc : Thread Cert.PairNormBwdIdeal.nD Cert.PairNormBwdIdeal.τ).loc Cert.PairNormBwdIdeal.main_arg4) = m ((c.tc : Thread Cert.PairNormBwdIdeal.nD Cert.PairNormBwdIdeal.τ).loc Cert.PairNormBwdIdeal.main_arg4)
      ∧ r.2.mem ((c.tc : Thread Cert.PairNormBwdIdeal.nD Cert.PairNormBwdIdeal.τ).loc Cert.PairNormBwdIdeal.main_arg5) = m ((c.tc : Thread Cert.PairNormBwdIdeal.nD Cert.PairNormBwdIdeal.τ).loc Cert.PairNormBwdIdeal.main_arg5))
      ∧ r.2.sem = fun _ => 0)

def quiescent_PairNormBwdSpecIdeal [hPairNormBwdSpecIdeal : Cert.PairNormBwdSpecIdeal.Facts] : Prop :=
  ∀ (m : (ℓ : Loc Cert.PairNormBwdSpecIdeal.nD Cert.PairNormBwdSpecIdeal.τ Cert.PairNormBwdSpecIdeal.sig) → Buf (Elt Ideal) ℓ) (g : Dev Cert.PairNormBwdSpecIdeal.nD → PrngReg), Pre_PairNormBwdSpecIdeal m →
    θ_run (Cert.PairNormBwdSpecIdeal.defs (F := Ideal)) (onTc (τ := Cert.PairNormBwdSpecIdeal.τ) (Cert.PairNormBwdSpecIdeal.main (F := Ideal))) ⟨m, fun _ => 0, g⟩ (fun r => (∀ c : Dev Cert.PairNormBwdSpecIdeal.nD,
      r.2.mem ((c.tc : Thread Cert.PairNormBwdSpecIdeal.nD Cert.PairNormBwdSpecIdeal.τ).loc Cert.PairNormBwdSpecIdeal.main_arg0) = m ((c.tc : Thread Cert.PairNormBwdSpecIdeal.nD Cert.PairNormBwdSpecIdeal.τ).loc Cert.PairNormBwdSpecIdeal.main_arg0)
      ∧ r.2.mem ((c.tc : Thread Cert.PairNormBwdSpecIdeal.nD Cert.PairNormBwdSpecIdeal.τ).loc Cert.PairNormBwdSpecIdeal.main_arg1) = m ((c.tc : Thread Cert.PairNormBwdSpecIdeal.nD Cert.PairNormBwdSpecIdeal.τ).loc Cert.PairNormBwdSpecIdeal.main_arg1)
      ∧ r.2.mem ((c.tc : Thread Cert.PairNormBwdSpecIdeal.nD Cert.PairNormBwdSpecIdeal.τ).loc Cert.PairNormBwdSpecIdeal.main_arg2) = m ((c.tc : Thread Cert.PairNormBwdSpecIdeal.nD Cert.PairNormBwdSpecIdeal.τ).loc Cert.PairNormBwdSpecIdeal.main_arg2)
      ∧ r.2.mem ((c.tc : Thread Cert.PairNormBwdSpecIdeal.nD Cert.PairNormBwdSpecIdeal.τ).loc Cert.PairNormBwdSpecIdeal.main_arg3) = m ((c.tc : Thread Cert.PairNormBwdSpecIdeal.nD Cert.PairNormBwdSpecIdeal.τ).loc Cert.PairNormBwdSpecIdeal.main_arg3)
      ∧ r.2.mem ((c.tc : Thread Cert.PairNormBwdSpecIdeal.nD Cert.PairNormBwdSpecIdeal.τ).loc Cert.PairNormBwdSpecIdeal.main_arg4) = m ((c.tc : Thread Cert.PairNormBwdSpecIdeal.nD Cert.PairNormBwdSpecIdeal.τ).loc Cert.PairNormBwdSpecIdeal.main_arg4)
      ∧ r.2.mem ((c.tc : Thread Cert.PairNormBwdSpecIdeal.nD Cert.PairNormBwdSpecIdeal.τ).loc Cert.PairNormBwdSpecIdeal.main_arg5) = m ((c.tc : Thread Cert.PairNormBwdSpecIdeal.nD Cert.PairNormBwdSpecIdeal.τ).loc Cert.PairNormBwdSpecIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadSpecIdeal [hLossHeadSpecIdeal : Cert.LossHeadSpecIdeal.Facts] : Prop :=
  ∀ (m : (ℓ : Loc Cert.LossHeadSpecIdeal.nD Cert.LossHeadSpecIdeal.τ Cert.LossHeadSpecIdeal.sig) → Buf (Elt Ideal) ℓ) (g : Dev Cert.LossHeadSpecIdeal.nD → PrngReg), Pre_LossHeadSpecIdeal m →
    θ_run (Cert.LossHeadSpecIdeal.defs (F := Ideal)) (onTc (τ := Cert.LossHeadSpecIdeal.τ) (Cert.LossHeadSpecIdeal.main (F := Ideal))) ⟨m, fun _ => 0, g⟩ (fun r => (∀ c : Dev Cert.LossHeadSpecIdeal.nD,
      r.2.mem ((c.tc : Thread Cert.LossHeadSpecIdeal.nD Cert.LossHeadSpecIdeal.τ).loc Cert.LossHeadSpecIdeal.main_arg0) = m ((c.tc : Thread Cert.LossHeadSpecIdeal.nD Cert.LossHeadSpecIdeal.τ).loc Cert.LossHeadSpecIdeal.main_arg0)
      ∧ r.2.mem ((c.tc : Thread Cert.LossHeadSpecIdeal.nD Cert.LossHeadSpecIdeal.τ).loc Cert.LossHeadSpecIdeal.main_arg1) = m ((c.tc : Thread Cert.LossHeadSpecIdeal.nD Cert.LossHeadSpecIdeal.τ).loc Cert.LossHeadSpecIdeal.main_arg1)
      ∧ r.2.mem ((c.tc : Thread Cert.LossHeadSpecIdeal.nD Cert.LossHeadSpecIdeal.τ).loc Cert.LossHeadSpecIdeal.main_arg2) = m ((c.tc : Thread Cert.LossHeadSpecIdeal.nD Cert.LossHeadSpecIdeal.τ).loc Cert.LossHeadSpecIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdSpecIdeal [hNormFwdSpecIdeal : Cert.NormFwdSpecIdeal.Facts] : Prop :=
  ∀ (m : (ℓ : Loc Cert.NormFwdSpecIdeal.nD Cert.NormFwdSpecIdeal.τ Cert.NormFwdSpecIdeal.sig) → Buf (Elt Ideal) ℓ) (g : Dev Cert.NormFwdSpecIdeal.nD → PrngReg), Pre_NormFwdSpecIdeal m →
    θ_run (Cert.NormFwdSpecIdeal.defs (F := Ideal)) (onTc (τ := Cert.NormFwdSpecIdeal.τ) (Cert.NormFwdSpecIdeal.main (F := Ideal))) ⟨m, fun _ => 0, g⟩ (fun r => (∀ c : Dev Cert.NormFwdSpecIdeal.nD,
      r.2.mem ((c.tc : Thread Cert.NormFwdSpecIdeal.nD Cert.NormFwdSpecIdeal.τ).loc Cert.NormFwdSpecIdeal.main_arg0) = m ((c.tc : Thread Cert.NormFwdSpecIdeal.nD Cert.NormFwdSpecIdeal.τ).loc Cert.NormFwdSpecIdeal.main_arg0)
      ∧ r.2.mem ((c.tc : Thread Cert.NormFwdSpecIdeal.nD Cert.NormFwdSpecIdeal.τ).loc Cert.NormFwdSpecIdeal.main_arg1) = m ((c.tc : Thread Cert.NormFwdSpecIdeal.nD Cert.NormFwdSpecIdeal.τ).loc Cert.NormFwdSpecIdeal.main_arg1))
      ∧ r.2.sem = fun _ => 0)

def quiescent_MemNormFwd [hMemNormFwd : Cert.MemNormFwd.Facts] : Prop :=
  ∀ (m : (ℓ : Loc Cert.MemNormFwd.nD Cert.MemNormFwd.τ Cert.MemNormFwd.sig) → Buf (Elt Bits) ℓ) (g : Dev Cert.MemNormFwd.nD → PrngReg), Pre_MemNormFwd m →
    θ_run (Cert.MemNormFwd.defs (F := Bits)) (onTc (τ := Cert.MemNormFwd.τ) (Cert.MemNormFwd.main (F := Bits))) ⟨m, fun _ => 0, g⟩ (fun r => (∀ c : Dev Cert.MemNormFwd.nD,
      r.2.mem ((c.tc : Thread Cert.MemNormFwd.nD Cert.MemNormFwd.τ).loc Cert.MemNormFwd.main_arg0) = m ((c.tc : Thread Cert.MemNormFwd.nD Cert.MemNormFwd.τ).loc Cert.MemNormFwd.main_arg0)
      ∧ r.2.mem ((c.tc : Thread Cert.MemNormFwd.nD Cert.MemNormFwd.τ).loc Cert.MemNormFwd.main_arg1) = m ((c.tc : Thread Cert.MemNormFwd.nD Cert.MemNormFwd.τ).loc Cert.MemNormFwd.main_arg1))
      ∧ r.2.sem = fun _ => 0)

def quiescent_MemNormFwdIdeal [hMemNormFwdIdeal : Cert.MemNormFwdIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg), Pre_MemNormFwdIdeal m →
    θ_run (Cert.MemNormFwdIdeal.defs (F := Ideal)) (onTc (τ := Cert.MemNormFwdIdeal.τ) (Cert.MemNormFwdIdeal.main (F := Ideal))) ⟨m, fun _ => 0, g⟩ (fun r => (∀ c : Dev Cert.MemNormFwdIdeal.nD,
      r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
      ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ r.2.sem = fun _ => 0)

def quiescent_MemNormFwdSpecIdeal [hMemNormFwdSpecIdeal : Cert.MemNormFwdSpecIdeal.Facts] : Prop :=
  ∀ (m : (ℓ : Loc Cert.MemNormFwdSpecIdeal.nD Cert.MemNormFwdSpecIdeal.τ Cert.MemNormFwdSpecIdeal.sig) → Buf (Elt Ideal) ℓ) (g : Dev Cert.MemNormFwdSpecIdeal.nD → PrngReg), Pre_MemNormFwdSpecIdeal m →
    θ_run (Cert.MemNormFwdSpecIdeal.defs (F := Ideal)) (onTc (τ := Cert.MemNormFwdSpecIdeal.τ) (Cert.MemNormFwdSpecIdeal.main (F := Ideal))) ⟨m, fun _ => 0, g⟩ (fun r => (∀ c : Dev Cert.MemNormFwdSpecIdeal.nD,
      r.2.mem ((c.tc : Thread Cert.MemNormFwdSpecIdeal.nD Cert.MemNormFwdSpecIdeal.τ).loc Cert.MemNormFwdSpecIdeal.main_arg0) = m ((c.tc : Thread Cert.MemNormFwdSpecIdeal.nD Cert.MemNormFwdSpecIdeal.τ).loc Cert.MemNormFwdSpecIdeal.main_arg0)
      ∧ r.2.mem ((c.tc : Thread Cert.MemNormFwdSpecIdeal.nD Cert.MemNormFwdSpecIdeal.τ).loc Cert.MemNormFwdSpecIdeal.main_arg1) = m ((c.tc : Thread Cert.MemNormFwdSpecIdeal.nD Cert.MemNormFwdSpecIdeal.τ).loc Cert.MemNormFwdSpecIdeal.main_arg1))
      ∧ r.2.sem = fun _ => 0)

def quiescent_PairNormFwd [hPairNormFwd : Cert.PairNormFwd.Facts] : Prop :=
  ∀ (m : (ℓ : Loc Cert.PairNormFwd.nD Cert.PairNormFwd.τ Cert.PairNormFwd.sig) → Buf (Elt Bits) ℓ) (g : Dev Cert.PairNormFwd.nD → PrngReg), Pre_PairNormFwd m →
    θ_run (Cert.PairNormFwd.defs (F := Bits)) (onTc (τ := Cert.PairNormFwd.τ) (Cert.PairNormFwd.main (F := Bits))) ⟨m, fun _ => 0, g⟩ (fun r => (∀ c : Dev Cert.PairNormFwd.nD,
      r.2.mem ((c.tc : Thread Cert.PairNormFwd.nD Cert.PairNormFwd.τ).loc Cert.PairNormFwd.main_arg0) = m ((c.tc : Thread Cert.PairNormFwd.nD Cert.PairNormFwd.τ).loc Cert.PairNormFwd.main_arg0)
      ∧ r.2.mem ((c.tc : Thread Cert.PairNormFwd.nD Cert.PairNormFwd.τ).loc Cert.PairNormFwd.main_arg1) = m ((c.tc : Thread Cert.PairNormFwd.nD Cert.PairNormFwd.τ).loc Cert.PairNormFwd.main_arg1)
      ∧ r.2.mem ((c.tc : Thread Cert.PairNormFwd.nD Cert.PairNormFwd.τ).loc Cert.PairNormFwd.main_arg2) = m ((c.tc : Thread Cert.PairNormFwd.nD Cert.PairNormFwd.τ).loc Cert.PairNormFwd.main_arg2))
      ∧ r.2.sem = fun _ => 0)

def quiescent_PairNormFwdIdeal [hPairNormFwdIdeal : Cert.PairNormFwdIdeal.Facts] : Prop :=
  ∀ (m : (ℓ : Loc Cert.PairNormFwdIdeal.nD Cert.PairNormFwdIdeal.τ Cert.PairNormFwdIdeal.sig) → Buf (Elt Ideal) ℓ) (g : Dev Cert.PairNormFwdIdeal.nD → PrngReg), Pre_PairNormFwdIdeal m →
    θ_run (Cert.PairNormFwdIdeal.defs (F := Ideal)) (onTc (τ := Cert.PairNormFwdIdeal.τ) (Cert.PairNormFwdIdeal.main (F := Ideal))) ⟨m, fun _ => 0, g⟩ (fun r => (∀ c : Dev Cert.PairNormFwdIdeal.nD,
      r.2.mem ((c.tc : Thread Cert.PairNormFwdIdeal.nD Cert.PairNormFwdIdeal.τ).loc Cert.PairNormFwdIdeal.main_arg0) = m ((c.tc : Thread Cert.PairNormFwdIdeal.nD Cert.PairNormFwdIdeal.τ).loc Cert.PairNormFwdIdeal.main_arg0)
      ∧ r.2.mem ((c.tc : Thread Cert.PairNormFwdIdeal.nD Cert.PairNormFwdIdeal.τ).loc Cert.PairNormFwdIdeal.main_arg1) = m ((c.tc : Thread Cert.PairNormFwdIdeal.nD Cert.PairNormFwdIdeal.τ).loc Cert.PairNormFwdIdeal.main_arg1)
      ∧ r.2.mem ((c.tc : Thread Cert.PairNormFwdIdeal.nD Cert.PairNormFwdIdeal.τ).loc Cert.PairNormFwdIdeal.main_arg2) = m ((c.tc : Thread Cert.PairNormFwdIdeal.nD Cert.PairNormFwdIdeal.τ).loc Cert.PairNormFwdIdeal.main_arg2))
      ∧ r.2.sem = fun _ => 0)

def quiescent_PairNormFwdSpecIdeal [hPairNormFwdSpecIdeal : Cert.PairNormFwdSpecIdeal.Facts] : Prop :=
  ∀ (m : (ℓ : Loc Cert.PairNormFwdSpecIdeal.nD Cert.PairNormFwdSpecIdeal.τ Cert.PairNormFwdSpecIdeal.sig) → Buf (Elt Ideal) ℓ) (g : Dev Cert.PairNormFwdSpecIdeal.nD → PrngReg), Pre_PairNormFwdSpecIdeal m →
    θ_run (Cert.PairNormFwdSpecIdeal.defs (F := Ideal)) (onTc (τ := Cert.PairNormFwdSpecIdeal.τ) (Cert.PairNormFwdSpecIdeal.main (F := Ideal))) ⟨m, fun _ => 0, g⟩ (fun r => (∀ c : Dev Cert.PairNormFwdSpecIdeal.nD,
      r.2.mem ((c.tc : Thread Cert.PairNormFwdSpecIdeal.nD Cert.PairNormFwdSpecIdeal.τ).loc Cert.PairNormFwdSpecIdeal.main_arg0) = m ((c.tc : Thread Cert.PairNormFwdSpecIdeal.nD Cert.PairNormFwdSpecIdeal.τ).loc Cert.PairNormFwdSpecIdeal.main_arg0)
      ∧ r.2.mem ((c.tc : Thread Cert.PairNormFwdSpecIdeal.nD Cert.PairNormFwdSpecIdeal.τ).loc Cert.PairNormFwdSpecIdeal.main_arg1) = m ((c.tc : Thread Cert.PairNormFwdSpecIdeal.nD Cert.PairNormFwdSpecIdeal.τ).loc Cert.PairNormFwdSpecIdeal.main_arg1)
      ∧ r.2.mem ((c.tc : Thread Cert.PairNormFwdSpecIdeal.nD Cert.PairNormFwdSpecIdeal.τ).loc Cert.PairNormFwdSpecIdeal.main_arg2) = m ((c.tc : Thread Cert.PairNormFwdSpecIdeal.nD Cert.PairNormFwdSpecIdeal.τ).loc Cert.PairNormFwdSpecIdeal.main_arg2))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdIdeal_pre_real_scores_b [hMemFwdIdeal : Cert.MemFwdIdeal.Facts] [hPre_real_scores_b : Cert.Pre_real_scores_b.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal_real_scores_b m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdSpecIdeal [hMemFwdSpecIdeal : Cert.MemFwdSpecIdeal.Facts] : Prop :=
  ∀ (m : (ℓ : Loc Cert.MemFwdSpecIdeal.nD Cert.MemFwdSpecIdeal.τ Cert.MemFwdSpecIdeal.sig) → Buf (Elt Ideal) ℓ) (g : Dev Cert.MemFwdSpecIdeal.nD → PrngReg), Pre_MemFwdSpecIdeal m →
    θ_run (Cert.MemFwdSpecIdeal.defs (F := Ideal)) (onTc (τ := Cert.MemFwdSpecIdeal.τ) (Cert.MemFwdSpecIdeal.main (F := Ideal))) ⟨m, fun _ => 0, g⟩ (fun r => (∀ c : Dev Cert.MemFwdSpecIdeal.nD,
      r.2.mem ((c.tc : Thread Cert.MemFwdSpecIdeal.nD Cert.MemFwdSpecIdeal.τ).loc Cert.MemFwdSpecIdeal.main_arg0) = m ((c.tc : Thread Cert.MemFwdSpecIdeal.nD Cert.MemFwdSpecIdeal.τ).loc Cert.MemFwdSpecIdeal.main_arg0)
      ∧ r.2.mem ((c.tc : Thread Cert.MemFwdSpecIdeal.nD Cert.MemFwdSpecIdeal.τ).loc Cert.MemFwdSpecIdeal.main_arg1) = m ((c.tc : Thread Cert.MemFwdSpecIdeal.nD Cert.MemFwdSpecIdeal.τ).loc Cert.MemFwdSpecIdeal.main_arg1))
      ∧ r.2.sem = fun _ => 0)

def quiescent_MemFwdSpecIdeal_pre_real_scores_b [hMemFwdSpecIdeal : Cert.MemFwdSpecIdeal.Facts] [hPre_real_scores_b : Cert.Pre_real_scores_b.Facts] : Prop :=
  ∀ (m : (ℓ : Loc Cert.MemFwdSpecIdeal.nD Cert.MemFwdSpecIdeal.τ Cert.MemFwdSpecIdeal.sig) → Buf (Elt Ideal) ℓ) (g : Dev Cert.MemFwdSpecIdeal.nD → PrngReg), Pre_MemFwdSpecIdeal_real_scores_b m →
    θ_run (Cert.MemFwdSpecIdeal.defs (F := Ideal)) (onTc (τ := Cert.MemFwdSpecIdeal.τ) (Cert.MemFwdSpecIdeal.main (F := Ideal))) ⟨m, fun _ => 0, g⟩ (fun r => (∀ c : Dev Cert.MemFwdSpecIdeal.nD,
      r.2.mem ((c.tc : Thread Cert.MemFwdSpecIdeal.nD Cert.MemFwdSpecIdeal.τ).loc Cert.MemFwdSpecIdeal.main_arg0) = m ((c.tc : Thread Cert.MemFwdSpecIdeal.nD Cert.MemFwdSpecIdeal.τ).loc Cert.MemFwdSpecIdeal.main_arg0)
      ∧ r.2.mem ((c.tc : Thread Cert.MemFwdSpecIdeal.nD Cert.MemFwdSpecIdeal.τ).loc Cert.MemFwdSpecIdeal.main_arg1) = m ((c.tc : Thread Cert.MemFwdSpecIdeal.nD Cert.MemFwdSpecIdeal.τ).loc Cert.MemFwdSpecIdeal.main_arg1))
      ∧ r.2.sem = fun _ => 0)

def quiescent_MemFwdA [hMemFwdA : Cert.MemFwdA.Facts] : Prop :=
  ∀ (m : (ℓ : Loc Cert.MemFwdA.nD Cert.MemFwdA.τ Cert.MemFwdA.sig) → Buf (Elt Bits) ℓ) (g : Dev Cert.MemFwdA.nD → PrngReg), Pre_MemFwdA m →
    θ_run (Cert.MemFwdA.defs (F := Bits)) (onTc (τ := Cert.MemFwdA.τ) (Cert.MemFwdA.main (F := Bits))) ⟨m, fun _ => 0, g⟩ (fun r => (∀ c : Dev Cert.MemFwdA.nD,
      r.2.mem ((c.tc : Thread Cert.MemFwdA.nD Cert.MemFwdA.τ).loc Cert.MemFwdA.main_arg0) = m ((c.tc : Thread Cert.MemFwdA.nD Cert.MemFwdA.τ).loc Cert.MemFwdA.main_arg0)
      ∧ r.2.mem ((c.tc : Thread Cert.MemFwdA.nD Cert.MemFwdA.τ).loc Cert.MemFwdA.main_arg1) = m ((c.tc : Thread Cert.MemFwdA.nD Cert.MemFwdA.τ).loc Cert.MemFwdA.main_arg1))
      ∧ r.2.sem = fun _ => 0)

def quiescent_MemFwdAIdeal [hMemFwdAIdeal : Cert.MemFwdAIdeal.Facts] : Prop :=
  ∀ (m : (ℓ : Loc Cert.MemFwdAIdeal.nD Cert.MemFwdAIdeal.τ Cert.MemFwdAIdeal.sig) → Buf (Elt Ideal) ℓ) (g : Dev Cert.MemFwdAIdeal.nD → PrngReg), Pre_MemFwdAIdeal m →
    θ_run (Cert.MemFwdAIdeal.defs (F := Ideal)) (onTc (τ := Cert.MemFwdAIdeal.τ) (Cert.MemFwdAIdeal.main (F := Ideal))) ⟨m, fun _ => 0, g⟩ (fun r => (∀ c : Dev Cert.MemFwdAIdeal.nD,
      r.2.mem ((c.tc : Thread Cert.MemFwdAIdeal.nD Cert.MemFwdAIdeal.τ).loc Cert.MemFwdAIdeal.main_arg0) = m ((c.tc : Thread Cert.MemFwdAIdeal.nD Cert.MemFwdAIdeal.τ).loc Cert.MemFwdAIdeal.main_arg0)
      ∧ r.2.mem ((c.tc : Thread Cert.MemFwdAIdeal.nD Cert.MemFwdAIdeal.τ).loc Cert.MemFwdAIdeal.main_arg1) = m ((c.tc : Thread Cert.MemFwdAIdeal.nD Cert.MemFwdAIdeal.τ).loc Cert.MemFwdAIdeal.main_arg1))
      ∧ r.2.sem = fun _ => 0)

def quiescent_MemFwdAIdeal_pre_real_scores_a [hMemFwdAIdeal : Cert.MemFwdAIdeal.Facts] [hPre_real_scores_a : Cert.Pre_real_scores_a.Facts] : Prop :=
  ∀ (m : (ℓ : Loc Cert.MemFwdAIdeal.nD Cert.MemFwdAIdeal.τ Cert.MemFwdAIdeal.sig) → Buf (Elt Ideal) ℓ) (g : Dev Cert.MemFwdAIdeal.nD → PrngReg), Pre_MemFwdAIdeal_real_scores_a m →
    θ_run (Cert.MemFwdAIdeal.defs (F := Ideal)) (onTc (τ := Cert.MemFwdAIdeal.τ) (Cert.MemFwdAIdeal.main (F := Ideal))) ⟨m, fun _ => 0, g⟩ (fun r => (∀ c : Dev Cert.MemFwdAIdeal.nD,
      r.2.mem ((c.tc : Thread Cert.MemFwdAIdeal.nD Cert.MemFwdAIdeal.τ).loc Cert.MemFwdAIdeal.main_arg0) = m ((c.tc : Thread Cert.MemFwdAIdeal.nD Cert.MemFwdAIdeal.τ).loc Cert.MemFwdAIdeal.main_arg0)
      ∧ r.2.mem ((c.tc : Thread Cert.MemFwdAIdeal.nD Cert.MemFwdAIdeal.τ).loc Cert.MemFwdAIdeal.main_arg1) = m ((c.tc : Thread Cert.MemFwdAIdeal.nD Cert.MemFwdAIdeal.τ).loc Cert.MemFwdAIdeal.main_arg1))
      ∧ r.2.sem = fun _ => 0)

def quiescent_MemFwdASpecIdeal [hMemFwdASpecIdeal : Cert.MemFwdASpecIdeal.Facts] : Prop :=
  ∀ (m : (ℓ : Loc Cert.MemFwdASpecIdeal.nD Cert.MemFwdASpecIdeal.τ Cert.MemFwdASpecIdeal.sig) → Buf (Elt Ideal) ℓ) (g : Dev Cert.MemFwdASpecIdeal.nD → PrngReg), Pre_MemFwdASpecIdeal m →
    θ_run (Cert.MemFwdASpecIdeal.defs (F := Ideal)) (onTc (τ := Cert.MemFwdASpecIdeal.τ) (Cert.MemFwdASpecIdeal.main (F := Ideal))) ⟨m, fun _ => 0, g⟩ (fun r => (∀ c : Dev Cert.MemFwdASpecIdeal.nD,
      r.2.mem ((c.tc : Thread Cert.MemFwdASpecIdeal.nD Cert.MemFwdASpecIdeal.τ).loc Cert.MemFwdASpecIdeal.main_arg0) = m ((c.tc : Thread Cert.MemFwdASpecIdeal.nD Cert.MemFwdASpecIdeal.τ).loc Cert.MemFwdASpecIdeal.main_arg0)
      ∧ r.2.mem ((c.tc : Thread Cert.MemFwdASpecIdeal.nD Cert.MemFwdASpecIdeal.τ).loc Cert.MemFwdASpecIdeal.main_arg1) = m ((c.tc : Thread Cert.MemFwdASpecIdeal.nD Cert.MemFwdASpecIdeal.τ).loc Cert.MemFwdASpecIdeal.main_arg1))
      ∧ r.2.sem = fun _ => 0)

def quiescent_MemFwdASpecIdeal_pre_real_scores_a [hMemFwdASpecIdeal : Cert.MemFwdASpecIdeal.Facts] [hPre_real_scores_a : Cert.Pre_real_scores_a.Facts] : Prop :=
  ∀ (m : (ℓ : Loc Cert.MemFwdASpecIdeal.nD Cert.MemFwdASpecIdeal.τ Cert.MemFwdASpecIdeal.sig) → Buf (Elt Ideal) ℓ) (g : Dev Cert.MemFwdASpecIdeal.nD → PrngReg), Pre_MemFwdASpecIdeal_real_scores_a m →
    θ_run (Cert.MemFwdASpecIdeal.defs (F := Ideal)) (onTc (τ := Cert.MemFwdASpecIdeal.τ) (Cert.MemFwdASpecIdeal.main (F := Ideal))) ⟨m, fun _ => 0, g⟩ (fun r => (∀ c : Dev Cert.MemFwdASpecIdeal.nD,
      r.2.mem ((c.tc : Thread Cert.MemFwdASpecIdeal.nD Cert.MemFwdASpecIdeal.τ).loc Cert.MemFwdASpecIdeal.main_arg0) = m ((c.tc : Thread Cert.MemFwdASpecIdeal.nD Cert.MemFwdASpecIdeal.τ).loc Cert.MemFwdASpecIdeal.main_arg0)
      ∧ r.2.mem ((c.tc : Thread Cert.MemFwdASpecIdeal.nD Cert.MemFwdASpecIdeal.τ).loc Cert.MemFwdASpecIdeal.main_arg1) = m ((c.tc : Thread Cert.MemFwdASpecIdeal.nD Cert.MemFwdASpecIdeal.τ).loc Cert.MemFwdASpecIdeal.main_arg1))
      ∧ r.2.sem = fun _ => 0)

def quiescent_MemBwdA [hMemBwdA : Cert.MemBwdA.Facts] : Prop :=
  ∀ (m : (ℓ : Loc Cert.MemBwdA.nD Cert.MemBwdA.τ Cert.MemBwdA.sig) → Buf (Elt Bits) ℓ) (g : Dev Cert.MemBwdA.nD → PrngReg), Pre_MemBwdA m →
    θ_run (Cert.MemBwdA.defs (F := Bits)) (onTc (τ := Cert.MemBwdA.τ) (Cert.MemBwdA.main (F := Bits))) ⟨m, fun _ => 0, g⟩ (fun r => (∀ c : Dev Cert.MemBwdA.nD,
      r.2.mem ((c.tc : Thread Cert.MemBwdA.nD Cert.MemBwdA.τ).loc Cert.MemBwdA.main_arg0) = m ((c.tc : Thread Cert.MemBwdA.nD Cert.MemBwdA.τ).loc Cert.MemBwdA.main_arg0)
      ∧ r.2.mem ((c.tc : Thread Cert.MemBwdA.nD Cert.MemBwdA.τ).loc Cert.MemBwdA.main_arg1) = m ((c.tc : Thread Cert.MemBwdA.nD Cert.MemBwdA.τ).loc Cert.MemBwdA.main_arg1)
      ∧ r.2.mem ((c.tc : Thread Cert.MemBwdA.nD Cert.MemBwdA.τ).loc Cert.MemBwdA.main_arg2) = m ((c.tc : Thread Cert.MemBwdA.nD Cert.MemBwdA.τ).loc Cert.MemBwdA.main_arg2))
      ∧ r.2.sem = fun _ => 0)

def quiescent_MemBwdAIdeal [hMemBwdAIdeal : Cert.MemBwdAIdeal.Facts] : Prop :=
  ∀ (m : (ℓ : Loc Cert.MemBwdAIdeal.nD Cert.MemBwdAIdeal.τ Cert.MemBwdAIdeal.sig) → Buf (Elt Ideal) ℓ) (g : Dev Cert.MemBwdAIdeal.nD → PrngReg), Pre_MemBwdAIdeal m →
    θ_run (Cert.MemBwdAIdeal.defs (F := Ideal)) (onTc (τ := Cert.MemBwdAIdeal.τ) (Cert.MemBwdAIdeal.main (F := Ideal))) ⟨m, fun _ => 0, g⟩ (fun r => (∀ c : Dev Cert.MemBwdAIdeal.nD,
      r.2.mem ((c.tc : Thread Cert.MemBwdAIdeal.nD Cert.MemBwdAIdeal.τ).loc Cert.MemBwdAIdeal.main_arg0) = m ((c.tc : Thread Cert.MemBwdAIdeal.nD Cert.MemBwdAIdeal.τ).loc Cert.MemBwdAIdeal.main_arg0)
      ∧ r.2.mem ((c.tc : Thread Cert.MemBwdAIdeal.nD Cert.MemBwdAIdeal.τ).loc Cert.MemBwdAIdeal.main_arg1) = m ((c.tc : Thread Cert.MemBwdAIdeal.nD Cert.MemBwdAIdeal.τ).loc Cert.MemBwdAIdeal.main_arg1)
      ∧ r.2.mem ((c.tc : Thread Cert.MemBwdAIdeal.nD Cert.MemBwdAIdeal.τ).loc Cert.MemBwdAIdeal.main_arg2) = m ((c.tc : Thread Cert.MemBwdAIdeal.nD Cert.MemBwdAIdeal.τ).loc Cert.MemBwdAIdeal.main_arg2))
      ∧ r.2.sem = fun _ => 0)

def quiescent_MemBwdAIdeal_pre_real_scores_a_bwd [hMemBwdAIdeal : Cert.MemBwdAIdeal.Facts] [hPre_real_scores_a_bwd : Cert.Pre_real_scores_a_bwd.Facts] : Prop :=
  ∀ (m : (ℓ : Loc Cert.MemBwdAIdeal.nD Cert.MemBwdAIdeal.τ Cert.MemBwdAIdeal.sig) → Buf (Elt Ideal) ℓ) (g : Dev Cert.MemBwdAIdeal.nD → PrngReg), Pre_MemBwdAIdeal_real_scores_a_bwd m →
    θ_run (Cert.MemBwdAIdeal.defs (F := Ideal)) (onTc (τ := Cert.MemBwdAIdeal.τ) (Cert.MemBwdAIdeal.main (F := Ideal))) ⟨m, fun _ => 0, g⟩ (fun r => (∀ c : Dev Cert.MemBwdAIdeal.nD,
      r.2.mem ((c.tc : Thread Cert.MemBwdAIdeal.nD Cert.MemBwdAIdeal.τ).loc Cert.MemBwdAIdeal.main_arg0) = m ((c.tc : Thread Cert.MemBwdAIdeal.nD Cert.MemBwdAIdeal.τ).loc Cert.MemBwdAIdeal.main_arg0)
      ∧ r.2.mem ((c.tc : Thread Cert.MemBwdAIdeal.nD Cert.MemBwdAIdeal.τ).loc Cert.MemBwdAIdeal.main_arg1) = m ((c.tc : Thread Cert.MemBwdAIdeal.nD Cert.MemBwdAIdeal.τ).loc Cert.MemBwdAIdeal.main_arg1)
      ∧ r.2.mem ((c.tc : Thread Cert.MemBwdAIdeal.nD Cert.MemBwdAIdeal.τ).loc Cert.MemBwdAIdeal.main_arg2) = m ((c.tc : Thread Cert.MemBwdAIdeal.nD Cert.MemBwdAIdeal.τ).loc Cert.MemBwdAIdeal.main_arg2))
      ∧ r.2.sem = fun _ => 0)

def quiescent_MemBwdASpecIdeal [hMemBwdASpecIdeal : Cert.MemBwdASpecIdeal.Facts] : Prop :=
  ∀ (m : (ℓ : Loc Cert.MemBwdASpecIdeal.nD Cert.MemBwdASpecIdeal.τ Cert.MemBwdASpecIdeal.sig) → Buf (Elt Ideal) ℓ) (g : Dev Cert.MemBwdASpecIdeal.nD → PrngReg), Pre_MemBwdASpecIdeal m →
    θ_run (Cert.MemBwdASpecIdeal.defs (F := Ideal)) (onTc (τ := Cert.MemBwdASpecIdeal.τ) (Cert.MemBwdASpecIdeal.main (F := Ideal))) ⟨m, fun _ => 0, g⟩ (fun r => (∀ c : Dev Cert.MemBwdASpecIdeal.nD,
      r.2.mem ((c.tc : Thread Cert.MemBwdASpecIdeal.nD Cert.MemBwdASpecIdeal.τ).loc Cert.MemBwdASpecIdeal.main_arg0) = m ((c.tc : Thread Cert.MemBwdASpecIdeal.nD Cert.MemBwdASpecIdeal.τ).loc Cert.MemBwdASpecIdeal.main_arg0)
      ∧ r.2.mem ((c.tc : Thread Cert.MemBwdASpecIdeal.nD Cert.MemBwdASpecIdeal.τ).loc Cert.MemBwdASpecIdeal.main_arg1) = m ((c.tc : Thread Cert.MemBwdASpecIdeal.nD Cert.MemBwdASpecIdeal.τ).loc Cert.MemBwdASpecIdeal.main_arg1)
      ∧ r.2.mem ((c.tc : Thread Cert.MemBwdASpecIdeal.nD Cert.MemBwdASpecIdeal.τ).loc Cert.MemBwdASpecIdeal.main_arg2) = m ((c.tc : Thread Cert.MemBwdASpecIdeal.nD Cert.MemBwdASpecIdeal.τ).loc Cert.MemBwdASpecIdeal.main_arg2))
      ∧ r.2.sem = fun _ => 0)

def quiescent_MemBwdASpecIdeal_pre_real_scores_a_bwd [hMemBwdASpecIdeal : Cert.MemBwdASpecIdeal.Facts] [hPre_real_scores_a_bwd : Cert.Pre_real_scores_a_bwd.Facts] : Prop :=
  ∀ (m : (ℓ : Loc Cert.MemBwdASpecIdeal.nD Cert.MemBwdASpecIdeal.τ Cert.MemBwdASpecIdeal.sig) → Buf (Elt Ideal) ℓ) (g : Dev Cert.MemBwdASpecIdeal.nD → PrngReg), Pre_MemBwdASpecIdeal_real_scores_a_bwd m →
    θ_run (Cert.MemBwdASpecIdeal.defs (F := Ideal)) (onTc (τ := Cert.MemBwdASpecIdeal.τ) (Cert.MemBwdASpecIdeal.main (F := Ideal))) ⟨m, fun _ => 0, g⟩ (fun r => (∀ c : Dev Cert.MemBwdASpecIdeal.nD,
      r.2.mem ((c.tc : Thread Cert.MemBwdASpecIdeal.nD Cert.MemBwdASpecIdeal.τ).loc Cert.MemBwdASpecIdeal.main_arg0) = m ((c.tc : Thread Cert.MemBwdASpecIdeal.nD Cert.MemBwdASpecIdeal.τ).loc Cert.MemBwdASpecIdeal.main_arg0)
      ∧ r.2.mem ((c.tc : Thread Cert.MemBwdASpecIdeal.nD Cert.MemBwdASpecIdeal.τ).loc Cert.MemBwdASpecIdeal.main_arg1) = m ((c.tc : Thread Cert.MemBwdASpecIdeal.nD Cert.MemBwdASpecIdeal.τ).loc Cert.MemBwdASpecIdeal.main_arg1)
      ∧ r.2.mem ((c.tc : Thread Cert.MemBwdASpecIdeal.nD Cert.MemBwdASpecIdeal.τ).loc Cert.MemBwdASpecIdeal.main_arg2) = m ((c.tc : Thread Cert.MemBwdASpecIdeal.nD Cert.MemBwdASpecIdeal.τ).loc Cert.MemBwdASpecIdeal.main_arg2))
      ∧ r.2.sem = fun _ => 0)

def quiescent_CombineFwd [hCombineFwd : Cert.CombineFwd.Facts] : Prop :=
  ∀ (m : (ℓ : Loc Cert.CombineFwd.nD Cert.CombineFwd.τ Cert.CombineFwd.sig) → Buf (Elt Bits) ℓ) (g : Dev Cert.CombineFwd.nD → PrngReg), Pre_CombineFwd m →
    θ_run (Cert.CombineFwd.defs (F := Bits)) (onTc (τ := Cert.CombineFwd.τ) (Cert.CombineFwd.main (F := Bits))) ⟨m, fun _ => 0, g⟩ (fun r => (∀ c : Dev Cert.CombineFwd.nD,
      r.2.mem ((c.tc : Thread Cert.CombineFwd.nD Cert.CombineFwd.τ).loc Cert.CombineFwd.main_arg0) = m ((c.tc : Thread Cert.CombineFwd.nD Cert.CombineFwd.τ).loc Cert.CombineFwd.main_arg0)
      ∧ r.2.mem ((c.tc : Thread Cert.CombineFwd.nD Cert.CombineFwd.τ).loc Cert.CombineFwd.main_arg1) = m ((c.tc : Thread Cert.CombineFwd.nD Cert.CombineFwd.τ).loc Cert.CombineFwd.main_arg1)
      ∧ r.2.mem ((c.tc : Thread Cert.CombineFwd.nD Cert.CombineFwd.τ).loc Cert.CombineFwd.main_arg2) = m ((c.tc : Thread Cert.CombineFwd.nD Cert.CombineFwd.τ).loc Cert.CombineFwd.main_arg2)
      ∧ r.2.mem ((c.tc : Thread Cert.CombineFwd.nD Cert.CombineFwd.τ).loc Cert.CombineFwd.main_arg3) = m ((c.tc : Thread Cert.CombineFwd.nD Cert.CombineFwd.τ).loc Cert.CombineFwd.main_arg3)
      ∧ r.2.mem ((c.tc : Thread Cert.CombineFwd.nD Cert.CombineFwd.τ).loc Cert.CombineFwd.main_arg4) = m ((c.tc : Thread Cert.CombineFwd.nD Cert.CombineFwd.τ).loc Cert.CombineFwd.main_arg4)
      ∧ r.2.mem ((c.tc : Thread Cert.CombineFwd.nD Cert.CombineFwd.τ).loc Cert.CombineFwd.main_arg5) = m ((c.tc : Thread Cert.CombineFwd.nD Cert.CombineFwd.τ).loc Cert.CombineFwd.main_arg5))
      ∧ r.2.sem = fun _ => 0)

def quiescent_CombineFwdIdeal [hCombineFwdIdeal : Cert.CombineFwdIdeal.Facts] : Prop :=
  ∀ (m : (ℓ : Loc Cert.CombineFwdIdeal.nD Cert.CombineFwdIdeal.τ Cert.CombineFwdIdeal.sig) → Buf (Elt Ideal) ℓ) (g : Dev Cert.CombineFwdIdeal.nD → PrngReg), Pre_CombineFwdIdeal m →
    θ_run (Cert.CombineFwdIdeal.defs (F := Ideal)) (onTc (τ := Cert.CombineFwdIdeal.τ) (Cert.CombineFwdIdeal.main (F := Ideal))) ⟨m, fun _ => 0, g⟩ (fun r => (∀ c : Dev Cert.CombineFwdIdeal.nD,
      r.2.mem ((c.tc : Thread Cert.CombineFwdIdeal.nD Cert.CombineFwdIdeal.τ).loc Cert.CombineFwdIdeal.main_arg0) = m ((c.tc : Thread Cert.CombineFwdIdeal.nD Cert.CombineFwdIdeal.τ).loc Cert.CombineFwdIdeal.main_arg0)
      ∧ r.2.mem ((c.tc : Thread Cert.CombineFwdIdeal.nD Cert.CombineFwdIdeal.τ).loc Cert.CombineFwdIdeal.main_arg1) = m ((c.tc : Thread Cert.CombineFwdIdeal.nD Cert.CombineFwdIdeal.τ).loc Cert.CombineFwdIdeal.main_arg1)
      ∧ r.2.mem ((c.tc : Thread Cert.CombineFwdIdeal.nD Cert.CombineFwdIdeal.τ).loc Cert.CombineFwdIdeal.main_arg2) = m ((c.tc : Thread Cert.CombineFwdIdeal.nD Cert.CombineFwdIdeal.τ).loc Cert.CombineFwdIdeal.main_arg2)
      ∧ r.2.mem ((c.tc : Thread Cert.CombineFwdIdeal.nD Cert.CombineFwdIdeal.τ).loc Cert.CombineFwdIdeal.main_arg3) = m ((c.tc : Thread Cert.CombineFwdIdeal.nD Cert.CombineFwdIdeal.τ).loc Cert.CombineFwdIdeal.main_arg3)
      ∧ r.2.mem ((c.tc : Thread Cert.CombineFwdIdeal.nD Cert.CombineFwdIdeal.τ).loc Cert.CombineFwdIdeal.main_arg4) = m ((c.tc : Thread Cert.CombineFwdIdeal.nD Cert.CombineFwdIdeal.τ).loc Cert.CombineFwdIdeal.main_arg4)
      ∧ r.2.mem ((c.tc : Thread Cert.CombineFwdIdeal.nD Cert.CombineFwdIdeal.τ).loc Cert.CombineFwdIdeal.main_arg5) = m ((c.tc : Thread Cert.CombineFwdIdeal.nD Cert.CombineFwdIdeal.τ).loc Cert.CombineFwdIdeal.main_arg5))
      ∧ r.2.sem = fun _ => 0)

def quiescent_CombineFwdIdeal_pre_real_lses [hCombineFwdIdeal : Cert.CombineFwdIdeal.Facts] [hPre_real_lses : Cert.Pre_real_lses.Facts] : Prop :=
  ∀ (m : (ℓ : Loc Cert.CombineFwdIdeal.nD Cert.CombineFwdIdeal.τ Cert.CombineFwdIdeal.sig) → Buf (Elt Ideal) ℓ) (g : Dev Cert.CombineFwdIdeal.nD → PrngReg), Pre_CombineFwdIdeal_real_lses m →
    θ_run (Cert.CombineFwdIdeal.defs (F := Ideal)) (onTc (τ := Cert.CombineFwdIdeal.τ) (Cert.CombineFwdIdeal.main (F := Ideal))) ⟨m, fun _ => 0, g⟩ (fun r => (∀ c : Dev Cert.CombineFwdIdeal.nD,
      r.2.mem ((c.tc : Thread Cert.CombineFwdIdeal.nD Cert.CombineFwdIdeal.τ).loc Cert.CombineFwdIdeal.main_arg0) = m ((c.tc : Thread Cert.CombineFwdIdeal.nD Cert.CombineFwdIdeal.τ).loc Cert.CombineFwdIdeal.main_arg0)
      ∧ r.2.mem ((c.tc : Thread Cert.CombineFwdIdeal.nD Cert.CombineFwdIdeal.τ).loc Cert.CombineFwdIdeal.main_arg1) = m ((c.tc : Thread Cert.CombineFwdIdeal.nD Cert.CombineFwdIdeal.τ).loc Cert.CombineFwdIdeal.main_arg1)
      ∧ r.2.mem ((c.tc : Thread Cert.CombineFwdIdeal.nD Cert.CombineFwdIdeal.τ).loc Cert.CombineFwdIdeal.main_arg2) = m ((c.tc : Thread Cert.CombineFwdIdeal.nD Cert.CombineFwdIdeal.τ).loc Cert.CombineFwdIdeal.main_arg2)
      ∧ r.2.mem ((c.tc : Thread Cert.CombineFwdIdeal.nD Cert.CombineFwdIdeal.τ).loc Cert.CombineFwdIdeal.main_arg3) = m ((c.tc : Thread Cert.CombineFwdIdeal.nD Cert.CombineFwdIdeal.τ).loc Cert.CombineFwdIdeal.main_arg3)
      ∧ r.2.mem ((c.tc : Thread Cert.CombineFwdIdeal.nD Cert.CombineFwdIdeal.τ).loc Cert.CombineFwdIdeal.main_arg4) = m ((c.tc : Thread Cert.CombineFwdIdeal.nD Cert.CombineFwdIdeal.τ).loc Cert.CombineFwdIdeal.main_arg4)
      ∧ r.2.mem ((c.tc : Thread Cert.CombineFwdIdeal.nD Cert.CombineFwdIdeal.τ).loc Cert.CombineFwdIdeal.main_arg5) = m ((c.tc : Thread Cert.CombineFwdIdeal.nD Cert.CombineFwdIdeal.τ).loc Cert.CombineFwdIdeal.main_arg5))
      ∧ r.2.sem = fun _ => 0)

def quiescent_CombineFwdSpecIdeal [hCombineFwdSpecIdeal : Cert.CombineFwdSpecIdeal.Facts] : Prop :=
  ∀ (m : (ℓ : Loc Cert.CombineFwdSpecIdeal.nD Cert.CombineFwdSpecIdeal.τ Cert.CombineFwdSpecIdeal.sig) → Buf (Elt Ideal) ℓ) (g : Dev Cert.CombineFwdSpecIdeal.nD → PrngReg), Pre_CombineFwdSpecIdeal m →
    θ_run (Cert.CombineFwdSpecIdeal.defs (F := Ideal)) (onTc (τ := Cert.CombineFwdSpecIdeal.τ) (Cert.CombineFwdSpecIdeal.main (F := Ideal))) ⟨m, fun _ => 0, g⟩ (fun r => (∀ c : Dev Cert.CombineFwdSpecIdeal.nD,
      r.2.mem ((c.tc : Thread Cert.CombineFwdSpecIdeal.nD Cert.CombineFwdSpecIdeal.τ).loc Cert.CombineFwdSpecIdeal.main_arg0) = m ((c.tc : Thread Cert.CombineFwdSpecIdeal.nD Cert.CombineFwdSpecIdeal.τ).loc Cert.CombineFwdSpecIdeal.main_arg0)
      ∧ r.2.mem ((c.tc : Thread Cert.CombineFwdSpecIdeal.nD Cert.CombineFwdSpecIdeal.τ).loc Cert.CombineFwdSpecIdeal.main_arg1) = m ((c.tc : Thread Cert.CombineFwdSpecIdeal.nD Cert.CombineFwdSpecIdeal.τ).loc Cert.CombineFwdSpecIdeal.main_arg1)
      ∧ r.2.mem ((c.tc : Thread Cert.CombineFwdSpecIdeal.nD Cert.CombineFwdSpecIdeal.τ).loc Cert.CombineFwdSpecIdeal.main_arg2) = m ((c.tc : Thread Cert.CombineFwdSpecIdeal.nD Cert.CombineFwdSpecIdeal.τ).loc Cert.CombineFwdSpecIdeal.main_arg2)
      ∧ r.2.mem ((c.tc : Thread Cert.CombineFwdSpecIdeal.nD Cert.CombineFwdSpecIdeal.τ).loc Cert.CombineFwdSpecIdeal.main_arg3) = m ((c.tc : Thread Cert.CombineFwdSpecIdeal.nD Cert.CombineFwdSpecIdeal.τ).loc Cert.CombineFwdSpecIdeal.main_arg3)
      ∧ r.2.mem ((c.tc : Thread Cert.CombineFwdSpecIdeal.nD Cert.CombineFwdSpecIdeal.τ).loc Cert.CombineFwdSpecIdeal.main_arg4) = m ((c.tc : Thread Cert.CombineFwdSpecIdeal.nD Cert.CombineFwdSpecIdeal.τ).loc Cert.CombineFwdSpecIdeal.main_arg4)
      ∧ r.2.mem ((c.tc : Thread Cert.CombineFwdSpecIdeal.nD Cert.CombineFwdSpecIdeal.τ).loc Cert.CombineFwdSpecIdeal.main_arg5) = m ((c.tc : Thread Cert.CombineFwdSpecIdeal.nD Cert.CombineFwdSpecIdeal.τ).loc Cert.CombineFwdSpecIdeal.main_arg5))
      ∧ r.2.sem = fun _ => 0)

def quiescent_CombineFwdSpecIdeal_pre_real_lses [hCombineFwdSpecIdeal : Cert.CombineFwdSpecIdeal.Facts] [hPre_real_lses : Cert.Pre_real_lses.Facts] : Prop :=
  ∀ (m : (ℓ : Loc Cert.CombineFwdSpecIdeal.nD Cert.CombineFwdSpecIdeal.τ Cert.CombineFwdSpecIdeal.sig) → Buf (Elt Ideal) ℓ) (g : Dev Cert.CombineFwdSpecIdeal.nD → PrngReg), Pre_CombineFwdSpecIdeal_real_lses m →
    θ_run (Cert.CombineFwdSpecIdeal.defs (F := Ideal)) (onTc (τ := Cert.CombineFwdSpecIdeal.τ) (Cert.CombineFwdSpecIdeal.main (F := Ideal))) ⟨m, fun _ => 0, g⟩ (fun r => (∀ c : Dev Cert.CombineFwdSpecIdeal.nD,
      r.2.mem ((c.tc : Thread Cert.CombineFwdSpecIdeal.nD Cert.CombineFwdSpecIdeal.τ).loc Cert.CombineFwdSpecIdeal.main_arg0) = m ((c.tc : Thread Cert.CombineFwdSpecIdeal.nD Cert.CombineFwdSpecIdeal.τ).loc Cert.CombineFwdSpecIdeal.main_arg0)
      ∧ r.2.mem ((c.tc : Thread Cert.CombineFwdSpecIdeal.nD Cert.CombineFwdSpecIdeal.τ).loc Cert.CombineFwdSpecIdeal.main_arg1) = m ((c.tc : Thread Cert.CombineFwdSpecIdeal.nD Cert.CombineFwdSpecIdeal.τ).loc Cert.CombineFwdSpecIdeal.main_arg1)
      ∧ r.2.mem ((c.tc : Thread Cert.CombineFwdSpecIdeal.nD Cert.CombineFwdSpecIdeal.τ).loc Cert.CombineFwdSpecIdeal.main_arg2) = m ((c.tc : Thread Cert.CombineFwdSpecIdeal.nD Cert.CombineFwdSpecIdeal.τ).loc Cert.CombineFwdSpecIdeal.main_arg2)
      ∧ r.2.mem ((c.tc : Thread Cert.CombineFwdSpecIdeal.nD Cert.CombineFwdSpecIdeal.τ).loc Cert.CombineFwdSpecIdeal.main_arg3) = m ((c.tc : Thread Cert.CombineFwdSpecIdeal.nD Cert.CombineFwdSpecIdeal.τ).loc Cert.CombineFwdSpecIdeal.main_arg3)
      ∧ r.2.mem ((c.tc : Thread Cert.CombineFwdSpecIdeal.nD Cert.CombineFwdSpecIdeal.τ).loc Cert.CombineFwdSpecIdeal.main_arg4) = m ((c.tc : Thread Cert.CombineFwdSpecIdeal.nD Cert.CombineFwdSpecIdeal.τ).loc Cert.CombineFwdSpecIdeal.main_arg4)
      ∧ r.2.mem ((c.tc : Thread Cert.CombineFwdSpecIdeal.nD Cert.CombineFwdSpecIdeal.τ).loc Cert.CombineFwdSpecIdeal.main_arg5) = m ((c.tc : Thread Cert.CombineFwdSpecIdeal.nD Cert.CombineFwdSpecIdeal.τ).loc Cert.CombineFwdSpecIdeal.main_arg5))
      ∧ r.2.sem = fun _ => 0)

def quiescent_CombineBwd [hCombineBwd : Cert.CombineBwd.Facts] : Prop :=
  ∀ (m : (ℓ : Loc Cert.CombineBwd.nD Cert.CombineBwd.τ Cert.CombineBwd.sig) → Buf (Elt Bits) ℓ) (g : Dev Cert.CombineBwd.nD → PrngReg), Pre_CombineBwd m →
    θ_run (Cert.CombineBwd.defs (F := Bits)) (onTc (τ := Cert.CombineBwd.τ) (Cert.CombineBwd.main (F := Bits))) ⟨m, fun _ => 0, g⟩ (fun r => (∀ c : Dev Cert.CombineBwd.nD,
      r.2.mem ((c.tc : Thread Cert.CombineBwd.nD Cert.CombineBwd.τ).loc Cert.CombineBwd.main_arg0) = m ((c.tc : Thread Cert.CombineBwd.nD Cert.CombineBwd.τ).loc Cert.CombineBwd.main_arg0)
      ∧ r.2.mem ((c.tc : Thread Cert.CombineBwd.nD Cert.CombineBwd.τ).loc Cert.CombineBwd.main_arg1) = m ((c.tc : Thread Cert.CombineBwd.nD Cert.CombineBwd.τ).loc Cert.CombineBwd.main_arg1)
      ∧ r.2.mem ((c.tc : Thread Cert.CombineBwd.nD Cert.CombineBwd.τ).loc Cert.CombineBwd.main_arg2) = m ((c.tc : Thread Cert.CombineBwd.nD Cert.CombineBwd.τ).loc Cert.CombineBwd.main_arg2)
      ∧ r.2.mem ((c.tc : Thread Cert.CombineBwd.nD Cert.CombineBwd.τ).loc Cert.CombineBwd.main_arg3) = m ((c.tc : Thread Cert.CombineBwd.nD Cert.CombineBwd.τ).loc Cert.CombineBwd.main_arg3)
      ∧ r.2.mem ((c.tc : Thread Cert.CombineBwd.nD Cert.CombineBwd.τ).loc Cert.CombineBwd.main_arg4) = m ((c.tc : Thread Cert.CombineBwd.nD Cert.CombineBwd.τ).loc Cert.CombineBwd.main_arg4)
      ∧ r.2.mem ((c.tc : Thread Cert.CombineBwd.nD Cert.CombineBwd.τ).loc Cert.CombineBwd.main_arg5) = m ((c.tc : Thread Cert.CombineBwd.nD Cert.CombineBwd.τ).loc Cert.CombineBwd.main_arg5)
      ∧ r.2.mem ((c.tc : Thread Cert.CombineBwd.nD Cert.CombineBwd.τ).loc Cert.CombineBwd.main_arg6) = m ((c.tc : Thread Cert.CombineBwd.nD Cert.CombineBwd.τ).loc Cert.CombineBwd.main_arg6))
      ∧ r.2.sem = fun _ => 0)

def quiescent_CombineBwdIdeal [hCombineBwdIdeal : Cert.CombineBwdIdeal.Facts] : Prop :=
  ∀ (m : (ℓ : Loc Cert.CombineBwdIdeal.nD Cert.CombineBwdIdeal.τ Cert.CombineBwdIdeal.sig) → Buf (Elt Ideal) ℓ) (g : Dev Cert.CombineBwdIdeal.nD → PrngReg), Pre_CombineBwdIdeal m →
    θ_run (Cert.CombineBwdIdeal.defs (F := Ideal)) (onTc (τ := Cert.CombineBwdIdeal.τ) (Cert.CombineBwdIdeal.main (F := Ideal))) ⟨m, fun _ => 0, g⟩ (fun r => (∀ c : Dev Cert.CombineBwdIdeal.nD,
      r.2.mem ((c.tc : Thread Cert.CombineBwdIdeal.nD Cert.CombineBwdIdeal.τ).loc Cert.CombineBwdIdeal.main_arg0) = m ((c.tc : Thread Cert.CombineBwdIdeal.nD Cert.CombineBwdIdeal.τ).loc Cert.CombineBwdIdeal.main_arg0)
      ∧ r.2.mem ((c.tc : Thread Cert.CombineBwdIdeal.nD Cert.CombineBwdIdeal.τ).loc Cert.CombineBwdIdeal.main_arg1) = m ((c.tc : Thread Cert.CombineBwdIdeal.nD Cert.CombineBwdIdeal.τ).loc Cert.CombineBwdIdeal.main_arg1)
      ∧ r.2.mem ((c.tc : Thread Cert.CombineBwdIdeal.nD Cert.CombineBwdIdeal.τ).loc Cert.CombineBwdIdeal.main_arg2) = m ((c.tc : Thread Cert.CombineBwdIdeal.nD Cert.CombineBwdIdeal.τ).loc Cert.CombineBwdIdeal.main_arg2)
      ∧ r.2.mem ((c.tc : Thread Cert.CombineBwdIdeal.nD Cert.CombineBwdIdeal.τ).loc Cert.CombineBwdIdeal.main_arg3) = m ((c.tc : Thread Cert.CombineBwdIdeal.nD Cert.CombineBwdIdeal.τ).loc Cert.CombineBwdIdeal.main_arg3)
      ∧ r.2.mem ((c.tc : Thread Cert.CombineBwdIdeal.nD Cert.CombineBwdIdeal.τ).loc Cert.CombineBwdIdeal.main_arg4) = m ((c.tc : Thread Cert.CombineBwdIdeal.nD Cert.CombineBwdIdeal.τ).loc Cert.CombineBwdIdeal.main_arg4)
      ∧ r.2.mem ((c.tc : Thread Cert.CombineBwdIdeal.nD Cert.CombineBwdIdeal.τ).loc Cert.CombineBwdIdeal.main_arg5) = m ((c.tc : Thread Cert.CombineBwdIdeal.nD Cert.CombineBwdIdeal.τ).loc Cert.CombineBwdIdeal.main_arg5)
      ∧ r.2.mem ((c.tc : Thread Cert.CombineBwdIdeal.nD Cert.CombineBwdIdeal.τ).loc Cert.CombineBwdIdeal.main_arg6) = m ((c.tc : Thread Cert.CombineBwdIdeal.nD Cert.CombineBwdIdeal.τ).loc Cert.CombineBwdIdeal.main_arg6))
      ∧ r.2.sem = fun _ => 0)

def quiescent_CombineBwdIdeal_pre_real_groups [hCombineBwdIdeal : Cert.CombineBwdIdeal.Facts] [hPre_real_groups : Cert.Pre_real_groups.Facts] : Prop :=
  ∀ (m : (ℓ : Loc Cert.CombineBwdIdeal.nD Cert.CombineBwdIdeal.τ Cert.CombineBwdIdeal.sig) → Buf (Elt Ideal) ℓ) (g : Dev Cert.CombineBwdIdeal.nD → PrngReg), Pre_CombineBwdIdeal_real_groups m →
    θ_run (Cert.CombineBwdIdeal.defs (F := Ideal)) (onTc (τ := Cert.CombineBwdIdeal.τ) (Cert.CombineBwdIdeal.main (F := Ideal))) ⟨m, fun _ => 0, g⟩ (fun r => (∀ c : Dev Cert.CombineBwdIdeal.nD,
      r.2.mem ((c.tc : Thread Cert.CombineBwdIdeal.nD Cert.CombineBwdIdeal.τ).loc Cert.CombineBwdIdeal.main_arg0) = m ((c.tc : Thread Cert.CombineBwdIdeal.nD Cert.CombineBwdIdeal.τ).loc Cert.CombineBwdIdeal.main_arg0)
      ∧ r.2.mem ((c.tc : Thread Cert.CombineBwdIdeal.nD Cert.CombineBwdIdeal.τ).loc Cert.CombineBwdIdeal.main_arg1) = m ((c.tc : Thread Cert.CombineBwdIdeal.nD Cert.CombineBwdIdeal.τ).loc Cert.CombineBwdIdeal.main_arg1)
      ∧ r.2.mem ((c.tc : Thread Cert.CombineBwdIdeal.nD Cert.CombineBwdIdeal.τ).loc Cert.CombineBwdIdeal.main_arg2) = m ((c.tc : Thread Cert.CombineBwdIdeal.nD Cert.CombineBwdIdeal.τ).loc Cert.CombineBwdIdeal.main_arg2)
      ∧ r.2.mem ((c.tc : Thread Cert.CombineBwdIdeal.nD Cert.CombineBwdIdeal.τ).loc Cert.CombineBwdIdeal.main_arg3) = m ((c.tc : Thread Cert.CombineBwdIdeal.nD Cert.CombineBwdIdeal.τ).loc Cert.CombineBwdIdeal.main_arg3)
      ∧ r.2.mem ((c.tc : Thread Cert.CombineBwdIdeal.nD Cert.CombineBwdIdeal.τ).loc Cert.CombineBwdIdeal.main_arg4) = m ((c.tc : Thread Cert.CombineBwdIdeal.nD Cert.CombineBwdIdeal.τ).loc Cert.CombineBwdIdeal.main_arg4)
      ∧ r.2.mem ((c.tc : Thread Cert.CombineBwdIdeal.nD Cert.CombineBwdIdeal.τ).loc Cert.CombineBwdIdeal.main_arg5) = m ((c.tc : Thread Cert.CombineBwdIdeal.nD Cert.CombineBwdIdeal.τ).loc Cert.CombineBwdIdeal.main_arg5)
      ∧ r.2.mem ((c.tc : Thread Cert.CombineBwdIdeal.nD Cert.CombineBwdIdeal.τ).loc Cert.CombineBwdIdeal.main_arg6) = m ((c.tc : Thread Cert.CombineBwdIdeal.nD Cert.CombineBwdIdeal.τ).loc Cert.CombineBwdIdeal.main_arg6))
      ∧ r.2.sem = fun _ => 0)

def quiescent_CombineBwdSpecIdeal [hCombineBwdSpecIdeal : Cert.CombineBwdSpecIdeal.Facts] : Prop :=
  ∀ (m : (ℓ : Loc Cert.CombineBwdSpecIdeal.nD Cert.CombineBwdSpecIdeal.τ Cert.CombineBwdSpecIdeal.sig) → Buf (Elt Ideal) ℓ) (g : Dev Cert.CombineBwdSpecIdeal.nD → PrngReg), Pre_CombineBwdSpecIdeal m →
    θ_run (Cert.CombineBwdSpecIdeal.defs (F := Ideal)) (onTc (τ := Cert.CombineBwdSpecIdeal.τ) (Cert.CombineBwdSpecIdeal.main (F := Ideal))) ⟨m, fun _ => 0, g⟩ (fun r => (∀ c : Dev Cert.CombineBwdSpecIdeal.nD,
      r.2.mem ((c.tc : Thread Cert.CombineBwdSpecIdeal.nD Cert.CombineBwdSpecIdeal.τ).loc Cert.CombineBwdSpecIdeal.main_arg0) = m ((c.tc : Thread Cert.CombineBwdSpecIdeal.nD Cert.CombineBwdSpecIdeal.τ).loc Cert.CombineBwdSpecIdeal.main_arg0)
      ∧ r.2.mem ((c.tc : Thread Cert.CombineBwdSpecIdeal.nD Cert.CombineBwdSpecIdeal.τ).loc Cert.CombineBwdSpecIdeal.main_arg1) = m ((c.tc : Thread Cert.CombineBwdSpecIdeal.nD Cert.CombineBwdSpecIdeal.τ).loc Cert.CombineBwdSpecIdeal.main_arg1)
      ∧ r.2.mem ((c.tc : Thread Cert.CombineBwdSpecIdeal.nD Cert.CombineBwdSpecIdeal.τ).loc Cert.CombineBwdSpecIdeal.main_arg2) = m ((c.tc : Thread Cert.CombineBwdSpecIdeal.nD Cert.CombineBwdSpecIdeal.τ).loc Cert.CombineBwdSpecIdeal.main_arg2)
      ∧ r.2.mem ((c.tc : Thread Cert.CombineBwdSpecIdeal.nD Cert.CombineBwdSpecIdeal.τ).loc Cert.CombineBwdSpecIdeal.main_arg3) = m ((c.tc : Thread Cert.CombineBwdSpecIdeal.nD Cert.CombineBwdSpecIdeal.τ).loc Cert.CombineBwdSpecIdeal.main_arg3)
      ∧ r.2.mem ((c.tc : Thread Cert.CombineBwdSpecIdeal.nD Cert.CombineBwdSpecIdeal.τ).loc Cert.CombineBwdSpecIdeal.main_arg4) = m ((c.tc : Thread Cert.CombineBwdSpecIdeal.nD Cert.CombineBwdSpecIdeal.τ).loc Cert.CombineBwdSpecIdeal.main_arg4)
      ∧ r.2.mem ((c.tc : Thread Cert.CombineBwdSpecIdeal.nD Cert.CombineBwdSpecIdeal.τ).loc Cert.CombineBwdSpecIdeal.main_arg5) = m ((c.tc : Thread Cert.CombineBwdSpecIdeal.nD Cert.CombineBwdSpecIdeal.τ).loc Cert.CombineBwdSpecIdeal.main_arg5)
      ∧ r.2.mem ((c.tc : Thread Cert.CombineBwdSpecIdeal.nD Cert.CombineBwdSpecIdeal.τ).loc Cert.CombineBwdSpecIdeal.main_arg6) = m ((c.tc : Thread Cert.CombineBwdSpecIdeal.nD Cert.CombineBwdSpecIdeal.τ).loc Cert.CombineBwdSpecIdeal.main_arg6))
      ∧ r.2.sem = fun _ => 0)

def quiescent_CombineBwdSpecIdeal_pre_real_groups [hCombineBwdSpecIdeal : Cert.CombineBwdSpecIdeal.Facts] [hPre_real_groups : Cert.Pre_real_groups.Facts] : Prop :=
  ∀ (m : (ℓ : Loc Cert.CombineBwdSpecIdeal.nD Cert.CombineBwdSpecIdeal.τ Cert.CombineBwdSpecIdeal.sig) → Buf (Elt Ideal) ℓ) (g : Dev Cert.CombineBwdSpecIdeal.nD → PrngReg), Pre_CombineBwdSpecIdeal_real_groups m →
    θ_run (Cert.CombineBwdSpecIdeal.defs (F := Ideal)) (onTc (τ := Cert.CombineBwdSpecIdeal.τ) (Cert.CombineBwdSpecIdeal.main (F := Ideal))) ⟨m, fun _ => 0, g⟩ (fun r => (∀ c : Dev Cert.CombineBwdSpecIdeal.nD,
      r.2.mem ((c.tc : Thread Cert.CombineBwdSpecIdeal.nD Cert.CombineBwdSpecIdeal.τ).loc Cert.CombineBwdSpecIdeal.main_arg0) = m ((c.tc : Thread Cert.CombineBwdSpecIdeal.nD Cert.CombineBwdSpecIdeal.τ).loc Cert.CombineBwdSpecIdeal.main_arg0)
      ∧ r.2.mem ((c.tc : Thread Cert.CombineBwdSpecIdeal.nD Cert.CombineBwdSpecIdeal.τ).loc Cert.CombineBwdSpecIdeal.main_arg1) = m ((c.tc : Thread Cert.CombineBwdSpecIdeal.nD Cert.CombineBwdSpecIdeal.τ).loc Cert.CombineBwdSpecIdeal.main_arg1)
      ∧ r.2.mem ((c.tc : Thread Cert.CombineBwdSpecIdeal.nD Cert.CombineBwdSpecIdeal.τ).loc Cert.CombineBwdSpecIdeal.main_arg2) = m ((c.tc : Thread Cert.CombineBwdSpecIdeal.nD Cert.CombineBwdSpecIdeal.τ).loc Cert.CombineBwdSpecIdeal.main_arg2)
      ∧ r.2.mem ((c.tc : Thread Cert.CombineBwdSpecIdeal.nD Cert.CombineBwdSpecIdeal.τ).loc Cert.CombineBwdSpecIdeal.main_arg3) = m ((c.tc : Thread Cert.CombineBwdSpecIdeal.nD Cert.CombineBwdSpecIdeal.τ).loc Cert.CombineBwdSpecIdeal.main_arg3)
      ∧ r.2.mem ((c.tc : Thread Cert.CombineBwdSpecIdeal.nD Cert.CombineBwdSpecIdeal.τ).loc Cert.CombineBwdSpecIdeal.main_arg4) = m ((c.tc : Thread Cert.CombineBwdSpecIdeal.nD Cert.CombineBwdSpecIdeal.τ).loc Cert.CombineBwdSpecIdeal.main_arg4)
      ∧ r.2.mem ((c.tc : Thread Cert.CombineBwdSpecIdeal.nD Cert.CombineBwdSpecIdeal.τ).loc Cert.CombineBwdSpecIdeal.main_arg5) = m ((c.tc : Thread Cert.CombineBwdSpecIdeal.nD Cert.CombineBwdSpecIdeal.τ).loc Cert.CombineBwdSpecIdeal.main_arg5)
      ∧ r.2.mem ((c.tc : Thread Cert.CombineBwdSpecIdeal.nD Cert.CombineBwdSpecIdeal.τ).loc Cert.CombineBwdSpecIdeal.main_arg6) = m ((c.tc : Thread Cert.CombineBwdSpecIdeal.nD Cert.CombineBwdSpecIdeal.τ).loc Cert.CombineBwdSpecIdeal.main_arg6))
      ∧ r.2.sem = fun _ => 0)

def preserves_MemBwd_MemBwdIdeal : Prop :=
  True

def algebraic_MemBwdIdeal_MemSpecIdeal_pre_real_scores [hMemBwdIdeal : Cert.MemBwdIdeal.Facts] [hMemSpecIdeal : Cert.MemSpecIdeal.Facts] [hPre_real_scores : Cert.Pre_real_scores.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemSpecIdeal.nD Cert.MemSpecIdeal.τ Cert.MemSpecIdeal.sig) → Buf (Elt Ideal) ℓ) (g' : Dev Cert.MemSpecIdeal.nD → PrngReg), Pre_MemBwdIdeal_real_scores m →
    (∀ c : Dev Cert.MemBwdIdeal.nD,
      m' ((c.tc : Thread Cert.MemSpecIdeal.nD Cert.MemSpecIdeal.τ).loc Cert.MemSpecIdeal.main_arg0) = m ((c.tc : Thread Cert.MemBwdIdeal.nD Cert.MemBwdIdeal.τ).loc Cert.MemBwdIdeal.main_arg0)
      ∧ m' ((c.tc : Thread Cert.MemSpecIdeal.nD Cert.MemSpecIdeal.τ).loc Cert.MemSpecIdeal.main_arg1) = m ((c.tc : Thread Cert.MemBwdIdeal.nD Cert.MemBwdIdeal.τ).loc Cert.MemBwdIdeal.main_arg1)
      ∧ m' ((c.tc : Thread Cert.MemSpecIdeal.nD Cert.MemSpecIdeal.τ).loc Cert.MemSpecIdeal.main_arg2) = m ((c.tc : Thread Cert.MemBwdIdeal.nD Cert.MemBwdIdeal.τ).loc Cert.MemBwdIdeal.main_arg2)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)) (v2 : (c : Dev Cert.MemBwdIdeal.nD) → Buf (Elt Ideal) ((c.tc : Thread Cert.MemBwdIdeal.nD Cert.MemBwdIdeal.τ).loc Cert.MemBwdIdeal.main_v0_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_v0_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ θ_run (Cert.MemSpecIdeal.defs (F := Ideal)) (onTc (τ := Cert.MemSpecIdeal.τ) (Cert.MemSpecIdeal.main (F := Ideal))) ⟨m', fun _ => 0, g'⟩ (fun r => ∀ c : Dev Cert.MemSpecIdeal.nD,
          r.2.mem ((c.tc : Thread Cert.MemSpecIdeal.nD Cert.MemSpecIdeal.τ).loc Cert.MemSpecIdeal.main_v73) = v0 c
          ∧ r.2.mem ((c.tc : Thread Cert.MemSpecIdeal.nD Cert.MemSpecIdeal.τ).loc Cert.MemSpecIdeal.main_v74) = v1 c
          ∧ r.2.mem ((c.tc : Thread Cert.MemSpecIdeal.nD Cert.MemSpecIdeal.τ).loc Cert.MemSpecIdeal.main_v75) = v2 c
          ∧ r.2.mem ((c.tc : Thread Cert.MemSpecIdeal.nD Cert.MemSpecIdeal.τ).loc Cert.MemSpecIdeal.main_arg0) = m' ((c.tc : Thread Cert.MemSpecIdeal.nD Cert.MemSpecIdeal.τ).loc Cert.MemSpecIdeal.main_arg0)
          ∧ r.2.mem ((c.tc : Thread Cert.MemSpecIdeal.nD Cert.MemSpecIdeal.τ).loc Cert.MemSpecIdeal.main_arg1) = m' ((c.tc : Thread Cert.MemSpecIdeal.nD Cert.MemSpecIdeal.τ).loc Cert.MemSpecIdeal.main_arg1)
          ∧ r.2.mem ((c.tc : Thread Cert.MemSpecIdeal.nD Cert.MemSpecIdeal.τ).loc Cert.MemSpecIdeal.main_arg2) = m' ((c.tc : Thread Cert.MemSpecIdeal.nD Cert.MemSpecIdeal.τ).loc Cert.MemSpecIdeal.main_arg2))

def preserves_FfnUp_FfnUpIdeal : Prop :=
  True

def algebraic_FfnUpIdeal_FfnUpSpecIdeal [hFfnUpIdeal : Cert.FfnUpIdeal.Facts] [hFfnUpSpecIdeal : Cert.FfnUpSpecIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpSpecIdeal.nD Cert.FfnUpSpecIdeal.τ Cert.FfnUpSpecIdeal.sig) → Buf (Elt Ideal) ℓ) (g' : Dev Cert.FfnUpSpecIdeal.nD → PrngReg), Pre_FfnUpIdeal m →
    (∀ c : Dev Cert.FfnUpIdeal.nD,
      m' ((c.tc : Thread Cert.FfnUpSpecIdeal.nD Cert.FfnUpSpecIdeal.τ).loc Cert.FfnUpSpecIdeal.main_arg0) = m ((c.tc : Thread Cert.FfnUpIdeal.nD Cert.FfnUpIdeal.τ).loc Cert.FfnUpIdeal.main_arg0)
      ∧ m' ((c.tc : Thread Cert.FfnUpSpecIdeal.nD Cert.FfnUpSpecIdeal.τ).loc Cert.FfnUpSpecIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpSpecIdeal.defs (F := Ideal)) (onTc (τ := Cert.FfnUpSpecIdeal.τ) (Cert.FfnUpSpecIdeal.main (F := Ideal))) ⟨m', fun _ => 0, g'⟩ (fun r => ∀ c : Dev Cert.FfnUpSpecIdeal.nD,
          r.2.mem ((c.tc : Thread Cert.FfnUpSpecIdeal.nD Cert.FfnUpSpecIdeal.τ).loc Cert.FfnUpSpecIdeal.main_v3) = v0 c
          ∧ r.2.mem ((c.tc : Thread Cert.FfnUpSpecIdeal.nD Cert.FfnUpSpecIdeal.τ).loc Cert.FfnUpSpecIdeal.main_arg0) = m' ((c.tc : Thread Cert.FfnUpSpecIdeal.nD Cert.FfnUpSpecIdeal.τ).loc Cert.FfnUpSpecIdeal.main_arg0)
          ∧ r.2.mem ((c.tc : Thread Cert.FfnUpSpecIdeal.nD Cert.FfnUpSpecIdeal.τ).loc Cert.FfnUpSpecIdeal.main_arg1) = m' ((c.tc : Thread Cert.FfnUpSpecIdeal.nD Cert.FfnUpSpecIdeal.τ).loc Cert.FfnUpSpecIdeal.main_arg1))

def preserves_DownFwd_DownFwdIdeal : Prop :=
  True

def algebraic_DownFwdIdeal_DownFwdSpecIdeal [hDownFwdIdeal : Cert.DownFwdIdeal.Facts] [hDownFwdSpecIdeal : Cert.DownFwdSpecIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdSpecIdeal.nD Cert.DownFwdSpecIdeal.τ Cert.DownFwdSpecIdeal.sig) → Buf (Elt Ideal) ℓ) (g' : Dev Cert.DownFwdSpecIdeal.nD → PrngReg), Pre_DownFwdIdeal m →
    (∀ c : Dev Cert.DownFwdIdeal.nD,
      m' ((c.tc : Thread Cert.DownFwdSpecIdeal.nD Cert.DownFwdSpecIdeal.τ).loc Cert.DownFwdSpecIdeal.main_arg0) = m ((c.tc : Thread Cert.DownFwdIdeal.nD Cert.DownFwdIdeal.τ).loc Cert.DownFwdIdeal.main_arg0)
      ∧ m' ((c.tc : Thread Cert.DownFwdSpecIdeal.nD Cert.DownFwdSpecIdeal.τ).loc Cert.DownFwdSpecIdeal.main_arg1) = m ((c.tc : Thread Cert.DownFwdIdeal.nD Cert.DownFwdIdeal.τ).loc Cert.DownFwdIdeal.main_arg1)
      ∧ m' ((c.tc : Thread Cert.DownFwdSpecIdeal.nD Cert.DownFwdSpecIdeal.τ).loc Cert.DownFwdSpecIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdSpecIdeal.defs (F := Ideal)) (onTc (τ := Cert.DownFwdSpecIdeal.τ) (Cert.DownFwdSpecIdeal.main (F := Ideal))) ⟨m', fun _ => 0, g'⟩ (fun r => ∀ c : Dev Cert.DownFwdSpecIdeal.nD,
          r.2.mem ((c.tc : Thread Cert.DownFwdSpecIdeal.nD Cert.DownFwdSpecIdeal.τ).loc Cert.DownFwdSpecIdeal.main_v3) = v0 c
          ∧ r.2.mem ((c.tc : Thread Cert.DownFwdSpecIdeal.nD Cert.DownFwdSpecIdeal.τ).loc Cert.DownFwdSpecIdeal.main_arg0) = m' ((c.tc : Thread Cert.DownFwdSpecIdeal.nD Cert.DownFwdSpecIdeal.τ).loc Cert.DownFwdSpecIdeal.main_arg0)
          ∧ r.2.mem ((c.tc : Thread Cert.DownFwdSpecIdeal.nD Cert.DownFwdSpecIdeal.τ).loc Cert.DownFwdSpecIdeal.main_arg1) = m' ((c.tc : Thread Cert.DownFwdSpecIdeal.nD Cert.DownFwdSpecIdeal.τ).loc Cert.DownFwdSpecIdeal.main_arg1)
          ∧ r.2.mem ((c.tc : Thread Cert.DownFwdSpecIdeal.nD Cert.DownFwdSpecIdeal.τ).loc Cert.DownFwdSpecIdeal.main_arg2) = m' ((c.tc : Thread Cert.DownFwdSpecIdeal.nD Cert.DownFwdSpecIdeal.τ).loc Cert.DownFwdSpecIdeal.main_arg2))

def preserves_AIn_AInIdeal : Prop :=
  True

def algebraic_AInIdeal_AInSpecIdeal [hAInIdeal : Cert.AInIdeal.Facts] [hAInSpecIdeal : Cert.AInSpecIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInSpecIdeal.nD Cert.AInSpecIdeal.τ Cert.AInSpecIdeal.sig) → Buf (Elt Ideal) ℓ) (g' : Dev Cert.AInSpecIdeal.nD → PrngReg), Pre_AInIdeal m →
    (∀ c : Dev Cert.AInIdeal.nD,
      m' ((c.tc : Thread Cert.AInSpecIdeal.nD Cert.AInSpecIdeal.τ).loc Cert.AInSpecIdeal.main_arg0) = m ((c.tc : Thread Cert.AInIdeal.nD Cert.AInIdeal.τ).loc Cert.AInIdeal.main_arg0)
      ∧ m' ((c.tc : Thread Cert.AInSpecIdeal.nD Cert.AInSpecIdeal.τ).loc Cert.AInSpecIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInSpecIdeal.defs (F := Ideal)) (onTc (τ := Cert.AInSpecIdeal.τ) (Cert.AInSpecIdeal.main (F := Ideal))) ⟨m', fun _ => 0, g'⟩ (fun r => ∀ c : Dev Cert.AInSpecIdeal.nD,
          r.2.mem ((c.tc : Thread Cert.AInSpecIdeal.nD Cert.AInSpecIdeal.τ).loc Cert.AInSpecIdeal.main_v3) = v0 c
          ∧ r.2.mem ((c.tc : Thread Cert.AInSpecIdeal.nD Cert.AInSpecIdeal.τ).loc Cert.AInSpecIdeal.main_arg0) = m' ((c.tc : Thread Cert.AInSpecIdeal.nD Cert.AInSpecIdeal.τ).loc Cert.AInSpecIdeal.main_arg0)
          ∧ r.2.mem ((c.tc : Thread Cert.AInSpecIdeal.nD Cert.AInSpecIdeal.τ).loc Cert.AInSpecIdeal.main_arg1) = m' ((c.tc : Thread Cert.AInSpecIdeal.nD Cert.AInSpecIdeal.τ).loc Cert.AInSpecIdeal.main_arg1))

def preserves_MemKv_MemKvIdeal : Prop :=
  True

def algebraic_MemKvIdeal_MemKvSpecIdeal [hMemKvIdeal : Cert.MemKvIdeal.Facts] [hMemKvSpecIdeal : Cert.MemKvSpecIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvSpecIdeal.nD Cert.MemKvSpecIdeal.τ Cert.MemKvSpecIdeal.sig) → Buf (Elt Ideal) ℓ) (g' : Dev Cert.MemKvSpecIdeal.nD → PrngReg), Pre_MemKvIdeal m →
    (∀ c : Dev Cert.MemKvIdeal.nD,
      m' ((c.tc : Thread Cert.MemKvSpecIdeal.nD Cert.MemKvSpecIdeal.τ).loc Cert.MemKvSpecIdeal.main_arg0) = m ((c.tc : Thread Cert.MemKvIdeal.nD Cert.MemKvIdeal.τ).loc Cert.MemKvIdeal.main_arg0)
      ∧ m' ((c.tc : Thread Cert.MemKvSpecIdeal.nD Cert.MemKvSpecIdeal.τ).loc Cert.MemKvSpecIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvSpecIdeal.defs (F := Ideal)) (onTc (τ := Cert.MemKvSpecIdeal.τ) (Cert.MemKvSpecIdeal.main (F := Ideal))) ⟨m', fun _ => 0, g'⟩ (fun r => ∀ c : Dev Cert.MemKvSpecIdeal.nD,
          r.2.mem ((c.tc : Thread Cert.MemKvSpecIdeal.nD Cert.MemKvSpecIdeal.τ).loc Cert.MemKvSpecIdeal.main_v3) = v0 c
          ∧ r.2.mem ((c.tc : Thread Cert.MemKvSpecIdeal.nD Cert.MemKvSpecIdeal.τ).loc Cert.MemKvSpecIdeal.main_arg0) = m' ((c.tc : Thread Cert.MemKvSpecIdeal.nD Cert.MemKvSpecIdeal.τ).loc Cert.MemKvSpecIdeal.main_arg0)
          ∧ r.2.mem ((c.tc : Thread Cert.MemKvSpecIdeal.nD Cert.MemKvSpecIdeal.τ).loc Cert.MemKvSpecIdeal.main_arg1) = m' ((c.tc : Thread Cert.MemKvSpecIdeal.nD Cert.MemKvSpecIdeal.τ).loc Cert.MemKvSpecIdeal.main_arg1))

def preserves_OutFwd_OutFwdIdeal : Prop :=
  True

def algebraic_OutFwdIdeal_OutFwdSpecIdeal [hOutFwdIdeal : Cert.OutFwdIdeal.Facts] [hOutFwdSpecIdeal : Cert.OutFwdSpecIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdSpecIdeal.nD Cert.OutFwdSpecIdeal.τ Cert.OutFwdSpecIdeal.sig) → Buf (Elt Ideal) ℓ) (g' : Dev Cert.OutFwdSpecIdeal.nD → PrngReg), Pre_OutFwdIdeal m →
    (∀ c : Dev Cert.OutFwdIdeal.nD,
      m' ((c.tc : Thread Cert.OutFwdSpecIdeal.nD Cert.OutFwdSpecIdeal.τ).loc Cert.OutFwdSpecIdeal.main_arg0) = m ((c.tc : Thread Cert.OutFwdIdeal.nD Cert.OutFwdIdeal.τ).loc Cert.OutFwdIdeal.main_arg0)
      ∧ m' ((c.tc : Thread Cert.OutFwdSpecIdeal.nD Cert.OutFwdSpecIdeal.τ).loc Cert.OutFwdSpecIdeal.main_arg1) = m ((c.tc : Thread Cert.OutFwdIdeal.nD Cert.OutFwdIdeal.τ).loc Cert.OutFwdIdeal.main_arg1)
      ∧ m' ((c.tc : Thread Cert.OutFwdSpecIdeal.nD Cert.OutFwdSpecIdeal.τ).loc Cert.OutFwdSpecIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdSpecIdeal.defs (F := Ideal)) (onTc (τ := Cert.OutFwdSpecIdeal.τ) (Cert.OutFwdSpecIdeal.main (F := Ideal))) ⟨m', fun _ => 0, g'⟩ (fun r => ∀ c : Dev Cert.OutFwdSpecIdeal.nD,
          r.2.mem ((c.tc : Thread Cert.OutFwdSpecIdeal.nD Cert.OutFwdSpecIdeal.τ).loc Cert.OutFwdSpecIdeal.main_v3) = v0 c
          ∧ r.2.mem ((c.tc : Thread Cert.OutFwdSpecIdeal.nD Cert.OutFwdSpecIdeal.τ).loc Cert.OutFwdSpecIdeal.main_arg0) = m' ((c.tc : Thread Cert.OutFwdSpecIdeal.nD Cert.OutFwdSpecIdeal.τ).loc Cert.OutFwdSpecIdeal.main_arg0)
          ∧ r.2.mem ((c.tc : Thread Cert.OutFwdSpecIdeal.nD Cert.OutFwdSpecIdeal.τ).loc Cert.OutFwdSpecIdeal.main_arg1) = m' ((c.tc : Thread Cert.OutFwdSpecIdeal.nD Cert.OutFwdSpecIdeal.τ).loc Cert.OutFwdSpecIdeal.main_arg1)
          ∧ r.2.mem ((c.tc : Thread Cert.OutFwdSpecIdeal.nD Cert.OutFwdSpecIdeal.τ).loc Cert.OutFwdSpecIdeal.main_arg2) = m' ((c.tc : Thread Cert.OutFwdSpecIdeal.nD Cert.OutFwdSpecIdeal.τ).loc Cert.OutFwdSpecIdeal.main_arg2))

def preserves_KvFwd_KvFwdIdeal : Prop :=
  True

def algebraic_KvFwdIdeal_KvFwdSpecIdeal [hKvFwdIdeal : Cert.KvFwdIdeal.Facts] [hKvFwdSpecIdeal : Cert.KvFwdSpecIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdSpecIdeal.nD Cert.KvFwdSpecIdeal.τ Cert.KvFwdSpecIdeal.sig) → Buf (Elt Ideal) ℓ) (g' : Dev Cert.KvFwdSpecIdeal.nD → PrngReg), Pre_KvFwdIdeal m →
    (∀ c : Dev Cert.KvFwdIdeal.nD,
      m' ((c.tc : Thread Cert.KvFwdSpecIdeal.nD Cert.KvFwdSpecIdeal.τ).loc Cert.KvFwdSpecIdeal.main_arg0) = m ((c.tc : Thread Cert.KvFwdIdeal.nD Cert.KvFwdIdeal.τ).loc Cert.KvFwdIdeal.main_arg0)
      ∧ m' ((c.tc : Thread Cert.KvFwdSpecIdeal.nD Cert.KvFwdSpecIdeal.τ).loc Cert.KvFwdSpecIdeal.main_arg1) = m ((c.tc : Thread Cert.KvFwdIdeal.nD Cert.KvFwdIdeal.τ).loc Cert.KvFwdIdeal.main_arg1)) →
    ∃ (v0 : (c : Dev Cert.KvFwdIdeal.nD) → Buf (Elt Ideal) ((c.tc : Thread Cert.KvFwdIdeal.nD Cert.KvFwdIdeal.τ).loc Cert.KvFwdIdeal.main_v0)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v0) = v0 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1))
      ∧ θ_run (Cert.KvFwdSpecIdeal.defs (F := Ideal)) (onTc (τ := Cert.KvFwdSpecIdeal.τ) (Cert.KvFwdSpecIdeal.main (F := Ideal))) ⟨m', fun _ => 0, g'⟩ (fun r => ∀ c : Dev Cert.KvFwdSpecIdeal.nD,
          r.2.mem ((c.tc : Thread Cert.KvFwdSpecIdeal.nD Cert.KvFwdSpecIdeal.τ).loc Cert.KvFwdSpecIdeal.main_v2) = v0 c
          ∧ r.2.mem ((c.tc : Thread Cert.KvFwdSpecIdeal.nD Cert.KvFwdSpecIdeal.τ).loc Cert.KvFwdSpecIdeal.main_arg0) = m' ((c.tc : Thread Cert.KvFwdSpecIdeal.nD Cert.KvFwdSpecIdeal.τ).loc Cert.KvFwdSpecIdeal.main_arg0)
          ∧ r.2.mem ((c.tc : Thread Cert.KvFwdSpecIdeal.nD Cert.KvFwdSpecIdeal.τ).loc Cert.KvFwdSpecIdeal.main_arg1) = m' ((c.tc : Thread Cert.KvFwdSpecIdeal.nD Cert.KvFwdSpecIdeal.τ).loc Cert.KvFwdSpecIdeal.main_arg1))

def preserves_BIn_BInIdeal : Prop :=
  True

def algebraic_BInIdeal_BInSpecIdeal [hBInIdeal : Cert.BInIdeal.Facts] [hBInSpecIdeal : Cert.BInSpecIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInSpecIdeal.nD Cert.BInSpecIdeal.τ Cert.BInSpecIdeal.sig) → Buf (Elt Ideal) ℓ) (g' : Dev Cert.BInSpecIdeal.nD → PrngReg), Pre_BInIdeal m →
    (∀ c : Dev Cert.BInIdeal.nD,
      m' ((c.tc : Thread Cert.BInSpecIdeal.nD Cert.BInSpecIdeal.τ).loc Cert.BInSpecIdeal.main_arg0) = m ((c.tc : Thread Cert.BInIdeal.nD Cert.BInIdeal.τ).loc Cert.BInIdeal.main_arg0)
      ∧ m' ((c.tc : Thread Cert.BInSpecIdeal.nD Cert.BInSpecIdeal.τ).loc Cert.BInSpecIdeal.main_arg1) = m ((c.tc : Thread Cert.BInIdeal.nD Cert.BInIdeal.τ).loc Cert.BInIdeal.main_arg1)) →
    ∃ (v0 : (c : Dev Cert.BInIdeal.nD) → Buf (Elt Ideal) ((c.tc : Thread Cert.BInIdeal.nD Cert.BInIdeal.τ).loc Cert.BInIdeal.main_v0)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v0) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ θ_run (Cert.BInSpecIdeal.defs (F := Ideal)) (onTc (τ := Cert.BInSpecIdeal.τ) (Cert.BInSpecIdeal.main (F := Ideal))) ⟨m', fun _ => 0, g'⟩ (fun r => ∀ c : Dev Cert.BInSpecIdeal.nD,
          r.2.mem ((c.tc : Thread Cert.BInSpecIdeal.nD Cert.BInSpecIdeal.τ).loc Cert.BInSpecIdeal.main_v2) = v0 c
          ∧ r.2.mem ((c.tc : Thread Cert.BInSpecIdeal.nD Cert.BInSpecIdeal.τ).loc Cert.BInSpecIdeal.main_arg0) = m' ((c.tc : Thread Cert.BInSpecIdeal.nD Cert.BInSpecIdeal.τ).loc Cert.BInSpecIdeal.main_arg0)
          ∧ r.2.mem ((c.tc : Thread Cert.BInSpecIdeal.nD Cert.BInSpecIdeal.τ).loc Cert.BInSpecIdeal.main_arg1) = m' ((c.tc : Thread Cert.BInSpecIdeal.nD Cert.BInSpecIdeal.τ).loc Cert.BInSpecIdeal.main_arg1))

def preserves_DownDx_DownDxIdeal : Prop :=
  True

def algebraic_DownDxIdeal_DownDxSpecIdeal [hDownDxIdeal : Cert.DownDxIdeal.Facts] [hDownDxSpecIdeal : Cert.DownDxSpecIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxSpecIdeal.nD Cert.DownDxSpecIdeal.τ Cert.DownDxSpecIdeal.sig) → Buf (Elt Ideal) ℓ) (g' : Dev Cert.DownDxSpecIdeal.nD → PrngReg), Pre_DownDxIdeal m →
    (∀ c : Dev Cert.DownDxIdeal.nD,
      m' ((c.tc : Thread Cert.DownDxSpecIdeal.nD Cert.DownDxSpecIdeal.τ).loc Cert.DownDxSpecIdeal.main_arg0) = m ((c.tc : Thread Cert.DownDxIdeal.nD Cert.DownDxIdeal.τ).loc Cert.DownDxIdeal.main_arg0)
      ∧ m' ((c.tc : Thread Cert.DownDxSpecIdeal.nD Cert.DownDxSpecIdeal.τ).loc Cert.DownDxSpecIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxSpecIdeal.defs (F := Ideal)) (onTc (τ := Cert.DownDxSpecIdeal.τ) (Cert.DownDxSpecIdeal.main (F := Ideal))) ⟨m', fun _ => 0, g'⟩ (fun r => ∀ c : Dev Cert.DownDxSpecIdeal.nD,
          r.2.mem ((c.tc : Thread Cert.DownDxSpecIdeal.nD Cert.DownDxSpecIdeal.τ).loc Cert.DownDxSpecIdeal.main_v5) = v0 c
          ∧ r.2.mem ((c.tc : Thread Cert.DownDxSpecIdeal.nD Cert.DownDxSpecIdeal.τ).loc Cert.DownDxSpecIdeal.main_arg0) = m' ((c.tc : Thread Cert.DownDxSpecIdeal.nD Cert.DownDxSpecIdeal.τ).loc Cert.DownDxSpecIdeal.main_arg0)
          ∧ r.2.mem ((c.tc : Thread Cert.DownDxSpecIdeal.nD Cert.DownDxSpecIdeal.τ).loc Cert.DownDxSpecIdeal.main_arg1) = m' ((c.tc : Thread Cert.DownDxSpecIdeal.nD Cert.DownDxSpecIdeal.τ).loc Cert.DownDxSpecIdeal.main_arg1))

def preserves_DownDw_DownDwIdeal : Prop :=
  True

def algebraic_DownDwIdeal_DownDwSpecIdeal [hDownDwIdeal : Cert.DownDwIdeal.Facts] [hDownDwSpecIdeal : Cert.DownDwSpecIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwSpecIdeal.nD Cert.DownDwSpecIdeal.τ Cert.DownDwSpecIdeal.sig) → Buf (Elt Ideal) ℓ) (g' : Dev Cert.DownDwSpecIdeal.nD → PrngReg), Pre_DownDwIdeal m →
    (∀ c : Dev Cert.DownDwIdeal.nD,
      m' ((c.tc : Thread Cert.DownDwSpecIdeal.nD Cert.DownDwSpecIdeal.τ).loc Cert.DownDwSpecIdeal.main_arg0) = m ((c.tc : Thread Cert.DownDwIdeal.nD Cert.DownDwIdeal.τ).loc Cert.DownDwIdeal.main_arg0)
      ∧ m' ((c.tc : Thread Cert.DownDwSpecIdeal.nD Cert.DownDwSpecIdeal.τ).loc Cert.DownDwSpecIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwSpecIdeal.defs (F := Ideal)) (onTc (τ := Cert.DownDwSpecIdeal.τ) (Cert.DownDwSpecIdeal.main (F := Ideal))) ⟨m', fun _ => 0, g'⟩ (fun r => ∀ c : Dev Cert.DownDwSpecIdeal.nD,
          r.2.mem ((c.tc : Thread Cert.DownDwSpecIdeal.nD Cert.DownDwSpecIdeal.τ).loc Cert.DownDwSpecIdeal.main_v6) = v0 c
          ∧ r.2.mem ((c.tc : Thread Cert.DownDwSpecIdeal.nD Cert.DownDwSpecIdeal.τ).loc Cert.DownDwSpecIdeal.main_arg0) = m' ((c.tc : Thread Cert.DownDwSpecIdeal.nD Cert.DownDwSpecIdeal.τ).loc Cert.DownDwSpecIdeal.main_arg0)
          ∧ r.2.mem ((c.tc : Thread Cert.DownDwSpecIdeal.nD Cert.DownDwSpecIdeal.τ).loc Cert.DownDwSpecIdeal.main_arg1) = m' ((c.tc : Thread Cert.DownDwSpecIdeal.nD Cert.DownDwSpecIdeal.τ).loc Cert.DownDwSpecIdeal.main_arg1))

def preserves_UpDx_UpDxIdeal : Prop :=
  True

def algebraic_UpDxIdeal_UpDxSpecIdeal [hUpDxIdeal : Cert.UpDxIdeal.Facts] [hUpDxSpecIdeal : Cert.UpDxSpecIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxSpecIdeal.nD Cert.UpDxSpecIdeal.τ Cert.UpDxSpecIdeal.sig) → Buf (Elt Ideal) ℓ) (g' : Dev Cert.UpDxSpecIdeal.nD → PrngReg), Pre_UpDxIdeal m →
    (∀ c : Dev Cert.UpDxIdeal.nD,
      m' ((c.tc : Thread Cert.UpDxSpecIdeal.nD Cert.UpDxSpecIdeal.τ).loc Cert.UpDxSpecIdeal.main_arg0) = m ((c.tc : Thread Cert.UpDxIdeal.nD Cert.UpDxIdeal.τ).loc Cert.UpDxIdeal.main_arg0)
      ∧ m' ((c.tc : Thread Cert.UpDxSpecIdeal.nD Cert.UpDxSpecIdeal.τ).loc Cert.UpDxSpecIdeal.main_arg1) = m ((c.tc : Thread Cert.UpDxIdeal.nD Cert.UpDxIdeal.τ).loc Cert.UpDxIdeal.main_arg1)
      ∧ m' ((c.tc : Thread Cert.UpDxSpecIdeal.nD Cert.UpDxSpecIdeal.τ).loc Cert.UpDxSpecIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxSpecIdeal.defs (F := Ideal)) (onTc (τ := Cert.UpDxSpecIdeal.τ) (Cert.UpDxSpecIdeal.main (F := Ideal))) ⟨m', fun _ => 0, g'⟩ (fun r => ∀ c : Dev Cert.UpDxSpecIdeal.nD,
          r.2.mem ((c.tc : Thread Cert.UpDxSpecIdeal.nD Cert.UpDxSpecIdeal.τ).loc Cert.UpDxSpecIdeal.main_v5) = v0 c
          ∧ r.2.mem ((c.tc : Thread Cert.UpDxSpecIdeal.nD Cert.UpDxSpecIdeal.τ).loc Cert.UpDxSpecIdeal.main_arg0) = m' ((c.tc : Thread Cert.UpDxSpecIdeal.nD Cert.UpDxSpecIdeal.τ).loc Cert.UpDxSpecIdeal.main_arg0)
          ∧ r.2.mem ((c.tc : Thread Cert.UpDxSpecIdeal.nD Cert.UpDxSpecIdeal.τ).loc Cert.UpDxSpecIdeal.main_arg1) = m' ((c.tc : Thread Cert.UpDxSpecIdeal.nD Cert.UpDxSpecIdeal.τ).loc Cert.UpDxSpecIdeal.main_arg1)
          ∧ r.2.mem ((c.tc : Thread Cert.UpDxSpecIdeal.nD Cert.UpDxSpecIdeal.τ).loc Cert.UpDxSpecIdeal.main_arg2) = m' ((c.tc : Thread Cert.UpDxSpecIdeal.nD Cert.UpDxSpecIdeal.τ).loc Cert.UpDxSpecIdeal.main_arg2))

def preserves_UpDw_UpDwIdeal : Prop :=
  True

def algebraic_UpDwIdeal_UpDwSpecIdeal [hUpDwIdeal : Cert.UpDwIdeal.Facts] [hUpDwSpecIdeal : Cert.UpDwSpecIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwSpecIdeal.nD Cert.UpDwSpecIdeal.τ Cert.UpDwSpecIdeal.sig) → Buf (Elt Ideal) ℓ) (g' : Dev Cert.UpDwSpecIdeal.nD → PrngReg), Pre_UpDwIdeal m →
    (∀ c : Dev Cert.UpDwIdeal.nD,
      m' ((c.tc : Thread Cert.UpDwSpecIdeal.nD Cert.UpDwSpecIdeal.τ).loc Cert.UpDwSpecIdeal.main_arg0) = m ((c.tc : Thread Cert.UpDwIdeal.nD Cert.UpDwIdeal.τ).loc Cert.UpDwIdeal.main_arg0)
      ∧ m' ((c.tc : Thread Cert.UpDwSpecIdeal.nD Cert.UpDwSpecIdeal.τ).loc Cert.UpDwSpecIdeal.main_arg1) = m ((c.tc : Thread Cert.UpDwIdeal.nD Cert.UpDwIdeal.τ).loc Cert.UpDwIdeal.main_arg1)
      ∧ m' ((c.tc : Thread Cert.UpDwSpecIdeal.nD Cert.UpDwSpecIdeal.τ).loc Cert.UpDwSpecIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwSpecIdeal.defs (F := Ideal)) (onTc (τ := Cert.UpDwSpecIdeal.τ) (Cert.UpDwSpecIdeal.main (F := Ideal))) ⟨m', fun _ => 0, g'⟩ (fun r => ∀ c : Dev Cert.UpDwSpecIdeal.nD,
          r.2.mem ((c.tc : Thread Cert.UpDwSpecIdeal.nD Cert.UpDwSpecIdeal.τ).loc Cert.UpDwSpecIdeal.main_v9) = v0 c
          ∧ r.2.mem ((c.tc : Thread Cert.UpDwSpecIdeal.nD Cert.UpDwSpecIdeal.τ).loc Cert.UpDwSpecIdeal.main_arg0) = m' ((c.tc : Thread Cert.UpDwSpecIdeal.nD Cert.UpDwSpecIdeal.τ).loc Cert.UpDwSpecIdeal.main_arg0)
          ∧ r.2.mem ((c.tc : Thread Cert.UpDwSpecIdeal.nD Cert.UpDwSpecIdeal.τ).loc Cert.UpDwSpecIdeal.main_arg1) = m' ((c.tc : Thread Cert.UpDwSpecIdeal.nD Cert.UpDwSpecIdeal.τ).loc Cert.UpDwSpecIdeal.main_arg1)
          ∧ r.2.mem ((c.tc : Thread Cert.UpDwSpecIdeal.nD Cert.UpDwSpecIdeal.τ).loc Cert.UpDwSpecIdeal.main_arg2) = m' ((c.tc : Thread Cert.UpDwSpecIdeal.nD Cert.UpDwSpecIdeal.τ).loc Cert.UpDwSpecIdeal.main_arg2))

def preserves_OutDx_OutDxIdeal : Prop :=
  True

def algebraic_OutDxIdeal_OutDxSpecIdeal [hOutDxIdeal : Cert.OutDxIdeal.Facts] [hOutDxSpecIdeal : Cert.OutDxSpecIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxSpecIdeal.nD Cert.OutDxSpecIdeal.τ Cert.OutDxSpecIdeal.sig) → Buf (Elt Ideal) ℓ) (g' : Dev Cert.OutDxSpecIdeal.nD → PrngReg), Pre_OutDxIdeal m →
    (∀ c : Dev Cert.OutDxIdeal.nD,
      m' ((c.tc : Thread Cert.OutDxSpecIdeal.nD Cert.OutDxSpecIdeal.τ).loc Cert.OutDxSpecIdeal.main_arg0) = m ((c.tc : Thread Cert.OutDxIdeal.nD Cert.OutDxIdeal.τ).loc Cert.OutDxIdeal.main_arg0)
      ∧ m' ((c.tc : Thread Cert.OutDxSpecIdeal.nD Cert.OutDxSpecIdeal.τ).loc Cert.OutDxSpecIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxSpecIdeal.defs (F := Ideal)) (onTc (τ := Cert.OutDxSpecIdeal.τ) (Cert.OutDxSpecIdeal.main (F := Ideal))) ⟨m', fun _ => 0, g'⟩ (fun r => ∀ c : Dev Cert.OutDxSpecIdeal.nD,
          r.2.mem ((c.tc : Thread Cert.OutDxSpecIdeal.nD Cert.OutDxSpecIdeal.τ).loc Cert.OutDxSpecIdeal.main_v5) = v0 c
          ∧ r.2.mem ((c.tc : Thread Cert.OutDxSpecIdeal.nD Cert.OutDxSpecIdeal.τ).loc Cert.OutDxSpecIdeal.main_arg0) = m' ((c.tc : Thread Cert.OutDxSpecIdeal.nD Cert.OutDxSpecIdeal.τ).loc Cert.OutDxSpecIdeal.main_arg0)
          ∧ r.2.mem ((c.tc : Thread Cert.OutDxSpecIdeal.nD Cert.OutDxSpecIdeal.τ).loc Cert.OutDxSpecIdeal.main_arg1) = m' ((c.tc : Thread Cert.OutDxSpecIdeal.nD Cert.OutDxSpecIdeal.τ).loc Cert.OutDxSpecIdeal.main_arg1))

def preserves_OutDw_OutDwIdeal : Prop :=
  True

def algebraic_OutDwIdeal_OutDwSpecIdeal [hOutDwIdeal : Cert.OutDwIdeal.Facts] [hOutDwSpecIdeal : Cert.OutDwSpecIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwSpecIdeal.nD Cert.OutDwSpecIdeal.τ Cert.OutDwSpecIdeal.sig) → Buf (Elt Ideal) ℓ) (g' : Dev Cert.OutDwSpecIdeal.nD → PrngReg), Pre_OutDwIdeal m →
    (∀ c : Dev Cert.OutDwIdeal.nD,
      m' ((c.tc : Thread Cert.OutDwSpecIdeal.nD Cert.OutDwSpecIdeal.τ).loc Cert.OutDwSpecIdeal.main_arg0) = m ((c.tc : Thread Cert.OutDwIdeal.nD Cert.OutDwIdeal.τ).loc Cert.OutDwIdeal.main_arg0)
      ∧ m' ((c.tc : Thread Cert.OutDwSpecIdeal.nD Cert.OutDwSpecIdeal.τ).loc Cert.OutDwSpecIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwSpecIdeal.defs (F := Ideal)) (onTc (τ := Cert.OutDwSpecIdeal.τ) (Cert.OutDwSpecIdeal.main (F := Ideal))) ⟨m', fun _ => 0, g'⟩ (fun r => ∀ c : Dev Cert.OutDwSpecIdeal.nD,
          r.2.mem ((c.tc : Thread Cert.OutDwSpecIdeal.nD Cert.OutDwSpecIdeal.τ).loc Cert.OutDwSpecIdeal.main_v6) = v0 c
          ∧ r.2.mem ((c.tc : Thread Cert.OutDwSpecIdeal.nD Cert.OutDwSpecIdeal.τ).loc Cert.OutDwSpecIdeal.main_arg0) = m' ((c.tc : Thread Cert.OutDwSpecIdeal.nD Cert.OutDwSpecIdeal.τ).loc Cert.OutDwSpecIdeal.main_arg0)
          ∧ r.2.mem ((c.tc : Thread Cert.OutDwSpecIdeal.nD Cert.OutDwSpecIdeal.τ).loc Cert.OutDwSpecIdeal.main_arg1) = m' ((c.tc : Thread Cert.OutDwSpecIdeal.nD Cert.OutDwSpecIdeal.τ).loc Cert.OutDwSpecIdeal.main_arg1))

def preserves_BInDx_BInDxIdeal : Prop :=
  True

def algebraic_BInDxIdeal_BInDxSpecIdeal [hBInDxIdeal : Cert.BInDxIdeal.Facts] [hBInDxSpecIdeal : Cert.BInDxSpecIdeal.Facts] : Prop :=
  ∀ (m : (ℓ : Loc Cert.BInDxIdeal.nD Cert.BInDxIdeal.τ Cert.BInDxIdeal.sig) → Buf (Elt Ideal) ℓ) (g : Dev Cert.BInDxIdeal.nD → PrngReg)
    (m' : (ℓ : Loc Cert.BInDxSpecIdeal.nD Cert.BInDxSpecIdeal.τ Cert.BInDxSpecIdeal.sig) → Buf (Elt Ideal) ℓ) (g' : Dev Cert.BInDxSpecIdeal.nD → PrngReg), Pre_BInDxIdeal m →
    (∀ c : Dev Cert.BInDxIdeal.nD,
      m' ((c.tc : Thread Cert.BInDxSpecIdeal.nD Cert.BInDxSpecIdeal.τ).loc Cert.BInDxSpecIdeal.main_arg0) = m ((c.tc : Thread Cert.BInDxIdeal.nD Cert.BInDxIdeal.τ).loc Cert.BInDxIdeal.main_arg0)
      ∧ m' ((c.tc : Thread Cert.BInDxSpecIdeal.nD Cert.BInDxSpecIdeal.τ).loc Cert.BInDxSpecIdeal.main_arg1) = m ((c.tc : Thread Cert.BInDxIdeal.nD Cert.BInDxIdeal.τ).loc Cert.BInDxIdeal.main_arg1)) →
    ∃ (v0 : (c : Dev Cert.BInDxIdeal.nD) → Buf (Elt Ideal) ((c.tc : Thread Cert.BInDxIdeal.nD Cert.BInDxIdeal.τ).loc Cert.BInDxIdeal.main_v0)),
      θ_run (Cert.BInDxIdeal.defs (F := Ideal)) (onTc (τ := Cert.BInDxIdeal.τ) (Cert.BInDxIdeal.main (F := Ideal))) ⟨m, fun _ => 0, g⟩ (fun r => ∀ c : Dev Cert.BInDxIdeal.nD,
          r.2.mem ((c.tc : Thread Cert.BInDxIdeal.nD Cert.BInDxIdeal.τ).loc Cert.BInDxIdeal.main_v0) = v0 c
          ∧ r.2.mem ((c.tc : Thread Cert.BInDxIdeal.nD Cert.BInDxIdeal.τ).loc Cert.BInDxIdeal.main_arg0) = m ((c.tc : Thread Cert.BInDxIdeal.nD Cert.BInDxIdeal.τ).loc Cert.BInDxIdeal.main_arg0)
          ∧ r.2.mem ((c.tc : Thread Cert.BInDxIdeal.nD Cert.BInDxIdeal.τ).loc Cert.BInDxIdeal.main_arg1) = m ((c.tc : Thread Cert.BInDxIdeal.nD Cert.BInDxIdeal.τ).loc Cert.BInDxIdeal.main_arg1))
      ∧ θ_run (Cert.BInDxSpecIdeal.defs (F := Ideal)) (onTc (τ := Cert.BInDxSpecIdeal.τ) (Cert.BInDxSpecIdeal.main (F := Ideal))) ⟨m', fun _ => 0, g'⟩ (fun r => ∀ c : Dev Cert.BInDxSpecIdeal.nD,
          r.2.mem ((c.tc : Thread Cert.BInDxSpecIdeal.nD Cert.BInDxSpecIdeal.τ).loc Cert.BInDxSpecIdeal.main_v4) = v0 c
          ∧ r.2.mem ((c.tc : Thread Cert.BInDxSpecIdeal.nD Cert.BInDxSpecIdeal.τ).loc Cert.BInDxSpecIdeal.main_arg0) = m' ((c.tc : Thread Cert.BInDxSpecIdeal.nD Cert.BInDxSpecIdeal.τ).loc Cert.BInDxSpecIdeal.main_arg0)
          ∧ r.2.mem ((c.tc : Thread Cert.BInDxSpecIdeal.nD Cert.BInDxSpecIdeal.τ).loc Cert.BInDxSpecIdeal.main_arg1) = m' ((c.tc : Thread Cert.BInDxSpecIdeal.nD Cert.BInDxSpecIdeal.τ).loc Cert.BInDxSpecIdeal.main_arg1))

def preserves_KvDx_KvDxIdeal : Prop :=
  True

def algebraic_KvDxIdeal_KvDxSpecIdeal [hKvDxIdeal : Cert.KvDxIdeal.Facts] [hKvDxSpecIdeal : Cert.KvDxSpecIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxSpecIdeal.nD Cert.KvDxSpecIdeal.τ Cert.KvDxSpecIdeal.sig) → Buf (Elt Ideal) ℓ) (g' : Dev Cert.KvDxSpecIdeal.nD → PrngReg), Pre_KvDxIdeal m →
    (∀ c : Dev Cert.KvDxIdeal.nD,
      m' ((c.tc : Thread Cert.KvDxSpecIdeal.nD Cert.KvDxSpecIdeal.τ).loc Cert.KvDxSpecIdeal.main_arg0) = m ((c.tc : Thread Cert.KvDxIdeal.nD Cert.KvDxIdeal.τ).loc Cert.KvDxIdeal.main_arg0)
      ∧ m' ((c.tc : Thread Cert.KvDxSpecIdeal.nD Cert.KvDxSpecIdeal.τ).loc Cert.KvDxSpecIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxSpecIdeal.defs (F := Ideal)) (onTc (τ := Cert.KvDxSpecIdeal.τ) (Cert.KvDxSpecIdeal.main (F := Ideal))) ⟨m', fun _ => 0, g'⟩ (fun r => ∀ c : Dev Cert.KvDxSpecIdeal.nD,
          r.2.mem ((c.tc : Thread Cert.KvDxSpecIdeal.nD Cert.KvDxSpecIdeal.τ).loc Cert.KvDxSpecIdeal.main_v4) = v0 c
          ∧ r.2.mem ((c.tc : Thread Cert.KvDxSpecIdeal.nD Cert.KvDxSpecIdeal.τ).loc Cert.KvDxSpecIdeal.main_arg0) = m' ((c.tc : Thread Cert.KvDxSpecIdeal.nD Cert.KvDxSpecIdeal.τ).loc Cert.KvDxSpecIdeal.main_arg0)
          ∧ r.2.mem ((c.tc : Thread Cert.KvDxSpecIdeal.nD Cert.KvDxSpecIdeal.τ).loc Cert.KvDxSpecIdeal.main_arg1) = m' ((c.tc : Thread Cert.KvDxSpecIdeal.nD Cert.KvDxSpecIdeal.τ).loc Cert.KvDxSpecIdeal.main_arg1))

def preserves_KvDw_KvDwIdeal : Prop :=
  True

def algebraic_KvDwIdeal_KvDwSpecIdeal [hKvDwIdeal : Cert.KvDwIdeal.Facts] [hKvDwSpecIdeal : Cert.KvDwSpecIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwSpecIdeal.nD Cert.KvDwSpecIdeal.τ Cert.KvDwSpecIdeal.sig) → Buf (Elt Ideal) ℓ) (g' : Dev Cert.KvDwSpecIdeal.nD → PrngReg), Pre_KvDwIdeal m →
    (∀ c : Dev Cert.KvDwIdeal.nD,
      m' ((c.tc : Thread Cert.KvDwSpecIdeal.nD Cert.KvDwSpecIdeal.τ).loc Cert.KvDwSpecIdeal.main_arg0) = m ((c.tc : Thread Cert.KvDwIdeal.nD Cert.KvDwIdeal.τ).loc Cert.KvDwIdeal.main_arg0)
      ∧ m' ((c.tc : Thread Cert.KvDwSpecIdeal.nD Cert.KvDwSpecIdeal.τ).loc Cert.KvDwSpecIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwSpecIdeal.defs (F := Ideal)) (onTc (τ := Cert.KvDwSpecIdeal.τ) (Cert.KvDwSpecIdeal.main (F := Ideal))) ⟨m', fun _ => 0, g'⟩ (fun r => ∀ c : Dev Cert.KvDwSpecIdeal.nD,
          r.2.mem ((c.tc : Thread Cert.KvDwSpecIdeal.nD Cert.KvDwSpecIdeal.τ).loc Cert.KvDwSpecIdeal.main_v8) = v0 c
          ∧ r.2.mem ((c.tc : Thread Cert.KvDwSpecIdeal.nD Cert.KvDwSpecIdeal.τ).loc Cert.KvDwSpecIdeal.main_arg0) = m' ((c.tc : Thread Cert.KvDwSpecIdeal.nD Cert.KvDwSpecIdeal.τ).loc Cert.KvDwSpecIdeal.main_arg0)
          ∧ r.2.mem ((c.tc : Thread Cert.KvDwSpecIdeal.nD Cert.KvDwSpecIdeal.τ).loc Cert.KvDwSpecIdeal.main_arg1) = m' ((c.tc : Thread Cert.KvDwSpecIdeal.nD Cert.KvDwSpecIdeal.τ).loc Cert.KvDwSpecIdeal.main_arg1))

def preserves_MemKvDx_MemKvDxIdeal : Prop :=
  True

def algebraic_MemKvDxIdeal_MemKvDxSpecIdeal [hMemKvDxIdeal : Cert.MemKvDxIdeal.Facts] [hMemKvDxSpecIdeal : Cert.MemKvDxSpecIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg)
    (m' : (ℓ : Loc Cert.MemKvDxSpecIdeal.nD Cert.MemKvDxSpecIdeal.τ Cert.MemKvDxSpecIdeal.sig) → Buf (Elt Ideal) ℓ) (g' : Dev Cert.MemKvDxSpecIdeal.nD → PrngReg), Pre_MemKvDxIdeal m →
    (∀ c : Dev Cert.MemKvDxIdeal.nD,
      m' ((c.tc : Thread Cert.MemKvDxSpecIdeal.nD Cert.MemKvDxSpecIdeal.τ).loc Cert.MemKvDxSpecIdeal.main_arg0) = m ((c.tc : Thread Cert.MemKvDxIdeal.nD Cert.MemKvDxIdeal.τ).loc Cert.MemKvDxIdeal.main_arg0)
      ∧ m' ((c.tc : Thread Cert.MemKvDxSpecIdeal.nD Cert.MemKvDxSpecIdeal.τ).loc Cert.MemKvDxSpecIdeal.main_arg1) = m ((c.tc : Thread Cert.MemKvDxIdeal.nD Cert.MemKvDxIdeal.τ).loc Cert.MemKvDxIdeal.main_arg1)) →
    ∃ (v0 : (c : Dev Cert.MemKvDxIdeal.nD) → Buf (Elt Ideal) ((c.tc : Thread Cert.MemKvDxIdeal.nD Cert.MemKvDxIdeal.τ).loc Cert.MemKvDxIdeal.main_v0)),
      θ_run (Cert.MemKvDxIdeal.defs (F := Ideal)) (onTc (τ := Cert.MemKvDxIdeal.τ) (Cert.MemKvDxIdeal.main (F := Ideal))) ⟨m, fun _ => 0, g⟩ (fun r => ∀ c : Dev Cert.MemKvDxIdeal.nD,
          r.2.mem ((c.tc : Thread Cert.MemKvDxIdeal.nD Cert.MemKvDxIdeal.τ).loc Cert.MemKvDxIdeal.main_v0) = v0 c
          ∧ r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
          ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ θ_run (Cert.MemKvDxSpecIdeal.defs (F := Ideal)) (onTc (τ := Cert.MemKvDxSpecIdeal.τ) (Cert.MemKvDxSpecIdeal.main (F := Ideal))) ⟨m', fun _ => 0, g'⟩ (fun r => ∀ c : Dev Cert.MemKvDxSpecIdeal.nD,
          r.2.mem ((c.tc : Thread Cert.MemKvDxSpecIdeal.nD Cert.MemKvDxSpecIdeal.τ).loc Cert.MemKvDxSpecIdeal.main_v4) = v0 c
          ∧ r.2.mem ((c.tc : Thread Cert.MemKvDxSpecIdeal.nD Cert.MemKvDxSpecIdeal.τ).loc Cert.MemKvDxSpecIdeal.main_arg0) = m' ((c.tc : Thread Cert.MemKvDxSpecIdeal.nD Cert.MemKvDxSpecIdeal.τ).loc Cert.MemKvDxSpecIdeal.main_arg0)
          ∧ r.2.mem ((c.tc : Thread Cert.MemKvDxSpecIdeal.nD Cert.MemKvDxSpecIdeal.τ).loc Cert.MemKvDxSpecIdeal.main_arg1) = m' ((c.tc : Thread Cert.MemKvDxSpecIdeal.nD Cert.MemKvDxSpecIdeal.τ).loc Cert.MemKvDxSpecIdeal.main_arg1))

def preserves_MemKvDw_MemKvDwIdeal : Prop :=
  True

def algebraic_MemKvDwIdeal_MemKvDwSpecIdeal [hMemKvDwIdeal : Cert.MemKvDwIdeal.Facts] [hMemKvDwSpecIdeal : Cert.MemKvDwSpecIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwSpecIdeal.nD Cert.MemKvDwSpecIdeal.τ Cert.MemKvDwSpecIdeal.sig) → Buf (Elt Ideal) ℓ) (g' : Dev Cert.MemKvDwSpecIdeal.nD → PrngReg), Pre_MemKvDwIdeal m →
    (∀ c : Dev Cert.MemKvDwIdeal.nD,
      m' ((c.tc : Thread Cert.MemKvDwSpecIdeal.nD Cert.MemKvDwSpecIdeal.τ).loc Cert.MemKvDwSpecIdeal.main_arg0) = m ((c.tc : Thread Cert.MemKvDwIdeal.nD Cert.MemKvDwIdeal.τ).loc Cert.MemKvDwIdeal.main_arg0)
      ∧ m' ((c.tc : Thread Cert.MemKvDwSpecIdeal.nD Cert.MemKvDwSpecIdeal.τ).loc Cert.MemKvDwSpecIdeal.main_arg1) = m ((c.tc : Thread Cert.MemKvDwIdeal.nD Cert.MemKvDwIdeal.τ).loc Cert.MemKvDwIdeal.main_arg1)) →
    ∃ (v0 : (c : Dev Cert.MemKvDwIdeal.nD) → Buf (Elt Ideal) ((c.tc : Thread Cert.MemKvDwIdeal.nD Cert.MemKvDwIdeal.τ).loc Cert.MemKvDwIdeal.main_v0)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v0) = v0 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ θ_run (Cert.MemKvDwSpecIdeal.defs (F := Ideal)) (onTc (τ := Cert.MemKvDwSpecIdeal.τ) (Cert.MemKvDwSpecIdeal.main (F := Ideal))) ⟨m', fun _ => 0, g'⟩ (fun r => ∀ c : Dev Cert.MemKvDwSpecIdeal.nD,
          r.2.mem ((c.tc : Thread Cert.MemKvDwSpecIdeal.nD Cert.MemKvDwSpecIdeal.τ).loc Cert.MemKvDwSpecIdeal.main_v6) = v0 c
          ∧ r.2.mem ((c.tc : Thread Cert.MemKvDwSpecIdeal.nD Cert.MemKvDwSpecIdeal.τ).loc Cert.MemKvDwSpecIdeal.main_arg0) = m' ((c.tc : Thread Cert.MemKvDwSpecIdeal.nD Cert.MemKvDwSpecIdeal.τ).loc Cert.MemKvDwSpecIdeal.main_arg0)
          ∧ r.2.mem ((c.tc : Thread Cert.MemKvDwSpecIdeal.nD Cert.MemKvDwSpecIdeal.τ).loc Cert.MemKvDwSpecIdeal.main_arg1) = m' ((c.tc : Thread Cert.MemKvDwSpecIdeal.nD Cert.MemKvDwSpecIdeal.τ).loc Cert.MemKvDwSpecIdeal.main_arg1))

def preserves_AInDw_AInDwIdeal : Prop :=
  True

def algebraic_AInDwIdeal_AInDwSpecIdeal [hAInDwIdeal : Cert.AInDwIdeal.Facts] [hAInDwSpecIdeal : Cert.AInDwSpecIdeal.Facts] : Prop :=
  ∀ (m : (ℓ : Loc Cert.AInDwIdeal.nD Cert.AInDwIdeal.τ Cert.AInDwIdeal.sig) → Buf (Elt Ideal) ℓ) (g : Dev Cert.AInDwIdeal.nD → PrngReg)
    (m' : (ℓ : Loc Cert.AInDwSpecIdeal.nD Cert.AInDwSpecIdeal.τ Cert.AInDwSpecIdeal.sig) → Buf (Elt Ideal) ℓ) (g' : Dev Cert.AInDwSpecIdeal.nD → PrngReg), Pre_AInDwIdeal m →
    (∀ c : Dev Cert.AInDwIdeal.nD,
      m' ((c.tc : Thread Cert.AInDwSpecIdeal.nD Cert.AInDwSpecIdeal.τ).loc Cert.AInDwSpecIdeal.main_arg0) = m ((c.tc : Thread Cert.AInDwIdeal.nD Cert.AInDwIdeal.τ).loc Cert.AInDwIdeal.main_arg0)
      ∧ m' ((c.tc : Thread Cert.AInDwSpecIdeal.nD Cert.AInDwSpecIdeal.τ).loc Cert.AInDwSpecIdeal.main_arg1) = m ((c.tc : Thread Cert.AInDwIdeal.nD Cert.AInDwIdeal.τ).loc Cert.AInDwIdeal.main_arg1)) →
    ∃ (v0 : (c : Dev Cert.AInDwIdeal.nD) → Buf (Elt Ideal) ((c.tc : Thread Cert.AInDwIdeal.nD Cert.AInDwIdeal.τ).loc Cert.AInDwIdeal.main_v0)),
      θ_run (Cert.AInDwIdeal.defs (F := Ideal)) (onTc (τ := Cert.AInDwIdeal.τ) (Cert.AInDwIdeal.main (F := Ideal))) ⟨m, fun _ => 0, g⟩ (fun r => ∀ c : Dev Cert.AInDwIdeal.nD,
          r.2.mem ((c.tc : Thread Cert.AInDwIdeal.nD Cert.AInDwIdeal.τ).loc Cert.AInDwIdeal.main_v0) = v0 c
          ∧ r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
          ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ θ_run (Cert.AInDwSpecIdeal.defs (F := Ideal)) (onTc (τ := Cert.AInDwSpecIdeal.τ) (Cert.AInDwSpecIdeal.main (F := Ideal))) ⟨m', fun _ => 0, g'⟩ (fun r => ∀ c : Dev Cert.AInDwSpecIdeal.nD,
          r.2.mem ((c.tc : Thread Cert.AInDwSpecIdeal.nD Cert.AInDwSpecIdeal.τ).loc Cert.AInDwSpecIdeal.main_v8) = v0 c
          ∧ r.2.mem ((c.tc : Thread Cert.AInDwSpecIdeal.nD Cert.AInDwSpecIdeal.τ).loc Cert.AInDwSpecIdeal.main_arg0) = m' ((c.tc : Thread Cert.AInDwSpecIdeal.nD Cert.AInDwSpecIdeal.τ).loc Cert.AInDwSpecIdeal.main_arg0)
          ∧ r.2.mem ((c.tc : Thread Cert.AInDwSpecIdeal.nD Cert.AInDwSpecIdeal.τ).loc Cert.AInDwSpecIdeal.main_arg1) = m' ((c.tc : Thread Cert.AInDwSpecIdeal.nD Cert.AInDwSpecIdeal.τ).loc Cert.AInDwSpecIdeal.main_arg1))

def preserves_AInDx_AInDxIdeal : Prop :=
  True

def algebraic_AInDxIdeal_AInDxSpecIdeal [hAInDxIdeal : Cert.AInDxIdeal.Facts] [hAInDxSpecIdeal : Cert.AInDxSpecIdeal.Facts] : Prop :=
  ∀ (m : (ℓ : Loc Cert.AInDxIdeal.nD Cert.AInDxIdeal.τ Cert.AInDxIdeal.sig) → Buf (Elt Ideal) ℓ) (g : Dev Cert.AInDxIdeal.nD → PrngReg)
    (m' : (ℓ : Loc Cert.AInDxSpecIdeal.nD Cert.AInDxSpecIdeal.τ Cert.AInDxSpecIdeal.sig) → Buf (Elt Ideal) ℓ) (g' : Dev Cert.AInDxSpecIdeal.nD → PrngReg), Pre_AInDxIdeal m →
    (∀ c : Dev Cert.AInDxIdeal.nD,
      m' ((c.tc : Thread Cert.AInDxSpecIdeal.nD Cert.AInDxSpecIdeal.τ).loc Cert.AInDxSpecIdeal.main_arg0) = m ((c.tc : Thread Cert.AInDxIdeal.nD Cert.AInDxIdeal.τ).loc Cert.AInDxIdeal.main_arg0)
      ∧ m' ((c.tc : Thread Cert.AInDxSpecIdeal.nD Cert.AInDxSpecIdeal.τ).loc Cert.AInDxSpecIdeal.main_arg1) = m ((c.tc : Thread Cert.AInDxIdeal.nD Cert.AInDxIdeal.τ).loc Cert.AInDxIdeal.main_arg1)) →
    ∃ (v0 : (c : Dev Cert.AInDxIdeal.nD) → Buf (Elt Ideal) ((c.tc : Thread Cert.AInDxIdeal.nD Cert.AInDxIdeal.τ).loc Cert.AInDxIdeal.main_v0)),
      θ_run (Cert.AInDxIdeal.defs (F := Ideal)) (onTc (τ := Cert.AInDxIdeal.τ) (Cert.AInDxIdeal.main (F := Ideal))) ⟨m, fun _ => 0, g⟩ (fun r => ∀ c : Dev Cert.AInDxIdeal.nD,
          r.2.mem ((c.tc : Thread Cert.AInDxIdeal.nD Cert.AInDxIdeal.τ).loc Cert.AInDxIdeal.main_v0) = v0 c
          ∧ r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
          ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ θ_run (Cert.AInDxSpecIdeal.defs (F := Ideal)) (onTc (τ := Cert.AInDxSpecIdeal.τ) (Cert.AInDxSpecIdeal.main (F := Ideal))) ⟨m', fun _ => 0, g'⟩ (fun r => ∀ c : Dev Cert.AInDxSpecIdeal.nD,
          r.2.mem ((c.tc : Thread Cert.AInDxSpecIdeal.nD Cert.AInDxSpecIdeal.τ).loc Cert.AInDxSpecIdeal.main_v4) = v0 c
          ∧ r.2.mem ((c.tc : Thread Cert.AInDxSpecIdeal.nD Cert.AInDxSpecIdeal.τ).loc Cert.AInDxSpecIdeal.main_arg0) = m' ((c.tc : Thread Cert.AInDxSpecIdeal.nD Cert.AInDxSpecIdeal.τ).loc Cert.AInDxSpecIdeal.main_arg0)
          ∧ r.2.mem ((c.tc : Thread Cert.AInDxSpecIdeal.nD Cert.AInDxSpecIdeal.τ).loc Cert.AInDxSpecIdeal.main_arg1) = m' ((c.tc : Thread Cert.AInDxSpecIdeal.nD Cert.AInDxSpecIdeal.τ).loc Cert.AInDxSpecIdeal.main_arg1))

def preserves_AdamAIn_AdamAInIdeal : Prop :=
  True

def algebraic_AdamAInIdeal_AdamAInSpecIdeal [hAdamAInIdeal : Cert.AdamAInIdeal.Facts] [hAdamAInSpecIdeal : Cert.AdamAInSpecIdeal.Facts] : Prop :=
  ∀ (m : (ℓ : Loc Cert.AdamAInIdeal.nD Cert.AdamAInIdeal.τ Cert.AdamAInIdeal.sig) → Buf (Elt Ideal) ℓ) (g : Dev Cert.AdamAInIdeal.nD → PrngReg)
    (m' : (ℓ : Loc Cert.AdamAInSpecIdeal.nD Cert.AdamAInSpecIdeal.τ Cert.AdamAInSpecIdeal.sig) → Buf (Elt Ideal) ℓ) (g' : Dev Cert.AdamAInSpecIdeal.nD → PrngReg), Pre_AdamAInIdeal m →
    (∀ c : Dev Cert.AdamAInIdeal.nD,
      m' ((c.tc : Thread Cert.AdamAInSpecIdeal.nD Cert.AdamAInSpecIdeal.τ).loc Cert.AdamAInSpecIdeal.main_arg0) = m ((c.tc : Thread Cert.AdamAInIdeal.nD Cert.AdamAInIdeal.τ).loc Cert.AdamAInIdeal.main_arg0)
      ∧ m' ((c.tc : Thread Cert.AdamAInSpecIdeal.nD Cert.AdamAInSpecIdeal.τ).loc Cert.AdamAInSpecIdeal.main_arg1) = m ((c.tc : Thread Cert.AdamAInIdeal.nD Cert.AdamAInIdeal.τ).loc Cert.AdamAInIdeal.main_arg1)
      ∧ m' ((c.tc : Thread Cert.AdamAInSpecIdeal.nD Cert.AdamAInSpecIdeal.τ).loc Cert.AdamAInSpecIdeal.main_arg2) = m ((c.tc : Thread Cert.AdamAInIdeal.nD Cert.AdamAInIdeal.τ).loc Cert.AdamAInIdeal.main_arg2)
      ∧ m' ((c.tc : Thread Cert.AdamAInSpecIdeal.nD Cert.AdamAInSpecIdeal.τ).loc Cert.AdamAInSpecIdeal.main_arg3) = m ((c.tc : Thread Cert.AdamAInIdeal.nD Cert.AdamAInIdeal.τ).loc Cert.AdamAInIdeal.main_arg3)
      ∧ m' ((c.tc : Thread Cert.AdamAInSpecIdeal.nD Cert.AdamAInSpecIdeal.τ).loc Cert.AdamAInSpecIdeal.main_arg4) = m ((c.tc : Thread Cert.AdamAInIdeal.nD Cert.AdamAInIdeal.τ).loc Cert.AdamAInIdeal.main_arg4)) →
    ∃ (v0 : (c : Dev Cert.AdamAInIdeal.nD) → Buf (Elt Ideal) ((c.tc : Thread Cert.AdamAInIdeal.nD Cert.AdamAInIdeal.τ).loc Cert.AdamAInIdeal.main_v0_0)) (v1 : (c : Dev Cert.AdamAInIdeal.nD) → Buf (Elt Ideal) ((c.tc : Thread Cert.AdamAInIdeal.nD Cert.AdamAInIdeal.τ).loc Cert.AdamAInIdeal.main_v0_1)) (v2 : (c : Dev Cert.AdamAInIdeal.nD) → Buf (Elt Ideal) ((c.tc : Thread Cert.AdamAInIdeal.nD Cert.AdamAInIdeal.τ).loc Cert.AdamAInIdeal.main_v0_2)) (v3 : (c : Dev Cert.AdamAInIdeal.nD) → Buf (Elt Ideal) ((c.tc : Thread Cert.AdamAInIdeal.nD Cert.AdamAInIdeal.τ).loc Cert.AdamAInIdeal.main_v0_3)),
      θ_run (Cert.AdamAInIdeal.defs (F := Ideal)) (onTc (τ := Cert.AdamAInIdeal.τ) (Cert.AdamAInIdeal.main (F := Ideal))) ⟨m, fun _ => 0, g⟩ (fun r => ∀ c : Dev Cert.AdamAInIdeal.nD,
          r.2.mem ((c.tc : Thread Cert.AdamAInIdeal.nD Cert.AdamAInIdeal.τ).loc Cert.AdamAInIdeal.main_v0_0) = v0 c
          ∧ r.2.mem ((c.tc : Thread Cert.AdamAInIdeal.nD Cert.AdamAInIdeal.τ).loc Cert.AdamAInIdeal.main_v0_1) = v1 c
          ∧ r.2.mem ((c.tc : Thread Cert.AdamAInIdeal.nD Cert.AdamAInIdeal.τ).loc Cert.AdamAInIdeal.main_v0_2) = v2 c
          ∧ r.2.mem ((c.tc : Thread Cert.AdamAInIdeal.nD Cert.AdamAInIdeal.τ).loc Cert.AdamAInIdeal.main_v0_3) = v3 c
          ∧ r.2.mem ((c.tc : Thread Cert.AdamAInIdeal.nD Cert.AdamAInIdeal.τ).loc Cert.AdamAInIdeal.main_arg0) = m ((c.tc : Thread Cert.AdamAInIdeal.nD Cert.AdamAInIdeal.τ).loc Cert.AdamAInIdeal.main_arg0)
          ∧ r.2.mem ((c.tc : Thread Cert.AdamAInIdeal.nD Cert.AdamAInIdeal.τ).loc Cert.AdamAInIdeal.main_arg1) = m ((c.tc : Thread Cert.AdamAInIdeal.nD Cert.AdamAInIdeal.τ).loc Cert.AdamAInIdeal.main_arg1)
          ∧ r.2.mem ((c.tc : Thread Cert.AdamAInIdeal.nD Cert.AdamAInIdeal.τ).loc Cert.AdamAInIdeal.main_arg2) = m ((c.tc : Thread Cert.AdamAInIdeal.nD Cert.AdamAInIdeal.τ).loc Cert.AdamAInIdeal.main_arg2)
          ∧ r.2.mem ((c.tc : Thread Cert.AdamAInIdeal.nD Cert.AdamAInIdeal.τ).loc Cert.AdamAInIdeal.main_arg3) = m ((c.tc : Thread Cert.AdamAInIdeal.nD Cert.AdamAInIdeal.τ).loc Cert.AdamAInIdeal.main_arg3)
          ∧ r.2.mem ((c.tc : Thread Cert.AdamAInIdeal.nD Cert.AdamAInIdeal.τ).loc Cert.AdamAInIdeal.main_arg4) = m ((c.tc : Thread Cert.AdamAInIdeal.nD Cert.AdamAInIdeal.τ).loc Cert.AdamAInIdeal.main_arg4))
      ∧ θ_run (Cert.AdamAInSpecIdeal.defs (F := Ideal)) (onTc (τ := Cert.AdamAInSpecIdeal.τ) (Cert.AdamAInSpecIdeal.main (F := Ideal))) ⟨m', fun _ => 0, g'⟩ (fun r => ∀ c : Dev Cert.AdamAInSpecIdeal.nD,
          r.2.mem ((c.tc : Thread Cert.AdamAInSpecIdeal.nD Cert.AdamAInSpecIdeal.τ).loc Cert.AdamAInSpecIdeal.main_v0) = v0 c
          ∧ r.2.mem ((c.tc : Thread Cert.AdamAInSpecIdeal.nD Cert.AdamAInSpecIdeal.τ).loc Cert.AdamAInSpecIdeal.main_v24) = v1 c
          ∧ r.2.mem ((c.tc : Thread Cert.AdamAInSpecIdeal.nD Cert.AdamAInSpecIdeal.τ).loc Cert.AdamAInSpecIdeal.main_v5) = v2 c
          ∧ r.2.mem ((c.tc : Thread Cert.AdamAInSpecIdeal.nD Cert.AdamAInSpecIdeal.τ).loc Cert.AdamAInSpecIdeal.main_v11) = v3 c
          ∧ r.2.mem ((c.tc : Thread Cert.AdamAInSpecIdeal.nD Cert.AdamAInSpecIdeal.τ).loc Cert.AdamAInSpecIdeal.main_arg0) = m' ((c.tc : Thread Cert.AdamAInSpecIdeal.nD Cert.AdamAInSpecIdeal.τ).loc Cert.AdamAInSpecIdeal.main_arg0)
          ∧ r.2.mem ((c.tc : Thread Cert.AdamAInSpecIdeal.nD Cert.AdamAInSpecIdeal.τ).loc Cert.AdamAInSpecIdeal.main_arg1) = m' ((c.tc : Thread Cert.AdamAInSpecIdeal.nD Cert.AdamAInSpecIdeal.τ).loc Cert.AdamAInSpecIdeal.main_arg1)
          ∧ r.2.mem ((c.tc : Thread Cert.AdamAInSpecIdeal.nD Cert.AdamAInSpecIdeal.τ).loc Cert.AdamAInSpecIdeal.main_arg2) = m' ((c.tc : Thread Cert.AdamAInSpecIdeal.nD Cert.AdamAInSpecIdeal.τ).loc Cert.AdamAInSpecIdeal.main_arg2)
          ∧ r.2.mem ((c.tc : Thread Cert.AdamAInSpecIdeal.nD Cert.AdamAInSpecIdeal.τ).loc Cert.AdamAInSpecIdeal.main_arg3) = m' ((c.tc : Thread Cert.AdamAInSpecIdeal.nD Cert.AdamAInSpecIdeal.τ).loc Cert.AdamAInSpecIdeal.main_arg3)
          ∧ r.2.mem ((c.tc : Thread Cert.AdamAInSpecIdeal.nD Cert.AdamAInSpecIdeal.τ).loc Cert.AdamAInSpecIdeal.main_arg4) = m' ((c.tc : Thread Cert.AdamAInSpecIdeal.nD Cert.AdamAInSpecIdeal.τ).loc Cert.AdamAInSpecIdeal.main_arg4))

def preserves_AdamOut_AdamOutIdeal : Prop :=
  True

def algebraic_AdamOutIdeal_AdamOutSpecIdeal [hAdamOutIdeal : Cert.AdamOutIdeal.Facts] [hAdamOutSpecIdeal : Cert.AdamOutSpecIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutSpecIdeal.nD Cert.AdamOutSpecIdeal.τ Cert.AdamOutSpecIdeal.sig) → Buf (Elt Ideal) ℓ) (g' : Dev Cert.AdamOutSpecIdeal.nD → PrngReg), Pre_AdamOutIdeal m →
    (∀ c : Dev Cert.AdamOutIdeal.nD,
      m' ((c.tc : Thread Cert.AdamOutSpecIdeal.nD Cert.AdamOutSpecIdeal.τ).loc Cert.AdamOutSpecIdeal.main_arg0) = m ((c.tc : Thread Cert.AdamOutIdeal.nD Cert.AdamOutIdeal.τ).loc Cert.AdamOutIdeal.main_arg0)
      ∧ m' ((c.tc : Thread Cert.AdamOutSpecIdeal.nD Cert.AdamOutSpecIdeal.τ).loc Cert.AdamOutSpecIdeal.main_arg1) = m ((c.tc : Thread Cert.AdamOutIdeal.nD Cert.AdamOutIdeal.τ).loc Cert.AdamOutIdeal.main_arg1)
      ∧ m' ((c.tc : Thread Cert.AdamOutSpecIdeal.nD Cert.AdamOutSpecIdeal.τ).loc Cert.AdamOutSpecIdeal.main_arg2) = m ((c.tc : Thread Cert.AdamOutIdeal.nD Cert.AdamOutIdeal.τ).loc Cert.AdamOutIdeal.main_arg2)
      ∧ m' ((c.tc : Thread Cert.AdamOutSpecIdeal.nD Cert.AdamOutSpecIdeal.τ).loc Cert.AdamOutSpecIdeal.main_arg3) = m ((c.tc : Thread Cert.AdamOutIdeal.nD Cert.AdamOutIdeal.τ).loc Cert.AdamOutIdeal.main_arg3)
      ∧ m' ((c.tc : Thread Cert.AdamOutSpecIdeal.nD Cert.AdamOutSpecIdeal.τ).loc Cert.AdamOutSpecIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutSpecIdeal.defs (F := Ideal)) (onTc (τ := Cert.AdamOutSpecIdeal.τ) (Cert.AdamOutSpecIdeal.main (F := Ideal))) ⟨m', fun _ => 0, g'⟩ (fun r => ∀ c : Dev Cert.AdamOutSpecIdeal.nD,
          r.2.mem ((c.tc : Thread Cert.AdamOutSpecIdeal.nD Cert.AdamOutSpecIdeal.τ).loc Cert.AdamOutSpecIdeal.main_v0) = v0 c
          ∧ r.2.mem ((c.tc : Thread Cert.AdamOutSpecIdeal.nD Cert.AdamOutSpecIdeal.τ).loc Cert.AdamOutSpecIdeal.main_v24) = v1 c
          ∧ r.2.mem ((c.tc : Thread Cert.AdamOutSpecIdeal.nD Cert.AdamOutSpecIdeal.τ).loc Cert.AdamOutSpecIdeal.main_v5) = v2 c
          ∧ r.2.mem ((c.tc : Thread Cert.AdamOutSpecIdeal.nD Cert.AdamOutSpecIdeal.τ).loc Cert.AdamOutSpecIdeal.main_v11) = v3 c
          ∧ r.2.mem ((c.tc : Thread Cert.AdamOutSpecIdeal.nD Cert.AdamOutSpecIdeal.τ).loc Cert.AdamOutSpecIdeal.main_arg0) = m' ((c.tc : Thread Cert.AdamOutSpecIdeal.nD Cert.AdamOutSpecIdeal.τ).loc Cert.AdamOutSpecIdeal.main_arg0)
          ∧ r.2.mem ((c.tc : Thread Cert.AdamOutSpecIdeal.nD Cert.AdamOutSpecIdeal.τ).loc Cert.AdamOutSpecIdeal.main_arg1) = m' ((c.tc : Thread Cert.AdamOutSpecIdeal.nD Cert.AdamOutSpecIdeal.τ).loc Cert.AdamOutSpecIdeal.main_arg1)
          ∧ r.2.mem ((c.tc : Thread Cert.AdamOutSpecIdeal.nD Cert.AdamOutSpecIdeal.τ).loc Cert.AdamOutSpecIdeal.main_arg2) = m' ((c.tc : Thread Cert.AdamOutSpecIdeal.nD Cert.AdamOutSpecIdeal.τ).loc Cert.AdamOutSpecIdeal.main_arg2)
          ∧ r.2.mem ((c.tc : Thread Cert.AdamOutSpecIdeal.nD Cert.AdamOutSpecIdeal.τ).loc Cert.AdamOutSpecIdeal.main_arg3) = m' ((c.tc : Thread Cert.AdamOutSpecIdeal.nD Cert.AdamOutSpecIdeal.τ).loc Cert.AdamOutSpecIdeal.main_arg3)
          ∧ r.2.mem ((c.tc : Thread Cert.AdamOutSpecIdeal.nD Cert.AdamOutSpecIdeal.τ).loc Cert.AdamOutSpecIdeal.main_arg4) = m' ((c.tc : Thread Cert.AdamOutSpecIdeal.nD Cert.AdamOutSpecIdeal.τ).loc Cert.AdamOutSpecIdeal.main_arg4))

def preserves_AdamMemKv_AdamMemKvIdeal : Prop :=
  True

def algebraic_AdamMemKvIdeal_AdamMemKvSpecIdeal [hAdamMemKvIdeal : Cert.AdamMemKvIdeal.Facts] [hAdamMemKvSpecIdeal : Cert.AdamMemKvSpecIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg)
    (m' : (ℓ : Loc Cert.AdamMemKvSpecIdeal.nD Cert.AdamMemKvSpecIdeal.τ Cert.AdamMemKvSpecIdeal.sig) → Buf (Elt Ideal) ℓ) (g' : Dev Cert.AdamMemKvSpecIdeal.nD → PrngReg), Pre_AdamMemKvIdeal m →
    (∀ c : Dev Cert.AdamMemKvIdeal.nD,
      m' ((c.tc : Thread Cert.AdamMemKvSpecIdeal.nD Cert.AdamMemKvSpecIdeal.τ).loc Cert.AdamMemKvSpecIdeal.main_arg0) = m ((c.tc : Thread Cert.AdamMemKvIdeal.nD Cert.AdamMemKvIdeal.τ).loc Cert.AdamMemKvIdeal.main_arg0)
      ∧ m' ((c.tc : Thread Cert.AdamMemKvSpecIdeal.nD Cert.AdamMemKvSpecIdeal.τ).loc Cert.AdamMemKvSpecIdeal.main_arg1) = m ((c.tc : Thread Cert.AdamMemKvIdeal.nD Cert.AdamMemKvIdeal.τ).loc Cert.AdamMemKvIdeal.main_arg1)
      ∧ m' ((c.tc : Thread Cert.AdamMemKvSpecIdeal.nD Cert.AdamMemKvSpecIdeal.τ).loc Cert.AdamMemKvSpecIdeal.main_arg2) = m ((c.tc : Thread Cert.AdamMemKvIdeal.nD Cert.AdamMemKvIdeal.τ).loc Cert.AdamMemKvIdeal.main_arg2)
      ∧ m' ((c.tc : Thread Cert.AdamMemKvSpecIdeal.nD Cert.AdamMemKvSpecIdeal.τ).loc Cert.AdamMemKvSpecIdeal.main_arg3) = m ((c.tc : Thread Cert.AdamMemKvIdeal.nD Cert.AdamMemKvIdeal.τ).loc Cert.AdamMemKvIdeal.main_arg3)
      ∧ m' ((c.tc : Thread Cert.AdamMemKvSpecIdeal.nD Cert.AdamMemKvSpecIdeal.τ).loc Cert.AdamMemKvSpecIdeal.main_arg4) = m ((c.tc : Thread Cert.AdamMemKvIdeal.nD Cert.AdamMemKvIdeal.τ).loc Cert.AdamMemKvIdeal.main_arg4)) →
    ∃ (v0 : (c : Dev Cert.AdamMemKvIdeal.nD) → Buf (Elt Ideal) ((c.tc : Thread Cert.AdamMemKvIdeal.nD Cert.AdamMemKvIdeal.τ).loc Cert.AdamMemKvIdeal.main_v0_0)) (v1 : (c : Dev Cert.AdamMemKvIdeal.nD) → Buf (Elt Ideal) ((c.tc : Thread Cert.AdamMemKvIdeal.nD Cert.AdamMemKvIdeal.τ).loc Cert.AdamMemKvIdeal.main_v0_1)) (v2 : (c : Dev Cert.AdamMemKvIdeal.nD) → Buf (Elt Ideal) ((c.tc : Thread Cert.AdamMemKvIdeal.nD Cert.AdamMemKvIdeal.τ).loc Cert.AdamMemKvIdeal.main_v0_2)) (v3 : (c : Dev Cert.AdamMemKvIdeal.nD) → Buf (Elt Ideal) ((c.tc : Thread Cert.AdamMemKvIdeal.nD Cert.AdamMemKvIdeal.τ).loc Cert.AdamMemKvIdeal.main_v0_3)),
      θ_run (Cert.AdamMemKvIdeal.defs (F := Ideal)) (onTc (τ := Cert.AdamMemKvIdeal.τ) (Cert.AdamMemKvIdeal.main (F := Ideal))) ⟨m, fun _ => 0, g⟩ (fun r => ∀ c : Dev Cert.AdamMemKvIdeal.nD,
          r.2.mem ((c.tc : Thread Cert.AdamMemKvIdeal.nD Cert.AdamMemKvIdeal.τ).loc Cert.AdamMemKvIdeal.main_v0_0) = v0 c
          ∧ r.2.mem ((c.tc : Thread Cert.AdamMemKvIdeal.nD Cert.AdamMemKvIdeal.τ).loc Cert.AdamMemKvIdeal.main_v0_1) = v1 c
          ∧ r.2.mem ((c.tc : Thread Cert.AdamMemKvIdeal.nD Cert.AdamMemKvIdeal.τ).loc Cert.AdamMemKvIdeal.main_v0_2) = v2 c
          ∧ r.2.mem ((c.tc : Thread Cert.AdamMemKvIdeal.nD Cert.AdamMemKvIdeal.τ).loc Cert.AdamMemKvIdeal.main_v0_3) = v3 c
          ∧ r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
          ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
          ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
          ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
          ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4))
      ∧ θ_run (Cert.AdamMemKvSpecIdeal.defs (F := Ideal)) (onTc (τ := Cert.AdamMemKvSpecIdeal.τ) (Cert.AdamMemKvSpecIdeal.main (F := Ideal))) ⟨m', fun _ => 0, g'⟩ (fun r => ∀ c : Dev Cert.AdamMemKvSpecIdeal.nD,
          r.2.mem ((c.tc : Thread Cert.AdamMemKvSpecIdeal.nD Cert.AdamMemKvSpecIdeal.τ).loc Cert.AdamMemKvSpecIdeal.main_v0) = v0 c
          ∧ r.2.mem ((c.tc : Thread Cert.AdamMemKvSpecIdeal.nD Cert.AdamMemKvSpecIdeal.τ).loc Cert.AdamMemKvSpecIdeal.main_v24) = v1 c
          ∧ r.2.mem ((c.tc : Thread Cert.AdamMemKvSpecIdeal.nD Cert.AdamMemKvSpecIdeal.τ).loc Cert.AdamMemKvSpecIdeal.main_v5) = v2 c
          ∧ r.2.mem ((c.tc : Thread Cert.AdamMemKvSpecIdeal.nD Cert.AdamMemKvSpecIdeal.τ).loc Cert.AdamMemKvSpecIdeal.main_v11) = v3 c
          ∧ r.2.mem ((c.tc : Thread Cert.AdamMemKvSpecIdeal.nD Cert.AdamMemKvSpecIdeal.τ).loc Cert.AdamMemKvSpecIdeal.main_arg0) = m' ((c.tc : Thread Cert.AdamMemKvSpecIdeal.nD Cert.AdamMemKvSpecIdeal.τ).loc Cert.AdamMemKvSpecIdeal.main_arg0)
          ∧ r.2.mem ((c.tc : Thread Cert.AdamMemKvSpecIdeal.nD Cert.AdamMemKvSpecIdeal.τ).loc Cert.AdamMemKvSpecIdeal.main_arg1) = m' ((c.tc : Thread Cert.AdamMemKvSpecIdeal.nD Cert.AdamMemKvSpecIdeal.τ).loc Cert.AdamMemKvSpecIdeal.main_arg1)
          ∧ r.2.mem ((c.tc : Thread Cert.AdamMemKvSpecIdeal.nD Cert.AdamMemKvSpecIdeal.τ).loc Cert.AdamMemKvSpecIdeal.main_arg2) = m' ((c.tc : Thread Cert.AdamMemKvSpecIdeal.nD Cert.AdamMemKvSpecIdeal.τ).loc Cert.AdamMemKvSpecIdeal.main_arg2)
          ∧ r.2.mem ((c.tc : Thread Cert.AdamMemKvSpecIdeal.nD Cert.AdamMemKvSpecIdeal.τ).loc Cert.AdamMemKvSpecIdeal.main_arg3) = m' ((c.tc : Thread Cert.AdamMemKvSpecIdeal.nD Cert.AdamMemKvSpecIdeal.τ).loc Cert.AdamMemKvSpecIdeal.main_arg3)
          ∧ r.2.mem ((c.tc : Thread Cert.AdamMemKvSpecIdeal.nD Cert.AdamMemKvSpecIdeal.τ).loc Cert.AdamMemKvSpecIdeal.main_arg4) = m' ((c.tc : Thread Cert.AdamMemKvSpecIdeal.nD Cert.AdamMemKvSpecIdeal.τ).loc Cert.AdamMemKvSpecIdeal.main_arg4))

def preserves_AdamUp_AdamUpIdeal : Prop :=
  True

def algebraic_AdamUpIdeal_AdamUpSpecIdeal [hAdamUpIdeal : Cert.AdamUpIdeal.Facts] [hAdamUpSpecIdeal : Cert.AdamUpSpecIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpSpecIdeal.nD Cert.AdamUpSpecIdeal.τ Cert.AdamUpSpecIdeal.sig) → Buf (Elt Ideal) ℓ) (g' : Dev Cert.AdamUpSpecIdeal.nD → PrngReg), Pre_AdamUpIdeal m →
    (∀ c : Dev Cert.AdamUpIdeal.nD,
      m' ((c.tc : Thread Cert.AdamUpSpecIdeal.nD Cert.AdamUpSpecIdeal.τ).loc Cert.AdamUpSpecIdeal.main_arg0) = m ((c.tc : Thread Cert.AdamUpIdeal.nD Cert.AdamUpIdeal.τ).loc Cert.AdamUpIdeal.main_arg0)
      ∧ m' ((c.tc : Thread Cert.AdamUpSpecIdeal.nD Cert.AdamUpSpecIdeal.τ).loc Cert.AdamUpSpecIdeal.main_arg1) = m ((c.tc : Thread Cert.AdamUpIdeal.nD Cert.AdamUpIdeal.τ).loc Cert.AdamUpIdeal.main_arg1)
      ∧ m' ((c.tc : Thread Cert.AdamUpSpecIdeal.nD Cert.AdamUpSpecIdeal.τ).loc Cert.AdamUpSpecIdeal.main_arg2) = m ((c.tc : Thread Cert.AdamUpIdeal.nD Cert.AdamUpIdeal.τ).loc Cert.AdamUpIdeal.main_arg2)
      ∧ m' ((c.tc : Thread Cert.AdamUpSpecIdeal.nD Cert.AdamUpSpecIdeal.τ).loc Cert.AdamUpSpecIdeal.main_arg3) = m ((c.tc : Thread Cert.AdamUpIdeal.nD Cert.AdamUpIdeal.τ).loc Cert.AdamUpIdeal.main_arg3)
      ∧ m' ((c.tc : Thread Cert.AdamUpSpecIdeal.nD Cert.AdamUpSpecIdeal.τ).loc Cert.AdamUpSpecIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpSpecIdeal.defs (F := Ideal)) (onTc (τ := Cert.AdamUpSpecIdeal.τ) (Cert.AdamUpSpecIdeal.main (F := Ideal))) ⟨m', fun _ => 0, g'⟩ (fun r => ∀ c : Dev Cert.AdamUpSpecIdeal.nD,
          r.2.mem ((c.tc : Thread Cert.AdamUpSpecIdeal.nD Cert.AdamUpSpecIdeal.τ).loc Cert.AdamUpSpecIdeal.main_v0) = v0 c
          ∧ r.2.mem ((c.tc : Thread Cert.AdamUpSpecIdeal.nD Cert.AdamUpSpecIdeal.τ).loc Cert.AdamUpSpecIdeal.main_v24) = v1 c
          ∧ r.2.mem ((c.tc : Thread Cert.AdamUpSpecIdeal.nD Cert.AdamUpSpecIdeal.τ).loc Cert.AdamUpSpecIdeal.main_v5) = v2 c
          ∧ r.2.mem ((c.tc : Thread Cert.AdamUpSpecIdeal.nD Cert.AdamUpSpecIdeal.τ).loc Cert.AdamUpSpecIdeal.main_v11) = v3 c
          ∧ r.2.mem ((c.tc : Thread Cert.AdamUpSpecIdeal.nD Cert.AdamUpSpecIdeal.τ).loc Cert.AdamUpSpecIdeal.main_arg0) = m' ((c.tc : Thread Cert.AdamUpSpecIdeal.nD Cert.AdamUpSpecIdeal.τ).loc Cert.AdamUpSpecIdeal.main_arg0)
          ∧ r.2.mem ((c.tc : Thread Cert.AdamUpSpecIdeal.nD Cert.AdamUpSpecIdeal.τ).loc Cert.AdamUpSpecIdeal.main_arg1) = m' ((c.tc : Thread Cert.AdamUpSpecIdeal.nD Cert.AdamUpSpecIdeal.τ).loc Cert.AdamUpSpecIdeal.main_arg1)
          ∧ r.2.mem ((c.tc : Thread Cert.AdamUpSpecIdeal.nD Cert.AdamUpSpecIdeal.τ).loc Cert.AdamUpSpecIdeal.main_arg2) = m' ((c.tc : Thread Cert.AdamUpSpecIdeal.nD Cert.AdamUpSpecIdeal.τ).loc Cert.AdamUpSpecIdeal.main_arg2)
          ∧ r.2.mem ((c.tc : Thread Cert.AdamUpSpecIdeal.nD Cert.AdamUpSpecIdeal.τ).loc Cert.AdamUpSpecIdeal.main_arg3) = m' ((c.tc : Thread Cert.AdamUpSpecIdeal.nD Cert.AdamUpSpecIdeal.τ).loc Cert.AdamUpSpecIdeal.main_arg3)
          ∧ r.2.mem ((c.tc : Thread Cert.AdamUpSpecIdeal.nD Cert.AdamUpSpecIdeal.τ).loc Cert.AdamUpSpecIdeal.main_arg4) = m' ((c.tc : Thread Cert.AdamUpSpecIdeal.nD Cert.AdamUpSpecIdeal.τ).loc Cert.AdamUpSpecIdeal.main_arg4))

def preserves_AdamDown_AdamDownIdeal : Prop :=
  True

def algebraic_AdamDownIdeal_AdamDownSpecIdeal [hAdamDownIdeal : Cert.AdamDownIdeal.Facts] [hAdamDownSpecIdeal : Cert.AdamDownSpecIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownSpecIdeal.nD Cert.AdamDownSpecIdeal.τ Cert.AdamDownSpecIdeal.sig) → Buf (Elt Ideal) ℓ) (g' : Dev Cert.AdamDownSpecIdeal.nD → PrngReg), Pre_AdamDownIdeal m →
    (∀ c : Dev Cert.AdamDownIdeal.nD,
      m' ((c.tc : Thread Cert.AdamDownSpecIdeal.nD Cert.AdamDownSpecIdeal.τ).loc Cert.AdamDownSpecIdeal.main_arg0) = m ((c.tc : Thread Cert.AdamDownIdeal.nD Cert.AdamDownIdeal.τ).loc Cert.AdamDownIdeal.main_arg0)
      ∧ m' ((c.tc : Thread Cert.AdamDownSpecIdeal.nD Cert.AdamDownSpecIdeal.τ).loc Cert.AdamDownSpecIdeal.main_arg1) = m ((c.tc : Thread Cert.AdamDownIdeal.nD Cert.AdamDownIdeal.τ).loc Cert.AdamDownIdeal.main_arg1)
      ∧ m' ((c.tc : Thread Cert.AdamDownSpecIdeal.nD Cert.AdamDownSpecIdeal.τ).loc Cert.AdamDownSpecIdeal.main_arg2) = m ((c.tc : Thread Cert.AdamDownIdeal.nD Cert.AdamDownIdeal.τ).loc Cert.AdamDownIdeal.main_arg2)
      ∧ m' ((c.tc : Thread Cert.AdamDownSpecIdeal.nD Cert.AdamDownSpecIdeal.τ).loc Cert.AdamDownSpecIdeal.main_arg3) = m ((c.tc : Thread Cert.AdamDownIdeal.nD Cert.AdamDownIdeal.τ).loc Cert.AdamDownIdeal.main_arg3)
      ∧ m' ((c.tc : Thread Cert.AdamDownSpecIdeal.nD Cert.AdamDownSpecIdeal.τ).loc Cert.AdamDownSpecIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownSpecIdeal.defs (F := Ideal)) (onTc (τ := Cert.AdamDownSpecIdeal.τ) (Cert.AdamDownSpecIdeal.main (F := Ideal))) ⟨m', fun _ => 0, g'⟩ (fun r => ∀ c : Dev Cert.AdamDownSpecIdeal.nD,
          r.2.mem ((c.tc : Thread Cert.AdamDownSpecIdeal.nD Cert.AdamDownSpecIdeal.τ).loc Cert.AdamDownSpecIdeal.main_v0) = v0 c
          ∧ r.2.mem ((c.tc : Thread Cert.AdamDownSpecIdeal.nD Cert.AdamDownSpecIdeal.τ).loc Cert.AdamDownSpecIdeal.main_v24) = v1 c
          ∧ r.2.mem ((c.tc : Thread Cert.AdamDownSpecIdeal.nD Cert.AdamDownSpecIdeal.τ).loc Cert.AdamDownSpecIdeal.main_v5) = v2 c
          ∧ r.2.mem ((c.tc : Thread Cert.AdamDownSpecIdeal.nD Cert.AdamDownSpecIdeal.τ).loc Cert.AdamDownSpecIdeal.main_v11) = v3 c
          ∧ r.2.mem ((c.tc : Thread Cert.AdamDownSpecIdeal.nD Cert.AdamDownSpecIdeal.τ).loc Cert.AdamDownSpecIdeal.main_arg0) = m' ((c.tc : Thread Cert.AdamDownSpecIdeal.nD Cert.AdamDownSpecIdeal.τ).loc Cert.AdamDownSpecIdeal.main_arg0)
          ∧ r.2.mem ((c.tc : Thread Cert.AdamDownSpecIdeal.nD Cert.AdamDownSpecIdeal.τ).loc Cert.AdamDownSpecIdeal.main_arg1) = m' ((c.tc : Thread Cert.AdamDownSpecIdeal.nD Cert.AdamDownSpecIdeal.τ).loc Cert.AdamDownSpecIdeal.main_arg1)
          ∧ r.2.mem ((c.tc : Thread Cert.AdamDownSpecIdeal.nD Cert.AdamDownSpecIdeal.τ).loc Cert.AdamDownSpecIdeal.main_arg2) = m' ((c.tc : Thread Cert.AdamDownSpecIdeal.nD Cert.AdamDownSpecIdeal.τ).loc Cert.AdamDownSpecIdeal.main_arg2)
          ∧ r.2.mem ((c.tc : Thread Cert.AdamDownSpecIdeal.nD Cert.AdamDownSpecIdeal.τ).loc Cert.AdamDownSpecIdeal.main_arg3) = m' ((c.tc : Thread Cert.AdamDownSpecIdeal.nD Cert.AdamDownSpecIdeal.τ).loc Cert.AdamDownSpecIdeal.main_arg3)
          ∧ r.2.mem ((c.tc : Thread Cert.AdamDownSpecIdeal.nD Cert.AdamDownSpecIdeal.τ).loc Cert.AdamDownSpecIdeal.main_arg4) = m' ((c.tc : Thread Cert.AdamDownSpecIdeal.nD Cert.AdamDownSpecIdeal.τ).loc Cert.AdamDownSpecIdeal.main_arg4))

def preserves_AdamKv_AdamKvIdeal : Prop :=
  True

def algebraic_AdamKvIdeal_AdamKvSpecIdeal [hAdamKvIdeal : Cert.AdamKvIdeal.Facts] [hAdamKvSpecIdeal : Cert.AdamKvSpecIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvSpecIdeal.nD Cert.AdamKvSpecIdeal.τ Cert.AdamKvSpecIdeal.sig) → Buf (Elt Ideal) ℓ) (g' : Dev Cert.AdamKvSpecIdeal.nD → PrngReg), Pre_AdamKvIdeal m →
    (∀ c : Dev Cert.AdamKvIdeal.nD,
      m' ((c.tc : Thread Cert.AdamKvSpecIdeal.nD Cert.AdamKvSpecIdeal.τ).loc Cert.AdamKvSpecIdeal.main_arg0) = m ((c.tc : Thread Cert.AdamKvIdeal.nD Cert.AdamKvIdeal.τ).loc Cert.AdamKvIdeal.main_arg0)
      ∧ m' ((c.tc : Thread Cert.AdamKvSpecIdeal.nD Cert.AdamKvSpecIdeal.τ).loc Cert.AdamKvSpecIdeal.main_arg1) = m ((c.tc : Thread Cert.AdamKvIdeal.nD Cert.AdamKvIdeal.τ).loc Cert.AdamKvIdeal.main_arg1)
      ∧ m' ((c.tc : Thread Cert.AdamKvSpecIdeal.nD Cert.AdamKvSpecIdeal.τ).loc Cert.AdamKvSpecIdeal.main_arg2) = m ((c.tc : Thread Cert.AdamKvIdeal.nD Cert.AdamKvIdeal.τ).loc Cert.AdamKvIdeal.main_arg2)
      ∧ m' ((c.tc : Thread Cert.AdamKvSpecIdeal.nD Cert.AdamKvSpecIdeal.τ).loc Cert.AdamKvSpecIdeal.main_arg3) = m ((c.tc : Thread Cert.AdamKvIdeal.nD Cert.AdamKvIdeal.τ).loc Cert.AdamKvIdeal.main_arg3)
      ∧ m' ((c.tc : Thread Cert.AdamKvSpecIdeal.nD Cert.AdamKvSpecIdeal.τ).loc Cert.AdamKvSpecIdeal.main_arg4) = m ((c.tc : Thread Cert.AdamKvIdeal.nD Cert.AdamKvIdeal.τ).loc Cert.AdamKvIdeal.main_arg4)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ θ_run (Cert.AdamKvSpecIdeal.defs (F := Ideal)) (onTc (τ := Cert.AdamKvSpecIdeal.τ) (Cert.AdamKvSpecIdeal.main (F := Ideal))) ⟨m', fun _ => 0, g'⟩ (fun r => ∀ c : Dev Cert.AdamKvSpecIdeal.nD,
          r.2.mem ((c.tc : Thread Cert.AdamKvSpecIdeal.nD Cert.AdamKvSpecIdeal.τ).loc Cert.AdamKvSpecIdeal.main_v0) = v0 c
          ∧ r.2.mem ((c.tc : Thread Cert.AdamKvSpecIdeal.nD Cert.AdamKvSpecIdeal.τ).loc Cert.AdamKvSpecIdeal.main_v24) = v1 c
          ∧ r.2.mem ((c.tc : Thread Cert.AdamKvSpecIdeal.nD Cert.AdamKvSpecIdeal.τ).loc Cert.AdamKvSpecIdeal.main_v5) = v2 c
          ∧ r.2.mem ((c.tc : Thread Cert.AdamKvSpecIdeal.nD Cert.AdamKvSpecIdeal.τ).loc Cert.AdamKvSpecIdeal.main_v11) = v3 c
          ∧ r.2.mem ((c.tc : Thread Cert.AdamKvSpecIdeal.nD Cert.AdamKvSpecIdeal.τ).loc Cert.AdamKvSpecIdeal.main_arg0) = m' ((c.tc : Thread Cert.AdamKvSpecIdeal.nD Cert.AdamKvSpecIdeal.τ).loc Cert.AdamKvSpecIdeal.main_arg0)
          ∧ r.2.mem ((c.tc : Thread Cert.AdamKvSpecIdeal.nD Cert.AdamKvSpecIdeal.τ).loc Cert.AdamKvSpecIdeal.main_arg1) = m' ((c.tc : Thread Cert.AdamKvSpecIdeal.nD Cert.AdamKvSpecIdeal.τ).loc Cert.AdamKvSpecIdeal.main_arg1)
          ∧ r.2.mem ((c.tc : Thread Cert.AdamKvSpecIdeal.nD Cert.AdamKvSpecIdeal.τ).loc Cert.AdamKvSpecIdeal.main_arg2) = m' ((c.tc : Thread Cert.AdamKvSpecIdeal.nD Cert.AdamKvSpecIdeal.τ).loc Cert.AdamKvSpecIdeal.main_arg2)
          ∧ r.2.mem ((c.tc : Thread Cert.AdamKvSpecIdeal.nD Cert.AdamKvSpecIdeal.τ).loc Cert.AdamKvSpecIdeal.main_arg3) = m' ((c.tc : Thread Cert.AdamKvSpecIdeal.nD Cert.AdamKvSpecIdeal.τ).loc Cert.AdamKvSpecIdeal.main_arg3)
          ∧ r.2.mem ((c.tc : Thread Cert.AdamKvSpecIdeal.nD Cert.AdamKvSpecIdeal.τ).loc Cert.AdamKvSpecIdeal.main_arg4) = m' ((c.tc : Thread Cert.AdamKvSpecIdeal.nD Cert.AdamKvSpecIdeal.τ).loc Cert.AdamKvSpecIdeal.main_arg4))

def preserves_AdamNormShard_AdamNormShardIdeal : Prop :=
  True

def algebraic_AdamNormShardIdeal_AdamNormShardSpecIdeal [hAdamNormShardIdeal : Cert.AdamNormShardIdeal.Facts] [hAdamNormShardSpecIdeal : Cert.AdamNormShardSpecIdeal.Facts] : Prop :=
  ∀ (m : (ℓ : Loc Cert.AdamNormShardIdeal.nD Cert.AdamNormShardIdeal.τ Cert.AdamNormShardIdeal.sig) → Buf (Elt Ideal) ℓ) (g : Dev Cert.AdamNormShardIdeal.nD → PrngReg)
    (m' : (ℓ : Loc Cert.AdamNormShardSpecIdeal.nD Cert.AdamNormShardSpecIdeal.τ Cert.AdamNormShardSpecIdeal.sig) → Buf (Elt Ideal) ℓ) (g' : Dev Cert.AdamNormShardSpecIdeal.nD → PrngReg), Pre_AdamNormShardIdeal m →
    (∀ c : Dev Cert.AdamNormShardIdeal.nD,
      m' ((c.tc : Thread Cert.AdamNormShardSpecIdeal.nD Cert.AdamNormShardSpecIdeal.τ).loc Cert.AdamNormShardSpecIdeal.main_arg0) = m ((c.tc : Thread Cert.AdamNormShardIdeal.nD Cert.AdamNormShardIdeal.τ).loc Cert.AdamNormShardIdeal.main_arg0)
      ∧ m' ((c.tc : Thread Cert.AdamNormShardSpecIdeal.nD Cert.AdamNormShardSpecIdeal.τ).loc Cert.AdamNormShardSpecIdeal.main_arg1) = m ((c.tc : Thread Cert.AdamNormShardIdeal.nD Cert.AdamNormShardIdeal.τ).loc Cert.AdamNormShardIdeal.main_arg1)
      ∧ m' ((c.tc : Thread Cert.AdamNormShardSpecIdeal.nD Cert.AdamNormShardSpecIdeal.τ).loc Cert.AdamNormShardSpecIdeal.main_arg2) = m ((c.tc : Thread Cert.AdamNormShardIdeal.nD Cert.AdamNormShardIdeal.τ).loc Cert.AdamNormShardIdeal.main_arg2)
      ∧ m' ((c.tc : Thread Cert.AdamNormShardSpecIdeal.nD Cert.AdamNormShardSpecIdeal.τ).loc Cert.AdamNormShardSpecIdeal.main_arg3) = m ((c.tc : Thread Cert.AdamNormShardIdeal.nD Cert.AdamNormShardIdeal.τ).loc Cert.AdamNormShardIdeal.main_arg3)) →
    ∃ (v0 : (c : Dev Cert.AdamNormShardIdeal.nD) → Buf (Elt Ideal) ((c.tc : Thread Cert.AdamNormShardIdeal.nD Cert.AdamNormShardIdeal.τ).loc Cert.AdamNormShardIdeal.main_v0_0)) (v1 : (c : Dev Cert.AdamNormShardIdeal.nD) → Buf (Elt Ideal) ((c.tc : Thread Cert.AdamNormShardIdeal.nD Cert.AdamNormShardIdeal.τ).loc Cert.AdamNormShardIdeal.main_v0_1)) (v2 : (c : Dev Cert.AdamNormShardIdeal.nD) → Buf (Elt Ideal) ((c.tc : Thread Cert.AdamNormShardIdeal.nD Cert.AdamNormShardIdeal.τ).loc Cert.AdamNormShardIdeal.main_v0_2)) (v3 : (c : Dev Cert.AdamNormShardIdeal.nD) → Buf (Elt Ideal) ((c.tc : Thread Cert.AdamNormShardIdeal.nD Cert.AdamNormShardIdeal.τ).loc Cert.AdamNormShardIdeal.main_v0_3)),
      θ_run (Cert.AdamNormShardIdeal.defs (F := Ideal)) (onTc (τ := Cert.AdamNormShardIdeal.τ) (Cert.AdamNormShardIdeal.main (F := Ideal))) ⟨m, fun _ => 0, g⟩ (fun r => ∀ c : Dev Cert.AdamNormShardIdeal.nD,
          r.2.mem ((c.tc : Thread Cert.AdamNormShardIdeal.nD Cert.AdamNormShardIdeal.τ).loc Cert.AdamNormShardIdeal.main_v0_0) = v0 c
          ∧ r.2.mem ((c.tc : Thread Cert.AdamNormShardIdeal.nD Cert.AdamNormShardIdeal.τ).loc Cert.AdamNormShardIdeal.main_v0_1) = v1 c
          ∧ r.2.mem ((c.tc : Thread Cert.AdamNormShardIdeal.nD Cert.AdamNormShardIdeal.τ).loc Cert.AdamNormShardIdeal.main_v0_2) = v2 c
          ∧ r.2.mem ((c.tc : Thread Cert.AdamNormShardIdeal.nD Cert.AdamNormShardIdeal.τ).loc Cert.AdamNormShardIdeal.main_v0_3) = v3 c
          ∧ r.2.mem ((c.tc : Thread Cert.AdamNormShardIdeal.nD Cert.AdamNormShardIdeal.τ).loc Cert.AdamNormShardIdeal.main_arg0) = m ((c.tc : Thread Cert.AdamNormShardIdeal.nD Cert.AdamNormShardIdeal.τ).loc Cert.AdamNormShardIdeal.main_arg0)
          ∧ r.2.mem ((c.tc : Thread Cert.AdamNormShardIdeal.nD Cert.AdamNormShardIdeal.τ).loc Cert.AdamNormShardIdeal.main_arg1) = m ((c.tc : Thread Cert.AdamNormShardIdeal.nD Cert.AdamNormShardIdeal.τ).loc Cert.AdamNormShardIdeal.main_arg1)
          ∧ r.2.mem ((c.tc : Thread Cert.AdamNormShardIdeal.nD Cert.AdamNormShardIdeal.τ).loc Cert.AdamNormShardIdeal.main_arg2) = m ((c.tc : Thread Cert.AdamNormShardIdeal.nD Cert.AdamNormShardIdeal.τ).loc Cert.AdamNormShardIdeal.main_arg2)
          ∧ r.2.mem ((c.tc : Thread Cert.AdamNormShardIdeal.nD Cert.AdamNormShardIdeal.τ).loc Cert.AdamNormShardIdeal.main_arg3) = m ((c.tc : Thread Cert.AdamNormShardIdeal.nD Cert.AdamNormShardIdeal.τ).loc Cert.AdamNormShardIdeal.main_arg3))
      ∧ θ_run (Cert.AdamNormShardSpecIdeal.defs (F := Ideal)) (onTc (τ := Cert.AdamNormShardSpecIdeal.τ) (Cert.AdamNormShardSpecIdeal.main (F := Ideal))) ⟨m', fun _ => 0, g'⟩ (fun r => ∀ c : Dev Cert.AdamNormShardSpecIdeal.nD,
          r.2.mem ((c.tc : Thread Cert.AdamNormShardSpecIdeal.nD Cert.AdamNormShardSpecIdeal.τ).loc Cert.AdamNormShardSpecIdeal.main_arg1) = v0 c
          ∧ r.2.mem ((c.tc : Thread Cert.AdamNormShardSpecIdeal.nD Cert.AdamNormShardSpecIdeal.τ).loc Cert.AdamNormShardSpecIdeal.main_v23) = v1 c
          ∧ r.2.mem ((c.tc : Thread Cert.AdamNormShardSpecIdeal.nD Cert.AdamNormShardSpecIdeal.τ).loc Cert.AdamNormShardSpecIdeal.main_v4) = v2 c
          ∧ r.2.mem ((c.tc : Thread Cert.AdamNormShardSpecIdeal.nD Cert.AdamNormShardSpecIdeal.τ).loc Cert.AdamNormShardSpecIdeal.main_v10) = v3 c
          ∧ r.2.mem ((c.tc : Thread Cert.AdamNormShardSpecIdeal.nD Cert.AdamNormShardSpecIdeal.τ).loc Cert.AdamNormShardSpecIdeal.main_arg0) = m' ((c.tc : Thread Cert.AdamNormShardSpecIdeal.nD Cert.AdamNormShardSpecIdeal.τ).loc Cert.AdamNormShardSpecIdeal.main_arg0)
          ∧ r.2.mem ((c.tc : Thread Cert.AdamNormShardSpecIdeal.nD Cert.AdamNormShardSpecIdeal.τ).loc Cert.AdamNormShardSpecIdeal.main_arg1) = m' ((c.tc : Thread Cert.AdamNormShardSpecIdeal.nD Cert.AdamNormShardSpecIdeal.τ).loc Cert.AdamNormShardSpecIdeal.main_arg1)
          ∧ r.2.mem ((c.tc : Thread Cert.AdamNormShardSpecIdeal.nD Cert.AdamNormShardSpecIdeal.τ).loc Cert.AdamNormShardSpecIdeal.main_arg2) = m' ((c.tc : Thread Cert.AdamNormShardSpecIdeal.nD Cert.AdamNormShardSpecIdeal.τ).loc Cert.AdamNormShardSpecIdeal.main_arg2)
          ∧ r.2.mem ((c.tc : Thread Cert.AdamNormShardSpecIdeal.nD Cert.AdamNormShardSpecIdeal.τ).loc Cert.AdamNormShardSpecIdeal.main_arg3) = m' ((c.tc : Thread Cert.AdamNormShardSpecIdeal.nD Cert.AdamNormShardSpecIdeal.τ).loc Cert.AdamNormShardSpecIdeal.main_arg3))

def preserves_AdamConv_AdamConvIdeal : Prop :=
  True

def algebraic_AdamConvIdeal_AdamConvSpecIdeal [hAdamConvIdeal : Cert.AdamConvIdeal.Facts] [hAdamConvSpecIdeal : Cert.AdamConvSpecIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvSpecIdeal.nD Cert.AdamConvSpecIdeal.τ Cert.AdamConvSpecIdeal.sig) → Buf (Elt Ideal) ℓ) (g' : Dev Cert.AdamConvSpecIdeal.nD → PrngReg), Pre_AdamConvIdeal m →
    (∀ c : Dev Cert.AdamConvIdeal.nD,
      m' ((c.tc : Thread Cert.AdamConvSpecIdeal.nD Cert.AdamConvSpecIdeal.τ).loc Cert.AdamConvSpecIdeal.main_arg0) = m ((c.tc : Thread Cert.AdamConvIdeal.nD Cert.AdamConvIdeal.τ).loc Cert.AdamConvIdeal.main_arg0)
      ∧ m' ((c.tc : Thread Cert.AdamConvSpecIdeal.nD Cert.AdamConvSpecIdeal.τ).loc Cert.AdamConvSpecIdeal.main_arg1) = m ((c.tc : Thread Cert.AdamConvIdeal.nD Cert.AdamConvIdeal.τ).loc Cert.AdamConvIdeal.main_arg1)
      ∧ m' ((c.tc : Thread Cert.AdamConvSpecIdeal.nD Cert.AdamConvSpecIdeal.τ).loc Cert.AdamConvSpecIdeal.main_arg2) = m ((c.tc : Thread Cert.AdamConvIdeal.nD Cert.AdamConvIdeal.τ).loc Cert.AdamConvIdeal.main_arg2)
      ∧ m' ((c.tc : Thread Cert.AdamConvSpecIdeal.nD Cert.AdamConvSpecIdeal.τ).loc Cert.AdamConvSpecIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvSpecIdeal.defs (F := Ideal)) (onTc (τ := Cert.AdamConvSpecIdeal.τ) (Cert.AdamConvSpecIdeal.main (F := Ideal))) ⟨m', fun _ => 0, g'⟩ (fun r => ∀ c : Dev Cert.AdamConvSpecIdeal.nD,
          r.2.mem ((c.tc : Thread Cert.AdamConvSpecIdeal.nD Cert.AdamConvSpecIdeal.τ).loc Cert.AdamConvSpecIdeal.main_arg1) = v0 c
          ∧ r.2.mem ((c.tc : Thread Cert.AdamConvSpecIdeal.nD Cert.AdamConvSpecIdeal.τ).loc Cert.AdamConvSpecIdeal.main_v23) = v1 c
          ∧ r.2.mem ((c.tc : Thread Cert.AdamConvSpecIdeal.nD Cert.AdamConvSpecIdeal.τ).loc Cert.AdamConvSpecIdeal.main_v4) = v2 c
          ∧ r.2.mem ((c.tc : Thread Cert.AdamConvSpecIdeal.nD Cert.AdamConvSpecIdeal.τ).loc Cert.AdamConvSpecIdeal.main_v10) = v3 c
          ∧ r.2.mem ((c.tc : Thread Cert.AdamConvSpecIdeal.nD Cert.AdamConvSpecIdeal.τ).loc Cert.AdamConvSpecIdeal.main_arg0) = m' ((c.tc : Thread Cert.AdamConvSpecIdeal.nD Cert.AdamConvSpecIdeal.τ).loc Cert.AdamConvSpecIdeal.main_arg0)
          ∧ r.2.mem ((c.tc : Thread Cert.AdamConvSpecIdeal.nD Cert.AdamConvSpecIdeal.τ).loc Cert.AdamConvSpecIdeal.main_arg1) = m' ((c.tc : Thread Cert.AdamConvSpecIdeal.nD Cert.AdamConvSpecIdeal.τ).loc Cert.AdamConvSpecIdeal.main_arg1)
          ∧ r.2.mem ((c.tc : Thread Cert.AdamConvSpecIdeal.nD Cert.AdamConvSpecIdeal.τ).loc Cert.AdamConvSpecIdeal.main_arg2) = m' ((c.tc : Thread Cert.AdamConvSpecIdeal.nD Cert.AdamConvSpecIdeal.τ).loc Cert.AdamConvSpecIdeal.main_arg2)
          ∧ r.2.mem ((c.tc : Thread Cert.AdamConvSpecIdeal.nD Cert.AdamConvSpecIdeal.τ).loc Cert.AdamConvSpecIdeal.main_arg3) = m' ((c.tc : Thread Cert.AdamConvSpecIdeal.nD Cert.AdamConvSpecIdeal.τ).loc Cert.AdamConvSpecIdeal.main_arg3))

def preserves_AdamNorm_AdamNormIdeal : Prop :=
  True

def algebraic_AdamNormIdeal_AdamNormSpecIdeal [hAdamNormIdeal : Cert.AdamNormIdeal.Facts] [hAdamNormSpecIdeal : Cert.AdamNormSpecIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormSpecIdeal.nD Cert.AdamNormSpecIdeal.τ Cert.AdamNormSpecIdeal.sig) → Buf (Elt Ideal) ℓ) (g' : Dev Cert.AdamNormSpecIdeal.nD → PrngReg), Pre_AdamNormIdeal m →
    (∀ c : Dev Cert.AdamNormIdeal.nD,
      m' ((c.tc : Thread Cert.AdamNormSpecIdeal.nD Cert.AdamNormSpecIdeal.τ).loc Cert.AdamNormSpecIdeal.main_arg0) = m ((c.tc : Thread Cert.AdamNormIdeal.nD Cert.AdamNormIdeal.τ).loc Cert.AdamNormIdeal.main_arg0)
      ∧ m' ((c.tc : Thread Cert.AdamNormSpecIdeal.nD Cert.AdamNormSpecIdeal.τ).loc Cert.AdamNormSpecIdeal.main_arg1) = m ((c.tc : Thread Cert.AdamNormIdeal.nD Cert.AdamNormIdeal.τ).loc Cert.AdamNormIdeal.main_arg1)
      ∧ m' ((c.tc : Thread Cert.AdamNormSpecIdeal.nD Cert.AdamNormSpecIdeal.τ).loc Cert.AdamNormSpecIdeal.main_arg2) = m ((c.tc : Thread Cert.AdamNormIdeal.nD Cert.AdamNormIdeal.τ).loc Cert.AdamNormIdeal.main_arg2)
      ∧ m' ((c.tc : Thread Cert.AdamNormSpecIdeal.nD Cert.AdamNormSpecIdeal.τ).loc Cert.AdamNormSpecIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormSpecIdeal.defs (F := Ideal)) (onTc (τ := Cert.AdamNormSpecIdeal.τ) (Cert.AdamNormSpecIdeal.main (F := Ideal))) ⟨m', fun _ => 0, g'⟩ (fun r => ∀ c : Dev Cert.AdamNormSpecIdeal.nD,
          r.2.mem ((c.tc : Thread Cert.AdamNormSpecIdeal.nD Cert.AdamNormSpecIdeal.τ).loc Cert.AdamNormSpecIdeal.main_arg1) = v0 c
          ∧ r.2.mem ((c.tc : Thread Cert.AdamNormSpecIdeal.nD Cert.AdamNormSpecIdeal.τ).loc Cert.AdamNormSpecIdeal.main_v23) = v1 c
          ∧ r.2.mem ((c.tc : Thread Cert.AdamNormSpecIdeal.nD Cert.AdamNormSpecIdeal.τ).loc Cert.AdamNormSpecIdeal.main_v4) = v2 c
          ∧ r.2.mem ((c.tc : Thread Cert.AdamNormSpecIdeal.nD Cert.AdamNormSpecIdeal.τ).loc Cert.AdamNormSpecIdeal.main_v10) = v3 c
          ∧ r.2.mem ((c.tc : Thread Cert.AdamNormSpecIdeal.nD Cert.AdamNormSpecIdeal.τ).loc Cert.AdamNormSpecIdeal.main_arg0) = m' ((c.tc : Thread Cert.AdamNormSpecIdeal.nD Cert.AdamNormSpecIdeal.τ).loc Cert.AdamNormSpecIdeal.main_arg0)
          ∧ r.2.mem ((c.tc : Thread Cert.AdamNormSpecIdeal.nD Cert.AdamNormSpecIdeal.τ).loc Cert.AdamNormSpecIdeal.main_arg1) = m' ((c.tc : Thread Cert.AdamNormSpecIdeal.nD Cert.AdamNormSpecIdeal.τ).loc Cert.AdamNormSpecIdeal.main_arg1)
          ∧ r.2.mem ((c.tc : Thread Cert.AdamNormSpecIdeal.nD Cert.AdamNormSpecIdeal.τ).loc Cert.AdamNormSpecIdeal.main_arg2) = m' ((c.tc : Thread Cert.AdamNormSpecIdeal.nD Cert.AdamNormSpecIdeal.τ).loc Cert.AdamNormSpecIdeal.main_arg2)
          ∧ r.2.mem ((c.tc : Thread Cert.AdamNormSpecIdeal.nD Cert.AdamNormSpecIdeal.τ).loc Cert.AdamNormSpecIdeal.main_arg3) = m' ((c.tc : Thread Cert.AdamNormSpecIdeal.nD Cert.AdamNormSpecIdeal.τ).loc Cert.AdamNormSpecIdeal.main_arg3))

def preserves_NormBwd_NormBwdIdeal : Prop :=
  True

def algebraic_NormBwdIdeal_NormBwdSpecIdeal [hNormBwdIdeal : Cert.NormBwdIdeal.Facts] [hNormBwdSpecIdeal : Cert.NormBwdSpecIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdSpecIdeal.nD Cert.NormBwdSpecIdeal.τ Cert.NormBwdSpecIdeal.sig) → Buf (Elt Ideal) ℓ) (g' : Dev Cert.NormBwdSpecIdeal.nD → PrngReg), Pre_NormBwdIdeal m →
    (∀ c : Dev Cert.NormBwdIdeal.nD,
      m' ((c.tc : Thread Cert.NormBwdSpecIdeal.nD Cert.NormBwdSpecIdeal.τ).loc Cert.NormBwdSpecIdeal.main_arg0) = m ((c.tc : Thread Cert.NormBwdIdeal.nD Cert.NormBwdIdeal.τ).loc Cert.NormBwdIdeal.main_arg0)
      ∧ m' ((c.tc : Thread Cert.NormBwdSpecIdeal.nD Cert.NormBwdSpecIdeal.τ).loc Cert.NormBwdSpecIdeal.main_arg1) = m ((c.tc : Thread Cert.NormBwdIdeal.nD Cert.NormBwdIdeal.τ).loc Cert.NormBwdIdeal.main_arg1)
      ∧ m' ((c.tc : Thread Cert.NormBwdSpecIdeal.nD Cert.NormBwdSpecIdeal.τ).loc Cert.NormBwdSpecIdeal.main_arg2) = m ((c.tc : Thread Cert.NormBwdIdeal.nD Cert.NormBwdIdeal.τ).loc Cert.NormBwdIdeal.main_arg2)
      ∧ m' ((c.tc : Thread Cert.NormBwdSpecIdeal.nD Cert.NormBwdSpecIdeal.τ).loc Cert.NormBwdSpecIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdSpecIdeal.defs (F := Ideal)) (onTc (τ := Cert.NormBwdSpecIdeal.τ) (Cert.NormBwdSpecIdeal.main (F := Ideal))) ⟨m', fun _ => 0, g'⟩ (fun r => ∀ c : Dev Cert.NormBwdSpecIdeal.nD,
          r.2.mem ((c.tc : Thread Cert.NormBwdSpecIdeal.nD Cert.NormBwdSpecIdeal.τ).loc Cert.NormBwdSpecIdeal.main_v34) = v0 c
          ∧ r.2.mem ((c.tc : Thread Cert.NormBwdSpecIdeal.nD Cert.NormBwdSpecIdeal.τ).loc Cert.NormBwdSpecIdeal.main_v35) = v1 c
          ∧ r.2.mem ((c.tc : Thread Cert.NormBwdSpecIdeal.nD Cert.NormBwdSpecIdeal.τ).loc Cert.NormBwdSpecIdeal.main_v17) = v2 c
          ∧ r.2.mem ((c.tc : Thread Cert.NormBwdSpecIdeal.nD Cert.NormBwdSpecIdeal.τ).loc Cert.NormBwdSpecIdeal.main_arg0) = m' ((c.tc : Thread Cert.NormBwdSpecIdeal.nD Cert.NormBwdSpecIdeal.τ).loc Cert.NormBwdSpecIdeal.main_arg0)
          ∧ r.2.mem ((c.tc : Thread Cert.NormBwdSpecIdeal.nD Cert.NormBwdSpecIdeal.τ).loc Cert.NormBwdSpecIdeal.main_arg1) = m' ((c.tc : Thread Cert.NormBwdSpecIdeal.nD Cert.NormBwdSpecIdeal.τ).loc Cert.NormBwdSpecIdeal.main_arg1)
          ∧ r.2.mem ((c.tc : Thread Cert.NormBwdSpecIdeal.nD Cert.NormBwdSpecIdeal.τ).loc Cert.NormBwdSpecIdeal.main_arg2) = m' ((c.tc : Thread Cert.NormBwdSpecIdeal.nD Cert.NormBwdSpecIdeal.τ).loc Cert.NormBwdSpecIdeal.main_arg2)
          ∧ r.2.mem ((c.tc : Thread Cert.NormBwdSpecIdeal.nD Cert.NormBwdSpecIdeal.τ).loc Cert.NormBwdSpecIdeal.main_arg3) = m' ((c.tc : Thread Cert.NormBwdSpecIdeal.nD Cert.NormBwdSpecIdeal.τ).loc Cert.NormBwdSpecIdeal.main_arg3))

def preserves_MemNormBwd_MemNormBwdIdeal : Prop :=
  True

def algebraic_MemNormBwdIdeal_MemNormBwdSpecIdeal [hMemNormBwdIdeal : Cert.MemNormBwdIdeal.Facts] [hMemNormBwdSpecIdeal : Cert.MemNormBwdSpecIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdSpecIdeal.nD Cert.MemNormBwdSpecIdeal.τ Cert.MemNormBwdSpecIdeal.sig) → Buf (Elt Ideal) ℓ) (g' : Dev Cert.MemNormBwdSpecIdeal.nD → PrngReg), Pre_MemNormBwdIdeal m →
    (∀ c : Dev Cert.MemNormBwdIdeal.nD,
      m' ((c.tc : Thread Cert.MemNormBwdSpecIdeal.nD Cert.MemNormBwdSpecIdeal.τ).loc Cert.MemNormBwdSpecIdeal.main_arg0) = m ((c.tc : Thread Cert.MemNormBwdIdeal.nD Cert.MemNormBwdIdeal.τ).loc Cert.MemNormBwdIdeal.main_arg0)
      ∧ m' ((c.tc : Thread Cert.MemNormBwdSpecIdeal.nD Cert.MemNormBwdSpecIdeal.τ).loc Cert.MemNormBwdSpecIdeal.main_arg1) = m ((c.tc : Thread Cert.MemNormBwdIdeal.nD Cert.MemNormBwdIdeal.τ).loc Cert.MemNormBwdIdeal.main_arg1)
      ∧ m' ((c.tc : Thread Cert.MemNormBwdSpecIdeal.nD Cert.MemNormBwdSpecIdeal.τ).loc Cert.MemNormBwdSpecIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v0)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0) = v0 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdSpecIdeal.defs (F := Ideal)) (onTc (τ := Cert.MemNormBwdSpecIdeal.τ) (Cert.MemNormBwdSpecIdeal.main (F := Ideal))) ⟨m', fun _ => 0, g'⟩ (fun r => ∀ c : Dev Cert.MemNormBwdSpecIdeal.nD,
          r.2.mem ((c.tc : Thread Cert.MemNormBwdSpecIdeal.nD Cert.MemNormBwdSpecIdeal.τ).loc Cert.MemNormBwdSpecIdeal.main_v14) = v0 c
          ∧ r.2.mem ((c.tc : Thread Cert.MemNormBwdSpecIdeal.nD Cert.MemNormBwdSpecIdeal.τ).loc Cert.MemNormBwdSpecIdeal.main_arg0) = m' ((c.tc : Thread Cert.MemNormBwdSpecIdeal.nD Cert.MemNormBwdSpecIdeal.τ).loc Cert.MemNormBwdSpecIdeal.main_arg0)
          ∧ r.2.mem ((c.tc : Thread Cert.MemNormBwdSpecIdeal.nD Cert.MemNormBwdSpecIdeal.τ).loc Cert.MemNormBwdSpecIdeal.main_arg1) = m' ((c.tc : Thread Cert.MemNormBwdSpecIdeal.nD Cert.MemNormBwdSpecIdeal.τ).loc Cert.MemNormBwdSpecIdeal.main_arg1)
          ∧ r.2.mem ((c.tc : Thread Cert.MemNormBwdSpecIdeal.nD Cert.MemNormBwdSpecIdeal.τ).loc Cert.MemNormBwdSpecIdeal.main_arg2) = m' ((c.tc : Thread Cert.MemNormBwdSpecIdeal.nD Cert.MemNormBwdSpecIdeal.τ).loc Cert.MemNormBwdSpecIdeal.main_arg2))

def preserves_PairNormBwd_PairNormBwdIdeal : Prop :=
  True

def algebraic_PairNormBwdIdeal_PairNormBwdSpecIdeal [hPairNormBwdIdeal : Cert.PairNormBwdIdeal.Facts] [hPairNormBwdSpecIdeal : Cert.PairNormBwdSpecIdeal.Facts] : Prop :=
  ∀ (m : (ℓ : Loc Cert.PairNormBwdIdeal.nD Cert.PairNormBwdIdeal.τ Cert.PairNormBwdIdeal.sig) → Buf (Elt Ideal) ℓ) (g : Dev Cert.PairNormBwdIdeal.nD → PrngReg)
    (m' : (ℓ : Loc Cert.PairNormBwdSpecIdeal.nD Cert.PairNormBwdSpecIdeal.τ Cert.PairNormBwdSpecIdeal.sig) → Buf (Elt Ideal) ℓ) (g' : Dev Cert.PairNormBwdSpecIdeal.nD → PrngReg), Pre_PairNormBwdIdeal m →
    (∀ c : Dev Cert.PairNormBwdIdeal.nD,
      m' ((c.tc : Thread Cert.PairNormBwdSpecIdeal.nD Cert.PairNormBwdSpecIdeal.τ).loc Cert.PairNormBwdSpecIdeal.main_arg0) = m ((c.tc : Thread Cert.PairNormBwdIdeal.nD Cert.PairNormBwdIdeal.τ).loc Cert.PairNormBwdIdeal.main_arg0)
      ∧ m' ((c.tc : Thread Cert.PairNormBwdSpecIdeal.nD Cert.PairNormBwdSpecIdeal.τ).loc Cert.PairNormBwdSpecIdeal.main_arg1) = m ((c.tc : Thread Cert.PairNormBwdIdeal.nD Cert.PairNormBwdIdeal.τ).loc Cert.PairNormBwdIdeal.main_arg1)
      ∧ m' ((c.tc : Thread Cert.PairNormBwdSpecIdeal.nD Cert.PairNormBwdSpecIdeal.τ).loc Cert.PairNormBwdSpecIdeal.main_arg2) = m ((c.tc : Thread Cert.PairNormBwdIdeal.nD Cert.PairNormBwdIdeal.τ).loc Cert.PairNormBwdIdeal.main_arg2)
      ∧ m' ((c.tc : Thread Cert.PairNormBwdSpecIdeal.nD Cert.PairNormBwdSpecIdeal.τ).loc Cert.PairNormBwdSpecIdeal.main_arg3) = m ((c.tc : Thread Cert.PairNormBwdIdeal.nD Cert.PairNormBwdIdeal.τ).loc Cert.PairNormBwdIdeal.main_arg3)
      ∧ m' ((c.tc : Thread Cert.PairNormBwdSpecIdeal.nD Cert.PairNormBwdSpecIdeal.τ).loc Cert.PairNormBwdSpecIdeal.main_arg4) = m ((c.tc : Thread Cert.PairNormBwdIdeal.nD Cert.PairNormBwdIdeal.τ).loc Cert.PairNormBwdIdeal.main_arg4)
      ∧ m' ((c.tc : Thread Cert.PairNormBwdSpecIdeal.nD Cert.PairNormBwdSpecIdeal.τ).loc Cert.PairNormBwdSpecIdeal.main_arg5) = m ((c.tc : Thread Cert.PairNormBwdIdeal.nD Cert.PairNormBwdIdeal.τ).loc Cert.PairNormBwdIdeal.main_arg5)) →
    ∃ (v0 : (c : Dev Cert.PairNormBwdIdeal.nD) → Buf (Elt Ideal) ((c.tc : Thread Cert.PairNormBwdIdeal.nD Cert.PairNormBwdIdeal.τ).loc Cert.PairNormBwdIdeal.main_v0_0)) (v1 : (c : Dev Cert.PairNormBwdIdeal.nD) → Buf (Elt Ideal) ((c.tc : Thread Cert.PairNormBwdIdeal.nD Cert.PairNormBwdIdeal.τ).loc Cert.PairNormBwdIdeal.main_v0_1)) (v2 : (c : Dev Cert.PairNormBwdIdeal.nD) → Buf (Elt Ideal) ((c.tc : Thread Cert.PairNormBwdIdeal.nD Cert.PairNormBwdIdeal.τ).loc Cert.PairNormBwdIdeal.main_v0_2)) (v3 : (c : Dev Cert.PairNormBwdIdeal.nD) → Buf (Elt Ideal) ((c.tc : Thread Cert.PairNormBwdIdeal.nD Cert.PairNormBwdIdeal.τ).loc Cert.PairNormBwdIdeal.main_v0_3)),
      θ_run (Cert.PairNormBwdIdeal.defs (F := Ideal)) (onTc (τ := Cert.PairNormBwdIdeal.τ) (Cert.PairNormBwdIdeal.main (F := Ideal))) ⟨m, fun _ => 0, g⟩ (fun r => ∀ c : Dev Cert.PairNormBwdIdeal.nD,
          r.2.mem ((c.tc : Thread Cert.PairNormBwdIdeal.nD Cert.PairNormBwdIdeal.τ).loc Cert.PairNormBwdIdeal.main_v0_0) = v0 c
          ∧ r.2.mem ((c.tc : Thread Cert.PairNormBwdIdeal.nD Cert.PairNormBwdIdeal.τ).loc Cert.PairNormBwdIdeal.main_v0_1) = v1 c
          ∧ r.2.mem ((c.tc : Thread Cert.PairNormBwdIdeal.nD Cert.PairNormBwdIdeal.τ).loc Cert.PairNormBwdIdeal.main_v0_2) = v2 c
          ∧ r.2.mem ((c.tc : Thread Cert.PairNormBwdIdeal.nD Cert.PairNormBwdIdeal.τ).loc Cert.PairNormBwdIdeal.main_v0_3) = v3 c
          ∧ r.2.mem ((c.tc : Thread Cert.PairNormBwdIdeal.nD Cert.PairNormBwdIdeal.τ).loc Cert.PairNormBwdIdeal.main_arg0) = m ((c.tc : Thread Cert.PairNormBwdIdeal.nD Cert.PairNormBwdIdeal.τ).loc Cert.PairNormBwdIdeal.main_arg0)
          ∧ r.2.mem ((c.tc : Thread Cert.PairNormBwdIdeal.nD Cert.PairNormBwdIdeal.τ).loc Cert.PairNormBwdIdeal.main_arg1) = m ((c.tc : Thread Cert.PairNormBwdIdeal.nD Cert.PairNormBwdIdeal.τ).loc Cert.PairNormBwdIdeal.main_arg1)
          ∧ r.2.mem ((c.tc : Thread Cert.PairNormBwdIdeal.nD Cert.PairNormBwdIdeal.τ).loc Cert.PairNormBwdIdeal.main_arg2) = m ((c.tc : Thread Cert.PairNormBwdIdeal.nD Cert.PairNormBwdIdeal.τ).loc Cert.PairNormBwdIdeal.main_arg2)
          ∧ r.2.mem ((c.tc : Thread Cert.PairNormBwdIdeal.nD Cert.PairNormBwdIdeal.τ).loc Cert.PairNormBwdIdeal.main_arg3) = m ((c.tc : Thread Cert.PairNormBwdIdeal.nD Cert.PairNormBwdIdeal.τ).loc Cert.PairNormBwdIdeal.main_arg3)
          ∧ r.2.mem ((c.tc : Thread Cert.PairNormBwdIdeal.nD Cert.PairNormBwdIdeal.τ).loc Cert.PairNormBwdIdeal.main_arg4) = m ((c.tc : Thread Cert.PairNormBwdIdeal.nD Cert.PairNormBwdIdeal.τ).loc Cert.PairNormBwdIdeal.main_arg4)
          ∧ r.2.mem ((c.tc : Thread Cert.PairNormBwdIdeal.nD Cert.PairNormBwdIdeal.τ).loc Cert.PairNormBwdIdeal.main_arg5) = m ((c.tc : Thread Cert.PairNormBwdIdeal.nD Cert.PairNormBwdIdeal.τ).loc Cert.PairNormBwdIdeal.main_arg5))
      ∧ θ_run (Cert.PairNormBwdSpecIdeal.defs (F := Ideal)) (onTc (τ := Cert.PairNormBwdSpecIdeal.τ) (Cert.PairNormBwdSpecIdeal.main (F := Ideal))) ⟨m', fun _ => 0, g'⟩ (fun r => ∀ c : Dev Cert.PairNormBwdSpecIdeal.nD,
          r.2.mem ((c.tc : Thread Cert.PairNormBwdSpecIdeal.nD Cert.PairNormBwdSpecIdeal.τ).loc Cert.PairNormBwdSpecIdeal.main_v47) = v0 c
          ∧ r.2.mem ((c.tc : Thread Cert.PairNormBwdSpecIdeal.nD Cert.PairNormBwdSpecIdeal.τ).loc Cert.PairNormBwdSpecIdeal.main_v48) = v1 c
          ∧ r.2.mem ((c.tc : Thread Cert.PairNormBwdSpecIdeal.nD Cert.PairNormBwdSpecIdeal.τ).loc Cert.PairNormBwdSpecIdeal.main_v27) = v2 c
          ∧ r.2.mem ((c.tc : Thread Cert.PairNormBwdSpecIdeal.nD Cert.PairNormBwdSpecIdeal.τ).loc Cert.PairNormBwdSpecIdeal.main_v22) = v3 c
          ∧ r.2.mem ((c.tc : Thread Cert.PairNormBwdSpecIdeal.nD Cert.PairNormBwdSpecIdeal.τ).loc Cert.PairNormBwdSpecIdeal.main_arg0) = m' ((c.tc : Thread Cert.PairNormBwdSpecIdeal.nD Cert.PairNormBwdSpecIdeal.τ).loc Cert.PairNormBwdSpecIdeal.main_arg0)
          ∧ r.2.mem ((c.tc : Thread Cert.PairNormBwdSpecIdeal.nD Cert.PairNormBwdSpecIdeal.τ).loc Cert.PairNormBwdSpecIdeal.main_arg1) = m' ((c.tc : Thread Cert.PairNormBwdSpecIdeal.nD Cert.PairNormBwdSpecIdeal.τ).loc Cert.PairNormBwdSpecIdeal.main_arg1)
          ∧ r.2.mem ((c.tc : Thread Cert.PairNormBwdSpecIdeal.nD Cert.PairNormBwdSpecIdeal.τ).loc Cert.PairNormBwdSpecIdeal.main_arg2) = m' ((c.tc : Thread Cert.PairNormBwdSpecIdeal.nD Cert.PairNormBwdSpecIdeal.τ).loc Cert.PairNormBwdSpecIdeal.main_arg2)
          ∧ r.2.mem ((c.tc : Thread Cert.PairNormBwdSpecIdeal.nD Cert.PairNormBwdSpecIdeal.τ).loc Cert.PairNormBwdSpecIdeal.main_arg3) = m' ((c.tc : Thread Cert.PairNormBwdSpecIdeal.nD Cert.PairNormBwdSpecIdeal.τ).loc Cert.PairNormBwdSpecIdeal.main_arg3)
          ∧ r.2.mem ((c.tc : Thread Cert.PairNormBwdSpecIdeal.nD Cert.PairNormBwdSpecIdeal.τ).loc Cert.PairNormBwdSpecIdeal.main_arg4) = m' ((c.tc : Thread Cert.PairNormBwdSpecIdeal.nD Cert.PairNormBwdSpecIdeal.τ).loc Cert.PairNormBwdSpecIdeal.main_arg4)
          ∧ r.2.mem ((c.tc : Thread Cert.PairNormBwdSpecIdeal.nD Cert.PairNormBwdSpecIdeal.τ).loc Cert.PairNormBwdSpecIdeal.main_arg5) = m' ((c.tc : Thread Cert.PairNormBwdSpecIdeal.nD Cert.PairNormBwdSpecIdeal.τ).loc Cert.PairNormBwdSpecIdeal.main_arg5))

def preserves_LossHead_LossHeadIdeal : Prop :=
  True

def algebraic_LossHeadIdeal_LossHeadSpecIdeal [hLossHeadIdeal : Cert.LossHeadIdeal.Facts] [hLossHeadSpecIdeal : Cert.LossHeadSpecIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadSpecIdeal.nD Cert.LossHeadSpecIdeal.τ Cert.LossHeadSpecIdeal.sig) → Buf (Elt Ideal) ℓ) (g' : Dev Cert.LossHeadSpecIdeal.nD → PrngReg), Pre_LossHeadIdeal m →
    (∀ c : Dev Cert.LossHeadIdeal.nD,
      m' ((c.tc : Thread Cert.LossHeadSpecIdeal.nD Cert.LossHeadSpecIdeal.τ).loc Cert.LossHeadSpecIdeal.main_arg0) = m ((c.tc : Thread Cert.LossHeadIdeal.nD Cert.LossHeadIdeal.τ).loc Cert.LossHeadIdeal.main_arg0)
      ∧ m' ((c.tc : Thread Cert.LossHeadSpecIdeal.nD Cert.LossHeadSpecIdeal.τ).loc Cert.LossHeadSpecIdeal.main_arg1) = m ((c.tc : Thread Cert.LossHeadIdeal.nD Cert.LossHeadIdeal.τ).loc Cert.LossHeadIdeal.main_arg1)
      ∧ m' ((c.tc : Thread Cert.LossHeadSpecIdeal.nD Cert.LossHeadSpecIdeal.τ).loc Cert.LossHeadSpecIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadSpecIdeal.defs (F := Ideal)) (onTc (τ := Cert.LossHeadSpecIdeal.τ) (Cert.LossHeadSpecIdeal.main (F := Ideal))) ⟨m', fun _ => 0, g'⟩ (fun r => ∀ c : Dev Cert.LossHeadSpecIdeal.nD,
          r.2.mem ((c.tc : Thread Cert.LossHeadSpecIdeal.nD Cert.LossHeadSpecIdeal.τ).loc Cert.LossHeadSpecIdeal.main_v50) = v0 c
          ∧ r.2.mem ((c.tc : Thread Cert.LossHeadSpecIdeal.nD Cert.LossHeadSpecIdeal.τ).loc Cert.LossHeadSpecIdeal.main_v51) = v1 c
          ∧ r.2.mem ((c.tc : Thread Cert.LossHeadSpecIdeal.nD Cert.LossHeadSpecIdeal.τ).loc Cert.LossHeadSpecIdeal.main_v34) = v2 c
          ∧ r.2.mem ((c.tc : Thread Cert.LossHeadSpecIdeal.nD Cert.LossHeadSpecIdeal.τ).loc Cert.LossHeadSpecIdeal.main_v25) = v3 c
          ∧ r.2.mem ((c.tc : Thread Cert.LossHeadSpecIdeal.nD Cert.LossHeadSpecIdeal.τ).loc Cert.LossHeadSpecIdeal.main_arg0) = m' ((c.tc : Thread Cert.LossHeadSpecIdeal.nD Cert.LossHeadSpecIdeal.τ).loc Cert.LossHeadSpecIdeal.main_arg0)
          ∧ r.2.mem ((c.tc : Thread Cert.LossHeadSpecIdeal.nD Cert.LossHeadSpecIdeal.τ).loc Cert.LossHeadSpecIdeal.main_arg1) = m' ((c.tc : Thread Cert.LossHeadSpecIdeal.nD Cert.LossHeadSpecIdeal.τ).loc Cert.LossHeadSpecIdeal.main_arg1)
          ∧ r.2.mem ((c.tc : Thread Cert.LossHeadSpecIdeal.nD Cert.LossHeadSpecIdeal.τ).loc Cert.LossHeadSpecIdeal.main_arg2) = m' ((c.tc : Thread Cert.LossHeadSpecIdeal.nD Cert.LossHeadSpecIdeal.τ).loc Cert.LossHeadSpecIdeal.main_arg2))

def preserves_NormFwd_NormFwdIdeal : Prop :=
  True

def algebraic_NormFwdIdeal_NormFwdSpecIdeal [hNormFwdIdeal : Cert.NormFwdIdeal.Facts] [hNormFwdSpecIdeal : Cert.NormFwdSpecIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdSpecIdeal.nD Cert.NormFwdSpecIdeal.τ Cert.NormFwdSpecIdeal.sig) → Buf (Elt Ideal) ℓ) (g' : Dev Cert.NormFwdSpecIdeal.nD → PrngReg), Pre_NormFwdIdeal m →
    (∀ c : Dev Cert.NormFwdIdeal.nD,
      m' ((c.tc : Thread Cert.NormFwdSpecIdeal.nD Cert.NormFwdSpecIdeal.τ).loc Cert.NormFwdSpecIdeal.main_arg0) = m ((c.tc : Thread Cert.NormFwdIdeal.nD Cert.NormFwdIdeal.τ).loc Cert.NormFwdIdeal.main_arg0)
      ∧ m' ((c.tc : Thread Cert.NormFwdSpecIdeal.nD Cert.NormFwdSpecIdeal.τ).loc Cert.NormFwdSpecIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdSpecIdeal.defs (F := Ideal)) (onTc (τ := Cert.NormFwdSpecIdeal.τ) (Cert.NormFwdSpecIdeal.main (F := Ideal))) ⟨m', fun _ => 0, g'⟩ (fun r => ∀ c : Dev Cert.NormFwdSpecIdeal.nD,
          r.2.mem ((c.tc : Thread Cert.NormFwdSpecIdeal.nD Cert.NormFwdSpecIdeal.τ).loc Cert.NormFwdSpecIdeal.main_v12) = v0 c
          ∧ r.2.mem ((c.tc : Thread Cert.NormFwdSpecIdeal.nD Cert.NormFwdSpecIdeal.τ).loc Cert.NormFwdSpecIdeal.main_arg0) = m' ((c.tc : Thread Cert.NormFwdSpecIdeal.nD Cert.NormFwdSpecIdeal.τ).loc Cert.NormFwdSpecIdeal.main_arg0)
          ∧ r.2.mem ((c.tc : Thread Cert.NormFwdSpecIdeal.nD Cert.NormFwdSpecIdeal.τ).loc Cert.NormFwdSpecIdeal.main_arg1) = m' ((c.tc : Thread Cert.NormFwdSpecIdeal.nD Cert.NormFwdSpecIdeal.τ).loc Cert.NormFwdSpecIdeal.main_arg1))

def preserves_MemNormFwd_MemNormFwdIdeal : Prop :=
  True

def algebraic_MemNormFwdIdeal_MemNormFwdSpecIdeal [hMemNormFwdIdeal : Cert.MemNormFwdIdeal.Facts] [hMemNormFwdSpecIdeal : Cert.MemNormFwdSpecIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg)
    (m' : (ℓ : Loc Cert.MemNormFwdSpecIdeal.nD Cert.MemNormFwdSpecIdeal.τ Cert.MemNormFwdSpecIdeal.sig) → Buf (Elt Ideal) ℓ) (g' : Dev Cert.MemNormFwdSpecIdeal.nD → PrngReg), Pre_MemNormFwdIdeal m →
    (∀ c : Dev Cert.MemNormFwdIdeal.nD,
      m' ((c.tc : Thread Cert.MemNormFwdSpecIdeal.nD Cert.MemNormFwdSpecIdeal.τ).loc Cert.MemNormFwdSpecIdeal.main_arg0) = m ((c.tc : Thread Cert.MemNormFwdIdeal.nD Cert.MemNormFwdIdeal.τ).loc Cert.MemNormFwdIdeal.main_arg0)
      ∧ m' ((c.tc : Thread Cert.MemNormFwdSpecIdeal.nD Cert.MemNormFwdSpecIdeal.τ).loc Cert.MemNormFwdSpecIdeal.main_arg1) = m ((c.tc : Thread Cert.MemNormFwdIdeal.nD Cert.MemNormFwdIdeal.τ).loc Cert.MemNormFwdIdeal.main_arg1)) →
    ∃ (v0 : (c : Dev Cert.MemNormFwdIdeal.nD) → Buf (Elt Ideal) ((c.tc : Thread Cert.MemNormFwdIdeal.nD Cert.MemNormFwdIdeal.τ).loc Cert.MemNormFwdIdeal.main_v0)),
      θ_run (Cert.MemNormFwdIdeal.defs (F := Ideal)) (onTc (τ := Cert.MemNormFwdIdeal.τ) (Cert.MemNormFwdIdeal.main (F := Ideal))) ⟨m, fun _ => 0, g⟩ (fun r => ∀ c : Dev Cert.MemNormFwdIdeal.nD,
          r.2.mem ((c.tc : Thread Cert.MemNormFwdIdeal.nD Cert.MemNormFwdIdeal.τ).loc Cert.MemNormFwdIdeal.main_v0) = v0 c
          ∧ r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
          ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ θ_run (Cert.MemNormFwdSpecIdeal.defs (F := Ideal)) (onTc (τ := Cert.MemNormFwdSpecIdeal.τ) (Cert.MemNormFwdSpecIdeal.main (F := Ideal))) ⟨m', fun _ => 0, g'⟩ (fun r => ∀ c : Dev Cert.MemNormFwdSpecIdeal.nD,
          r.2.mem ((c.tc : Thread Cert.MemNormFwdSpecIdeal.nD Cert.MemNormFwdSpecIdeal.τ).loc Cert.MemNormFwdSpecIdeal.main_v12) = v0 c
          ∧ r.2.mem ((c.tc : Thread Cert.MemNormFwdSpecIdeal.nD Cert.MemNormFwdSpecIdeal.τ).loc Cert.MemNormFwdSpecIdeal.main_arg0) = m' ((c.tc : Thread Cert.MemNormFwdSpecIdeal.nD Cert.MemNormFwdSpecIdeal.τ).loc Cert.MemNormFwdSpecIdeal.main_arg0)
          ∧ r.2.mem ((c.tc : Thread Cert.MemNormFwdSpecIdeal.nD Cert.MemNormFwdSpecIdeal.τ).loc Cert.MemNormFwdSpecIdeal.main_arg1) = m' ((c.tc : Thread Cert.MemNormFwdSpecIdeal.nD Cert.MemNormFwdSpecIdeal.τ).loc Cert.MemNormFwdSpecIdeal.main_arg1))

def preserves_PairNormFwd_PairNormFwdIdeal : Prop :=
  True

def algebraic_PairNormFwdIdeal_PairNormFwdSpecIdeal [hPairNormFwdIdeal : Cert.PairNormFwdIdeal.Facts] [hPairNormFwdSpecIdeal : Cert.PairNormFwdSpecIdeal.Facts] : Prop :=
  ∀ (m : (ℓ : Loc Cert.PairNormFwdIdeal.nD Cert.PairNormFwdIdeal.τ Cert.PairNormFwdIdeal.sig) → Buf (Elt Ideal) ℓ) (g : Dev Cert.PairNormFwdIdeal.nD → PrngReg)
    (m' : (ℓ : Loc Cert.PairNormFwdSpecIdeal.nD Cert.PairNormFwdSpecIdeal.τ Cert.PairNormFwdSpecIdeal.sig) → Buf (Elt Ideal) ℓ) (g' : Dev Cert.PairNormFwdSpecIdeal.nD → PrngReg), Pre_PairNormFwdIdeal m →
    (∀ c : Dev Cert.PairNormFwdIdeal.nD,
      m' ((c.tc : Thread Cert.PairNormFwdSpecIdeal.nD Cert.PairNormFwdSpecIdeal.τ).loc Cert.PairNormFwdSpecIdeal.main_arg0) = m ((c.tc : Thread Cert.PairNormFwdIdeal.nD Cert.PairNormFwdIdeal.τ).loc Cert.PairNormFwdIdeal.main_arg0)
      ∧ m' ((c.tc : Thread Cert.PairNormFwdSpecIdeal.nD Cert.PairNormFwdSpecIdeal.τ).loc Cert.PairNormFwdSpecIdeal.main_arg1) = m ((c.tc : Thread Cert.PairNormFwdIdeal.nD Cert.PairNormFwdIdeal.τ).loc Cert.PairNormFwdIdeal.main_arg1)
      ∧ m' ((c.tc : Thread Cert.PairNormFwdSpecIdeal.nD Cert.PairNormFwdSpecIdeal.τ).loc Cert.PairNormFwdSpecIdeal.main_arg2) = m ((c.tc : Thread Cert.PairNormFwdIdeal.nD Cert.PairNormFwdIdeal.τ).loc Cert.PairNormFwdIdeal.main_arg2)) →
    ∃ (v0 : (c : Dev Cert.PairNormFwdIdeal.nD) → Buf (Elt Ideal) ((c.tc : Thread Cert.PairNormFwdIdeal.nD Cert.PairNormFwdIdeal.τ).loc Cert.PairNormFwdIdeal.main_v0_0)) (v1 : (c : Dev Cert.PairNormFwdIdeal.nD) → Buf (Elt Ideal) ((c.tc : Thread Cert.PairNormFwdIdeal.nD Cert.PairNormFwdIdeal.τ).loc Cert.PairNormFwdIdeal.main_v0_1)),
      θ_run (Cert.PairNormFwdIdeal.defs (F := Ideal)) (onTc (τ := Cert.PairNormFwdIdeal.τ) (Cert.PairNormFwdIdeal.main (F := Ideal))) ⟨m, fun _ => 0, g⟩ (fun r => ∀ c : Dev Cert.PairNormFwdIdeal.nD,
          r.2.mem ((c.tc : Thread Cert.PairNormFwdIdeal.nD Cert.PairNormFwdIdeal.τ).loc Cert.PairNormFwdIdeal.main_v0_0) = v0 c
          ∧ r.2.mem ((c.tc : Thread Cert.PairNormFwdIdeal.nD Cert.PairNormFwdIdeal.τ).loc Cert.PairNormFwdIdeal.main_v0_1) = v1 c
          ∧ r.2.mem ((c.tc : Thread Cert.PairNormFwdIdeal.nD Cert.PairNormFwdIdeal.τ).loc Cert.PairNormFwdIdeal.main_arg0) = m ((c.tc : Thread Cert.PairNormFwdIdeal.nD Cert.PairNormFwdIdeal.τ).loc Cert.PairNormFwdIdeal.main_arg0)
          ∧ r.2.mem ((c.tc : Thread Cert.PairNormFwdIdeal.nD Cert.PairNormFwdIdeal.τ).loc Cert.PairNormFwdIdeal.main_arg1) = m ((c.tc : Thread Cert.PairNormFwdIdeal.nD Cert.PairNormFwdIdeal.τ).loc Cert.PairNormFwdIdeal.main_arg1)
          ∧ r.2.mem ((c.tc : Thread Cert.PairNormFwdIdeal.nD Cert.PairNormFwdIdeal.τ).loc Cert.PairNormFwdIdeal.main_arg2) = m ((c.tc : Thread Cert.PairNormFwdIdeal.nD Cert.PairNormFwdIdeal.τ).loc Cert.PairNormFwdIdeal.main_arg2))
      ∧ θ_run (Cert.PairNormFwdSpecIdeal.defs (F := Ideal)) (onTc (τ := Cert.PairNormFwdSpecIdeal.τ) (Cert.PairNormFwdSpecIdeal.main (F := Ideal))) ⟨m', fun _ => 0, g'⟩ (fun r => ∀ c : Dev Cert.PairNormFwdSpecIdeal.nD,
          r.2.mem ((c.tc : Thread Cert.PairNormFwdSpecIdeal.nD Cert.PairNormFwdSpecIdeal.τ).loc Cert.PairNormFwdSpecIdeal.main_v12) = v0 c
          ∧ r.2.mem ((c.tc : Thread Cert.PairNormFwdSpecIdeal.nD Cert.PairNormFwdSpecIdeal.τ).loc Cert.PairNormFwdSpecIdeal.main_v25) = v1 c
          ∧ r.2.mem ((c.tc : Thread Cert.PairNormFwdSpecIdeal.nD Cert.PairNormFwdSpecIdeal.τ).loc Cert.PairNormFwdSpecIdeal.main_arg0) = m' ((c.tc : Thread Cert.PairNormFwdSpecIdeal.nD Cert.PairNormFwdSpecIdeal.τ).loc Cert.PairNormFwdSpecIdeal.main_arg0)
          ∧ r.2.mem ((c.tc : Thread Cert.PairNormFwdSpecIdeal.nD Cert.PairNormFwdSpecIdeal.τ).loc Cert.PairNormFwdSpecIdeal.main_arg1) = m' ((c.tc : Thread Cert.PairNormFwdSpecIdeal.nD Cert.PairNormFwdSpecIdeal.τ).loc Cert.PairNormFwdSpecIdeal.main_arg1)
          ∧ r.2.mem ((c.tc : Thread Cert.PairNormFwdSpecIdeal.nD Cert.PairNormFwdSpecIdeal.τ).loc Cert.PairNormFwdSpecIdeal.main_arg2) = m' ((c.tc : Thread Cert.PairNormFwdSpecIdeal.nD Cert.PairNormFwdSpecIdeal.τ).loc Cert.PairNormFwdSpecIdeal.main_arg2))

def preserves_MemFwd_MemFwdIdeal : Prop :=
  True

def algebraic_MemFwdIdeal_MemFwdSpecIdeal_pre_real_scores_b [hMemFwdIdeal : Cert.MemFwdIdeal.Facts] [hMemFwdSpecIdeal : Cert.MemFwdSpecIdeal.Facts] [hPre_real_scores_b : Cert.Pre_real_scores_b.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdSpecIdeal.nD Cert.MemFwdSpecIdeal.τ Cert.MemFwdSpecIdeal.sig) → Buf (Elt Ideal) ℓ) (g' : Dev Cert.MemFwdSpecIdeal.nD → PrngReg), Pre_MemFwdIdeal_real_scores_b m →
    (∀ c : Dev Cert.MemFwdIdeal.nD,
      m' ((c.tc : Thread Cert.MemFwdSpecIdeal.nD Cert.MemFwdSpecIdeal.τ).loc Cert.MemFwdSpecIdeal.main_arg0) = m ((c.tc : Thread Cert.MemFwdIdeal.nD Cert.MemFwdIdeal.τ).loc Cert.MemFwdIdeal.main_arg0)
      ∧ m' ((c.tc : Thread Cert.MemFwdSpecIdeal.nD Cert.MemFwdSpecIdeal.τ).loc Cert.MemFwdSpecIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdSpecIdeal.defs (F := Ideal)) (onTc (τ := Cert.MemFwdSpecIdeal.τ) (Cert.MemFwdSpecIdeal.main (F := Ideal))) ⟨m', fun _ => 0, g'⟩ (fun r => ∀ c : Dev Cert.MemFwdSpecIdeal.nD,
          r.2.mem ((c.tc : Thread Cert.MemFwdSpecIdeal.nD Cert.MemFwdSpecIdeal.τ).loc Cert.MemFwdSpecIdeal.main_v27) = v0 c
          ∧ r.2.mem ((c.tc : Thread Cert.MemFwdSpecIdeal.nD Cert.MemFwdSpecIdeal.τ).loc Cert.MemFwdSpecIdeal.main_arg0) = m' ((c.tc : Thread Cert.MemFwdSpecIdeal.nD Cert.MemFwdSpecIdeal.τ).loc Cert.MemFwdSpecIdeal.main_arg0)
          ∧ r.2.mem ((c.tc : Thread Cert.MemFwdSpecIdeal.nD Cert.MemFwdSpecIdeal.τ).loc Cert.MemFwdSpecIdeal.main_arg1) = m' ((c.tc : Thread Cert.MemFwdSpecIdeal.nD Cert.MemFwdSpecIdeal.τ).loc Cert.MemFwdSpecIdeal.main_arg1))

def preserves_MemFwdA_MemFwdAIdeal : Prop :=
  True

def algebraic_MemFwdAIdeal_MemFwdASpecIdeal_pre_real_scores_a [hMemFwdAIdeal : Cert.MemFwdAIdeal.Facts] [hMemFwdASpecIdeal : Cert.MemFwdASpecIdeal.Facts] [hPre_real_scores_a : Cert.Pre_real_scores_a.Facts] : Prop :=
  ∀ (m : (ℓ : Loc Cert.MemFwdAIdeal.nD Cert.MemFwdAIdeal.τ Cert.MemFwdAIdeal.sig) → Buf (Elt Ideal) ℓ) (g : Dev Cert.MemFwdAIdeal.nD → PrngReg)
    (m' : (ℓ : Loc Cert.MemFwdASpecIdeal.nD Cert.MemFwdASpecIdeal.τ Cert.MemFwdASpecIdeal.sig) → Buf (Elt Ideal) ℓ) (g' : Dev Cert.MemFwdASpecIdeal.nD → PrngReg), Pre_MemFwdAIdeal_real_scores_a m →
    (∀ c : Dev Cert.MemFwdAIdeal.nD,
      m' ((c.tc : Thread Cert.MemFwdASpecIdeal.nD Cert.MemFwdASpecIdeal.τ).loc Cert.MemFwdASpecIdeal.main_arg0) = m ((c.tc : Thread Cert.MemFwdAIdeal.nD Cert.MemFwdAIdeal.τ).loc Cert.MemFwdAIdeal.main_arg0)
      ∧ m' ((c.tc : Thread Cert.MemFwdASpecIdeal.nD Cert.MemFwdASpecIdeal.τ).loc Cert.MemFwdASpecIdeal.main_arg1) = m ((c.tc : Thread Cert.MemFwdAIdeal.nD Cert.MemFwdAIdeal.τ).loc Cert.MemFwdAIdeal.main_arg1)) →
    ∃ (v0 : (c : Dev Cert.MemFwdAIdeal.nD) → Buf (Elt Ideal) ((c.tc : Thread Cert.MemFwdAIdeal.nD Cert.MemFwdAIdeal.τ).loc Cert.MemFwdAIdeal.main_v0)),
      θ_run (Cert.MemFwdAIdeal.defs (F := Ideal)) (onTc (τ := Cert.MemFwdAIdeal.τ) (Cert.MemFwdAIdeal.main (F := Ideal))) ⟨m, fun _ => 0, g⟩ (fun r => ∀ c : Dev Cert.MemFwdAIdeal.nD,
          r.2.mem ((c.tc : Thread Cert.MemFwdAIdeal.nD Cert.MemFwdAIdeal.τ).loc Cert.MemFwdAIdeal.main_v0) = v0 c
          ∧ r.2.mem ((c.tc : Thread Cert.MemFwdAIdeal.nD Cert.MemFwdAIdeal.τ).loc Cert.MemFwdAIdeal.main_arg0) = m ((c.tc : Thread Cert.MemFwdAIdeal.nD Cert.MemFwdAIdeal.τ).loc Cert.MemFwdAIdeal.main_arg0)
          ∧ r.2.mem ((c.tc : Thread Cert.MemFwdAIdeal.nD Cert.MemFwdAIdeal.τ).loc Cert.MemFwdAIdeal.main_arg1) = m ((c.tc : Thread Cert.MemFwdAIdeal.nD Cert.MemFwdAIdeal.τ).loc Cert.MemFwdAIdeal.main_arg1))
      ∧ θ_run (Cert.MemFwdASpecIdeal.defs (F := Ideal)) (onTc (τ := Cert.MemFwdASpecIdeal.τ) (Cert.MemFwdASpecIdeal.main (F := Ideal))) ⟨m', fun _ => 0, g'⟩ (fun r => ∀ c : Dev Cert.MemFwdASpecIdeal.nD,
          r.2.mem ((c.tc : Thread Cert.MemFwdASpecIdeal.nD Cert.MemFwdASpecIdeal.τ).loc Cert.MemFwdASpecIdeal.main_v28) = v0 c
          ∧ r.2.mem ((c.tc : Thread Cert.MemFwdASpecIdeal.nD Cert.MemFwdASpecIdeal.τ).loc Cert.MemFwdASpecIdeal.main_arg0) = m' ((c.tc : Thread Cert.MemFwdASpecIdeal.nD Cert.MemFwdASpecIdeal.τ).loc Cert.MemFwdASpecIdeal.main_arg0)
          ∧ r.2.mem ((c.tc : Thread Cert.MemFwdASpecIdeal.nD Cert.MemFwdASpecIdeal.τ).loc Cert.MemFwdASpecIdeal.main_arg1) = m' ((c.tc : Thread Cert.MemFwdASpecIdeal.nD Cert.MemFwdASpecIdeal.τ).loc Cert.MemFwdASpecIdeal.main_arg1))

def preserves_MemBwdA_MemBwdAIdeal : Prop :=
  True

def algebraic_MemBwdAIdeal_MemBwdASpecIdeal_pre_real_scores_a_bwd [hMemBwdAIdeal : Cert.MemBwdAIdeal.Facts] [hMemBwdASpecIdeal : Cert.MemBwdASpecIdeal.Facts] [hPre_real_scores_a_bwd : Cert.Pre_real_scores_a_bwd.Facts] : Prop :=
  ∀ (m : (ℓ : Loc Cert.MemBwdAIdeal.nD Cert.MemBwdAIdeal.τ Cert.MemBwdAIdeal.sig) → Buf (Elt Ideal) ℓ) (g : Dev Cert.MemBwdAIdeal.nD → PrngReg)
    (m' : (ℓ : Loc Cert.MemBwdASpecIdeal.nD Cert.MemBwdASpecIdeal.τ Cert.MemBwdASpecIdeal.sig) → Buf (Elt Ideal) ℓ) (g' : Dev Cert.MemBwdASpecIdeal.nD → PrngReg), Pre_MemBwdAIdeal_real_scores_a_bwd m →
    (∀ c : Dev Cert.MemBwdAIdeal.nD,
      m' ((c.tc : Thread Cert.MemBwdASpecIdeal.nD Cert.MemBwdASpecIdeal.τ).loc Cert.MemBwdASpecIdeal.main_arg0) = m ((c.tc : Thread Cert.MemBwdAIdeal.nD Cert.MemBwdAIdeal.τ).loc Cert.MemBwdAIdeal.main_arg0)
      ∧ m' ((c.tc : Thread Cert.MemBwdASpecIdeal.nD Cert.MemBwdASpecIdeal.τ).loc Cert.MemBwdASpecIdeal.main_arg1) = m ((c.tc : Thread Cert.MemBwdAIdeal.nD Cert.MemBwdAIdeal.τ).loc Cert.MemBwdAIdeal.main_arg1)
      ∧ m' ((c.tc : Thread Cert.MemBwdASpecIdeal.nD Cert.MemBwdASpecIdeal.τ).loc Cert.MemBwdASpecIdeal.main_arg2) = m ((c.tc : Thread Cert.MemBwdAIdeal.nD Cert.MemBwdAIdeal.τ).loc Cert.MemBwdAIdeal.main_arg2)) →
    ∃ (v0 : (c : Dev Cert.MemBwdAIdeal.nD) → Buf (Elt Ideal) ((c.tc : Thread Cert.MemBwdAIdeal.nD Cert.MemBwdAIdeal.τ).loc Cert.MemBwdAIdeal.main_v0_0)) (v1 : (c : Dev Cert.MemBwdAIdeal.nD) → Buf (Elt Ideal) ((c.tc : Thread Cert.MemBwdAIdeal.nD Cert.MemBwdAIdeal.τ).loc Cert.MemBwdAIdeal.main_v0_1)) (v2 : (c : Dev Cert.MemBwdAIdeal.nD) → Buf (Elt Ideal) ((c.tc : Thread Cert.MemBwdAIdeal.nD Cert.MemBwdAIdeal.τ).loc Cert.MemBwdAIdeal.main_v0_2)),
      θ_run (Cert.MemBwdAIdeal.defs (F := Ideal)) (onTc (τ := Cert.MemBwdAIdeal.τ) (Cert.MemBwdAIdeal.main (F := Ideal))) ⟨m, fun _ => 0, g⟩ (fun r => ∀ c : Dev Cert.MemBwdAIdeal.nD,
          r.2.mem ((c.tc : Thread Cert.MemBwdAIdeal.nD Cert.MemBwdAIdeal.τ).loc Cert.MemBwdAIdeal.main_v0_0) = v0 c
          ∧ r.2.mem ((c.tc : Thread Cert.MemBwdAIdeal.nD Cert.MemBwdAIdeal.τ).loc Cert.MemBwdAIdeal.main_v0_1) = v1 c
          ∧ r.2.mem ((c.tc : Thread Cert.MemBwdAIdeal.nD Cert.MemBwdAIdeal.τ).loc Cert.MemBwdAIdeal.main_v0_2) = v2 c
          ∧ r.2.mem ((c.tc : Thread Cert.MemBwdAIdeal.nD Cert.MemBwdAIdeal.τ).loc Cert.MemBwdAIdeal.main_arg0) = m ((c.tc : Thread Cert.MemBwdAIdeal.nD Cert.MemBwdAIdeal.τ).loc Cert.MemBwdAIdeal.main_arg0)
          ∧ r.2.mem ((c.tc : Thread Cert.MemBwdAIdeal.nD Cert.MemBwdAIdeal.τ).loc Cert.MemBwdAIdeal.main_arg1) = m ((c.tc : Thread Cert.MemBwdAIdeal.nD Cert.MemBwdAIdeal.τ).loc Cert.MemBwdAIdeal.main_arg1)
          ∧ r.2.mem ((c.tc : Thread Cert.MemBwdAIdeal.nD Cert.MemBwdAIdeal.τ).loc Cert.MemBwdAIdeal.main_arg2) = m ((c.tc : Thread Cert.MemBwdAIdeal.nD Cert.MemBwdAIdeal.τ).loc Cert.MemBwdAIdeal.main_arg2))
      ∧ θ_run (Cert.MemBwdASpecIdeal.defs (F := Ideal)) (onTc (τ := Cert.MemBwdASpecIdeal.τ) (Cert.MemBwdASpecIdeal.main (F := Ideal))) ⟨m', fun _ => 0, g'⟩ (fun r => ∀ c : Dev Cert.MemBwdASpecIdeal.nD,
          r.2.mem ((c.tc : Thread Cert.MemBwdASpecIdeal.nD Cert.MemBwdASpecIdeal.τ).loc Cert.MemBwdASpecIdeal.main_v74) = v0 c
          ∧ r.2.mem ((c.tc : Thread Cert.MemBwdASpecIdeal.nD Cert.MemBwdASpecIdeal.τ).loc Cert.MemBwdASpecIdeal.main_v75) = v1 c
          ∧ r.2.mem ((c.tc : Thread Cert.MemBwdASpecIdeal.nD Cert.MemBwdASpecIdeal.τ).loc Cert.MemBwdASpecIdeal.main_v76) = v2 c
          ∧ r.2.mem ((c.tc : Thread Cert.MemBwdASpecIdeal.nD Cert.MemBwdASpecIdeal.τ).loc Cert.MemBwdASpecIdeal.main_arg0) = m' ((c.tc : Thread Cert.MemBwdASpecIdeal.nD Cert.MemBwdASpecIdeal.τ).loc Cert.MemBwdASpecIdeal.main_arg0)
          ∧ r.2.mem ((c.tc : Thread Cert.MemBwdASpecIdeal.nD Cert.MemBwdASpecIdeal.τ).loc Cert.MemBwdASpecIdeal.main_arg1) = m' ((c.tc : Thread Cert.MemBwdASpecIdeal.nD Cert.MemBwdASpecIdeal.τ).loc Cert.MemBwdASpecIdeal.main_arg1)
          ∧ r.2.mem ((c.tc : Thread Cert.MemBwdASpecIdeal.nD Cert.MemBwdASpecIdeal.τ).loc Cert.MemBwdASpecIdeal.main_arg2) = m' ((c.tc : Thread Cert.MemBwdASpecIdeal.nD Cert.MemBwdASpecIdeal.τ).loc Cert.MemBwdASpecIdeal.main_arg2))

def preserves_CombineFwd_CombineFwdIdeal : Prop :=
  True

def algebraic_CombineFwdIdeal_CombineFwdSpecIdeal_pre_real_lses [hCombineFwdIdeal : Cert.CombineFwdIdeal.Facts] [hCombineFwdSpecIdeal : Cert.CombineFwdSpecIdeal.Facts] [hPre_real_lses : Cert.Pre_real_lses.Facts] : Prop :=
  ∀ (m : (ℓ : Loc Cert.CombineFwdIdeal.nD Cert.CombineFwdIdeal.τ Cert.CombineFwdIdeal.sig) → Buf (Elt Ideal) ℓ) (g : Dev Cert.CombineFwdIdeal.nD → PrngReg)
    (m' : (ℓ : Loc Cert.CombineFwdSpecIdeal.nD Cert.CombineFwdSpecIdeal.τ Cert.CombineFwdSpecIdeal.sig) → Buf (Elt Ideal) ℓ) (g' : Dev Cert.CombineFwdSpecIdeal.nD → PrngReg), Pre_CombineFwdIdeal_real_lses m →
    (∀ c : Dev Cert.CombineFwdIdeal.nD,
      m' ((c.tc : Thread Cert.CombineFwdSpecIdeal.nD Cert.CombineFwdSpecIdeal.τ).loc Cert.CombineFwdSpecIdeal.main_arg0) = m ((c.tc : Thread Cert.CombineFwdIdeal.nD Cert.CombineFwdIdeal.τ).loc Cert.CombineFwdIdeal.main_arg0)
      ∧ m' ((c.tc : Thread Cert.CombineFwdSpecIdeal.nD Cert.CombineFwdSpecIdeal.τ).loc Cert.CombineFwdSpecIdeal.main_arg1) = m ((c.tc : Thread Cert.CombineFwdIdeal.nD Cert.CombineFwdIdeal.τ).loc Cert.CombineFwdIdeal.main_arg1)
      ∧ m' ((c.tc : Thread Cert.CombineFwdSpecIdeal.nD Cert.CombineFwdSpecIdeal.τ).loc Cert.CombineFwdSpecIdeal.main_arg2) = m ((c.tc : Thread Cert.CombineFwdIdeal.nD Cert.CombineFwdIdeal.τ).loc Cert.CombineFwdIdeal.main_arg2)
      ∧ m' ((c.tc : Thread Cert.CombineFwdSpecIdeal.nD Cert.CombineFwdSpecIdeal.τ).loc Cert.CombineFwdSpecIdeal.main_arg3) = m ((c.tc : Thread Cert.CombineFwdIdeal.nD Cert.CombineFwdIdeal.τ).loc Cert.CombineFwdIdeal.main_arg3)
      ∧ m' ((c.tc : Thread Cert.CombineFwdSpecIdeal.nD Cert.CombineFwdSpecIdeal.τ).loc Cert.CombineFwdSpecIdeal.main_arg4) = m ((c.tc : Thread Cert.CombineFwdIdeal.nD Cert.CombineFwdIdeal.τ).loc Cert.CombineFwdIdeal.main_arg4)
      ∧ m' ((c.tc : Thread Cert.CombineFwdSpecIdeal.nD Cert.CombineFwdSpecIdeal.τ).loc Cert.CombineFwdSpecIdeal.main_arg5) = m ((c.tc : Thread Cert.CombineFwdIdeal.nD Cert.CombineFwdIdeal.τ).loc Cert.CombineFwdIdeal.main_arg5)) →
    ∃ (v0 : (c : Dev Cert.CombineFwdIdeal.nD) → Buf (Elt Ideal) ((c.tc : Thread Cert.CombineFwdIdeal.nD Cert.CombineFwdIdeal.τ).loc Cert.CombineFwdIdeal.main_v0)),
      θ_run (Cert.CombineFwdIdeal.defs (F := Ideal)) (onTc (τ := Cert.CombineFwdIdeal.τ) (Cert.CombineFwdIdeal.main (F := Ideal))) ⟨m, fun _ => 0, g⟩ (fun r => ∀ c : Dev Cert.CombineFwdIdeal.nD,
          r.2.mem ((c.tc : Thread Cert.CombineFwdIdeal.nD Cert.CombineFwdIdeal.τ).loc Cert.CombineFwdIdeal.main_v0) = v0 c
          ∧ r.2.mem ((c.tc : Thread Cert.CombineFwdIdeal.nD Cert.CombineFwdIdeal.τ).loc Cert.CombineFwdIdeal.main_arg0) = m ((c.tc : Thread Cert.CombineFwdIdeal.nD Cert.CombineFwdIdeal.τ).loc Cert.CombineFwdIdeal.main_arg0)
          ∧ r.2.mem ((c.tc : Thread Cert.CombineFwdIdeal.nD Cert.CombineFwdIdeal.τ).loc Cert.CombineFwdIdeal.main_arg1) = m ((c.tc : Thread Cert.CombineFwdIdeal.nD Cert.CombineFwdIdeal.τ).loc Cert.CombineFwdIdeal.main_arg1)
          ∧ r.2.mem ((c.tc : Thread Cert.CombineFwdIdeal.nD Cert.CombineFwdIdeal.τ).loc Cert.CombineFwdIdeal.main_arg2) = m ((c.tc : Thread Cert.CombineFwdIdeal.nD Cert.CombineFwdIdeal.τ).loc Cert.CombineFwdIdeal.main_arg2)
          ∧ r.2.mem ((c.tc : Thread Cert.CombineFwdIdeal.nD Cert.CombineFwdIdeal.τ).loc Cert.CombineFwdIdeal.main_arg3) = m ((c.tc : Thread Cert.CombineFwdIdeal.nD Cert.CombineFwdIdeal.τ).loc Cert.CombineFwdIdeal.main_arg3)
          ∧ r.2.mem ((c.tc : Thread Cert.CombineFwdIdeal.nD Cert.CombineFwdIdeal.τ).loc Cert.CombineFwdIdeal.main_arg4) = m ((c.tc : Thread Cert.CombineFwdIdeal.nD Cert.CombineFwdIdeal.τ).loc Cert.CombineFwdIdeal.main_arg4)
          ∧ r.2.mem ((c.tc : Thread Cert.CombineFwdIdeal.nD Cert.CombineFwdIdeal.τ).loc Cert.CombineFwdIdeal.main_arg5) = m ((c.tc : Thread Cert.CombineFwdIdeal.nD Cert.CombineFwdIdeal.τ).loc Cert.CombineFwdIdeal.main_arg5))
      ∧ θ_run (Cert.CombineFwdSpecIdeal.defs (F := Ideal)) (onTc (τ := Cert.CombineFwdSpecIdeal.τ) (Cert.CombineFwdSpecIdeal.main (F := Ideal))) ⟨m', fun _ => 0, g'⟩ (fun r => ∀ c : Dev Cert.CombineFwdSpecIdeal.nD,
          r.2.mem ((c.tc : Thread Cert.CombineFwdSpecIdeal.nD Cert.CombineFwdSpecIdeal.τ).loc Cert.CombineFwdSpecIdeal.main_v17) = v0 c
          ∧ r.2.mem ((c.tc : Thread Cert.CombineFwdSpecIdeal.nD Cert.CombineFwdSpecIdeal.τ).loc Cert.CombineFwdSpecIdeal.main_arg0) = m' ((c.tc : Thread Cert.CombineFwdSpecIdeal.nD Cert.CombineFwdSpecIdeal.τ).loc Cert.CombineFwdSpecIdeal.main_arg0)
          ∧ r.2.mem ((c.tc : Thread Cert.CombineFwdSpecIdeal.nD Cert.CombineFwdSpecIdeal.τ).loc Cert.CombineFwdSpecIdeal.main_arg1) = m' ((c.tc : Thread Cert.CombineFwdSpecIdeal.nD Cert.CombineFwdSpecIdeal.τ).loc Cert.CombineFwdSpecIdeal.main_arg1)
          ∧ r.2.mem ((c.tc : Thread Cert.CombineFwdSpecIdeal.nD Cert.CombineFwdSpecIdeal.τ).loc Cert.CombineFwdSpecIdeal.main_arg2) = m' ((c.tc : Thread Cert.CombineFwdSpecIdeal.nD Cert.CombineFwdSpecIdeal.τ).loc Cert.CombineFwdSpecIdeal.main_arg2)
          ∧ r.2.mem ((c.tc : Thread Cert.CombineFwdSpecIdeal.nD Cert.CombineFwdSpecIdeal.τ).loc Cert.CombineFwdSpecIdeal.main_arg3) = m' ((c.tc : Thread Cert.CombineFwdSpecIdeal.nD Cert.CombineFwdSpecIdeal.τ).loc Cert.CombineFwdSpecIdeal.main_arg3)
          ∧ r.2.mem ((c.tc : Thread Cert.CombineFwdSpecIdeal.nD Cert.CombineFwdSpecIdeal.τ).loc Cert.CombineFwdSpecIdeal.main_arg4) = m' ((c.tc : Thread Cert.CombineFwdSpecIdeal.nD Cert.CombineFwdSpecIdeal.τ).loc Cert.CombineFwdSpecIdeal.main_arg4)
          ∧ r.2.mem ((c.tc : Thread Cert.CombineFwdSpecIdeal.nD Cert.CombineFwdSpecIdeal.τ).loc Cert.CombineFwdSpecIdeal.main_arg5) = m' ((c.tc : Thread Cert.CombineFwdSpecIdeal.nD Cert.CombineFwdSpecIdeal.τ).loc Cert.CombineFwdSpecIdeal.main_arg5))

def preserves_CombineBwd_CombineBwdIdeal : Prop :=
  True

def algebraic_CombineBwdIdeal_CombineBwdSpecIdeal_pre_real_groups [hCombineBwdIdeal : Cert.CombineBwdIdeal.Facts] [hCombineBwdSpecIdeal : Cert.CombineBwdSpecIdeal.Facts] [hPre_real_groups : Cert.Pre_real_groups.Facts] : Prop :=
  ∀ (m : (ℓ : Loc Cert.CombineBwdIdeal.nD Cert.CombineBwdIdeal.τ Cert.CombineBwdIdeal.sig) → Buf (Elt Ideal) ℓ) (g : Dev Cert.CombineBwdIdeal.nD → PrngReg)
    (m' : (ℓ : Loc Cert.CombineBwdSpecIdeal.nD Cert.CombineBwdSpecIdeal.τ Cert.CombineBwdSpecIdeal.sig) → Buf (Elt Ideal) ℓ) (g' : Dev Cert.CombineBwdSpecIdeal.nD → PrngReg), Pre_CombineBwdIdeal_real_groups m →
    (∀ c : Dev Cert.CombineBwdIdeal.nD,
      m' ((c.tc : Thread Cert.CombineBwdSpecIdeal.nD Cert.CombineBwdSpecIdeal.τ).loc Cert.CombineBwdSpecIdeal.main_arg0) = m ((c.tc : Thread Cert.CombineBwdIdeal.nD Cert.CombineBwdIdeal.τ).loc Cert.CombineBwdIdeal.main_arg0)
      ∧ m' ((c.tc : Thread Cert.CombineBwdSpecIdeal.nD Cert.CombineBwdSpecIdeal.τ).loc Cert.CombineBwdSpecIdeal.main_arg1) = m ((c.tc : Thread Cert.CombineBwdIdeal.nD Cert.CombineBwdIdeal.τ).loc Cert.CombineBwdIdeal.main_arg1)
      ∧ m' ((c.tc : Thread Cert.CombineBwdSpecIdeal.nD Cert.CombineBwdSpecIdeal.τ).loc Cert.CombineBwdSpecIdeal.main_arg2) = m ((c.tc : Thread Cert.CombineBwdIdeal.nD Cert.CombineBwdIdeal.τ).loc Cert.CombineBwdIdeal.main_arg2)
      ∧ m' ((c.tc : Thread Cert.CombineBwdSpecIdeal.nD Cert.CombineBwdSpecIdeal.τ).loc Cert.CombineBwdSpecIdeal.main_arg3) = m ((c.tc : Thread Cert.CombineBwdIdeal.nD Cert.CombineBwdIdeal.τ).loc Cert.CombineBwdIdeal.main_arg3)
      ∧ m' ((c.tc : Thread Cert.CombineBwdSpecIdeal.nD Cert.CombineBwdSpecIdeal.τ).loc Cert.CombineBwdSpecIdeal.main_arg4) = m ((c.tc : Thread Cert.CombineBwdIdeal.nD Cert.CombineBwdIdeal.τ).loc Cert.CombineBwdIdeal.main_arg4)
      ∧ m' ((c.tc : Thread Cert.CombineBwdSpecIdeal.nD Cert.CombineBwdSpecIdeal.τ).loc Cert.CombineBwdSpecIdeal.main_arg5) = m ((c.tc : Thread Cert.CombineBwdIdeal.nD Cert.CombineBwdIdeal.τ).loc Cert.CombineBwdIdeal.main_arg5)
      ∧ m' ((c.tc : Thread Cert.CombineBwdSpecIdeal.nD Cert.CombineBwdSpecIdeal.τ).loc Cert.CombineBwdSpecIdeal.main_arg6) = m ((c.tc : Thread Cert.CombineBwdIdeal.nD Cert.CombineBwdIdeal.τ).loc Cert.CombineBwdIdeal.main_arg6)) →
    ∃ (v0 : (c : Dev Cert.CombineBwdIdeal.nD) → Buf (Elt Ideal) ((c.tc : Thread Cert.CombineBwdIdeal.nD Cert.CombineBwdIdeal.τ).loc Cert.CombineBwdIdeal.main_v0_0)) (v1 : (c : Dev Cert.CombineBwdIdeal.nD) → Buf (Elt Ideal) ((c.tc : Thread Cert.CombineBwdIdeal.nD Cert.CombineBwdIdeal.τ).loc Cert.CombineBwdIdeal.main_v0_1)),
      θ_run (Cert.CombineBwdIdeal.defs (F := Ideal)) (onTc (τ := Cert.CombineBwdIdeal.τ) (Cert.CombineBwdIdeal.main (F := Ideal))) ⟨m, fun _ => 0, g⟩ (fun r => ∀ c : Dev Cert.CombineBwdIdeal.nD,
          r.2.mem ((c.tc : Thread Cert.CombineBwdIdeal.nD Cert.CombineBwdIdeal.τ).loc Cert.CombineBwdIdeal.main_v0_0) = v0 c
          ∧ r.2.mem ((c.tc : Thread Cert.CombineBwdIdeal.nD Cert.CombineBwdIdeal.τ).loc Cert.CombineBwdIdeal.main_v0_1) = v1 c
          ∧ r.2.mem ((c.tc : Thread Cert.CombineBwdIdeal.nD Cert.CombineBwdIdeal.τ).loc Cert.CombineBwdIdeal.main_arg0) = m ((c.tc : Thread Cert.CombineBwdIdeal.nD Cert.CombineBwdIdeal.τ).loc Cert.CombineBwdIdeal.main_arg0)
          ∧ r.2.mem ((c.tc : Thread Cert.CombineBwdIdeal.nD Cert.CombineBwdIdeal.τ).loc Cert.CombineBwdIdeal.main_arg1) = m ((c.tc : Thread Cert.CombineBwdIdeal.nD Cert.CombineBwdIdeal.τ).loc Cert.CombineBwdIdeal.main_arg1)
          ∧ r.2.mem ((c.tc : Thread Cert.CombineBwdIdeal.nD Cert.CombineBwdIdeal.τ).loc Cert.CombineBwdIdeal.main_arg2) = m ((c.tc : Thread Cert.CombineBwdIdeal.nD Cert.CombineBwdIdeal.τ).loc Cert.CombineBwdIdeal.main_arg2)
          ∧ r.2.mem ((c.tc : Thread Cert.CombineBwdIdeal.nD Cert.CombineBwdIdeal.τ).loc Cert.CombineBwdIdeal.main_arg3) = m ((c.tc : Thread Cert.CombineBwdIdeal.nD Cert.CombineBwdIdeal.τ).loc Cert.CombineBwdIdeal.main_arg3)
          ∧ r.2.mem ((c.tc : Thread Cert.CombineBwdIdeal.nD Cert.CombineBwdIdeal.τ).loc Cert.CombineBwdIdeal.main_arg4) = m ((c.tc : Thread Cert.CombineBwdIdeal.nD Cert.CombineBwdIdeal.τ).loc Cert.CombineBwdIdeal.main_arg4)
          ∧ r.2.mem ((c.tc : Thread Cert.CombineBwdIdeal.nD Cert.CombineBwdIdeal.τ).loc Cert.CombineBwdIdeal.main_arg5) = m ((c.tc : Thread Cert.CombineBwdIdeal.nD Cert.CombineBwdIdeal.τ).loc Cert.CombineBwdIdeal.main_arg5)
          ∧ r.2.mem ((c.tc : Thread Cert.CombineBwdIdeal.nD Cert.CombineBwdIdeal.τ).loc Cert.CombineBwdIdeal.main_arg6) = m ((c.tc : Thread Cert.CombineBwdIdeal.nD Cert.CombineBwdIdeal.τ).loc Cert.CombineBwdIdeal.main_arg6))
      ∧ θ_run (Cert.CombineBwdSpecIdeal.defs (F := Ideal)) (onTc (τ := Cert.CombineBwdSpecIdeal.τ) (Cert.CombineBwdSpecIdeal.main (F := Ideal))) ⟨m', fun _ => 0, g'⟩ (fun r => ∀ c : Dev Cert.CombineBwdSpecIdeal.nD,
          r.2.mem ((c.tc : Thread Cert.CombineBwdSpecIdeal.nD Cert.CombineBwdSpecIdeal.τ).loc Cert.CombineBwdSpecIdeal.main_v55) = v0 c
          ∧ r.2.mem ((c.tc : Thread Cert.CombineBwdSpecIdeal.nD Cert.CombineBwdSpecIdeal.τ).loc Cert.CombineBwdSpecIdeal.main_v59) = v1 c
          ∧ r.2.mem ((c.tc : Thread Cert.CombineBwdSpecIdeal.nD Cert.CombineBwdSpecIdeal.τ).loc Cert.CombineBwdSpecIdeal.main_arg0) = m' ((c.tc : Thread Cert.CombineBwdSpecIdeal.nD Cert.CombineBwdSpecIdeal.τ).loc Cert.CombineBwdSpecIdeal.main_arg0)
          ∧ r.2.mem ((c.tc : Thread Cert.CombineBwdSpecIdeal.nD Cert.CombineBwdSpecIdeal.τ).loc Cert.CombineBwdSpecIdeal.main_arg1) = m' ((c.tc : Thread Cert.CombineBwdSpecIdeal.nD Cert.CombineBwdSpecIdeal.τ).loc Cert.CombineBwdSpecIdeal.main_arg1)
          ∧ r.2.mem ((c.tc : Thread Cert.CombineBwdSpecIdeal.nD Cert.CombineBwdSpecIdeal.τ).loc Cert.CombineBwdSpecIdeal.main_arg2) = m' ((c.tc : Thread Cert.CombineBwdSpecIdeal.nD Cert.CombineBwdSpecIdeal.τ).loc Cert.CombineBwdSpecIdeal.main_arg2)
          ∧ r.2.mem ((c.tc : Thread Cert.CombineBwdSpecIdeal.nD Cert.CombineBwdSpecIdeal.τ).loc Cert.CombineBwdSpecIdeal.main_arg3) = m' ((c.tc : Thread Cert.CombineBwdSpecIdeal.nD Cert.CombineBwdSpecIdeal.τ).loc Cert.CombineBwdSpecIdeal.main_arg3)
          ∧ r.2.mem ((c.tc : Thread Cert.CombineBwdSpecIdeal.nD Cert.CombineBwdSpecIdeal.τ).loc Cert.CombineBwdSpecIdeal.main_arg4) = m' ((c.tc : Thread Cert.CombineBwdSpecIdeal.nD Cert.CombineBwdSpecIdeal.τ).loc Cert.CombineBwdSpecIdeal.main_arg4)
          ∧ r.2.mem ((c.tc : Thread Cert.CombineBwdSpecIdeal.nD Cert.CombineBwdSpecIdeal.τ).loc Cert.CombineBwdSpecIdeal.main_arg5) = m' ((c.tc : Thread Cert.CombineBwdSpecIdeal.nD Cert.CombineBwdSpecIdeal.τ).loc Cert.CombineBwdSpecIdeal.main_arg5)
          ∧ r.2.mem ((c.tc : Thread Cert.CombineBwdSpecIdeal.nD Cert.CombineBwdSpecIdeal.τ).loc Cert.CombineBwdSpecIdeal.main_arg6) = m' ((c.tc : Thread Cert.CombineBwdSpecIdeal.nD Cert.CombineBwdSpecIdeal.τ).loc Cert.CombineBwdSpecIdeal.main_arg6))

def Claim : Prop :=
  ∃ (hMemBwd : Cert.MemBwd.Facts) (hMemBwdIdeal : Cert.MemBwdIdeal.Facts) (hMemSpecIdeal : Cert.MemSpecIdeal.Facts) (hFfnUp : Cert.FfnUp.Facts) (hFfnUpIdeal : Cert.FfnUpIdeal.Facts) (hFfnUpSpecIdeal : Cert.FfnUpSpecIdeal.Facts) (hDownFwd : Cert.DownFwd.Facts) (hDownFwdIdeal : Cert.DownFwdIdeal.Facts) (hDownFwdSpecIdeal : Cert.DownFwdSpecIdeal.Facts) (hAIn : Cert.AIn.Facts) (hAInIdeal : Cert.AInIdeal.Facts) (hAInSpecIdeal : Cert.AInSpecIdeal.Facts) (hMemKv : Cert.MemKv.Facts) (hMemKvIdeal : Cert.MemKvIdeal.Facts) (hMemKvSpecIdeal : Cert.MemKvSpecIdeal.Facts) (hOutFwd : Cert.OutFwd.Facts) (hOutFwdIdeal : Cert.OutFwdIdeal.Facts) (hOutFwdSpecIdeal : Cert.OutFwdSpecIdeal.Facts) (hKvFwd : Cert.KvFwd.Facts) (hKvFwdIdeal : Cert.KvFwdIdeal.Facts) (hKvFwdSpecIdeal : Cert.KvFwdSpecIdeal.Facts) (hBIn : Cert.BIn.Facts) (hBInIdeal : Cert.BInIdeal.Facts) (hBInSpecIdeal : Cert.BInSpecIdeal.Facts) (hDownDx : Cert.DownDx.Facts) (hDownDxIdeal : Cert.DownDxIdeal.Facts) (hDownDxSpecIdeal : Cert.DownDxSpecIdeal.Facts) (hDownDw : Cert.DownDw.Facts) (hDownDwIdeal : Cert.DownDwIdeal.Facts) (hDownDwSpecIdeal : Cert.DownDwSpecIdeal.Facts) (hUpDx : Cert.UpDx.Facts) (hUpDxIdeal : Cert.UpDxIdeal.Facts) (hUpDxSpecIdeal : Cert.UpDxSpecIdeal.Facts) (hUpDw : Cert.UpDw.Facts) (hUpDwIdeal : Cert.UpDwIdeal.Facts) (hUpDwSpecIdeal : Cert.UpDwSpecIdeal.Facts) (hOutDx : Cert.OutDx.Facts) (hOutDxIdeal : Cert.OutDxIdeal.Facts) (hOutDxSpecIdeal : Cert.OutDxSpecIdeal.Facts) (hOutDw : Cert.OutDw.Facts) (hOutDwIdeal : Cert.OutDwIdeal.Facts) (hOutDwSpecIdeal : Cert.OutDwSpecIdeal.Facts) (hBInDx : Cert.BInDx.Facts) (hBInDxIdeal : Cert.BInDxIdeal.Facts) (hBInDxSpecIdeal : Cert.BInDxSpecIdeal.Facts) (hKvDx : Cert.KvDx.Facts) (hKvDxIdeal : Cert.KvDxIdeal.Facts) (hKvDxSpecIdeal : Cert.KvDxSpecIdeal.Facts) (hKvDw : Cert.KvDw.Facts) (hKvDwIdeal : Cert.KvDwIdeal.Facts) (hKvDwSpecIdeal : Cert.KvDwSpecIdeal.Facts) (hMemKvDx : Cert.MemKvDx.Facts) (hMemKvDxIdeal : Cert.MemKvDxIdeal.Facts) (hMemKvDxSpecIdeal : Cert.MemKvDxSpecIdeal.Facts) (hMemKvDw : Cert.MemKvDw.Facts) (hMemKvDwIdeal : Cert.MemKvDwIdeal.Facts) (hMemKvDwSpecIdeal : Cert.MemKvDwSpecIdeal.Facts) (hAInDw : Cert.AInDw.Facts) (hAInDwIdeal : Cert.AInDwIdeal.Facts) (hAInDwSpecIdeal : Cert.AInDwSpecIdeal.Facts) (hAInDx : Cert.AInDx.Facts) (hAInDxIdeal : Cert.AInDxIdeal.Facts) (hAInDxSpecIdeal : Cert.AInDxSpecIdeal.Facts) (hAdamAIn : Cert.AdamAIn.Facts) (hAdamAInIdeal : Cert.AdamAInIdeal.Facts) (hAdamAInSpecIdeal : Cert.AdamAInSpecIdeal.Facts) (hAdamOut : Cert.AdamOut.Facts) (hAdamOutIdeal : Cert.AdamOutIdeal.Facts) (hAdamOutSpecIdeal : Cert.AdamOutSpecIdeal.Facts) (hAdamMemKv : Cert.AdamMemKv.Facts) (hAdamMemKvIdeal : Cert.AdamMemKvIdeal.Facts) (hAdamMemKvSpecIdeal : Cert.AdamMemKvSpecIdeal.Facts) (hAdamUp : Cert.AdamUp.Facts) (hAdamUpIdeal : Cert.AdamUpIdeal.Facts) (hAdamUpSpecIdeal : Cert.AdamUpSpecIdeal.Facts) (hAdamDown : Cert.AdamDown.Facts) (hAdamDownIdeal : Cert.AdamDownIdeal.Facts) (hAdamDownSpecIdeal : Cert.AdamDownSpecIdeal.Facts) (hAdamKv : Cert.AdamKv.Facts) (hAdamKvIdeal : Cert.AdamKvIdeal.Facts) (hAdamKvSpecIdeal : Cert.AdamKvSpecIdeal.Facts) (hAdamNormShard : Cert.AdamNormShard.Facts) (hAdamNormShardIdeal : Cert.AdamNormShardIdeal.Facts) (hAdamNormShardSpecIdeal : Cert.AdamNormShardSpecIdeal.Facts) (hAdamConv : Cert.AdamConv.Facts) (hAdamConvIdeal : Cert.AdamConvIdeal.Facts) (hAdamConvSpecIdeal : Cert.AdamConvSpecIdeal.Facts) (hAdamNorm : Cert.AdamNorm.Facts) (hAdamNormIdeal : Cert.AdamNormIdeal.Facts) (hAdamNormSpecIdeal : Cert.AdamNormSpecIdeal.Facts) (hNormBwd : Cert.NormBwd.Facts) (hNormBwdIdeal : Cert.NormBwdIdeal.Facts) (hNormBwdSpecIdeal : Cert.NormBwdSpecIdeal.Facts) (hMemNormBwd : Cert.MemNormBwd.Facts) (hMemNormBwdIdeal : Cert.MemNormBwdIdeal.Facts) (hMemNormBwdSpecIdeal : Cert.MemNormBwdSpecIdeal.Facts) (hPairNormBwd : Cert.PairNormBwd.Facts) (hPairNormBwdIdeal : Cert.PairNormBwdIdeal.Facts) (hPairNormBwdSpecIdeal : Cert.PairNormBwdSpecIdeal.Facts) (hLossHead : Cert.LossHead.Facts) (hLossHeadIdeal : Cert.LossHeadIdeal.Facts) (hLossHeadSpecIdeal : Cert.LossHeadSpecIdeal.Facts) (hNormFwd : Cert.NormFwd.Facts) (hNormFwdIdeal : Cert.NormFwdIdeal.Facts) (hNormFwdSpecIdeal : Cert.NormFwdSpecIdeal.Facts) (hMemNormFwd : Cert.MemNormFwd.Facts) (hMemNormFwdIdeal : Cert.MemNormFwdIdeal.Facts) (hMemNormFwdSpecIdeal : Cert.MemNormFwdSpecIdeal.Facts) (hPairNormFwd : Cert.PairNormFwd.Facts) (hPairNormFwdIdeal : Cert.PairNormFwdIdeal.Facts) (hPairNormFwdSpecIdeal : Cert.PairNormFwdSpecIdeal.Facts) (hMemFwd : Cert.MemFwd.Facts) (hMemFwdIdeal : Cert.MemFwdIdeal.Facts) (hMemFwdSpecIdeal : Cert.MemFwdSpecIdeal.Facts) (hMemFwdA : Cert.MemFwdA.Facts) (hMemFwdAIdeal : Cert.MemFwdAIdeal.Facts) (hMemFwdASpecIdeal : Cert.MemFwdASpecIdeal.Facts) (hMemBwdA : Cert.MemBwdA.Facts) (hMemBwdAIdeal : Cert.MemBwdAIdeal.Facts) (hMemBwdASpecIdeal : Cert.MemBwdASpecIdeal.Facts) (hCombineFwd : Cert.CombineFwd.Facts) (hCombineFwdIdeal : Cert.CombineFwdIdeal.Facts) (hCombineFwdSpecIdeal : Cert.CombineFwdSpecIdeal.Facts) (hCombineBwd : Cert.CombineBwd.Facts) (hCombineBwdIdeal : Cert.CombineBwdIdeal.Facts) (hCombineBwdSpecIdeal : Cert.CombineBwdSpecIdeal.Facts) (hPre_real_scores : Cert.Pre_real_scores.Facts) (hPre_real_scores_b : Cert.Pre_real_scores_b.Facts) (hPre_real_scores_a : Cert.Pre_real_scores_a.Facts) (hPre_real_scores_a_bwd : Cert.Pre_real_scores_a_bwd.Facts) (hPre_real_lses : Cert.Pre_real_lses.Facts) (hPre_real_groups : Cert.Pre_real_groups.Facts),
    quiescent_MemBwd (hMemBwd := hMemBwd)
    ∧ quiescent_MemBwdIdeal (hMemBwdIdeal := hMemBwdIdeal)
    ∧ quiescent_MemBwdIdeal_pre_real_scores (hMemBwdIdeal := hMemBwdIdeal) (hPre_real_scores := hPre_real_scores)
    ∧ quiescent_MemSpecIdeal (hMemSpecIdeal := hMemSpecIdeal)
    ∧ quiescent_MemSpecIdeal_pre_real_scores (hMemSpecIdeal := hMemSpecIdeal) (hPre_real_scores := hPre_real_scores)
    ∧ quiescent_FfnUp (hFfnUp := hFfnUp)
    ∧ quiescent_FfnUpIdeal (hFfnUpIdeal := hFfnUpIdeal)
    ∧ quiescent_FfnUpSpecIdeal (hFfnUpSpecIdeal := hFfnUpSpecIdeal)
    ∧ quiescent_DownFwd (hDownFwd := hDownFwd)
    ∧ quiescent_DownFwdIdeal (hDownFwdIdeal := hDownFwdIdeal)
    ∧ quiescent_DownFwdSpecIdeal (hDownFwdSpecIdeal := hDownFwdSpecIdeal)
    ∧ quiescent_AIn (hAIn := hAIn)
    ∧ quiescent_AInIdeal (hAInIdeal := hAInIdeal)
    ∧ quiescent_AInSpecIdeal (hAInSpecIdeal := hAInSpecIdeal)
    ∧ quiescent_MemKv (hMemKv := hMemKv)
    ∧ quiescent_MemKvIdeal (hMemKvIdeal := hMemKvIdeal)
    ∧ quiescent_MemKvSpecIdeal (hMemKvSpecIdeal := hMemKvSpecIdeal)
    ∧ quiescent_OutFwd (hOutFwd := hOutFwd)
    ∧ quiescent_OutFwdIdeal (hOutFwdIdeal := hOutFwdIdeal)
    ∧ quiescent_OutFwdSpecIdeal (hOutFwdSpecIdeal := hOutFwdSpecIdeal)
    ∧ quiescent_KvFwd (hKvFwd := hKvFwd)
    ∧ quiescent_KvFwdIdeal (hKvFwdIdeal := hKvFwdIdeal)
    ∧ quiescent_KvFwdSpecIdeal (hKvFwdSpecIdeal := hKvFwdSpecIdeal)
    ∧ quiescent_BIn (hBIn := hBIn)
    ∧ quiescent_BInIdeal (hBInIdeal := hBInIdeal)
    ∧ quiescent_BInSpecIdeal (hBInSpecIdeal := hBInSpecIdeal)
    ∧ quiescent_DownDx (hDownDx := hDownDx)
    ∧ quiescent_DownDxIdeal (hDownDxIdeal := hDownDxIdeal)
    ∧ quiescent_DownDxSpecIdeal (hDownDxSpecIdeal := hDownDxSpecIdeal)
    ∧ quiescent_DownDw (hDownDw := hDownDw)
    ∧ quiescent_DownDwIdeal (hDownDwIdeal := hDownDwIdeal)
    ∧ quiescent_DownDwSpecIdeal (hDownDwSpecIdeal := hDownDwSpecIdeal)
    ∧ quiescent_UpDx (hUpDx := hUpDx)
    ∧ quiescent_UpDxIdeal (hUpDxIdeal := hUpDxIdeal)
    ∧ quiescent_UpDxSpecIdeal (hUpDxSpecIdeal := hUpDxSpecIdeal)
    ∧ quiescent_UpDw (hUpDw := hUpDw)
    ∧ quiescent_UpDwIdeal (hUpDwIdeal := hUpDwIdeal)
    ∧ quiescent_UpDwSpecIdeal (hUpDwSpecIdeal := hUpDwSpecIdeal)
    ∧ quiescent_OutDx (hOutDx := hOutDx)
    ∧ quiescent_OutDxIdeal (hOutDxIdeal := hOutDxIdeal)
    ∧ quiescent_OutDxSpecIdeal (hOutDxSpecIdeal := hOutDxSpecIdeal)
    ∧ quiescent_OutDw (hOutDw := hOutDw)
    ∧ quiescent_OutDwIdeal (hOutDwIdeal := hOutDwIdeal)
    ∧ quiescent_OutDwSpecIdeal (hOutDwSpecIdeal := hOutDwSpecIdeal)
    ∧ quiescent_BInDx (hBInDx := hBInDx)
    ∧ quiescent_BInDxIdeal (hBInDxIdeal := hBInDxIdeal)
    ∧ quiescent_BInDxSpecIdeal (hBInDxSpecIdeal := hBInDxSpecIdeal)
    ∧ quiescent_KvDx (hKvDx := hKvDx)
    ∧ quiescent_KvDxIdeal (hKvDxIdeal := hKvDxIdeal)
    ∧ quiescent_KvDxSpecIdeal (hKvDxSpecIdeal := hKvDxSpecIdeal)
    ∧ quiescent_KvDw (hKvDw := hKvDw)
    ∧ quiescent_KvDwIdeal (hKvDwIdeal := hKvDwIdeal)
    ∧ quiescent_KvDwSpecIdeal (hKvDwSpecIdeal := hKvDwSpecIdeal)
    ∧ quiescent_MemKvDx (hMemKvDx := hMemKvDx)
    ∧ quiescent_MemKvDxIdeal (hMemKvDxIdeal := hMemKvDxIdeal)
    ∧ quiescent_MemKvDxSpecIdeal (hMemKvDxSpecIdeal := hMemKvDxSpecIdeal)
    ∧ quiescent_MemKvDw (hMemKvDw := hMemKvDw)
    ∧ quiescent_MemKvDwIdeal (hMemKvDwIdeal := hMemKvDwIdeal)
    ∧ quiescent_MemKvDwSpecIdeal (hMemKvDwSpecIdeal := hMemKvDwSpecIdeal)
    ∧ quiescent_AInDw (hAInDw := hAInDw)
    ∧ quiescent_AInDwIdeal (hAInDwIdeal := hAInDwIdeal)
    ∧ quiescent_AInDwSpecIdeal (hAInDwSpecIdeal := hAInDwSpecIdeal)
    ∧ quiescent_AInDx (hAInDx := hAInDx)
    ∧ quiescent_AInDxIdeal (hAInDxIdeal := hAInDxIdeal)
    ∧ quiescent_AInDxSpecIdeal (hAInDxSpecIdeal := hAInDxSpecIdeal)
    ∧ quiescent_AdamAIn (hAdamAIn := hAdamAIn)
    ∧ quiescent_AdamAInIdeal (hAdamAInIdeal := hAdamAInIdeal)
    ∧ quiescent_AdamAInSpecIdeal (hAdamAInSpecIdeal := hAdamAInSpecIdeal)
    ∧ quiescent_AdamOut (hAdamOut := hAdamOut)
    ∧ quiescent_AdamOutIdeal (hAdamOutIdeal := hAdamOutIdeal)
    ∧ quiescent_AdamOutSpecIdeal (hAdamOutSpecIdeal := hAdamOutSpecIdeal)
    ∧ quiescent_AdamMemKv (hAdamMemKv := hAdamMemKv)
    ∧ quiescent_AdamMemKvIdeal (hAdamMemKvIdeal := hAdamMemKvIdeal)
    ∧ quiescent_AdamMemKvSpecIdeal (hAdamMemKvSpecIdeal := hAdamMemKvSpecIdeal)
    ∧ quiescent_AdamUp (hAdamUp := hAdamUp)
    ∧ quiescent_AdamUpIdeal (hAdamUpIdeal := hAdamUpIdeal)
    ∧ quiescent_AdamUpSpecIdeal (hAdamUpSpecIdeal := hAdamUpSpecIdeal)
    ∧ quiescent_AdamDown (hAdamDown := hAdamDown)
    ∧ quiescent_AdamDownIdeal (hAdamDownIdeal := hAdamDownIdeal)
    ∧ quiescent_AdamDownSpecIdeal (hAdamDownSpecIdeal := hAdamDownSpecIdeal)
    ∧ quiescent_AdamKv (hAdamKv := hAdamKv)
    ∧ quiescent_AdamKvIdeal (hAdamKvIdeal := hAdamKvIdeal)
    ∧ quiescent_AdamKvSpecIdeal (hAdamKvSpecIdeal := hAdamKvSpecIdeal)
    ∧ quiescent_AdamNormShard (hAdamNormShard := hAdamNormShard)
    ∧ quiescent_AdamNormShardIdeal (hAdamNormShardIdeal := hAdamNormShardIdeal)
    ∧ quiescent_AdamNormShardSpecIdeal (hAdamNormShardSpecIdeal := hAdamNormShardSpecIdeal)
    ∧ quiescent_AdamConv (hAdamConv := hAdamConv)
    ∧ quiescent_AdamConvIdeal (hAdamConvIdeal := hAdamConvIdeal)
    ∧ quiescent_AdamConvSpecIdeal (hAdamConvSpecIdeal := hAdamConvSpecIdeal)
    ∧ quiescent_AdamNorm (hAdamNorm := hAdamNorm)
    ∧ quiescent_AdamNormIdeal (hAdamNormIdeal := hAdamNormIdeal)
    ∧ quiescent_AdamNormSpecIdeal (hAdamNormSpecIdeal := hAdamNormSpecIdeal)
    ∧ quiescent_NormBwd (hNormBwd := hNormBwd)
    ∧ quiescent_NormBwdIdeal (hNormBwdIdeal := hNormBwdIdeal)
    ∧ quiescent_NormBwdSpecIdeal (hNormBwdSpecIdeal := hNormBwdSpecIdeal)
    ∧ quiescent_MemNormBwd (hMemNormBwd := hMemNormBwd)
    ∧ quiescent_MemNormBwdIdeal (hMemNormBwdIdeal := hMemNormBwdIdeal)
    ∧ quiescent_MemNormBwdSpecIdeal (hMemNormBwdSpecIdeal := hMemNormBwdSpecIdeal)
    ∧ quiescent_PairNormBwd (hPairNormBwd := hPairNormBwd)
    ∧ quiescent_PairNormBwdIdeal (hPairNormBwdIdeal := hPairNormBwdIdeal)
    ∧ quiescent_PairNormBwdSpecIdeal (hPairNormBwdSpecIdeal := hPairNormBwdSpecIdeal)
    ∧ quiescent_LossHead (hLossHead := hLossHead)
    ∧ quiescent_LossHeadIdeal (hLossHeadIdeal := hLossHeadIdeal)
    ∧ quiescent_LossHeadSpecIdeal (hLossHeadSpecIdeal := hLossHeadSpecIdeal)
    ∧ quiescent_NormFwd (hNormFwd := hNormFwd)
    ∧ quiescent_NormFwdIdeal (hNormFwdIdeal := hNormFwdIdeal)
    ∧ quiescent_NormFwdSpecIdeal (hNormFwdSpecIdeal := hNormFwdSpecIdeal)
    ∧ quiescent_MemNormFwd (hMemNormFwd := hMemNormFwd)
    ∧ quiescent_MemNormFwdIdeal (hMemNormFwdIdeal := hMemNormFwdIdeal)
    ∧ quiescent_MemNormFwdSpecIdeal (hMemNormFwdSpecIdeal := hMemNormFwdSpecIdeal)
    ∧ quiescent_PairNormFwd (hPairNormFwd := hPairNormFwd)
    ∧ quiescent_PairNormFwdIdeal (hPairNormFwdIdeal := hPairNormFwdIdeal)
    ∧ quiescent_PairNormFwdSpecIdeal (hPairNormFwdSpecIdeal := hPairNormFwdSpecIdeal)
    ∧ quiescent_MemFwd (hMemFwd := hMemFwd)
    ∧ quiescent_MemFwdIdeal (hMemFwdIdeal := hMemFwdIdeal)
    ∧ quiescent_MemFwdIdeal_pre_real_scores_b (hMemFwdIdeal := hMemFwdIdeal) (hPre_real_scores_b := hPre_real_scores_b)
    ∧ quiescent_MemFwdSpecIdeal (hMemFwdSpecIdeal := hMemFwdSpecIdeal)
    ∧ quiescent_MemFwdSpecIdeal_pre_real_scores_b (hMemFwdSpecIdeal := hMemFwdSpecIdeal) (hPre_real_scores_b := hPre_real_scores_b)
    ∧ quiescent_MemFwdA (hMemFwdA := hMemFwdA)
    ∧ quiescent_MemFwdAIdeal (hMemFwdAIdeal := hMemFwdAIdeal)
    ∧ quiescent_MemFwdAIdeal_pre_real_scores_a (hMemFwdAIdeal := hMemFwdAIdeal) (hPre_real_scores_a := hPre_real_scores_a)
    ∧ quiescent_MemFwdASpecIdeal (hMemFwdASpecIdeal := hMemFwdASpecIdeal)
    ∧ quiescent_MemFwdASpecIdeal_pre_real_scores_a (hMemFwdASpecIdeal := hMemFwdASpecIdeal) (hPre_real_scores_a := hPre_real_scores_a)
    ∧ quiescent_MemBwdA (hMemBwdA := hMemBwdA)
    ∧ quiescent_MemBwdAIdeal (hMemBwdAIdeal := hMemBwdAIdeal)
    ∧ quiescent_MemBwdAIdeal_pre_real_scores_a_bwd (hMemBwdAIdeal := hMemBwdAIdeal) (hPre_real_scores_a_bwd := hPre_real_scores_a_bwd)
    ∧ quiescent_MemBwdASpecIdeal (hMemBwdASpecIdeal := hMemBwdASpecIdeal)
    ∧ quiescent_MemBwdASpecIdeal_pre_real_scores_a_bwd (hMemBwdASpecIdeal := hMemBwdASpecIdeal) (hPre_real_scores_a_bwd := hPre_real_scores_a_bwd)
    ∧ quiescent_CombineFwd (hCombineFwd := hCombineFwd)
    ∧ quiescent_CombineFwdIdeal (hCombineFwdIdeal := hCombineFwdIdeal)
    ∧ quiescent_CombineFwdIdeal_pre_real_lses (hCombineFwdIdeal := hCombineFwdIdeal) (hPre_real_lses := hPre_real_lses)
    ∧ quiescent_CombineFwdSpecIdeal (hCombineFwdSpecIdeal := hCombineFwdSpecIdeal)
    ∧ quiescent_CombineFwdSpecIdeal_pre_real_lses (hCombineFwdSpecIdeal := hCombineFwdSpecIdeal) (hPre_real_lses := hPre_real_lses)
    ∧ quiescent_CombineBwd (hCombineBwd := hCombineBwd)
    ∧ quiescent_CombineBwdIdeal (hCombineBwdIdeal := hCombineBwdIdeal)
    ∧ quiescent_CombineBwdIdeal_pre_real_groups (hCombineBwdIdeal := hCombineBwdIdeal) (hPre_real_groups := hPre_real_groups)
    ∧ quiescent_CombineBwdSpecIdeal (hCombineBwdSpecIdeal := hCombineBwdSpecIdeal)
    ∧ quiescent_CombineBwdSpecIdeal_pre_real_groups (hCombineBwdSpecIdeal := hCombineBwdSpecIdeal) (hPre_real_groups := hPre_real_groups)
    ∧ preserves_MemBwd_MemBwdIdeal
    ∧ algebraic_MemBwdIdeal_MemSpecIdeal_pre_real_scores (hMemBwdIdeal := hMemBwdIdeal) (hMemSpecIdeal := hMemSpecIdeal) (hPre_real_scores := hPre_real_scores)
    ∧ preserves_FfnUp_FfnUpIdeal
    ∧ algebraic_FfnUpIdeal_FfnUpSpecIdeal (hFfnUpIdeal := hFfnUpIdeal) (hFfnUpSpecIdeal := hFfnUpSpecIdeal)
    ∧ preserves_DownFwd_DownFwdIdeal
    ∧ algebraic_DownFwdIdeal_DownFwdSpecIdeal (hDownFwdIdeal := hDownFwdIdeal) (hDownFwdSpecIdeal := hDownFwdSpecIdeal)
    ∧ preserves_AIn_AInIdeal
    ∧ algebraic_AInIdeal_AInSpecIdeal (hAInIdeal := hAInIdeal) (hAInSpecIdeal := hAInSpecIdeal)
    ∧ preserves_MemKv_MemKvIdeal
    ∧ algebraic_MemKvIdeal_MemKvSpecIdeal (hMemKvIdeal := hMemKvIdeal) (hMemKvSpecIdeal := hMemKvSpecIdeal)
    ∧ preserves_OutFwd_OutFwdIdeal
    ∧ algebraic_OutFwdIdeal_OutFwdSpecIdeal (hOutFwdIdeal := hOutFwdIdeal) (hOutFwdSpecIdeal := hOutFwdSpecIdeal)
    ∧ preserves_KvFwd_KvFwdIdeal
    ∧ algebraic_KvFwdIdeal_KvFwdSpecIdeal (hKvFwdIdeal := hKvFwdIdeal) (hKvFwdSpecIdeal := hKvFwdSpecIdeal)
    ∧ preserves_BIn_BInIdeal
    ∧ algebraic_BInIdeal_BInSpecIdeal (hBInIdeal := hBInIdeal) (hBInSpecIdeal := hBInSpecIdeal)
    ∧ preserves_DownDx_DownDxIdeal
    ∧ algebraic_DownDxIdeal_DownDxSpecIdeal (hDownDxIdeal := hDownDxIdeal) (hDownDxSpecIdeal := hDownDxSpecIdeal)
    ∧ preserves_DownDw_DownDwIdeal
    ∧ algebraic_DownDwIdeal_DownDwSpecIdeal (hDownDwIdeal := hDownDwIdeal) (hDownDwSpecIdeal := hDownDwSpecIdeal)
    ∧ preserves_UpDx_UpDxIdeal
    ∧ algebraic_UpDxIdeal_UpDxSpecIdeal (hUpDxIdeal := hUpDxIdeal) (hUpDxSpecIdeal := hUpDxSpecIdeal)
    ∧ preserves_UpDw_UpDwIdeal
    ∧ algebraic_UpDwIdeal_UpDwSpecIdeal (hUpDwIdeal := hUpDwIdeal) (hUpDwSpecIdeal := hUpDwSpecIdeal)
    ∧ preserves_OutDx_OutDxIdeal
    ∧ algebraic_OutDxIdeal_OutDxSpecIdeal (hOutDxIdeal := hOutDxIdeal) (hOutDxSpecIdeal := hOutDxSpecIdeal)
    ∧ preserves_OutDw_OutDwIdeal
    ∧ algebraic_OutDwIdeal_OutDwSpecIdeal (hOutDwIdeal := hOutDwIdeal) (hOutDwSpecIdeal := hOutDwSpecIdeal)
    ∧ preserves_BInDx_BInDxIdeal
    ∧ algebraic_BInDxIdeal_BInDxSpecIdeal (hBInDxIdeal := hBInDxIdeal) (hBInDxSpecIdeal := hBInDxSpecIdeal)
    ∧ preserves_KvDx_KvDxIdeal
    ∧ algebraic_KvDxIdeal_KvDxSpecIdeal (hKvDxIdeal := hKvDxIdeal) (hKvDxSpecIdeal := hKvDxSpecIdeal)
    ∧ preserves_KvDw_KvDwIdeal
    ∧ algebraic_KvDwIdeal_KvDwSpecIdeal (hKvDwIdeal := hKvDwIdeal) (hKvDwSpecIdeal := hKvDwSpecIdeal)
    ∧ preserves_MemKvDx_MemKvDxIdeal
    ∧ algebraic_MemKvDxIdeal_MemKvDxSpecIdeal (hMemKvDxIdeal := hMemKvDxIdeal) (hMemKvDxSpecIdeal := hMemKvDxSpecIdeal)
    ∧ preserves_MemKvDw_MemKvDwIdeal
    ∧ algebraic_MemKvDwIdeal_MemKvDwSpecIdeal (hMemKvDwIdeal := hMemKvDwIdeal) (hMemKvDwSpecIdeal := hMemKvDwSpecIdeal)
    ∧ preserves_AInDw_AInDwIdeal
    ∧ algebraic_AInDwIdeal_AInDwSpecIdeal (hAInDwIdeal := hAInDwIdeal) (hAInDwSpecIdeal := hAInDwSpecIdeal)
    ∧ preserves_AInDx_AInDxIdeal
    ∧ algebraic_AInDxIdeal_AInDxSpecIdeal (hAInDxIdeal := hAInDxIdeal) (hAInDxSpecIdeal := hAInDxSpecIdeal)
    ∧ preserves_AdamAIn_AdamAInIdeal
    ∧ algebraic_AdamAInIdeal_AdamAInSpecIdeal (hAdamAInIdeal := hAdamAInIdeal) (hAdamAInSpecIdeal := hAdamAInSpecIdeal)
    ∧ preserves_AdamOut_AdamOutIdeal
    ∧ algebraic_AdamOutIdeal_AdamOutSpecIdeal (hAdamOutIdeal := hAdamOutIdeal) (hAdamOutSpecIdeal := hAdamOutSpecIdeal)
    ∧ preserves_AdamMemKv_AdamMemKvIdeal
    ∧ algebraic_AdamMemKvIdeal_AdamMemKvSpecIdeal (hAdamMemKvIdeal := hAdamMemKvIdeal) (hAdamMemKvSpecIdeal := hAdamMemKvSpecIdeal)
    ∧ preserves_AdamUp_AdamUpIdeal
    ∧ algebraic_AdamUpIdeal_AdamUpSpecIdeal (hAdamUpIdeal := hAdamUpIdeal) (hAdamUpSpecIdeal := hAdamUpSpecIdeal)
    ∧ preserves_AdamDown_AdamDownIdeal
    ∧ algebraic_AdamDownIdeal_AdamDownSpecIdeal (hAdamDownIdeal := hAdamDownIdeal) (hAdamDownSpecIdeal := hAdamDownSpecIdeal)
    ∧ preserves_AdamKv_AdamKvIdeal
    ∧ algebraic_AdamKvIdeal_AdamKvSpecIdeal (hAdamKvIdeal := hAdamKvIdeal) (hAdamKvSpecIdeal := hAdamKvSpecIdeal)
    ∧ preserves_AdamNormShard_AdamNormShardIdeal
    ∧ algebraic_AdamNormShardIdeal_AdamNormShardSpecIdeal (hAdamNormShardIdeal := hAdamNormShardIdeal) (hAdamNormShardSpecIdeal := hAdamNormShardSpecIdeal)
    ∧ preserves_AdamConv_AdamConvIdeal
    ∧ algebraic_AdamConvIdeal_AdamConvSpecIdeal (hAdamConvIdeal := hAdamConvIdeal) (hAdamConvSpecIdeal := hAdamConvSpecIdeal)
    ∧ preserves_AdamNorm_AdamNormIdeal
    ∧ algebraic_AdamNormIdeal_AdamNormSpecIdeal (hAdamNormIdeal := hAdamNormIdeal) (hAdamNormSpecIdeal := hAdamNormSpecIdeal)
    ∧ preserves_NormBwd_NormBwdIdeal
    ∧ algebraic_NormBwdIdeal_NormBwdSpecIdeal (hNormBwdIdeal := hNormBwdIdeal) (hNormBwdSpecIdeal := hNormBwdSpecIdeal)
    ∧ preserves_MemNormBwd_MemNormBwdIdeal
    ∧ algebraic_MemNormBwdIdeal_MemNormBwdSpecIdeal (hMemNormBwdIdeal := hMemNormBwdIdeal) (hMemNormBwdSpecIdeal := hMemNormBwdSpecIdeal)
    ∧ preserves_PairNormBwd_PairNormBwdIdeal
    ∧ algebraic_PairNormBwdIdeal_PairNormBwdSpecIdeal (hPairNormBwdIdeal := hPairNormBwdIdeal) (hPairNormBwdSpecIdeal := hPairNormBwdSpecIdeal)
    ∧ preserves_LossHead_LossHeadIdeal
    ∧ algebraic_LossHeadIdeal_LossHeadSpecIdeal (hLossHeadIdeal := hLossHeadIdeal) (hLossHeadSpecIdeal := hLossHeadSpecIdeal)
    ∧ preserves_NormFwd_NormFwdIdeal
    ∧ algebraic_NormFwdIdeal_NormFwdSpecIdeal (hNormFwdIdeal := hNormFwdIdeal) (hNormFwdSpecIdeal := hNormFwdSpecIdeal)
    ∧ preserves_MemNormFwd_MemNormFwdIdeal
    ∧ algebraic_MemNormFwdIdeal_MemNormFwdSpecIdeal (hMemNormFwdIdeal := hMemNormFwdIdeal) (hMemNormFwdSpecIdeal := hMemNormFwdSpecIdeal)
    ∧ preserves_PairNormFwd_PairNormFwdIdeal
    ∧ algebraic_PairNormFwdIdeal_PairNormFwdSpecIdeal (hPairNormFwdIdeal := hPairNormFwdIdeal) (hPairNormFwdSpecIdeal := hPairNormFwdSpecIdeal)
    ∧ preserves_MemFwd_MemFwdIdeal
    ∧ algebraic_MemFwdIdeal_MemFwdSpecIdeal_pre_real_scores_b (hMemFwdIdeal := hMemFwdIdeal) (hMemFwdSpecIdeal := hMemFwdSpecIdeal) (hPre_real_scores_b := hPre_real_scores_b)
    ∧ preserves_MemFwdA_MemFwdAIdeal
    ∧ algebraic_MemFwdAIdeal_MemFwdASpecIdeal_pre_real_scores_a (hMemFwdAIdeal := hMemFwdAIdeal) (hMemFwdASpecIdeal := hMemFwdASpecIdeal) (hPre_real_scores_a := hPre_real_scores_a)
    ∧ preserves_MemBwdA_MemBwdAIdeal
    ∧ algebraic_MemBwdAIdeal_MemBwdASpecIdeal_pre_real_scores_a_bwd (hMemBwdAIdeal := hMemBwdAIdeal) (hMemBwdASpecIdeal := hMemBwdASpecIdeal) (hPre_real_scores_a_bwd := hPre_real_scores_a_bwd)
    ∧ preserves_CombineFwd_CombineFwdIdeal
    ∧ algebraic_CombineFwdIdeal_CombineFwdSpecIdeal_pre_real_lses (hCombineFwdIdeal := hCombineFwdIdeal) (hCombineFwdSpecIdeal := hCombineFwdSpecIdeal) (hPre_real_lses := hPre_real_lses)
    ∧ preserves_CombineBwd_CombineBwdIdeal
    ∧ algebraic_CombineBwdIdeal_CombineBwdSpecIdeal_pre_real_groups (hCombineBwdIdeal := hCombineBwdIdeal) (hCombineBwdSpecIdeal := hCombineBwdSpecIdeal) (hPre_real_groups := hPre_real_groups)
-- ==== Pre_real_groups.lean ====
abbrev S8192x256 : Shape := ⟨2, ![8192, 256]⟩
abbrev S8192x1024 : Shape := ⟨2, ![8192, 1024]⟩
abbrev S_ : Shape := ⟨0, ![]⟩
abbrev S8192x768 : Shape := ⟨2, ![8192, 768]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  slices_S8192x1024_S8192x768_0_0 : S8192x1024.Slices ![0, 0] S8192x768
  bitsLt_bf16_f32 : FTy.bits .bf16 < FTy.bits .f32
  bcast_S_S8192x768 : S_.BroadcastsInDim S8192x768 (![] : Fin 0 → Fin S8192x768.rank)
  reducesTo_S8192x768_S_d0_1 : S8192x768.ReducesTo [0, 1] S_

variable [Facts]

def fn_part2 {F : FTy → Type} [FloatOps F] (main_v28 : IVec S_ 1) (main_v33 : IVec S8192x768 1) (main_c_11 : IVec S_ 1) : IVec S_ 1 :=
  let main_v34 : IVec S_ 1 := (fun x v => Host.reduce IntOp.andi x v reducesTo_S8192x768_S_d0_1 h_S_) main_v33 main_c_11
  let main_v35 : IVec S_ 1 := andi main_v28 main_v34
  main_v35

def fn_part1 {F : FTy → Type} [FloatOps F] (main_arg1 : FVec F S8192x256 .f32) (main_arg2 : FVec F S8192x256 .f32) (main_arg6 : FVec F S8192x1024 .bf16) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S8192x256 .f32 := Host.absf main_arg1
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x256 .f32 := Host.absf main_arg2
  let main_cst_8 : FVec F S_ .f32 := constant S_ .f32 0x7F800000#32
  let main_v25 : FVec F S8192x256 .f32 := broadcastInDim S8192x256 ![] bcast_S_S8192x256 main_cst_8
  let main_v26 : IVec S8192x256 1 := cmpf .olt main_v24 main_v25
  let main_c_9 : IVec S_ 1 := constantI S_ 1 1#1
  let main_v27 : IVec S_ 1 := (fun x v => Host.reduce IntOp.andi x v reducesTo_S8192x256_S_d0_1 h_S_) main_v26 main_c_9
  let main_v28 : IVec S_ 1 := andi main_v23 main_v27
  let main_v29 : FVec F S8192x768 .bf16 := (extractStridedSlice S8192x768 ![0, 0] · slices_S8192x1024_S8192x768_0_0) main_arg6
  let main_v30 : FVec F S8192x768 .f32 := (extf .f32 · bitsLt_bf16_f32) main_v29
  let main_v31 : FVec F S8192x768 .f32 := Host.absf main_v30
  let main_cst_10 : FVec F S_ .f32 := constant S_ .f32 0x7F800000#32
  let main_v32 : FVec F S8192x768 .f32 := broadcastInDim S8192x768 ![] bcast_S_S8192x768 main_cst_10
  let main_v33 : IVec S8192x768 1 := cmpf .olt main_v31 main_v32
  let main_c_11 : IVec S_ 1 := constantI S_ 1 1#1
  fn_part2 (F := F) main_v28 main_v33 main_c_11

def fn {F : FTy → Type} [FloatOps F] (main_arg0 : FVec F S8192x256 .f32) (main_arg1 : FVec F S8192x256 .f32) (main_arg2 : FVec F S8192x256 .f32) (main_arg3 : FVec F S8192x256 .f32) (main_arg4 : FVec F S8192x256 .f32) (main_arg5 : FVec F S8192x256 .f32) (main_arg6 : FVec F S8192x1024 .bf16) : IVec S_ 1 :=
  let main_v0 : FVec F S8192x256 .f32 := Host.absf main_arg3
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg4
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg5
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg0
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg1 main_arg2 main_arg6 main_v13 main_v16
-- ==== Pre_real_lses.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) (main_arg3 : FVec F S8192x256 .f32) (main_arg4 : FVec F S8192x256 .f32) (main_arg5 : FVec F S8192x256 .f32) : IVec S_ 1 :=
  let main_v0 : FVec F S8192x256 .f32 := Host.absf main_arg3
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg4
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg5
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Pre_real_scores.lean ====
abbrev S8192x1024 : Shape := ⟨2, ![8192, 1024]⟩
abbrev S1024x512 : Shape := ⟨2, ![1024, 512]⟩
abbrev S8192x256 : Shape := ⟨2, ![8192, 256]⟩
abbrev S1024x256 : Shape := ⟨2, ![1024, 256]⟩
abbrev S_ : Shape := ⟨0, ![]⟩

class Facts : Prop where
  slices_S8192x1024_S8192x256_0_768 : S8192x1024.Slices ![0, 768] S8192x256
  slices_S1024x512_S1024x256_0_0 : S1024x512.Slices ![0, 0] S1024x256
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8192x1024 .f32) (main_arg1 : FVec F S1024x512 .bf16) (main_arg2 : FVec F S8192x1024 .bf16) : IVec S_ 1 :=
  let main_v0 : FVec F S8192x256 .f32 := (extractStridedSlice S8192x256 ![0, 768] · slices_S8192x1024_S8192x256_0_768) main_arg0
  let main_v1 : FVec F S1024x256 .bf16 := (extractStridedSlice S1024x256 ![0, 0] · slices_S1024x512_S1024x256_0_0) main_arg1
  let main_v2 : FVec F S1024x256 .f32 := (extf .f32 · bitsLt_bf16_f32) main_v1
  let main_v3 : FVec F S8192x256 .f32 := Host.absf main_v0
  let main_cst : FVec F S_ .f32 := constant S_ .f32 0x7F800000#32
  let main_v4 : FVec F S8192x256 .f32 := broadcastInDim S8192x256 ![] bcast_S_S8192x256 main_cst
  let main_v5 : IVec S8192x256 1 := cmpf .olt main_v3 main_v4
  let main_c : IVec S_ 1 := constantI S_ 1 1#1
  let main_v6 : IVec S_ 1 := (fun x v => Host.reduce IntOp.andi x v reducesTo_S8192x256_S_d0_1 h_S_) main_v5 main_c
  let main_v7 : FVec F S1024x256 .f32 := Host.absf main_v2
  let main_cst_0 : FVec F S_ .f32 := constant S_ .f32 0x7F800000#32
  let main_v8 : FVec F S1024x256 .f32 := broadcastInDim S1024x256 ![] bcast_S_S1024x256 main_cst_0
  let main_v9 : IVec S1024x256 1 := cmpf .olt main_v7 main_v8
  let main_c_1 : IVec S_ 1 := constantI S_ 1 1#1
  let main_v10 : IVec S_ 1 := (fun x v => Host.reduce IntOp.andi x v reducesTo_S1024x256_S_d0_1 h_S_) main_v9 main_c_1
  let main_v11 : IVec S_ 1 := andi main_v6 main_v10
  main_v11
-- ==== Pre_real_scores_a.lean ====
abbrev S8192x2560 : Shape := ⟨2, ![8192, 2560]⟩
abbrev S1024x512 : Shape := ⟨2, ![1024, 512]⟩
abbrev S8192x256 : Shape := ⟨2, ![8192, 256]⟩
abbrev S_ : Shape := ⟨0, ![]⟩
abbrev S1024x256 : Shape := ⟨2, ![1024, 256]⟩

class Facts : Prop where
  slices_S8192x2560_S8192x256_0_2304 : S8192x2560.Slices ![0, 2304] S8192x256
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  h_S_ : 0 < S_.numel
  slices_S1024x512_S1024x256_0_0 : S1024x512.Slices ![0, 0] S1024x256
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8192x2560 .bf16) (main_arg1 : FVec F S1024x512 .bf16) : IVec S_ 1 :=
  let main_v0 : FVec F S8192x256 .bf16 := (extractStridedSlice S8192x256 ![0, 2304] · slices_S8192x2560_S8192x256_0_2304) main_arg0
  let main_v1 : FVec F S8192x256 .f32 := (extf .f32 · bitsLt_bf16_f32) main_v0
  let main_v2 : FVec F S8192x256 .f32 := Host.absf main_v1
  let main_cst : FVec F S_ .f32 := constant S_ .f32 0x7F800000#32
  let main_v3 : FVec F S8192x256 .f32 := broadcastInDim S8192x256 ![] bcast_S_S8192x256 main_cst
  let main_v4 : IVec S8192x256 1 := cmpf .olt main_v2 main_v3
  let main_c : IVec S_ 1 := constantI S_ 1 1#1
  let main_v5 : IVec S_ 1 := (fun x v => Host.reduce IntOp.andi x v reducesTo_S8192x256_S_d0_1 h_S_) main_v4 main_c
  let main_v6 : FVec F S1024x256 .bf16 := (extractStridedSlice S1024x256 ![0, 0] · slices_S1024x512_S1024x256_0_0) main_arg1
  let main_v7 : FVec F S1024x256 .f32 := (extf .f32 · bitsLt_bf16_f32) main_v6
  let main_v8 : FVec F S1024x256 .f32 := Host.absf main_v7
  let main_cst_0 : FVec F S_ .f32 := constant S_ .f32 0x7F800000#32
  let main_v9 : FVec F S1024x256 .f32 := broadcastInDim S1024x256 ![] bcast_S_S1024x256 main_cst_0
  let main_v10 : IVec S1024x256 1 := cmpf .olt main_v8 main_v9
  let main_c_1 : IVec S_ 1 := constantI S_ 1 1#1
  let main_v11 : IVec S_ 1 := (fun x v => Host.reduce IntOp.andi x v reducesTo_S1024x256_S_d0_1 h_S_) main_v10 main_c_1
  let main_v12 : IVec S_ 1 := andi main_v5 main_v11
  main_v12
-- ==== Pre_real_scores_a_bwd.lean ====
abbrev S8192x2560 : Shape := ⟨2, ![8192, 2560]⟩
abbrev S1024x512 : Shape := ⟨2, ![1024, 512]⟩
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩

class Facts : Prop where
  slices_S8192x2560_S8192x256_0_2304 : S8192x2560.Slices ![0, 2304] S8192x256
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  h_S_ : 0 < S_.numel
  slices_S1024x512_S1024x256_0_0 : S1024x512.Slices ![0, 0] S1024x256
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8192x2560 .bf16) (main_arg1 : FVec F S1024x512 .bf16) (main_arg2 : FVec F S8192x1024 .bf16) : IVec S_ 1 :=
  let main_v0 : FVec F S8192x256 .bf16 := (extractStridedSlice S8192x256 ![0, 2304] · slices_S8192x2560_S8192x256_0_2304) main_arg0
  let main_v1 : FVec F S8192x256 .f32 := (extf .f32 · bitsLt_bf16_f32) main_v0
  let main_v2 : FVec F S8192x256 .f32 := Host.absf main_v1
  let main_cst : FVec F S_ .f32 := constant S_ .f32 0x7F800000#32
  let main_v3 : FVec F S8192x256 .f32 := broadcastInDim S8192x256 ![] bcast_S_S8192x256 main_cst
  let main_v4 : IVec S8192x256 1 := cmpf .olt main_v2 main_v3
  let main_c : IVec S_ 1 := constantI S_ 1 1#1
  let main_v5 : IVec S_ 1 := (fun x v => Host.reduce IntOp.andi x v reducesTo_S8192x256_S_d0_1 h_S_) main_v4 main_c
  let main_v6 : FVec F S1024x256 .bf16 := (extractStridedSlice S1024x256 ![0, 0] · slices_S1024x512_S1024x256_0_0) main_arg1
  let main_v7 : FVec F S1024x256 .f32 := (extf .f32 · bitsLt_bf16_f32) main_v6
  let main_v8 : FVec F S1024x256 .f32 := Host.absf main_v7
  let main_cst_0 : FVec F S_ .f32 := constant S_ .f32 0x7F800000#32
  let main_v9 : FVec F S1024x256 .f32 := broadcastInDim S1024x256 ![] bcast_S_S1024x256 main_cst_0
  let main_v10 : IVec S1024x256 1 := cmpf .olt main_v8 main_v9
  let main_c_1 : IVec S_ 1 := constantI S_ 1 1#1
  let main_v11 : IVec S_ 1 := (fun x v => Host.reduce IntOp.andi x v reducesTo_S1024x256_S_d0_1 h_S_) main_v10 main_c_1
  let main_v12 : IVec S_ 1 := andi main_v5 main_v11
  main_v12
-- ==== Pre_real_scores_b.lean ====
abbrev S8192x1024 : Shape := ⟨2, ![8192, 1024]⟩
abbrev S1024x512 : Shape := ⟨2, ![1024, 512]⟩
abbrev S8192x256 : Shape := ⟨2, ![8192, 256]⟩
abbrev S_ : Shape := ⟨0, ![]⟩
abbrev S1024x256 : Shape := ⟨2, ![1024, 256]⟩

class Facts : Prop where
  slices_S8192x1024_S8192x256_0_768 : S8192x1024.Slices ![0, 768] S8192x256
  bcast_S_S8192x256 : S_.BroadcastsInDim S8192x256 (![] : Fin 0 → Fin S8192x256.rank)
  reducesTo_S8192x256_S_d0_1 : S8192x256.ReducesTo [0, 1] S_
  h_S_ : 0 < S_.numel
  slices_S1024x512_S1024x256_0_0 : S1024x512.Slices ![0, 0] S1024x256
  bitsLt_bf16_f32 : FTy.bits .bf16 < FTy.bits .f32
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8192x1024 .f32) (main_arg1 : FVec F S1024x512 .bf16) : IVec S_ 1 :=
  let main_v0 : FVec F S8192x256 .f32 := (extractStridedSlice S8192x256 ![0, 768] · slices_S8192x1024_S8192x256_0_768) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_c : IVec S_ 1 := constantI S_ 1 1#1
  let main_v4 : IVec S_ 1 := (fun x v => Host.reduce IntOp.andi x v reducesTo_S8192x256_S_d0_1 h_S_) main_v3 main_c
  let main_v5 : FVec F S1024x256 .bf16 := (extractStridedSlice S1024x256 ![0, 0] · slices_S1024x512_S1024x256_0_0) main_arg1
  let main_v6 : FVec F S1024x256 .f32 := (extf .f32 · bitsLt_bf16_f32) main_v5
  let main_v7 : FVec F S1024x256 .f32 := Host.absf main_v6
  let main_cst_0 : FVec F S_ .f32 := constant S_ .f32 0x7F800000#32
  let main_v8 : FVec F S1024x256 .f32 := broadcastInDim S1024x256 ![] bcast_S_S1024x256 main_cst_0
  let main_v9 : IVec S1024x256 1 := cmpf .olt main_v7 main_v8
  let main_c_1 : IVec S_ 1 := constantI S_ 1 1#1
  let main_v10 : IVec S_ 1 := (fun x v => Host.reduce IntOp.andi x v reducesTo_S1024x256_S_d0_1 h_S_) main_v9 main_c_1
  let main_v11 : IVec S_ 1 := andi main_v4 main_v10
  main_v11
-- ==== MemBwd.lean ====
abbrev S8192x1024 : Shape := ⟨2, ![8192, 1024]⟩
abbrev S1024x512 : Shape := ⟨2, ![1024, 512]⟩
abbrev S8192x256 : Shape := ⟨2, ![8192, 256]⟩
abbrev S1024x256 : Shape := ⟨2, ![1024, 256]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x512, .bf16⟩
  | .hbm, ⟨2, _⟩ => ⟨S8192x1024, .bf16⟩
  | .hbm, ⟨3, _⟩ => ⟨S8192x256, .bf16⟩
  | .hbm, ⟨4, _⟩ => ⟨S1024x256, .f32⟩
  | .hbm, ⟨5, _⟩ => ⟨S1024x256, .f32⟩
  | .local _ .vmem, ⟨0, _⟩ => ⟨S512x128, .f32⟩
  | .local _ .vmem, ⟨1, _⟩ => ⟨S512x128, .f32⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MemSpecIdeal.lean ====
abbrev S8192x1024 : Shape := ⟨2, ![8192, 1024]⟩
abbrev S1024x512 : Shape := ⟨2, ![1024, 512]⟩
abbrev S4x2048x1024 : Shape := ⟨3, ![4, 2048, 1024]⟩
abbrev S4x2048x256 : Shape := ⟨3, ![4, 2048, 256]⟩
abbrev S4x256x512 : Shape := ⟨3, ![4, 256, 512]⟩
abbrev S4x256x256 : Shape := ⟨3, ![4, 256, 256]⟩
abbrev S4x2048x4x64 : Shape := ⟨4, ![4, 2048, 4, 64]⟩
abbrev S4x256x4x64 : Shape := ⟨4, ![4, 256, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩
abbrev S8192x256 : Shape := ⟨2, ![8192, 256]⟩
abbrev S1024x256 : Shape := ⟨2, ![1024, 256]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .bf16⟩
  | .hbm, ⟨2, _⟩ => ⟨S8192x1024, .bf16⟩
  | .hbm, ⟨3, _⟩ => ⟨S4x2048x1024, .f32⟩
  | .hbm, ⟨4, _⟩ => ⟨S4x2048x256, .f32⟩
  | .hbm, ⟨5, _⟩ => ⟨S1024x512, .f32⟩
  | .hbm, ⟨6, _⟩ => ⟨S4x256x512, .f32⟩
  | .hbm, ⟨7, _⟩ => ⟨S4x256x256, .f32⟩
  | .hbm, ⟨8, _⟩ => ⟨S4x256x256, .f32⟩
  | .hbm, ⟨9, _⟩ => ⟨S8192x1024, .f32⟩
  | .hbm, ⟨10, _⟩ => ⟨S4x2048x1024, .f32⟩
  | .hbm, ⟨11, _⟩ => ⟨S4x2048x256, .f32⟩
  | .hbm, ⟨12, _⟩ => ⟨S4x2048x4x64, .f32⟩
  | .hbm, ⟨13, _⟩ => ⟨S4x256x4x64, .f32⟩
  | .hbm, ⟨14, _⟩ => ⟨S4x256x4x64, .f32⟩
  | .hbm, ⟨15, _⟩ => ⟨S4x4x2048x256, .f32⟩
  | .hbm, ⟨16, _⟩ => ⟨S_, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .i1⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S_, .f32⟩
  | .hbm, ⟨28, _⟩ => ⟨S4x4x2048, .f32⟩
  | .hbm, ⟨29, _⟩ => ⟨S4x4x2048, .f32⟩
  | .hbm, ⟨30, _⟩ => ⟨S_, .f32⟩
  | .hbm, ⟨31, _⟩ => ⟨S4x4x2048, .f32⟩
  | .hbm, ⟨32, _⟩ => ⟨S4x4x2048, .i1⟩
  | .hbm, ⟨33, _⟩ => ⟨S_, .f32⟩
  | .hbm, ⟨34, _⟩ => ⟨S4x4x2048, .f32⟩
  | .hbm, ⟨35, _⟩ => ⟨S4x4x2048, .i1⟩
  | .hbm, ⟨36, _⟩ => ⟨S_, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S_, .f32⟩
  | .hbm, ⟨41, _⟩ => ⟨S4x4x2048, .f32⟩
  | .hbm, ⟨42, _⟩ => ⟨S4x4x2048, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x256, .f32⟩
  | .hbm, ⟨48, _⟩ => ⟨S_, .f32⟩
  | .hbm, ⟨49, _⟩ => ⟨S4x4x2048, .f32⟩
  | .hbm, ⟨50, _⟩ => ⟨S4x4x2048x1, .f32⟩
  | .hbm, ⟨51, _⟩ => ⟨S4x4x2048x256, .f32⟩
  | .hbm, ⟨52, _⟩ => ⟨S4x4x2048x256, .f32⟩
  | .hbm, ⟨53, _⟩ => ⟨S4x4x2048x1, .f32⟩
  | .hbm, ⟨54, _⟩ => ⟨S_, .f32⟩
  | .hbm, ⟨55, _⟩ => ⟨S4x4x2048x1, .f32⟩
  | .hbm, ⟨56, _⟩ => ⟨S4x4x2048x1, .f32⟩
  | .hbm, ⟨57, _⟩ => ⟨S4x4x64x2048, .f32⟩
  | .hbm, ⟨58, _⟩ => ⟨S4x2048x4x64, .f32⟩
  | .hbm, ⟨59, _⟩ => ⟨S4x2048x256, .f32⟩
  | .hbm, ⟨60, _⟩ => ⟨S4x2048x4x64, .f32⟩
  | .hbm, ⟨61, _⟩ => ⟨S4x4x64x2048, .f32⟩
  | .hbm, ⟨62, _⟩ => ⟨S4x4x2048x256, .f32⟩
  | .hbm, ⟨63, _⟩ => ⟨S4x4x64x256, .f32⟩
  | .hbm, ⟨64, _⟩ => ⟨S4x256x4x64, .f32⟩
  | .hbm, ⟨65, _⟩ => ⟨S4x4x2048x256, .f32⟩
  | .hbm, ⟨66, _⟩ => ⟨S4x4x2048x256, .f32⟩
  | .hbm, ⟨67, _⟩ => ⟨S4x4x2048x256, .f32⟩
  | .hbm, ⟨68, _⟩ => ⟨S_, .f32⟩
  | .hbm, ⟨69, _⟩ => ⟨S4x4x2048, .f32⟩
  | .hbm, ⟨70, _⟩ => ⟨S4x4x2048x1, .f32⟩
  | .hbm, ⟨71, _⟩ => ⟨S4x4x2048x1, .f32⟩
  | .hbm, ⟨72, _⟩ => ⟨S4x4x2048x256, .f32⟩
  | .hbm, ⟨73, _⟩ => ⟨S4x4x2048x256, .f32⟩
  | .hbm, ⟨74, _⟩ => ⟨S_, .f32⟩
  | .hbm, ⟨75, _⟩ => ⟨S4x4x2048, .f32⟩
  | .hbm, ⟨76, _⟩ => ⟨S4x4x2048x256, .f32⟩
  | .hbm, ⟨77, _⟩ => ⟨S4x4x2048x256, .f32⟩
  | .hbm, ⟨78, _⟩ => ⟨S4x4x2048x256, .f32⟩
  | .hbm, ⟨79, _⟩ => ⟨S_, .f32⟩
  | .hbm, ⟨80, _⟩ => ⟨S4x4x2048x256, .f32⟩
  | .hbm, ⟨81, _⟩ => ⟨S4x4x2048x256, .f32⟩
  | .hbm, ⟨82, _⟩ => ⟨S4x4x256x64, .f32⟩
  | .hbm, ⟨83, _⟩ => ⟨S4x256x4x64, .f32⟩
  | .hbm, ⟨84, _⟩ => ⟨S4x4x2048x64, .f32⟩
  | .hbm, ⟨85, _⟩ => ⟨S4x2048x4x64, .f32⟩
  | .hbm, ⟨86, _⟩ => ⟨S4x256x256, .f32⟩
  | .hbm, ⟨87, _⟩ => ⟨S4x256x256, .f32⟩
  | .hbm, ⟨88, _⟩ => ⟨S4x2048x256, .f32⟩
  | .hbm, ⟨89, _⟩ => ⟨S8192x256, .f32⟩
  | .hbm, ⟨90, _⟩ => ⟨S8192x256, .bf16⟩
  | .hbm, ⟨91, _⟩ => ⟨S1024x256, .f32⟩
  | .hbm, ⟨92, _⟩ => ⟨S1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpSpecIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdSpecIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AIn.lean ====
abbrev S8192x1024 : Shape := ⟨2, ![8192, 1024]⟩
abbrev S1024x2560 : Shape := ⟨2, ![1024, 2560]⟩
abbrev S8192x2560 : Shape := ⟨2, ![8192, 2560]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInSpecIdeal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x1024, .f32⟩
  | .hbm, ⟨3, _⟩ => ⟨S1024x2560, .f32⟩
  | .hbm, ⟨4, _⟩ => ⟨S8192x2560, .f32⟩
  | .hbm, ⟨5, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemKv.lean ====
abbrev S1024x1024 : Shape := ⟨2, ![1024, 1024]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvSpecIdeal.lean ====
abbrev S1024x1024 : Shape := ⟨2, ![1024, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdSpecIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvFwd.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvFwdSpecIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BIn.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInSpecIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxSpecIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwSpecIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S8192x2816 : Shape := ⟨2, ![8192, 2816]⟩
abbrev S1024x5632 : Shape := ⟨2, ![1024, 5632]⟩
abbrev S8192x1024 : Shape := ⟨2, ![8192, 1024]⟩
abbrev S1024x2816 : Shape := ⟨2, ![1024, 2816]⟩
abbrev S512x2816 : Shape := ⟨2, ![512, 2816]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_8 : BitVec 32 := 1#32
  let v12 : BitVec 1 := Scalar.cmpi .eq arg2 c1_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxSpecIdeal.lean ====
abbrev S8192x2816 : Shape := ⟨2, ![8192, 2816]⟩
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x5632, .bf16⟩
  | .hbm, ⟨4, _⟩ => ⟨S_, .f32⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S4x1024x1408 : Shape := ⟨3, ![4, 1024, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c0_i32 : BitVec 32 := 0#32
  let v1 : BitVec 32 := Scalar.select v0 arg2 c0_i32
  let c1_i32 : BitVec 32 := 1#32
  let v2 : BitVec 32 := Scalar.minsi arg1 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c0_i32 : BitVec 32 := 0#32
  let v1 : BitVec 32 := Scalar.select v0 c0_i32 arg2
  let c2_i32_0 : BitVec 32 := 2#32
  let v2 : BitVec 32 := Scalar.subi arg1 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwSpecIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S_, .f32⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxSpecIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwSpecIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BInDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDxSpecIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvDx.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxSpecIdeal.lean ====
abbrev S8192x1536 : Shape := ⟨2, ![8192, 1536]⟩
abbrev S1024x1536 : Shape := ⟨2, ![1024, 1536]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S_, .f32⟩
  | .hbm, ⟨3, _⟩ => ⟨S8192x1024, .f32⟩
  | .hbm, ⟨4, _⟩ => ⟨S1024x1536, .f32⟩
  | .hbm, ⟨5, _⟩ => ⟨S8192x1536, .f32⟩
  | .hbm, ⟨6, _⟩ => ⟨S8192x1536, .f32⟩
  | .hbm, ⟨7, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvDw.lean ====
abbrev S8192x1024 : Shape := ⟨2, ![8192, 1024]⟩
abbrev S8192x1536 : Shape := ⟨2, ![8192, 1536]⟩
abbrev S4x1024x384 : Shape := ⟨3, ![4, 1024, 384]⟩
abbrev S2048x1024 : Shape := ⟨2, ![2048, 1024]⟩
abbrev S2048x1536 : Shape := ⟨2, ![2048, 1536]⟩
abbrev S1024x1536 : Shape := ⟨2, ![1024, 1536]⟩
abbrev S1024x384 : Shape := ⟨2, ![1024, 384]⟩
abbrev S1x1024x384 : Shape := ⟨3, ![1, 1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S4x1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvDwSpecIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x4x384, .f32⟩
  | .hbm, ⟨10, _⟩ => ⟨S4x1024x384, .f32⟩
  | .hbm, ⟨11, _⟩ => ⟨S4x1024x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MemKvDx.lean ====
abbrev S1024x512 : Shape := ⟨2, ![1024, 512]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDxSpecIdeal.lean ====
abbrev S1024x512 : Shape := ⟨2, ![1024, 512]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S_, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKvDw.lean ====
abbrev S1024x1024 : Shape := ⟨2, ![1024, 1024]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDwSpecIdeal.lean ====
abbrev S1024x1024 : Shape := ⟨2, ![1024, 1024]⟩
abbrev S1024x512 : Shape := ⟨2, ![1024, 512]⟩
abbrev S_ : Shape := ⟨0, ![]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S_, .f32⟩
  | .hbm, ⟨3, _⟩ => ⟨S1024x512, .f32⟩
  | .hbm, ⟨4, _⟩ => ⟨S1024x1024, .f32⟩
  | .hbm, ⟨5, _⟩ => ⟨S1024x512, .f32⟩
  | .hbm, ⟨6, _⟩ => ⟨S1024x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AInDw.lean ====
abbrev S8192x1024 : Shape := ⟨2, ![8192, 1024]⟩
abbrev S8192x2560 : Shape := ⟨2, ![8192, 2560]⟩
abbrev S4x1024x640 : Shape := ⟨3, ![4, 1024, 640]⟩
abbrev S2048x1024 : Shape := ⟨2, ![2048, 1024]⟩
abbrev S2048x1280 : Shape := ⟨2, ![2048, 1280]⟩
abbrev S2x1024x640 : Shape := ⟨3, ![2, 1024, 640]⟩
abbrev S1024x1280 : Shape := ⟨2, ![1024, 1280]⟩
abbrev S1024x640 : Shape := ⟨2, ![1024, 640]⟩
abbrev S1x1024x640 : Shape := ⟨3, ![1, 1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S2x1024x640, .bf16⟩
  | .local _ .vmem, ⟨5, _⟩ => ⟨S2x1024x640, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDwSpecIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S4x1024x640, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AInDx.lean ====
abbrev S8192x2560 : Shape := ⟨2, ![8192, 2560]⟩
abbrev S1024x2560 : Shape := ⟨2, ![1024, 2560]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x1024, .f32⟩
  | .local _ .vmem, ⟨4, _⟩ => ⟨S1024x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDxSpecIdeal.lean ====
abbrev S8192x2560 : Shape := ⟨2, ![8192, 2560]⟩
abbrev S1024x2560 : Shape := ⟨2, ![1024, 2560]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S_, .f32⟩
  | .hbm, ⟨3, _⟩ => ⟨S8192x1024, .f32⟩
  | .hbm, ⟨4, _⟩ => ⟨S1024x2560, .f32⟩
  | .hbm, ⟨5, _⟩ => ⟨S8192x2560, .f32⟩
  | .hbm, ⟨6, _⟩ => ⟨S8192x2560, .f32⟩
  | .hbm, ⟨7, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamAIn.lean ====
abbrev S1024x640 : Shape := ⟨2, ![1024, 640]⟩
abbrev S256x640 : Shape := ⟨2, ![256, 640]⟩

abbrev nBuf : Space → Nat
  | .hbm => 9
  | .vmem => 18
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S256x640, .f32⟩
  | .local _ .vmem, ⟨17, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAInIdeal.lean ====
abbrev S1024x640 : Shape := ⟨2, ![1024, 640]⟩
abbrev S256x640 : Shape := ⟨2, ![256, 640]⟩

abbrev nBuf : Space → Nat
  | .hbm => 9
  | .vmem => 18
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S256x640, .f32⟩
  | .local _ .vmem, ⟨17, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAInSpecIdeal.lean ====
abbrev S1024x640 : Shape := ⟨2, ![1024, 640]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S_, .f32⟩
  | .hbm, ⟨7, _⟩ => ⟨S1024x640, .f32⟩
  | .hbm, ⟨8, _⟩ => ⟨S1024x640, .f32⟩
  | .hbm, ⟨9, _⟩ => ⟨S_, .f32⟩
  | .hbm, ⟨10, _⟩ => ⟨S1024x640, .f32⟩
  | .hbm, ⟨11, _⟩ => ⟨S1024x640, .f32⟩
  | .hbm, ⟨12, _⟩ => ⟨S1024x640, .f32⟩
  | .hbm, ⟨13, _⟩ => ⟨S_, .f32⟩
  | .hbm, ⟨14, _⟩ => ⟨S1024x640, .f32⟩
  | .hbm, ⟨15, _⟩ => ⟨S1024x640, .f32⟩
  | .hbm, ⟨16, _⟩ => ⟨S1024x640, .f32⟩
  | .hbm, ⟨17, _⟩ => ⟨S_, .f32⟩
  | .hbm, ⟨18, _⟩ => ⟨S1024x640, .f32⟩
  | .hbm, ⟨19, _⟩ => ⟨S1024x640, .f32⟩
  | .hbm, ⟨20, _⟩ => ⟨S1024x640, .f32⟩
  | .hbm, ⟨21, _⟩ => ⟨S_, .f32⟩
  | .hbm, ⟨22, _⟩ => ⟨S1024x640, .f32⟩
  | .hbm, ⟨23, _⟩ => ⟨S1024x640, .f32⟩
  | .hbm, ⟨24, _⟩ => ⟨S_, .f32⟩
  | .hbm, ⟨25, _⟩ => ⟨S1024x640, .f32⟩
  | .hbm, ⟨26, _⟩ => ⟨S1024x640, .f32⟩
  | .hbm, ⟨27, _⟩ => ⟨S1024x640, .f32⟩
  | .hbm, ⟨28, _⟩ => ⟨S_, .f32⟩
  | .hbm, ⟨29, _⟩ => ⟨S1024x640, .f32⟩
  | .hbm, ⟨30, _⟩ => ⟨S1024x640, .f32⟩
  | .hbm, ⟨31, _⟩ => ⟨S1024x640, .f32⟩
  | .hbm, ⟨32, _⟩ => ⟨S_, .f32⟩
  | .hbm, ⟨33, _⟩ => ⟨S1024x640, .f32⟩
  | .hbm, ⟨34, _⟩ => ⟨S1024x640, .f32⟩
  | .hbm, ⟨35, _⟩ => ⟨S1024x640, .f32⟩
  | .hbm, ⟨36, _⟩ => ⟨S_, .f32⟩
  | .hbm, ⟨37, _⟩ => ⟨S1024x640, .f32⟩
  | .hbm, ⟨38, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutIdeal.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutSpecIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMemKv.lean ====
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamMemKvIdeal.lean ====
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamMemKvSpecIdeal.lean ====
abbrev S256x512 : Shape := ⟨2, ![256, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S_, .f32⟩
  | .hbm, ⟨7, _⟩ => ⟨S256x512, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .f32⟩
  | .hbm, ⟨38, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S1024x1408 : Shape := ⟨2, ![1024, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S1024x1408 : Shape := ⟨2, ![1024, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpSpecIdeal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S704x1024 : Shape := ⟨2, ![704, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownIdeal.lean ====
abbrev S704x1024 : Shape := ⟨2, ![704, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownSpecIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamKv.lean ====
abbrev S1024x384 : Shape := ⟨2, ![1024, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamKvSpecIdeal.lean ====
abbrev S1024x384 : Shape := ⟨2, ![1024, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S_, .f32⟩
  | .hbm, ⟨7, _⟩ => ⟨S1024x384, .f32⟩
  | .hbm, ⟨8, _⟩ => ⟨S1024x384, .f32⟩
  | .hbm, ⟨9, _⟩ => ⟨S_, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamNormShard.lean ====
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormShardIdeal.lean ====
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormShardSpecIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S3x1408 : Shape := ⟨2, ![3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S3x1408 : Shape := ⟨2, ![3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvSpecIdeal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormSpecIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdSpecIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MemNormBwd.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormBwdSpecIdeal.lean ====
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== PairNormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PairNormBwdSpecIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadSpecIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_cst_11 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== NormFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdIdeal.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdSpecIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNormFwd.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemNormFwdSpecIdeal.lean ====
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PairNormFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PairNormFwdSpecIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== MemFwd.lean ====
abbrev S8192x1024 : Shape := ⟨2, ![8192, 1024]⟩
abbrev S1024x512 : Shape := ⟨2, ![1024, 512]⟩
abbrev S8192x256 : Shape := ⟨2, ![8192, 256]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x512, .bf16⟩
  | .hbm, ⟨2, _⟩ => ⟨S8192x256, .bf16⟩
  | .local _ .vmem, ⟨0, _⟩ => ⟨S512x128, .f32⟩
  | .local _ .vmem, ⟨1, _⟩ => ⟨S512x128, .f32⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .bf16⟩
  | .local _ .vmem, ⟨7, _⟩ => ⟨S512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MemFwdSpecIdeal.lean ====
abbrev S8192x1024 : Shape := ⟨2, ![8192, 1024]⟩
abbrev S1024x512 : Shape := ⟨2, ![1024, 512]⟩
abbrev S4x2048x1024 : Shape := ⟨3, ![4, 2048, 1024]⟩
abbrev S4x2048x256 : Shape := ⟨3, ![4, 2048, 256]⟩
abbrev S4x256x512 : Shape := ⟨3, ![4, 256, 512]⟩
abbrev S4x256x256 : Shape := ⟨3, ![4, 256, 256]⟩
abbrev S4x2048x4x64 : Shape := ⟨4, ![4, 2048, 4, 64]⟩
abbrev S4x256x4x64 : Shape := ⟨4, ![4, 256, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S8192x256 : Shape := ⟨2, ![8192, 256]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .bf16⟩
  | .hbm, ⟨2, _⟩ => ⟨S4x2048x1024, .f32⟩
  | .hbm, ⟨3, _⟩ => ⟨S4x2048x256, .f32⟩
  | .hbm, ⟨4, _⟩ => ⟨S1024x512, .f32⟩
  | .hbm, ⟨5, _⟩ => ⟨S4x256x512, .f32⟩
  | .hbm, ⟨6, _⟩ => ⟨S4x256x256, .f32⟩
  | .hbm, ⟨7, _⟩ => ⟨S4x256x256, .f32⟩
  | .hbm, ⟨8, _⟩ => ⟨S4x2048x4x64, .f32⟩
  | .hbm, ⟨9, _⟩ => ⟨S4x256x4x64, .f32⟩
  | .hbm, ⟨10, _⟩ => ⟨S4x256x4x64, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S_, .f32⟩
  | .hbm, ⟨18, _⟩ => ⟨S4x4x2048, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S4x4x2048x1, .f32⟩
  | .hbm, ⟨27, _⟩ => ⟨S4x4x2048x256, .f32⟩
  | .hbm, ⟨28, _⟩ => ⟨S4x4x2048x256, .f32⟩
  | .hbm, ⟨29, _⟩ => ⟨S4x4x64x2048, .f32⟩
  | .hbm, ⟨30, _⟩ => ⟨S4x2048x4x64, .f32⟩
  | .hbm, ⟨31, _⟩ => ⟨S4x2048x256, .f32⟩
  | .hbm, ⟨32, _⟩ => ⟨S8192x256, .f32⟩
  | .hbm, ⟨33, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== MemFwdA.lean ====
abbrev S8192x2560 : Shape := ⟨2, ![8192, 2560]⟩
abbrev S1024x512 : Shape := ⟨2, ![1024, 512]⟩
abbrev S8192x256 : Shape := ⟨2, ![8192, 256]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x2560, .bf16⟩
  | .hbm, ⟨1, _⟩ => ⟨S1024x512, .bf16⟩
  | .hbm, ⟨2, _⟩ => ⟨S8192x256, .bf16⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .bf16⟩
  | .local _ .vmem, ⟨7, _⟩ => ⟨S512x128, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c18_i32 : BitVec 32 := 18#32
  let v2 : BitVec 32 := Scalar.addi c18_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MemFwdASpecIdeal.lean ====
abbrev S8192x2560 : Shape := ⟨2, ![8192, 2560]⟩
abbrev S1024x512 : Shape := ⟨2, ![1024, 512]⟩
abbrev S4x2048x2560 : Shape := ⟨3, ![4, 2048, 2560]⟩
abbrev S4x2048x256 : Shape := ⟨3, ![4, 2048, 256]⟩
abbrev S4x256x512 : Shape := ⟨3, ![4, 256, 512]⟩
abbrev S4x256x256 : Shape := ⟨3, ![4, 256, 256]⟩
abbrev S4x2048x4x64 : Shape := ⟨4, ![4, 2048, 4, 64]⟩
abbrev S4x256x4x64 : Shape := ⟨4, ![4, 256, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S8192x256 : Shape := ⟨2, ![8192, 256]⟩

abbrev nBuf : Space → Nat
  | .hbm => 35
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x512, .bf16⟩
  | .hbm, ⟨2, _⟩ => ⟨S8192x2560, .f32⟩
  | .hbm, ⟨3, _⟩ => ⟨S4x2048x2560, .f32⟩
  | .hbm, ⟨4, _⟩ => ⟨S4x2048x256, .f32⟩
  | .hbm, ⟨5, _⟩ => ⟨S1024x512, .f32⟩
  | .hbm, ⟨6, _⟩ => ⟨S4x256x512, .f32⟩
  | .hbm, ⟨7, _⟩ => ⟨S4x256x256, .f32⟩
  | .hbm, ⟨8, _⟩ => ⟨S4x256x256, .f32⟩
  | .hbm, ⟨9, _⟩ => ⟨S4x2048x4x64, .f32⟩
  | .hbm, ⟨10, _⟩ => ⟨S4x256x4x64, .f32⟩
  | .hbm, ⟨11, _⟩ => ⟨S4x256x4x64, .f32⟩
  | .hbm, ⟨12, _⟩ => ⟨S4x4x2048x256, .f32⟩
  | .hbm, ⟨13, _⟩ => ⟨S_, .f32⟩
  | .hbm, ⟨14, _⟩ => ⟨S4x4x2048x256, .f32⟩
  | .hbm, ⟨15, _⟩ => ⟨S4x4x2048x256, .f32⟩
  | .hbm, ⟨16, _⟩ => ⟨S_, .f32⟩
  | .hbm, ⟨17, _⟩ => ⟨S4x4x2048, .f32⟩
  | .hbm, ⟨18, _⟩ => ⟨S_, .f32⟩
  | .hbm, ⟨19, _⟩ => ⟨S4x4x2048, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S4x4x2048x1, .f32⟩
  | .hbm, ⟨28, _⟩ => ⟨S4x4x2048x256, .f32⟩
  | .hbm, ⟨29, _⟩ => ⟨S4x4x2048x256, .f32⟩
  | .hbm, ⟨30, _⟩ => ⟨S4x4x64x2048, .f32⟩
  | .hbm, ⟨31, _⟩ => ⟨S4x2048x4x64, .f32⟩
  | .hbm, ⟨32, _⟩ => ⟨S4x2048x256, .f32⟩
  | .hbm, ⟨33, _⟩ => ⟨S8192x256, .f32⟩
  | .hbm, ⟨34, _⟩ => ⟨S8192x256, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== MemBwdA.lean ====
abbrev S8192x2560 : Shape := ⟨2, ![8192, 2560]⟩
abbrev S1024x512 : Shape := ⟨2, ![1024, 512]⟩
abbrev S8192x1024 : Shape := ⟨2, ![8192, 1024]⟩
abbrev S8192x256 : Shape := ⟨2, ![8192, 256]⟩
abbrev S1024x256 : Shape := ⟨2, ![1024, 256]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x2560, .bf16⟩
  | .hbm, ⟨1, _⟩ => ⟨S1024x512, .bf16⟩
  | .hbm, ⟨2, _⟩ => ⟨S8192x1024, .bf16⟩
  | .hbm, ⟨3, _⟩ => ⟨S8192x256, .bf16⟩
  | .hbm, ⟨4, _⟩ => ⟨S1024x256, .f32⟩
  | .hbm, ⟨5, _⟩ => ⟨S1024x256, .f32⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c18_i32 : BitVec 32 := 18#32
  let v2 : BitVec 32 := Scalar.addi c18_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MemBwdASpecIdeal.lean ====
abbrev S8192x2560 : Shape := ⟨2, ![8192, 2560]⟩
abbrev S1024x512 : Shape := ⟨2, ![1024, 512]⟩
abbrev S8192x1024 : Shape := ⟨2, ![8192, 1024]⟩
abbrev S4x2048x2560 : Shape := ⟨3, ![4, 2048, 2560]⟩
abbrev S4x2048x256 : Shape := ⟨3, ![4, 2048, 256]⟩
abbrev S4x256x512 : Shape := ⟨3, ![4, 256, 512]⟩
abbrev S4x256x256 : Shape := ⟨3, ![4, 256, 256]⟩
abbrev S4x2048x1024 : Shape := ⟨3, ![4, 2048, 1024]⟩
abbrev S4x2048x4x64 : Shape := ⟨4, ![4, 2048, 4, 64]⟩
abbrev S4x256x4x64 : Shape := ⟨4, ![4, 256, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩
abbrev S8192x256 : Shape := ⟨2, ![8192, 256]⟩
abbrev S1024x256 : Shape := ⟨2, ![1024, 256]⟩

abbrev nBuf : Space → Nat
  | .hbm => 94
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x512, .bf16⟩
  | .hbm, ⟨2, _⟩ => ⟨S8192x1024, .bf16⟩
  | .hbm, ⟨3, _⟩ => ⟨S8192x2560, .f32⟩
  | .hbm, ⟨4, _⟩ => ⟨S4x2048x2560, .f32⟩
  | .hbm, ⟨5, _⟩ => ⟨S4x2048x256, .f32⟩
  | .hbm, ⟨6, _⟩ => ⟨S1024x512, .f32⟩
  | .hbm, ⟨7, _⟩ => ⟨S4x256x512, .f32⟩
  | .hbm, ⟨8, _⟩ => ⟨S4x256x256, .f32⟩
  | .hbm, ⟨9, _⟩ => ⟨S4x256x256, .f32⟩
  | .hbm, ⟨10, _⟩ => ⟨S8192x1024, .f32⟩
  | .hbm, ⟨11, _⟩ => ⟨S4x2048x1024, .f32⟩
  | .hbm, ⟨12, _⟩ => ⟨S4x2048x256, .f32⟩
  | .hbm, ⟨13, _⟩ => ⟨S4x2048x4x64, .f32⟩
  | .hbm, ⟨14, _⟩ => ⟨S4x256x4x64, .f32⟩
  | .hbm, ⟨15, _⟩ => ⟨S4x256x4x64, .f32⟩
  | .hbm, ⟨16, _⟩ => ⟨S4x4x2048x256, .f32⟩
  | .hbm, ⟨17, _⟩ => ⟨S_, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .i1⟩
  | .hbm, ⟨25, _⟩ => ⟨S4x4x2048x256, .f32⟩
  | .hbm, ⟨26, _⟩ => ⟨S_, .f32⟩
  | .hbm, ⟨27, _⟩ => ⟨S4x4x2048, .f32⟩
  | .hbm, ⟨28, _⟩ => ⟨S_, .f32⟩
  | .hbm, ⟨29, _⟩ => ⟨S4x4x2048, .f32⟩
  | .hbm, ⟨30, _⟩ => ⟨S4x4x2048, .f32⟩
  | .hbm, ⟨31, _⟩ => ⟨S_, .f32⟩
  | .hbm, ⟨32, _⟩ => ⟨S4x4x2048, .f32⟩
  | .hbm, ⟨33, _⟩ => ⟨S4x4x2048, .i1⟩
  | .hbm, ⟨34, _⟩ => ⟨S_, .f32⟩
  | .hbm, ⟨35, _⟩ => ⟨S4x4x2048, .f32⟩
  | .hbm, ⟨36, _⟩ => ⟨S4x4x2048, .i1⟩
  | .hbm, ⟨37, _⟩ => ⟨S_, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S_, .f32⟩
  | .hbm, ⟨42, _⟩ => ⟨S4x4x2048, .f32⟩
  | .hbm, ⟨43, _⟩ => ⟨S4x4x2048, .f32⟩
  | .hbm, ⟨44, _⟩ => ⟨S4x4x2048, .f32⟩
  | .hbm, ⟨45, _⟩ => ⟨S4x4x2048x1, .f32⟩
  | .hbm, ⟨46, _⟩ => ⟨S4x4x2048x256, .f32⟩
  | .hbm, ⟨47, _⟩ => ⟨S4x4x2048x256, .f32⟩
  | .hbm, ⟨48, _⟩ => ⟨S4x4x2048x256, .f32⟩
  | .hbm, ⟨49, _⟩ => ⟨S_, .f32⟩
  | .hbm, ⟨50, _⟩ => ⟨S4x4x2048, .f32⟩
  | .hbm, ⟨51, _⟩ => ⟨S4x4x2048x1, .f32⟩
  | .hbm, ⟨52, _⟩ => ⟨S4x4x2048x256, .f32⟩
  | .hbm, ⟨53, _⟩ => ⟨S4x4x2048x256, .f32⟩
  | .hbm, ⟨54, _⟩ => ⟨S4x4x2048x1, .f32⟩
  | .hbm, ⟨55, _⟩ => ⟨S_, .f32⟩
  | .hbm, ⟨56, _⟩ => ⟨S4x4x2048x1, .f32⟩
  | .hbm, ⟨57, _⟩ => ⟨S4x4x2048x1, .f32⟩
  | .hbm, ⟨58, _⟩ => ⟨S4x4x64x2048, .f32⟩
  | .hbm, ⟨59, _⟩ => ⟨S4x2048x4x64, .f32⟩
  | .hbm, ⟨60, _⟩ => ⟨S4x2048x256, .f32⟩
  | .hbm, ⟨61, _⟩ => ⟨S4x2048x4x64, .f32⟩
  | .hbm, ⟨62, _⟩ => ⟨S4x4x64x2048, .f32⟩
  | .hbm, ⟨63, _⟩ => ⟨S4x4x2048x256, .f32⟩
  | .hbm, ⟨64, _⟩ => ⟨S4x4x64x256, .f32⟩
  | .hbm, ⟨65, _⟩ => ⟨S4x256x4x64, .f32⟩
  | .hbm, ⟨66, _⟩ => ⟨S4x4x2048x256, .f32⟩
  | .hbm, ⟨67, _⟩ => ⟨S4x4x2048x256, .f32⟩
  | .hbm, ⟨68, _⟩ => ⟨S4x4x2048x256, .f32⟩
  | .hbm, ⟨69, _⟩ => ⟨S_, .f32⟩
  | .hbm, ⟨70, _⟩ => ⟨S4x4x2048, .f32⟩
  | .hbm, ⟨71, _⟩ => ⟨S4x4x2048x1, .f32⟩
  | .hbm, ⟨72, _⟩ => ⟨S4x4x2048x1, .f32⟩
  | .hbm, ⟨73, _⟩ => ⟨S4x4x2048x256, .f32⟩
  | .hbm, ⟨74, _⟩ => ⟨S4x4x2048x256, .f32⟩
  | .hbm, ⟨75, _⟩ => ⟨S_, .f32⟩
  | .hbm, ⟨76, _⟩ => ⟨S4x4x2048, .f32⟩
  | .hbm, ⟨77, _⟩ => ⟨S4x4x2048x256, .f32⟩
  | .hbm, ⟨78, _⟩ => ⟨S4x4x2048x256, .f32⟩
  | .hbm, ⟨79, _⟩ => ⟨S4x4x2048x256, .f32⟩
  | .hbm, ⟨80, _⟩ => ⟨S_, .f32⟩
  | .hbm, ⟨81, _⟩ => ⟨S4x4x2048x256, .f32⟩
  | .hbm, ⟨82, _⟩ => ⟨S4x4x2048x256, .f32⟩
  | .hbm, ⟨83, _⟩ => ⟨S4x4x256x64, .f32⟩
  | .hbm, ⟨84, _⟩ => ⟨S4x256x4x64, .f32⟩
  | .hbm, ⟨85, _⟩ => ⟨S4x4x2048x64, .f32⟩
  | .hbm, ⟨86, _⟩ => ⟨S4x2048x4x64, .f32⟩
  | .hbm, ⟨87, _⟩ => ⟨S4x256x256, .f32⟩
  | .hbm, ⟨88, _⟩ => ⟨S4x256x256, .f32⟩
  | .hbm, ⟨89, _⟩ => ⟨S4x2048x256, .f32⟩
  | .hbm, ⟨90, _⟩ => ⟨S8192x256, .f32⟩
  | .hbm, ⟨91, _⟩ => ⟨S8192x256, .bf16⟩
  | .hbm, ⟨92, _⟩ => ⟨S1024x256, .f32⟩
  | .hbm, ⟨93, _⟩ => ⟨S1024x256, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== CombineFwd.lean ====
abbrev S8192x256 : Shape := ⟨2, ![8192, 256]⟩
abbrev S8192x768 : Shape := ⟨2, ![8192, 768]⟩
abbrev S512x256 : Shape := ⟨2, ![512, 256]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x768, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x768, .bf16⟩
  | .local _ .vmem, ⟨13, _⟩ => ⟨S512x768, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineFwdSpecIdeal.lean ====
abbrev S8192x256 : Shape := ⟨2, ![8192, 256]⟩
abbrev S8192x768 : Shape := ⟨2, ![8192, 768]⟩

abbrev nBuf : Space → Nat
  | .hbm => 24
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x768, .f32⟩
  | .hbm, ⟨23, _⟩ => ⟨S8192x768, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== CombineBwd.lean ====
abbrev S8192x256 : Shape := ⟨2, ![8192, 256]⟩
abbrev S8192x1024 : Shape := ⟨2, ![8192, 1024]⟩
abbrev S8192x768 : Shape := ⟨2, ![8192, 768]⟩
abbrev S512x256 : Shape := ⟨2, ![512, 256]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .bf16⟩
  | .hbm, ⟨7, _⟩ => ⟨S8192x768, .f32⟩
  | .hbm, ⟨8, _⟩ => ⟨S8192x768, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x768, .bf16⟩
  | .local _ .vmem, ⟨13, _⟩ => ⟨S512x768, .bf16⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CombineBwdSpecIdeal.lean ====
abbrev S8192x256 : Shape := ⟨2, ![8192, 256]⟩
abbrev S8192x1024 : Shape := ⟨2, ![8192, 1024]⟩
abbrev S8192x768 : Shape := ⟨2, ![8192, 768]⟩
abbrev S8192x4x64 : Shape := ⟨3, ![8192, 4, 64]⟩
abbrev S_ : Shape := ⟨0, ![]⟩
abbrev S8192x4 : Shape := ⟨2, ![8192, 4]⟩
abbrev S8192x4x1 : Shape := ⟨3, ![8192, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .bf16⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x768, .bf16⟩
  | .hbm, ⟨21, _⟩ => ⟨S8192x768, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x768, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x768, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x4x64, .f32⟩
  | .hbm, ⟨43, _⟩ => ⟨S_, .f32⟩
  | .hbm, ⟨44, _⟩ => ⟨S8192x4, .f32⟩
  | .hbm, ⟨45, _⟩ => ⟨S8192x4x1, .f32⟩
  | .hbm, ⟨46, _⟩ => ⟨S8192x4x64, .f32⟩
  | .hbm, ⟨47, _⟩ => ⟨S8192x256, .f32⟩
  | .hbm, ⟨48, _⟩ => ⟨S8192x256, .f32⟩
  | .hbm, ⟨49, _⟩ => ⟨S8192x4x64, .f32⟩
  | .hbm, ⟨50, _⟩ => ⟨S_, .f32⟩
  | .hbm, ⟨51, _⟩ => ⟨S8192x4, .f32⟩
  | .hbm, ⟨52, _⟩ => ⟨S8192x4x1, .f32⟩
  | .hbm, ⟨53, _⟩ => ⟨S8192x4x64, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S8192x4x64, .f32⟩
  | .hbm, ⟨58, _⟩ => ⟨S_, .f32⟩
  | .hbm, ⟨59, _⟩ => ⟨S8192x4, .f32⟩
  | .hbm, ⟨60, _⟩ => ⟨S8192x4x1, .f32⟩
  | .hbm, ⟨61, _⟩ => ⟨S8192x4x64, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S8192x768, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x768, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_0 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_1 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩

abbrev nD : Nat := 1
abbrev τ : Topo := Topo.v7x

variable {F : FTy → Type} [FloatOps F]
-- ==== Proof.Prod.FfnUp.lean ====
/- The feed-forward part's first product: the normed input times the first matrix. -/
module

public import proofs.«01_k».proof.Proof.Gen.FfnUpIdeal.Frame
public import proofs.«01_k».proof.Proof.Gen.FfnUpSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnUpProof

open Idealize.ShloMosaic Idealize.ShloMosaic.TcCoe Idealize.SL.Sem

/-- What the call computes, as sums over the whole contracted axis. -/
def res (X0 : Vec Ideal FfnUpIdeal.S8192x1024 .bf16) (X1 : Vec Ideal FfnUpIdeal.S1024x5632 .bf16) :
    Vec Ideal FfnUpIdeal.S8192x5632 .bf16 := fun i => ∑ k : Fin 1024,
      X0 (ix2 (i 0) k) * X1 (ix2 k (i 1))

section kernel
open Cert.FfnUpIdeal Cert.FfnUpIdeal.Gen

/-- The block a grid point stores. -/
theorem blk_at (x0 : Vec Ideal S1024x1024 .bf16) (x1 : Vec Ideal S1024x2816 .bf16) (j : S1024x2816.Idx) :
    k0_pay1 x0 x1 j = ∑ k : Fin 1024, x0 (ix2 (j 0) k) * x1 (ix2 k (j 1)) := by
  pointwise [k0_pay1]

variable (m : (ℓ : Loc nD τ sig) → Buf (Elt Ideal) ℓ) (c : Dev nD)

abbrev A0 : Vec Ideal S8192x1024 .bf16 := m ((c : Thread nD τ).loc main_arg0)
abbrev A1 : Vec Ideal S1024x5632 .bf16 := m ((c : Thread nD τ).loc main_arg1)

theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

theorem blk0 (t : Fin cfg0.N) (r : Fin 1024) (l : Fin 1024) (R : Fin 8192) (C : Fin 1024)
    (hR : R.val = t.val / 2 * 1024 + r) (hC : C.val = l) : iblk m c 0 t (ix2 r l) = A0 m c (ix2 R C) := by
  blk_point [iblk, V, idx t]

theorem blk1 (t : Fin cfg0.N) (r : Fin 1024) (l : Fin 2816) (R : Fin 1024) (C : Fin 5632)
    (hR : R.val = r) (hC : C.val = t.val % 2 * 2816 + l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 16 := t.isLt
  rw [after0_2]
  frame_out
  rw [blk_at]
  have hy0 : (y 0).val < 1024 := (y 0).isLt
  have hy1 : (y 1).val < 2816 := (y 1).isLt
  have e0 : (((win0_2.blk t).view.emb y) 0).val = t.val / 2 * 1024 + (y 0).val := by blk_simp [idx t]
  have e1 : (((win0_2.blk t).view.emb y) 1).val = t.val % 2 * 2816 + (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t k (y 1) k (i 1) (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.FfnUpSpecIdeal Cert.FfnUpSpecIdeal.Gen

/-- The reference's result is the same. -/
theorem ref_eq (X0 : Vec Ideal S8192x1024 .bf16) (X1 : Vec Ideal S1024x5632 .bf16) :
    (truncf .bf16 (Host.dotGeneral dot_S8192x1024_S1024x5632_S8192x5632_1_0_0_1_n_n none (extf .f32 X0 bitsLt_bf16_f32) (extf .f32 X1 bitsLt_bf16_f32)) bitsLt_bf16_f32 : FVec Ideal S8192x5632 .bf16) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.FfnUpSpecIdeal.Value.run m g)

end reference

/-- Over the extended reals the kernel's result is the reference's. -/
theorem algebraic : Cert.algebraic_FfnUpIdeal_FfnUpSpecIdeal := by
  pair_intro
  · run_from run m g
  · run_from Cert.FfnUpSpecIdeal.Value.run m' g'
    exact ref_eq _ _

end Cert.FfnUpProof

end
-- ==== Proof.Prod.DownFwd.lean ====
/- The feed-forward part's second product, added to the residual stream. -/
module

public import proofs.«01_k».proof.Proof.Gen.DownFwdIdeal.Frame
public import proofs.«01_k».proof.Proof.Gen.DownFwdSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.DownFwdProof

open Idealize.ShloMosaic Idealize.ShloMosaic.TcCoe Idealize.SL.Sem

/-- What the call computes, as sums over the whole contracted axis. -/
def res (X0 : Vec Ideal DownFwdIdeal.S8192x2816 .bf16) (X1 : Vec Ideal DownFwdIdeal.S2816x1024 .bf16) (X2 : Vec Ideal DownFwdIdeal.S8192x1024 .f32) :
    Vec Ideal DownFwdIdeal.S8192x1024 .f32 := fun i => X2 i + ∑ k : Fin 2816,
      X0 (ix2 (i 0) k) * X1 (ix2 k (i 1))

section kernel
open Cert.DownFwdIdeal Cert.DownFwdIdeal.Gen

/-- The block a grid point stores. -/
theorem blk_at (x0 : Vec Ideal S1024x2816 .bf16) (x1 : Vec Ideal S2816x1024 .bf16) (x2 : Vec Ideal S1024x1024 .f32) (j : S1024x1024.Idx) :
    k0_pay1 x0 x1 x2 j = x2 j + ∑ k : Fin 2816, x0 (ix2 (j 0) k) * x1 (ix2 k (j 1)) := by
  pointwise [k0_pay1]; exact add_comm _ _

variable (m : (ℓ : Loc nD τ sig) → Buf (Elt Ideal) ℓ) (c : Dev nD)

abbrev A0 : Vec Ideal S8192x2816 .bf16 := m ((c : Thread nD τ).loc main_arg0)
abbrev A1 : Vec Ideal S2816x1024 .bf16 := m ((c : Thread nD τ).loc main_arg1)
abbrev A2 : Vec Ideal S8192x1024 .f32 := m ((c : Thread nD τ).loc main_arg2)

theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

theorem blk0 (t : Fin cfg0.N) (r : Fin 1024) (l : Fin 2816) (R : Fin 8192) (C : Fin 2816)
    (hR : R.val = t.val * 1024 + r) (hC : C.val = l) : iblk m c 0 t (ix2 r l) = A0 m c (ix2 R C) := by
  blk_point [iblk, V, idx t]

theorem blk1 (t : Fin cfg0.N) (r : Fin 2816) (l : Fin 1024) (R : Fin 2816) (C : Fin 1024)
    (hR : R.val = r) (hC : C.val = l) : iblk m c 1 t (ix2 r l) = A1 m c (ix2 R C) := by
  blk_point [iblk, V, idx t]

theorem blk2 (t : Fin cfg0.N) (r : Fin 1024) (l : Fin 1024) (R : Fin 8192) (C : Fin 1024)
    (hR : R.val = t.val * 1024 + r) (hC : C.val = l) : iblk m c 2 t (ix2 r l) = A2 m c (ix2 R C) := by
  blk_point [iblk, V, idx t]

theorem final : (dats m 0 c).arrAt 3 (cfgs 0).N = res (A0 m c) (A1 m c) (A2 m c) := by
  refine (dats m 0 c).arrAt_eq_of_covers 3 _ (by decide +kernel) fun t hf y => ?_
  blk_simp
  have ht : t.val < 8 := t.isLt
  rw [after0_3]
  frame_out
  rw [blk_at]
  have hy0 : (y 0).val < 1024 := (y 0).isLt
  have hy1 : (y 1).val < 1024 := (y 1).isLt
  have e0 : (((win0_3.blk t).view.emb y) 0).val = t.val * 1024 + (y 0).val := by blk_simp [idx t]
  have e1 : (((win0_3.blk t).view.emb y) 1).val = (y 1).val := by blk_simp [idx t]
  generalize (win0_3.blk t).view.emb y = i at e0 e1
  refine congrArg₂ (· + ·) ((congrArg (iblk m c 2 t) (eq_ix2 y)).trans ((blk2 m c t (y 0) (y 1) (i 0) (i 1) (by omega) (by omega)).trans
    (congrArg (A2 m c) (eq_ix2 i).symm))) ?_
  refine Finset.sum_congr rfl fun k _ => ?_
  exact congrArg₂ (· * ·) (blk0 m c t (y 0) k (i 0) k (by omega) (by omega)) (blk1 m c t k (y 1) k (i 1) (by omega) (by omega))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end kernel

section reference
open Cert.DownFwdSpecIdeal Cert.DownFwdSpecIdeal.Gen

/-- The reference's result is the same. -/
theorem ref_eq (X0 : Vec Ideal S8192x2816 .bf16) (X1 : Vec Ideal S2816x1024 .bf16) (X2 : Vec Ideal S8192x1024 .f32) :
    (addf X2 (Host.dotGeneral dot_S8192x2816_S2816x1024_S8192x1024_1_0_0_1_n_n none (extf .f32 X0 bitsLt_bf16_f32) (extf .f32 X1 bitsLt_bf16_f32)) : FVec Ideal S8192x1024 .f32) = res X0 X1 X2 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
        ∧ r.2.sem = fun _ => 0 :=
  (θ_run defs _ _).mono (fun r h => ⟨fun c => (h c).2, sem_eq_zero_of_no_sems (by decide) r.2⟩)
    (Cert.DownFwdSpecIdeal.Value.run m g)

end reference

/-- Over the extended reals the kernel's result is the reference's. -/
theorem algebraic : Cert.algebraic_DownFwdIdeal_DownFwdSpecIdeal := by
  pair_intro
  · run_from run m g
  · run_from Cert.DownFwdSpecIdeal.Value.run m' g'
    exact ref_eq _ _ _

end Cert.DownFwdProof

end
-- ==== Proof.Prod.AIn.lean ====
/- The first layer's input projection: the normed input times its matrix. -/
module

public import proofs.«01_k».proof.Proof.Gen.AInIdeal.Frame
public import proofs.«01_k».proof.Proof.Gen.AInSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.AInProof

open Idealize.ShloMosaic Idealize.ShloMosaic.TcCoe Idealize.SL.Sem

/-- What the call computes, as sums over the whole contracted axis. -/
def res (X0 : Vec Ideal AInIdeal.S8192x1024 .bf16) (X1 : Vec Ideal AInIdeal.S1024x2560 .bf16) :
    Vec Ideal AInIdeal.S8192x2560 .bf16 := fun i => ∑ k : Fin 1024,
      X0 (ix2 (i 0) k) * X1 (ix2 k (i 1))

section kernel
open Cert.AInIdeal Cert.AInIdeal.Gen

/-- The block a grid point stores. -/
theorem blk_at (x0 : Vec Ideal S1024x1024 .bf16) (x1 : Vec Ideal S1024x2560 .bf16) (j : S1024x2560.Idx) :
    k0_pay1 x0 x1 j = ∑ k : Fin 1024, x0 (ix2 (j 0) k) * x1 (ix2 k (j 1)) := by
  pointwise [k0_pay1]

variable (m : (ℓ : Loc nD τ sig) → Buf (Elt Ideal) ℓ) (c : Dev nD)

abbrev A0 : Vec Ideal S8192x1024 .bf16 := m ((c : Thread nD τ).loc main_arg0)
abbrev A1 : Vec Ideal S1024x2560 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 1024) (R : Fin 8192) (C : Fin 1024)
    (hR : R.val = t.val * 1024 + r) (hC : C.val = l) : iblk m c 0 t (ix2 r l) = A0 m c (ix2 R C) := by
  blk_point [iblk, V, idx t]

theorem blk1 (t : Fin cfg0.N) (r : Fin 1024) (l : Fin 2560) (R : Fin 1024) (C : Fin 2560)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 2560 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t k (y 1) k (i 1) (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.AInSpecIdeal Cert.AInSpecIdeal.Gen

/-- The reference's result is the same. -/
theorem ref_eq (X0 : Vec Ideal S8192x1024 .bf16) (X1 : Vec Ideal S1024x2560 .bf16) :
    (truncf .bf16 (Host.dotGeneral dot_S8192x1024_S1024x2560_S8192x2560_1_0_0_1_n_n none (extf .f32 X0 bitsLt_bf16_f32) (extf .f32 X1 bitsLt_bf16_f32)) bitsLt_bf16_f32 : FVec Ideal S8192x2560 .bf16) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.AInSpecIdeal.Value.run m g)

end reference

/-- Over the extended reals the kernel's result is the reference's. -/
theorem algebraic : Cert.algebraic_AInIdeal_AInSpecIdeal := by
  pair_intro
  · run_from run m g
  · run_from Cert.AInSpecIdeal.Value.run m' g'
    exact ref_eq _ _

end Cert.AInProof

end
-- ==== Proof.Prod.MemKv.lean ====
/- The memory's keys and values: the normed memory times its matrix. -/
module

public import proofs.«01_k».proof.Proof.Gen.MemKvIdeal.Frame
public import proofs.«01_k».proof.Proof.Gen.MemKvSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemKvProof

open Idealize.ShloMosaic Idealize.ShloMosaic.TcCoe Idealize.SL.Sem

/-- What the call computes, as sums over the whole contracted axis. -/
def res (X0 : Vec Ideal MemKvIdeal.S1024x1024 .bf16) (X1 : Vec Ideal MemKvIdeal.S1024x512 .bf16) :
    Vec Ideal MemKvIdeal.S1024x512 .bf16 := fun i => ∑ k : Fin 1024,
      X0 (ix2 (i 0) k) * X1 (ix2 k (i 1))

section kernel
open Cert.MemKvIdeal Cert.MemKvIdeal.Gen

/-- The block a grid point stores. -/
theorem blk_at (x0 : Vec Ideal S1024x1024 .bf16) (x1 : Vec Ideal S1024x512 .bf16) (j : S1024x512.Idx) :
    k0_pay1 x0 x1 j = ∑ k : Fin 1024, x0 (ix2 (j 0) k) * x1 (ix2 k (j 1)) := by
  pointwise [k0_pay1]

variable (m : (ℓ : Loc nD τ sig) → Buf (Elt Ideal) ℓ) (c : Dev nD)

abbrev A0 : Vec Ideal S1024x1024 .bf16 := m ((c : Thread nD τ).loc main_arg0)
abbrev A1 : Vec Ideal S1024x512 .bf16 := m ((c : Thread nD τ).loc main_arg1)

theorem idx : ∀ t : Fin cfg0.N, win0_0.index t = ![0, 0]
    ∧ win0_1.index t = ![0, 0]
    ∧ win0_2.index t = ![0, 0] :=
  (by decide +kernel : ∀ t : Fin grid0.N, _)

theorem blk0 (t : Fin cfg0.N) (r : Fin 1024) (l : Fin 1024) (R : Fin 1024) (C : Fin 1024)
    (hR : R.val = r) (hC : C.val = l) : iblk m c 0 t (ix2 r l) = A0 m c (ix2 R C) := by
  blk_point [iblk, V, idx t]

theorem blk1 (t : Fin cfg0.N) (r : Fin 1024) (l : Fin 512) (R : Fin 1024) (C : Fin 512)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 1 := t.isLt
  rw [after0_2]
  frame_out
  rw [blk_at]
  have hy0 : (y 0).val < 1024 := (y 0).isLt
  have hy1 : (y 1).val < 512 := (y 1).isLt
  have e0 : (((win0_2.blk t).view.emb y) 0).val = (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t k (y 1) k (i 1) (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.MemKvSpecIdeal Cert.MemKvSpecIdeal.Gen

/-- The reference's result is the same. -/
theorem ref_eq (X0 : Vec Ideal S1024x1024 .bf16) (X1 : Vec Ideal S1024x512 .bf16) :
    (truncf .bf16 (Host.dotGeneral dot_S1024x1024_S1024x512_S1024x512_1_0_0_1_n_n none (extf .f32 X0 bitsLt_bf16_f32) (extf .f32 X1 bitsLt_bf16_f32)) bitsLt_bf16_f32 : FVec Ideal S1024x512 .bf16) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.MemKvSpecIdeal.Value.run m g)

end reference

/-- Over the extended reals the kernel's result is the reference's. -/
theorem algebraic : Cert.algebraic_MemKvIdeal_MemKvSpecIdeal := by
  pair_intro
  · run_from run m g
  · run_from Cert.MemKvSpecIdeal.Value.run m' g'
    exact ref_eq _ _

end Cert.MemKvProof

end
-- ==== Proof.Prod.OutFwd.lean ====
/- A layer's output projection, added to the residual stream. -/
module

public import proofs.«01_k».proof.Proof.Gen.OutFwdIdeal.Frame
public import proofs.«01_k».proof.Proof.Gen.OutFwdSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.OutFwdProof

open Idealize.ShloMosaic Idealize.ShloMosaic.TcCoe Idealize.SL.Sem

/-- What the call computes, as sums over the whole contracted axis. -/
def res (X0 : Vec Ideal OutFwdIdeal.S8192x1024 .bf16) (X1 : Vec Ideal OutFwdIdeal.S1024x1024 .bf16) (X2 : Vec Ideal OutFwdIdeal.S8192x1024 .f32) :
    Vec Ideal OutFwdIdeal.S8192x1024 .f32 := fun i => X2 i + ∑ k : Fin 1024,
      X0 (ix2 (i 0) k) * X1 (ix2 k (i 1))

section kernel
open Cert.OutFwdIdeal Cert.OutFwdIdeal.Gen

/-- The block a grid point stores. -/
theorem blk_at (x0 : Vec Ideal S1024x1024 .bf16) (x1 : Vec Ideal S1024x1024 .bf16) (x2 : Vec Ideal S1024x1024 .f32) (j : S1024x1024.Idx) :
    k0_pay1 x0 x1 x2 j = x2 j + ∑ k : Fin 1024, x0 (ix2 (j 0) k) * x1 (ix2 k (j 1)) := by
  pointwise [k0_pay1]; exact add_comm _ _

variable (m : (ℓ : Loc nD τ sig) → Buf (Elt Ideal) ℓ) (c : Dev nD)

abbrev A0 : Vec Ideal S8192x1024 .bf16 := m ((c : Thread nD τ).loc main_arg0)
abbrev A1 : Vec Ideal S1024x1024 .bf16 := m ((c : Thread nD τ).loc main_arg1)
abbrev A2 : Vec Ideal S8192x1024 .f32 := m ((c : Thread nD τ).loc main_arg2)

theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

theorem blk0 (t : Fin cfg0.N) (r : Fin 1024) (l : Fin 1024) (R : Fin 8192) (C : Fin 1024)
    (hR : R.val = t.val * 1024 + r) (hC : C.val = l) : iblk m c 0 t (ix2 r l) = A0 m c (ix2 R C) := by
  blk_point [iblk, V, idx t]

theorem blk1 (t : Fin cfg0.N) (r : Fin 1024) (l : Fin 1024) (R : Fin 1024) (C : Fin 1024)
    (hR : R.val = r) (hC : C.val = l) : iblk m c 1 t (ix2 r l) = A1 m c (ix2 R C) := by
  blk_point [iblk, V, idx t]

theorem blk2 (t : Fin cfg0.N) (r : Fin 1024) (l : Fin 1024) (R : Fin 8192) (C : Fin 1024)
    (hR : R.val = t.val * 1024 + r) (hC : C.val = l) : iblk m c 2 t (ix2 r l) = A2 m c (ix2 R C) := by
  blk_point [iblk, V, idx t]

theorem final : (dats m 0 c).arrAt 3 (cfgs 0).N = res (A0 m c) (A1 m c) (A2 m c) := by
  refine (dats m 0 c).arrAt_eq_of_covers 3 _ (by decide +kernel) fun t hf y => ?_
  blk_simp
  have ht : t.val < 8 := t.isLt
  rw [after0_3]
  frame_out
  rw [blk_at]
  have hy0 : (y 0).val < 1024 := (y 0).isLt
  have hy1 : (y 1).val < 1024 := (y 1).isLt
  have e0 : (((win0_3.blk t).view.emb y) 0).val = t.val * 1024 + (y 0).val := by blk_simp [idx t]
  have e1 : (((win0_3.blk t).view.emb y) 1).val = (y 1).val := by blk_simp [idx t]
  generalize (win0_3.blk t).view.emb y = i at e0 e1
  refine congrArg₂ (· + ·) ((congrArg (iblk m c 2 t) (eq_ix2 y)).trans ((blk2 m c t (y 0) (y 1) (i 0) (i 1) (by omega) (by omega)).trans
    (congrArg (A2 m c) (eq_ix2 i).symm))) ?_
  exact congrArg (fun f : Fin 1024 → EReal => ∑ k, f k) (funext fun k =>
    congrArg₂ (· * ·) (blk0 m c t (y 0) k (i 0) k (by omega) (by omega)) (blk1 m c t k (y 1) k (i 1) (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end kernel

section reference
open Cert.OutFwdSpecIdeal Cert.OutFwdSpecIdeal.Gen

/-- The reference's result is the same. -/
theorem ref_eq (X0 : Vec Ideal S8192x1024 .bf16) (X1 : Vec Ideal S1024x1024 .bf16) (X2 : Vec Ideal S8192x1024 .f32) :
    (addf X2 (Host.dotGeneral dot_S8192x1024_S1024x1024_S8192x1024_1_0_0_1_n_n none (extf .f32 X0 bitsLt_bf16_f32) (extf .f32 X1 bitsLt_bf16_f32)) : FVec Ideal S8192x1024 .f32) = res X0 X1 X2 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
        ∧ r.2.sem = fun _ => 0 :=
  (θ_run defs _ _).mono (fun r h => ⟨fun c => (h c).2, sem_eq_zero_of_no_sems (by decide) r.2⟩)
    (Cert.OutFwdSpecIdeal.Value.run m g)

end reference

/-- Over the extended reals the kernel's result is the reference's. -/
theorem algebraic : Cert.algebraic_OutFwdIdeal_OutFwdSpecIdeal := by
  pair_intro
  · run_from run m g
  · run_from Cert.OutFwdSpecIdeal.Value.run m' g'
    exact ref_eq _ _ _

end Cert.OutFwdProof

end
-- ==== Proof.Prod.KvFwd.lean ====
/- The shared keys and values: the normed residual stream times their matrix. -/
module

public import proofs.«01_k».proof.Proof.Gen.KvFwdIdeal.Frame
public import proofs.«01_k».proof.Proof.Gen.KvFwdSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.KvFwdProof

open Idealize.ShloMosaic Idealize.ShloMosaic.TcCoe Idealize.SL.Sem

/-- What the call computes, as sums over the whole contracted axis. -/
def res (X0 : Vec Ideal KvFwdIdeal.S8192x1024 .bf16) (X1 : Vec Ideal KvFwdIdeal.S1024x1536 .bf16) :
    Vec Ideal KvFwdIdeal.S8192x1536 .f32 := fun i => ∑ k : Fin 1024,
      X0 (ix2 (i 0) k) * X1 (ix2 k (i 1))

section kernel
open Cert.KvFwdIdeal Cert.KvFwdIdeal.Gen

/-- The block a grid point stores. -/
theorem blk_at (x0 : Vec Ideal S1024x1024 .bf16) (x1 : Vec Ideal S1024x1536 .bf16) (j : S1024x1536.Idx) :
    k0_pay1 x0 x1 j = ∑ k : Fin 1024, x0 (ix2 (j 0) k) * x1 (ix2 k (j 1)) := by
  pointwise [k0_pay1]

variable (m : (ℓ : Loc nD τ sig) → Buf (Elt Ideal) ℓ) (c : Dev nD)

abbrev A0 : Vec Ideal S8192x1024 .bf16 := m ((c : Thread nD τ).loc main_arg0)
abbrev A1 : Vec Ideal S1024x1536 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 1024) (R : Fin 8192) (C : Fin 1024)
    (hR : R.val = t.val * 1024 + r) (hC : C.val = l) : iblk m c 0 t (ix2 r l) = A0 m c (ix2 R C) := by
  blk_point [iblk, V, idx t]

theorem blk1 (t : Fin cfg0.N) (r : Fin 1024) (l : Fin 1536) (R : Fin 1024) (C : Fin 1536)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 1536 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t k (y 1) k (i 1) (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.KvFwdSpecIdeal Cert.KvFwdSpecIdeal.Gen

/-- The reference's result is the same. -/
theorem ref_eq (X0 : Vec Ideal S8192x1024 .bf16) (X1 : Vec Ideal S1024x1536 .bf16) :
    (Host.dotGeneral dot_S8192x1024_S1024x1536_S8192x1536_1_0_0_1_n_n none (extf .f32 X0 bitsLt_bf16_f32) (extf .f32 X1 bitsLt_bf16_f32) : FVec Ideal S8192x1536 .f32) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.KvFwdSpecIdeal.Value.run m g)

end reference

/-- Over the extended reals the kernel's result is the reference's. -/
theorem algebraic : Cert.algebraic_KvFwdIdeal_KvFwdSpecIdeal := by
  pair_intro
  · run_from run m g
  · run_from Cert.KvFwdSpecIdeal.Value.run m' g'
    exact ref_eq _ _

end Cert.KvFwdProof

end
-- ==== Proof.Prod.BIn.lean ====
/- The second layer's input projection: the normed residual stream times its matrix. -/
module

public import proofs.«01_k».proof.Proof.Gen.BInIdeal.Frame
public import proofs.«01_k».proof.Proof.Gen.BInSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.BInProof

open Idealize.ShloMosaic Idealize.ShloMosaic.TcCoe Idealize.SL.Sem

/-- What the call computes, as sums over the whole contracted axis. -/
def res (X0 : Vec Ideal BInIdeal.S8192x1024 .bf16) (X1 : Vec Ideal BInIdeal.S1024x1024 .bf16) :
    Vec Ideal BInIdeal.S8192x1024 .f32 := fun i => ∑ k : Fin 1024,
      X0 (ix2 (i 0) k) * X1 (ix2 k (i 1))

section kernel
open Cert.BInIdeal Cert.BInIdeal.Gen

/-- The block a grid point stores. -/
theorem blk_at (x0 : Vec Ideal S1024x1024 .bf16) (x1 : Vec Ideal S1024x1024 .bf16) (j : S1024x1024.Idx) :
    k0_pay1 x0 x1 j = ∑ k : Fin 1024, x0 (ix2 (j 0) k) * x1 (ix2 k (j 1)) := by
  pointwise [k0_pay1]

variable (m : (ℓ : Loc nD τ sig) → Buf (Elt Ideal) ℓ) (c : Dev nD)

abbrev A0 : Vec Ideal S8192x1024 .bf16 := m ((c : Thread nD τ).loc main_arg0)
abbrev A1 : Vec Ideal S1024x1024 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 1024) (R : Fin 8192) (C : Fin 1024)
    (hR : R.val = t.val * 1024 + r) (hC : C.val = l) : iblk m c 0 t (ix2 r l) = A0 m c (ix2 R C) := by
  blk_point [iblk, V, idx t]

theorem blk1 (t : Fin cfg0.N) (r : Fin 1024) (l : Fin 1024) (R : Fin 1024) (C : Fin 1024)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 1024 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t k (y 1) k (i 1) (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.BInSpecIdeal Cert.BInSpecIdeal.Gen

/-- The reference's result is the same. -/
theorem ref_eq (X0 : Vec Ideal S8192x1024 .bf16) (X1 : Vec Ideal S1024x1024 .bf16) :
    (Host.dotGeneral dot_S8192x1024_S1024x1024_S8192x1024_1_0_0_1_n_n none (extf .f32 X0 bitsLt_bf16_f32) (extf .f32 X1 bitsLt_bf16_f32) : FVec Ideal S8192x1024 .f32) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.BInSpecIdeal.Value.run m g)

end reference

/-- Over the extended reals the kernel's result is the reference's. -/
theorem algebraic : Cert.algebraic_BInIdeal_BInSpecIdeal := by
  pair_intro
  · run_from run m g
  · run_from Cert.BInSpecIdeal.Value.run m' g'
    exact ref_eq _ _

end Cert.BInProof

end
-- ==== Proof.Prod.DownDx.lean ====
/- The gradient of the feed-forward part's hidden values: the incoming gradient times the second matrix's transpose. -/
module

public import proofs.«01_k».proof.Proof.Gen.DownDxIdeal.Frame
public import proofs.«01_k».proof.Proof.Gen.DownDxSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.DownDxProof

open Idealize.ShloMosaic Idealize.ShloMosaic.TcCoe Idealize.SL.Sem

/-- What the call computes, as sums over the whole contracted axis. -/
def res (X0 : Vec Ideal DownDxIdeal.S8192x1024 .bf16) (X1 : Vec Ideal DownDxIdeal.S2816x1024 .bf16) :
    Vec Ideal DownDxIdeal.S8192x2816 .bf16 := fun i => ∑ k : Fin 1024,
      X0 (ix2 (i 0) k) * X1 (ix2 (i 1) k)

section kernel
open Cert.DownDxIdeal Cert.DownDxIdeal.Gen

/-- The block a grid point stores. -/
theorem blk_at (x0 : Vec Ideal S1024x1024 .bf16) (x1 : Vec Ideal S2816x1024 .bf16) (j : S1024x2816.Idx) :
    k0_pay1 x0 x1 j = ∑ k : Fin 1024, x0 (ix2 (j 0) k) * x1 (ix2 (j 1) k) := by
  pointwise [k0_pay1]

variable (m : (ℓ : Loc nD τ sig) → Buf (Elt Ideal) ℓ) (c : Dev nD)

abbrev A0 : Vec Ideal S8192x1024 .bf16 := m ((c : Thread nD τ).loc main_arg0)
abbrev A1 : Vec Ideal S2816x1024 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 1024) (R : Fin 8192) (C : Fin 1024)
    (hR : R.val = t.val * 1024 + r) (hC : C.val = l) : iblk m c 0 t (ix2 r l) = A0 m c (ix2 R C) := by
  blk_point [iblk, V, idx t]

theorem blk1 (t : Fin cfg0.N) (r : Fin 2816) (l : Fin 1024) (R : Fin 2816) (C : Fin 1024)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 2816 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t (y 1) k (i 1) k (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.DownDxSpecIdeal Cert.DownDxSpecIdeal.Gen

/-- The reference's result is the same. -/
theorem ref_eq (X0 : Vec Ideal S8192x1024 .bf16) (X1 : Vec Ideal S2816x1024 .bf16) :
    (truncf .bf16 (Host.dotGeneral dot_S8192x1024_S2816x1024_S8192x2816_1_1_0_0_n_n none (extf .f32 X0 bitsLt_bf16_f32) (extf .f32 X1 bitsLt_bf16_f32)) bitsLt_bf16_f32 : FVec Ideal S8192x2816 .bf16) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.DownDxSpecIdeal.Value.run m g)

end reference

/-- Over the extended reals the kernel's result is the reference's. -/
theorem algebraic : Cert.algebraic_DownDxIdeal_DownDxSpecIdeal := by
  pair_intro
  · run_from run m g
  · run_from Cert.DownDxSpecIdeal.Value.run m' g'
    exact ref_eq _ _

end Cert.DownDxProof

end
-- ==== Proof.Prod.DownDw.lean ====
/- The gradient of the feed-forward part's second matrix: the hidden values' transpose times the incoming gradient. -/
module

public import proofs.«01_k».proof.Proof.Gen.DownDwIdeal.Frame
public import proofs.«01_k».proof.Proof.Gen.DownDwSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.DownDwProof

open Idealize.ShloMosaic Idealize.ShloMosaic.TcCoe Idealize.SL.Sem

/-- What the call computes, as sums over the whole contracted axis. -/
def res (X0 : Vec Ideal DownDwIdeal.S8192x2816 .bf16) (X1 : Vec Ideal DownDwIdeal.S8192x1024 .bf16) :
    Vec Ideal DownDwIdeal.S2816x1024 .bf16 := fun i => ∑ k : Fin 8192,
      X0 (ix2 k (i 0)) * X1 (ix2 k (i 1))

section kernel
open Cert.DownDwIdeal Cert.DownDwIdeal.Gen

/-- The product of the blocks at a grid point. -/
theorem blk_at (x0 : Vec Ideal S2048x1408 .bf16) (x1 : Vec Ideal S2048x1024 .bf16) (j : S1408x1024.Idx) :
    k0_pay1 x0 x1 j = ∑ k : Fin 2048, x0 (ix2 k (j 0)) * x1 (ix2 k (j 1)) := by
  pointwise [k0_pay1]

/-- The first point of a block stores the product, -/
theorem set_at (x0 : Vec Ideal S2048x1408 .bf16) (x1 : Vec Ideal S2048x1024 .bf16) (j : S1408x1024.Idx) :
    k0_pay2 x0 x1 j = ∑ k : Fin 2048, x0 (ix2 k (j 0)) * x1 (ix2 k (j 1)) := by
  pointwise [k0_pay2, blk_at]

/-- the later ones add it. -/
theorem add_at (x0 : Vec Ideal S2048x1408 .bf16) (x1 : Vec Ideal S2048x1024 .bf16) (acc : Vec Ideal S1408x1024 .f32) (j : S1408x1024.Idx) :
    k0_pay3 x0 x1 acc j = acc j + ∑ k : Fin 2048, x0 (ix2 k (j 0)) * x1 (ix2 k (j 1)) := by
  pointwise [k0_pay3, blk_at]

theorem out_at (acc : Vec Ideal S1408x1024 .f32) (j : S1408x1024.Idx) : k0_pay4 acc j = acc j := by
  pointwise [k0_pay4]

variable (m : (ℓ : Loc nD τ sig) → Buf (Elt Ideal) ℓ) (c : Dev nD)

abbrev A0 : Vec Ideal S8192x2816 .bf16 := m ((c : Thread nD τ).loc main_arg0)
abbrev A1 : Vec Ideal S8192x1024 .bf16 := m ((c : Thread nD τ).loc main_arg1)

theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

theorem blk0 (t : Fin cfg0.N) (r : Fin 2048) (l : Fin 1408) (R : Fin 8192) (C : Fin 2816)
    (hR : R.val = t.val % 4 * 2048 + r) (hC : C.val = t.val / 4 * 1408 + l) : iblk m c 0 t (ix2 r l) = A0 m c (ix2 R C) := by
  blk_point [iblk, V, idx t]

theorem blk1 (t : Fin cfg0.N) (r : Fin 2048) (l : Fin 1024) (R : Fin 8192) (C : Fin 1024)
    (hR : R.val = t.val % 4 * 2048 + r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  have hl := (flush0_2 t).mp hf
  have key : (outsAt0 m c t.val t.isLt).1 y = (outsAt0 m c t.val t.isLt).2 y := by
    rw [outsAt0_C m c t (by omega) (by omega) hl]; frame_out; rw [out_at]
  rw [after0_2, key, Pipeline.eq_sum_fin_of_reset_step_apply_of_flush (fun n h => (outsAt0 m c n h).2) 4 (fun _ => 0) _
    (fun t h j => by rw [outsAt0_A m c t h (by omega) (by omega)]; frame_out; rw [set_at, zero_add])
    (fun t h j => by
      by_cases h2 : t.val % 4 = 3
      · rw [outsAt0_C m c t h (by omega) h2]; frame_out; rw [add_at, read_unread_whole]
      · rw [outsAt0_B m c t h (by omega) h2]; frame_out; rw [add_at, read_unread_whole])
    t hl _, zero_add]
  have hy0 : (y 0).val < 1408 := (y 0).isLt
  have hy1 : (y 1).val < 1024 := (y 1).isLt
  have e0 : (((win0_2.blk t).view.emb y) 0).val = t.val / 4 * 1408 + (y 0).val := by blk_simp [idx t]
  have e1 : (((win0_2.blk t).view.emb y) 1).val = (y 1).val := by blk_simp [idx t]
  generalize (win0_2.blk t).view.emb y = i at e0 e1
  refine Fin.sum_mul_add_congr fun s r hl => ?_
  have hs : s.val < 4 := s.isLt
  have hp : 4 * (t.val / 4) + s.val < cfg0.N := lt_of_lt_of_eq (show _ < 8 by omega) N_0.symm
  exact congrArg₂ (· * ·) (blk0 m c ⟨4 * (t.val / 4) + s.val, hp⟩ r (y 0) ⟨s.val * 2048 + r.val, hl⟩ (i 0) (by first | omega | (dsimp only; omega)) (by first | omega | (dsimp only; omega)))
    (blk1 m c ⟨4 * (t.val / 4) + s.val, hp⟩ r (y 1) ⟨s.val * 2048 + r.val, hl⟩ (i 1) (by first | omega | (dsimp only; omega)) (by first | omega | (dsimp only; omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.DownDwSpecIdeal Cert.DownDwSpecIdeal.Gen

/-- The reference's result is the same. -/
theorem ref_eq (X0 : Vec Ideal S8192x2816 .bf16) (X1 : Vec Ideal S8192x1024 .bf16) :
    (truncf .bf16 (transpose S2816x1024 [1, 0] (Host.dotGeneral dot_S8192x1024_S8192x2816_S1024x2816_0_0_1_1_n_n none (extf .f32 X1 bitsLt_bf16_f32) (extf .f32 X0 bitsLt_bf16_f32)) transposes_S1024x2816_S2816x1024_1_0) bitsLt_bf16_f32 : FVec Ideal S2816x1024 .bf16) = res X0 X1 := by
  funext i
  pointwise [res]
  exact Finset.sum_congr rfl fun k _ => mul_comm _ _

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.DownDwSpecIdeal.Value.run m g)

end reference

/-- Over the extended reals the kernel's result is the reference's. -/
theorem algebraic : Cert.algebraic_DownDwIdeal_DownDwSpecIdeal := by
  pair_intro
  · run_from run m g
  · run_from Cert.DownDwSpecIdeal.Value.run m' g'
    exact ref_eq _ _

end Cert.DownDwProof

end
-- ==== Proof.Prod.UpDx.lean ====
/- The gradient of the feed-forward part's normed input: the gradients of the two halves times the first matrix's transpose. -/
module

public import proofs.«01_k».proof.Proof.Gen.UpDxIdeal.Frame
public import proofs.«01_k».proof.Proof.Gen.UpDxSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.UpDxProof

open Idealize.ShloMosaic Idealize.ShloMosaic.TcCoe Idealize.SL.Sem

/-- What the call computes, as sums over the whole contracted axis. -/
def res (X0 : Vec Ideal UpDxIdeal.S8192x2816 .bf16) (X1 : Vec Ideal UpDxIdeal.S8192x2816 .bf16) (X2 : Vec Ideal UpDxIdeal.S1024x5632 .bf16) :
    Vec Ideal UpDxIdeal.S8192x1024 .f32 := fun i => ∑ k : Fin 5632,
      (if h : k.val < 2816 then X0 (ix2 (i 0) ⟨k.val, h⟩) else X1 (ix2 (i 0) ⟨k.val - 2816, by omega⟩)) * X2 (ix2 (i 1) k)

section kernel
open Cert.UpDxIdeal Cert.UpDxIdeal.Gen

/-- The product of the blocks at a grid point. -/
theorem blk_at (i : grid0.Coords) (x0 : Vec Ideal S1024x2816 .bf16) (x1 : Vec Ideal S512x2816 .bf16) (x2 : Vec Ideal S1024x2816 .bf16) (j : S1024x512.Idx) :
    k0_pay1 i x0 x1 x2 j = ∑ k : Fin 2816, Scalar.select (Scalar.cmpi .slt (BitVec.ofNat 32 (i 2).val) 1#32) x0 x2 (ix2 (j 0) k) * x1 (ix2 (j 1) k) := by
  pointwise [k0_pay1]

/-- The first point of a block stores the product, -/
theorem set_at (i : grid0.Coords) (x0 : Vec Ideal S1024x2816 .bf16) (x1 : Vec Ideal S512x2816 .bf16) (x2 : Vec Ideal S1024x2816 .bf16) (j : S1024x512.Idx) :
    k0_pay2 i x0 x1 x2 j = ∑ k : Fin 2816, Scalar.select (Scalar.cmpi .slt (BitVec.ofNat 32 (i 2).val) 1#32) x0 x2 (ix2 (j 0) k) * x1 (ix2 (j 1) k) := by
  pointwise [k0_pay2, blk_at]

/-- the later ones add it. -/
theorem add_at (i : grid0.Coords) (x0 : Vec Ideal S1024x2816 .bf16) (x1 : Vec Ideal S512x2816 .bf16) (x2 : Vec Ideal S1024x2816 .bf16) (acc : Vec Ideal S1024x512 .f32) (j : S1024x512.Idx) :
    k0_pay3 i x0 x1 x2 acc j = acc j + ∑ k : Fin 2816, Scalar.select (Scalar.cmpi .slt (BitVec.ofNat 32 (i 2).val) 1#32) x0 x2 (ix2 (j 0) k) * x1 (ix2 (j 1) k) := by
  pointwise [k0_pay3, blk_at]

variable (m : (ℓ : Loc nD τ sig) → Buf (Elt Ideal) ℓ) (c : Dev nD)

abbrev A0 : Vec Ideal S8192x2816 .bf16 := m ((c : Thread nD τ).loc main_arg0)
abbrev A1 : Vec Ideal S8192x2816 .bf16 := m ((c : Thread nD τ).loc main_arg1)
abbrev A2 : Vec Ideal S1024x5632 .bf16 := m ((c : Thread nD τ).loc main_arg2)

theorem idx : ∀ t : Fin cfg0.N, win0_0.index t = ![t.val / 4, 0]
    ∧ win0_1.index t = ![t.val / 2 % 2, t.val % 2]
    ∧ win0_2.index t = ![t.val / 4, 0]
    ∧ win0_3.index t = ![t.val / 4, t.val / 2 % 2]
    ∧ Scalar.cmpi .slt (BitVec.ofNat 32 (grid0.coords t 2).val) 1#32 = if t.val % 2 < 1 then 1#1 else 0#1 :=
  (by decide +kernel : ∀ t : Fin grid0.N, _)

theorem blk0 (t : Fin cfg0.N) (r : Fin 1024) (l : Fin 2816) (R : Fin 8192) (C : Fin 2816)
    (hR : R.val = t.val / 4 * 1024 + r) (hC : C.val = l) : iblk m c 0 t (ix2 r l) = A0 m c (ix2 R C) := by
  blk_point [iblk, V, idx t]

theorem blk1 (t : Fin cfg0.N) (r : Fin 512) (l : Fin 2816) (R : Fin 1024) (C : Fin 5632)
    (hR : R.val = t.val / 2 % 2 * 512 + r) (hC : C.val = t.val % 2 * 2816 + l) : iblk m c 1 t (ix2 r l) = A2 m c (ix2 R C) := by
  blk_point [iblk, V, idx t]

theorem blk2 (t : Fin cfg0.N) (r : Fin 1024) (l : Fin 2816) (R : Fin 8192) (C : Fin 2816)
    (hR : R.val = t.val / 4 * 1024 + r) (hC : C.val = l) : iblk m c 2 t (ix2 r l) = A1 m c (ix2 R C) := by
  blk_point [iblk, V, idx t]

theorem final : (dats m 0 c).arrAt 3 (cfgs 0).N = res (A0 m c) (A1 m c) (A2 m c) := by
  refine (dats m 0 c).arrAt_eq_of_covers 3 _ (by decide +kernel) fun t hf y => ?_
  blk_simp
  have ht : t.val < 32 := t.isLt
  have hl := (flush0_3 t).mp hf
  have key : (outsAt0 m c t.val t.isLt).1 y = (outsAt0 m c t.val t.isLt).2 y := by
    rw [outsAt0_B m c t (by omega) hl hl]; frame_out
  rw [after0_3, key, Pipeline.eq_sum_fin_of_reset_step_apply_of_flush (fun n h => (outsAt0 m c n h).2) 2 (fun _ => 0) _
    (fun t h j => by rw [outsAt0_A m c t h (by omega) (by omega)]; frame_out; rw [set_at, zero_add])
    (fun t h j => by rw [outsAt0_B m c t h (by omega) (by omega)]; frame_out; rw [add_at, read_unread_whole])
    t hl _, zero_add]
  have hy0 : (y 0).val < 1024 := (y 0).isLt
  have hy1 : (y 1).val < 512 := (y 1).isLt
  have e0 : (((win0_3.blk t).view.emb y) 0).val = t.val / 4 * 1024 + (y 0).val := by blk_simp [idx t]
  have e1 : (((win0_3.blk t).view.emb y) 1).val = t.val / 2 % 2 * 512 + (y 1).val := by blk_simp [idx t]
  generalize (win0_3.blk t).view.emb y = i at e0 e1
  refine Fin.sum_mul_add_congr fun s r hl => ?_
  have hs : s.val < 2 := s.isLt
  have hp : 2 * (t.val / 2) + s.val < cfg0.N := lt_of_lt_of_eq (show _ < 32 by omega) N_0.symm
  refine congrArg₂ (· * ·) ?_ (blk1 m c ⟨2 * (t.val / 2) + s.val, hp⟩ (y 1) r (i 1) ⟨s.val * 2816 + r.val, hl⟩ (by first | omega | (dsimp only; omega)) (by first | omega | (dsimp only; omega)))
  rw [(idx _).2.2.2.2]
  dsimp only
  by_cases h : s.val < 1
  · rw [if_pos (by omega), dif_pos (by omega)]
    exact blk0 m c ⟨2 * (t.val / 2) + s.val, hp⟩ (y 0) r (i 0) ⟨s.val * 2816 + r.val, by omega⟩ (by first | omega | (dsimp only; omega)) (by first | omega | (dsimp only; omega))
  · rw [if_neg (by omega), dif_neg (by omega)]
    exact blk2 m c ⟨2 * (t.val / 2) + s.val, hp⟩ (y 0) r (i 0) ⟨s.val * 2816 + r.val - 2816, by omega⟩ (by first | omega | (dsimp only; omega)) (by first | omega | (dsimp only; omega))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end kernel

section reference
open Cert.UpDxSpecIdeal Cert.UpDxSpecIdeal.Gen

/-- The reference's result is the same. -/
theorem ref_eq (X0 : Vec Ideal S8192x2816 .bf16) (X1 : Vec Ideal S8192x2816 .bf16) (X2 : Vec Ideal S1024x5632 .bf16) :
    (Host.dotGeneral dot_S8192x5632_S1024x5632_S8192x1024_1_1_0_0_n_n none (extf .f32 (concatenate S8192x5632 1 [⟨S8192x2816, X0⟩, ⟨S8192x2816, X1⟩] concatenates_S8192x2816_S8192x2816_S8192x5632_d1) bitsLt_bf16_f32) (extf .f32 X2 bitsLt_bf16_f32) : FVec Ideal S8192x1024 .f32) = res X0 X1 X2 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
        ∧ r.2.sem = fun _ => 0 :=
  (θ_run defs _ _).mono (fun r h => ⟨fun c => (h c).2, sem_eq_zero_of_no_sems (by decide) r.2⟩)
    (Cert.UpDxSpecIdeal.Value.run m g)

end reference

/-- Over the extended reals the kernel's result is the reference's. -/
theorem algebraic : Cert.algebraic_UpDxIdeal_UpDxSpecIdeal := by
  pair_intro
  · run_from run m g
  · run_from Cert.UpDxSpecIdeal.Value.run m' g'
    try rw [(hagree c).1]
    try rw [(hagree c).2.1]
    try rw [(hagree c).2.2]
    exact ref_eq _ _ _

end Cert.UpDxProof

end
-- ==== Proof.Prod.UpDw.lean ====
/- The gradient of the feed-forward part's first matrix: the normed input's transpose times the gradients of the two halves, left as four column pieces. -/
module

public import proofs.«01_k».proof.Proof.Gen.UpDwIdeal.Frame
public import proofs.«01_k».proof.Proof.Gen.UpDwSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.UpDwProof

open Idealize.ShloMosaic Idealize.ShloMosaic.TcCoe Idealize.SL.Sem

/-- What the call computes, as sums over the whole contracted axis. -/
def res (X0 : Vec Ideal UpDwIdeal.S8192x1024 .bf16) (X1 : Vec Ideal UpDwIdeal.S8192x2816 .bf16) (X2 : Vec Ideal UpDwIdeal.S8192x2816 .bf16) :
    Vec Ideal UpDwIdeal.S4x1024x1408 .bf16 := fun i => ∑ k : Fin 8192,
      X0 (ix2 k (i 1)) * (if (i 0).val < 2 then X1 (ix2 k ⟨(i 0).val % 2 * 1408 + (i 2).val, by have := (i 2).isLt; dsimp at this; omega⟩) else X2 (ix2 k ⟨(i 0).val % 2 * 1408 + (i 2).val, by have := (i 2).isLt; dsimp at this; omega⟩))

section kernel
open Cert.UpDwIdeal Cert.UpDwIdeal.Gen

/-- The product of the blocks at a grid point. -/
theorem blk_at (i : grid0.Coords) (x0 : Vec Ideal S2048x512 .bf16) (x1 : Vec Ideal S2048x1408 .bf16) (x2 : Vec Ideal S2048x1408 .bf16) (j : S512x1408.Idx) :
    k0_pay1 i x0 x1 x2 j = ∑ k : Fin 2048, x0 (ix2 k (j 0)) * Scalar.select (Scalar.cmpi .slt (BitVec.ofNat 32 (i 1).val) 2#32) x1 x2 (ix2 k (j 1)) := by
  pointwise [k0_pay1]

/-- The first point of a block stores the product, -/
theorem set_at (i : grid0.Coords) (x0 : Vec Ideal S2048x512 .bf16) (x1 : Vec Ideal S2048x1408 .bf16) (x2 : Vec Ideal S2048x1408 .bf16) (j : S512x1408.Idx) :
    k0_pay2 i x0 x1 x2 j = ∑ k : Fin 2048, x0 (ix2 k (j 0)) * Scalar.select (Scalar.cmpi .slt (BitVec.ofNat 32 (i 1).val) 2#32) x1 x2 (ix2 k (j 1)) := by
  pointwise [k0_pay2, blk_at]

/-- the later ones add it. -/
theorem add_at (i : grid0.Coords) (x0 : Vec Ideal S2048x512 .bf16) (x1 : Vec Ideal S2048x1408 .bf16) (x2 : Vec Ideal S2048x1408 .bf16) (acc : Vec Ideal S512x1408 .f32) (j : S512x1408.Idx) :
    k0_pay3 i x0 x1 x2 acc j = acc j + ∑ k : Fin 2048, x0 (ix2 k (j 0)) * Scalar.select (Scalar.cmpi .slt (BitVec.ofNat 32 (i 1).val) 2#32) x1 x2 (ix2 k (j 1)) := by
  pointwise [k0_pay3, blk_at]

theorem out_at (acc : Vec Ideal S512x1408 .f32) (j : S1x512x1408.Idx) : k0_pay4 acc j = acc (ix2 (j 1) (j 2)) := by
  pointwise [k0_pay4]

variable (m : (ℓ : Loc nD τ sig) → Buf (Elt Ideal) ℓ) (c : Dev nD)

abbrev A0 : Vec Ideal S8192x1024 .bf16 := m ((c : Thread nD τ).loc main_arg0)
abbrev A1 : Vec Ideal S8192x2816 .bf16 := m ((c : Thread nD τ).loc main_arg1)
abbrev A2 : Vec Ideal S8192x2816 .bf16 := m ((c : Thread nD τ).loc main_arg2)

theorem idx : ∀ t : Fin cfg0.N, win0_0.index t = ![t.val % 4, t.val / 16]
    ∧ win0_1.index t = ![if t.val / 4 % 4 < 2 then t.val % 4 else 0, if t.val / 4 % 4 < 2 then t.val / 4 % 4 else 1]
    ∧ win0_2.index t = ![if t.val / 4 % 4 < 2 then 0 else t.val % 4, if t.val / 4 % 4 < 2 then 0 else t.val / 4 % 4 - 2]
    ∧ win0_3.index t = ![t.val / 4 % 4, t.val / 16, 0]
    ∧ Scalar.cmpi .slt (BitVec.ofNat 32 (grid0.coords t 1).val) 2#32 = if t.val / 4 % 4 < 2 then 1#1 else 0#1 :=
  (by decide +kernel : ∀ t : Fin grid0.N, _)

theorem blk0 (t : Fin cfg0.N) (r : Fin 2048) (l : Fin 512) (R : Fin 8192) (C : Fin 1024)
    (hR : R.val = t.val % 4 * 2048 + r) (hC : C.val = t.val / 16 * 512 + l) : iblk m c 0 t (ix2 r l) = A0 m c (ix2 R C) := by
  blk_point [iblk, V, idx t]

theorem blk1 (t : Fin cfg0.N) (h : t.val / 4 % 4 < 2) (r : Fin 2048) (l : Fin 1408) (R : Fin 8192) (C : Fin 2816)
    (hR : R.val = t.val % 4 * 2048 + r) (hC : C.val = t.val / 4 % 4 % 2 * 1408 + l) : iblk m c 1 t (ix2 r l) = A1 m c (ix2 R C) := by
  have e := (idx t).2.1
  rw [if_pos h, if_pos h] at e
  blk_point [iblk, V, e]

theorem blk2 (t : Fin cfg0.N) (h : ¬t.val / 4 % 4 < 2) (r : Fin 2048) (l : Fin 1408) (R : Fin 8192) (C : Fin 2816)
    (hR : R.val = t.val % 4 * 2048 + r) (hC : C.val = t.val / 4 % 4 % 2 * 1408 + l) : iblk m c 2 t (ix2 r l) = A2 m c (ix2 R C) := by
  have e := (idx t).2.2.1
  rw [if_neg h, if_neg h] at e
  blk_point [iblk, V, e]

theorem final : (dats m 0 c).arrAt 3 (cfgs 0).N = res (A0 m c) (A1 m c) (A2 m c) := by
  refine (dats m 0 c).arrAt_eq_of_covers 3 _ (by decide +kernel) fun t hf y => ?_
  blk_simp
  have ht : t.val < 32 := t.isLt
  have hl := (flush0_3 t).mp hf
  have key : (outsAt0 m c t.val t.isLt).1 y = (outsAt0 m c t.val t.isLt).2 (ix2 (y 1) (y 2)) := by
    rw [outsAt0_C m c t (by omega) (by omega) hl]; frame_out; rw [out_at]
  rw [after0_3, key, Pipeline.eq_sum_fin_of_reset_step_apply_of_flush (fun n h => (outsAt0 m c n h).2) 4 (fun _ => 0) _
    (fun t h j => by rw [outsAt0_A m c t h (by omega) (by omega)]; frame_out; rw [set_at, zero_add])
    (fun t h j => by
      by_cases h2 : t.val % 4 = 3
      · rw [outsAt0_C m c t h (by omega) h2]; frame_out; rw [add_at, read_unread_whole]
      · rw [outsAt0_B m c t h (by omega) h2]; frame_out; rw [add_at, read_unread_whole])
    t hl _, zero_add]
  have hy0 : (y 0).val < 1 := (y 0).isLt
  have hy1 : (y 1).val < 512 := (y 1).isLt
  have hy2 : (y 2).val < 1408 := (y 2).isLt
  have e0 : (((win0_3.blk t).view.emb y) 0).val = t.val / 4 % 4 + (y 0).val := by blk_simp [idx t]
  have e1 : (((win0_3.blk t).view.emb y) 1).val = t.val / 16 * 512 + (y 1).val := by blk_simp [idx t]
  have e2 : (((win0_3.blk t).view.emb y) 2).val = (y 2).val := by blk_simp [idx t]
  generalize (win0_3.blk t).view.emb y = i at e0 e1 e2
  refine Fin.sum_mul_add_congr fun s r hl => ?_
  have hs : s.val < 4 := s.isLt
  have hp : 4 * (t.val / 4) + s.val < cfg0.N := lt_of_lt_of_eq (show _ < 32 by omega) N_0.symm
  have hi2 : (i 2).val < 1408 := by omega
  refine congrArg₂ (· * ·) (blk0 m c ⟨4 * (t.val / 4) + s.val, hp⟩ r (y 1) ⟨s.val * 2048 + r.val, hl⟩ (i 1) (by dsimp only; omega) (by dsimp only; omega)) ?_
  rw [(idx _).2.2.2.2]
  dsimp only
  by_cases h : t.val / 4 % 4 < 2
  · rw [if_pos (by omega), if_pos (by omega)]
    exact blk1 m c ⟨4 * (t.val / 4) + s.val, hp⟩ (by dsimp only; omega) r (y 2) ⟨s.val * 2048 + r.val, hl⟩
      ⟨(i 0).val % 2 * 1408 + (i 2).val, by omega⟩ (by dsimp only; omega) (by dsimp only; omega)
  · rw [if_neg (by omega), if_neg (by omega)]
    exact blk2 m c ⟨4 * (t.val / 4) + s.val, hp⟩ (by dsimp only; omega) r (y 2) ⟨s.val * 2048 + r.val, hl⟩
      ⟨(i 0).val % 2 * 1408 + (i 2).val, by omega⟩ (by dsimp only; omega) (by dsimp only; omega)

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end kernel

section reference
open Cert.UpDwSpecIdeal Cert.UpDwSpecIdeal.Gen

/-- The reference's result is the same. -/
theorem ref_eq (X0 : Vec Ideal S8192x1024 .bf16) (X1 : Vec Ideal S8192x2816 .bf16) (X2 : Vec Ideal S8192x2816 .bf16) :
    (truncf .bf16 (transpose S4x1024x1408 [1, 0, 2] (shapeCast S1024x4x1408 (transpose S1024x5632 [1, 0] (Host.dotGeneral dot_S8192x5632_S8192x1024_S5632x1024_0_0_1_1_n_n none (extf .f32 (concatenate S8192x5632 1 [⟨S8192x2816, X1⟩, ⟨S8192x2816, X2⟩] concatenates_S8192x2816_S8192x2816_S8192x5632_d1) bitsLt_bf16_f32) (extf .f32 X0 bitsLt_bf16_f32)) transposes_S5632x1024_S1024x5632_1_0) shapeCasts_S1024x5632_S1024x4x1408) transposes_S1024x4x1408_S4x1024x1408_1_0_2) bitsLt_bf16_f32 : FVec Ideal S4x1024x1408 .bf16) = res X0 X1 X2 := by
  funext i
  pointwise [res]
  refine Finset.sum_congr rfl fun k _ => ?_
  rw [mul_comm]
  have h0 : (i 0).val < 4 := (i 0).isLt
  have h2 : (i 2).val < 1408 := (i 2).isLt
  refine congrArg _ ?_
  by_cases h : (i 0).val < 2
  · rw [dif_pos (by omega), if_pos h]
    congr 2; refine Fin.ext ?_; dsimp only; omega
  · rw [dif_neg (by omega), if_neg h]
    congr 2; refine Fin.ext ?_; dsimp only; omega

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
        ∧ r.2.sem = fun _ => 0 :=
  (θ_run defs _ _).mono (fun r h => ⟨fun c => (h c).2, sem_eq_zero_of_no_sems (by decide) r.2⟩)
    (Cert.UpDwSpecIdeal.Value.run m g)

end reference

/-- Over the extended reals the kernel's result is the reference's. -/
theorem algebraic : Cert.algebraic_UpDwIdeal_UpDwSpecIdeal := by
  pair_intro
  · run_from run m g
  · run_from Cert.UpDwSpecIdeal.Value.run m' g'
    try rw [(hagree c).1]
    try rw [(hagree c).2.1]
    try rw [(hagree c).2.2]
    exact ref_eq _ _ _

end Cert.UpDwProof

end
-- ==== Proof.Prod.OutDx.lean ====
/- The gradient of the heads' outputs: the incoming gradient times the output matrix's transpose. -/
module

public import proofs.«01_k».proof.Proof.Gen.OutDxIdeal.Frame
public import proofs.«01_k».proof.Proof.Gen.OutDxSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDxProof

open Idealize.ShloMosaic Idealize.ShloMosaic.TcCoe Idealize.SL.Sem

/-- What the call computes, as sums over the whole contracted axis. -/
def res (X0 : Vec Ideal OutDxIdeal.S8192x1024 .bf16) (X1 : Vec Ideal OutDxIdeal.S1024x1024 .bf16) :
    Vec Ideal OutDxIdeal.S8192x1024 .bf16 := fun i => ∑ k : Fin 1024,
      X0 (ix2 (i 0) k) * X1 (ix2 (i 1) k)

section kernel
open Cert.OutDxIdeal Cert.OutDxIdeal.Gen

/-- The block a grid point stores. -/
theorem blk_at (x0 : Vec Ideal S1024x1024 .bf16) (x1 : Vec Ideal S1024x1024 .bf16) (j : S1024x1024.Idx) :
    k0_pay1 x0 x1 j = ∑ k : Fin 1024, x0 (ix2 (j 0) k) * x1 (ix2 (j 1) k) := by
  pointwise [k0_pay1]

variable (m : (ℓ : Loc nD τ sig) → Buf (Elt Ideal) ℓ) (c : Dev nD)

abbrev A0 : Vec Ideal S8192x1024 .bf16 := m ((c : Thread nD τ).loc main_arg0)
abbrev A1 : Vec Ideal S1024x1024 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 1024) (R : Fin 8192) (C : Fin 1024)
    (hR : R.val = t.val * 1024 + r) (hC : C.val = l) : iblk m c 0 t (ix2 r l) = A0 m c (ix2 R C) := by
  blk_point [iblk, V, idx t]

theorem blk1 (t : Fin cfg0.N) (r : Fin 1024) (l : Fin 1024) (R : Fin 1024) (C : Fin 1024)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 1024 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t (y 1) k (i 1) k (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.OutDxSpecIdeal Cert.OutDxSpecIdeal.Gen

/-- The reference's result is the same. -/
theorem ref_eq (X0 : Vec Ideal S8192x1024 .bf16) (X1 : Vec Ideal S1024x1024 .bf16) :
    (truncf .bf16 (Host.dotGeneral dot_S8192x1024_S1024x1024_S8192x1024_1_1_0_0_n_n none (extf .f32 X0 bitsLt_bf16_f32) (extf .f32 X1 bitsLt_bf16_f32)) bitsLt_bf16_f32 : FVec Ideal S8192x1024 .bf16) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.OutDxSpecIdeal.Value.run m g)

end reference

/-- Over the extended reals the kernel's result is the reference's. -/
theorem algebraic : Cert.algebraic_OutDxIdeal_OutDxSpecIdeal := by
  pair_intro
  · run_from run m g
  · run_from Cert.OutDxSpecIdeal.Value.run m' g'
    exact ref_eq _ _

end Cert.OutDxProof

end
-- ==== Proof.Prod.OutDw.lean ====
/- The gradient of an output matrix: the heads' outputs' transpose times the incoming gradient. -/
module

public import proofs.«01_k».proof.Proof.Gen.OutDwIdeal.Frame
public import proofs.«01_k».proof.Proof.Gen.OutDwSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDwProof

open Idealize.ShloMosaic Idealize.ShloMosaic.TcCoe Idealize.SL.Sem

/-- What the call computes, as sums over the whole contracted axis. -/
def res (X0 : Vec Ideal OutDwIdeal.S8192x1024 .bf16) (X1 : Vec Ideal OutDwIdeal.S8192x1024 .bf16) :
    Vec Ideal OutDwIdeal.S1024x1024 .bf16 := fun i => ∑ k : Fin 8192,
      X0 (ix2 k (i 0)) * X1 (ix2 k (i 1))

section kernel
open Cert.OutDwIdeal Cert.OutDwIdeal.Gen

/-- The product of the blocks at a grid point. -/
theorem blk_at (x0 : Vec Ideal S2048x1024 .bf16) (x1 : Vec Ideal S2048x1024 .bf16) (j : S1024x1024.Idx) :
    k0_pay1 x0 x1 j = ∑ k : Fin 2048, x0 (ix2 k (j 0)) * x1 (ix2 k (j 1)) := by
  pointwise [k0_pay1]

/-- The first point of a block stores the product, -/
theorem set_at (x0 : Vec Ideal S2048x1024 .bf16) (x1 : Vec Ideal S2048x1024 .bf16) (j : S1024x1024.Idx) :
    k0_pay2 x0 x1 j = ∑ k : Fin 2048, x0 (ix2 k (j 0)) * x1 (ix2 k (j 1)) := by
  pointwise [k0_pay2, blk_at]

/-- the later ones add it. -/
theorem add_at (x0 : Vec Ideal S2048x1024 .bf16) (x1 : Vec Ideal S2048x1024 .bf16) (acc : Vec Ideal S1024x1024 .f32) (j : S1024x1024.Idx) :
    k0_pay3 x0 x1 acc j = acc j + ∑ k : Fin 2048, x0 (ix2 k (j 0)) * x1 (ix2 k (j 1)) := by
  pointwise [k0_pay3, blk_at]

theorem out_at (acc : Vec Ideal S1024x1024 .f32) (j : S1024x1024.Idx) : k0_pay4 acc j = acc j := by
  pointwise [k0_pay4]

variable (m : (ℓ : Loc nD τ sig) → Buf (Elt Ideal) ℓ) (c : Dev nD)

abbrev A0 : Vec Ideal S8192x1024 .bf16 := m ((c : Thread nD τ).loc main_arg0)
abbrev A1 : Vec Ideal S8192x1024 .bf16 := m ((c : Thread nD τ).loc main_arg1)

theorem idx : ∀ t : Fin cfg0.N, win0_0.index t = ![t.val % 4, 0]
    ∧ win0_1.index t = ![t.val % 4, 0]
    ∧ win0_2.index t = ![0, 0] :=
  (by decide +kernel : ∀ t : Fin grid0.N, _)

theorem blk0 (t : Fin cfg0.N) (r : Fin 2048) (l : Fin 1024) (R : Fin 8192) (C : Fin 1024)
    (hR : R.val = t.val % 4 * 2048 + r) (hC : C.val = l) : iblk m c 0 t (ix2 r l) = A0 m c (ix2 R C) := by
  blk_point [iblk, V, idx t]

theorem blk1 (t : Fin cfg0.N) (r : Fin 2048) (l : Fin 1024) (R : Fin 8192) (C : Fin 1024)
    (hR : R.val = t.val % 4 * 2048 + r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 4 := t.isLt
  have hl := (flush0_2 t).mp hf
  have key : (outsAt0 m c t.val t.isLt).1 y = (outsAt0 m c t.val t.isLt).2 y := by
    rw [outsAt0_C m c t (by omega) (by omega) hl]; frame_out; rw [out_at]
  rw [after0_2, key, Pipeline.eq_sum_fin_of_reset_step_apply_of_flush (fun n h => (outsAt0 m c n h).2) 4 (fun _ => 0) _
    (fun t h j => by have := lt_of_lt_of_eq t.isLt N_0; rw [outsAt0_A m c t h (by omega) (by omega)]; frame_out; rw [set_at, zero_add])
    (fun t h j => by
      by_cases h2 : t.val % 4 = 3
      · rw [outsAt0_C m c t h (by omega) h2]; frame_out; rw [add_at, read_unread_whole]
      · rw [outsAt0_B m c t h (by omega) h2]; frame_out; rw [add_at, read_unread_whole])
    t hl _, zero_add]
  have hy0 : (y 0).val < 1024 := (y 0).isLt
  have hy1 : (y 1).val < 1024 := (y 1).isLt
  have e0 : (((win0_2.blk t).view.emb y) 0).val = (y 0).val := by blk_simp [idx t]
  have e1 : (((win0_2.blk t).view.emb y) 1).val = (y 1).val := by blk_simp [idx t]
  generalize (win0_2.blk t).view.emb y = i at e0 e1
  refine Fin.sum_mul_add_congr fun s r hl => ?_
  have hs : s.val < 4 := s.isLt
  have hp : 4 * (t.val / 4) + s.val < cfg0.N := lt_of_lt_of_eq (show _ < 4 by omega) N_0.symm
  exact congrArg₂ (· * ·) (blk0 m c ⟨4 * (t.val / 4) + s.val, hp⟩ r (y 0) ⟨s.val * 2048 + r.val, hl⟩ (i 0) (by first | omega | (dsimp only; omega)) (by first | omega | (dsimp only; omega)))
    (blk1 m c ⟨4 * (t.val / 4) + s.val, hp⟩ r (y 1) ⟨s.val * 2048 + r.val, hl⟩ (i 1) (by first | omega | (dsimp only; omega)) (by first | omega | (dsimp only; omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.OutDwSpecIdeal Cert.OutDwSpecIdeal.Gen

/-- The reference's result is the same. -/
theorem ref_eq (X0 : Vec Ideal S8192x1024 .bf16) (X1 : Vec Ideal S8192x1024 .bf16) :
    (truncf .bf16 (transpose S1024x1024 [1, 0] (Host.dotGeneral dot_S8192x1024_S8192x1024_S1024x1024_0_0_1_1_n_n none (extf .f32 X1 bitsLt_bf16_f32) (extf .f32 X0 bitsLt_bf16_f32)) transposes_S1024x1024_S1024x1024_1_0) bitsLt_bf16_f32 : FVec Ideal S1024x1024 .bf16) = res X0 X1 := by
  funext i
  pointwise [res]
  exact Finset.sum_congr rfl fun k _ => mul_comm _ _

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.OutDwSpecIdeal.Value.run m g)

end reference

/-- Over the extended reals the kernel's result is the reference's. -/
theorem algebraic : Cert.algebraic_OutDwIdeal_OutDwSpecIdeal := by
  pair_intro
  · run_from run m g
  · run_from Cert.OutDwSpecIdeal.Value.run m' g'
    exact ref_eq _ _

end Cert.OutDwProof

end
-- ==== Proof.Prod.BInDx.lean ====
/- The gradient of the second layer's normed input: the projection's gradient times the matrix's transpose. -/
module

public import proofs.«01_k».proof.Proof.Gen.BInDxIdeal.Frame
public import proofs.«01_k».proof.Proof.Gen.BInDxSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.BInDxProof

open Idealize.ShloMosaic Idealize.ShloMosaic.TcCoe Idealize.SL.Sem

/-- What the call computes, as sums over the whole contracted axis. -/
def res (X0 : Vec Ideal BInDxIdeal.S8192x1024 .bf16) (X1 : Vec Ideal BInDxIdeal.S1024x1024 .bf16) :
    Vec Ideal BInDxIdeal.S8192x1024 .f32 := fun i => ∑ k : Fin 1024,
      X0 (ix2 (i 0) k) * X1 (ix2 (i 1) k)

section kernel
open Cert.BInDxIdeal Cert.BInDxIdeal.Gen

/-- The block a grid point stores. -/
theorem blk_at (x0 : Vec Ideal S1024x1024 .bf16) (x1 : Vec Ideal S1024x1024 .bf16) (j : S1024x1024.Idx) :
    k0_pay1 x0 x1 j = ∑ k : Fin 1024, x0 (ix2 (j 0) k) * x1 (ix2 (j 1) k) := by
  pointwise [k0_pay1]

variable (m : (ℓ : Loc nD τ sig) → Buf (Elt Ideal) ℓ) (c : Dev nD)

abbrev A0 : Vec Ideal S8192x1024 .bf16 := m ((c : Thread nD τ).loc main_arg0)
abbrev A1 : Vec Ideal S1024x1024 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 1024) (R : Fin 8192) (C : Fin 1024)
    (hR : R.val = t.val * 1024 + r) (hC : C.val = l) : iblk m c 0 t (ix2 r l) = A0 m c (ix2 R C) := by
  blk_point [iblk, V, idx t]

theorem blk1 (t : Fin cfg0.N) (r : Fin 1024) (l : Fin 1024) (R : Fin 1024) (C : Fin 1024)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 1024 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t (y 0) k (i 0) k (by omega) (by omega)) (blk1 m c t (y 1) k (i 1) k (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.BInDxSpecIdeal Cert.BInDxSpecIdeal.Gen

/-- The reference's result is the same. -/
theorem ref_eq (X0 : Vec Ideal S8192x1024 .bf16) (X1 : Vec Ideal S1024x1024 .bf16) :
    (Host.dotGeneral dot_S8192x1024_S1024x1024_S8192x1024_1_1_0_0_n_n none (extf .f32 X0 bitsLt_bf16_f32) (extf .f32 X1 bitsLt_bf16_f32) : FVec Ideal S8192x1024 .f32) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.BInDxSpecIdeal.Value.run m g)

end reference

/-- Over the extended reals the kernel's result is the reference's. -/
theorem algebraic : Cert.algebraic_BInDxIdeal_BInDxSpecIdeal := by
  pair_intro
  · run_from run m g
  · run_from Cert.BInDxSpecIdeal.Value.run m' g'
    exact ref_eq _ _

end Cert.BInDxProof

end
-- ==== Proof.Prod.KvDx.lean ====
/- The gradient of the shared keys' and values' normed input. -/
module

public import proofs.«01_k».proof.Proof.Gen.KvDxIdeal.Frame
public import proofs.«01_k».proof.Proof.Gen.KvDxSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.KvDxProof

open Idealize.ShloMosaic Idealize.ShloMosaic.TcCoe Idealize.SL.Sem

/-- What the call computes, as sums over the whole contracted axis. -/
def res (X0 : Vec Ideal KvDxIdeal.S8192x1536 .bf16) (X1 : Vec Ideal KvDxIdeal.S1024x1536 .bf16) :
    Vec Ideal KvDxIdeal.S8192x1024 .f32 := fun i => ∑ k : Fin 1536,
      X0 (ix2 (i 0) k) * X1 (ix2 (i 1) k)

section kernel
open Cert.KvDxIdeal Cert.KvDxIdeal.Gen

/-- The block a grid point stores. -/
theorem blk_at (x0 : Vec Ideal S1024x1536 .bf16) (x1 : Vec Ideal S1024x1536 .bf16) (j : S1024x1024.Idx) :
    k0_pay1 x0 x1 j = ∑ k : Fin 1536, x0 (ix2 (j 0) k) * x1 (ix2 (j 1) k) := by
  pointwise [k0_pay1]

variable (m : (ℓ : Loc nD τ sig) → Buf (Elt Ideal) ℓ) (c : Dev nD)

abbrev A0 : Vec Ideal S8192x1536 .bf16 := m ((c : Thread nD τ).loc main_arg0)
abbrev A1 : Vec Ideal S1024x1536 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 1536) (R : Fin 8192) (C : Fin 1536)
    (hR : R.val = t.val * 1024 + r) (hC : C.val = l) : iblk m c 0 t (ix2 r l) = A0 m c (ix2 R C) := by
  blk_point [iblk, V, idx t]

theorem blk1 (t : Fin cfg0.N) (r : Fin 1024) (l : Fin 1536) (R : Fin 1024) (C : Fin 1536)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 1024 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 1536 → EReal => ∑ k, f k) (funext fun k =>
    congrArg₂ (· * ·) (blk0 m c t (y 0) k (i 0) k (by omega) (by omega)) (blk1 m c t (y 1) k (i 1) k (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.KvDxSpecIdeal Cert.KvDxSpecIdeal.Gen

/-- The reference's result is the same. -/
theorem ref_eq (X0 : Vec Ideal S8192x1536 .bf16) (X1 : Vec Ideal S1024x1536 .bf16) :
    (Host.dotGeneral dot_S8192x1536_S1024x1536_S8192x1024_1_1_0_0_n_n none (extf .f32 X0 bitsLt_bf16_f32) (extf .f32 X1 bitsLt_bf16_f32) : FVec Ideal S8192x1024 .f32) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.KvDxSpecIdeal.Value.run m g)

end reference

/-- Over the extended reals the kernel's result is the reference's. -/
theorem algebraic : Cert.algebraic_KvDxIdeal_KvDxSpecIdeal := by
  pair_intro
  · run_from run m g
  · run_from Cert.KvDxSpecIdeal.Value.run m' g'
    exact ref_eq _ _

end Cert.KvDxProof

end
-- ==== Proof.Prod.KvDw.lean ====
/- The gradient of the shared keys' and values' matrix, left as four column pieces. -/
module

public import proofs.«01_k».proof.Proof.Gen.KvDwIdeal.Frame
public import proofs.«01_k».proof.Proof.Gen.KvDwSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.KvDwProof

open Idealize.ShloMosaic Idealize.ShloMosaic.TcCoe Idealize.SL.Sem

/-- What the call computes, as sums over the whole contracted axis. -/
def res (X0 : Vec Ideal KvDwIdeal.S8192x1024 .bf16) (X1 : Vec Ideal KvDwIdeal.S8192x1536 .bf16) :
    Vec Ideal KvDwIdeal.S4x1024x384 .bf16 := fun i => ∑ k : Fin 8192,
      X0 (ix2 k (i 1)) * X1 (ix2 k ⟨(i 0).val * 384 + (i 2).val, by have := (i 0).isLt; have := (i 2).isLt; dsimp at *; omega⟩)

section kernel
open Cert.KvDwIdeal Cert.KvDwIdeal.Gen

/-- The product of the blocks at a grid point. -/
theorem blk_at (x0 : Vec Ideal S2048x1024 .bf16) (x1 : Vec Ideal S2048x1536 .bf16) (j : S1024x1536.Idx) :
    k0_pay1 x0 x1 j = ∑ k : Fin 2048, x0 (ix2 k (j 0)) * x1 (ix2 k (j 1)) := by
  pointwise [k0_pay1]

/-- The first point of a block stores the product, -/
theorem set_at (x0 : Vec Ideal S2048x1024 .bf16) (x1 : Vec Ideal S2048x1536 .bf16) (j : S1024x1536.Idx) :
    k0_pay2 x0 x1 j = ∑ k : Fin 2048, x0 (ix2 k (j 0)) * x1 (ix2 k (j 1)) := by
  pointwise [k0_pay2, blk_at]

/-- the later ones add it. -/
theorem add_at (x0 : Vec Ideal S2048x1024 .bf16) (x1 : Vec Ideal S2048x1536 .bf16) (acc : Vec Ideal S1024x1536 .f32) (j : S1024x1536.Idx) :
    k0_pay3 x0 x1 acc j = acc j + ∑ k : Fin 2048, x0 (ix2 k (j 0)) * x1 (ix2 k (j 1)) := by
  pointwise [k0_pay3, blk_at]

theorem out_at0 (acc : Vec Ideal S1024x1536 .f32) (j : S1x1024x384.Idx) :
    k0_pay4 acc j = acc (ix2 (j 1) ⟨0 + (j 2).val, by have := (j 2).isLt; dsimp at this; omega⟩) := by
  pointwise [k0_pay4]

theorem out_at1 (acc : Vec Ideal S1024x1536 .f32) (j : S1x1024x384.Idx) :
    k0_pay5 acc j = acc (ix2 (j 1) ⟨384 + (j 2).val, by have := (j 2).isLt; dsimp at this; omega⟩) := by
  pointwise [k0_pay5]

theorem out_at2 (acc : Vec Ideal S1024x1536 .f32) (j : S1x1024x384.Idx) :
    k0_pay6 acc j = acc (ix2 (j 1) ⟨768 + (j 2).val, by have := (j 2).isLt; dsimp at this; omega⟩) := by
  pointwise [k0_pay6]

theorem out_at3 (acc : Vec Ideal S1024x1536 .f32) (j : S1x1024x384.Idx) :
    k0_pay7 acc j = acc (ix2 (j 1) ⟨1152 + (j 2).val, by have := (j 2).isLt; dsimp at this; omega⟩) := by
  pointwise [k0_pay7]

variable (m : (ℓ : Loc nD τ sig) → Buf (Elt Ideal) ℓ) (c : Dev nD)

abbrev A0 : Vec Ideal S8192x1024 .bf16 := m ((c : Thread nD τ).loc main_arg0)
abbrev A1 : Vec Ideal S8192x1536 .bf16 := m ((c : Thread nD τ).loc main_arg1)

theorem idx : ∀ t : Fin cfg0.N, win0_0.index t = ![t.val % 4, 0]
    ∧ win0_1.index t = ![t.val % 4, 0]
    ∧ win0_2.index t = ![0, 0, 0] :=
  (by decide +kernel : ∀ t : Fin grid0.N, _)

theorem blk0 (t : Fin cfg0.N) (r : Fin 2048) (l : Fin 1024) (R : Fin 8192) (C : Fin 1024)
    (hR : R.val = t.val % 4 * 2048 + r) (hC : C.val = l) : iblk m c 0 t (ix2 r l) = A0 m c (ix2 R C) := by
  blk_point [iblk, V, idx t]

theorem blk1 (t : Fin cfg0.N) (r : Fin 2048) (l : Fin 1536) (R : Fin 8192) (C : Fin 1536)
    (hR : R.val = t.val % 4 * 2048 + r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 4 := t.isLt
  have hl := (flush0_2 t).mp hf
  have key : (outsAt0 m c t.val t.isLt).1 y = (outsAt0 m c t.val t.isLt).2 (ix2 (y 1) ⟨(y 0).val * 384 + (y 2).val, by have := (y 0).isLt; have := (y 2).isLt; dsimp at *; omega⟩) := by
    rw [outsAt0_C m c t (by omega) (by omega) hl]; frame_out
    generalize k0_pay3 (iblk m c 0 t) (iblk m c 1 t) _ = acc
    canon_tiles x h
    all_goals (first | rw [out_at0] | rw [out_at1] | rw [out_at2] | rw [out_at3]); blk_ext
  rw [after0_2, key, Pipeline.eq_sum_fin_of_reset_step_apply_of_flush (fun n h => (outsAt0 m c n h).2) 4 (fun _ => 0) _
    (fun t h j => by have := lt_of_lt_of_eq t.isLt N_0; rw [outsAt0_A m c t h (by omega) (by omega)]; frame_out; rw [set_at, zero_add])
    (fun t h j => by
      by_cases h2 : t.val % 4 = 3
      · rw [outsAt0_C m c t h (by omega) h2]; frame_out; rw [add_at, read_unread_whole]
      · rw [outsAt0_B m c t h (by omega) h2]; frame_out; rw [add_at, read_unread_whole])
    t hl _, zero_add]
  have hy0 : (y 0).val < 4 := (y 0).isLt
  have hy1 : (y 1).val < 1024 := (y 1).isLt
  have hy2 : (y 2).val < 384 := (y 2).isLt
  have e0 : (((win0_2.blk t).view.emb y) 0).val = (y 0).val := by blk_simp [idx t]
  have e1 : (((win0_2.blk t).view.emb y) 1).val = (y 1).val := by blk_simp [idx t]
  have e2 : (((win0_2.blk t).view.emb y) 2).val = (y 2).val := by blk_simp [idx t]
  generalize (win0_2.blk t).view.emb y = i at e0 e1 e2
  refine Fin.sum_mul_add_congr fun s r hl => ?_
  have hs : s.val < 4 := s.isLt
  have hp : 4 * (t.val / 4) + s.val < cfg0.N := lt_of_lt_of_eq (show _ < 4 by omega) N_0.symm
  have hi2 : (i 2).val < 384 := by omega
  have hi0 : (i 0).val < 4 := by omega
  exact congrArg₂ (· * ·) (blk0 m c ⟨4 * (t.val / 4) + s.val, hp⟩ r (y 1) ⟨s.val * 2048 + r.val, hl⟩ (i 1) (by first | omega | (dsimp only; omega)) (by first | omega | (dsimp only; omega)))
    (blk1 m c ⟨4 * (t.val / 4) + s.val, hp⟩ r ⟨(y 0).val * 384 + (y 2).val, by omega⟩ ⟨s.val * 2048 + r.val, hl⟩ ⟨(i 0).val * 384 + (i 2).val, by omega⟩ (by first | omega | (dsimp only; omega)) (by first | omega | (dsimp only; omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.KvDwSpecIdeal Cert.KvDwSpecIdeal.Gen

/-- The reference's result is the same. -/
theorem ref_eq (X0 : Vec Ideal S8192x1024 .bf16) (X1 : Vec Ideal S8192x1536 .bf16) :
    (truncf .bf16 (transpose S4x1024x384 [1, 0, 2] (shapeCast S1024x4x384 (transpose S1024x1536 [1, 0] (Host.dotGeneral dot_S8192x1536_S8192x1024_S1536x1024_0_0_1_1_n_n none (extf .f32 X1 bitsLt_bf16_f32) (extf .f32 X0 bitsLt_bf16_f32)) transposes_S1536x1024_S1024x1536_1_0) shapeCasts_S1024x1536_S1024x4x384) transposes_S1024x4x384_S4x1024x384_1_0_2) bitsLt_bf16_f32 : FVec Ideal S4x1024x384 .bf16) = res X0 X1 := by
  funext i
  pointwise [res]
  exact Finset.sum_congr rfl fun k _ => mul_comm _ _

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.KvDwSpecIdeal.Value.run m g)

end reference

/-- Over the extended reals the kernel's result is the reference's. -/
theorem algebraic : Cert.algebraic_KvDwIdeal_KvDwSpecIdeal := by
  pair_intro
  · run_from run m g
  · run_from Cert.KvDwSpecIdeal.Value.run m' g'
    exact ref_eq _ _

end Cert.KvDwProof

end
-- ==== Proof.Prod.MemKvDx.lean ====
/- The gradient of the normed memory: the keys' and values' gradient times the matrix's transpose. -/
module

public import proofs.«01_k».proof.Proof.Gen.MemKvDxIdeal.Frame
public import proofs.«01_k».proof.Proof.Gen.MemKvDxSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemKvDxProof

open Idealize.ShloMosaic Idealize.ShloMosaic.TcCoe Idealize.SL.Sem

/-- What the call computes, as sums over the whole contracted axis. -/
def res (X0 : Vec Ideal MemKvDxIdeal.S1024x512 .bf16) (X1 : Vec Ideal MemKvDxIdeal.S1024x512 .bf16) :
    Vec Ideal MemKvDxIdeal.S1024x1024 .f32 := fun i => ∑ k : Fin 512,
      X0 (ix2 (i 0) k) * X1 (ix2 (i 1) k)

section kernel
open Cert.MemKvDxIdeal Cert.MemKvDxIdeal.Gen

/-- The block a grid point stores. -/
theorem blk_at (x0 : Vec Ideal S1024x512 .bf16) (x1 : Vec Ideal S1024x512 .bf16) (j : S1024x1024.Idx) :
    k0_pay1 x0 x1 j = ∑ k : Fin 512, x0 (ix2 (j 0) k) * x1 (ix2 (j 1) k) := by
  pointwise [k0_pay1]

variable (m : (ℓ : Loc nD τ sig) → Buf (Elt Ideal) ℓ) (c : Dev nD)

abbrev A0 : Vec Ideal S1024x512 .bf16 := m ((c : Thread nD τ).loc main_arg0)
abbrev A1 : Vec Ideal S1024x512 .bf16 := m ((c : Thread nD τ).loc main_arg1)

theorem idx : ∀ t : Fin cfg0.N, win0_0.index t = ![0, 0]
    ∧ win0_1.index t = ![0, 0]
    ∧ win0_2.index t = ![0, 0] :=
  (by decide +kernel : ∀ t : Fin grid0.N, _)

theorem blk0 (t : Fin cfg0.N) (r : Fin 1024) (l : Fin 512) (R : Fin 1024) (C : Fin 512)
    (hR : R.val = r) (hC : C.val = l) : iblk m c 0 t (ix2 r l) = A0 m c (ix2 R C) := by
  blk_point [iblk, V, idx t]

theorem blk1 (t : Fin cfg0.N) (r : Fin 1024) (l : Fin 512) (R : Fin 1024) (C : Fin 512)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 1 := t.isLt
  rw [after0_2]
  frame_out
  rw [blk_at]
  have hy0 : (y 0).val < 1024 := (y 0).isLt
  have hy1 : (y 1).val < 1024 := (y 1).isLt
  have e0 : (((win0_2.blk t).view.emb y) 0).val = (y 0).val := by blk_simp [idx t]
  have e1 : (((win0_2.blk t).view.emb y) 1).val = (y 1).val := by blk_simp [idx t]
  generalize (win0_2.blk t).view.emb y = i at e0 e1
  exact congrArg (fun f : Fin 512 → EReal => ∑ k, f k) (funext fun k =>
    congrArg₂ (· * ·) (blk0 m c t (y 0) k (i 0) k (by omega) (by omega)) (blk1 m c t (y 1) k (i 1) k (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.MemKvDxSpecIdeal Cert.MemKvDxSpecIdeal.Gen

/-- The reference's result is the same. -/
theorem ref_eq (X0 : Vec Ideal S1024x512 .bf16) (X1 : Vec Ideal S1024x512 .bf16) :
    (Host.dotGeneral dot_S1024x512_S1024x512_S1024x1024_1_1_0_0_n_n none (extf .f32 X0 bitsLt_bf16_f32) (extf .f32 X1 bitsLt_bf16_f32) : FVec Ideal S1024x1024 .f32) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.MemKvDxSpecIdeal.Value.run m g)

end reference

/-- Over the extended reals the kernel's result is the reference's. -/
theorem algebraic : Cert.algebraic_MemKvDxIdeal_MemKvDxSpecIdeal := by
  pair_intro
  · run_from run m g
  · run_from Cert.MemKvDxSpecIdeal.Value.run m' g'
    exact ref_eq _ _

end Cert.MemKvDxProof

end
-- ==== Proof.Prod.MemKvDw.lean ====
/- The gradient of the memory's keys' and values' matrix. -/
module

public import proofs.«01_k».proof.Proof.Gen.MemKvDwIdeal.Frame
public import proofs.«01_k».proof.Proof.Gen.MemKvDwSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemKvDwProof

open Idealize.ShloMosaic Idealize.ShloMosaic.TcCoe Idealize.SL.Sem

/-- What the call computes, as sums over the whole contracted axis. -/
def res (X0 : Vec Ideal MemKvDwIdeal.S1024x1024 .bf16) (X1 : Vec Ideal MemKvDwIdeal.S1024x512 .bf16) :
    Vec Ideal MemKvDwIdeal.S1024x512 .bf16 := fun i => ∑ k : Fin 1024,
      X0 (ix2 k (i 0)) * X1 (ix2 k (i 1))

section kernel
open Cert.MemKvDwIdeal Cert.MemKvDwIdeal.Gen

/-- The block a grid point stores. -/
theorem blk_at (x0 : Vec Ideal S1024x1024 .bf16) (x1 : Vec Ideal S1024x512 .bf16) (j : S1024x512.Idx) :
    k0_pay1 x0 x1 j = ∑ k : Fin 1024, x0 (ix2 k (j 0)) * x1 (ix2 k (j 1)) := by
  pointwise [k0_pay1]

variable (m : (ℓ : Loc nD τ sig) → Buf (Elt Ideal) ℓ) (c : Dev nD)

abbrev A0 : Vec Ideal S1024x1024 .bf16 := m ((c : Thread nD τ).loc main_arg0)
abbrev A1 : Vec Ideal S1024x512 .bf16 := m ((c : Thread nD τ).loc main_arg1)

theorem idx : ∀ t : Fin cfg0.N, win0_0.index t = ![0, 0]
    ∧ win0_1.index t = ![0, 0]
    ∧ win0_2.index t = ![0, 0] :=
  (by decide +kernel : ∀ t : Fin grid0.N, _)

theorem blk0 (t : Fin cfg0.N) (r : Fin 1024) (l : Fin 1024) (R : Fin 1024) (C : Fin 1024)
    (hR : R.val = r) (hC : C.val = l) : iblk m c 0 t (ix2 r l) = A0 m c (ix2 R C) := by
  blk_point [iblk, V, idx t]

theorem blk1 (t : Fin cfg0.N) (r : Fin 1024) (l : Fin 512) (R : Fin 1024) (C : Fin 512)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 1 := t.isLt
  rw [after0_2]
  frame_out
  rw [blk_at]
  have hy0 : (y 0).val < 1024 := (y 0).isLt
  have hy1 : (y 1).val < 512 := (y 1).isLt
  have e0 : (((win0_2.blk t).view.emb y) 0).val = (y 0).val := by blk_simp [idx t]
  have e1 : (((win0_2.blk t).view.emb y) 1).val = (y 1).val := by blk_simp [idx t]
  generalize (win0_2.blk t).view.emb y = i at e0 e1
  exact congrArg (fun f : Fin 1024 → EReal => ∑ k, f k) (funext fun k =>
    congrArg₂ (· * ·) (blk0 m c t k (y 0) k (i 0) (by omega) (by omega)) (blk1 m c t k (y 1) k (i 1) (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.MemKvDwSpecIdeal Cert.MemKvDwSpecIdeal.Gen

/-- The reference's result is the same. -/
theorem ref_eq (X0 : Vec Ideal S1024x1024 .bf16) (X1 : Vec Ideal S1024x512 .bf16) :
    (truncf .bf16 (transpose S1024x512 [1, 0] (Host.dotGeneral dot_S1024x512_S1024x1024_S512x1024_0_0_1_1_n_n none (extf .f32 X1 bitsLt_bf16_f32) (extf .f32 X0 bitsLt_bf16_f32)) transposes_S512x1024_S1024x512_1_0) bitsLt_bf16_f32 : FVec Ideal S1024x512 .bf16) = res X0 X1 := by
  funext i
  pointwise [res]
  exact Finset.sum_congr rfl fun k _ => mul_comm _ _

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.MemKvDwSpecIdeal.Value.run m g)

end reference

/-- Over the extended reals the kernel's result is the reference's. -/
theorem algebraic : Cert.algebraic_MemKvDwIdeal_MemKvDwSpecIdeal := by
  pair_intro
  · run_from run m g
  · run_from Cert.MemKvDwSpecIdeal.Value.run m' g'
    exact ref_eq _ _

end Cert.MemKvDwProof

end
-- ==== Proof.Prod.AInDw.lean ====
/- The gradient of the first layer's input projection, left as four column pieces. -/
module

public import proofs.«01_k».proof.Proof.Gen.AInDwIdeal.Frame
public import proofs.«01_k».proof.Proof.Gen.AInDwSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.AInDwProof

open Idealize.ShloMosaic Idealize.ShloMosaic.TcCoe Idealize.SL.Sem

/-- What the call computes, as sums over the whole contracted axis. -/
def res (X0 : Vec Ideal AInDwIdeal.S8192x1024 .bf16) (X1 : Vec Ideal AInDwIdeal.S8192x2560 .bf16) :
    Vec Ideal AInDwIdeal.S4x1024x640 .bf16 := fun i => ∑ k : Fin 8192,
      X0 (ix2 k (i 1)) * X1 (ix2 k ⟨(i 0).val * 640 + (i 2).val, by have := (i 0).isLt; have := (i 2).isLt; dsimp at *; omega⟩)

section kernel
open Cert.AInDwIdeal Cert.AInDwIdeal.Gen

/-- The product of the blocks at a grid point. -/
theorem blk_at (x0 : Vec Ideal S2048x1024 .bf16) (x1 : Vec Ideal S2048x1280 .bf16) (j : S1024x1280.Idx) :
    k0_pay1 x0 x1 j = ∑ k : Fin 2048, x0 (ix2 k (j 0)) * x1 (ix2 k (j 1)) := by
  pointwise [k0_pay1]

/-- The first point of a block stores the product, -/
theorem set_at (x0 : Vec Ideal S2048x1024 .bf16) (x1 : Vec Ideal S2048x1280 .bf16) (j : S1024x1280.Idx) :
    k0_pay2 x0 x1 j = ∑ k : Fin 2048, x0 (ix2 k (j 0)) * x1 (ix2 k (j 1)) := by
  pointwise [k0_pay2, blk_at]

/-- the later ones add it. -/
theorem add_at (x0 : Vec Ideal S2048x1024 .bf16) (x1 : Vec Ideal S2048x1280 .bf16) (acc : Vec Ideal S1024x1280 .f32) (j : S1024x1280.Idx) :
    k0_pay3 x0 x1 acc j = acc j + ∑ k : Fin 2048, x0 (ix2 k (j 0)) * x1 (ix2 k (j 1)) := by
  pointwise [k0_pay3, blk_at]

theorem out_at0 (acc : Vec Ideal S1024x1280 .f32) (j : S1x1024x640.Idx) :
    k0_pay4 acc j = acc (ix2 (j 1) ⟨0 + (j 2).val, by have := (j 2).isLt; dsimp at this; omega⟩) := by
  pointwise [k0_pay4]

theorem out_at1 (acc : Vec Ideal S1024x1280 .f32) (j : S1x1024x640.Idx) :
    k0_pay5 acc j = acc (ix2 (j 1) ⟨640 + (j 2).val, by have := (j 2).isLt; dsimp at this; omega⟩) := by
  pointwise [k0_pay5]

variable (m : (ℓ : Loc nD τ sig) → Buf (Elt Ideal) ℓ) (c : Dev nD)

abbrev A0 : Vec Ideal S8192x1024 .bf16 := m ((c : Thread nD τ).loc main_arg0)
abbrev A1 : Vec Ideal S8192x2560 .bf16 := m ((c : Thread nD τ).loc main_arg1)

theorem idx : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

theorem blk0 (t : Fin cfg0.N) (r : Fin 2048) (l : Fin 1024) (R : Fin 8192) (C : Fin 1024)
    (hR : R.val = t.val % 4 * 2048 + r) (hC : C.val = l) : iblk m c 0 t (ix2 r l) = A0 m c (ix2 R C) := by
  blk_point [iblk, V, idx t]

theorem blk1 (t : Fin cfg0.N) (r : Fin 2048) (l : Fin 1280) (R : Fin 8192) (C : Fin 2560)
    (hR : R.val = t.val % 4 * 2048 + r) (hC : C.val = t.val / 4 * 1280 + l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  have hl := (flush0_2 t).mp hf
  have key : (outsAt0 m c t.val t.isLt).1 y = (outsAt0 m c t.val t.isLt).2 (ix2 (y 1) ⟨(y 0).val * 640 + (y 2).val, by have := (y 0).isLt; have := (y 2).isLt; dsimp at *; omega⟩) := by
    rw [outsAt0_C m c t (by omega) (by omega) hl]; frame_out
    generalize k0_pay3 (iblk m c 0 t) (iblk m c 1 t) _ = acc
    canon_tiles x h
    all_goals (first | rw [out_at0] | rw [out_at1]); blk_ext
  rw [after0_2, key, Pipeline.eq_sum_fin_of_reset_step_apply_of_flush (fun n h => (outsAt0 m c n h).2) 4 (fun _ => 0) _
    (fun t h j => by have := lt_of_lt_of_eq t.isLt N_0; rw [outsAt0_A m c t h (by omega) (by omega)]; frame_out; rw [set_at, zero_add])
    (fun t h j => by
      by_cases h2 : t.val % 4 = 3
      · rw [outsAt0_C m c t h (by omega) h2]; frame_out; rw [add_at, read_unread_whole]
      · rw [outsAt0_B m c t h (by omega) h2]; frame_out; rw [add_at, read_unread_whole])
    t hl _, zero_add]
  have hy0 : (y 0).val < 2 := (y 0).isLt
  have hy1 : (y 1).val < 1024 := (y 1).isLt
  have hy2 : (y 2).val < 640 := (y 2).isLt
  have e0 : (((win0_2.blk t).view.emb y) 0).val = t.val / 4 * 2 + (y 0).val := by blk_simp [idx t]
  have e1 : (((win0_2.blk t).view.emb y) 1).val = (y 1).val := by blk_simp [idx t]
  have e2 : (((win0_2.blk t).view.emb y) 2).val = (y 2).val := by blk_simp [idx t]
  generalize (win0_2.blk t).view.emb y = i at e0 e1 e2
  refine Fin.sum_mul_add_congr fun s r hl => ?_
  have hs : s.val < 4 := s.isLt
  have hp : 4 * (t.val / 4) + s.val < cfg0.N := lt_of_lt_of_eq (show _ < 8 by omega) N_0.symm
  have hi2 : (i 2).val < 640 := by omega
  have hi0 : (i 0).val < 4 := by omega
  exact congrArg₂ (· * ·) (blk0 m c ⟨4 * (t.val / 4) + s.val, hp⟩ r (y 1) ⟨s.val * 2048 + r.val, hl⟩ (i 1) (by first | omega | (dsimp only; omega)) (by first | omega | (dsimp only; omega)))
    (blk1 m c ⟨4 * (t.val / 4) + s.val, hp⟩ r ⟨(y 0).val * 640 + (y 2).val, by omega⟩ ⟨s.val * 2048 + r.val, hl⟩ ⟨(i 0).val * 640 + (i 2).val, by omega⟩ (by first | omega | (dsimp only; omega)) (by first | omega | (dsimp only; omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.AInDwSpecIdeal Cert.AInDwSpecIdeal.Gen

/-- The reference's result is the same. -/
theorem ref_eq (X0 : Vec Ideal S8192x1024 .bf16) (X1 : Vec Ideal S8192x2560 .bf16) :
    (truncf .bf16 (transpose S4x1024x640 [1, 0, 2] (shapeCast S1024x4x640 (transpose S1024x2560 [1, 0] (Host.dotGeneral dot_S8192x2560_S8192x1024_S2560x1024_0_0_1_1_n_n none (extf .f32 X1 bitsLt_bf16_f32) (extf .f32 X0 bitsLt_bf16_f32)) transposes_S2560x1024_S1024x2560_1_0) shapeCasts_S1024x2560_S1024x4x640) transposes_S1024x4x640_S4x1024x640_1_0_2) bitsLt_bf16_f32 : FVec Ideal S4x1024x640 .bf16) = res X0 X1 := by
  funext i
  pointwise [res]
  exact Finset.sum_congr rfl fun k _ => mul_comm _ _

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.AInDwSpecIdeal.Value.run m g)

end reference

/-- Over the extended reals the kernel's result is the reference's. -/
theorem algebraic : Cert.algebraic_AInDwIdeal_AInDwSpecIdeal := by
  pair_intro
  · run_from run m g
  · run_from Cert.AInDwSpecIdeal.Value.run m' g'
    exact ref_eq _ _

end Cert.AInDwProof

end
-- ==== Proof.Prod.AInDx.lean ====
/- The gradient of the first layer's normed input: the projection's gradient times the matrix's transpose. -/
module

public import proofs.«01_k».proof.Proof.Gen.AInDxIdeal.Frame
public import proofs.«01_k».proof.Proof.Gen.AInDxSpecIdeal.Run
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.AInDxProof

open Idealize.ShloMosaic Idealize.ShloMosaic.TcCoe Idealize.SL.Sem

/-- What the call computes, as sums over the whole contracted axis. -/
def res (X0 : Vec Ideal AInDxIdeal.S8192x2560 .bf16) (X1 : Vec Ideal AInDxIdeal.S1024x2560 .bf16) :
    Vec Ideal AInDxIdeal.S8192x1024 .f32 := fun i => ∑ k : Fin 2560,
      X0 (ix2 (i 0) k) * X1 (ix2 (i 1) k)

section kernel
open Cert.AInDxIdeal Cert.AInDxIdeal.Gen

/-- The block a grid point stores. -/
theorem blk_at (x0 : Vec Ideal S1024x2560 .bf16) (x1 : Vec Ideal S1024x2560 .bf16) (j : S1024x1024.Idx) :
    k0_pay1 x0 x1 j = ∑ k : Fin 2560, x0 (ix2 (j 0) k) * x1 (ix2 (j 1) k) := by
  pointwise [k0_pay1]

variable (m : (ℓ : Loc nD τ sig) → Buf (Elt Ideal) ℓ) (c : Dev nD)

abbrev A0 : Vec Ideal S8192x2560 .bf16 := m ((c : Thread nD τ).loc main_arg0)
abbrev A1 : Vec Ideal S1024x2560 .bf16 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

theorem blk0 (t : Fin cfg0.N) (r : Fin 1024) (l : Fin 2560) (R : Fin 8192) (C : Fin 2560)
    (hR : R.val = t.val * 1024 + r) (hC : C.val = l) : iblk m c 0 t (ix2 r l) = A0 m c (ix2 R C) := by
  blk_point [iblk, V, idx t]

theorem blk1 (t : Fin cfg0.N) (r : Fin 1024) (l : Fin 2560) (R : Fin 1024) (C : Fin 2560)
    (hR : R.val = r) (hC : C.val = l) : iblk m c 1 t (ix2 r l) = A1 m c (ix2 R C) := by
  blk_point [iblk, V, idx t]

theorem final : (dats m 0 c).arrAt 2 (cfgs 0).N = res (A0 m c) (A1 m c) := by
  refine (dats m 0 c).arrAt_eq_of_covers 2 _ (by decide +kernel) fun t hf y => ?_
  blk_simp
  have ht : t.val < 8 := t.isLt
  rw [after0_2]
  frame_out
  rw [blk_at]
  have hy0 : (y 0).val < 1024 := (y 0).isLt
  have hy1 : (y 1).val < 1024 := (y 1).isLt
  have e0 : (((win0_2.blk t).view.emb y) 0).val = t.val * 1024 + (y 0).val := by blk_simp [idx t]
  have e1 : (((win0_2.blk t).view.emb y) 1).val = (y 1).val := by blk_simp [idx t]
  generalize (win0_2.blk t).view.emb y = i at e0 e1
  exact congrArg (fun f : Fin 2560 → EReal => ∑ k, f k) (funext fun k =>
    congrArg₂ (· * ·) (blk0 m c t (y 0) k (i 0) k (by omega) (by omega)) (blk1 m c t (y 1) k (i 1) k (by omega) (by omega)))

/-- The kernel's run: the result is `res`, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v0) = res (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.AInDxSpecIdeal Cert.AInDxSpecIdeal.Gen

/-- The reference's result is the same. -/
theorem ref_eq (X0 : Vec Ideal S8192x2560 .bf16) (X1 : Vec Ideal S1024x2560 .bf16) :
    (Host.dotGeneral dot_S8192x2560_S1024x2560_S8192x1024_1_1_0_0_n_n none (extf .f32 X0 bitsLt_bf16_f32) (extf .f32 X1 bitsLt_bf16_f32) : FVec Ideal S8192x1024 .f32) = res X0 X1 := by
  funext i
  pointwise [res]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Cert.AInDxSpecIdeal.Value.run m g)

end reference

/-- Over the extended reals the kernel's result is the reference's. -/
theorem algebraic : Cert.algebraic_AInDxIdeal_AInDxSpecIdeal := by
  pair_intro
  · run_from run m g
  · run_from Cert.AInDxSpecIdeal.Value.run m' g'
    exact ref_eq _ _

end Cert.AInDxProof

end
-- ==== Proof.Adam.Rule.lean ====
/- The optimiser's rule at one element, over the extended reals. -/
module

public import Idealize.ShloMosaic.Lib.Pipeline.ValueKit

@[expose] public section

noncomputable section

namespace Cert.AdamRule

open Idealize.ShloMosaic

/-- A single-precision literal's value. -/
abbrev lit (b : BitVec 32) : EReal := (Scalar.ofBits .f32 b : Ideal .f32)

/-- The first moment after the step: 0.9 m + 0.1 g. -/
def nextM (g m : EReal) : EReal := lit 0x3F666666#32 * m + lit 0x3DCCCCCD#32 * g

/-- The second moment after the step: 0.999 v + 0.001 g². -/
def nextV (g v : EReal) : EReal := lit 0x3F7FBE77#32 * v + lit 0x3A83126F#32 * (g * g)

/-- The weight's change: the bias-corrected moments' quotient and the decay, times the negative rate. -/
def change (w g m v : EReal) : EReal :=
  lit 0xBA83126F#32 *
    (Ideal.div (Ideal.div (nextM g m) (lit 0x3F26BD02#32))
        (Ideal.sqrt (Ideal.div (nextV g v) (lit 0x3C231ACC#32)) + lit 0x322BCC77#32)
      + lit 0x3C23D70A#32 * w)

end Cert.AdamRule

end
-- ==== Proof.Adam.AdamAIn.lean ====
/- The optimiser's call for a_w_in: the gradient, the change and the moments, one block of rows at a grid point. -/
module

public import proofs.«01_k».proof.Proof.Gen.AdamAInIdeal.Frame
public import proofs.«01_k».proof.Proof.Gen.AdamAInSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamAInProof

open Idealize.ShloMosaic Idealize.ShloMosaic.TcCoe Idealize.SL.Sem

/-- The summed gradient, -/
def grad (X0 X1 X2 X3 X4 : Vec Ideal AdamAInIdeal.S1024x640 .f32) : Vec Ideal AdamAInIdeal.S1024x640 .f32 := fun i => X1 i + X2 i

/-- the change of the weight, -/
def change (X0 X1 X2 X3 X4 : Vec Ideal AdamAInIdeal.S1024x640 .f32) : Vec Ideal AdamAInIdeal.S1024x640 .f32 := fun i => Cert.AdamRule.change (X0 i) (X1 i + X2 i) (X3 i) (X4 i)

/-- the first moment -/
def nextM (X0 X1 X2 X3 X4 : Vec Ideal AdamAInIdeal.S1024x640 .f32) : Vec Ideal AdamAInIdeal.S1024x640 .f32 := fun i => Cert.AdamRule.nextM (X1 i + X2 i) (X3 i)

/-- and the second. -/
def nextV (X0 X1 X2 X3 X4 : Vec Ideal AdamAInIdeal.S1024x640 .f32) : Vec Ideal AdamAInIdeal.S1024x640 .f32 := fun i => Cert.AdamRule.nextV (X1 i + X2 i) (X4 i)

section kernel
open Cert.AdamAInIdeal Cert.AdamAInIdeal.Gen

variable (m : (ℓ : Loc nD τ sig) → Buf (Elt Ideal) ℓ) (c : Dev nD)

abbrev A0 : Vec Ideal S1024x640 .f32 := m ((c : Thread nD τ).loc main_arg0)
abbrev A1 : Vec Ideal S1024x640 .f32 := m ((c : Thread nD τ).loc main_arg1)
abbrev A2 : Vec Ideal S1024x640 .f32 := m ((c : Thread nD τ).loc main_arg2)
abbrev A3 : Vec Ideal S1024x640 .f32 := m ((c : Thread nD τ).loc main_arg3)
abbrev A4 : Vec Ideal S1024x640 .f32 := m ((c : Thread nD τ).loc main_arg4)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

theorem final_grad : (dats m 0 c).arrAt 5 (cfgs 0).N = grad (A0 m c) (A1 m c) (A2 m c) (A3 m c) (A4 m c) := by
  refine (dats m 0 c).arrAt_eq_of_covers 5 _ (by decide +kernel) fun t hf y => ?_
  blk_simp
  rw [after0_5]
  frame_out
  pointwise [k0_pay1, k0_pay2, k0_pay3, k0_pay4, grad, AdamRule.change, AdamRule.nextM, AdamRule.nextV, AdamRule.lit]
  blk_point [iblk, V, idx t]

theorem final_change : (dats m 0 c).arrAt 6 (cfgs 0).N = change (A0 m c) (A1 m c) (A2 m c) (A3 m c) (A4 m c) := by
  refine (dats m 0 c).arrAt_eq_of_covers 6 _ (by decide +kernel) fun t hf y => ?_
  blk_simp
  rw [after0_6]
  frame_out
  pointwise [k0_pay1, k0_pay2, k0_pay3, k0_pay4, change, AdamRule.change, AdamRule.nextM, AdamRule.nextV, AdamRule.lit]
  blk_point [iblk, V, idx t]

theorem final_nextM : (dats m 0 c).arrAt 7 (cfgs 0).N = nextM (A0 m c) (A1 m c) (A2 m c) (A3 m c) (A4 m c) := by
  refine (dats m 0 c).arrAt_eq_of_covers 7 _ (by decide +kernel) fun t hf y => ?_
  blk_simp
  rw [after0_7]
  frame_out
  pointwise [k0_pay1, k0_pay2, k0_pay3, k0_pay4, nextM, AdamRule.change, AdamRule.nextM, AdamRule.nextV, AdamRule.lit]
  blk_point [iblk, V, idx t]

theorem final_nextV : (dats m 0 c).arrAt 8 (cfgs 0).N = nextV (A0 m c) (A1 m c) (A2 m c) (A3 m c) (A4 m c) := by
  refine (dats m 0 c).arrAt_eq_of_covers 8 _ (by decide +kernel) fun t hf y => ?_
  blk_simp
  rw [after0_8]
  frame_out
  pointwise [k0_pay1, k0_pay2, k0_pay3, k0_pay4, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c) (A4 m c)
    ∧ r.2.mem ((c : Thread nD τ).loc main_v0_1) = change (A0 m c) (A1 m c) (A2 m c) (A3 m c) (A4 m c)
    ∧ r.2.mem ((c : Thread nD τ).loc main_v0_2) = nextM (A0 m c) (A1 m c) (A2 m c) (A3 m c) (A4 m c)
    ∧ r.2.mem ((c : Thread nD τ).loc main_v0_3) = nextV (A0 m c) (A1 m c) (A2 m c) (A3 m c) (A4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_grad m c),
      ((h c).1 6).trans (final_change m c),
      ((h c).1 7).trans (final_nextM m c),
      ((h c).1 8).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end kernel

section reference
open Cert.AdamAInSpecIdeal Cert.AdamAInSpecIdeal.Gen

theorem ref_grad (X0 X1 X2 X3 X4 : Vec Ideal S1024x640 .f32) :
    (addf X1 X2 : FVec Ideal S1024x640 .f32) = grad X0 X1 X2 X3 X4 := by
  funext i
  pointwise [grad, AdamRule.change, AdamRule.nextM, AdamRule.nextV, AdamRule.lit]

theorem ref_change (X0 X1 X2 X3 X4 : Vec Ideal S1024x640 .f32) :
    (mulf (broadcastInDim S1024x640 ![] bcast_S_S1024x640 (constant S_ .f32 0xBA83126F#32)) (addf (Host.divf (Host.divf (addf (mulf (broadcastInDim S1024x640 ![] bcast_S_S1024x640 (constant S_ .f32 0x3F666666#32)) X3) (mulf (broadcastInDim S1024x640 ![] bcast_S_S1024x640 (constant S_ .f32 0x3DCCCCCD#32)) (addf X1 X2))) (broadcastInDim S1024x640 ![] bcast_S_S1024x640 (constant S_ .f32 0x3F26BD02#32))) (addf (Host.sqrt (Host.divf (addf (mulf (broadcastInDim S1024x640 ![] bcast_S_S1024x640 (constant S_ .f32 0x3F7FBE77#32)) X4) (mulf (broadcastInDim S1024x640 ![] bcast_S_S1024x640 (constant S_ .f32 0x3A83126F#32)) (mulf (addf X1 X2) (addf X1 X2)))) (broadcastInDim S1024x640 ![] bcast_S_S1024x640 (constant S_ .f32 0x3C231ACC#32)))) (broadcastInDim S1024x640 ![] bcast_S_S1024x640 (constant S_ .f32 0x322BCC77#32)))) (mulf (broadcastInDim S1024x640 ![] bcast_S_S1024x640 (constant S_ .f32 0x3C23D70A#32)) X0)) : FVec Ideal S1024x640 .f32) = change X0 X1 X2 X3 X4 := by
  funext i
  pointwise [change, AdamRule.change, AdamRule.nextM, AdamRule.nextV, AdamRule.lit]

theorem ref_nextM (X0 X1 X2 X3 X4 : Vec Ideal S1024x640 .f32) :
    (addf (mulf (broadcastInDim S1024x640 ![] bcast_S_S1024x640 (constant S_ .f32 0x3F666666#32)) X3) (mulf (broadcastInDim S1024x640 ![] bcast_S_S1024x640 (constant S_ .f32 0x3DCCCCCD#32)) (addf X1 X2)) : FVec Ideal S1024x640 .f32) = nextM X0 X1 X2 X3 X4 := by
  funext i
  pointwise [nextM, AdamRule.change, AdamRule.nextM, AdamRule.nextV, AdamRule.lit]

theorem ref_nextV (X0 X1 X2 X3 X4 : Vec Ideal S1024x640 .f32) :
    (addf (mulf (broadcastInDim S1024x640 ![] bcast_S_S1024x640 (constant S_ .f32 0x3F7FBE77#32)) X4) (mulf (broadcastInDim S1024x640 ![] bcast_S_S1024x640 (constant S_ .f32 0x3A83126F#32)) (mulf (addf X1 X2) (addf X1 X2))) : FVec Ideal S1024x640 .f32) = nextV X0 X1 X2 X3 X4 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
        ∧ r.2.sem = fun _ => 0 :=
  (θ_run defs _ _).mono (fun r h => ⟨fun c => (h c).2.2.2.2, sem_eq_zero_of_no_sems (by decide) r.2⟩)
    (Cert.AdamAInSpecIdeal.Value.run m g)

end reference

/-- Over the extended reals the call's four results are the reference's. -/
theorem algebraic : Cert.algebraic_AdamAInIdeal_AdamAInSpecIdeal := by
  pair_intro
  · run_from run m g
  · run_from Cert.AdamAInSpecIdeal.Value.run m' g'

    · exact ref_grad _ _ _ _ _
    · exact ref_change _ _ _ _ _
    · exact ref_nextM _ _ _ _ _
    · exact ref_nextV _ _ _ _ _

end Cert.AdamAInProof

end
-- ==== Proof.Adam.AdamOut.lean ====
/- The optimiser's call for a_w_out, b_w_in and b_w_out: the gradient, the change and the moments, one block of rows at a grid point. -/
module

public import proofs.«01_k».proof.Proof.Gen.AdamOutIdeal.Frame
public import proofs.«01_k».proof.Proof.Gen.AdamOutSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamOutProof

open Idealize.ShloMosaic Idealize.ShloMosaic.TcCoe Idealize.SL.Sem

/-- The summed gradient, -/
def grad (X0 X1 X2 X3 X4 : Vec Ideal AdamOutIdeal.S256x1024 .f32) : Vec Ideal AdamOutIdeal.S256x1024 .f32 := fun i => X1 i + X2 i

/-- the change of the weight, -/
def change (X0 X1 X2 X3 X4 : Vec Ideal AdamOutIdeal.S256x1024 .f32) : Vec Ideal AdamOutIdeal.S256x1024 .f32 := fun i => Cert.AdamRule.change (X0 i) (X1 i + X2 i) (X3 i) (X4 i)

/-- the first moment -/
def nextM (X0 X1 X2 X3 X4 : Vec Ideal AdamOutIdeal.S256x1024 .f32) : Vec Ideal AdamOutIdeal.S256x1024 .f32 := fun i => Cert.AdamRule.nextM (X1 i + X2 i) (X3 i)

/-- and the second. -/
def nextV (X0 X1 X2 X3 X4 : Vec Ideal AdamOutIdeal.S256x1024 .f32) : Vec Ideal AdamOutIdeal.S256x1024 .f32 := fun i => Cert.AdamRule.nextV (X1 i + X2 i) (X4 i)

section kernel
open Cert.AdamOutIdeal Cert.AdamOutIdeal.Gen

variable (m : (ℓ : Loc nD τ sig) → Buf (Elt Ideal) ℓ) (c : Dev nD)

abbrev A0 : Vec Ideal S256x1024 .f32 := m ((c : Thread nD τ).loc main_arg0)
abbrev A1 : Vec Ideal S256x1024 .f32 := m ((c : Thread nD τ).loc main_arg1)
abbrev A2 : Vec Ideal S256x1024 .f32 := m ((c : Thread nD τ).loc main_arg2)
abbrev A3 : Vec Ideal S256x1024 .f32 := m ((c : Thread nD τ).loc main_arg3)
abbrev A4 : Vec Ideal S256x1024 .f32 := m ((c : Thread nD τ).loc main_arg4)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0] :=
  (by decide +kernel : ∀ t : Fin grid0.N, _)

theorem final_grad : (dats m 0 c).arrAt 5 (cfgs 0).N = grad (A0 m c) (A1 m c) (A2 m c) (A3 m c) (A4 m c) := by
  refine (dats m 0 c).arrAt_eq_of_covers 5 _ (by decide +kernel) fun t hf y => ?_
  blk_simp
  rw [after0_5]
  frame_out
  pointwise [k0_pay1, k0_pay2, k0_pay3, k0_pay4, grad, AdamRule.change, AdamRule.nextM, AdamRule.nextV, AdamRule.lit]
  blk_point [iblk, V, idx t]

theorem final_change : (dats m 0 c).arrAt 6 (cfgs 0).N = change (A0 m c) (A1 m c) (A2 m c) (A3 m c) (A4 m c) := by
  refine (dats m 0 c).arrAt_eq_of_covers 6 _ (by decide +kernel) fun t hf y => ?_
  blk_simp
  rw [after0_6]
  frame_out
  pointwise [k0_pay1, k0_pay2, k0_pay3, k0_pay4, change, AdamRule.change, AdamRule.nextM, AdamRule.nextV, AdamRule.lit]
  blk_point [iblk, V, idx t]

theorem final_nextM : (dats m 0 c).arrAt 7 (cfgs 0).N = nextM (A0 m c) (A1 m c) (A2 m c) (A3 m c) (A4 m c) := by
  refine (dats m 0 c).arrAt_eq_of_covers 7 _ (by decide +kernel) fun t hf y => ?_
  blk_simp
  rw [after0_7]
  frame_out
  pointwise [k0_pay1, k0_pay2, k0_pay3, k0_pay4, nextM, AdamRule.change, AdamRule.nextM, AdamRule.nextV, AdamRule.lit]
  blk_point [iblk, V, idx t]

theorem final_nextV : (dats m 0 c).arrAt 8 (cfgs 0).N = nextV (A0 m c) (A1 m c) (A2 m c) (A3 m c) (A4 m c) := by
  refine (dats m 0 c).arrAt_eq_of_covers 8 _ (by decide +kernel) fun t hf y => ?_
  blk_simp
  rw [after0_8]
  frame_out
  pointwise [k0_pay1, k0_pay2, k0_pay3, k0_pay4, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c) (A4 m c)
    ∧ r.2.mem ((c : Thread nD τ).loc main_v0_1) = change (A0 m c) (A1 m c) (A2 m c) (A3 m c) (A4 m c)
    ∧ r.2.mem ((c : Thread nD τ).loc main_v0_2) = nextM (A0 m c) (A1 m c) (A2 m c) (A3 m c) (A4 m c)
    ∧ r.2.mem ((c : Thread nD τ).loc main_v0_3) = nextV (A0 m c) (A1 m c) (A2 m c) (A3 m c) (A4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_grad m c),
      ((h c).1 6).trans (final_change m c),
      ((h c).1 7).trans (final_nextM m c),
      ((h c).1 8).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end kernel

section reference
open Cert.AdamOutSpecIdeal Cert.AdamOutSpecIdeal.Gen

theorem ref_grad (X0 X1 X2 X3 X4 : Vec Ideal S256x1024 .f32) :
    (addf X1 X2 : FVec Ideal S256x1024 .f32) = grad X0 X1 X2 X3 X4 := by
  funext i
  pointwise [grad, AdamRule.change, AdamRule.nextM, AdamRule.nextV, AdamRule.lit]

theorem ref_change (X0 X1 X2 X3 X4 : Vec Ideal S256x1024 .f32) :
    (mulf (broadcastInDim S256x1024 ![] bcast_S_S256x1024 (constant S_ .f32 0xBA83126F#32)) (addf (Host.divf (Host.divf (addf (mulf (broadcastInDim S256x1024 ![] bcast_S_S256x1024 (constant S_ .f32 0x3F666666#32)) X3) (mulf (broadcastInDim S256x1024 ![] bcast_S_S256x1024 (constant S_ .f32 0x3DCCCCCD#32)) (addf X1 X2))) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) X4) (mulf (broadcastInDim S256x1024 ![] bcast_S_S256x1024 (constant S_ .f32 0x3A83126F#32)) (mulf (addf X1 X2) (addf X1 X2)))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) X0)) : FVec Ideal S256x1024 .f32) = change X0 X1 X2 X3 X4 := by
  funext i
  pointwise [change, AdamRule.change, AdamRule.nextM, AdamRule.nextV, AdamRule.lit]

theorem ref_nextM (X0 X1 X2 X3 X4 : Vec Ideal S256x1024 .f32) :
    (addf (mulf (broadcastInDim S256x1024 ![] bcast_S_S256x1024 (constant S_ .f32 0x3F666666#32)) X3) (mulf (broadcastInDim S256x1024 ![] bcast_S_S256x1024 (constant S_ .f32 0x3DCCCCCD#32)) (addf X1 X2)) : FVec Ideal S256x1024 .f32) = nextM X0 X1 X2 X3 X4 := by
  funext i
  pointwise [nextM, AdamRule.change, AdamRule.nextM, AdamRule.nextV, AdamRule.lit]

theorem ref_nextV (X0 X1 X2 X3 X4 : Vec Ideal S256x1024 .f32) :
    (addf (mulf (broadcastInDim S256x1024 ![] bcast_S_S256x1024 (constant S_ .f32 0x3F7FBE77#32)) X4) (mulf (broadcastInDim S256x1024 ![] bcast_S_S256x1024 (constant S_ .f32 0x3A83126F#32)) (mulf (addf X1 X2) (addf X1 X2))) : FVec Ideal S256x1024 .f32) = nextV X0 X1 X2 X3 X4 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
        ∧ r.2.sem = fun _ => 0 :=
  (θ_run defs _ _).mono (fun r h => ⟨fun c => (h c).2.2.2.2, sem_eq_zero_of_no_sems (by decide) r.2⟩)
    (Cert.AdamOutSpecIdeal.Value.run m g)

end reference

/-- Over the extended reals the call's four results are the reference's. -/
theorem algebraic : Cert.algebraic_AdamOutIdeal_AdamOutSpecIdeal := by
  pair_intro
  · run_from run m g
  · run_from Cert.AdamOutSpecIdeal.Value.run m' g'

    · exact ref_grad _ _ _ _ _
    · exact ref_change _ _ _ _ _
    · exact ref_nextM _ _ _ _ _
    · exact ref_nextV _ _ _ _ _

end Cert.AdamOutProof

end
-- ==== Proof.Adam.AdamMemKv.lean ====
/- The optimiser's call for a_w_mem_kv and b_w_mem_kv: the gradient, the change and the moments, one block of rows at a grid point. -/
module

public import proofs.«01_k».proof.Proof.Gen.AdamMemKvIdeal.Frame
public import proofs.«01_k».proof.Proof.Gen.AdamMemKvSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamMemKvProof

open Idealize.ShloMosaic Idealize.ShloMosaic.TcCoe Idealize.SL.Sem

/-- The summed gradient, -/
def grad (X0 X1 X2 X3 X4 : Vec Ideal AdamMemKvIdeal.S256x512 .f32) : Vec Ideal AdamMemKvIdeal.S256x512 .f32 := fun i => X1 i + X2 i

/-- the change of the weight, -/
def change (X0 X1 X2 X3 X4 : Vec Ideal AdamMemKvIdeal.S256x512 .f32) : Vec Ideal AdamMemKvIdeal.S256x512 .f32 := fun i => Cert.AdamRule.change (X0 i) (X1 i + X2 i) (X3 i) (X4 i)

/-- the first moment -/
def nextM (X0 X1 X2 X3 X4 : Vec Ideal AdamMemKvIdeal.S256x512 .f32) : Vec Ideal AdamMemKvIdeal.S256x512 .f32 := fun i => Cert.AdamRule.nextM (X1 i + X2 i) (X3 i)

/-- and the second. -/
def nextV (X0 X1 X2 X3 X4 : Vec Ideal AdamMemKvIdeal.S256x512 .f32) : Vec Ideal AdamMemKvIdeal.S256x512 .f32 := fun i => Cert.AdamRule.nextV (X1 i + X2 i) (X4 i)

section kernel
open Cert.AdamMemKvIdeal Cert.AdamMemKvIdeal.Gen

variable (m : (ℓ : Loc nD τ sig) → Buf (Elt Ideal) ℓ) (c : Dev nD)

abbrev A0 : Vec Ideal S256x512 .f32 := m ((c : Thread nD τ).loc main_arg0)
abbrev A1 : Vec Ideal S256x512 .f32 := m ((c : Thread nD τ).loc main_arg1)
abbrev A2 : Vec Ideal S256x512 .f32 := m ((c : Thread nD τ).loc main_arg2)
abbrev A3 : Vec Ideal S256x512 .f32 := m ((c : Thread nD τ).loc main_arg3)
abbrev A4 : Vec Ideal S256x512 .f32 := m ((c : Thread nD τ).loc main_arg4)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0] :=
  (by decide +kernel : ∀ t : Fin grid0.N, _)

theorem final_grad : (dats m 0 c).arrAt 5 (cfgs 0).N = grad (A0 m c) (A1 m c) (A2 m c) (A3 m c) (A4 m c) := by
  refine (dats m 0 c).arrAt_eq_of_covers 5 _ (by decide +kernel) fun t hf y => ?_
  blk_simp
  rw [after0_5]
  frame_out
  pointwise [k0_pay1, k0_pay2, k0_pay3, k0_pay4, grad, AdamRule.change, AdamRule.nextM, AdamRule.nextV, AdamRule.lit]
  blk_point [iblk, V, idx t]

theorem final_change : (dats m 0 c).arrAt 6 (cfgs 0).N = change (A0 m c) (A1 m c) (A2 m c) (A3 m c) (A4 m c) := by
  refine (dats m 0 c).arrAt_eq_of_covers 6 _ (by decide +kernel) fun t hf y => ?_
  blk_simp
  rw [after0_6]
  frame_out
  pointwise [k0_pay1, k0_pay2, k0_pay3, k0_pay4, change, AdamRule.change, AdamRule.nextM, AdamRule.nextV, AdamRule.lit]
  blk_point [iblk, V, idx t]

theorem final_nextM : (dats m 0 c).arrAt 7 (cfgs 0).N = nextM (A0 m c) (A1 m c) (A2 m c) (A3 m c) (A4 m c) := by
  refine (dats m 0 c).arrAt_eq_of_covers 7 _ (by decide +kernel) fun t hf y => ?_
  blk_simp
  rw [after0_7]
  frame_out
  pointwise [k0_pay1, k0_pay2, k0_pay3, k0_pay4, nextM, AdamRule.change, AdamRule.nextM, AdamRule.nextV, AdamRule.lit]
  blk_point [iblk, V, idx t]

theorem final_nextV : (dats m 0 c).arrAt 8 (cfgs 0).N = nextV (A0 m c) (A1 m c) (A2 m c) (A3 m c) (A4 m c) := by
  refine (dats m 0 c).arrAt_eq_of_covers 8 _ (by decide +kernel) fun t hf y => ?_
  blk_simp
  rw [after0_8]
  frame_out
  pointwise [k0_pay1, k0_pay2, k0_pay3, k0_pay4, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c) (A4 m c)
    ∧ r.2.mem ((c : Thread nD τ).loc main_v0_1) = change (A0 m c) (A1 m c) (A2 m c) (A3 m c) (A4 m c)
    ∧ r.2.mem ((c : Thread nD τ).loc main_v0_2) = nextM (A0 m c) (A1 m c) (A2 m c) (A3 m c) (A4 m c)
    ∧ r.2.mem ((c : Thread nD τ).loc main_v0_3) = nextV (A0 m c) (A1 m c) (A2 m c) (A3 m c) (A4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_grad m c),
      ((h c).1 6).trans (final_change m c),
      ((h c).1 7).trans (final_nextM m c),
      ((h c).1 8).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end kernel

section reference
open Cert.AdamMemKvSpecIdeal Cert.AdamMemKvSpecIdeal.Gen

theorem ref_grad (X0 X1 X2 X3 X4 : Vec Ideal S256x512 .f32) :
    (addf X1 X2 : FVec Ideal S256x512 .f32) = grad X0 X1 X2 X3 X4 := by
  funext i
  pointwise [grad, AdamRule.change, AdamRule.nextM, AdamRule.nextV, AdamRule.lit]

theorem ref_change (X0 X1 X2 X3 X4 : Vec Ideal S256x512 .f32) :
    (mulf (broadcastInDim S256x512 ![] bcast_S_S256x512 (constant S_ .f32 0xBA83126F#32)) (addf (Host.divf (Host.divf (addf (mulf (broadcastInDim S256x512 ![] bcast_S_S256x512 (constant S_ .f32 0x3F666666#32)) X3) (mulf (broadcastInDim S256x512 ![] bcast_S_S256x512 (constant S_ .f32 0x3DCCCCCD#32)) (addf X1 X2))) (broadcastInDim S256x512 ![] bcast_S_S256x512 (constant S_ .f32 0x3F26BD02#32))) (addf (Host.sqrt (Host.divf (addf (mulf (broadcastInDim S256x512 ![] bcast_S_S256x512 (constant S_ .f32 0x3F7FBE77#32)) X4) (mulf (broadcastInDim S256x512 ![] bcast_S_S256x512 (constant S_ .f32 0x3A83126F#32)) (mulf (addf X1 X2) (addf X1 X2)))) (broadcastInDim S256x512 ![] bcast_S_S256x512 (constant S_ .f32 0x3C231ACC#32)))) (broadcastInDim S256x512 ![] bcast_S_S256x512 (constant S_ .f32 0x322BCC77#32)))) (mulf (broadcastInDim S256x512 ![] bcast_S_S256x512 (constant S_ .f32 0x3C23D70A#32)) X0)) : FVec Ideal S256x512 .f32) = change X0 X1 X2 X3 X4 := by
  funext i
  pointwise [change, AdamRule.change, AdamRule.nextM, AdamRule.nextV, AdamRule.lit]

theorem ref_nextM (X0 X1 X2 X3 X4 : Vec Ideal S256x512 .f32) :
    (addf (mulf (broadcastInDim S256x512 ![] bcast_S_S256x512 (constant S_ .f32 0x3F666666#32)) X3) (mulf (broadcastInDim S256x512 ![] bcast_S_S256x512 (constant S_ .f32 0x3DCCCCCD#32)) (addf X1 X2)) : FVec Ideal S256x512 .f32) = nextM X0 X1 X2 X3 X4 := by
  funext i
  pointwise [nextM, AdamRule.change, AdamRule.nextM, AdamRule.nextV, AdamRule.lit]

theorem ref_nextV (X0 X1 X2 X3 X4 : Vec Ideal S256x512 .f32) :
    (addf (mulf (broadcastInDim S256x512 ![] bcast_S_S256x512 (constant S_ .f32 0x3F7FBE77#32)) X4) (mulf (broadcastInDim S256x512 ![] bcast_S_S256x512 (constant S_ .f32 0x3A83126F#32)) (mulf (addf X1 X2) (addf X1 X2))) : FVec Ideal S256x512 .f32) = nextV X0 X1 X2 X3 X4 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
        ∧ r.2.sem = fun _ => 0 :=
  (θ_run defs _ _).mono (fun r h => ⟨fun c => (h c).2.2.2.2, sem_eq_zero_of_no_sems (by decide) r.2⟩)
    (Cert.AdamMemKvSpecIdeal.Value.run m g)

end reference

/-- Over the extended reals the call's four results are the reference's. -/
theorem algebraic : Cert.algebraic_AdamMemKvIdeal_AdamMemKvSpecIdeal := by
  pair_intro
  · run_from run m g
  · run_from Cert.AdamMemKvSpecIdeal.Value.run m' g'

    · exact ref_grad _ _ _ _ _
    · exact ref_change _ _ _ _ _
    · exact ref_nextM _ _ _ _ _
    · exact ref_nextV _ _ _ _ _

end Cert.AdamMemKvProof

end
-- ==== Proof.Adam.AdamUp.lean ====
/- The optimiser's call for a_ffn_up and b_ffn_up: the gradient, the change and the moments, one block of rows at a grid point. -/
module

public import proofs.«01_k».proof.Proof.Gen.AdamUpIdeal.Frame
public import proofs.«01_k».proof.Proof.Gen.AdamUpSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamUpProof

open Idealize.ShloMosaic Idealize.ShloMosaic.TcCoe Idealize.SL.Sem

/-- The summed gradient, -/
def grad (X0 X1 X2 X3 X4 : Vec Ideal AdamUpIdeal.S1024x1408 .f32) : Vec Ideal AdamUpIdeal.S1024x1408 .f32 := fun i => X1 i + X2 i

/-- the change of the weight, -/
def change (X0 X1 X2 X3 X4 : Vec Ideal AdamUpIdeal.S1024x1408 .f32) : Vec Ideal AdamUpIdeal.S1024x1408 .f32 := fun i => Cert.AdamRule.change (X0 i) (X1 i + X2 i) (X3 i) (X4 i)

/-- the first moment -/
def nextM (X0 X1 X2 X3 X4 : Vec Ideal AdamUpIdeal.S1024x1408 .f32) : Vec Ideal AdamUpIdeal.S1024x1408 .f32 := fun i => Cert.AdamRule.nextM (X1 i + X2 i) (X3 i)

/-- and the second. -/
def nextV (X0 X1 X2 X3 X4 : Vec Ideal AdamUpIdeal.S1024x1408 .f32) : Vec Ideal AdamUpIdeal.S1024x1408 .f32 := fun i => Cert.AdamRule.nextV (X1 i + X2 i) (X4 i)

section kernel
open Cert.AdamUpIdeal Cert.AdamUpIdeal.Gen

variable (m : (ℓ : Loc nD τ sig) → Buf (Elt Ideal) ℓ) (c : Dev nD)

abbrev A0 : Vec Ideal S1024x1408 .f32 := m ((c : Thread nD τ).loc main_arg0)
abbrev A1 : Vec Ideal S1024x1408 .f32 := m ((c : Thread nD τ).loc main_arg1)
abbrev A2 : Vec Ideal S1024x1408 .f32 := m ((c : Thread nD τ).loc main_arg2)
abbrev A3 : Vec Ideal S1024x1408 .f32 := m ((c : Thread nD τ).loc main_arg3)
abbrev A4 : Vec Ideal S1024x1408 .f32 := m ((c : Thread nD τ).loc main_arg4)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

theorem final_grad : (dats m 0 c).arrAt 5 (cfgs 0).N = grad (A0 m c) (A1 m c) (A2 m c) (A3 m c) (A4 m c) := by
  refine (dats m 0 c).arrAt_eq_of_covers 5 _ (by decide +kernel) fun t hf y => ?_
  blk_simp
  rw [after0_5]
  frame_out
  pointwise [k0_pay1, k0_pay2, k0_pay3, k0_pay4, grad, AdamRule.change, AdamRule.nextM, AdamRule.nextV, AdamRule.lit]
  blk_point [iblk, V, idx t]

theorem final_change : (dats m 0 c).arrAt 6 (cfgs 0).N = change (A0 m c) (A1 m c) (A2 m c) (A3 m c) (A4 m c) := by
  refine (dats m 0 c).arrAt_eq_of_covers 6 _ (by decide +kernel) fun t hf y => ?_
  blk_simp
  rw [after0_6]
  frame_out
  pointwise [k0_pay1, k0_pay2, k0_pay3, k0_pay4, change, AdamRule.change, AdamRule.nextM, AdamRule.nextV, AdamRule.lit]
  blk_point [iblk, V, idx t]

theorem final_nextM : (dats m 0 c).arrAt 7 (cfgs 0).N = nextM (A0 m c) (A1 m c) (A2 m c) (A3 m c) (A4 m c) := by
  refine (dats m 0 c).arrAt_eq_of_covers 7 _ (by decide +kernel) fun t hf y => ?_
  blk_simp
  rw [after0_7]
  frame_out
  pointwise [k0_pay1, k0_pay2, k0_pay3, k0_pay4, nextM, AdamRule.change, AdamRule.nextM, AdamRule.nextV, AdamRule.lit]
  blk_point [iblk, V, idx t]

theorem final_nextV : (dats m 0 c).arrAt 8 (cfgs 0).N = nextV (A0 m c) (A1 m c) (A2 m c) (A3 m c) (A4 m c) := by
  refine (dats m 0 c).arrAt_eq_of_covers 8 _ (by decide +kernel) fun t hf y => ?_
  blk_simp
  rw [after0_8]
  frame_out
  pointwise [k0_pay1, k0_pay2, k0_pay3, k0_pay4, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c) (A4 m c)
    ∧ r.2.mem ((c : Thread nD τ).loc main_v0_1) = change (A0 m c) (A1 m c) (A2 m c) (A3 m c) (A4 m c)
    ∧ r.2.mem ((c : Thread nD τ).loc main_v0_2) = nextM (A0 m c) (A1 m c) (A2 m c) (A3 m c) (A4 m c)
    ∧ r.2.mem ((c : Thread nD τ).loc main_v0_3) = nextV (A0 m c) (A1 m c) (A2 m c) (A3 m c) (A4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_grad m c),
      ((h c).1 6).trans (final_change m c),
      ((h c).1 7).trans (final_nextM m c),
      ((h c).1 8).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end kernel

section reference
open Cert.AdamUpSpecIdeal Cert.AdamUpSpecIdeal.Gen

theorem ref_grad (X0 X1 X2 X3 X4 : Vec Ideal S1024x1408 .f32) :
    (addf X1 X2 : FVec Ideal S1024x1408 .f32) = grad X0 X1 X2 X3 X4 := by
  funext i
  pointwise [grad, AdamRule.change, AdamRule.nextM, AdamRule.nextV, AdamRule.lit]

theorem ref_change (X0 X1 X2 X3 X4 : Vec Ideal S1024x1408 .f32) :
    (mulf (broadcastInDim S1024x1408 ![] bcast_S_S1024x1408 (constant S_ .f32 0xBA83126F#32)) (addf (Host.divf (Host.divf (addf (mulf (broadcastInDim S1024x1408 ![] bcast_S_S1024x1408 (constant S_ .f32 0x3F666666#32)) X3) (mulf (broadcastInDim S1024x1408 ![] bcast_S_S1024x1408 (constant S_ .f32 0x3DCCCCCD#32)) (addf X1 X2))) (broadcastInDim S1024x1408 ![] bcast_S_S1024x1408 (constant S_ .f32 0x3F26BD02#32))) (addf (Host.sqrt (Host.divf (addf (mulf (broadcastInDim S1024x1408 ![] bcast_S_S1024x1408 (constant S_ .f32 0x3F7FBE77#32)) X4) (mulf (broadcastInDim S1024x1408 ![] bcast_S_S1024x1408 (constant S_ .f32 0x3A83126F#32)) (mulf (addf X1 X2) (addf X1 X2)))) (broadcastInDim S1024x1408 ![] bcast_S_S1024x1408 (constant S_ .f32 0x3C231ACC#32)))) (broadcastInDim S1024x1408 ![] bcast_S_S1024x1408 (constant S_ .f32 0x322BCC77#32)))) (mulf (broadcastInDim S1024x1408 ![] bcast_S_S1024x1408 (constant S_ .f32 0x3C23D70A#32)) X0)) : FVec Ideal S1024x1408 .f32) = change X0 X1 X2 X3 X4 := by
  funext i
  pointwise [change, AdamRule.change, AdamRule.nextM, AdamRule.nextV, AdamRule.lit]

theorem ref_nextM (X0 X1 X2 X3 X4 : Vec Ideal S1024x1408 .f32) :
    (addf (mulf (broadcastInDim S1024x1408 ![] bcast_S_S1024x1408 (constant S_ .f32 0x3F666666#32)) X3) (mulf (broadcastInDim S1024x1408 ![] bcast_S_S1024x1408 (constant S_ .f32 0x3DCCCCCD#32)) (addf X1 X2)) : FVec Ideal S1024x1408 .f32) = nextM X0 X1 X2 X3 X4 := by
  funext i
  pointwise [nextM, AdamRule.change, AdamRule.nextM, AdamRule.nextV, AdamRule.lit]

theorem ref_nextV (X0 X1 X2 X3 X4 : Vec Ideal S1024x1408 .f32) :
    (addf (mulf (broadcastInDim S1024x1408 ![] bcast_S_S1024x1408 (constant S_ .f32 0x3F7FBE77#32)) X4) (mulf (broadcastInDim S1024x1408 ![] bcast_S_S1024x1408 (constant S_ .f32 0x3A83126F#32)) (mulf (addf X1 X2) (addf X1 X2))) : FVec Ideal S1024x1408 .f32) = nextV X0 X1 X2 X3 X4 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
        ∧ r.2.sem = fun _ => 0 :=
  (θ_run defs _ _).mono (fun r h => ⟨fun c => (h c).2.2.2.2, sem_eq_zero_of_no_sems (by decide) r.2⟩)
    (Cert.AdamUpSpecIdeal.Value.run m g)

end reference

/-- Over the extended reals the call's four results are the reference's. -/
theorem algebraic : Cert.algebraic_AdamUpIdeal_AdamUpSpecIdeal := by
  pair_intro
  · run_from run m g
  · run_from Cert.AdamUpSpecIdeal.Value.run m' g'

    · exact ref_grad _ _ _ _ _
    · exact ref_change _ _ _ _ _
    · exact ref_nextM _ _ _ _ _
    · exact ref_nextV _ _ _ _ _

end Cert.AdamUpProof

end
-- ==== Proof.Adam.AdamDown.lean ====
/- The optimiser's call for a_ffn_down and b_ffn_down: the gradient, the change and the moments, one block of rows at a grid point. -/
module

public import proofs.«01_k».proof.Proof.Gen.AdamDownIdeal.Frame
public import proofs.«01_k».proof.Proof.Gen.AdamDownSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamDownProof

open Idealize.ShloMosaic Idealize.ShloMosaic.TcCoe Idealize.SL.Sem

/-- The summed gradient, -/
def grad (X0 X1 X2 X3 X4 : Vec Ideal AdamDownIdeal.S704x1024 .f32) : Vec Ideal AdamDownIdeal.S704x1024 .f32 := fun i => X1 i + X2 i

/-- the change of the weight, -/
def change (X0 X1 X2 X3 X4 : Vec Ideal AdamDownIdeal.S704x1024 .f32) : Vec Ideal AdamDownIdeal.S704x1024 .f32 := fun i => Cert.AdamRule.change (X0 i) (X1 i + X2 i) (X3 i) (X4 i)

/-- the first moment -/
def nextM (X0 X1 X2 X3 X4 : Vec Ideal AdamDownIdeal.S704x1024 .f32) : Vec Ideal AdamDownIdeal.S704x1024 .f32 := fun i => Cert.AdamRule.nextM (X1 i + X2 i) (X3 i)

/-- and the second. -/
def nextV (X0 X1 X2 X3 X4 : Vec Ideal AdamDownIdeal.S704x1024 .f32) : Vec Ideal AdamDownIdeal.S704x1024 .f32 := fun i => Cert.AdamRule.nextV (X1 i + X2 i) (X4 i)

section kernel
open Cert.AdamDownIdeal Cert.AdamDownIdeal.Gen

variable (m : (ℓ : Loc nD τ sig) → Buf (Elt Ideal) ℓ) (c : Dev nD)

abbrev A0 : Vec Ideal S704x1024 .f32 := m ((c : Thread nD τ).loc main_arg0)
abbrev A1 : Vec Ideal S704x1024 .f32 := m ((c : Thread nD τ).loc main_arg1)
abbrev A2 : Vec Ideal S704x1024 .f32 := m ((c : Thread nD τ).loc main_arg2)
abbrev A3 : Vec Ideal S704x1024 .f32 := m ((c : Thread nD τ).loc main_arg3)
abbrev A4 : Vec Ideal S704x1024 .f32 := m ((c : Thread nD τ).loc main_arg4)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

theorem final_grad : (dats m 0 c).arrAt 5 (cfgs 0).N = grad (A0 m c) (A1 m c) (A2 m c) (A3 m c) (A4 m c) := by
  refine (dats m 0 c).arrAt_eq_of_covers 5 _ (by decide +kernel) fun t hf y => ?_
  blk_simp
  rw [after0_5]
  frame_out
  pointwise [k0_pay1, k0_pay2, k0_pay3, k0_pay4, grad, AdamRule.change, AdamRule.nextM, AdamRule.nextV, AdamRule.lit]
  blk_point [iblk, V, idx t]

theorem final_change : (dats m 0 c).arrAt 6 (cfgs 0).N = change (A0 m c) (A1 m c) (A2 m c) (A3 m c) (A4 m c) := by
  refine (dats m 0 c).arrAt_eq_of_covers 6 _ (by decide +kernel) fun t hf y => ?_
  blk_simp
  rw [after0_6]
  frame_out
  pointwise [k0_pay1, k0_pay2, k0_pay3, k0_pay4, change, AdamRule.change, AdamRule.nextM, AdamRule.nextV, AdamRule.lit]
  blk_point [iblk, V, idx t]

theorem final_nextM : (dats m 0 c).arrAt 7 (cfgs 0).N = nextM (A0 m c) (A1 m c) (A2 m c) (A3 m c) (A4 m c) := by
  refine (dats m 0 c).arrAt_eq_of_covers 7 _ (by decide +kernel) fun t hf y => ?_
  blk_simp
  rw [after0_7]
  frame_out
  pointwise [k0_pay1, k0_pay2, k0_pay3, k0_pay4, nextM, AdamRule.change, AdamRule.nextM, AdamRule.nextV, AdamRule.lit]
  blk_point [iblk, V, idx t]

theorem final_nextV : (dats m 0 c).arrAt 8 (cfgs 0).N = nextV (A0 m c) (A1 m c) (A2 m c) (A3 m c) (A4 m c) := by
  refine (dats m 0 c).arrAt_eq_of_covers 8 _ (by decide +kernel) fun t hf y => ?_
  blk_simp
  rw [after0_8]
  frame_out
  pointwise [k0_pay1, k0_pay2, k0_pay3, k0_pay4, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c) (A4 m c)
    ∧ r.2.mem ((c : Thread nD τ).loc main_v0_1) = change (A0 m c) (A1 m c) (A2 m c) (A3 m c) (A4 m c)
    ∧ r.2.mem ((c : Thread nD τ).loc main_v0_2) = nextM (A0 m c) (A1 m c) (A2 m c) (A3 m c) (A4 m c)
    ∧ r.2.mem ((c : Thread nD τ).loc main_v0_3) = nextV (A0 m c) (A1 m c) (A2 m c) (A3 m c) (A4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_grad m c),
      ((h c).1 6).trans (final_change m c),
      ((h c).1 7).trans (final_nextM m c),
      ((h c).1 8).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end kernel

section reference
open Cert.AdamDownSpecIdeal Cert.AdamDownSpecIdeal.Gen

theorem ref_grad (X0 X1 X2 X3 X4 : Vec Ideal S704x1024 .f32) :
    (addf X1 X2 : FVec Ideal S704x1024 .f32) = grad X0 X1 X2 X3 X4 := by
  funext i
  pointwise [grad, AdamRule.change, AdamRule.nextM, AdamRule.nextV, AdamRule.lit]

theorem ref_change (X0 X1 X2 X3 X4 : Vec Ideal S704x1024 .f32) :
    (mulf (broadcastInDim S704x1024 ![] bcast_S_S704x1024 (constant S_ .f32 0xBA83126F#32)) (addf (Host.divf (Host.divf (addf (mulf (broadcastInDim S704x1024 ![] bcast_S_S704x1024 (constant S_ .f32 0x3F666666#32)) X3) (mulf (broadcastInDim S704x1024 ![] bcast_S_S704x1024 (constant S_ .f32 0x3DCCCCCD#32)) (addf X1 X2))) (broadcastInDim S704x1024 ![] bcast_S_S704x1024 (constant S_ .f32 0x3F26BD02#32))) (addf (Host.sqrt (Host.divf (addf (mulf (broadcastInDim S704x1024 ![] bcast_S_S704x1024 (constant S_ .f32 0x3F7FBE77#32)) X4) (mulf (broadcastInDim S704x1024 ![] bcast_S_S704x1024 (constant S_ .f32 0x3A83126F#32)) (mulf (addf X1 X2) (addf X1 X2)))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) X0)) : FVec Ideal S704x1024 .f32) = change X0 X1 X2 X3 X4 := by
  funext i
  pointwise [change, AdamRule.change, AdamRule.nextM, AdamRule.nextV, AdamRule.lit]

theorem ref_nextM (X0 X1 X2 X3 X4 : Vec Ideal S704x1024 .f32) :
    (addf (mulf (broadcastInDim S704x1024 ![] bcast_S_S704x1024 (constant S_ .f32 0x3F666666#32)) X3) (mulf (broadcastInDim S704x1024 ![] bcast_S_S704x1024 (constant S_ .f32 0x3DCCCCCD#32)) (addf X1 X2)) : FVec Ideal S704x1024 .f32) = nextM X0 X1 X2 X3 X4 := by
  funext i
  pointwise [nextM, AdamRule.change, AdamRule.nextM, AdamRule.nextV, AdamRule.lit]

theorem ref_nextV (X0 X1 X2 X3 X4 : Vec Ideal S704x1024 .f32) :
    (addf (mulf (broadcastInDim S704x1024 ![] bcast_S_S704x1024 (constant S_ .f32 0x3F7FBE77#32)) X4) (mulf (broadcastInDim S704x1024 ![] bcast_S_S704x1024 (constant S_ .f32 0x3A83126F#32)) (mulf (addf X1 X2) (addf X1 X2))) : FVec Ideal S704x1024 .f32) = nextV X0 X1 X2 X3 X4 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
        ∧ r.2.sem = fun _ => 0 :=
  (θ_run defs _ _).mono (fun r h => ⟨fun c => (h c).2.2.2.2, sem_eq_zero_of_no_sems (by decide) r.2⟩)
    (Cert.AdamDownSpecIdeal.Value.run m g)

end reference

/-- Over the extended reals the call's four results are the reference's. -/
theorem algebraic : Cert.algebraic_AdamDownIdeal_AdamDownSpecIdeal := by
  pair_intro
  · run_from run m g
  · run_from Cert.AdamDownSpecIdeal.Value.run m' g'

    · exact ref_grad _ _ _ _ _
    · exact ref_change _ _ _ _ _
    · exact ref_nextM _ _ _ _ _
    · exact ref_nextV _ _ _ _ _

end Cert.AdamDownProof

end
-- ==== Proof.Adam.AdamKv.lean ====
/- The optimiser's call for w_kv_shared: the gradient, the change and the moments, one block of rows at a grid point. -/
module

public import proofs.«01_k».proof.Proof.Gen.AdamKvIdeal.Frame
public import proofs.«01_k».proof.Proof.Gen.AdamKvSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamKvProof

open Idealize.ShloMosaic Idealize.ShloMosaic.TcCoe Idealize.SL.Sem

/-- The summed gradient, -/
def grad (X0 X1 X2 X3 X4 : Vec Ideal AdamKvIdeal.S1024x384 .f32) : Vec Ideal AdamKvIdeal.S1024x384 .f32 := fun i => X1 i + X2 i

/-- the change of the weight, -/
def change (X0 X1 X2 X3 X4 : Vec Ideal AdamKvIdeal.S1024x384 .f32) : Vec Ideal AdamKvIdeal.S1024x384 .f32 := fun i => Cert.AdamRule.change (X0 i) (X1 i + X2 i) (X3 i) (X4 i)

/-- the first moment -/
def nextM (X0 X1 X2 X3 X4 : Vec Ideal AdamKvIdeal.S1024x384 .f32) : Vec Ideal AdamKvIdeal.S1024x384 .f32 := fun i => Cert.AdamRule.nextM (X1 i + X2 i) (X3 i)

/-- and the second. -/
def nextV (X0 X1 X2 X3 X4 : Vec Ideal AdamKvIdeal.S1024x384 .f32) : Vec Ideal AdamKvIdeal.S1024x384 .f32 := fun i => Cert.AdamRule.nextV (X1 i + X2 i) (X4 i)

section kernel
open Cert.AdamKvIdeal Cert.AdamKvIdeal.Gen

variable (m : (ℓ : Loc nD τ sig) → Buf (Elt Ideal) ℓ) (c : Dev nD)

abbrev A0 : Vec Ideal S1024x384 .f32 := m ((c : Thread nD τ).loc main_arg0)
abbrev A1 : Vec Ideal S1024x384 .f32 := m ((c : Thread nD τ).loc main_arg1)
abbrev A2 : Vec Ideal S1024x384 .f32 := m ((c : Thread nD τ).loc main_arg2)
abbrev A3 : Vec Ideal S1024x384 .f32 := m ((c : Thread nD τ).loc main_arg3)
abbrev A4 : Vec Ideal S1024x384 .f32 := m ((c : Thread nD τ).loc main_arg4)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

theorem final_grad : (dats m 0 c).arrAt 5 (cfgs 0).N = grad (A0 m c) (A1 m c) (A2 m c) (A3 m c) (A4 m c) := by
  refine (dats m 0 c).arrAt_eq_of_covers 5 _ (by decide +kernel) fun t hf y => ?_
  blk_simp
  rw [after0_5]
  frame_out
  pointwise [k0_pay1, k0_pay2, k0_pay3, k0_pay4, grad, AdamRule.change, AdamRule.nextM, AdamRule.nextV, AdamRule.lit]
  blk_point [iblk, V, idx t]

theorem final_change : (dats m 0 c).arrAt 6 (cfgs 0).N = change (A0 m c) (A1 m c) (A2 m c) (A3 m c) (A4 m c) := by
  refine (dats m 0 c).arrAt_eq_of_covers 6 _ (by decide +kernel) fun t hf y => ?_
  blk_simp
  rw [after0_6]
  frame_out
  pointwise [k0_pay1, k0_pay2, k0_pay3, k0_pay4, change, AdamRule.change, AdamRule.nextM, AdamRule.nextV, AdamRule.lit]
  blk_point [iblk, V, idx t]

theorem final_nextM : (dats m 0 c).arrAt 7 (cfgs 0).N = nextM (A0 m c) (A1 m c) (A2 m c) (A3 m c) (A4 m c) := by
  refine (dats m 0 c).arrAt_eq_of_covers 7 _ (by decide +kernel) fun t hf y => ?_
  blk_simp
  rw [after0_7]
  frame_out
  pointwise [k0_pay1, k0_pay2, k0_pay3, k0_pay4, nextM, AdamRule.change, AdamRule.nextM, AdamRule.nextV, AdamRule.lit]
  blk_point [iblk, V, idx t]

theorem final_nextV : (dats m 0 c).arrAt 8 (cfgs 0).N = nextV (A0 m c) (A1 m c) (A2 m c) (A3 m c) (A4 m c) := by
  refine (dats m 0 c).arrAt_eq_of_covers 8 _ (by decide +kernel) fun t hf y => ?_
  blk_simp
  rw [after0_8]
  frame_out
  pointwise [k0_pay1, k0_pay2, k0_pay3, k0_pay4, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c) (A4 m c)
    ∧ r.2.mem ((c : Thread nD τ).loc main_v0_1) = change (A0 m c) (A1 m c) (A2 m c) (A3 m c) (A4 m c)
    ∧ r.2.mem ((c : Thread nD τ).loc main_v0_2) = nextM (A0 m c) (A1 m c) (A2 m c) (A3 m c) (A4 m c)
    ∧ r.2.mem ((c : Thread nD τ).loc main_v0_3) = nextV (A0 m c) (A1 m c) (A2 m c) (A3 m c) (A4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_grad m c),
      ((h c).1 6).trans (final_change m c),
      ((h c).1 7).trans (final_nextM m c),
      ((h c).1 8).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end kernel

section reference
open Cert.AdamKvSpecIdeal Cert.AdamKvSpecIdeal.Gen

theorem ref_grad (X0 X1 X2 X3 X4 : Vec Ideal S1024x384 .f32) :
    (addf X1 X2 : FVec Ideal S1024x384 .f32) = grad X0 X1 X2 X3 X4 := by
  funext i
  pointwise [grad, AdamRule.change, AdamRule.nextM, AdamRule.nextV, AdamRule.lit]

theorem ref_change (X0 X1 X2 X3 X4 : Vec Ideal S1024x384 .f32) :
    (mulf (broadcastInDim S1024x384 ![] bcast_S_S1024x384 (constant S_ .f32 0xBA83126F#32)) (addf (Host.divf (Host.divf (addf (mulf (broadcastInDim S1024x384 ![] bcast_S_S1024x384 (constant S_ .f32 0x3F666666#32)) X3) (mulf (broadcastInDim S1024x384 ![] bcast_S_S1024x384 (constant S_ .f32 0x3DCCCCCD#32)) (addf X1 X2))) (broadcastInDim S1024x384 ![] bcast_S_S1024x384 (constant S_ .f32 0x3F26BD02#32))) (addf (Host.sqrt (Host.divf (addf (mulf (broadcastInDim S1024x384 ![] bcast_S_S1024x384 (constant S_ .f32 0x3F7FBE77#32)) X4) (mulf (broadcastInDim S1024x384 ![] bcast_S_S1024x384 (constant S_ .f32 0x3A83126F#32)) (mulf (addf X1 X2) (addf X1 X2)))) (broadcastInDim S1024x384 ![] bcast_S_S1024x384 (constant S_ .f32 0x3C231ACC#32)))) (broadcastInDim S1024x384 ![] bcast_S_S1024x384 (constant S_ .f32 0x322BCC77#32)))) (mulf (broadcastInDim S1024x384 ![] bcast_S_S1024x384 (constant S_ .f32 0x3C23D70A#32)) X0)) : FVec Ideal S1024x384 .f32) = change X0 X1 X2 X3 X4 := by
  funext i
  pointwise [change, AdamRule.change, AdamRule.nextM, AdamRule.nextV, AdamRule.lit]

theorem ref_nextM (X0 X1 X2 X3 X4 : Vec Ideal S1024x384 .f32) :
    (addf (mulf (broadcastInDim S1024x384 ![] bcast_S_S1024x384 (constant S_ .f32 0x3F666666#32)) X3) (mulf (broadcastInDim S1024x384 ![] bcast_S_S1024x384 (constant S_ .f32 0x3DCCCCCD#32)) (addf X1 X2)) : FVec Ideal S1024x384 .f32) = nextM X0 X1 X2 X3 X4 := by
  funext i
  pointwise [nextM, AdamRule.change, AdamRule.nextM, AdamRule.nextV, AdamRule.lit]

theorem ref_nextV (X0 X1 X2 X3 X4 : Vec Ideal S1024x384 .f32) :
    (addf (mulf (broadcastInDim S1024x384 ![] bcast_S_S1024x384 (constant S_ .f32 0x3F7FBE77#32)) X4) (mulf (broadcastInDim S1024x384 ![] bcast_S_S1024x384 (constant S_ .f32 0x3A83126F#32)) (mulf (addf X1 X2) (addf X1 X2))) : FVec Ideal S1024x384 .f32) = nextV X0 X1 X2 X3 X4 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
        ∧ r.2.sem = fun _ => 0 :=
  (θ_run defs _ _).mono (fun r h => ⟨fun c => (h c).2.2.2.2, sem_eq_zero_of_no_sems (by decide) r.2⟩)
    (Cert.AdamKvSpecIdeal.Value.run m g)

end reference

/-- Over the extended reals the call's four results are the reference's. -/
theorem algebraic : Cert.algebraic_AdamKvIdeal_AdamKvSpecIdeal := by
  pair_intro
  · run_from run m g
  · run_from Cert.AdamKvSpecIdeal.Value.run m' g'

    · exact ref_grad _ _ _ _ _
    · exact ref_change _ _ _ _ _
    · exact ref_nextM _ _ _ _ _
    · exact ref_nextV _ _ _ _ _

end Cert.AdamKvProof

end
-- ==== Proof.Adam.AdamNormShard.lean ====
/- The optimiser's call for a_norm_attn, a_norm_mem and a_norm_ffn: the gradient, the change and the moments, one block of rows at a grid point. -/
module

public import proofs.«01_k».proof.Proof.Gen.AdamNormShardIdeal.Frame
public import proofs.«01_k».proof.Proof.Gen.AdamNormShardSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamNormShardProof

open Idealize.ShloMosaic Idealize.ShloMosaic.TcCoe Idealize.SL.Sem

/-- The gradient, -/
def grad (X0 X1 X2 X3 : Vec Ideal AdamNormShardIdeal.S1x256 .f32) : Vec Ideal AdamNormShardIdeal.S1x256 .f32 := fun i => X1 i

/-- the change of the weight, -/
def change (X0 X1 X2 X3 : Vec Ideal AdamNormShardIdeal.S1x256 .f32) : Vec Ideal AdamNormShardIdeal.S1x256 .f32 := fun i => Cert.AdamRule.change (X0 i) (X1 i) (X2 i) (X3 i)

/-- the first moment -/
def nextM (X0 X1 X2 X3 : Vec Ideal AdamNormShardIdeal.S1x256 .f32) : Vec Ideal AdamNormShardIdeal.S1x256 .f32 := fun i => Cert.AdamRule.nextM (X1 i) (X2 i)

/-- and the second. -/
def nextV (X0 X1 X2 X3 : Vec Ideal AdamNormShardIdeal.S1x256 .f32) : Vec Ideal AdamNormShardIdeal.S1x256 .f32 := fun i => Cert.AdamRule.nextV (X1 i) (X3 i)

section kernel
open Cert.AdamNormShardIdeal Cert.AdamNormShardIdeal.Gen

variable (m : (ℓ : Loc nD τ sig) → Buf (Elt Ideal) ℓ) (c : Dev nD)

abbrev A0 : Vec Ideal S1x256 .f32 := m ((c : Thread nD τ).loc main_arg0)
abbrev A1 : Vec Ideal S1x256 .f32 := m ((c : Thread nD τ).loc main_arg1)
abbrev A2 : Vec Ideal S1x256 .f32 := m ((c : Thread nD τ).loc main_arg2)
abbrev A3 : Vec Ideal S1x256 .f32 := m ((c : Thread nD τ).loc main_arg3)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

theorem final_grad : (dats m 0 c).arrAt 4 (cfgs 0).N = grad (A0 m c) (A1 m c) (A2 m c) (A3 m c) := by
  refine (dats m 0 c).arrAt_eq_of_covers 4 _ (by decide +kernel) fun t hf y => ?_
  blk_simp
  rw [after0_4]
  frame_out
  pointwise [k0_pay1, k0_pay2, k0_pay3, grad, AdamRule.change, AdamRule.nextM, AdamRule.nextV, AdamRule.lit]
  blk_point [iblk, V, idx t]

theorem final_change : (dats m 0 c).arrAt 5 (cfgs 0).N = change (A0 m c) (A1 m c) (A2 m c) (A3 m c) := by
  refine (dats m 0 c).arrAt_eq_of_covers 5 _ (by decide +kernel) fun t hf y => ?_
  blk_simp
  rw [after0_5]
  frame_out
  pointwise [k0_pay1, k0_pay2, k0_pay3, change, AdamRule.change, AdamRule.nextM, AdamRule.nextV, AdamRule.lit]
  blk_point [iblk, V, idx t]

theorem final_nextM : (dats m 0 c).arrAt 6 (cfgs 0).N = nextM (A0 m c) (A1 m c) (A2 m c) (A3 m c) := by
  refine (dats m 0 c).arrAt_eq_of_covers 6 _ (by decide +kernel) fun t hf y => ?_
  blk_simp
  rw [after0_6]
  frame_out
  pointwise [k0_pay1, k0_pay2, k0_pay3, nextM, AdamRule.change, AdamRule.nextM, AdamRule.nextV, AdamRule.lit]
  blk_point [iblk, V, idx t]

theorem final_nextV : (dats m 0 c).arrAt 7 (cfgs 0).N = nextV (A0 m c) (A1 m c) (A2 m c) (A3 m c) := by
  refine (dats m 0 c).arrAt_eq_of_covers 7 _ (by decide +kernel) fun t hf y => ?_
  blk_simp
  rw [after0_7]
  frame_out
  pointwise [k0_pay1, k0_pay2, k0_pay3, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c)
    ∧ r.2.mem ((c : Thread nD τ).loc main_v0_1) = change (A0 m c) (A1 m c) (A2 m c) (A3 m c)
    ∧ r.2.mem ((c : Thread nD τ).loc main_v0_2) = nextM (A0 m c) (A1 m c) (A2 m c) (A3 m c)
    ∧ r.2.mem ((c : Thread nD τ).loc main_v0_3) = nextV (A0 m c) (A1 m c) (A2 m c) (A3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1 4).trans (final_grad m c),
      ((h c).1 5).trans (final_change m c),
      ((h c).1 6).trans (final_nextM m c),
      ((h c).1 7).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end kernel

section reference
open Cert.AdamNormShardSpecIdeal Cert.AdamNormShardSpecIdeal.Gen

theorem ref_grad (X0 X1 X2 X3 : Vec Ideal S1x256 .f32) :
    (X1 : FVec Ideal S1x256 .f32) = grad X0 X1 X2 X3 := by
  funext i
  pointwise [grad, AdamRule.change, AdamRule.nextM, AdamRule.nextV, AdamRule.lit]

theorem ref_change (X0 X1 X2 X3 : Vec Ideal S1x256 .f32) :
    (mulf (broadcastInDim S1x256 ![] bcast_S_S1x256 (constant S_ .f32 0xBA83126F#32)) (addf (Host.divf (Host.divf (addf (mulf (broadcastInDim S1x256 ![] bcast_S_S1x256 (constant S_ .f32 0x3F666666#32)) X2) (mulf (broadcastInDim S1x256 ![] bcast_S_S1x256 (constant S_ .f32 0x3DCCCCCD#32)) X1)) (broadcastInDim S1x256 ![] bcast_S_S1x256 (constant S_ .f32 0x3F26BD02#32))) (addf (Host.sqrt (Host.divf (addf (mulf (broadcastInDim S1x256 ![] bcast_S_S1x256 (constant S_ .f32 0x3F7FBE77#32)) X3) (mulf (broadcastInDim S1x256 ![] bcast_S_S1x256 (constant S_ .f32 0x3A83126F#32)) (mulf X1 X1))) (broadcastInDim S1x256 ![] bcast_S_S1x256 (constant S_ .f32 0x3C231ACC#32)))) (broadcastInDim S1x256 ![] bcast_S_S1x256 (constant S_ .f32 0x322BCC77#32)))) (mulf (broadcastInDim S1x256 ![] bcast_S_S1x256 (constant S_ .f32 0x3C23D70A#32)) X0)) : FVec Ideal S1x256 .f32) = change X0 X1 X2 X3 := by
  funext i
  pointwise [change, AdamRule.change, AdamRule.nextM, AdamRule.nextV, AdamRule.lit]

theorem ref_nextM (X0 X1 X2 X3 : Vec Ideal S1x256 .f32) :
    (addf (mulf (broadcastInDim S1x256 ![] bcast_S_S1x256 (constant S_ .f32 0x3F666666#32)) X2) (mulf (broadcastInDim S1x256 ![] bcast_S_S1x256 (constant S_ .f32 0x3DCCCCCD#32)) X1) : FVec Ideal S1x256 .f32) = nextM X0 X1 X2 X3 := by
  funext i
  pointwise [nextM, AdamRule.change, AdamRule.nextM, AdamRule.nextV, AdamRule.lit]

theorem ref_nextV (X0 X1 X2 X3 : Vec Ideal S1x256 .f32) :
    (addf (mulf (broadcastInDim S1x256 ![] bcast_S_S1x256 (constant S_ .f32 0x3F7FBE77#32)) X3) (mulf (broadcastInDim S1x256 ![] bcast_S_S1x256 (constant S_ .f32 0x3A83126F#32)) (mulf X1 X1)) : FVec Ideal S1x256 .f32) = nextV X0 X1 X2 X3 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
        ∧ r.2.sem = fun _ => 0 :=
  (θ_run defs _ _).mono (fun r h => ⟨fun c => (h c).2.2.2.2, sem_eq_zero_of_no_sems (by decide) r.2⟩)
    (Cert.AdamNormShardSpecIdeal.Value.run m g)

end reference

/-- Over the extended reals the call's four results are the reference's. -/
theorem algebraic : Cert.algebraic_AdamNormShardIdeal_AdamNormShardSpecIdeal := by
  pair_intro
  · run_from run m g
  · run_from Cert.AdamNormShardSpecIdeal.Value.run m' g'

    · exact ref_grad _ _ _ _
    · exact ref_change _ _ _ _
    · exact ref_nextM _ _ _ _
    · exact ref_nextV _ _ _ _

end Cert.AdamNormShardProof

end
-- ==== Proof.Adam.AdamConv.lean ====
/- The optimiser's call for a_ffn_conv and b_ffn_conv: the gradient, the change and the moments, one block of rows at a grid point. -/
module

public import proofs.«01_k».proof.Proof.Gen.AdamConvIdeal.Frame
public import proofs.«01_k».proof.Proof.Gen.AdamConvSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamConvProof

open Idealize.ShloMosaic Idealize.ShloMosaic.TcCoe Idealize.SL.Sem

/-- The gradient, -/
def grad (X0 X1 X2 X3 : Vec Ideal AdamConvIdeal.S3x1408 .f32) : Vec Ideal AdamConvIdeal.S3x1408 .f32 := fun i => X1 i

/-- the change of the weight, -/
def change (X0 X1 X2 X3 : Vec Ideal AdamConvIdeal.S3x1408 .f32) : Vec Ideal AdamConvIdeal.S3x1408 .f32 := fun i => Cert.AdamRule.change (X0 i) (X1 i) (X2 i) (X3 i)

/-- the first moment -/
def nextM (X0 X1 X2 X3 : Vec Ideal AdamConvIdeal.S3x1408 .f32) : Vec Ideal AdamConvIdeal.S3x1408 .f32 := fun i => Cert.AdamRule.nextM (X1 i) (X2 i)

/-- and the second. -/
def nextV (X0 X1 X2 X3 : Vec Ideal AdamConvIdeal.S3x1408 .f32) : Vec Ideal AdamConvIdeal.S3x1408 .f32 := fun i => Cert.AdamRule.nextV (X1 i) (X3 i)

section kernel
open Cert.AdamConvIdeal Cert.AdamConvIdeal.Gen

variable (m : (ℓ : Loc nD τ sig) → Buf (Elt Ideal) ℓ) (c : Dev nD)

abbrev A0 : Vec Ideal S3x1408 .f32 := m ((c : Thread nD τ).loc main_arg0)
abbrev A1 : Vec Ideal S3x1408 .f32 := m ((c : Thread nD τ).loc main_arg1)
abbrev A2 : Vec Ideal S3x1408 .f32 := m ((c : Thread nD τ).loc main_arg2)
abbrev A3 : Vec Ideal S3x1408 .f32 := m ((c : Thread nD τ).loc main_arg3)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

theorem final_grad : (dats m 0 c).arrAt 4 (cfgs 0).N = grad (A0 m c) (A1 m c) (A2 m c) (A3 m c) := by
  refine (dats m 0 c).arrAt_eq_of_covers 4 _ (by decide +kernel) fun t hf y => ?_
  blk_simp
  rw [after0_4]
  frame_out
  pointwise [k0_pay1, k0_pay2, k0_pay3, grad, AdamRule.change, AdamRule.nextM, AdamRule.nextV, AdamRule.lit]
  blk_point [iblk, V, idx t]

theorem final_change : (dats m 0 c).arrAt 5 (cfgs 0).N = change (A0 m c) (A1 m c) (A2 m c) (A3 m c) := by
  refine (dats m 0 c).arrAt_eq_of_covers 5 _ (by decide +kernel) fun t hf y => ?_
  blk_simp
  rw [after0_5]
  frame_out
  pointwise [k0_pay1, k0_pay2, k0_pay3, change, AdamRule.change, AdamRule.nextM, AdamRule.nextV, AdamRule.lit]
  blk_point [iblk, V, idx t]

theorem final_nextM : (dats m 0 c).arrAt 6 (cfgs 0).N = nextM (A0 m c) (A1 m c) (A2 m c) (A3 m c) := by
  refine (dats m 0 c).arrAt_eq_of_covers 6 _ (by decide +kernel) fun t hf y => ?_
  blk_simp
  rw [after0_6]
  frame_out
  pointwise [k0_pay1, k0_pay2, k0_pay3, nextM, AdamRule.change, AdamRule.nextM, AdamRule.nextV, AdamRule.lit]
  blk_point [iblk, V, idx t]

theorem final_nextV : (dats m 0 c).arrAt 7 (cfgs 0).N = nextV (A0 m c) (A1 m c) (A2 m c) (A3 m c) := by
  refine (dats m 0 c).arrAt_eq_of_covers 7 _ (by decide +kernel) fun t hf y => ?_
  blk_simp
  rw [after0_7]
  frame_out
  pointwise [k0_pay1, k0_pay2, k0_pay3, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c)
    ∧ r.2.mem ((c : Thread nD τ).loc main_v0_1) = change (A0 m c) (A1 m c) (A2 m c) (A3 m c)
    ∧ r.2.mem ((c : Thread nD τ).loc main_v0_2) = nextM (A0 m c) (A1 m c) (A2 m c) (A3 m c)
    ∧ r.2.mem ((c : Thread nD τ).loc main_v0_3) = nextV (A0 m c) (A1 m c) (A2 m c) (A3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1 4).trans (final_grad m c),
      ((h c).1 5).trans (final_change m c),
      ((h c).1 6).trans (final_nextM m c),
      ((h c).1 7).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end kernel

section reference
open Cert.AdamConvSpecIdeal Cert.AdamConvSpecIdeal.Gen

theorem ref_grad (X0 X1 X2 X3 : Vec Ideal S3x1408 .f32) :
    (X1 : FVec Ideal S3x1408 .f32) = grad X0 X1 X2 X3 := by
  funext i
  pointwise [grad, AdamRule.change, AdamRule.nextM, AdamRule.nextV, AdamRule.lit]

theorem ref_change (X0 X1 X2 X3 : Vec Ideal S3x1408 .f32) :
    (mulf (broadcastInDim S3x1408 ![] bcast_S_S3x1408 (constant S_ .f32 0xBA83126F#32)) (addf (Host.divf (Host.divf (addf (mulf (broadcastInDim S3x1408 ![] bcast_S_S3x1408 (constant S_ .f32 0x3F666666#32)) X2) (mulf (broadcastInDim S3x1408 ![] bcast_S_S3x1408 (constant S_ .f32 0x3DCCCCCD#32)) X1)) (broadcastInDim S3x1408 ![] bcast_S_S3x1408 (constant S_ .f32 0x3F26BD02#32))) (addf (Host.sqrt (Host.divf (addf (mulf (broadcastInDim S3x1408 ![] bcast_S_S3x1408 (constant S_ .f32 0x3F7FBE77#32)) X3) (mulf (broadcastInDim S3x1408 ![] bcast_S_S3x1408 (constant S_ .f32 0x3A83126F#32)) (mulf X1 X1))) (broadcastInDim S3x1408 ![] bcast_S_S3x1408 (constant S_ .f32 0x3C231ACC#32)))) (broadcastInDim S3x1408 ![] bcast_S_S3x1408 (constant S_ .f32 0x322BCC77#32)))) (mulf (broadcastInDim S3x1408 ![] bcast_S_S3x1408 (constant S_ .f32 0x3C23D70A#32)) X0)) : FVec Ideal S3x1408 .f32) = change X0 X1 X2 X3 := by
  funext i
  pointwise [change, AdamRule.change, AdamRule.nextM, AdamRule.nextV, AdamRule.lit]

theorem ref_nextM (X0 X1 X2 X3 : Vec Ideal S3x1408 .f32) :
    (addf (mulf (broadcastInDim S3x1408 ![] bcast_S_S3x1408 (constant S_ .f32 0x3F666666#32)) X2) (mulf (broadcastInDim S3x1408 ![] bcast_S_S3x1408 (constant S_ .f32 0x3DCCCCCD#32)) X1) : FVec Ideal S3x1408 .f32) = nextM X0 X1 X2 X3 := by
  funext i
  pointwise [nextM, AdamRule.change, AdamRule.nextM, AdamRule.nextV, AdamRule.lit]

theorem ref_nextV (X0 X1 X2 X3 : Vec Ideal S3x1408 .f32) :
    (addf (mulf (broadcastInDim S3x1408 ![] bcast_S_S3x1408 (constant S_ .f32 0x3F7FBE77#32)) X3) (mulf (broadcastInDim S3x1408 ![] bcast_S_S3x1408 (constant S_ .f32 0x3A83126F#32)) (mulf X1 X1)) : FVec Ideal S3x1408 .f32) = nextV X0 X1 X2 X3 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
        ∧ r.2.sem = fun _ => 0 :=
  (θ_run defs _ _).mono (fun r h => ⟨fun c => (h c).2.2.2.2, sem_eq_zero_of_no_sems (by decide) r.2⟩)
    (Cert.AdamConvSpecIdeal.Value.run m g)

end reference

/-- Over the extended reals the call's four results are the reference's. -/
theorem algebraic : Cert.algebraic_AdamConvIdeal_AdamConvSpecIdeal := by
  pair_intro
  · run_from run m g
  · run_from Cert.AdamConvSpecIdeal.Value.run m' g'

    · exact ref_grad _ _ _ _
    · exact ref_change _ _ _ _
    · exact ref_nextM _ _ _ _
    · exact ref_nextV _ _ _ _

end Cert.AdamConvProof

end
-- ==== Proof.Adam.AdamNorm.lean ====
/- The optimiser's call for kv_norm, b_norm_attn, b_norm_mem, b_norm_ffn and final_norm: the gradient, the change and the moments, one block of rows at a grid point. -/
module

public import proofs.«01_k».proof.Proof.Gen.AdamNormIdeal.Frame
public import proofs.«01_k».proof.Proof.Gen.AdamNormSpecIdeal.Run
public import proofs.«01_k».proof.Proof.Adam.Rule
public import proofs.«01_k».proof.Defs
public import Idealize.ShloMosaic.Lib.Pipeline.Value
public import Idealize.ShloMosaic.Lib.Pipeline.ValueKit
public import Idealize.ShloMosaic.Lib.Claim

@[expose] public section

set_option maxRecDepth 16384

noncomputable section

namespace Cert.AdamNormProof

open Idealize.ShloMosaic Idealize.ShloMosaic.TcCoe Idealize.SL.Sem

/-- The gradient, -/
def grad (X0 X1 X2 X3 : Vec Ideal AdamNormIdeal.S1x1024 .f32) : Vec Ideal AdamNormIdeal.S1x1024 .f32 := fun i => X1 i

/-- the change of the weight, -/
def change (X0 X1 X2 X3 : Vec Ideal AdamNormIdeal.S1x1024 .f32) : Vec Ideal AdamNormIdeal.S1x1024 .f32 := fun i => Cert.AdamRule.change (X0 i) (X1 i) (X2 i) (X3 i)

/-- the first moment -/
def nextM (X0 X1 X2 X3 : Vec Ideal AdamNormIdeal.S1x1024 .f32) : Vec Ideal AdamNormIdeal.S1x1024 .f32 := fun i => Cert.AdamRule.nextM (X1 i) (X2 i)

/-- and the second. -/
def nextV (X0 X1 X2 X3 : Vec Ideal AdamNormIdeal.S1x1024 .f32) : Vec Ideal AdamNormIdeal.S1x1024 .f32 := fun i => Cert.AdamRule.nextV (X1 i) (X3 i)

section kernel
open Cert.AdamNormIdeal Cert.AdamNormIdeal.Gen

variable (m : (ℓ : Loc nD τ sig) → Buf (Elt Ideal) ℓ) (c : Dev nD)

abbrev A0 : Vec Ideal S1x1024 .f32 := m ((c : Thread nD τ).loc main_arg0)
abbrev A1 : Vec Ideal S1x1024 .f32 := m ((c : Thread nD τ).loc main_arg1)
abbrev A2 : Vec Ideal S1x1024 .f32 := m ((c : Thread nD τ).loc main_arg2)
abbrev A3 : Vec Ideal S1x1024 .f32 := m ((c : Thread nD τ).loc main_arg3)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

theorem final_grad : (dats m 0 c).arrAt 4 (cfgs 0).N = grad (A0 m c) (A1 m c) (A2 m c) (A3 m c) := by
  refine (dats m 0 c).arrAt_eq_of_covers 4 _ (by decide +kernel) fun t hf y => ?_
  blk_simp
  rw [after0_4]
  frame_out
  pointwise [k0_pay1, k0_pay2, k0_pay3, grad, AdamRule.change, AdamRule.nextM, AdamRule.nextV, AdamRule.lit]
  blk_point [iblk, V, idx t]

theorem final_change : (dats m 0 c).arrAt 5 (cfgs 0).N = change (A0 m c) (A1 m c) (A2 m c) (A3 m c) := by
  refine (dats m 0 c).arrAt_eq_of_covers 5 _ (by decide +kernel) fun t hf y => ?_
  blk_simp
  rw [after0_5]
  frame_out
  pointwise [k0_pay1, k0_pay2, k0_pay3, change, AdamRule.change, AdamRule.nextM, AdamRule.nextV, AdamRule.lit]
  blk_point [iblk, V, idx t]

theorem final_nextM : (dats m 0 c).arrAt 6 (cfgs 0).N = nextM (A0 m c) (A1 m c) (A2 m c) (A3 m c) := by
  refine (dats m 0 c).arrAt_eq_of_covers 6 _ (by decide +kernel) fun t hf y => ?_
  blk_simp
  rw [after0_6]
  frame_out
  pointwise [k0_pay1, k0_pay2, k0_pay3, nextM, AdamRule.change, AdamRule.nextM, AdamRule.nextV, AdamRule.lit]
  blk_point [iblk, V, idx t]

theorem final_nextV : (dats m 0 c).arrAt 7 (cfgs 0).N = nextV (A0 m c) (A1 m c) (A2 m c) (A3 m c) := by
  refine (dats m 0 c).arrAt_eq_of_covers 7 _ (by decide +kernel) fun t hf y => ?_
  blk_simp
  rw [after0_7]
  frame_out
  pointwise [k0_pay1, k0_pay2, k0_pay3, nextV, AdamRule.change, AdamRule.nextM, AdamRule.nextV, AdamRule.lit]
  blk_point [iblk, V, idx t]

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = grad (A0 m c) (A1 m c) (A2 m c) (A3 m c)
    ∧ r.2.mem ((c : Thread nD τ).loc main_v0_1) = change (A0 m c) (A1 m c) (A2 m c) (A3 m c)
    ∧ r.2.mem ((c : Thread nD τ).loc main_v0_2) = nextM (A0 m c) (A1 m c) (A2 m c) (A3 m c)
    ∧ r.2.mem ((c : Thread nD τ).loc main_v0_3) = nextV (A0 m c) (A1 m c) (A2 m c) (A3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1 4).trans (final_grad m c),
      ((h c).1 5).trans (final_change m c),
      ((h c).1 6).trans (final_nextM m c),
      ((h c).1 7).trans (final_nextV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end kernel

section reference
open Cert.AdamNormSpecIdeal Cert.AdamNormSpecIdeal.Gen

theorem ref_grad (X0 X1 X2 X3 : Vec Ideal S1x1024 .f32) :
    (X1 : FVec Ideal S1x1024 .f32) = grad X0 X1 X2 X3 := by
  funext i
  pointwise [grad, AdamRule.change, AdamRule.nextM, AdamRule.nextV, AdamRule.lit]

theorem ref_change (X0 X1 X2 X3 : Vec Ideal S1x1024 .f32) :
    (mulf (broadcastInDim S1x1024 ![] bcast_S_S1x1024 (constant S_ .f32 0xBA83126F#32)) (addf (Host.divf (Host.divf (addf (mulf (broadcastInDim S1x1024 ![] bcast_S_S1x1024 (constant S_ .f32 0x3F666666#32)) X2) (mulf (broadcastInDim S1x1024 ![] bcast_S_S1x1024 (constant S_ .f32 0x3DCCCCCD#32)) X1)) (broadcastInDim S1x1024 ![] bcast_S_S1x1024 (constant S_ .f32 0x3F26BD02#32))) (addf (Host.sqrt (Host.divf (addf (mulf (broadcastInDim S1x1024 ![] bcast_S_S1x1024 (constant S_ .f32 0x3F7FBE77#32)) X3) (mulf (broadcastInDim S1x1024 ![] bcast_S_S1x1024 (constant S_ .f32 0x3A83126F#32)) (mulf X1 X1))) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) X0)) : FVec Ideal S1x1024 .f32) = change X0 X1 X2 X3 := by
  funext i
  pointwise [change, AdamRule.change, AdamRule.nextM, AdamRule.nextV, AdamRule.lit]

theorem ref_nextM (X0 X1 X2 X3 : Vec Ideal S1x1024 .f32) :
    (addf (mulf (broadcastInDim S1x1024 ![] bcast_S_S1x1024 (constant S_ .f32 0x3F666666#32)) X2) (mulf (broadcastInDim S1x1024 ![] bcast_S_S1x1024 (constant S_ .f32 0x3DCCCCCD#32)) X1) : FVec Ideal S1x1024 .f32) = nextM X0 X1 X2 X3 := by
  funext i
  pointwise [nextM, AdamRule.change, AdamRule.nextM, AdamRule.nextV, AdamRule.lit]

theorem ref_nextV (X0 X1 X2 X3 : Vec Ideal S1x1024 .f32) :
    (addf (mulf (broadcastInDim S1x1024 ![] bcast_S_S1x1024 (constant S_ .f32 0x3F7FBE77#32)) X3) (mulf (broadcastInDim S1x1024 ![] bcast_S_S1x1024 (constant S_ .f32 0x3A83126F#32)) (mulf X1 X1)) : FVec Ideal S1x1024 .f32) = nextV X0 X1 X2 X3 := by
  funext i
  pointwise [nextV, AdamRule.change, AdamRule.nextM, AdamRule.nextV, AdamRule.lit]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
        ∧ r.2.sem = fun _ => 0 :=
  (θ_run defs _ _).mono (fun r h => ⟨fun c => (h c).2.2.2.2, sem_eq_zero_of_no_sems (by decide) r.2⟩)
    (Cert.AdamNormSpecIdeal.Value.run m g)

end reference

/-- Over the extended reals the call's four results are the reference's. -/
theorem algebraic : Cert.algebraic_AdamNormIdeal_AdamNormSpecIdeal := by
  pair_intro
  · run_from run m g
  · run_from Cert.AdamNormSpecIdeal.Value.run m' g'

    · exact ref_grad _ _ _ _
    · exact ref_change _ _ _ _
    · exact ref_nextM _ _ _ _
    · exact ref_nextV _ _ _ _

end Cert.AdamNormProof

end
-- ==== Proof.Row.lean ====
/- One row of a softmax attention over the extended reals: the probabilities a kernel computes, the ones the
   reference computes, and the gradient of the scores in either form. The two forms agree once the scores are real. -/
module

public import Idealize.ShloMosaic.Lib.Pipeline.ValueKit

@[expose] public section

noncomputable section

namespace Cert.Row

open Idealize.ShloMosaic

/-- A nonnegative real factor moves out of a finite sum of extended reals. -/
theorem sum_mul_real {ι : Type} (s : Finset ι) (f : ι → EReal) (b : ℝ) (hb : 0 ≤ b) :
    ∑ i ∈ s, f i * (b : EReal) = (∑ i ∈ s, f i) * (b : EReal) := by
  classical
  induction s using Finset.induction_on with
  | empty => simp
  | insert i s hi ih =>
    rw [Finset.sum_insert hi, Finset.sum_insert hi, ih,
      EReal.right_distrib_of_nonneg_of_ne_top (by exact_mod_cast hb) (EReal.coe_ne_top b)]

/-- A finite sum of reals, cast. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem negInf : Ideal.ofBits .f32 4286578688#32 = ⊥ := by simp [Ideal.ofBits, Ideal.ieee]

variable {n : ℕ}

/-- The row's greatest score. -/
def top (s : Fin n → EReal) : EReal := Finset.univ.fold max (Ideal.ofBits .f32 4286578688#32) s

/-- The exponential of a shifted score. -/
def ex (s : Fin n → EReal) (j : Fin n) : EReal := Ideal.exp (s j - top s)

/-- Their sum. -/
def den (s : Fin n → EReal) : EReal := ∑ j, ex s j

/-- The probability of a key, by the reciprocal of the sum. -/
def prob (s : Fin n → EReal) (j : Fin n) : EReal := ex s j * Ideal.div 1 (den s)

/-- The gradient of a score from the gradients `dp` of the probabilities. -/
def grad (s dp : Fin n → EReal) (j : Fin n) : EReal := prob s j * (dp j - ∑ i, prob s i * dp i)

/-- A fold of `max` from −∞ over reals is a real, when there is one. -/
theorem fold_real {ι : Type} (t : Finset ι) (r : ι → ℝ) (ht : t.Nonempty) :
    ∃ a : ℝ, t.fold max (⊥ : EReal) (fun i => (r i : EReal)) = a := by
  classical
  induction ht using Finset.Nonempty.cons_induction with
  | singleton i => exact ⟨r i, by simp⟩
  | cons i t hi ht ih =>
    obtain ⟨a, ha⟩ := ih
    refine ⟨max (r i) a, ?_⟩
    rw [Finset.fold_cons, ha]
    exact (EReal.coe_strictMono.monotone.map_max).symm

/-- Over real scores every exponential is a real, and their sum is a positive real. -/
theorem real_row (s : Fin n → EReal) (hn : 0 < n) (hs : ∀ j, ∃ r : ℝ, s j = r) :
    (∀ j, ∃ e : ℝ, 0 < e ∧ ex s j = e) ∧ ∃ a : ℝ, 0 < a ∧ den s = a := by
  choose r hr using hs
  obtain rfl : s = fun j => (r j : EReal) := funext hr
  obtain ⟨a, ha⟩ := fold_real (Finset.univ : Finset (Fin n)) r ⟨⟨0, hn⟩, Finset.mem_univ _⟩
  have he : ∀ j, ex (fun j => (r j : EReal)) j = ((Real.exp (r j - a) : ℝ) : EReal) := fun j => by
    rw [ex, top, negInf, ha, ← EReal.coe_sub]; rfl
  refine ⟨fun j => ⟨_, Real.exp_pos _, he j⟩, ∑ j, Real.exp (r j - a), ?_, ?_⟩
  · exact Finset.sum_pos (fun j _ => Real.exp_pos _) ⟨⟨0, hn⟩, Finset.mem_univ _⟩
  · rw [den, Finset.sum_congr rfl fun j _ => he j, sum_coe]

/-- The quotient by the sum is the product with its reciprocal. -/
theorem prob_eq (s : Fin n → EReal) (hn : 0 < n) (hs : ∀ j, ∃ r : ℝ, s j = r) (j : Fin n) :
    Ideal.div (ex s j) (den s) = prob s j := by
  obtain ⟨-, a, ha, hd⟩ := real_row s hn hs
  rw [prob, hd, Ideal.div_coe ha.ne', Ideal.div_coe ha.ne', one_mul]

/-- The derivative of the quotient, term by term, is the softmax gradient. -/
theorem grad_eq (s dp : Fin n → EReal) (hn : 0 < n) (hs : ∀ j, ∃ r : ℝ, s j = r) (j : Fin n) :
    (Ideal.div (dp j) (den s) + -∑ i, dp i * Ideal.div 1 (den s * den s) * ex s i) * ex s j = grad s dp j := by
  obtain ⟨-, a, ha, hd⟩ := real_row s hn hs
  have hb : (0 : ℝ) ≤ 1 / a := by positivity
  have hbb : Ideal.div 1 (den s * den s) = ((1 / a : ℝ) : EReal) * ((1 / a : ℝ) : EReal) := by
    rw [hd, ← EReal.coe_mul, Ideal.div_coe (mul_pos ha ha).ne', one_mul, ← EReal.coe_mul]
    congr 1; field_simp
  have hp : ∀ i, prob s i = ex s i * ((1 / a : ℝ) : EReal) := fun i => by
    rw [prob, hd, Ideal.div_coe ha.ne', one_mul]
  have hT : ∑ i, dp i * Ideal.div 1 (den s * den s) * ex s i = (∑ i, prob s i * dp i) * ((1 / a : ℝ) : EReal) := by
    rw [← sum_mul_real _ _ _ hb]
    refine Finset.sum_congr rfl fun i _ => ?_
    rw [hbb, hp]; ac_rfl
  rw [hT, grad, hp, hd, Ideal.div_coe ha.ne', ← sub_eq_add_neg,
    ← EReal.sub_mul_of_nonneg_of_ne_top (by exact_mod_cast hb) (EReal.coe_ne_top _)]
  ac_rfl

end Cert.Row

end
-- ==== Proof.Rest.NormRow.lean ====
/- One row of the norm over the extended reals: its factor, and the gradient by the row as the kernel writes it and as
   the derivative of x · (mean x² + ε)^(-1/2) gives it. The two are equal for every row, finite or not. -/
module

public import proofs.«01_k».proof.Proof.Row

@[expose] public section

noncomputable section

namespace Cert.NormRow

open Idealize.ShloMosaic

/-- The row's length and ε, as the two sides print them. -/
abbrev len : EReal := Ideal.ofBits .f32 1149239296#32
abbrev eps : EReal := Ideal.ofBits .f32 897988541#32
abbrev negHalf : EReal := Ideal.ofBits .f32 3204448256#32

theorem len_eq : len = ((1024 : ℝ) : EReal) := by
  simp [len, Ideal.ofBits, Ideal.ieee]; rw [← EReal.coe_mul]; norm_num
theorem negHalf_eq : negHalf = ((-(1 / 2) : ℝ) : EReal) := by
  simp [negHalf, Ideal.ofBits, Ideal.ieee]; rw [← EReal.coe_mul]; norm_num
theorem eps_pos : ∃ e : ℝ, 0 < e ∧ eps = (e : EReal) := by
  refine ⟨_, ?_, by simp [eps, Ideal.ofBits, Ideal.ieee]; rfl⟩
  positivity

/-- Division by the length is a nonnegative real factor. -/
theorem div_len (a : EReal) : Ideal.div a len = a * ((1 / 1024 : ℝ) : EReal) := by
  have h : ((1024 : ℝ) : EReal) ≠ 0 := by norm_num
  rw [len_eq, Ideal.div, if_neg h, ← EReal.coe_inv]
  norm_num

variable {n : ℕ} (x y : Fin n → EReal)

/-- mean x² + ε, -/
def ms : EReal := Ideal.div (∑ k, x k * x k) len + eps

/-- and the row's factor. -/
def fac : EReal := Ideal.rsqrt (ms x)

theorem sq_nonneg (a : EReal) : 0 ≤ a * a := by
  rcases le_total 0 a with h | h
  · exact mul_nonneg h h
  · rw [← neg_mul_neg]; exact mul_nonneg (EReal.neg_nonneg.mpr h) (EReal.neg_nonneg.mpr h)

/-- A row has a positive real factor ρ with ρ² (mean x² + ε) = 1, or the factor 0 at an infinite mean. -/
theorem cases : (∃ ρ υ : ℝ, 0 < ρ ∧ 0 < υ ∧ ρ * ρ * υ = 1 ∧ fac x = ρ ∧ ms x = υ) ∨ (fac x = 0 ∧ ms x = ⊤) := by
  obtain ⟨e, he, hE⟩ := eps_pos
  have h0 : 0 ≤ ∑ k, x k * x k := Finset.sum_nonneg fun k _ => sq_nonneg _
  unfold fac
  have hms : ms x = (∑ k, x k * x k) * ((1 / 1024 : ℝ) : EReal) + (e : EReal) := by rw [ms, div_len, hE]
  generalize ∑ k, x k * x k = s at h0 hms
  induction s using EReal.rec with
  | bot => simp at h0
  | top =>
    right
    rw [EReal.top_mul_coe_of_pos (by norm_num), EReal.top_add_coe] at hms
    rw [hms]; exact ⟨rfl, rfl⟩
  | coe s =>
    left
    have hs : 0 ≤ s := by exact_mod_cast h0
    have hυ : 0 < s * (1 / 1024) + e := by positivity
    have hm : ms x = ((s * (1 / 1024) + e : ℝ) : EReal) := by rw [hms]; norm_cast
    refine ⟨(Real.sqrt (s * (1 / 1024) + e))⁻¹, s * (1 / 1024) + e, by positivity, hυ, ?_, ?_, hm⟩
    · rw [← mul_inv, Real.mul_self_sqrt hυ.le]; exact inv_mul_cancel₀ hυ.ne'
    · rw [hm, Ideal.rsqrt_coe, if_neg (not_lt.mpr hυ.le), if_neg hυ.ne']

/-- The gradient by the row as the kernel computes it, y the gradient of the normed row: -/
def grad (i : Fin n) : EReal := fac x * (y i - x i * fac x * Ideal.div (∑ k, y k * (x k * fac x)) len)

/-- the coefficient of the row in its gradient, -/
def coef : EReal := Ideal.div ((∑ k, x k * y k) * (negHalf * Ideal.div (fac x) (ms x))) len

/-- and the gradient as the derivative gives it. -/
def gradRef (i : Fin n) : EReal := y i * fac x + x i * coef x y + coef x y * x i

theorem grad_eq (i : Fin n) : grad x y i = gradRef x y i := by
  unfold grad gradRef coef
  rcases cases x with ⟨ρ, υ, hρ, hυ, h1, hf, hm⟩ | ⟨hf, hm⟩
  · have hυ' : (υ : EReal) ≠ 0 := by exact_mod_cast hυ.ne'
    rw [hf, hm, div_len, div_len, negHalf_eq, Ideal.div, if_neg hυ', ← EReal.coe_inv, ← EReal.coe_mul, ← EReal.coe_mul]
    have hsum : ∑ k, y k * (x k * (ρ : EReal)) = (∑ k, x k * y k) * (ρ : EReal) := by
      rw [← Row.sum_mul_real _ _ ρ hρ.le]
      exact Finset.sum_congr rfl fun k _ => by rw [← mul_assoc, mul_comm (y k)]
    rw [hsum]
    generalize ∑ k, x k * y k = S
    have hinv : υ⁻¹ = ρ * ρ := by field_simp; linarith
    set q : ℝ := ρ * ρ * ρ * (1 / 2) * (1 / 1024) with hq
    have hq0 : (0 : EReal) ≤ (q : EReal) := by exact_mod_cast (by positivity : 0 ≤ q)
    have e1 : x i * (ρ : EReal) * (S * (ρ : EReal) * ((1 / 1024 : ℝ) : EReal)) * (ρ : EReal) = x i * S * ((q + q : ℝ) : EReal) := by
      have : q + q = ρ * ρ * (1 / 1024) * ρ := by rw [hq]; ring
      rw [this]; push_cast; ac_rfl
    have e2 : S * ((-(1 / 2) * (ρ * υ⁻¹) : ℝ) : EReal) * ((1 / 1024 : ℝ) : EReal) = -(S * (q : EReal)) := by
      rw [mul_assoc, ← EReal.coe_mul, ← mul_neg, ← EReal.coe_neg]
      congr 2; rw [hq, hinv]; ring
    rw [e2, mul_comm (ρ : EReal), sub_eq_add_neg, EReal.right_distrib_of_nonneg_of_ne_top (by exact_mod_cast hρ.le) (EReal.coe_ne_top ρ),
      neg_mul, e1, add_assoc]
    congr 1
    rw [mul_comm (-(S * (q : EReal))) (x i), mul_neg, ← mul_assoc, EReal.coe_add, ← neg_mul, ← neg_mul,
      EReal.left_distrib_of_nonneg hq0 hq0]
    simp only [neg_mul]
  · have h0 : Ideal.div 0 ⊤ = 0 := by simp [Ideal.div]
    have hl : Ideal.div 0 len = 0 := by rw [div_len, zero_mul]
    rw [hf, hm, h0]
    simp [hl]

end Cert.NormRow

end
-- ==== Proof.Rest.NormBwd.lean ====
/- The gradient of a norm with the residual's added (both layers' ffn_norm_bwd). -/
module

public import proofs.«01_k».proof.Proof.Gen.NormBwdIdeal.Frame
public import proofs.«01_k».proof.Proof.Gen.NormBwdSpecIdeal.Run
public import proofs.«01_k».proof.Proof.Rest.NormRow
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.NormBwdProof

open Idealize.ShloMosaic Idealize.ShloMosaic.TcCoe Idealize.SL.Sem

/-- The row's gradient with the residual's added, -/
def dx (X0 : Vec Ideal NormBwdIdeal.S8192x1024 .f32) (X1 : Vec Ideal NormBwdIdeal.S1x1024 .f32) (X2 X3 : Vec Ideal NormBwdIdeal.S8192x1024 .f32) :
    Vec Ideal NormBwdIdeal.S8192x1024 .f32 := fun i =>
  X3 i + NormRow.grad (fun k => X0 (ix2 (i 0) k)) (fun k => X2 (ix2 (i 0) k) * X1 (ix2 0 k)) (i 1)

/-- and the gain's gradient. -/
def dg (X0 X2 : Vec Ideal NormBwdIdeal.S8192x1024 .f32) : Vec Ideal NormBwdIdeal.S1x1024 .f32 := fun i =>
  ∑ r : Fin 8192, X2 (ix2 r (i 1)) * (X0 (ix2 r (i 1)) * NormRow.fac fun k => X0 (ix2 r k))

section kernel
open Cert.NormBwdIdeal Cert.NormBwdIdeal.Gen

theorem fac_at (x : Vec Ideal S512x1024 .f32) (j : S512x1.Idx) : k0_pay3 x j = NormRow.fac fun k => x (ix2 (j 0) k) := by
  pointwise [k0_pay3, NormRow.fac, NormRow.ms]

theorem normed_at (x : Vec Ideal S512x1024 .f32) (j : S512x1024.Idx) :
    k0_pay4 x j = x j * NormRow.fac fun k => x (ix2 (j 0) k) := by
  pointwise [k0_pay4, fac_at]

theorem dx_at (x dn : Vec Ideal S512x1024 .f32) (g : Vec Ideal S1x1024 .f32) (dres : Vec Ideal S512x1024 .f32) (j : S512x1024.Idx) :
    k0_pay6 x dn g dres j = dres j + NormRow.grad (fun k => x (ix2 (j 0) k)) (fun k => dn (ix2 (j 0) k) * g (ix2 0 k)) (j 1) := by
  pointwise [k0_pay6, normed_at, fac_at, NormRow.grad]

theorem dg_at (x dn : Vec Ideal S512x1024 .f32) (acc : Vec Ideal S1x1024 .f32) (j : S1x1024.Idx) :
    k0_pay5 x dn acc j = acc j + ∑ r : Fin 512, dn (ix2 r (j 1)) * (x (ix2 r (j 1)) * NormRow.fac fun k => x (ix2 r k)) := by
  pointwise [k0_pay5, normed_at]

theorem zero_at (j : S1x1024.Idx) : k0_pay2 (F := Ideal) j = 0 := by
  pointwise [k0_pay2]

theorem cast_at (a : FVec Ideal S512x1024 .f32) (j : S512x1024.Idx) : k0_pay1 a j = a j := by
  pointwise [k0_pay1]

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)
abbrev A2 : Vec Ideal S8192x1024 .f32 := m ((c : Thread nD τ).loc main_arg2)
abbrev A3 : Vec Ideal S8192x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem blk0 (t : Fin cfg0.N) (r : Fin 512) (l : Fin 1024) (R : Fin 8192) (L : Fin 1024) (hR : R.val = t.val * 512 + r) (hL : L.val = l.val) :
    iblk m c 0 t (ix2 r l) = A0 m c (ix2 R L) := by
  blk_point [iblk, V, idx t]

theorem blk1 (t : Fin cfg0.N) (l : Fin 1024) : iblk m c 1 t (ix2 0 l) = A1 m c (ix2 0 l) := by
  blk_point [iblk, V, idx t]

theorem blk2 (t : Fin cfg0.N) (r : Fin 512) (l : Fin 1024) (R : Fin 8192) (L : Fin 1024) (hR : R.val = t.val * 512 + r) (hL : L.val = l.val) :
    iblk m c 2 t (ix2 r l) = A2 m c (ix2 R L) := by
  blk_point [iblk, V, idx t]

theorem blk3 (t : Fin cfg0.N) (r : Fin 512) (l : Fin 1024) (R : Fin 8192) (L : Fin 1024) (hR : R.val = t.val * 512 + r) (hL : L.val = l.val) :
    iblk m c 3 t (ix2 r l) = A3 m c (ix2 R L) := by
  blk_point [iblk, V, idx t]

/-- The rows' gradient of a block is the array's at its place. -/
theorem dx_blk (t : Fin cfg0.N) (y : S512x1024.Idx) (i : S8192x1024.Idx) (h0 : (i 0).val = t.val * 512 + (y 0).val) (h1 : (i 1).val = (y 1).val) :
    k0_pay6 (iblk m c 0 t) (iblk m c 2 t) (iblk m c 1 t) (iblk m c 3 t) y = dx (A0 m c) (A1 m c) (A2 m c) (A3 m c) i := by
  rw [dx_at]
  refine congrArg₂ (· + ·) (by blk_point [iblk, V, idx t]) ?_
  exact (congrArg₂ (fun a b : Fin 1024 → EReal => NormRow.grad a b (y 1)) (funext fun k => blk0 m c t (y 0) k (i 0) k h0 rfl)
    (funext fun k => congrArg₂ (fun a b : EReal => a * b) (blk2 m c t (y 0) k (i 0) k h0 rfl) (blk1 m c t k))).trans
    (congrArg _ (Fin.ext h1.symm))

theorem final_dx : (dats m 0 c).arrAt 4 (cfgs 0).N = dx (A0 m c) (A1 m c) (A2 m c) (A3 m c) := by
  refine (dats m 0 c).arrAt_eq_of_covers 4 _ (by decide +kernel) fun t hf y => ?_
  blk_simp
  rw [after0_4]
  have e0 : (((win0_4.blk t).view.emb y) 0).val = t.val * 512 + (y 0).val := by blk_simp [idx t]
  have e1 : (((win0_4.blk t).view.emb y) 1).val = (y 1).val := by blk_simp [idx t]
  generalize (win0_4.blk t).view.emb y = i at e0 e1
  by_cases h : t.val % 16 = 0
  · rw [outsAt0_A m c t h]; frame_out
    exact dx_blk m c t y i e0 e1
  · rw [outsAt0_B m c t h]; frame_out
    exact dx_blk m c t y i e0 e1

theorem final_dxb : (dats m 0 c).arrAt 5 (cfgs 0).N = (dx (A0 m c) (A1 m c) (A2 m c) (A3 m c) : S8192x1024.Idx → EReal) := by
  refine (dats m 0 c).arrAt_eq_of_covers 5 _ (by decide +kernel) fun t hf y => ?_
  blk_simp
  rw [after0_5]
  have e0 : (((win0_5.blk t).view.emb y) 0).val = t.val * 512 + (y 0).val := by blk_simp [idx t]
  have e1 : (((win0_5.blk t).view.emb y) 1).val = (y 1).val := by blk_simp [idx t]
  generalize (win0_5.blk t).view.emb y = i at e0 e1
  by_cases h : t.val % 16 = 0
  · rw [outsAt0_A m c t h]; frame_out
    rw [cast_at]
    exact dx_blk m c t y i e0 e1
  · rw [outsAt0_B m c t h]; frame_out
    rw [cast_at]
    exact dx_blk m c t y i e0 e1

theorem final_dg : (dats m 0 c).arrAt 6 (cfgs 0).N = dg (A0 m c) (A2 m c) := by
  refine (dats m 0 c).arrAt_eq_of_covers 6 _ (by decide +kernel) fun t hf y => ?_
  blk_simp
  have ht : t.val < 16 := t.isLt
  have hl := (flush0_6 t).mp hf
  rw [after0_6, Pipeline.eq_sum_fin_of_reset_step_apply_of_flush (fun n h => (outsAt0 m c n h).2.2) 16 (fun _ => 0) _
    (fun t h j => by rw [outsAt0_A m c t h]; frame_out; rw [dg_at, zero_at])
    (fun t h j => by rw [outsAt0_B m c t h]; frame_out; rw [dg_at])
    t hl _, zero_add]
  have e1 : (((win0_6.blk t).view.emb y) 1).val = (y 1).val := by blk_simp [idx t]
  generalize (win0_6.blk t).view.emb y = i at e1
  refine Fin.sum_mul_add_congr fun s r hl => ?_
  have hs : s.val < 16 := s.isLt
  have hp : 16 * (t.val / 16) + s.val < cfg0.N := lt_of_lt_of_eq (show _ < 16 by omega) N_0.symm
  have hR : s.val * 512 + r.val = (16 * (t.val / 16) + s.val) * 512 + r.val := by omega
  exact congrArg₂ (fun a b : EReal => a * b) (blk2 m c ⟨16 * (t.val / 16) + s.val, hp⟩ r (y 1) ⟨s.val * 512 + r.val, hl⟩ (i 1) hR e1)
    (congrArg₂ (fun a b : EReal => a * b) (blk0 m c ⟨16 * (t.val / 16) + s.val, hp⟩ r (y 1) ⟨s.val * 512 + r.val, hl⟩ (i 1) hR e1)
      (congrArg NormRow.fac (funext fun k => blk0 m c ⟨16 * (t.val / 16) + s.val, hp⟩ r k ⟨s.val * 512 + r.val, hl⟩ k hR rfl)))

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = dx (A0 m c) (A1 m c) (A2 m c) (A3 m c)
    ∧ r.2.mem ((c : Thread nD τ).loc main_v0_1) = (dx (A0 m c) (A1 m c) (A2 m c) (A3 m c) : S8192x1024.Idx → EReal)
    ∧ r.2.mem ((c : Thread nD τ).loc main_v0_2) = dg (A0 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1 4).trans (final_dx m c), ((h c).1 5).trans (final_dxb m c), ((h c).1 6).trans (final_dg m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end kernel

section reference
open Cert.NormBwdSpecIdeal Cert.NormBwdSpecIdeal.Gen

variable (X0 : Vec Ideal S8192x1024 .f32) (X1 : Vec Ideal S1x1024 .f32) (X2 X3 : Vec Ideal S8192x1024 .f32)

theorem ref_dx :
    (addf X3 (addf (addf (mulf (mulf X2 (broadcastInDim S8192x1024 ![0, 1] bcast_S1x1024_S8192x1024_0_1 X1)) (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf X0 (broadcastInDim S8192x1024 ![0] bcast_S8192_S8192x1024_0 (Host.reduceAdd (Host.divf (mulf (shapeCast _ (Host.reduceAdd (mulf X0 (mulf X2 (broadcastInDim S8192x1024 ![0, 1] bcast_S1x1024_S8192x1024_0_1 X1))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf X0 (mulf X2 (broadcastInDim S8192x1024 ![0, 1] bcast_S1x1024_S8192x1024_0_1 X1))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) X0)) : FVec Ideal S8192x1024 .f32) = dx X0 X1 X2 X3 := by
  funext i
  refine Eq.trans ?_ (congrArg (fun a : EReal => X3 i + a) (NormRow.grad_eq _ _ (i 1)).symm)
  pointwise [NormRow.gradRef, NormRow.coef, NormRow.fac, NormRow.ms]
  simp only [Finset.univ_unique, Finset.sum_singleton]
  rfl

theorem ref_dxb :
    (truncf .bf16 (addf X3 (addf (addf (mulf (mulf X2 (broadcastInDim S8192x1024 ![0, 1] bcast_S1x1024_S8192x1024_0_1 X1)) (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf X0 (broadcastInDim S8192x1024 ![0] bcast_S8192_S8192x1024_0 (Host.reduceAdd (Host.divf (mulf (shapeCast _ (Host.reduceAdd (mulf X0 (mulf X2 (broadcastInDim S8192x1024 ![0, 1] bcast_S1x1024_S8192x1024_0_1 X1))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf X0 (mulf X2 (broadcastInDim S8192x1024 ![0, 1] bcast_S1x1024_S8192x1024_0_1 X1))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) X0))) bitsLt_bf16_f32 : FVec Ideal S8192x1024 .bf16) = (dx X0 X1 X2 X3 : S8192x1024.Idx → EReal) :=
  ref_dx X0 X1 X2 X3

theorem ref_dg :
    (shapeCast _ (Host.reduceAdd (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) X2) (constant S_ .f32 0x00000000#32) reducesTo_S8192x1024_S1024_d0 h_S_) shapeCasts_S1024_S1x1024 : FVec Ideal S1x1024 .f32) = dg X0 X2 := by
  funext i
  pointwise [dg, NormRow.fac, NormRow.ms]
  exact Finset.sum_congr rfl fun x _ => mul_comm (_ : EReal) _

/-- The reference's run. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
    r.2.mem ((c.tc : Thread nD τ).loc main_v34) = dx (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v35) = (dx (m ((c.tc : Thread nD τ).loc main_arg0)) (m ((c.tc : Thread nD τ).loc main_arg1)) (m ((c.tc : Thread nD τ).loc main_arg2)) (m ((c.tc : Thread nD τ).loc main_arg3)) : S8192x1024.Idx → EReal)
    ∧ r.2.mem ((c.tc : Thread nD τ).loc main_v17) = dg (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1.trans (ref_dx _ _ _ _), (h c).2.1.trans (ref_dxb _ _ _ _), (h c).2.2.1.trans (ref_dg _ _), (h c).2.2.2⟩)
    (Cert.NormBwdSpecIdeal.Value.run m g)

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
        ∧ r.2.sem = fun _ => 0 :=
  (θ_run defs _ _).mono (fun r h => ⟨fun c => (h c).2.2.2, sem_eq_zero_of_no_sems (by decide) r.2⟩)
    (run_ref m g)

end reference

/-- Over the extended reals the kernel's three results are the reference's. -/
theorem algebraic : Cert.algebraic_NormBwdIdeal_NormBwdSpecIdeal := by
  pair_intro
  · run_from run m g
  · run_from run_ref m' g'
end Cert.NormBwdProof

end
-- ==== Proof.Rest.MemNormBwd.lean ====
/- The gain's gradient of the memory's norm (mem_norm_bwd). -/
module

public import proofs.«01_k».proof.Proof.Gen.MemNormBwdIdeal.Frame
public import proofs.«01_k».proof.Proof.Gen.MemNormBwdSpecIdeal.Run
public import proofs.«01_k».proof.Proof.Rest.NormRow
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemNormBwdProof

open Idealize.ShloMosaic Idealize.ShloMosaic.TcCoe Idealize.SL.Sem

/-- The gain's gradient. -/
def dg (X0 X2 : Vec Ideal MemNormBwdIdeal.S1024x1024 .f32) : Vec Ideal MemNormBwdIdeal.S1x1024 .f32 := fun i =>
  ∑ r : Fin 1024, X2 (ix2 r (i 1)) * (X0 (ix2 r (i 1)) * NormRow.fac fun k => X0 (ix2 r k))

section kernel
open Cert.MemNormBwdIdeal Cert.MemNormBwdIdeal.Gen

theorem dg_at (x dn : Vec Ideal S512x1024 .f32) (acc : Vec Ideal S1x1024 .f32) (j : S1x1024.Idx) :
    k0_pay2 x dn acc j = acc j + ∑ r : Fin 512, dn (ix2 r (j 1)) * (x (ix2 r (j 1)) * NormRow.fac fun k => x (ix2 r k)) := by
  pointwise [k0_pay2, NormRow.fac, NormRow.ms]

theorem zero_at (j : S1x1024.Idx) : k0_pay1 (F := Ideal) j = 0 := by
  pointwise [k0_pay1]

variable (m : (ℓ : Loc nD τ sig) → Buf (Elt Ideal) ℓ) (c : Dev nD)

abbrev A0 : Vec Ideal S1024x1024 .f32 := m ((c : Thread nD τ).loc main_arg0)
abbrev A1 : Vec Ideal S1x1024 .f32 := m ((c : Thread nD τ).loc main_arg1)
abbrev A2 : Vec Ideal S1024x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![0, 0] :=
  (by decide +kernel : ∀ t : Fin grid0.N, _)

theorem blk0 (t : Fin cfg0.N) (r : Fin 512) (l : Fin 1024) (R : Fin 1024) (L : Fin 1024) (hR : R.val = t.val * 512 + r) (hL : L.val = l.val) :
    iblk m c 0 t (ix2 r l) = A0 m c (ix2 R L) := by
  blk_point [iblk, V, idx t]

theorem blk2 (t : Fin cfg0.N) (r : Fin 512) (l : Fin 1024) (R : Fin 1024) (L : Fin 1024) (hR : R.val = t.val * 512 + r) (hL : L.val = l.val) :
    iblk m c 2 t (ix2 r l) = A2 m c (ix2 R L) := by
  blk_point [iblk, V, idx t]

theorem final_dg : (dats m 0 c).arrAt 3 (cfgs 0).N = dg (A0 m c) (A2 m c) := by
  refine (dats m 0 c).arrAt_eq_of_covers 3 _ (by decide +kernel) fun t hf y => ?_
  blk_simp
  have ht : t.val < 2 := t.isLt
  have hl := (flush0_3 t).mp hf
  rw [after0_3, Pipeline.eq_sum_fin_of_reset_step_apply_of_flush (fun n h => (outsAt0 m c n h)) 2 (fun _ => 0) _
    (fun t h j => by rw [outsAt0_A m c t h]; frame_out; rw [dg_at, zero_at])
    (fun t h j => by rw [outsAt0_B m c t h]; frame_out; rw [dg_at])
    t hl _, zero_add]
  have e1 : (((win0_3.blk t).view.emb y) 1).val = (y 1).val := by blk_simp [idx t]
  generalize (win0_3.blk t).view.emb y = i at e1
  refine Fin.sum_mul_add_congr fun s r hl => ?_
  have hs : s.val < 2 := s.isLt
  have hp : 2 * (t.val / 2) + s.val < cfg0.N := lt_of_lt_of_eq (show _ < 2 by omega) N_0.symm
  have hR : s.val * 512 + r.val = (2 * (t.val / 2) + s.val) * 512 + r.val := by omega
  exact congrArg₂ (fun a b : EReal => a * b) (blk2 m c ⟨2 * (t.val / 2) + s.val, hp⟩ r (y 1) ⟨s.val * 512 + r.val, hl⟩ (i 1) hR e1)
    (congrArg₂ (fun a b : EReal => a * b) (blk0 m c ⟨2 * (t.val / 2) + s.val, hp⟩ r (y 1) ⟨s.val * 512 + r.val, hl⟩ (i 1) hR e1)
      (congrArg NormRow.fac (funext fun k => blk0 m c ⟨2 * (t.val / 2) + s.val, hp⟩ r k ⟨s.val * 512 + r.val, hl⟩ k hR rfl)))

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0) = dg (A0 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final_dg m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end kernel

section reference
open Cert.MemNormBwdSpecIdeal Cert.MemNormBwdSpecIdeal.Gen

theorem ref_dg (X0 X2 : Vec Ideal S1024x1024 .f32) :
    (shapeCast _ (Host.reduceAdd (mulf (mulf X0 (broadcastInDim S1024x1024 ![0, 1] bcast_S1024x1_S1024x1024_0_1 (Host.rsqrt (addf (Host.divf (broadcastInDim S1024x1 ![0] bcast_S1024_S1024x1_0 (Host.reduceAdd (mulf X0 X0) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) X2) (constant S_ .f32 0x00000000#32) reducesTo_S1024x1024_S1024_d0 h_S_) shapeCasts_S1024_S1x1024 : FVec Ideal S1x1024 .f32) = dg X0 X2 := by
  funext i
  pointwise [dg, NormRow.fac, NormRow.ms]
  exact Finset.sum_congr rfl fun x _ => mul_comm (_ : EReal) _

/-- The reference's run. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
    r.2.mem ((c.tc : Thread nD τ).loc main_v14) = dg (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨(h c).1.trans (ref_dg _ _), (h c).2⟩)
    (Cert.MemNormBwdSpecIdeal.Value.run m g)

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
        ∧ r.2.sem = fun _ => 0 :=
  (θ_run defs _ _).mono (fun r h => ⟨fun c => (h c).2, sem_eq_zero_of_no_sems (by decide) r.2⟩)
    (run_ref m g)

end reference

/-- Over the extended reals the kernel's result is the reference's. -/
theorem algebraic : Cert.algebraic_MemNormBwdIdeal_MemNormBwdSpecIdeal := by
  pair_intro
  · run_from run m g
  · run_from run_ref m' g'

end Cert.MemNormBwdProof

end
-- ==== Proof.Rest.PairNormBwd.lean ====
/- The gradient of the two norms of one array, with the residual's added (kv_b_attn_norm_bwd). -/
module

public import proofs.«01_k».proof.Proof.Gen.PairNormBwdIdeal.Frame
public import proofs.«01_k».proof.Proof.Gen.PairNormBwdSpecIdeal.Run
public import proofs.«01_k».proof.Proof.Rest.NormRow
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.PairNormBwdProof

open Idealize.ShloMosaic Idealize.ShloMosaic.TcCoe Idealize.SL.Sem

/-- The row's gradient with the residual's added, -/
def dx (X0 : Vec Ideal PairNormBwdIdeal.S8192x1024 .f32) (X1 X2 : Vec Ideal PairNormBwdIdeal.S1x1024 .f32) (X3 X4 X5 : Vec Ideal PairNormBwdIdeal.S8192x1024 .f32) : Vec Ideal PairNormBwdIdeal.S8192x1024 .f32 := fun i =>
  X5 i + NormRow.grad (fun k => X0 (ix2 (i 0) k)) (fun k => X3 (ix2 (i 0) k) * X1 (ix2 0 k) + X4 (ix2 (i 0) k) * X2 (ix2 0 k)) (i 1)

/-- and a gain's gradient. -/
def dg (X0 Y : Vec Ideal PairNormBwdIdeal.S8192x1024 .f32) : Vec Ideal PairNormBwdIdeal.S1x1024 .f32 := fun i =>
  ∑ r : Fin 8192, Y (ix2 r (i 1)) * (X0 (ix2 r (i 1)) * NormRow.fac fun k => X0 (ix2 r k))

section kernel
open Cert.PairNormBwdIdeal Cert.PairNormBwdIdeal.Gen

theorem fac_at (x : Vec Ideal S512x1024 .f32) (j : S512x1.Idx) : k0_pay5 x j = NormRow.fac fun k => x (ix2 (j 0) k) := by
  pointwise [k0_pay5, NormRow.fac, NormRow.ms]

theorem normed_at (x : Vec Ideal S512x1024 .f32) (j : S512x1024.Idx) :
    k0_pay6 x j = x j * NormRow.fac fun k => x (ix2 (j 0) k) := by
  pointwise [k0_pay6, fac_at]

theorem first_at (dn : Vec Ideal S512x1024 .f32) (g : Vec Ideal S1x1024 .f32) (j : S512x1024.Idx) :
    k0_pay9 dn g j = dn j * g (ix2 0 (j 1)) := by
  pointwise [k0_pay9]

theorem dx_at (x d1 d2 dres : Vec Ideal S512x1024 .f32) (g1 g2 : Vec Ideal S1x1024 .f32) (j : S512x1024.Idx) :
    k0_pay1 (k0_pay5 x) (k0_pay6 x) d2 (k0_pay9 d1 g1) g2 dres j = dres j + NormRow.grad (fun k => x (ix2 (j 0) k))
      (fun k => d1 (ix2 (j 0) k) * g1 (ix2 0 k) + d2 (ix2 (j 0) k) * g2 (ix2 0 k)) (j 1) := by
  pointwise [k0_pay1, normed_at, fac_at, first_at, NormRow.grad]

theorem cast_at (a : FVec Ideal S512x1 .f32) (b d e : FVec Ideal S512x1024 .f32) (g : Vec Ideal S1x1024 .f32) (f : FVec Ideal S512x1024 .f32) (j : S512x1024.Idx) :
    k0_pay2 a b d e g f j = k0_pay1 a b d e g f j := by
  pointwise [k0_pay2]

theorem dg1_at (x dn : Vec Ideal S512x1024 .f32) (acc : Vec Ideal S1x1024 .f32) (j : S1x1024.Idx) :
    k0_pay7 x dn acc j = acc j + ∑ r : Fin 512, dn (ix2 r (j 1)) * (x (ix2 r (j 1)) * NormRow.fac fun k => x (ix2 r k)) := by
  pointwise [k0_pay7, normed_at]

theorem dg2_at (x dn : Vec Ideal S512x1024 .f32) (acc : Vec Ideal S1x1024 .f32) (j : S1x1024.Idx) :
    k0_pay8 x dn acc j = acc j + ∑ r : Fin 512, dn (ix2 r (j 1)) * (x (ix2 r (j 1)) * NormRow.fac fun k => x (ix2 r k)) := by
  pointwise [k0_pay8, normed_at]

theorem zero1_at (j : S1x1024.Idx) : k0_pay3 (F := Ideal) j = 0 := by
  pointwise [k0_pay3]

theorem zero2_at (j : S1x1024.Idx) : k0_pay4 (F := Ideal) j = 0 := by
  pointwise [k0_pay4]

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)
abbrev A2 : Vec Ideal S1x1024 .f32 := m ((c : Thread nD τ).loc main_arg2)
abbrev A3 : Vec Ideal S8192x1024 .f32 := m ((c : Thread nD τ).loc main_arg3)
abbrev A4 : Vec Ideal S8192x1024 .f32 := m ((c : Thread nD τ).loc main_arg4)
abbrev A5 : Vec Ideal S8192x1024 .f32 := m ((c : Thread nD τ).loc main_arg5)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] :=
  (by decide +kernel : ∀ t : Fin grid0.N, _)

theorem blk0 (t : Fin cfg0.N) (r : Fin 512) (l : Fin 1024) (R : Fin 8192) (L : Fin 1024) (hR : R.val = t.val * 512 + r) (hL : L.val = l.val) :
    iblk m c 0 t (ix2 r l) = A0 m c (ix2 R L) := by
  blk_point [iblk, V, idx t]

theorem blk3 (t : Fin cfg0.N) (r : Fin 512) (l : Fin 1024) (R : Fin 8192) (L : Fin 1024) (hR : R.val = t.val * 512 + r) (hL : L.val = l.val) :
    iblk m c 3 t (ix2 r l) = A3 m c (ix2 R L) := by
  blk_point [iblk, V, idx t]

theorem blk4 (t : Fin cfg0.N) (r : Fin 512) (l : Fin 1024) (R : Fin 8192) (L : Fin 1024) (hR : R.val = t.val * 512 + r) (hL : L.val = l.val) :
    iblk m c 4 t (ix2 r l) = A4 m c (ix2 R L) := by
  blk_point [iblk, V, idx t]

theorem blk1 (t : Fin cfg0.N) (l L : Fin 1024) (hL : L.val = l.val) : iblk m c 1 t (ix2 0 l) = A1 m c (ix2 0 L) := by
  blk_point [iblk, V, idx t]

theorem blk2 (t : Fin cfg0.N) (l L : Fin 1024) (hL : L.val = l.val) : iblk m c 2 t (ix2 0 l) = A2 m c (ix2 0 L) := by
  blk_point [iblk, V, idx t]

/-- The rows' gradient of a block is the array's at its place. -/
theorem dx_blk (t : Fin cfg0.N) (y : S512x1024.Idx) (i : S8192x1024.Idx) (h0 : (i 0).val = t.val * 512 + (y 0).val) (h1 : (i 1).val = (y 1).val) :
    k0_pay1 (k0_pay5 (iblk m c 0 t)) (k0_pay6 (iblk m c 0 t)) (iblk m c 4 t) (k0_pay9 (iblk m c 3 t) (iblk m c 1 t)) (iblk m c 2 t) (iblk m c 5 t) y
      = dx (A0 m c) (A1 m c) (A2 m c) (A3 m c) (A4 m c) (A5 m c) i := by
  rw [dx_at]
  refine congrArg₂ (· + ·) (by blk_point [iblk, V, idx t]) ?_
  exact (congrArg₂ (fun a b : Fin 1024 → EReal => NormRow.grad a b (y 1)) (funext fun k => blk0 m c t (y 0) k (i 0) k h0 rfl)
    (funext fun k => congrArg₂ (fun a b : EReal => a + b)
      (congrArg₂ (fun a b : EReal => a * b) (blk3 m c t (y 0) k (i 0) k h0 rfl) (blk1 m c t k k rfl))
      (congrArg₂ (fun a b : EReal => a * b) (blk4 m c t (y 0) k (i 0) k h0 rfl) (blk2 m c t k k rfl)))).trans
    (congrArg _ (Fin.ext h1.symm))

theorem final6 : (dats m 0 c).arrAt 6 (cfgs 0).N = dx (A0 m c) (A1 m c) (A2 m c) (A3 m c) (A4 m c) (A5 m c) := by
  refine (dats m 0 c).arrAt_eq_of_covers 6 _ (by decide +kernel) fun t hf y => ?_
  blk_simp
  rw [after0_6]
  have e0 : (((win0_6.blk t).view.emb y) 0).val = t.val * 512 + (y 0).val := by blk_simp [idx t]
  have e1 : (((win0_6.blk t).view.emb y) 1).val = (y 1).val := by blk_simp [idx t]
  generalize (win0_6.blk t).view.emb y = i at e0 e1
  by_cases h : t.val % 16 = 0
  · rw [outsAt0_A m c t h]; frame_out
    exact dx_blk m c t y i e0 e1
  · rw [outsAt0_B m c t h]; frame_out
    exact dx_blk m c t y i e0 e1

theorem final7 : (dats m 0 c).arrAt 7 (cfgs 0).N = (dx (A0 m c) (A1 m c) (A2 m c) (A3 m c) (A4 m c) (A5 m c) : S8192x1024.Idx → EReal) := by
  refine (dats m 0 c).arrAt_eq_of_covers 7 _ (by decide +kernel) fun t hf y => ?_
  blk_simp
  rw [after0_7]
  have e0 : (((win0_7.blk t).view.emb y) 0).val = t.val * 512 + (y 0).val := by blk_simp [idx t]
  have e1 : (((win0_7.blk t).view.emb y) 1).val = (y 1).val := by blk_simp [idx t]
  generalize (win0_7.blk t).view.emb y = i at e0 e1
  by_cases h : t.val % 16 = 0
  · rw [outsAt0_A m c t h]; frame_out
    rw [cast_at]
    exact dx_blk m c t y i e0 e1
  · rw [outsAt0_B m c t h]; frame_out
    rw [cast_at]
    exact dx_blk m c t y i e0 e1

theorem final8 : (dats m 0 c).arrAt 8 (cfgs 0).N = dg (A0 m c) (A3 m c) := by
  refine (dats m 0 c).arrAt_eq_of_covers 8 _ (by decide +kernel) fun t hf y => ?_
  blk_simp
  have ht : t.val < 16 := t.isLt
  have hl := (flush0_8 t).mp hf
  rw [after0_8, Pipeline.eq_sum_fin_of_reset_step_apply_of_flush (fun n h => (outsAt0 m c n h).2.2.1) 16 (fun _ => 0) _
    (fun t h j => by rw [outsAt0_A m c t h]; frame_out; rw [dg1_at, zero1_at])
    (fun t h j => by rw [outsAt0_B m c t h]; frame_out; rw [dg1_at])
    t hl _, zero_add]
  have e1 : (((win0_8.blk t).view.emb y) 1).val = (y 1).val := by blk_simp [idx t]
  generalize (win0_8.blk t).view.emb y = i at e1
  refine Fin.sum_mul_add_congr fun s r hl => ?_
  have hs : s.val < 16 := s.isLt
  have hp : 16 * (t.val / 16) + s.val < cfg0.N := lt_of_lt_of_eq (show _ < 16 by omega) N_0.symm
  have hR : s.val * 512 + r.val = (16 * (t.val / 16) + s.val) * 512 + r.val := by omega
  exact congrArg₂ (fun a b : EReal => a * b) (blk3 m c ⟨16 * (t.val / 16) + s.val, hp⟩ r (y 1) ⟨s.val * 512 + r.val, hl⟩ (i 1) hR e1)
    (congrArg₂ (fun a b : EReal => a * b) (blk0 m c ⟨16 * (t.val / 16) + s.val, hp⟩ r (y 1) ⟨s.val * 512 + r.val, hl⟩ (i 1) hR e1)
      (congrArg NormRow.fac (funext fun k => blk0 m c ⟨16 * (t.val / 16) + s.val, hp⟩ r k ⟨s.val * 512 + r.val, hl⟩ k hR rfl)))

theorem final9 : (dats m 0 c).arrAt 9 (cfgs 0).N = dg (A0 m c) (A4 m c) := by
  refine (dats m 0 c).arrAt_eq_of_covers 9 _ (by decide +kernel) fun t hf y => ?_
  blk_simp
  have ht : t.val < 16 := t.isLt
  have hl := (flush0_9 t).mp hf
  rw [after0_9, Pipeline.eq_sum_fin_of_reset_step_apply_of_flush (fun n h => (outsAt0 m c n h).2.2.2) 16 (fun _ => 0) _
    (fun t h j => by rw [outsAt0_A m c t h]; frame_out; rw [dg2_at, zero2_at])
    (fun t h j => by rw [outsAt0_B m c t h]; frame_out; rw [dg2_at])
    t hl _, zero_add]
  have e1 : (((win0_9.blk t).view.emb y) 1).val = (y 1).val := by blk_simp [idx t]
  generalize (win0_9.blk t).view.emb y = i at e1
  refine Fin.sum_mul_add_congr fun s r hl => ?_
  have hs : s.val < 16 := s.isLt
  have hp : 16 * (t.val / 16) + s.val < cfg0.N := lt_of_lt_of_eq (show _ < 16 by omega) N_0.symm
  have hR : s.val * 512 + r.val = (16 * (t.val / 16) + s.val) * 512 + r.val := by omega
  exact congrArg₂ (fun a b : EReal => a * b) (blk4 m c ⟨16 * (t.val / 16) + s.val, hp⟩ r (y 1) ⟨s.val * 512 + r.val, hl⟩ (i 1) hR e1)
    (congrArg₂ (fun a b : EReal => a * b) (blk0 m c ⟨16 * (t.val / 16) + s.val, hp⟩ r (y 1) ⟨s.val * 512 + r.val, hl⟩ (i 1) hR e1)
      (congrArg NormRow.fac (funext fun k => blk0 m c ⟨16 * (t.val / 16) + s.val, hp⟩ r k ⟨s.val * 512 + r.val, hl⟩ k hR rfl)))

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = dx (A0 m c) (A1 m c) (A2 m c) (A3 m c) (A4 m c) (A5 m c)
    ∧ r.2.mem ((c : Thread nD τ).loc main_v0_1) = (dx (A0 m c) (A1 m c) (A2 m c) (A3 m c) (A4 m c) (A5 m c) : S8192x1024.Idx → EReal)
    ∧ r.2.mem ((c : Thread nD τ).loc main_v0_2) = dg (A0 m c) (A3 m c)
    ∧ r.2.mem ((c : Thread nD τ).loc main_v0_3) = dg (A0 m c) (A4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨((h c).1 6).trans (final6 m c),
      ((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end kernel

section reference
open Cert.PairNormBwdSpecIdeal Cert.PairNormBwdSpecIdeal.Gen

theorem ref_dx (m : (ℓ : Loc nD τ sig) → Buf (Elt Ideal) ℓ) (c : Dev nD) :
    Cert.PairNormBwdSpecIdeal.Value.res_main_v47 m c = dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.PairNormBwdSpecIdeal.Value.res_main_v47
  generalize m ((c.tc : Thread nD τ).loc main_arg0) = X0
  generalize m ((c.tc : Thread nD τ).loc main_arg1) = X1
  generalize m ((c.tc : Thread nD τ).loc main_arg2) = X2
  generalize m ((c.tc : Thread nD τ).loc main_arg3) = X3
  generalize m ((c.tc : Thread nD τ).loc main_arg4) = X4
  generalize m ((c.tc : Thread nD τ).loc main_arg5) = X5
  funext i
  refine Eq.trans ?_ (congrArg (fun a : EReal => (_ : EReal) + a) ((congrArg (fun f : Fin 1024 → EReal => NormRow.grad _ f (i 1))
    (funext fun k => add_comm (_ : EReal) _)).trans (NormRow.grad_eq _ _ (i 1))).symm)
  pointwise [NormRow.gradRef, NormRow.coef, NormRow.fac, NormRow.ms]
  simp only [Finset.univ_unique, Finset.sum_singleton]
  rfl

theorem ref_dxb (m : (ℓ : Loc nD τ sig) → Buf (Elt Ideal) ℓ) (c : Dev nD) :
    Cert.PairNormBwdSpecIdeal.Value.res_main_v48 m c = (dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : S8192x1024.Idx → EReal) :=
  Eq.trans (by unfold Cert.PairNormBwdSpecIdeal.Value.res_main_v48 Cert.PairNormBwdSpecIdeal.Value.res_main_v47; rfl) (ref_dx m c)

theorem ref_dg3 (X0 X3 : Vec Ideal S8192x1024 .f32) :
    (shapeCast _ (Host.reduceAdd (mulf (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![] bcast_S_S1x1024 (constant S_ .f32 0x3F800000#32)))) X3) (constant S_ .f32 0x00000000#32) reducesTo_S8192x1024_S1024_d0 h_S_) shapeCasts_S1024_S1x1024 : FVec Ideal S1x1024 .f32) = dg X0 X3 := by
  funext i
  pointwise [dg, NormRow.fac, NormRow.ms]
  exact Finset.sum_congr rfl fun x _ => mul_comm (_ : EReal) _

theorem ref_dg4 (X0 X4 : Vec Ideal S8192x1024 .f32) :
    (shapeCast _ (Host.reduceAdd (mulf (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![] bcast_S_S1x1024 (constant S_ .f32 0x3F800000#32)))) X4) (constant S_ .f32 0x00000000#32) reducesTo_S8192x1024_S1024_d0 h_S_) shapeCasts_S1024_S1x1024 : FVec Ideal S1x1024 .f32) = dg X0 X4 := by
  funext i
  pointwise [dg, NormRow.fac, NormRow.ms]
  exact Finset.sum_congr rfl fun x _ => mul_comm (_ : EReal) _

/-- The reference's run. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
    r.2.mem ((c.tc : Thread nD τ).loc main_v47) = dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_v48) = (dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : S8192x1024.Idx → EReal)
    ∧ r.2.mem ((c.tc : Thread nD τ).loc main_v27) = dg (m ((c.tc : Thread nD τ).loc main_arg0)) (m ((c.tc : Thread nD τ).loc main_arg3))
    ∧ r.2.mem ((c.tc : Thread nD τ).loc main_v22) = dg (m ((c.tc : Thread nD τ).loc main_arg0)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => ⟨(h c).1.trans (ref_dx m c), (h c).2.1.trans (ref_dxb m c), (h c).2.2.1.trans (ref_dg3 _ _), (h c).2.2.2.1.trans (ref_dg4 _ _), (h c).2.2.2.2⟩)
    (Cert.PairNormBwdSpecIdeal.Value.run m g)

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
        ∧ r.2.sem = fun _ => 0 :=
  (θ_run defs _ _).mono (fun r h => ⟨fun c => (h c).2.2.2.2, sem_eq_zero_of_no_sems (by decide) r.2⟩)
    (run_ref m g)

end reference

/-- Over the extended reals the kernel's four results are the reference's. -/
theorem algebraic : Cert.algebraic_PairNormBwdIdeal_PairNormBwdSpecIdeal := by
  pair_intro
  · run_from run m g
  · run_from run_ref m' g'

end Cert.PairNormBwdProof

end
-- ==== Proof.Rest.LossHead.lean ====
/- The loss head: the gradient of the last norm under half the mean squared error, and the errors' squares by column (final_loss). -/
module

public import proofs.«01_k».proof.Proof.Gen.LossHeadIdeal.Frame
public import proofs.«01_k».proof.Proof.Gen.LossHeadSpecIdeal.Run
public import proofs.«01_k».proof.Proof.Rest.NormRow
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.LossHeadProof

open Idealize.ShloMosaic Idealize.ShloMosaic.TcCoe Idealize.SL.Sem

/-- 1/1024, as the kernel prints it, -/
abbrev share : EReal := Ideal.ofBits .f32 981467136#32

/-- the error, -/
def err (X0 : Vec Ideal LossHeadIdeal.S8192x1024 .f32) (X1 : Vec Ideal LossHeadIdeal.S1x1024 .f32) (X2 : Vec Ideal LossHeadIdeal.S8192x1024 .f32) (i : LossHeadIdeal.S8192x1024.Idx) : EReal :=
  X0 i * NormRow.fac (fun k => X0 (ix2 (i 0) k)) * X1 (ix2 0 (i 1)) - X2 i

/-- the gradient by the rows, -/
def dx (X0 : Vec Ideal LossHeadIdeal.S8192x1024 .f32) (X1 : Vec Ideal LossHeadIdeal.S1x1024 .f32) (X2 : Vec Ideal LossHeadIdeal.S8192x1024 .f32) : Vec Ideal LossHeadIdeal.S8192x1024 .f32 := fun i =>
  NormRow.grad (fun k => X0 (ix2 (i 0) k)) (fun k => err X0 X1 X2 (ix2 (i 0) k) * share * X1 (ix2 0 k)) (i 1)

/-- by the gain, -/
def dg (X0 : Vec Ideal LossHeadIdeal.S8192x1024 .f32) (X1 : Vec Ideal LossHeadIdeal.S1x1024 .f32) (X2 : Vec Ideal LossHeadIdeal.S8192x1024 .f32) : Vec Ideal LossHeadIdeal.S1x1024 .f32 := fun i =>
  ∑ r : Fin 8192, err X0 X1 X2 (ix2 r (i 1)) * share * (X0 (ix2 r (i 1)) * NormRow.fac fun k => X0 (ix2 r k))

/-- and the squared errors' sums. -/
def squares (X0 : Vec Ideal LossHeadIdeal.S8192x1024 .f32) (X1 : Vec Ideal LossHeadIdeal.S1x1024 .f32) (X2 : Vec Ideal LossHeadIdeal.S8192x1024 .f32) : Vec Ideal LossHeadIdeal.S1x1024 .f32 := fun i =>
  ∑ r : Fin 8192, err X0 X1 X2 (ix2 r (i 1)) * err X0 X1 X2 (ix2 r (i 1))

theorem share_eq : share = ((1 / 1024 : ℝ) : EReal) := by
  simp [share, Ideal.ofBits, Ideal.ieee]; rw [← EReal.coe_mul]; norm_num

/-- The derivative's factor (1/2) / 1024 times 2 of the error is the kernel's 1/1024. -/
theorem half_twice (e : EReal) :
    Ideal.div (Ideal.ofBits .f32 1056964608#32) NormRow.len * (Ideal.ofBits .f32 1073741824#32 * e) = e * share := by
  have h1 : Ideal.ofBits .f32 1056964608#32 = ((1 / 2 : ℝ) : EReal) := by
    simp [Ideal.ofBits, Ideal.ieee]; rw [← EReal.coe_mul]; norm_num
  have h3 : Ideal.ofBits .f32 1073741824#32 = ((2 : ℝ) : EReal) := by
    simp [Ideal.ofBits, Ideal.ieee]; rw [← EReal.coe_mul]; norm_num
  rw [h1, h3, NormRow.div_len, share_eq, ← EReal.coe_mul, ← mul_assoc, ← EReal.coe_mul, mul_comm]
  congr 2; norm_num

section kernel
open Cert.LossHeadIdeal Cert.LossHeadIdeal.Gen

theorem fac_at (x : Vec Ideal S512x1024 .f32) (j : S512x1.Idx) : k0_pay5 x j = NormRow.fac fun k => x (ix2 (j 0) k) := by
  pointwise [k0_pay5, NormRow.fac, NormRow.ms]

theorem normed_at (x : Vec Ideal S512x1024 .f32) (j : S512x1024.Idx) :
    k0_pay6 x j = x j * NormRow.fac fun k => x (ix2 (j 0) k) := by
  pointwise [k0_pay6, fac_at]

theorem err_at (x : Vec Ideal S512x1024 .f32) (g : Vec Ideal S1x1024 .f32) (u : Vec Ideal S512x1024 .f32) (j : S512x1024.Idx) :
    k0_pay7 x g u j = x j * NormRow.fac (fun k => x (ix2 (j 0) k)) * g (ix2 0 (j 1)) - u j := by
  pointwise [k0_pay7, normed_at]

theorem dy_at (x : Vec Ideal S512x1024 .f32) (g : Vec Ideal S1x1024 .f32) (u : Vec Ideal S512x1024 .f32) (j : S512x1024.Idx) :
    k0_pay9 x g u j = k0_pay7 x g u j * share := by
  pointwise [k0_pay9]

theorem dx_at (x : Vec Ideal S512x1024 .f32) (g : Vec Ideal S1x1024 .f32) (u : Vec Ideal S512x1024 .f32) (j : S512x1024.Idx) :
    k0_pay1 (k0_pay5 x) (k0_pay6 x) (k0_pay9 x g u) g j = NormRow.grad (fun k => x (ix2 (j 0) k))
      (fun k => k0_pay7 x g u (ix2 (j 0) k) * share * g (ix2 0 k)) (j 1) := by
  pointwise [k0_pay1, normed_at, fac_at, dy_at, NormRow.grad]

theorem cast_at (a : FVec Ideal S512x1 .f32) (b d : FVec Ideal S512x1024 .f32) (g : Vec Ideal S1x1024 .f32) (j : S512x1024.Idx) :
    k0_pay2 a b d g j = k0_pay1 a b d g j := by
  pointwise [k0_pay2]

theorem dg_at (x : Vec Ideal S512x1024 .f32) (g : Vec Ideal S1x1024 .f32) (u : Vec Ideal S512x1024 .f32) (acc : Vec Ideal S1x1024 .f32) (j : S1x1024.Idx) :
    k0_pay10 x g u acc j = acc j + ∑ r : Fin 512, k0_pay7 x g u (ix2 r (j 1)) * share * (x (ix2 r (j 1)) * NormRow.fac fun k => x (ix2 r k)) := by
  pointwise [k0_pay10, dy_at, normed_at]

theorem squares_at (x : Vec Ideal S512x1024 .f32) (g : Vec Ideal S1x1024 .f32) (u : Vec Ideal S512x1024 .f32) (acc : Vec Ideal S1x1024 .f32) (j : S1x1024.Idx) :
    k0_pay8 x g u acc j = acc j + ∑ r : Fin 512, k0_pay7 x g u (ix2 r (j 1)) * k0_pay7 x g u (ix2 r (j 1)) := by
  pointwise [k0_pay8]

theorem zero1_at (j : S1x1024.Idx) : k0_pay3 (F := Ideal) j = 0 := by
  pointwise [k0_pay3]

theorem zero2_at (j : S1x1024.Idx) : k0_pay4 (F := Ideal) j = 0 := by
  pointwise [k0_pay4]

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)
abbrev A2 : Vec Ideal S8192x1024 .f32 := m ((c : Thread nD τ).loc main_arg2)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![0, 0] :=
  (by decide +kernel : ∀ t : Fin grid0.N, _)

theorem blk0 (t : Fin cfg0.N) (r : Fin 512) (l : Fin 1024) (R : Fin 8192) (L : Fin 1024) (hR : R.val = t.val * 512 + r) (hL : L.val = l.val) :
    iblk m c 0 t (ix2 r l) = A0 m c (ix2 R L) := by
  blk_point [iblk, V, idx t]

theorem blk2 (t : Fin cfg0.N) (r : Fin 512) (l : Fin 1024) (R : Fin 8192) (L : Fin 1024) (hR : R.val = t.val * 512 + r) (hL : L.val = l.val) :
    iblk m c 2 t (ix2 r l) = A2 m c (ix2 R L) := by
  blk_point [iblk, V, idx t]

theorem blk1 (t : Fin cfg0.N) (l L : Fin 1024) (hL : L.val = l.val) : iblk m c 1 t (ix2 0 l) = A1 m c (ix2 0 L) := by
  blk_point [iblk, V, idx t]

/-- The errors of a block are the array's at their places. -/
theorem err_blk (t : Fin cfg0.N) (r : Fin 512) (l : Fin 1024) (R : Fin 8192) (L : Fin 1024) (hR : R.val = t.val * 512 + r) (hL : L.val = l.val) :
    k0_pay7 (iblk m c 0 t) (iblk m c 1 t) (iblk m c 2 t) (ix2 r l) = err (A0 m c) (A1 m c) (A2 m c) (ix2 R L) := by
  rw [err_at]
  exact congrArg₂ (fun a b : EReal => a - b) (congrArg₂ (fun a b : EReal => a * b) (congrArg₂ (fun a b : EReal => a * b) (blk0 m c t r l R L hR hL)
    (congrArg NormRow.fac (funext fun k => blk0 m c t r k R k hR rfl))) (blk1 m c t l L hL)) (blk2 m c t r l R L hR hL)

/-- The rows' gradient of a block is the array's at its place. -/
theorem dx_blk (t : Fin cfg0.N) (y : S512x1024.Idx) (i : S8192x1024.Idx) (h0 : (i 0).val = t.val * 512 + (y 0).val) (h1 : (i 1).val = (y 1).val) :
    k0_pay1 (k0_pay5 (iblk m c 0 t)) (k0_pay6 (iblk m c 0 t)) (k0_pay9 (iblk m c 0 t) (iblk m c 1 t) (iblk m c 2 t)) (iblk m c 1 t) y
      = dx (A0 m c) (A1 m c) (A2 m c) i := by
  rw [dx_at]
  exact (congrArg₂ (fun a b : Fin 1024 → EReal => NormRow.grad a b (y 1)) (funext fun k => blk0 m c t (y 0) k (i 0) k h0 rfl)
    (funext fun k => congrArg₂ (fun a b : EReal => a * b) (congrArg (fun a : EReal => a * share) (err_blk m c t (y 0) k (i 0) k h0 rfl)) (blk1 m c t k k rfl))).trans
    (congrArg _ (Fin.ext h1.symm))

theorem final3 : (dats m 0 c).arrAt 3 (cfgs 0).N = dx (A0 m c) (A1 m c) (A2 m c) := by
  refine (dats m 0 c).arrAt_eq_of_covers 3 _ (by decide +kernel) fun t hf y => ?_
  blk_simp
  rw [after0_3]
  have e0 : (((win0_3.blk t).view.emb y) 0).val = t.val * 512 + (y 0).val := by blk_simp [idx t]
  have e1 : (((win0_3.blk t).view.emb y) 1).val = (y 1).val := by blk_simp [idx t]
  generalize (win0_3.blk t).view.emb y = i at e0 e1
  by_cases h : t.val % 16 = 0
  · rw [outsAt0_A m c t h]; frame_out
    exact dx_blk m c t y i e0 e1
  · rw [outsAt0_B m c t h]; frame_out
    exact dx_blk m c t y i e0 e1

theorem final4 : (dats m 0 c).arrAt 4 (cfgs 0).N = (dx (A0 m c) (A1 m c) (A2 m c) : S8192x1024.Idx → EReal) := by
  refine (dats m 0 c).arrAt_eq_of_covers 4 _ (by decide +kernel) fun t hf y => ?_
  blk_simp
  rw [after0_4]
  have e0 : (((win0_4.blk t).view.emb y) 0).val = t.val * 512 + (y 0).val := by blk_simp [idx t]
  have e1 : (((win0_4.blk t).view.emb y) 1).val = (y 1).val := by blk_simp [idx t]
  generalize (win0_4.blk t).view.emb y = i at e0 e1
  by_cases h : t.val % 16 = 0
  · rw [outsAt0_A m c t h]; frame_out
    rw [cast_at]
    exact dx_blk m c t y i e0 e1
  · rw [outsAt0_B m c t h]; frame_out
    rw [cast_at]
    exact dx_blk m c t y i e0 e1

theorem final5 : (dats m 0 c).arrAt 5 (cfgs 0).N = dg (A0 m c) (A1 m c) (A2 m c) := by
  refine (dats m 0 c).arrAt_eq_of_covers 5 _ (by decide +kernel) fun t hf y => ?_
  blk_simp
  have ht : t.val < 16 := t.isLt
  have hl := (flush0_5 t).mp hf
  rw [after0_5, Pipeline.eq_sum_fin_of_reset_step_apply_of_flush (fun n h => (outsAt0 m c n h).2.2.1) 16 (fun _ => 0) _
    (fun t h j => by rw [outsAt0_A m c t h]; frame_out; rw [dg_at, zero1_at])
    (fun t h j => by rw [outsAt0_B m c t h]; frame_out; rw [dg_at])
    t hl _, zero_add]
  have e1 : (((win0_5.blk t).view.emb y) 1).val = (y 1).val := by blk_simp [idx t]
  generalize (win0_5.blk t).view.emb y = i at e1
  refine Fin.sum_mul_add_congr fun s r hl => ?_
  have hs : s.val < 16 := s.isLt
  have hp : 16 * (t.val / 16) + s.val < cfg0.N := lt_of_lt_of_eq (show _ < 16 by omega) N_0.symm
  have hR : s.val * 512 + r.val = (16 * (t.val / 16) + s.val) * 512 + r.val := by omega
  have he := err_blk m c ⟨16 * (t.val / 16) + s.val, hp⟩ r (y 1) ⟨s.val * 512 + r.val, hl⟩ (i 1) hR e1
  exact congrArg₂ (fun a b : EReal => a * b) (congrArg (fun a : EReal => a * share) he)
    (congrArg₂ (fun a b : EReal => a * b) (blk0 m c ⟨16 * (t.val / 16) + s.val, hp⟩ r (y 1) ⟨s.val * 512 + r.val, hl⟩ (i 1) hR e1)
      (congrArg NormRow.fac (funext fun k => blk0 m c ⟨16 * (t.val / 16) + s.val, hp⟩ r k ⟨s.val * 512 + r.val, hl⟩ k hR rfl)))

theorem final6 : (dats m 0 c).arrAt 6 (cfgs 0).N = squares (A0 m c) (A1 m c) (A2 m c) := by
  refine (dats m 0 c).arrAt_eq_of_covers 6 _ (by decide +kernel) fun t hf y => ?_
  blk_simp
  have ht : t.val < 16 := t.isLt
  have hl := (flush0_6 t).mp hf
  rw [after0_6, Pipeline.eq_sum_fin_of_reset_step_apply_of_flush (fun n h => (outsAt0 m c n h).2.2.2) 16 (fun _ => 0) _
    (fun t h j => by rw [outsAt0_A m c t h]; frame_out; rw [squares_at, zero2_at])
    (fun t h j => by rw [outsAt0_B m c t h]; frame_out; rw [squares_at])
    t hl _, zero_add]
  have e1 : (((win0_6.blk t).view.emb y) 1).val = (y 1).val := by blk_simp [idx t]
  generalize (win0_6.blk t).view.emb y = i at e1
  refine Fin.sum_mul_add_congr fun s r hl => ?_
  have hs : s.val < 16 := s.isLt
  have hp : 16 * (t.val / 16) + s.val < cfg0.N := lt_of_lt_of_eq (show _ < 16 by omega) N_0.symm
  have hR : s.val * 512 + r.val = (16 * (t.val / 16) + s.val) * 512 + r.val := by omega
  have he := err_blk m c ⟨16 * (t.val / 16) + s.val, hp⟩ r (y 1) ⟨s.val * 512 + r.val, hl⟩ (i 1) hR e1
  exact congrArg₂ (fun a b : EReal => a * b) he he

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = dx (A0 m c) (A1 m c) (A2 m c)
    ∧ r.2.mem ((c : Thread nD τ).loc main_v0_1) = (dx (A0 m c) (A1 m c) (A2 m c) : S8192x1024.Idx → EReal)
    ∧ r.2.mem ((c : Thread nD τ).loc main_v0_2) = dg (A0 m c) (A1 m c) (A2 m c)
    ∧ r.2.mem ((c : Thread nD τ).loc main_v0_3) = squares (A0 m c) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final3 m c),
      ((h c).1 4).trans (final4 m c),
      ((h c).1 5).trans (final5 m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end kernel

section reference
open Cert.LossHeadSpecIdeal Cert.LossHeadSpecIdeal.Gen

theorem ref_dx (m : (ℓ : Loc nD τ sig) → Buf (Elt Ideal) ℓ) (c : Dev nD) :
    Cert.LossHeadSpecIdeal.Value.res_main_v50 m c = dx (m ((c.tc : Thread nD τ).loc main_arg0)) (m ((c.tc : Thread nD τ).loc main_arg1)) (m ((c.tc : Thread nD τ).loc main_arg2)) := by
  unfold Cert.LossHeadSpecIdeal.Value.res_main_v50
  generalize m ((c.tc : Thread nD τ).loc main_arg0) = X0
  generalize m ((c.tc : Thread nD τ).loc main_arg1) = X1
  generalize m ((c.tc : Thread nD τ).loc main_arg2) = X2
  funext i
  refine Eq.trans ?_ (NormRow.grad_eq _ _ (i 1)).symm
  pointwise [NormRow.gradRef, NormRow.coef, NormRow.fac, NormRow.ms, half_twice, err]
  simp only [Finset.univ_unique, Finset.sum_singleton]
  rfl

theorem ref_dxb (m : (ℓ : Loc nD τ sig) → Buf (Elt Ideal) ℓ) (c : Dev nD) :
    Cert.LossHeadSpecIdeal.Value.res_main_v51 m c = (dx (m ((c.tc : Thread nD τ).loc main_arg0)) (m ((c.tc : Thread nD τ).loc main_arg1)) (m ((c.tc : Thread nD τ).loc main_arg2)) : S8192x1024.Idx → EReal) :=
  Eq.trans (by unfold Cert.LossHeadSpecIdeal.Value.res_main_v51 Cert.LossHeadSpecIdeal.Value.res_main_v50; rfl) (ref_dx m c)

theorem ref_dg (X0 : Vec Ideal S8192x1024 .f32) (X1 : Vec Ideal S1x1024 .f32) (X2 : Vec Ideal S8192x1024 .f32) :
    (shapeCast _ (Host.reduceAdd (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X1)) X2)))) (constant S_ .f32 0x00000000#32) reducesTo_S8192x1024_S1024_d0 h_S_) shapeCasts_S1024_S1x1024 : FVec Ideal S1x1024 .f32) = dg X0 X1 X2 := by
  funext i
  pointwise [dg, NormRow.fac, NormRow.ms, err, half_twice]
  exact Finset.sum_congr rfl fun x _ => mul_comm (_ : EReal) _

theorem ref_squares (X0 : Vec Ideal S8192x1024 .f32) (X1 : Vec Ideal S1x1024 .f32) (X2 : Vec Ideal S8192x1024 .f32) :
    (broadcastInDim S1x1024 ![1] bcast_S1024_S1x1024_1 (Host.reduceAdd (mulf (subf (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X1)) X2) (subf (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X1)) X2)) (constant S_ .f32 0x00000000#32) reducesTo_S8192x1024_S1024_d0 h_S_) : FVec Ideal S1x1024 .f32) = squares X0 X1 X2 := by
  funext i
  pointwise [squares, NormRow.fac, NormRow.ms, err]

/-- The reference's run. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
    r.2.mem ((c.tc : Thread nD τ).loc main_v50) = dx (m ((c.tc : Thread nD τ).loc main_arg0)) (m ((c.tc : Thread nD τ).loc main_arg1)) (m ((c.tc : Thread nD τ).loc main_arg2))
    ∧ r.2.mem ((c.tc : Thread nD τ).loc main_v51) = (dx (m ((c.tc : Thread nD τ).loc main_arg0)) (m ((c.tc : Thread nD τ).loc main_arg1)) (m ((c.tc : Thread nD τ).loc main_arg2)) : S8192x1024.Idx → EReal)
    ∧ r.2.mem ((c.tc : Thread nD τ).loc main_v34) = dg (m ((c.tc : Thread nD τ).loc main_arg0)) (m ((c.tc : Thread nD τ).loc main_arg1)) (m ((c.tc : Thread nD τ).loc main_arg2))
    ∧ r.2.mem ((c.tc : Thread nD τ).loc main_v25) = squares (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨(h c).1.trans (ref_dx m c), (h c).2.1.trans (ref_dxb m c), (h c).2.2.1.trans (ref_dg _ _ _), (h c).2.2.2.1.trans (ref_squares _ _ _), (h c).2.2.2.2⟩)
    (Cert.LossHeadSpecIdeal.Value.run m g)

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
        ∧ r.2.sem = fun _ => 0 :=
  (θ_run defs _ _).mono (fun r h => ⟨fun c => (h c).2.2.2.2, sem_eq_zero_of_no_sems (by decide) r.2⟩)
    (run_ref m g)

end reference

/-- Over the extended reals the kernel's four results are the reference's. -/
theorem algebraic : Cert.algebraic_LossHeadIdeal_LossHeadSpecIdeal := by
  pair_intro
  · run_from run m g
  · run_from run_ref m' g'

end Cert.LossHeadProof

end
-- ==== Proof.Rest.NormFwd.lean ====
/- The norm of the activations' rows (both layers' ffn_norm, and layer a's attn_norm). -/
module

public import proofs.«01_k».proof.Proof.Gen.NormFwdIdeal.Frame
public import proofs.«01_k».proof.Proof.Gen.NormFwdSpecIdeal.Run
public import proofs.«01_k».proof.Proof.Rest.NormRow
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.NormFwdProof

open Idealize.ShloMosaic Idealize.ShloMosaic.TcCoe Idealize.SL.Sem

/-- The rows normed, times the gain. -/
def normed (X0 : Vec Ideal NormFwdIdeal.S8192x1024 .f32) (X1 : Vec Ideal NormFwdIdeal.S1x1024 .f32) : NormFwdIdeal.S8192x1024.Idx → EReal := fun i =>
  X0 i * NormRow.fac (fun k => X0 (ix2 (i 0) k)) * X1 (ix2 0 (i 1))

section kernel
open Cert.NormFwdIdeal Cert.NormFwdIdeal.Gen

theorem normed_at (x : Vec Ideal S512x1024 .f32) (g : Vec Ideal S1x1024 .f32) (j : S512x1024.Idx) :
    k0_pay1 x g j = x j * NormRow.fac (fun k => x (ix2 (j 0) k)) * g (ix2 0 (j 1)) := by
  pointwise [k0_pay1, NormRow.fac, NormRow.ms]

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (r : Fin 512) (l : Fin 1024) (R : Fin 8192) (L : Fin 1024) (hR : R.val = t.val * 512 + r) (hL : L.val = l.val) :
    iblk m c 0 t (ix2 r l) = A0 m c (ix2 R L) := by
  blk_point [iblk, V, idx t]

theorem blk1 (t : Fin cfg0.N) (l L : Fin 1024) (hL : L.val = l.val) : iblk m c 1 t (ix2 0 l) = A1 m c (ix2 0 L) := by
  blk_point [iblk, V, idx t]

theorem final2 : (dats m 0 c).arrAt 2 (cfgs 0).N = normed (A0 m c) (A1 m c) := by
  refine (dats m 0 c).arrAt_eq_of_covers 2 _ (by decide +kernel) fun t hf y => ?_
  blk_simp
  rw [after0_2]
  have e0 : (((win0_2.blk t).view.emb y) 0).val = t.val * 512 + (y 0).val := by blk_simp [idx t]
  have e1 : (((win0_2.blk t).view.emb y) 1).val = (y 1).val := by blk_simp [idx t]
  generalize (win0_2.blk t).view.emb y = i at e0 e1
  frame_out
  rw [normed_at]
  have hx : iblk m c 0 t y = A0 m c i := by blk_point [iblk, V, idx t]
  exact congrArg₂ (fun a b : EReal => a * b) (congrArg₂ (fun a b : EReal => a * b) hx
    (congrArg NormRow.fac (funext fun k => blk0 m c t (y 0) k (i 0) k e0 rfl))) (blk1 m c t (y 1) (i 1) e1)

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0) = normed (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.NormFwdSpecIdeal Cert.NormFwdSpecIdeal.Gen

theorem ref_normed1 (X0 : Vec Ideal S8192x1024 .f32) (X1 : Vec Ideal S1x1024 .f32) :
    (truncf .bf16 (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X1)) bitsLt_bf16_f32 : FVec Ideal S8192x1024 .bf16) = normed X0 X1 := by
  funext i
  pointwise [normed, NormRow.fac, NormRow.ms]

/-- The reference's run. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
    r.2.mem ((c.tc : Thread nD τ).loc main_v12) = normed (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h c).1.trans (ref_normed1 _ _), (h c).2⟩)
    (Cert.NormFwdSpecIdeal.Value.run m g)

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (run_ref m g)

end reference

/-- Over the extended reals the kernel's result is the reference's. -/
theorem algebraic : Cert.algebraic_NormFwdIdeal_NormFwdSpecIdeal := by
  pair_intro
  · run_from run m g
  · run_from run_ref m' g'

end Cert.NormFwdProof

end
-- ==== Proof.Rest.MemNormFwd.lean ====
/- The norm of the memory's rows (mem_norm). -/
module

public import proofs.«01_k».proof.Proof.Gen.MemNormFwdIdeal.Frame
public import proofs.«01_k».proof.Proof.Gen.MemNormFwdSpecIdeal.Run
public import proofs.«01_k».proof.Proof.Rest.NormRow
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemNormFwdProof

open Idealize.ShloMosaic Idealize.ShloMosaic.TcCoe Idealize.SL.Sem

/-- The rows normed, times the gain. -/
def normed (X0 : Vec Ideal MemNormFwdIdeal.S1024x1024 .f32) (X1 : Vec Ideal MemNormFwdIdeal.S1x1024 .f32) : MemNormFwdIdeal.S1024x1024.Idx → EReal := fun i =>
  X0 i * NormRow.fac (fun k => X0 (ix2 (i 0) k)) * X1 (ix2 0 (i 1))

section kernel
open Cert.MemNormFwdIdeal Cert.MemNormFwdIdeal.Gen

theorem normed_at (x : Vec Ideal S512x1024 .f32) (g : Vec Ideal S1x1024 .f32) (j : S512x1024.Idx) :
    k0_pay1 x g j = x j * NormRow.fac (fun k => x (ix2 (j 0) k)) * g (ix2 0 (j 1)) := by
  pointwise [k0_pay1, NormRow.fac, NormRow.ms]

variable (m : (ℓ : Loc nD τ sig) → Buf (Elt Ideal) ℓ) (c : Dev nD)

abbrev A0 : Vec Ideal S1024x1024 .f32 := m ((c : Thread nD τ).loc main_arg0)
abbrev A1 : Vec Ideal S1x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (r : Fin 512) (l : Fin 1024) (R : Fin 1024) (L : Fin 1024) (hR : R.val = t.val * 512 + r) (hL : L.val = l.val) :
    iblk m c 0 t (ix2 r l) = A0 m c (ix2 R L) := by
  blk_point [iblk, V, idx t]

theorem blk1 (t : Fin cfg0.N) (l L : Fin 1024) (hL : L.val = l.val) : iblk m c 1 t (ix2 0 l) = A1 m c (ix2 0 L) := by
  blk_point [iblk, V, idx t]

theorem final2 : (dats m 0 c).arrAt 2 (cfgs 0).N = normed (A0 m c) (A1 m c) := by
  refine (dats m 0 c).arrAt_eq_of_covers 2 _ (by decide +kernel) fun t hf y => ?_
  blk_simp
  rw [after0_2]
  have e0 : (((win0_2.blk t).view.emb y) 0).val = t.val * 512 + (y 0).val := by blk_simp [idx t]
  have e1 : (((win0_2.blk t).view.emb y) 1).val = (y 1).val := by blk_simp [idx t]
  generalize (win0_2.blk t).view.emb y = i at e0 e1
  frame_out
  rw [normed_at]
  have hx : iblk m c 0 t y = A0 m c i := by blk_point [iblk, V, idx t]
  exact congrArg₂ (fun a b : EReal => a * b) (congrArg₂ (fun a b : EReal => a * b) hx
    (congrArg NormRow.fac (funext fun k => blk0 m c t (y 0) k (i 0) k e0 rfl))) (blk1 m c t (y 1) (i 1) e1)

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0) = normed (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.MemNormFwdSpecIdeal Cert.MemNormFwdSpecIdeal.Gen

theorem ref_normed1 (X0 : Vec Ideal S1024x1024 .f32) (X1 : Vec Ideal S1x1024 .f32) :
    (truncf .bf16 (mulf (mulf X0 (broadcastInDim S1024x1024 ![0, 1] bcast_S1024x1_S1024x1024_0_1 (Host.rsqrt (addf (Host.divf (broadcastInDim S1024x1 ![0] bcast_S1024_S1024x1_0 (Host.reduceAdd (mulf X0 X0) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 X1)) bitsLt_bf16_f32 : FVec Ideal S1024x1024 .bf16) = normed X0 X1 := by
  funext i
  pointwise [normed, NormRow.fac, NormRow.ms]

/-- The reference's run. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
    r.2.mem ((c.tc : Thread nD τ).loc main_v12) = normed (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h c).1.trans (ref_normed1 _ _), (h c).2⟩)
    (Cert.MemNormFwdSpecIdeal.Value.run m g)

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (run_ref m g)

end reference

/-- Over the extended reals the kernel's result is the reference's. -/
theorem algebraic : Cert.algebraic_MemNormFwdIdeal_MemNormFwdSpecIdeal := by
  pair_intro
  · run_from run m g
  · run_from run_ref m' g'

end Cert.MemNormFwdProof

end
-- ==== Proof.Rest.PairNormFwd.lean ====
/- The two norms of one array (kv_b_attn_norm). -/
module

public import proofs.«01_k».proof.Proof.Gen.PairNormFwdIdeal.Frame
public import proofs.«01_k».proof.Proof.Gen.PairNormFwdSpecIdeal.Run
public import proofs.«01_k».proof.Proof.Rest.NormRow
public import proofs.«01_k».proof.Defs
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.PairNormFwdProof

open Idealize.ShloMosaic Idealize.ShloMosaic.TcCoe Idealize.SL.Sem

/-- The rows normed, times the gain. -/
def normed (X0 : Vec Ideal PairNormFwdIdeal.S8192x1024 .f32) (X1 : Vec Ideal PairNormFwdIdeal.S1x1024 .f32) : PairNormFwdIdeal.S8192x1024.Idx → EReal := fun i =>
  X0 i * NormRow.fac (fun k => X0 (ix2 (i 0) k)) * X1 (ix2 0 (i 1))

section kernel
open Cert.PairNormFwdIdeal Cert.PairNormFwdIdeal.Gen

theorem unit_at (x : Vec Ideal S512x1024 .f32) (j : S512x1024.Idx) : k0_pay1 x j = x j * NormRow.fac (fun k => x (ix2 (j 0) k)) := by
  pointwise [k0_pay1, NormRow.fac, NormRow.ms]

theorem first_at (x : Vec Ideal S512x1024 .f32) (g : Vec Ideal S1x1024 .f32) (j : S512x1024.Idx) :
    k0_pay2 x g j = x j * NormRow.fac (fun k => x (ix2 (j 0) k)) * g (ix2 0 (j 1)) := by
  pointwise [k0_pay2, unit_at]

theorem second_at (x : Vec Ideal S512x1024 .f32) (g : Vec Ideal S1x1024 .f32) (j : S512x1024.Idx) :
    k0_pay3 x g j = x j * NormRow.fac (fun k => x (ix2 (j 0) k)) * g (ix2 0 (j 1)) := by
  pointwise [k0_pay3, unit_at]

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)
abbrev A2 : Vec Ideal S1x1024 .f32 := m ((c : Thread nD τ).loc main_arg2)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem blk0 (t : Fin cfg0.N) (r : Fin 512) (l : Fin 1024) (R : Fin 8192) (L : Fin 1024) (hR : R.val = t.val * 512 + r) (hL : L.val = l.val) :
    iblk m c 0 t (ix2 r l) = A0 m c (ix2 R L) := by
  blk_point [iblk, V, idx t]

theorem blk1 (t : Fin cfg0.N) (l L : Fin 1024) (hL : L.val = l.val) : iblk m c 1 t (ix2 0 l) = A1 m c (ix2 0 L) := by
  blk_point [iblk, V, idx t]

theorem blk2 (t : Fin cfg0.N) (l L : Fin 1024) (hL : L.val = l.val) : iblk m c 2 t (ix2 0 l) = A2 m c (ix2 0 L) := by
  blk_point [iblk, V, idx t]

theorem final3 : (dats m 0 c).arrAt 3 (cfgs 0).N = normed (A0 m c) (A1 m c) := by
  refine (dats m 0 c).arrAt_eq_of_covers 3 _ (by decide +kernel) fun t hf y => ?_
  blk_simp
  rw [after0_3]
  have e0 : (((win0_3.blk t).view.emb y) 0).val = t.val * 512 + (y 0).val := by blk_simp [idx t]
  have e1 : (((win0_3.blk t).view.emb y) 1).val = (y 1).val := by blk_simp [idx t]
  generalize (win0_3.blk t).view.emb y = i at e0 e1
  frame_out
  rw [first_at]
  have hx : iblk m c 0 t y = A0 m c i := by blk_point [iblk, V, idx t]
  exact congrArg₂ (fun a b : EReal => a * b) (congrArg₂ (fun a b : EReal => a * b) hx
    (congrArg NormRow.fac (funext fun k => blk0 m c t (y 0) k (i 0) k e0 rfl))) (blk1 m c t (y 1) (i 1) e1)

theorem final4 : (dats m 0 c).arrAt 4 (cfgs 0).N = normed (A0 m c) (A2 m c) := by
  refine (dats m 0 c).arrAt_eq_of_covers 4 _ (by decide +kernel) fun t hf y => ?_
  blk_simp
  rw [after0_4]
  have e0 : (((win0_4.blk t).view.emb y) 0).val = t.val * 512 + (y 0).val := by blk_simp [idx t]
  have e1 : (((win0_4.blk t).view.emb y) 1).val = (y 1).val := by blk_simp [idx t]
  generalize (win0_4.blk t).view.emb y = i at e0 e1
  frame_out
  rw [second_at]
  have hx : iblk m c 0 t y = A0 m c i := by blk_point [iblk, V, idx t]
  exact congrArg₂ (fun a b : EReal => a * b) (congrArg₂ (fun a b : EReal => a * b) hx
    (congrArg NormRow.fac (funext fun k => blk0 m c t (y 0) k (i 0) k e0 rfl))) (blk2 m c t (y 1) (i 1) e1)

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = normed (A0 m c) (A1 m c)
    ∧ r.2.mem ((c : Thread nD τ).loc main_v0_1) = normed (A0 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final3 m c),
      ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end kernel

section reference
open Cert.PairNormFwdSpecIdeal Cert.PairNormFwdSpecIdeal.Gen

theorem ref_normed1 (X0 : Vec Ideal S8192x1024 .f32) (X1 : Vec Ideal S1x1024 .f32) :
    (truncf .bf16 (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X1)) bitsLt_bf16_f32 : FVec Ideal S8192x1024 .bf16) = normed X0 X1 := by
  funext i
  pointwise [normed, NormRow.fac, NormRow.ms]

theorem ref_normed2 (X0 : Vec Ideal S8192x1024 .f32) (X2 : Vec Ideal S1x1024 .f32) :
    (truncf .bf16 (mulf (mulf X0 (broadcastInDim S8192x1024 ![0, 1] bcast_S8192x1_S8192x1024_0_1 (Host.rsqrt (addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X2)) bitsLt_bf16_f32 : FVec Ideal S8192x1024 .bf16) = normed X0 X2 := by
  funext i
  pointwise [normed, NormRow.fac, NormRow.ms]

/-- The reference's run. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
    r.2.mem ((c.tc : Thread nD τ).loc main_v12) = normed (m ((c.tc : Thread nD τ).loc main_arg0)) (m ((c.tc : Thread nD τ).loc main_arg1))
    ∧ r.2.mem ((c.tc : Thread nD τ).loc main_v25) = normed (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨(h c).1.trans (ref_normed1 _ _), (h c).2.1.trans (ref_normed2 _ _), (h c).2.2⟩)
    (Cert.PairNormFwdSpecIdeal.Value.run m g)

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
        ∧ r.2.sem = fun _ => 0 :=
  (θ_run defs _ _).mono (fun r h => ⟨fun c => (h c).2.2, sem_eq_zero_of_no_sems (by decide) r.2⟩)
    (run_ref m g)

end reference

/-- Over the extended reals the kernel's result is the reference's. -/
theorem algebraic : Cert.algebraic_PairNormFwdIdeal_PairNormFwdSpecIdeal := by
  pair_intro
  · run_from run m g
  · run_from run_ref m' g'

end Cert.PairNormFwdProof

end
-- ==== Proof.MemStages.lean ====
/- The reference of the memory attention's gradient, stage by stage. The program's run names each result by one
   composed term; here the term is cut at the arrays it uses more than once. -/
module

public import proofs.«01_k».proof.Proof.Gen.MemSpecIdeal.Run
public import Idealize.ShloMosaic.Lib.Pipeline.ValueKit

@[expose] public section

set_option maxRecDepth 16384

noncomputable section

namespace Cert.MemSpecIdeal.Stages

open Cert.MemSpecIdeal Cert.MemSpecIdeal.Gen Cert.MemSpecIdeal.Value
open Idealize.ShloMosaic Idealize.ShloMosaic.TcCoe Idealize.SL.Sem

variable {F : FTy → Type} [FloatOps F]

/-- Reference: the memory keys and values, batch by batch. -/
def kvArr (a1 : Vec F S1024x512 .bf16) : Vec F S4x256x512 .f32 :=
  shapeCast S4x256x512 (extf .f32 a1 bitsLt_bf16_f32) shapeCasts_S1024x512_S4x256x512

/-- Reference: the queries by batch, row, head and lane. -/
def qArr (a0 : Vec F S8192x1024 .f32) : Vec F S4x2048x4x64 .f32 :=
  shapeCast S4x2048x4x64 (extractStridedSlice S4x2048x256 ![0, 0, 768] (shapeCast S4x2048x1024 a0 shapeCasts_S8192x1024_S4x2048x1024) slices_S4x2048x1024_S4x2048x256_0_0_768) shapeCasts_S4x2048x256_S4x2048x4x64

/-- Reference: the keys by batch, position, head and lane. -/
def kArr (a1 : Vec F S1024x512 .bf16) : Vec F S4x256x4x64 .f32 :=
  shapeCast S4x256x4x64 (extractStridedSlice S4x256x256 ![0, 0, 0] (kvArr a1) slices_S4x256x512_S4x256x256_0_0_0) shapeCasts_S4x256x256_S4x256x4x64

/-- Reference: the values. -/
def vArr (a1 : Vec F S1024x512 .bf16) : Vec F S4x256x4x64 .f32 :=
  shapeCast S4x256x4x64 (extractStridedSlice S4x256x256 ![0, 0, 256] (kvArr a1) slices_S4x256x512_S4x256x256_0_0_256) shapeCasts_S4x256x256_S4x256x4x64

/-- Reference: the scaled scores by batch, head, row and key. -/
def score (a0 : Vec F S8192x1024 .f32) (a1 : Vec F S1024x512 .bf16) : Vec F S4x4x2048x256 .f32 :=
  mulf (Host.dotGeneral dot_S4x2048x4x64_S4x256x4x64_S4x4x2048x256_3_3_1_1_02_02 none (qArr a0) (kArr a1)) (broadcastInDim S4x4x2048x256 ![] bcast_S_S4x4x2048x256 (constant S_ .f32 0x3E000000#32))

/-- Reference: each row's greatest score. -/
def rowMax (a0 : Vec F S8192x1024 .f32) (a1 : Vec F S1024x512 .bf16) : Vec F S4x4x2048 .f32 :=
  Host.reduce FloatOps.maximumf (score a0 a1) (constant S_ .f32 0xFF800000#32) reducesTo_S4x4x2048x256_S4x4x2048_d3 h_S_

/-- Reference: the exponentials of the shifted scores. -/
def expo (a0 : Vec F S8192x1024 .f32) (a1 : Vec F S1024x512 .bf16) : Vec F S4x4x2048x256 .f32 :=
  Host.exp (subf (score a0 a1) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (rowMax a0 a1)))))

/-- Reference: their row sums. -/
def rowSum (a0 : Vec F S8192x1024 .f32) (a1 : Vec F S1024x512 .bf16) : Vec F S4x4x2048x1 .f32 :=
  broadcastInDim S4x4x2048x1 ![0, 1, 2] bcast_S4x4x2048_S4x4x2048x1_0_1_2 (Host.reduceAdd (expo a0 a1) (constant S_ .f32 0x00000000#32) reducesTo_S4x4x2048x256_S4x4x2048_d3 h_S_)

/-- Reference: the probabilities. -/
def prob (a0 : Vec F S8192x1024 .f32) (a1 : Vec F S1024x512 .bf16) : Vec F S4x4x2048x256 .f32 :=
  Host.divf (expo a0 a1) (broadcastInDim S4x4x2048x256 ![0, 1, 2, 3] bcast_S4x4x2048x1_S4x4x2048x256_0_1_2_3 (rowSum a0 a1))

/-- Reference: the incoming gradient by batch, head, lane and row. -/
def doArr (a2 : Vec F S8192x1024 .bf16) : Vec F S4x4x64x2048 .f32 :=
  transpose S4x4x64x2048 [0, 2, 3, 1] (shapeCast S4x2048x4x64 (extractStridedSlice S4x2048x256 ![0, 0, 768] (shapeCast S4x2048x1024 (extf .f32 a2 bitsLt_bf16_f32) shapeCasts_S8192x1024_S4x2048x1024) slices_S4x2048x1024_S4x2048x256_0_0_768) shapeCasts_S4x2048x256_S4x2048x4x64) transposes_S4x2048x4x64_S4x4x64x2048_0_2_3_1

/-- Reference: the gradient of the probabilities. -/
def dprob (a1 : Vec F S1024x512 .bf16) (a2 : Vec F S8192x1024 .bf16) : Vec F S4x4x2048x256 .f32 :=
  Host.dotGeneral dot_S4x4x64x2048_S4x256x4x64_S4x4x2048x256_2_3_3_1_01_02 none (doArr a2) (vArr a1)

/-- Reference: the gradient of the unscaled scores. -/
def dscore (a0 : Vec F S8192x1024 .f32) (a1 : Vec F S1024x512 .bf16) (a2 : Vec F S8192x1024 .bf16) : Vec F S4x4x2048x256 .f32 :=
  mulf (mulf (addf (Host.divf (dprob a1 a2) (broadcastInDim S4x4x2048x256 ![0, 1, 2, 3] bcast_S4x4x2048x1_S4x4x2048x256_0_1_2_3 (rowSum a0 a1))) (broadcastInDim S4x4x2048x256 ![0, 1, 2] bcast_S4x4x2048_S4x4x2048x256_0_1_2 (Host.reduceAdd (Host.negf (shapeCast S4x4x2048x1 (Host.reduceAdd (mulf (mulf (dprob a1 a2) (broadcastInDim S4x4x2048x256 ![0, 1, 2, 3] bcast_S4x4x2048x1_S4x4x2048x256_0_1_2_3 (Host.divf (broadcastInDim S4x4x2048x1 ![] bcast_S_S4x4x2048x1 (constant S_ .f32 0x3F800000#32)) (mulf (rowSum a0 a1) (rowSum a0 a1))))) (expo a0 a1)) (constant S_ .f32 0x00000000#32) reducesTo_S4x4x2048x256_S4x4x2048_d3 h_S_) shapeCasts_S4x4x2048_S4x4x2048x1)) (constant S_ .f32 0x00000000#32) reducesTo_S4x4x2048x1_S4x4x2048_d3 h_S_))) (expo a0 a1)) (broadcastInDim S4x4x2048x256 ![] bcast_S_S4x4x2048x256 (constant S_ .f32 0x3E000000#32))

/-- Reference: the queries' gradient. -/
def dqOut (a0 : Vec F S8192x1024 .f32) (a1 : Vec F S1024x512 .bf16) (a2 : Vec F S8192x1024 .bf16) : Vec F S8192x256 .bf16 :=
  truncf .bf16 (shapeCast S8192x256 (shapeCast S4x2048x256 (transpose S4x2048x4x64 [0, 2, 1, 3] (Host.dotGeneral dot_S4x4x2048x256_S4x256x4x64_S4x4x2048x64_3_1_2_3_01_02 none (dscore a0 a1 a2) (kArr a1)) transposes_S4x4x2048x64_S4x2048x4x64_0_2_1_3) shapeCasts_S4x2048x4x64_S4x2048x256) shapeCasts_S4x2048x256_S8192x256) bitsLt_bf16_f32

/-- Reference: the keys' gradient. -/
def dkOut (a0 : Vec F S8192x1024 .f32) (a1 : Vec F S1024x512 .bf16) (a2 : Vec F S8192x1024 .bf16) : Vec F S1024x256 .f32 :=
  shapeCast S1024x256 (shapeCast S4x256x256 (transpose S4x256x4x64 [0, 2, 1, 3] (Host.dotGeneral dot_S4x4x2048x256_S4x2048x4x64_S4x4x256x64_2_1_3_3_01_02 none (dscore a0 a1 a2) (qArr a0)) transposes_S4x4x256x64_S4x256x4x64_0_2_1_3) shapeCasts_S4x256x4x64_S4x256x256) shapeCasts_S4x256x256_S1024x256

/-- Reference: the values' gradient. -/
def dvOut (a0 : Vec F S8192x1024 .f32) (a1 : Vec F S1024x512 .bf16) (a2 : Vec F S8192x1024 .bf16) : Vec F S1024x256 .f32 :=
  shapeCast S1024x256 (shapeCast S4x256x256 (transpose S4x256x4x64 [0, 3, 1, 2] (Host.dotGeneral dot_S4x4x64x2048_S4x4x2048x256_S4x4x64x256_3_2_2_3_01_01 none (doArr a2) (prob a0 a1)) transposes_S4x4x64x256_S4x256x4x64_0_3_1_2) shapeCasts_S4x256x4x64_S4x256x256) shapeCasts_S4x256x256_S1024x256

variable (m : (ℓ : Loc nD τ sig) → Buf (Elt F) ℓ) (c : Dev nD)

theorem out0_eq : res_out0 m c = dqOut (m ((c.tc : Thread nD τ).loc main_arg0)) (m ((c.tc : Thread nD τ).loc main_arg1))
    (m ((c.tc : Thread nD τ).loc main_arg2)) := rfl

theorem out1_eq : res_out1 m c = dkOut (m ((c.tc : Thread nD τ).loc main_arg0)) (m ((c.tc : Thread nD τ).loc main_arg1))
    (m ((c.tc : Thread nD τ).loc main_arg2)) := rfl

theorem out2_eq : res_out2 m c = dvOut (m ((c.tc : Thread nD τ).loc main_arg0)) (m ((c.tc : Thread nD τ).loc main_arg1))
    (m ((c.tc : Thread nD τ).loc main_arg2)) := rfl

end Cert.MemSpecIdeal.Stages

end
-- ==== Proof.MemBlock.lean ====
/- One grid point of the memory attention's gradient: what the body adds to the two accumulated blocks and what it
   stores in the third, from the point's four input blocks. A block's 128 lanes hold two heads of 64; the body masks
   the other head's lanes, which removes them from every sum. -/
module

public import proofs.«01_k».proof.Proof.Gen.MemBwdIdeal.Value
public import proofs.«01_k».proof.Proof.Row

@[expose] public section

set_option maxRecDepth 16384

noncomputable section

namespace Cert.MemBlock

open Cert.MemBwdIdeal Cert.MemBwdIdeal.Gen Idealize.ShloMosaic

/-- Lane `d` of head `h` of a pair. -/
abbrev lane (h : Fin 2) (d : Fin 64) : Fin 128 := ⟨h * 64 + d, by omega⟩

/-- The head a lane belongs to. -/
abbrev headOf (l : Fin 128) : Fin 2 := ⟨l / 64, by omega⟩

/-- The scale of the scores, 1/8. -/
abbrev scl : EReal := Ideal.ofBits .f32 1040187392#32

theorem select_lo (f : Fin 128 → EReal) :
    ∑ x : Fin 128, Scalar.select (IntOp.cmpi CmpIPredicate.slt (BitVec.ofNat 32 ↑x) 64#32) (f x) 0
      = ∑ d : Fin 64, f (lane 0 d) := by
  rw [show (∑ x : Fin 128, Scalar.select (IntOp.cmpi CmpIPredicate.slt (BitVec.ofNat 32 ↑x) 64#32) (f x) 0)
    = ∑ x : Fin (64 + 64), Scalar.select (IntOp.cmpi CmpIPredicate.slt (BitVec.ofNat 32 ↑x) 64#32) (f x) 0 from rfl,
    Fin.sum_univ_add]
  have h1 : ∀ d : Fin 64, IntOp.cmpi CmpIPredicate.slt (BitVec.ofNat 32 ↑(Fin.castAdd 64 d)) 64#32 = 1#1 := by decide
  have h2 : ∀ d : Fin 64, IntOp.cmpi CmpIPredicate.slt (BitVec.ofNat 32 ↑(Fin.natAdd 64 d)) 64#32 = 0#1 := by decide
  simp only [h1, h2, Scalar.select]
  simp
  exact Finset.sum_congr rfl fun d _ => by congr 1; ext; simp [lane]

theorem select_hi (f : Fin 128 → EReal) :
    ∑ x : Fin 128, Scalar.select (IntOp.cmpi CmpIPredicate.sge (BitVec.ofNat 32 ↑x) 64#32) (f x) 0
      = ∑ d : Fin 64, f (lane 1 d) := by
  rw [show (∑ x : Fin 128, Scalar.select (IntOp.cmpi CmpIPredicate.sge (BitVec.ofNat 32 ↑x) 64#32) (f x) 0)
    = ∑ x : Fin (64 + 64), Scalar.select (IntOp.cmpi CmpIPredicate.sge (BitVec.ofNat 32 ↑x) 64#32) (f x) 0 from rfl,
    Fin.sum_univ_add]
  have h1 : ∀ d : Fin 64, IntOp.cmpi CmpIPredicate.sge (BitVec.ofNat 32 ↑(Fin.castAdd 64 d)) 64#32 = 0#1 := by decide
  have h2 : ∀ d : Fin 64, IntOp.cmpi CmpIPredicate.sge (BitVec.ofNat 32 ↑(Fin.natAdd 64 d)) 64#32 = 1#1 := by decide
  simp only [h1, h2, Scalar.select]
  simp
  exact Finset.sum_congr rfl fun d _ => by congr 1; ext; simp [lane]; omega

variable (x0 : Vec Ideal S512x128 .f32) (x1 x2 : Vec Ideal S256x128 .bf16) (x3 : Vec Ideal S512x128 .bf16)

/-- The scaled scores of row `r` for head `h`. -/
def sc (h : Fin 2) (r : Fin 512) (k : Fin 256) : EReal := (∑ d : Fin 64, x0 (ix2 r (lane h d)) * x1 (ix2 k (lane h d))) * scl

/-- The gradients of the probabilities. -/
def dp (h : Fin 2) (r : Fin 512) (k : Fin 256) : EReal := ∑ d : Fin 64, x3 (ix2 r (lane h d)) * x2 (ix2 k (lane h d))

/-- The scaled gradients of the scores. -/
def ds (h : Fin 2) (r : Fin 512) (k : Fin 256) : EReal := Row.grad (sc x0 x1 h r) (dp x2 x3 h r) k * scl

theorem probLo (j : S512x256.Idx) : k0_pay12 x0 x1 j = Row.prob (sc x0 x1 0 (j 0)) (j 1) := by
  pointwise [k0_pay12, k0_pay10, k0_pay9, k0_pay7]
  simp only [select_lo]; rfl

theorem probHi (j : S512x256.Idx) : k0_pay21 k0_pay8 (k0_pay9 x0) x1 j = Row.prob (sc x0 x1 1 (j 0)) (j 1) := by
  pointwise [k0_pay21, k0_pay19, k0_pay9, k0_pay8]
  simp only [select_hi]; rfl

theorem dpLo (j : S512x256.Idx) : k0_pay13 x3 x2 j = dp x2 x3 0 (j 0) (j 1) := by
  pointwise [k0_pay13, k0_pay11, k0_pay7]
  simp only [select_lo]; rfl

theorem dpHi (j : S512x256.Idx) : k0_pay22 k0_pay8 x3 x2 j = dp x2 x3 1 (j 0) (j 1) := by
  pointwise [k0_pay22, k0_pay20, k0_pay8]
  simp only [select_hi]; rfl

theorem sumLo (j : S512x1.Idx) : k0_pay14 x0 x3 x1 x2 j
    = ∑ i, Row.prob (sc x0 x1 0 (j 0)) i * dp x2 x3 0 (j 0) i := by
  pointwise [k0_pay14, probLo, dpLo]

theorem sumHi (j : S512x256.Idx) : k0_pay23 k0_pay8 (k0_pay9 x0) x3 x1 x2 j
    = Row.prob (sc x0 x1 1 (j 0)) (j 1) * dp x2 x3 1 (j 0) (j 1) := by
  pointwise [k0_pay23, probHi, dpHi]

theorem dsLo (j : S512x256.Idx) : k0_pay15 (k0_pay12 x0 x1) (k0_pay13 x3 x2) (k0_pay14 x0 x3 x1 x2) j
    = ds x0 x1 x2 x3 0 (j 0) (j 1) := by
  pointwise [k0_pay15, probLo, dpLo, sumLo]; rfl

theorem dsHi (j : S512x256.Idx) : k0_pay1 (k0_pay21 k0_pay8 (k0_pay9 x0) x1) (k0_pay22 k0_pay8 x3 x2)
    (k0_pay23 k0_pay8 (k0_pay9 x0) x3 x1 x2) j = ds x0 x1 x2 x3 1 (j 0) (j 1) := by
  pointwise [k0_pay1, probHi, dpHi, sumHi]; rfl

theorem mask_pick (l : Fin 128) (A : Fin 2 → EReal) :
    Scalar.select (IntOp.cmpi CmpIPredicate.slt (BitVec.ofNat 32 ↑l) 64#32) (A 0) (A 1) = A (headOf l) := by
  have h : ∀ l : Fin 128, (IntOp.cmpi CmpIPredicate.slt (BitVec.ofNat 32 ↑l) 64#32 = 1#1 ∧ headOf l = 0)
      ∨ (IntOp.cmpi CmpIPredicate.slt (BitVec.ofNat 32 ↑l) 64#32 = 0#1 ∧ headOf l = 1) := by decide
  rcases h l with ⟨h1, h2⟩ | ⟨h1, h2⟩ <;> rw [h1, h2] <;> simp [Scalar.select]

/-- A lane's mask: one head's product or the other's, by the half the lane lies in. -/
theorem mask_sum (l : Fin 128) (A : Fin 2 → EReal) :
    Scalar.select (IntOp.cmpi CmpIPredicate.slt (BitVec.ofNat 32 ↑l) 64#32) (A 0) 0
      + Scalar.select (IntOp.cmpi CmpIPredicate.sge (BitVec.ofNat 32 ↑l) 64#32) (A 1) 0 = A (headOf l) := by
  have h : ∀ l : Fin 128, (IntOp.cmpi CmpIPredicate.slt (BitVec.ofNat 32 ↑l) 64#32 = 1#1
      ∧ IntOp.cmpi CmpIPredicate.sge (BitVec.ofNat 32 ↑l) 64#32 = 0#1 ∧ headOf l = 0)
      ∨ (IntOp.cmpi CmpIPredicate.slt (BitVec.ofNat 32 ↑l) 64#32 = 0#1
      ∧ IntOp.cmpi CmpIPredicate.sge (BitVec.ofNat 32 ↑l) 64#32 = 1#1 ∧ headOf l = 1) := by decide
  rcases h l with ⟨h1, h2, h3⟩ | ⟨h1, h2, h3⟩ <;> rw [h1, h2, h3] <;> simp [Scalar.select]

theorem mask_hi (j : S512x128.Idx) : k0_pay8 j = IntOp.cmpi CmpIPredicate.sge (BitVec.ofNat 32 ↑(j 1)) 64#32 := by
  pointwise [k0_pay8]

theorem cast_at (j : S512x128.Idx) : k0_pay9 x0 j = x0 j := by pointwise [k0_pay9]

theorem dkStep (acc : Vec Ideal S256x128 .f32) (j : S256x128.Idx) :
    k0_pay2 (k0_pay19 k0_pay8 (k0_pay9 x0)) (k0_pay21 k0_pay8 (k0_pay9 x0) x1) (k0_pay22 k0_pay8 x3 x2)
      (k0_pay23 k0_pay8 (k0_pay9 x0) x3 x1 x2)
      (k0_pay16 (k0_pay10 x0) (k0_pay12 x0 x1) (k0_pay13 x3 x2) (k0_pay14 x0 x3 x1 x2) acc) j
    = acc j + ∑ r : Fin 512, ds x0 x1 x2 x3 (headOf (j 1)) r (j 0) * x0 (ix2 r (j 1)) := by
  pointwise [k0_pay2, k0_pay16, dsLo, dsHi, k0_pay19, k0_pay10, cast_at, k0_pay7, mask_hi]
  rw [add_assoc, ← Finset.sum_add_distrib]
  exact congrArg (acc j + ·) (Finset.sum_congr rfl fun r _ =>
    mask_sum (j 1) (fun h => ds x0 x1 x2 x3 h r (j 0) * x0 (ix2 r (j 1))))

theorem dvStep (acc : Vec Ideal S256x128 .f32) (j : S256x128.Idx) :
    k0_pay3 (k0_pay20 k0_pay8 x3) (k0_pay21 k0_pay8 (k0_pay9 x0) x1)
      (k0_pay17 (k0_pay11 x3) (k0_pay12 x0 x1) acc) j
    = acc j + ∑ r : Fin 512, Row.prob (sc x0 x1 (headOf (j 1)) r) (j 0) * x3 (ix2 r (j 1)) := by
  pointwise [k0_pay3, k0_pay17, probLo, probHi, k0_pay20, k0_pay11, k0_pay7, mask_hi]
  rw [add_assoc, ← Finset.sum_add_distrib]
  exact congrArg (acc j + ·) (Finset.sum_congr rfl fun r _ =>
    mask_sum (j 1) (fun h => Row.prob (sc x0 x1 h r) (j 0) * x3 (ix2 r (j 1))))

theorem dqVal (j : S512x128.Idx) :
    k0_pay4 k0_pay7 x1 (k0_pay18 x1 (k0_pay12 x0 x1) (k0_pay13 x3 x2) (k0_pay14 x0 x3 x1 x2))
      (k0_pay21 k0_pay8 (k0_pay9 x0) x1) (k0_pay22 k0_pay8 x3 x2) (k0_pay23 k0_pay8 (k0_pay9 x0) x3 x1 x2) j
    = ∑ k : Fin 256, ds x0 x1 x2 x3 (headOf (j 1)) (j 0) k * x1 (ix2 k (j 1)) := by
  pointwise [k0_pay4, k0_pay18, dsLo, dsHi, k0_pay7]
  exact mask_pick (j 1) fun h => ∑ k, ds x0 x1 x2 x3 h (j 0) k * x1 (ix2 k (j 1))

end Cert.MemBlock

end
-- ==== Proof.MemArray.lean ====
/- The three arrays the memory attention's gradient leaves, as functions of the argument arrays. -/
module

public import proofs.«01_k».proof.Proof.MemBlock

@[expose] public section

set_option maxRecDepth 16384

noncomputable section

namespace Cert.MemArray

open Cert.MemBwdIdeal Cert.MemBwdIdeal.Gen Idealize.ShloMosaic Idealize.ShloMosaic.TcCoe Idealize.SL.Sem
open Cert.MemBlock (scl lane headOf)

section
variable (X0 : Vec Ideal S8192x1024 .f32) (X1 : Vec Ideal S1024x512 .bf16) (X2 : Vec Ideal S8192x1024 .bf16)

/-- The scaled scores of batch `b`, head `h`, row `r`. -/
def sc (b h : Fin 4) (r : Fin 2048) (k : Fin 256) : EReal :=
  (∑ d : Fin 64, X0 (ix2 ⟨b * 2048 + r, by omega⟩ ⟨768 + (h * 64 + d), by omega⟩)
    * X1 (ix2 ⟨b * 256 + k, by omega⟩ ⟨h * 64 + d, by omega⟩)) * scl

/-- The gradients of the probabilities. -/
def dp (b h : Fin 4) (r : Fin 2048) (k : Fin 256) : EReal :=
  ∑ d : Fin 64, X2 (ix2 ⟨b * 2048 + r, by omega⟩ ⟨768 + (h * 64 + d), by omega⟩)
    * X1 (ix2 ⟨b * 256 + k, by omega⟩ ⟨256 + (h * 64 + d), by omega⟩)

/-- The scaled gradients of the scores. -/
def ds (b h : Fin 4) (r : Fin 2048) (k : Fin 256) : EReal := Row.grad (sc X0 X1 b h r) (dp X1 X2 b h r) k * scl

/-- The queries' gradient. -/
def dqArr : Vec Ideal S8192x256 .bf16 := fun i => ∑ k : Fin 256,
  ds X0 X1 X2 ⟨i 0 / 2048, by have := (i 0).isLt; dsimp at this; omega⟩ ⟨i 1 / 64, by have := (i 1).isLt; dsimp at this; omega⟩
    ⟨i 0 % 2048, by omega⟩ k
    * X1 (ix2 ⟨i 0 / 2048 * 256 + k, by have := (i 0).isLt; dsimp at this; omega⟩ ⟨i 1, by have := (i 1).isLt; dsimp at this; omega⟩)

/-- The keys' gradient. -/
def dkArr : Vec Ideal S1024x256 .f32 := fun i => ∑ r : Fin 2048,
  ds X0 X1 X2 ⟨i 0 / 256, by have := (i 0).isLt; dsimp at this; omega⟩ ⟨i 1 / 64, by have := (i 1).isLt; dsimp at this; omega⟩
    r ⟨i 0 % 256, by omega⟩
    * X0 (ix2 ⟨i 0 / 256 * 2048 + r, by have := (i 0).isLt; dsimp at this; omega⟩ ⟨768 + i 1, by have := (i 1).isLt; dsimp at this; omega⟩)

/-- The values' gradient. -/
def dvArr : Vec Ideal S1024x256 .f32 := fun i => ∑ r : Fin 2048,
  Row.prob (sc X0 X1 ⟨i 0 / 256, by have := (i 0).isLt; dsimp at this; omega⟩ ⟨i 1 / 64, by have := (i 1).isLt; dsimp at this; omega⟩ r)
    ⟨i 0 % 256, by omega⟩
    * X2 (ix2 ⟨i 0 / 256 * 2048 + r, by have := (i 0).isLt; dsimp at this; omega⟩ ⟨768 + i 1, by have := (i 1).isLt; dsimp at this; omega⟩)

end

variable (m : (ℓ : Loc nD τ sig) → Buf (Elt Ideal) ℓ) (c : Dev nD)

/-- The projection, whose last 256 columns are the queries. -/
abbrev A0 : Vec Ideal S8192x1024 .f32 := m ((c : Thread nD τ).loc main_arg0)
/-- The memory's keys and values. -/
abbrev A1 : Vec Ideal S1024x512 .bf16 := m ((c : Thread nD τ).loc main_arg1)
/-- The incoming gradient. -/
abbrev A2 : Vec Ideal S8192x1024 .bf16 := m ((c : Thread nD τ).loc main_arg2)

theorem idx : ∀ t : Fin cfg0.N, win0_0.index t = ![t.val / 8 * 4 + t.val % 4, 6 + t.val / 4 % 2]
    ∧ win0_1.index t = ![t.val / 8, t.val / 4 % 2] ∧ win0_2.index t = ![t.val / 8, 2 + t.val / 4 % 2]
    ∧ win0_3.index t = ![t.val / 8 * 4 + t.val % 4, 6 + t.val / 4 % 2]
    ∧ win0_4.index t = ![t.val / 8 * 4 + t.val % 4, t.val / 4 % 2]
    ∧ win0_5.index t = ![t.val / 8, t.val / 4 % 2] ∧ win0_6.index t = ![t.val / 8, t.val / 4 % 2] :=
  (by decide +kernel : ∀ t : Fin grid0.N, _)

theorem blk0 (t : Fin cfg0.N) (r : Fin 512) (l : Fin 128) (b : Fin 4) (R : Fin 2048) (hb : b.val = t.val / 8)
    (hR : R.val = t.val % 4 * 512 + r) (L : Fin 256) (hL : L.val = t.val / 4 % 2 * 128 + l) :
    iblk m c 0 t (ix2 r l) = A0 m c (ix2 ⟨b * 2048 + R, by omega⟩ ⟨768 + L, by omega⟩) := by
  blk_point [iblk, V, idx t]

theorem blk3 (t : Fin cfg0.N) (r : Fin 512) (l : Fin 128) (b : Fin 4) (R : Fin 2048) (hb : b.val = t.val / 8)
    (hR : R.val = t.val % 4 * 512 + r) (L : Fin 256) (hL : L.val = t.val / 4 % 2 * 128 + l) :
    iblk m c 3 t (ix2 r l) = A2 m c (ix2 ⟨b * 2048 + R, by omega⟩ ⟨768 + L, by omega⟩) := by
  blk_point [iblk, V, idx t]

theorem blk1 (t : Fin cfg0.N) (k : Fin 256) (l : Fin 128) (b : Fin 4) (hb : b.val = t.val / 8)
    (L : Fin 256) (hL : L.val = t.val / 4 % 2 * 128 + l) :
    iblk m c 1 t (ix2 k l) = A1 m c (ix2 ⟨b * 256 + k, by omega⟩ ⟨L, by omega⟩) := by
  blk_point [iblk, V, idx t]

theorem blk2 (t : Fin cfg0.N) (k : Fin 256) (l : Fin 128) (b : Fin 4) (hb : b.val = t.val / 8)
    (L : Fin 256) (hL : L.val = t.val / 4 % 2 * 128 + l) :
    iblk m c 2 t (ix2 k l) = A1 m c (ix2 ⟨b * 256 + k, by omega⟩ ⟨256 + L, by omega⟩) := by
  blk_point [iblk, V, idx t]

theorem sc_pt (t : Fin cfg0.N) (h : Fin 2) (r : Fin 512) (b H : Fin 4) (R : Fin 2048) (hb : b.val = t.val / 8)
    (hH : H.val = t.val / 4 % 2 * 2 + h) (hR : R.val = t.val % 4 * 512 + r) :
    MemBlock.sc (iblk m c 0 t) (iblk m c 1 t) h r = sc (A0 m c) (A1 m c) b H R := by
  funext k
  refine congrArg (· * scl) (Finset.sum_congr rfl fun d _ => ?_)
  rw [blk0 m c t r _ b R hb hR ⟨H * 64 + d, by omega⟩ (by dsimp only; omega),
    blk1 m c t k _ b hb ⟨H * 64 + d, by omega⟩ (by dsimp only; omega)]

theorem dp_pt (t : Fin cfg0.N) (h : Fin 2) (r : Fin 512) (b H : Fin 4) (R : Fin 2048) (hb : b.val = t.val / 8)
    (hH : H.val = t.val / 4 % 2 * 2 + h) (hR : R.val = t.val % 4 * 512 + r) :
    MemBlock.dp (iblk m c 2 t) (iblk m c 3 t) h r = dp (A1 m c) (A2 m c) b H R := by
  funext k
  refine Finset.sum_congr rfl fun d _ => ?_
  rw [blk3 m c t r _ b R hb hR ⟨H * 64 + d, by omega⟩ (by dsimp only; omega),
    blk2 m c t k _ b hb ⟨H * 64 + d, by omega⟩ (by dsimp only; omega)]

theorem ds_pt (t : Fin cfg0.N) (h : Fin 2) (r : Fin 512) (k : Fin 256) (b H : Fin 4) (R : Fin 2048) (hb : b.val = t.val / 8)
    (hH : H.val = t.val / 4 % 2 * 2 + h) (hR : R.val = t.val % 4 * 512 + r) :
    MemBlock.ds (iblk m c 0 t) (iblk m c 1 t) (iblk m c 2 t) (iblk m c 3 t) h r k
      = ds (A0 m c) (A1 m c) (A2 m c) b H R k := by
  rw [MemBlock.ds, ds, sc_pt m c t h r b H R hb hH hR, dp_pt m c t h r b H R hb hH hR]

theorem final4 : (dats m 0 c).arrAt 4 (cfgs 0).N = dqArr (A0 m c) (A1 m c) (A2 m c) := by
  refine (dats m 0 c).arrAt_eq_of_covers 4 _ (by decide +kernel) fun t hf y => ?_
  blk_simp
  have ht : t.val < 32 := t.isLt
  rw [after0_4]
  have hy0 : (y 0).val < 512 := (y 0).isLt
  have hy1 : (y 1).val < 128 := (y 1).isLt
  have e0 : (((win0_4.blk t).view.emb y) 0).val = (t.val / 8 * 4 + t.val % 4) * 512 + (y 0).val := by blk_simp [idx t]
  have e1 : (((win0_4.blk t).view.emb y) 1).val = t.val / 4 % 2 * 128 + (y 1).val := by blk_simp [idx t]
  generalize (win0_4.blk t).view.emb y = i at e0 e1
  have main : (outsAt0 m c t.val t.isLt).1 y = ∑ k : Fin 256,
      MemBlock.ds (iblk m c 0 t) (iblk m c 1 t) (iblk m c 2 t) (iblk m c 3 t) (headOf (y 1)) (y 0) k
        * iblk m c 1 t (ix2 k (y 1)) := by
    by_cases h : t.val % 4 = 0
    · rw [outsAt0_A m c t (by first | exact h | (dsimp; omega))]; frame_out; rw [MemBlock.dqVal]
    · rw [outsAt0_B m c t (by first | exact h | (dsimp; omega))]; frame_out; rw [MemBlock.dqVal]
  refine main.trans (Finset.sum_congr rfl fun k _ => ?_)
  rw [ds_pt m c t (headOf (y 1)) (y 0) k ⟨t.val / 8, by omega⟩ ⟨t.val / 4 % 2 * 2 + (headOf (y 1)).val, by omega⟩
      ⟨t.val % 4 * 512 + (y 0).val, by omega⟩ rfl rfl rfl,
    blk1 m c t k (y 1) ⟨t.val / 8, by omega⟩ rfl ⟨t.val / 4 % 2 * 128 + (y 1).val, by omega⟩ rfl]
  congr 1
  · congr 1 <;> refine Fin.ext ?_ <;> dsimp only [headOf] <;> omega
  · congr 2 <;> refine Fin.ext ?_ <;> dsimp only [headOf] <;> omega

theorem final5 : (dats m 0 c).arrAt 5 (cfgs 0).N = dkArr (A0 m c) (A1 m c) (A2 m c) := by
  refine (dats m 0 c).arrAt_eq_of_covers 5 _ (by decide +kernel) fun t hf y => ?_
  blk_simp
  have ht : t.val < 32 := t.isLt
  rw [after0_5, Pipeline.eq_sum_fin_of_reset_step_apply_of_flush (fun n h => (outsAt0 m c n h).2.1) 4 (fun _ => 0) _
    (fun t h j => by rw [outsAt0_A m c t h]; frame_out; rw [MemBlock.dkStep, show k0_pay5 (F := Ideal) j = 0 by pointwise [k0_pay5]])
    (fun t h j => by rw [outsAt0_B m c t h]; frame_out; rw [MemBlock.dkStep])
    t ((flush0_5 t).mp hf) _, zero_add]
  have hy0 : (y 0).val < 256 := (y 0).isLt
  have hy1 : (y 1).val < 128 := (y 1).isLt
  have e0 : (((win0_5.blk t).view.emb y) 0).val = t.val / 8 * 256 + (y 0).val := by blk_simp [idx t]
  have e1 : (((win0_5.blk t).view.emb y) 1).val = t.val / 4 % 2 * 128 + (y 1).val := by blk_simp [idx t]
  generalize (win0_5.blk t).view.emb y = i at e0 e1
  refine Fin.sum_mul_add_congr fun s r hl => ?_
  rw [ds_pt m c _ (headOf (y 1)) r (y 0) ⟨t.val / 8, by omega⟩ ⟨t.val / 4 % 2 * 2 + (headOf (y 1)).val, by omega⟩
      ⟨s.val * 512 + r.val, by omega⟩ (by dsimp only; omega) (by dsimp only; omega) (by dsimp only; omega),
    blk0 m c _ r (y 1) ⟨t.val / 8, by omega⟩ ⟨s.val * 512 + r.val, by omega⟩ (by dsimp only; omega) (by dsimp only; omega)
      ⟨t.val / 4 % 2 * 128 + (y 1).val, by omega⟩ (by dsimp only; omega)]
  congr 1
  · congr 1 <;> refine Fin.ext ?_ <;> dsimp only [headOf] <;> omega
  · congr 2 <;> refine Fin.ext ?_ <;> dsimp only [headOf] <;> omega

theorem final6 : (dats m 0 c).arrAt 6 (cfgs 0).N = dvArr (A0 m c) (A1 m c) (A2 m c) := by
  refine (dats m 0 c).arrAt_eq_of_covers 6 _ (by decide +kernel) fun t hf y => ?_
  blk_simp
  have ht : t.val < 32 := t.isLt
  rw [after0_6, Pipeline.eq_sum_fin_of_reset_step_apply_of_flush (fun n h => (outsAt0 m c n h).2.2) 4 (fun _ => 0) _
    (fun t h j => by rw [outsAt0_A m c t h]; frame_out; rw [MemBlock.dvStep, show k0_pay6 (F := Ideal) j = 0 by pointwise [k0_pay6]])
    (fun t h j => by rw [outsAt0_B m c t h]; frame_out; rw [MemBlock.dvStep])
    t ((flush0_6 t).mp hf) _, zero_add]
  have hy0 : (y 0).val < 256 := (y 0).isLt
  have hy1 : (y 1).val < 128 := (y 1).isLt
  have e0 : (((win0_6.blk t).view.emb y) 0).val = t.val / 8 * 256 + (y 0).val := by blk_simp [idx t]
  have e1 : (((win0_6.blk t).view.emb y) 1).val = t.val / 4 % 2 * 128 + (y 1).val := by blk_simp [idx t]
  generalize (win0_6.blk t).view.emb y = i at e0 e1
  refine Fin.sum_mul_add_congr fun s r hl => ?_
  rw [sc_pt m c _ (headOf (y 1)) r ⟨t.val / 8, by omega⟩ ⟨t.val / 4 % 2 * 2 + (headOf (y 1)).val, by omega⟩
      ⟨s.val * 512 + r.val, by omega⟩ (by dsimp only; omega) (by dsimp only; omega) (by dsimp only; omega),
    blk3 m c _ r (y 1) ⟨t.val / 8, by omega⟩ ⟨s.val * 512 + r.val, by omega⟩ (by dsimp only; omega) (by dsimp only; omega)
      ⟨t.val / 4 % 2 * 128 + (y 1).val, by omega⟩ (by dsimp only; omega)]
  congr 1
  · refine congrArg₂ Row.prob ?_ (Fin.ext (by dsimp only; omega))
    congr 1 <;> refine Fin.ext ?_ <;> dsimp only [headOf] <;> omega
  · congr 2 <;> refine Fin.ext ?_ <;> dsimp only [headOf] <;> omega

end Cert.MemArray

end
-- ==== Proof.MemSpec.lean ====
/- The reference's three results as functions of the argument arrays, over real queries and keys. -/
module

public import proofs.«01_k».proof.Proof.MemStages
public import proofs.«01_k».proof.Proof.MemArray

@[expose] public section

set_option maxRecDepth 16384

noncomputable section

namespace Cert.MemSpecIdeal.Stages

open Cert.MemSpecIdeal Cert.MemSpecIdeal.Gen Cert.MemSpecIdeal.Value Idealize.ShloMosaic Idealize.ShloMosaic.TcCoe Idealize.SL.Sem

/-- The shifted exponential of any scores and row maxima. -/
def shifted {F : FTy → Type} [FloatOps F] (s : Vec F S4x4x2048x256 .f32) (mx : Vec F S4x4x2048 .f32) : Vec F S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2
      (maximumf (broadcastInDim S4x4x2048 ![] bcast_S_S4x4x2048 (constant S_ .f32 0xFF800000#32)) mx))))

theorem expo_shifted {F : FTy → Type} [FloatOps F] (a0 : Vec F S8192x1024 .f32) (a1 : Vec F S1024x512 .bf16) :
    expo a0 a1 = shifted (score a0 a1) (rowMax a0 a1) := rfl

theorem shifted_at (s : Vec Ideal S4x4x2048x256 .f32) (mx : Vec Ideal S4x4x2048 .f32) (b h : Fin 4) (r : Fin 2048) (k : Fin 256) :
    shifted s mx (ix4 b h r k) = Ideal.exp (s (ix4 b h r k) - max (Ideal.ofBits .f32 4286578688#32) (mx (ix3 b h r))) := by
  pointwise [shifted]

variable (a0 : Vec Ideal S8192x1024 .f32) (a1 : Vec Ideal S1024x512 .bf16) (a2 : Vec Ideal S8192x1024 .bf16)
variable (b h : Fin 4) (r : Fin 2048)

theorem score_at (k : Fin 256) : score a0 a1 (ix4 b h r k) = MemArray.sc a0 a1 b h r k := by
  pointwise [score, qArr, kArr, kvArr]
  rfl

theorem dprob_at (k : Fin 256) : dprob a1 a2 (ix4 b h r k) = MemArray.dp a1 a2 b h r k := by
  pointwise [dprob, doArr, vArr, kvArr]
  rfl

theorem rowMax_at : rowMax a0 a1 (ix3 b h r) = Row.top (MemArray.sc a0 a1 b h r) := by
  pointwise [rowMax, score_at]
  rfl

theorem expo_at (k : Fin 256) : expo a0 a1 (ix4 b h r k) = Row.ex (MemArray.sc a0 a1 b h r) k := by
  rw [expo_shifted, shifted_at, score_at, rowMax_at, Row.ex, Row.negInf, max_eq_right bot_le]

theorem rowSum_at : rowSum a0 a1 (ix4 b h r 0) = Row.den (MemArray.sc a0 a1 b h r) := by
  pointwise [rowSum, expo_at]
  rfl

theorem prob_at (k : Fin 256) (hs : ∀ j, ∃ x : ℝ, MemArray.sc a0 a1 b h r j = x) :
    prob a0 a1 (ix4 b h r k) = Row.prob (MemArray.sc a0 a1 b h r) k := by
  rw [← Row.prob_eq _ (by norm_num) hs]
  pointwise [prob, expo_at, rowSum_at]

theorem dscore_at (k : Fin 256) (hs : ∀ j, ∃ x : ℝ, MemArray.sc a0 a1 b h r j = x) :
    dscore a0 a1 a2 (ix4 b h r k) = MemArray.ds a0 a1 a2 b h r k := by
  rw [MemArray.ds, ← Row.grad_eq _ _ (by norm_num) hs]
  pointwise [dscore, expo_at, rowSum_at, dprob_at]
  rw [Fin.sum_univ_one]

theorem dqOut_eq (hs : ∀ b h r j, ∃ x : ℝ, MemArray.sc a0 a1 b h r j = x) : dqOut a0 a1 a2 = MemArray.dqArr a0 a1 a2 := by
  funext j
  pointwise [dqOut, qArr, kArr, kvArr]
  refine Finset.sum_congr rfl fun k _ => ?_
  rw [dscore_at a0 a1 a2 _ _ _ _ (hs _ _ _)]

theorem dkOut_eq (hs : ∀ b h r j, ∃ x : ℝ, MemArray.sc a0 a1 b h r j = x) : dkOut a0 a1 a2 = MemArray.dkArr a0 a1 a2 := by
  funext j
  pointwise [dkOut, qArr, kArr, kvArr]
  refine Finset.sum_congr rfl fun k _ => ?_
  rw [dscore_at a0 a1 a2 _ _ _ _ (hs _ _ _)]

theorem dvOut_eq (hs : ∀ b h r j, ∃ x : ℝ, MemArray.sc a0 a1 b h r j = x) : dvOut a0 a1 a2 = MemArray.dvArr a0 a1 a2 := by
  funext j
  pointwise [dvOut, doArr]
  refine Finset.sum_congr rfl fun k _ => ?_
  rw [prob_at a0 a1 _ _ _ _ (hs _ _ _)]
  exact mul_comm _ _

end Cert.MemSpecIdeal.Stages

end
-- ==== Proof.MemPre.lean ====
/- What the precondition says of the argument arrays: the queries and the keys are real, and so is every score. -/
module

public import proofs.«01_k».proof.Defs
public import proofs.«01_k».proof.Proof.Gen.Pre_real_scores
public import Idealize.ShloMosaic.Lib.ReduceAll
public import proofs.«01_k».proof.Proof.MemArray

@[expose] public section

set_option maxRecDepth 16384

noncomputable section

namespace Cert.MemPre

open Cert.Pre_real_scores Cert.Pre_real_scores.Gen Idealize.ShloMosaic

theorem infLit : Ideal.ofBits .f32 0x7F800000#32 = ⊤ := by simp [Ideal.ofBits, Ideal.ieee]

/-- A value whose magnitude is below +∞ is a real. -/
theorem real_of_abs (x : EReal) (hx : max x (-x) < ⊤) : ∃ a : ℝ, x = a := by
  induction x with
  | bot => simp at hx
  | top => simp at hx
  | coe a => exact ⟨a, rfl⟩

theorem below {x : EReal} (h : BitVec.ofBool (decide (max x (-x) < Ideal.ofBits .f32 0x7F800000#32)) = 1#1) : max x (-x) < ⊤ := by
  rw [infLit] at h
  by_contra hx
  rw [decide_eq_false hx] at h
  exact absurd h (by decide)

theorem and_one {a b : BitVec 1} (h : a &&& b = 1#1) : a = 1#1 ∧ b = 1#1 := by revert a b; decide

variable (a0 : Vec Ideal S8192x1024 .f32) (a1 : Vec Ideal S1024x512 .bf16) (a2 : Vec Ideal S8192x1024 .bf16)

theorem parts (e : Cert.Pre_real_scores.fn (F := Ideal) a0 a1 a2 = fun _ => 1#1) :
    (∀ (i : Fin 8192) (l : Fin 256), ∃ x : ℝ, a0 (ix2 i ⟨768 + l, by omega⟩) = (x : EReal))
      ∧ ∀ (i : Fin 1024) (l : Fin 256), ∃ x : ℝ, a1 (ix2 i ⟨l, by omega⟩) = (x : EReal) := by
  have e0 := congrFun e (fun a => a.elim0)
  simp only [Cert.Pre_real_scores.fn] at e0
  obtain ⟨h1, h2⟩ := and_one e0
  refine ⟨fun i l => real_of_abs _ ?_, fun i l => real_of_abs _ ?_⟩
  · have h := Host.reduce_andi_all _ _ _ _ _ h1 (ix2 i l)
    pointwise at h
    exact below h
  · have h := Host.reduce_andi_all _ _ _ _ _ h2 (ix2 i l)
    pointwise at h
    exact below h

omit a2 in
/-- Over real queries and keys every score is real. -/
theorem scores_of (hq : ∀ (i : Fin 8192) (l : Fin 256), ∃ x : ℝ, a0 (ix2 i ⟨768 + l, by omega⟩) = (x : EReal))
    (hk : ∀ (i : Fin 1024) (l : Fin 256), ∃ x : ℝ, a1 (ix2 i ⟨l, by omega⟩) = (x : EReal)) (b h : Fin 4) (r : Fin 2048) (k : Fin 256) :
    ∃ x : ℝ, MemArray.sc a0 a1 b h r k = x := by
  choose q hq using hq
  choose kk hk using hk
  refine ⟨(∑ d : Fin 64, q ⟨b * 2048 + r, by omega⟩ ⟨h * 64 + d, by omega⟩ * kk ⟨b * 256 + k, by omega⟩ ⟨h * 64 + d, by omega⟩) * (1 / 8), ?_⟩
  have hscl : MemBlock.scl = ((1 / 8 : ℝ) : EReal) := by
    simp [MemBlock.scl, Ideal.ofBits, Ideal.ieee]
    rw [← EReal.coe_mul]
    norm_num
  rw [MemArray.sc, hscl, EReal.coe_mul, ← Row.sum_coe]
  congr 1
  refine Finset.sum_congr rfl fun d _ => ?_
  rw [EReal.coe_mul, ← hq, ← hk]

theorem scores (e : Cert.Pre_real_scores.fn (F := Ideal) a0 a1 a2 = fun _ => 1#1) (b h : Fin 4) (r : Fin 2048) (k : Fin 256) :
    ∃ x : ℝ, MemArray.sc a0 a1 b h r k = x :=
  scores_of a0 a1 (parts a0 a1 a2 e).1 (parts a0 a1 a2 e).2 b h r k

end Cert.MemPre

end
-- ==== Proof.Rest.MemAttn.lean ====
/- The memory attention's result as a function of the argument arrays, and layer a's projection seen as layer b's: the
   queries are the last 256 columns of either, so layer a's last 1024 columns stand for the whole of layer b's. -/
module

public import proofs.«01_k».proof.Proof.MemSpec
public import proofs.«01_k».proof.Proof.MemPre

@[expose] public section

set_option maxRecDepth 16384

noncomputable section

namespace Cert.MemAttn

open Cert.MemBwdIdeal Cert.MemBwdIdeal.Gen Idealize.ShloMosaic

/-- The attention's result: per batch, head and row the probabilities times the values. -/
def out (X0 : Vec Ideal S8192x1024 .f32) (X1 : Vec Ideal S1024x512 .bf16) : Vec Ideal S8192x256 .bf16 := fun i => ∑ k : Fin 256,
  Row.prob (MemArray.sc X0 X1 ⟨i 0 / 2048, by have := (i 0).isLt; dsimp at this; omega⟩
    ⟨i 1 / 64, by have := (i 1).isLt; dsimp at this; omega⟩ ⟨i 0 % 2048, by omega⟩) k
    * X1 (ix2 ⟨i 0 / 2048 * 256 + k, by have := (i 0).isLt; dsimp at this; omega⟩ ⟨256 + i 1, by have := (i 1).isLt; dsimp at this; omega⟩)

/-- The last 1024 of 2560 columns. -/
def cols (X : (⟨2, ![8192, 2560]⟩ : Shape).Idx → EReal) : Vec Ideal S8192x1024 .f32 :=
  fun i => X (ix2 (i 0) ⟨1536 + i 1, by have := (i 1).isLt; dsimp at this; omega⟩)

theorem cols_at (X : (⟨2, ![8192, 2560]⟩ : Shape).Idx → EReal) (r : Fin 8192) (l : Fin 1024) :
    cols X (ix2 r l) = X (ix2 r ⟨1536 + l, by omega⟩) := rfl

end Cert.MemAttn

end
-- ==== Proof.Rest.MemFwd.lean ====
/- The memory attention of layer b. -/
module

public import proofs.«01_k».proof.Proof.Gen.MemFwdIdeal.Frame
public import proofs.«01_k».proof.Proof.Gen.MemFwdSpecIdeal.Run
public import proofs.«01_k».proof.Proof.Gen.Pre_real_scores_b
public import proofs.«01_k».proof.Proof.Rest.MemAttn
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemFwdProof

open Idealize.ShloMosaic Idealize.ShloMosaic.TcCoe Idealize.SL.Sem
open Cert.MemBlock (lane headOf scl)

section kernel
open Cert.MemFwdIdeal Cert.MemFwdIdeal.Gen

section block
variable (x0 : Vec Ideal S512x128 .f32) (x1 x2 : Vec Ideal S256x128 .bf16)

theorem scHi (j : S512x256.Idx) : k0_pay5 x0 x1 j = MemBlock.sc x0 x1 1 (j 0) (j 1) := by
  pointwise [k0_pay5, k0_pay3]
  simp only [MemBlock.select_hi]; rfl

theorem topHi (j : S512x256.Idx) : k0_pay6 x0 x1 j = Row.top (MemBlock.sc x0 x1 1 (j 0)) := by
  pointwise [k0_pay6, scHi]
  rfl

theorem lo (j : S512x128.Idx) : k0_pay4 x0 x1 x2 j = ∑ k : Fin 256, Row.prob (MemBlock.sc x0 x1 0 (j 0)) k * x2 (ix2 k (j 1)) := by
  pointwise [k0_pay4, k0_pay3, k0_pay2]
  simp only [MemBlock.select_lo]; rfl

theorem out_at (j : S512x128.Idx) : k0_pay1 k0_pay2 (k0_pay4 x0 x1 x2) (k0_pay5 x0 x1) (k0_pay6 x0 x1) x2 j
    = ∑ k : Fin 256, Row.prob (MemBlock.sc x0 x1 (headOf (j 1)) (j 0)) k * x2 (ix2 k (j 1)) := by
  pointwise [k0_pay1, lo, scHi, topHi, k0_pay2]
  exact MemBlock.mask_pick (j 1) fun h => ∑ k : Fin 256, Row.prob (MemBlock.sc x0 x1 h (j 0)) k * x2 (ix2 k (j 1))

end block

variable (m : (ℓ : Loc nD τ sig) → Buf (Elt Ideal) ℓ) (c : Dev nD)

abbrev A0 : Vec Ideal S8192x1024 .f32 := m ((c : Thread nD τ).loc main_arg0)
abbrev A1 : Vec Ideal S1024x512 .bf16 := m ((c : Thread nD τ).loc main_arg1)

theorem idx : ∀ t : Fin cfg0.N, win0_0.index t = ![t.val / 8 * 4 + t.val % 4, 6 + t.val / 4 % 2]
    ∧ win0_1.index t = ![t.val / 8, t.val / 4 % 2] ∧ win0_2.index t = ![t.val / 8, 2 + t.val / 4 % 2]
    ∧ win0_3.index t = ![t.val / 8 * 4 + t.val % 4, t.val / 4 % 2] :=
  (by decide +kernel : ∀ t : Fin grid0.N, _)

theorem blk0 (t : Fin cfg0.N) (r : Fin 512) (l : Fin 128) (b : Fin 4) (R : Fin 2048) (hb : b.val = t.val / 8)
    (hR : R.val = t.val % 4 * 512 + r) (L : Fin 256) (hL : L.val = t.val / 4 % 2 * 128 + l) :
    iblk m c 0 t (ix2 r l) = A0 m c (ix2 ⟨b * 2048 + R, by omega⟩ ⟨768 + L, by omega⟩) := by
  blk_point [iblk, V, idx t]

theorem blk1 (t : Fin cfg0.N) (k : Fin 256) (l : Fin 128) (b : Fin 4) (hb : b.val = t.val / 8)
    (L : Fin 256) (hL : L.val = t.val / 4 % 2 * 128 + l) :
    iblk m c 1 t (ix2 k l) = A1 m c (ix2 ⟨b * 256 + k, by omega⟩ ⟨L, by omega⟩) := by
  blk_point [iblk, V, idx t]

theorem blk2 (t : Fin cfg0.N) (k : Fin 256) (l : Fin 128) (b : Fin 4) (hb : b.val = t.val / 8)
    (L : Fin 256) (hL : L.val = t.val / 4 % 2 * 128 + l) :
    iblk m c 2 t (ix2 k l) = A1 m c (ix2 ⟨b * 256 + k, by omega⟩ ⟨256 + L, by omega⟩) := by
  blk_point [iblk, V, idx t]

theorem sc_pt (t : Fin cfg0.N) (h : Fin 2) (r : Fin 512) (b H : Fin 4) (R : Fin 2048) (hb : b.val = t.val / 8)
    (hH : H.val = t.val / 4 % 2 * 2 + h) (hR : R.val = t.val % 4 * 512 + r) :
    MemBlock.sc (iblk m c 0 t) (iblk m c 1 t) h r = MemArray.sc (A0 m c) (A1 m c) b H R := by
  funext k
  refine congrArg (fun a : EReal => a * scl) (Finset.sum_congr rfl fun d _ => ?_)
  exact congrArg₂ (fun a b : EReal => a * b)
    ((blk0 m c t r _ b R hb hR ⟨H * 64 + d, by omega⟩ (by dsimp only; omega)))
    (blk1 m c t k _ b hb ⟨H * 64 + d, by omega⟩ (by dsimp only; omega))

theorem final3 : (dats m 0 c).arrAt 3 (cfgs 0).N = MemAttn.out (A0 m c) (A1 m c) := by
  refine (dats m 0 c).arrAt_eq_of_covers 3 _ (by decide +kernel) fun t hf y => ?_
  blk_simp
  have ht : t.val < 32 := t.isLt
  rw [after0_3]
  have hy0 : (y 0).val < 512 := (y 0).isLt
  have hy1 : (y 1).val < 128 := (y 1).isLt
  have e0 : (((win0_3.blk t).view.emb y) 0).val = (t.val / 8 * 4 + t.val % 4) * 512 + (y 0).val := by blk_simp [idx t]
  have e1 : (((win0_3.blk t).view.emb y) 1).val = t.val / 4 % 2 * 128 + (y 1).val := by blk_simp [idx t]
  generalize (win0_3.blk t).view.emb y = i at e0 e1
  frame_out
  refine (out_at _ _ _ _).trans (Finset.sum_congr rfl fun k _ => ?_)
  refine congrArg₂ (fun a b : EReal => a * b) (congrFun (congrArg Row.prob ?_) k) ?_
  · rw [sc_pt m c t (headOf (y 1)) (y 0) ⟨t.val / 8, by omega⟩ ⟨t.val / 4 % 2 * 2 + (headOf (y 1)).val, by omega⟩
      ⟨t.val % 4 * 512 + (y 0).val, by omega⟩ rfl rfl rfl]
    congr 1 <;> refine Fin.ext ?_ <;> dsimp only [headOf] <;> omega
  · refine (blk2 m c t k (y 1) ⟨t.val / 8, by omega⟩ rfl ⟨t.val / 4 % 2 * 128 + (y 1).val, by omega⟩ rfl).trans ?_
    refine congrArg (A1 m c) (congrArg₂ ix2 ?_ ?_) <;> refine Fin.ext ?_ <;> dsimp only <;> omega

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0) = MemAttn.out (A0 m c) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.MemFwdSpecIdeal Cert.MemFwdSpecIdeal.Gen

/-- Reference: the heads' results, from the probabilities and the values. -/
def refOut {F : FTy → Type} [FloatOps F] (p : Vec F S4x4x2048x256 .f32) (v : Vec F S4x256x4x64 .f32) : Vec F S8192x256 .bf16 :=
  truncf .bf16 (shapeCast S8192x256 (shapeCast S4x2048x256 (transpose S4x2048x4x64 [0, 3, 1, 2] (Host.dotGeneral dot_S4x256x4x64_S4x4x2048x256_S4x4x64x2048_1_3_3_2_02_01 none v p) transposes_S4x4x64x2048_S4x2048x4x64_0_3_1_2) shapeCasts_S4x2048x4x64_S4x2048x256) shapeCasts_S4x2048x256_S8192x256) bitsLt_bf16_f32

theorem ref_stage (m : (ℓ : Loc nD τ sig) → Buf (Elt Ideal) ℓ) (c : Dev nD) : Value.res_out0 m c
    = refOut (MemSpecIdeal.Stages.prob (F := Ideal) (m ((c.tc : Thread nD τ).loc main_arg0)) (m ((c.tc : Thread nD τ).loc main_arg1)))
      (MemSpecIdeal.Stages.vArr (F := Ideal) (m ((c.tc : Thread nD τ).loc main_arg1))) := by
  unfold Value.res_out0 Value.res_main_v27
  generalize m ((c.tc : Thread nD τ).loc main_arg0) = X0
  generalize m ((c.tc : Thread nD τ).loc main_arg1) = X1
  rfl

theorem ref_out (X0 : Vec Ideal MemBwdIdeal.S8192x1024 .f32) (X1 : Vec Ideal S1024x512 .bf16) (hs : ∀ b h r j, ∃ x : ℝ, MemArray.sc X0 X1 b h r j = x) :
    refOut (MemSpecIdeal.Stages.prob (F := Ideal) X0 X1) (MemSpecIdeal.Stages.vArr (F := Ideal) X1) = MemAttn.out X0 X1 := by
  funext i
  pointwise [refOut, MemSpecIdeal.Stages.vArr, MemSpecIdeal.Stages.kvArr, MemAttn.out]
  refine Finset.sum_congr rfl fun k _ => ?_
  rw [MemSpecIdeal.Stages.prob_at X0 X1 _ _ _ _ (hs _ _ _)]
  exact mul_comm _ _

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Value.run m g)

end reference

section precondition
open Cert.Pre_real_scores_b Cert.Pre_real_scores_b.Gen

theorem scores (a0 : Vec Ideal S8192x1024 .f32) (a1 : Vec Ideal S1024x512 .bf16) (e : Cert.Pre_real_scores_b.fn (F := Ideal) a0 a1 = fun _ => 1#1)
    (b h : Fin 4) (r : Fin 2048) (k : Fin 256) : ∃ x : ℝ, MemArray.sc a0 a1 b h r k = x := by
  have e0 := congrFun e (fun a => a.elim0)
  simp only [Cert.Pre_real_scores_b.fn] at e0
  obtain ⟨h1, h2⟩ := MemPre.and_one e0
  refine MemPre.scores_of _ _ (fun i l => MemPre.real_of_abs _ ?_) (fun i l => MemPre.real_of_abs _ ?_) b h r k
  · have h := Host.reduce_andi_all _ _ _ _ _ h1 (ix2 i l)
    pointwise at h
    exact MemPre.below h
  · have h := Host.reduce_andi_all _ _ _ _ _ h2 (ix2 i l)
    pointwise at h
    exact MemPre.below h

end precondition

/-- Over the extended reals the kernel's result is the reference's, for real queries and keys. -/
theorem algebraic : Cert.algebraic_MemFwdIdeal_MemFwdSpecIdeal_pre_real_scores_b := by
  pair_intro
  · run_from run m g
  · run_from MemFwdSpecIdeal.Value.run m' g'
    exact (ref_stage m' c).trans (by
      rw [(hagree c).1, (hagree c).2]
      exact ref_out _ _ (scores _ _ (hpre c)))

end Cert.MemFwdProof

end
-- ==== Proof.Rest.MemFwdA.lean ====
/- The memory attention of layer a. -/
module

public import proofs.«01_k».proof.Proof.Gen.MemFwdAIdeal.Frame
public import proofs.«01_k».proof.Proof.Gen.MemFwdASpecIdeal.Run
public import proofs.«01_k».proof.Proof.Gen.Pre_real_scores_a
public import proofs.«01_k».proof.Proof.Rest.MemAttn
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemFwdAProof

open Idealize.ShloMosaic Idealize.ShloMosaic.TcCoe Idealize.SL.Sem
open Cert.MemBlock (lane headOf scl)

section kernel
open Cert.MemFwdAIdeal Cert.MemFwdAIdeal.Gen

section block
variable (x0 : Vec Ideal S512x128 .bf16) (x1 x2 : Vec Ideal S256x128 .bf16)

theorem shiftHi (j : S512x256.Idx) : k0_pay4 x0 x1 j = (MemBlock.sc x0 x1 1 (j 0) (j 1) - Row.top (MemBlock.sc x0 x1 1 (j 0)) : EReal) := by
  pointwise [k0_pay4]
  simp only [MemBlock.select_hi]; rfl

theorem lo (j : S512x128.Idx) : k0_pay3 x0 x1 x2 j = ∑ k : Fin 256, Row.prob (MemBlock.sc x0 x1 0 (j 0)) k * x2 (ix2 k (j 1)) := by
  pointwise [k0_pay3, k0_pay2]
  simp only [MemBlock.select_lo]; rfl

theorem out_at (j : S512x128.Idx) : k0_pay1 k0_pay2 (k0_pay3 x0 x1 x2) (k0_pay4 x0 x1) x2 j
    = ∑ k : Fin 256, Row.prob (MemBlock.sc x0 x1 (headOf (j 1)) (j 0)) k * x2 (ix2 k (j 1)) := by
  pointwise [k0_pay1, lo, shiftHi, k0_pay2]
  exact MemBlock.mask_pick (j 1) fun h => ∑ k : Fin 256, Row.prob (MemBlock.sc x0 x1 h (j 0)) k * x2 (ix2 k (j 1))

end block

variable (m : (ℓ : Loc nD τ sig) → Buf (Elt Ideal) ℓ) (c : Dev nD)

abbrev A0 : Vec Ideal S8192x2560 .bf16 := m ((c : Thread nD τ).loc main_arg0)
abbrev A1 : Vec Ideal S1024x512 .bf16 := m ((c : Thread nD τ).loc main_arg1)

theorem idx : ∀ t : Fin cfg0.N, win0_0.index t = ![t.val / 8 * 4 + t.val % 4, 18 + t.val / 4 % 2]
    ∧ win0_1.index t = ![t.val / 8, t.val / 4 % 2] ∧ win0_2.index t = ![t.val / 8, 2 + t.val / 4 % 2]
    ∧ win0_3.index t = ![t.val / 8 * 4 + t.val % 4, t.val / 4 % 2] :=
  (by decide +kernel : ∀ t : Fin grid0.N, _)

theorem blk0 (t : Fin cfg0.N) (r : Fin 512) (l : Fin 128) (b : Fin 4) (R : Fin 2048) (hb : b.val = t.val / 8)
    (hR : R.val = t.val % 4 * 512 + r) (L : Fin 256) (hL : L.val = t.val / 4 % 2 * 128 + l) :
    iblk m c 0 t (ix2 r l) = (MemAttn.cols (A0 m c)) (ix2 ⟨b * 2048 + R, by omega⟩ ⟨768 + L, by omega⟩) := by
  rw [MemAttn.cols_at]
  blk_point [iblk, V, idx t]

theorem blk1 (t : Fin cfg0.N) (k : Fin 256) (l : Fin 128) (b : Fin 4) (hb : b.val = t.val / 8)
    (L : Fin 256) (hL : L.val = t.val / 4 % 2 * 128 + l) :
    iblk m c 1 t (ix2 k l) = A1 m c (ix2 ⟨b * 256 + k, by omega⟩ ⟨L, by omega⟩) := by
  blk_point [iblk, V, idx t]

theorem blk2 (t : Fin cfg0.N) (k : Fin 256) (l : Fin 128) (b : Fin 4) (hb : b.val = t.val / 8)
    (L : Fin 256) (hL : L.val = t.val / 4 % 2 * 128 + l) :
    iblk m c 2 t (ix2 k l) = A1 m c (ix2 ⟨b * 256 + k, by omega⟩ ⟨256 + L, by omega⟩) := by
  blk_point [iblk, V, idx t]

theorem sc_pt (t : Fin cfg0.N) (h : Fin 2) (r : Fin 512) (b H : Fin 4) (R : Fin 2048) (hb : b.val = t.val / 8)
    (hH : H.val = t.val / 4 % 2 * 2 + h) (hR : R.val = t.val % 4 * 512 + r) :
    MemBlock.sc (iblk m c 0 t) (iblk m c 1 t) h r = MemArray.sc (MemAttn.cols (A0 m c)) (A1 m c) b H R := by
  funext k
  refine congrArg (fun a : EReal => a * scl) (Finset.sum_congr rfl fun d _ => ?_)
  exact congrArg₂ (fun a b : EReal => a * b)
    ((blk0 m c t r _ b R hb hR ⟨H * 64 + d, by omega⟩ (by dsimp only; omega)))
    (blk1 m c t k _ b hb ⟨H * 64 + d, by omega⟩ (by dsimp only; omega))

theorem final3 : (dats m 0 c).arrAt 3 (cfgs 0).N = MemAttn.out (MemAttn.cols (A0 m c)) (A1 m c) := by
  refine (dats m 0 c).arrAt_eq_of_covers 3 _ (by decide +kernel) fun t hf y => ?_
  blk_simp
  have ht : t.val < 32 := t.isLt
  rw [after0_3]
  have hy0 : (y 0).val < 512 := (y 0).isLt
  have hy1 : (y 1).val < 128 := (y 1).isLt
  have e0 : (((win0_3.blk t).view.emb y) 0).val = (t.val / 8 * 4 + t.val % 4) * 512 + (y 0).val := by blk_simp [idx t]
  have e1 : (((win0_3.blk t).view.emb y) 1).val = t.val / 4 % 2 * 128 + (y 1).val := by blk_simp [idx t]
  generalize (win0_3.blk t).view.emb y = i at e0 e1
  frame_out
  refine (out_at _ _ _ _).trans (Finset.sum_congr rfl fun k _ => ?_)
  refine congrArg₂ (fun a b : EReal => a * b) (congrFun (congrArg Row.prob ?_) k) ?_
  · rw [sc_pt m c t (headOf (y 1)) (y 0) ⟨t.val / 8, by omega⟩ ⟨t.val / 4 % 2 * 2 + (headOf (y 1)).val, by omega⟩
      ⟨t.val % 4 * 512 + (y 0).val, by omega⟩ rfl rfl rfl]
    congr 1 <;> refine Fin.ext ?_ <;> dsimp only [headOf] <;> omega
  · refine (blk2 m c t k (y 1) ⟨t.val / 8, by omega⟩ rfl ⟨t.val / 4 % 2 * 128 + (y 1).val, by omega⟩ rfl).trans ?_
    refine congrArg (A1 m c) (congrArg₂ ix2 ?_ ?_) <;> refine Fin.ext ?_ <;> dsimp only <;> omega

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0) = MemAttn.out (MemAttn.cols (A0 m c)) (A1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end kernel

section reference
open Cert.MemFwdASpecIdeal Cert.MemFwdASpecIdeal.Gen

/-- The queries are those of the last 1024 columns. -/
theorem q_eq (X0 : Vec Ideal S8192x2560 .bf16) :
    (shapeCast S4x2048x4x64 (extractStridedSlice S4x2048x256 ![0, 0, 2304] (shapeCast S4x2048x2560 (extf (F := Ideal) .f32 X0 bitsLt_bf16_f32) shapeCasts_S8192x2560_S4x2048x2560) slices_S4x2048x2560_S4x2048x256_0_0_2304) shapeCasts_S4x2048x256_S4x2048x4x64 : Vec Ideal S4x2048x4x64 .f32)
      = MemSpecIdeal.Stages.qArr (F := Ideal) (MemAttn.cols X0) := by
  funext j
  pointwise [MemSpecIdeal.Stages.qArr, MemAttn.cols]
  exact congrArg X0 (congrArg (ix2 _) (Fin.ext (by dsimp only; omega)))

/-- Reference: the heads' results, from the probabilities and the values. -/
def refOut {F : FTy → Type} [FloatOps F] (p : Vec F S4x4x2048x256 .f32) (v : Vec F S4x256x4x64 .f32) : Vec F S8192x256 .bf16 :=
  truncf .bf16 (shapeCast S8192x256 (shapeCast S4x2048x256 (transpose S4x2048x4x64 [0, 3, 1, 2] (Host.dotGeneral dot_S4x256x4x64_S4x4x2048x256_S4x4x64x2048_1_3_3_2_02_01 none v p) transposes_S4x4x64x2048_S4x2048x4x64_0_3_1_2) shapeCasts_S4x2048x4x64_S4x2048x256) shapeCasts_S4x2048x256_S8192x256) bitsLt_bf16_f32

theorem ref_stage (m : (ℓ : Loc nD τ sig) → Buf (Elt Ideal) ℓ) (c : Dev nD) : Value.res_out0 m c
    = refOut (MemSpecIdeal.Stages.prob (F := Ideal) (MemAttn.cols (m ((c.tc : Thread nD τ).loc main_arg0))) (m ((c.tc : Thread nD τ).loc main_arg1)))
      (MemSpecIdeal.Stages.vArr (F := Ideal) (m ((c.tc : Thread nD τ).loc main_arg1))) := by
  unfold Value.res_out0 Value.res_main_v28
  generalize m ((c.tc : Thread nD τ).loc main_arg0) = X0
  generalize m ((c.tc : Thread nD τ).loc main_arg1) = X1
  rw [q_eq]
  rfl

theorem ref_out (X0 : Vec Ideal MemBwdIdeal.S8192x1024 .f32) (X1 : Vec Ideal S1024x512 .bf16) (hs : ∀ b h r j, ∃ x : ℝ, MemArray.sc X0 X1 b h r j = x) :
    refOut (MemSpecIdeal.Stages.prob (F := Ideal) X0 X1) (MemSpecIdeal.Stages.vArr (F := Ideal) X1) = MemAttn.out X0 X1 := by
  funext i
  pointwise [refOut, MemSpecIdeal.Stages.vArr, MemSpecIdeal.Stages.kvArr, MemAttn.out]
  refine Finset.sum_congr rfl fun k _ => ?_
  rw [MemSpecIdeal.Stages.prob_at X0 X1 _ _ _ _ (hs _ _ _)]
  exact mul_comm _ _

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩)
    (Value.run m g)

end reference

section precondition
open Cert.Pre_real_scores_a Cert.Pre_real_scores_a.Gen

theorem scores (a0 : Vec Ideal S8192x2560 .bf16) (a1 : Vec Ideal S1024x512 .bf16) (e : Cert.Pre_real_scores_a.fn (F := Ideal) a0 a1 = fun _ => 1#1)
    (b h : Fin 4) (r : Fin 2048) (k : Fin 256) : ∃ x : ℝ, MemArray.sc (MemAttn.cols a0) a1 b h r k = x := by
  have e0 := congrFun e (fun a => a.elim0)
  simp only [Cert.Pre_real_scores_a.fn] at e0
  obtain ⟨h1, h2⟩ := MemPre.and_one e0
  refine MemPre.scores_of _ _ (fun i l => MemPre.real_of_abs _ ?_) (fun i l => MemPre.real_of_abs _ ?_) b h r k
  · have h := Host.reduce_andi_all _ _ _ _ _ h1 (ix2 i l)
    pointwise at h
    rw [show (⟨2304 + l.val, by omega⟩ : Fin 2560) = ⟨1536 + (768 + l.val), by omega⟩ from Fin.ext (by dsimp only; omega)] at h
    exact MemPre.below h
  · have h := Host.reduce_andi_all _ _ _ _ _ h2 (ix2 i l)
    pointwise at h
    exact MemPre.below h

end precondition

/-- Over the extended reals the kernel's result is the reference's, for real queries and keys. -/
theorem algebraic : Cert.algebraic_MemFwdAIdeal_MemFwdASpecIdeal_pre_real_scores_a := by
  pair_intro
  · run_from run m g
  · run_from MemFwdASpecIdeal.Value.run m' g'
    exact (ref_stage m' c).trans (by
      rw [(hagree c).1, (hagree c).2]
      exact ref_out _ _ (scores _ _ (hpre c)))

end Cert.MemFwdAProof

end
-- ==== Proof.Rest.MemBwdABlock.lean ====
/- One grid point of layer a's memory-attention gradient; the body is layer b's without the rounding of the queries. -/
module

public import proofs.«01_k».proof.Proof.Gen.MemBwdAIdeal.Frame
public import proofs.«01_k».proof.Proof.Rest.MemAttn

@[expose] public section

set_option maxRecDepth 16384

noncomputable section

namespace Cert.MemBwdAProof

open Cert.MemBwdAIdeal Cert.MemBwdAIdeal.Gen Idealize.ShloMosaic
open Cert.MemBlock (lane headOf scl sc dp ds select_lo select_hi mask_pick mask_sum)

variable (x0 : Vec Ideal S512x128 .bf16) (x1 x2 : Vec Ideal S256x128 .bf16) (x3 : Vec Ideal S512x128 .bf16)

theorem probLo (j : S512x256.Idx) : k0_pay11 x0 x1 j = Row.prob (sc x0 x1 0 (j 0)) (j 1) := by
  pointwise [k0_pay11, k0_pay9, k0_pay7]
  simp only [select_lo]; rfl

theorem probHi (j : S512x256.Idx) : k0_pay20 k0_pay8 x0 x1 j = Row.prob (sc x0 x1 1 (j 0)) (j 1) := by
  pointwise [k0_pay20, k0_pay18, k0_pay8]
  simp only [select_hi]; rfl

theorem dpLo (j : S512x256.Idx) : k0_pay12 x3 x2 j = dp x2 x3 0 (j 0) (j 1) := by
  pointwise [k0_pay12, k0_pay10, k0_pay7]
  simp only [select_lo]; rfl

theorem dpHi (j : S512x256.Idx) : k0_pay21 k0_pay8 x3 x2 j = dp x2 x3 1 (j 0) (j 1) := by
  pointwise [k0_pay21, k0_pay19, k0_pay8]
  simp only [select_hi]; rfl

theorem sumLo (j : S512x256.Idx) : k0_pay13 x0 x3 x1 x2 j
    = ∑ i, Row.prob (sc x0 x1 0 (j 0)) i * dp x2 x3 0 (j 0) i := by
  pointwise [k0_pay13, probLo, dpLo]

theorem sumHi (j : S512x256.Idx) : k0_pay22 k0_pay8 x0 x3 x1 x2 j
    = Row.prob (sc x0 x1 1 (j 0)) (j 1) * dp x2 x3 1 (j 0) (j 1) := by
  pointwise [k0_pay22, probHi, dpHi]

theorem dsLo (j : S512x256.Idx) : k0_pay14 (k0_pay11 x0 x1) (k0_pay12 x3 x2) (k0_pay13 x0 x3 x1 x2) j
    = ds x0 x1 x2 x3 0 (j 0) (j 1) := by
  pointwise [k0_pay14, probLo, dpLo, sumLo]; rfl

theorem dsHi (j : S512x256.Idx) : k0_pay1 (k0_pay20 k0_pay8 x0 x1) (k0_pay21 k0_pay8 x3 x2)
    (k0_pay22 k0_pay8 x0 x3 x1 x2) j = ds x0 x1 x2 x3 1 (j 0) (j 1) := by
  pointwise [k0_pay1, probHi, dpHi, sumHi]; rfl

theorem mask_hi (j : S512x128.Idx) : k0_pay8 j = IntOp.cmpi CmpIPredicate.sge (BitVec.ofNat 32 ↑(j 1)) 64#32 := by
  pointwise [k0_pay8]

theorem dkStep (acc : Vec Ideal S256x128 .f32) (j : S256x128.Idx) :
    k0_pay2 (k0_pay18 k0_pay8 x0) (k0_pay20 k0_pay8 x0 x1) (k0_pay21 k0_pay8 x3 x2)
      (k0_pay22 k0_pay8 x0 x3 x1 x2)
      (k0_pay15 (k0_pay9 x0) (k0_pay11 x0 x1) (k0_pay12 x3 x2) (k0_pay13 x0 x3 x1 x2) acc) j
    = acc j + ∑ r : Fin 512, ds x0 x1 x2 x3 (headOf (j 1)) r (j 0) * x0 (ix2 r (j 1)) := by
  pointwise [k0_pay2, k0_pay15, dsLo, dsHi, k0_pay18, k0_pay9, k0_pay7, mask_hi]
  rw [add_assoc, ← Finset.sum_add_distrib]
  exact congrArg (acc j + ·) (Finset.sum_congr rfl fun r _ =>
    mask_sum (j 1) (fun h => ds x0 x1 x2 x3 h r (j 0) * x0 (ix2 r (j 1))))

theorem dvStep (acc : Vec Ideal S256x128 .f32) (j : S256x128.Idx) :
    k0_pay3 (k0_pay19 k0_pay8 x3) (k0_pay20 k0_pay8 x0 x1)
      (k0_pay16 (k0_pay10 x3) (k0_pay11 x0 x1) acc) j
    = acc j + ∑ r : Fin 512, Row.prob (sc x0 x1 (headOf (j 1)) r) (j 0) * x3 (ix2 r (j 1)) := by
  pointwise [k0_pay3, k0_pay16, probLo, probHi, k0_pay19, k0_pay10, k0_pay7, mask_hi]
  rw [add_assoc, ← Finset.sum_add_distrib]
  exact congrArg (acc j + ·) (Finset.sum_congr rfl fun r _ =>
    mask_sum (j 1) (fun h => Row.prob (sc x0 x1 h r) (j 0) * x3 (ix2 r (j 1))))

theorem dqVal (j : S512x128.Idx) :
    k0_pay4 k0_pay7 x1 (k0_pay17 x1 (k0_pay11 x0 x1) (k0_pay12 x3 x2) (k0_pay13 x0 x3 x1 x2))
      (k0_pay20 k0_pay8 x0 x1) (k0_pay21 k0_pay8 x3 x2) (k0_pay22 k0_pay8 x0 x3 x1 x2) j
    = ∑ k : Fin 256, ds x0 x1 x2 x3 (headOf (j 1)) (j 0) k * x1 (ix2 k (j 1)) := by
  pointwise [k0_pay4, k0_pay17, dsLo, dsHi, k0_pay7]
  exact mask_pick (j 1) fun h => ∑ k, ds x0 x1 x2 x3 h (j 0) k * x1 (ix2 k (j 1))

end Cert.MemBwdAProof

end
-- ==== Proof.Rest.MemBwdA.lean ====
/- The memory attention's gradient in layer a. -/
module

public import proofs.«01_k».proof.Proof.Rest.MemBwdABlock
public import proofs.«01_k».proof.Proof.Gen.MemBwdASpecIdeal.Run
public import proofs.«01_k».proof.Proof.Gen.Pre_real_scores_a_bwd
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.MemBwdAProof

open Idealize.ShloMosaic Idealize.ShloMosaic.TcCoe Idealize.SL.Sem

section kernel
open Cert.MemBwdAIdeal Cert.MemBwdAIdeal.Gen
open Cert.MemBlock (lane headOf scl)

variable (m : (ℓ : Loc nD τ sig) → Buf (Elt Ideal) ℓ) (c : Dev nD)

abbrev A0 : Vec Ideal S8192x2560 .bf16 := m ((c : Thread nD τ).loc main_arg0)
abbrev A1 : Vec Ideal S1024x512 .bf16 := m ((c : Thread nD τ).loc main_arg1)
abbrev A2 : Vec Ideal S8192x1024 .bf16 := m ((c : Thread nD τ).loc main_arg2)

theorem idx : ∀ t : Fin cfg0.N, win0_0.index t = ![t.val / 8 * 4 + t.val % 4, 18 + t.val / 4 % 2]
    ∧ win0_1.index t = ![t.val / 8, t.val / 4 % 2] ∧ win0_2.index t = ![t.val / 8, 2 + t.val / 4 % 2]
    ∧ win0_3.index t = ![t.val / 8 * 4 + t.val % 4, 6 + t.val / 4 % 2]
    ∧ win0_4.index t = ![t.val / 8 * 4 + t.val % 4, t.val / 4 % 2]
    ∧ win0_5.index t = ![t.val / 8, t.val / 4 % 2] ∧ win0_6.index t = ![t.val / 8, t.val / 4 % 2] :=
  (by decide +kernel : ∀ t : Fin grid0.N, _)

theorem blk0 (t : Fin cfg0.N) (r : Fin 512) (l : Fin 128) (b : Fin 4) (R : Fin 2048) (hb : b.val = t.val / 8)
    (hR : R.val = t.val % 4 * 512 + r) (L : Fin 256) (hL : L.val = t.val / 4 % 2 * 128 + l) :
    iblk m c 0 t (ix2 r l) = MemAttn.cols (A0 m c) (ix2 ⟨b * 2048 + R, by omega⟩ ⟨768 + L, by omega⟩) := by
  rw [MemAttn.cols_at]
  blk_point [iblk, V, idx t]

theorem blk3 (t : Fin cfg0.N) (r : Fin 512) (l : Fin 128) (b : Fin 4) (R : Fin 2048) (hb : b.val = t.val / 8)
    (hR : R.val = t.val % 4 * 512 + r) (L : Fin 256) (hL : L.val = t.val / 4 % 2 * 128 + l) :
    iblk m c 3 t (ix2 r l) = A2 m c (ix2 ⟨b * 2048 + R, by omega⟩ ⟨768 + L, by omega⟩) := by
  blk_point [iblk, V, idx t]

theorem blk1 (t : Fin cfg0.N) (k : Fin 256) (l : Fin 128) (b : Fin 4) (hb : b.val = t.val / 8)
    (L : Fin 256) (hL : L.val = t.val / 4 % 2 * 128 + l) :
    iblk m c 1 t (ix2 k l) = A1 m c (ix2 ⟨b * 256 + k, by omega⟩ ⟨L, by omega⟩) := by
  blk_point [iblk, V, idx t]

theorem blk2 (t : Fin cfg0.N) (k : Fin 256) (l : Fin 128) (b : Fin 4) (hb : b.val = t.val / 8)
    (L : Fin 256) (hL : L.val = t.val / 4 % 2 * 128 + l) :
    iblk m c 2 t (ix2 k l) = A1 m c (ix2 ⟨b * 256 + k, by omega⟩ ⟨256 + L, by omega⟩) := by
  blk_point [iblk, V, idx t]

theorem sc_pt (t : Fin cfg0.N) (h : Fin 2) (r : Fin 512) (b H : Fin 4) (R : Fin 2048) (hb : b.val = t.val / 8)
    (hH : H.val = t.val / 4 % 2 * 2 + h) (hR : R.val = t.val % 4 * 512 + r) :
    MemBlock.sc (iblk m c 0 t) (iblk m c 1 t) h r = MemArray.sc (MemAttn.cols (A0 m c)) (A1 m c) b H R := by
  funext k
  refine congrArg (fun a : EReal => a * scl) (Finset.sum_congr rfl fun d _ => ?_)
  exact congrArg₂ (fun a b : EReal => a * b)
    (blk0 m c t r _ b R hb hR ⟨H * 64 + d, by omega⟩ (by dsimp only; omega))
    (blk1 m c t k _ b hb ⟨H * 64 + d, by omega⟩ (by dsimp only; omega))

theorem dp_pt (t : Fin cfg0.N) (h : Fin 2) (r : Fin 512) (b H : Fin 4) (R : Fin 2048) (hb : b.val = t.val / 8)
    (hH : H.val = t.val / 4 % 2 * 2 + h) (hR : R.val = t.val % 4 * 512 + r) :
    MemBlock.dp (iblk m c 2 t) (iblk m c 3 t) h r = MemArray.dp (A1 m c) (A2 m c) b H R := by
  funext k
  refine Finset.sum_congr rfl fun d _ => ?_
  exact congrArg₂ (fun a b : EReal => a * b)
    (blk3 m c t r _ b R hb hR ⟨H * 64 + d, by omega⟩ (by dsimp only; omega))
    (blk2 m c t k _ b hb ⟨H * 64 + d, by omega⟩ (by dsimp only; omega))

theorem ds_pt (t : Fin cfg0.N) (h : Fin 2) (r : Fin 512) (k : Fin 256) (b H : Fin 4) (R : Fin 2048) (hb : b.val = t.val / 8)
    (hH : H.val = t.val / 4 % 2 * 2 + h) (hR : R.val = t.val % 4 * 512 + r) :
    MemBlock.ds (iblk m c 0 t) (iblk m c 1 t) (iblk m c 2 t) (iblk m c 3 t) h r k
      = MemArray.ds (MemAttn.cols (A0 m c)) (A1 m c) (A2 m c) b H R k := by
  rw [MemBlock.ds, MemArray.ds, sc_pt m c t h r b H R hb hH hR, dp_pt m c t h r b H R hb hH hR]

theorem final4 : (dats m 0 c).arrAt 4 (cfgs 0).N = MemArray.dqArr (MemAttn.cols (A0 m c)) (A1 m c) (A2 m c) := by
  refine (dats m 0 c).arrAt_eq_of_covers 4 _ (by decide +kernel) fun t hf y => ?_
  blk_simp
  have ht : t.val < 32 := t.isLt
  rw [after0_4]
  have hy0 : (y 0).val < 512 := (y 0).isLt
  have hy1 : (y 1).val < 128 := (y 1).isLt
  have e0 : (((win0_4.blk t).view.emb y) 0).val = (t.val / 8 * 4 + t.val % 4) * 512 + (y 0).val := by blk_simp [idx t]
  have e1 : (((win0_4.blk t).view.emb y) 1).val = t.val / 4 % 2 * 128 + (y 1).val := by blk_simp [idx t]
  generalize (win0_4.blk t).view.emb y = i at e0 e1
  have main : (outsAt0 m c t.val t.isLt).1 y = ∑ k : Fin 256,
      MemBlock.ds (iblk m c 0 t) (iblk m c 1 t) (iblk m c 2 t) (iblk m c 3 t) (headOf (y 1)) (y 0) k
        * iblk m c 1 t (ix2 k (y 1)) := by
    by_cases h : t.val % 4 = 0
    · rw [outsAt0_A m c t (by first | exact h | (dsimp; omega))]; frame_out; rw [dqVal]
    · rw [outsAt0_B m c t (by first | exact h | (dsimp; omega))]; frame_out; rw [dqVal]
  refine main.trans (Finset.sum_congr rfl fun k _ => ?_)
  rw [ds_pt m c t (headOf (y 1)) (y 0) k ⟨t.val / 8, by omega⟩ ⟨t.val / 4 % 2 * 2 + (headOf (y 1)).val, by omega⟩
      ⟨t.val % 4 * 512 + (y 0).val, by omega⟩ rfl rfl rfl,
    blk1 m c t k (y 1) ⟨t.val / 8, by omega⟩ rfl ⟨t.val / 4 % 2 * 128 + (y 1).val, by omega⟩ rfl]
  congr 1
  · congr 1 <;> refine Fin.ext ?_ <;> dsimp only [headOf] <;> omega
  · congr 2 <;> refine Fin.ext ?_ <;> dsimp only [headOf] <;> omega

theorem final5 : (dats m 0 c).arrAt 5 (cfgs 0).N = MemArray.dkArr (MemAttn.cols (A0 m c)) (A1 m c) (A2 m c) := by
  refine (dats m 0 c).arrAt_eq_of_covers 5 _ (by decide +kernel) fun t hf y => ?_
  blk_simp
  have ht : t.val < 32 := t.isLt
  rw [after0_5, Pipeline.eq_sum_fin_of_reset_step_apply_of_flush (fun n h => (outsAt0 m c n h).2.1) 4 (fun _ => 0) _
    (fun t h j => by rw [outsAt0_A m c t h]; frame_out; rw [dkStep, show k0_pay5 (F := Ideal) j = 0 by pointwise [k0_pay5]])
    (fun t h j => by rw [outsAt0_B m c t h]; frame_out; rw [dkStep])
    t ((flush0_5 t).mp hf) _, zero_add]
  have hy0 : (y 0).val < 256 := (y 0).isLt
  have hy1 : (y 1).val < 128 := (y 1).isLt
  have e0 : (((win0_5.blk t).view.emb y) 0).val = t.val / 8 * 256 + (y 0).val := by blk_simp [idx t]
  have e1 : (((win0_5.blk t).view.emb y) 1).val = t.val / 4 % 2 * 128 + (y 1).val := by blk_simp [idx t]
  generalize (win0_5.blk t).view.emb y = i at e0 e1
  refine Fin.sum_mul_add_congr fun s r hl => ?_
  rw [ds_pt m c _ (headOf (y 1)) r (y 0) ⟨t.val / 8, by omega⟩ ⟨t.val / 4 % 2 * 2 + (headOf (y 1)).val, by omega⟩
      ⟨s.val * 512 + r.val, by omega⟩ (by dsimp only; omega) (by dsimp only; omega) (by dsimp only; omega),
    blk0 m c _ r (y 1) ⟨t.val / 8, by omega⟩ ⟨s.val * 512 + r.val, by omega⟩ (by dsimp only; omega) (by dsimp only; omega)
      ⟨t.val / 4 % 2 * 128 + (y 1).val, by omega⟩ (by dsimp only; omega)]
  congr 1
  · congr 1 <;> refine Fin.ext ?_ <;> dsimp only [headOf] <;> omega
  · congr 2 <;> refine Fin.ext ?_ <;> dsimp only [headOf] <;> omega

theorem final6 : (dats m 0 c).arrAt 6 (cfgs 0).N = MemArray.dvArr (MemAttn.cols (A0 m c)) (A1 m c) (A2 m c) := by
  refine (dats m 0 c).arrAt_eq_of_covers 6 _ (by decide +kernel) fun t hf y => ?_
  blk_simp
  have ht : t.val < 32 := t.isLt
  rw [after0_6, Pipeline.eq_sum_fin_of_reset_step_apply_of_flush (fun n h => (outsAt0 m c n h).2.2) 4 (fun _ => 0) _
    (fun t h j => by rw [outsAt0_A m c t h]; frame_out; rw [dvStep, show k0_pay6 (F := Ideal) j = 0 by pointwise [k0_pay6]])
    (fun t h j => by rw [outsAt0_B m c t h]; frame_out; rw [dvStep])
    t ((flush0_6 t).mp hf) _, zero_add]
  have hy0 : (y 0).val < 256 := (y 0).isLt
  have hy1 : (y 1).val < 128 := (y 1).isLt
  have e0 : (((win0_6.blk t).view.emb y) 0).val = t.val / 8 * 256 + (y 0).val := by blk_simp [idx t]
  have e1 : (((win0_6.blk t).view.emb y) 1).val = t.val / 4 % 2 * 128 + (y 1).val := by blk_simp [idx t]
  generalize (win0_6.blk t).view.emb y = i at e0 e1
  refine Fin.sum_mul_add_congr fun s r hl => ?_
  rw [sc_pt m c _ (headOf (y 1)) r ⟨t.val / 8, by omega⟩ ⟨t.val / 4 % 2 * 2 + (headOf (y 1)).val, by omega⟩
      ⟨s.val * 512 + r.val, by omega⟩ (by dsimp only; omega) (by dsimp only; omega) (by dsimp only; omega),
    blk3 m c _ r (y 1) ⟨t.val / 8, by omega⟩ ⟨s.val * 512 + r.val, by omega⟩ (by dsimp only; omega) (by dsimp only; omega)
      ⟨t.val / 4 % 2 * 128 + (y 1).val, by omega⟩ (by dsimp only; omega)]
  congr 1
  · refine congrArg₂ Row.prob ?_ (Fin.ext (by dsimp only; omega))
    congr 1 <;> refine Fin.ext ?_ <;> dsimp only [headOf] <;> omega
  · congr 2 <;> refine Fin.ext ?_ <;> dsimp only [headOf] <;> omega

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = MemArray.dqArr (MemAttn.cols (A0 m c)) (A1 m c) (A2 m c)
    ∧ r.2.mem ((c : Thread nD τ).loc main_v0_1) = MemArray.dkArr (MemAttn.cols (A0 m c)) (A1 m c) (A2 m c)
    ∧ r.2.mem ((c : Thread nD τ).loc main_v0_2) = MemArray.dvArr (MemAttn.cols (A0 m c)) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 4).trans (final4 m c), ((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩)
    (run_main m ρ)

end kernel

section reference
open Cert.MemBwdASpecIdeal Cert.MemBwdASpecIdeal.Gen

/-- The queries are those of the last 1024 columns. -/
theorem q_eq (X0 : Vec Ideal S8192x2560 .bf16) :
    (shapeCast S4x2048x4x64 (extractStridedSlice S4x2048x256 ![0, 0, 2304] (shapeCast S4x2048x2560 (extf (F := Ideal) .f32 X0 bitsLt_bf16_f32) shapeCasts_S8192x2560_S4x2048x2560) slices_S4x2048x2560_S4x2048x256_0_0_2304) shapeCasts_S4x2048x256_S4x2048x4x64 : Vec Ideal S4x2048x4x64 .f32)
      = MemSpecIdeal.Stages.qArr (F := Ideal) (MemAttn.cols X0) := by
  funext j
  pointwise [MemSpecIdeal.Stages.qArr, MemAttn.cols]
  exact congrArg X0 (congrArg (ix2 _) (Fin.ext (by dsimp only; omega)))

theorem out0 (m : (ℓ : Loc nD τ sig) → Buf (Elt Ideal) ℓ) (c : Dev nD) : Value.res_out0 m c
    = MemSpecIdeal.Stages.dqOut (F := Ideal) (MemAttn.cols (m ((c.tc : Thread nD τ).loc main_arg0))) (m ((c.tc : Thread nD τ).loc main_arg1)) (m ((c.tc : Thread nD τ).loc main_arg2)) := by
  unfold Value.res_out0 Value.res_main_v74
  generalize m ((c.tc : Thread nD τ).loc main_arg0) = X0
  generalize m ((c.tc : Thread nD τ).loc main_arg1) = X1
  generalize m ((c.tc : Thread nD τ).loc main_arg2) = X2
  rw [q_eq]
  rfl

theorem out1 (m : (ℓ : Loc nD τ sig) → Buf (Elt Ideal) ℓ) (c : Dev nD) : Value.res_out1 m c
    = MemSpecIdeal.Stages.dkOut (F := Ideal) (MemAttn.cols (m ((c.tc : Thread nD τ).loc main_arg0))) (m ((c.tc : Thread nD τ).loc main_arg1)) (m ((c.tc : Thread nD τ).loc main_arg2)) := by
  unfold Value.res_out1 Value.res_main_v75
  generalize m ((c.tc : Thread nD τ).loc main_arg0) = X0
  generalize m ((c.tc : Thread nD τ).loc main_arg1) = X1
  generalize m ((c.tc : Thread nD τ).loc main_arg2) = X2
  rw [q_eq]
  rfl

theorem out2 (m : (ℓ : Loc nD τ sig) → Buf (Elt Ideal) ℓ) (c : Dev nD) : Value.res_out2 m c
    = MemSpecIdeal.Stages.dvOut (F := Ideal) (MemAttn.cols (m ((c.tc : Thread nD τ).loc main_arg0))) (m ((c.tc : Thread nD τ).loc main_arg1)) (m ((c.tc : Thread nD τ).loc main_arg2)) := by
  unfold Value.res_out2 Value.res_main_v76
  generalize m ((c.tc : Thread nD τ).loc main_arg0) = X0
  generalize m ((c.tc : Thread nD τ).loc main_arg1) = X1
  generalize m ((c.tc : Thread nD τ).loc main_arg2) = X2
  rw [q_eq]
  rfl

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0 :=
  (θ_run defs _ _).mono (fun r h => ⟨fun c => (h c).2.2.2, sem_eq_zero_of_no_sems (by decide) r.2⟩)
    (Value.run m g)

end reference

section precondition
open Cert.Pre_real_scores_a_bwd Cert.Pre_real_scores_a_bwd.Gen

theorem scores (a0 : Vec Ideal S8192x2560 .bf16) (a1 : Vec Ideal S1024x512 .bf16) (a2 : Vec Ideal S8192x1024 .bf16)
    (e : Cert.Pre_real_scores_a_bwd.fn (F := Ideal) a0 a1 a2 = fun _ => 1#1)
    (b h : Fin 4) (r : Fin 2048) (k : Fin 256) : ∃ x : ℝ, MemArray.sc (MemAttn.cols a0) a1 b h r k = x := by
  have e0 := congrFun e (fun a => a.elim0)
  simp only [Cert.Pre_real_scores_a_bwd.fn] at e0
  obtain ⟨h1, h2⟩ := MemPre.and_one e0
  refine MemPre.scores_of _ _ (fun i l => MemPre.real_of_abs _ ?_) (fun i l => MemPre.real_of_abs _ ?_) b h r k
  · have h := Host.reduce_andi_all _ _ _ _ _ h1 (ix2 i l)
    pointwise at h
    rw [show (⟨2304 + l.val, by omega⟩ : Fin 2560) = ⟨1536 + (768 + l.val), by omega⟩ from Fin.ext (by dsimp only; omega)] at h
    exact MemPre.below h
  · have h := Host.reduce_andi_all _ _ _ _ _ h2 (ix2 i l)
    pointwise at h
    exact MemPre.below h

end precondition

/-- Over the extended reals the kernel's three gradients are the reference's, for real queries and keys. -/
theorem algebraic : Cert.algebraic_MemBwdAIdeal_MemBwdASpecIdeal_pre_real_scores_a_bwd := by
  pair_intro
  · run_from run m g
  · run_from MemBwdASpecIdeal.Value.run m' g'
    · exact (out0 m' c).trans (by
        rw [(hagree c).1, (hagree c).2.1, (hagree c).2.2]
        exact MemSpecIdeal.Stages.dqOut_eq _ _ _ (scores _ _ _ (hpre c)))
    · exact (out1 m' c).trans (by
        rw [(hagree c).1, (hagree c).2.1, (hagree c).2.2]
        exact MemSpecIdeal.Stages.dkOut_eq _ _ _ (scores _ _ _ (hpre c)))
    · exact (out2 m' c).trans (by
        rw [(hagree c).1, (hagree c).2.1, (hagree c).2.2]
        exact MemSpecIdeal.Stages.dvOut_eq _ _ _ (scores _ _ _ (hpre c)))

end Cert.MemBwdAProof

end
-- ==== Proof.Rest.CombineFwd.lean ====
/- The combination of the three groups of dilated attention. -/
module

public import proofs.«01_k».proof.Proof.Gen.CombineFwdIdeal.Frame
public import proofs.«01_k».proof.Proof.Gen.CombineFwdSpecIdeal.Run
public import proofs.«01_k».proof.Proof.Gen.Pre_real_lses
public import proofs.«01_k».proof.Proof.MemPre
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.CombineFwdProof

open Idealize.ShloMosaic Idealize.ShloMosaic.TcCoe Idealize.SL.Sem

/-- The greatest of three logarithms. -/
def greatest (a b c : EReal) : EReal := max (max a b) c

/-- The sum of the three shifted exponentials. -/
def total (a b c : EReal) : EReal := Ideal.exp (a - greatest a b c) + Ideal.exp (b - greatest a b c) + Ideal.exp (c - greatest a b c)

/-- A group's weight, by the reciprocal of the sum. -/
def weight (x a b c : EReal) : EReal := Ideal.exp (x - greatest a b c) * Ideal.div 1 (total a b c)

/-- Over reals the quotient by the sum is the product with its reciprocal. -/
theorem quotient (x : EReal) {a b c : EReal} (ha : ∃ r : ℝ, a = r) (hb : ∃ r : ℝ, b = r) (hc : ∃ r : ℝ, c = r) :
    Ideal.div (Ideal.exp (x - greatest a b c)) (total a b c) = weight x a b c := by
  obtain ⟨a, rfl⟩ := ha
  obtain ⟨b, rfl⟩ := hb
  obtain ⟨c, rfl⟩ := hc
  have hg : greatest (a : EReal) b c = ((max (max a b) c : ℝ) : EReal) := by
    rw [greatest, EReal.coe_strictMono.monotone.map_max, EReal.coe_strictMono.monotone.map_max]
  have ht : total (a : EReal) b c = ((Real.exp (a - max (max a b) c) + Real.exp (b - max (max a b) c) + Real.exp (c - max (max a b) c) : ℝ) : EReal) := by
    rw [total, hg, ← EReal.coe_sub, ← EReal.coe_sub, ← EReal.coe_sub, EReal.coe_add, EReal.coe_add]; rfl
  have hp : (0 : ℝ) < Real.exp (a - max (max a b) c) + Real.exp (b - max (max a b) c) + Real.exp (c - max (max a b) c) := by positivity
  rw [weight, ht, Ideal.div_coe hp.ne', Ideal.div_coe hp.ne', one_mul]

section kernel
open Cert.CombineFwdIdeal Cert.CombineFwdIdeal.Gen

/-- The position of a result's element within its group. -/
def pos (i : S8192x768.Idx) : S8192x256.Idx := ix2 ⟨(i 0).val, (i 0).isLt⟩ ⟨(i 1).val % 256, by omega⟩

/-- The three weighted groups side by side. -/
def out (o0 o1 o2 l0 l1 l2 : Vec Ideal S8192x256 .f32) : Vec Ideal S8192x768 .bf16 := fun i =>
  if (i 1).val < 256 then (fun a b : EReal => a * b) (o0 (pos i)) (weight (l0 (pos i)) (l0 (pos i)) (l1 (pos i)) (l2 (pos i)))
  else if (i 1).val < 512 then (fun a b : EReal => a * b) (o1 (pos i)) (weight (l1 (pos i)) (l0 (pos i)) (l1 (pos i)) (l2 (pos i)))
  else (fun a b : EReal => a * b) (o2 (pos i)) (weight (l2 (pos i)) (l0 (pos i)) (l1 (pos i)) (l2 (pos i)))

section block
variable (v0 v1 v2 o : Vec Ideal S512x256 .f32)

theorem piece0 (j : S512x256.Idx) : k0_pay6 v0 v1 v2 o j = o j * weight (v0 j) (v0 j) (v1 j) (v2 j) := by
  pointwise [k0_pay6, k0_pay5, k0_pay4, k0_pay3, k0_pay2, k0_pay1, weight, total, greatest]

theorem piece1 (j : S512x256.Idx) : k0_pay7 v0 v1 v2 o j = o j * weight (v1 j) (v0 j) (v1 j) (v2 j) := by
  pointwise [k0_pay7, k0_pay5, k0_pay4, k0_pay3, k0_pay2, k0_pay1, weight, total, greatest]

theorem piece2 (j : S512x256.Idx) : k0_pay8 v0 v1 v2 o j = o j * weight (v2 j) (v0 j) (v1 j) (v2 j) := by
  pointwise [k0_pay8, k0_pay5, k0_pay4, k0_pay3, k0_pay2, k0_pay1, weight, total, greatest]

end block

variable (m : (ℓ : Loc nD τ sig) → Buf (Elt Ideal) ℓ) (c : Dev nD)

abbrev A0 : Vec Ideal S8192x256 .f32 := m ((c : Thread nD τ).loc main_arg0)
abbrev A1 : Vec Ideal S8192x256 .f32 := m ((c : Thread nD τ).loc main_arg1)
abbrev A2 : Vec Ideal S8192x256 .f32 := m ((c : Thread nD τ).loc main_arg2)
abbrev A3 : Vec Ideal S8192x256 .f32 := m ((c : Thread nD τ).loc main_arg3)
abbrev A4 : Vec Ideal S8192x256 .f32 := m ((c : Thread nD τ).loc main_arg4)
abbrev A5 : Vec Ideal S8192x256 .f32 := m ((c : Thread nD τ).loc main_arg5)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem blk0 (t : Fin cfg0.N) (r : Fin 512) (l : Fin 256) (R : Fin 8192) (hR : R.val = t.val * 512 + r) :
    iblk m c 0 t (ix2 r l) = A0 m c (ix2 R l) := by
  blk_point [iblk, V, idx t]

theorem blk1 (t : Fin cfg0.N) (r : Fin 512) (l : Fin 256) (R : Fin 8192) (hR : R.val = t.val * 512 + r) :
    iblk m c 1 t (ix2 r l) = A1 m c (ix2 R l) := by
  blk_point [iblk, V, idx t]

theorem blk2 (t : Fin cfg0.N) (r : Fin 512) (l : Fin 256) (R : Fin 8192) (hR : R.val = t.val * 512 + r) :
    iblk m c 2 t (ix2 r l) = A2 m c (ix2 R l) := by
  blk_point [iblk, V, idx t]

theorem blk3 (t : Fin cfg0.N) (r : Fin 512) (l : Fin 256) (R : Fin 8192) (hR : R.val = t.val * 512 + r) :
    iblk m c 3 t (ix2 r l) = A3 m c (ix2 R l) := by
  blk_point [iblk, V, idx t]

theorem blk4 (t : Fin cfg0.N) (r : Fin 512) (l : Fin 256) (R : Fin 8192) (hR : R.val = t.val * 512 + r) :
    iblk m c 4 t (ix2 r l) = A4 m c (ix2 R l) := by
  blk_point [iblk, V, idx t]

theorem blk5 (t : Fin cfg0.N) (r : Fin 512) (l : Fin 256) (R : Fin 8192) (hR : R.val = t.val * 512 + r) :
    iblk m c 5 t (ix2 r l) = A5 m c (ix2 R l) := by
  blk_point [iblk, V, idx t]

theorem at_group0 (t : Fin cfg0.N) (r : Fin 512) (l : Fin 256) (i : S8192x768.Idx) (R : Fin 8192) (hR : R.val = t.val * 512 + r)
    (e0 : (i 0).val = R.val) (e1 : (i 1).val = 0 + l.val) :
    (fun a b : EReal => a * b) (iblk m c 0 t (ix2 r l)) (weight (iblk m c 3 t (ix2 r l)) (iblk m c 3 t (ix2 r l)) (iblk m c 4 t (ix2 r l)) (iblk m c 5 t (ix2 r l)))
      = out (A0 m c) (A1 m c) (A2 m c) (A3 m c) (A4 m c) (A5 m c) i := by
  have hl : l.val < 256 := l.isLt
  have hq : pos i = ix2 R l := congrArg₂ ix2 (Fin.ext e0) (Fin.ext (by dsimp only; omega))
  rw [blk0 m c t r l R hR, blk3 m c t r l R hR, blk4 m c t r l R hR, blk5 m c t r l R hR]
  unfold out
  rw [if_pos (by omega), hq]

theorem at_group1 (t : Fin cfg0.N) (r : Fin 512) (l : Fin 256) (i : S8192x768.Idx) (R : Fin 8192) (hR : R.val = t.val * 512 + r)
    (e0 : (i 0).val = R.val) (e1 : (i 1).val = 256 + l.val) :
    (fun a b : EReal => a * b) (iblk m c 1 t (ix2 r l)) (weight (iblk m c 4 t (ix2 r l)) (iblk m c 3 t (ix2 r l)) (iblk m c 4 t (ix2 r l)) (iblk m c 5 t (ix2 r l)))
      = out (A0 m c) (A1 m c) (A2 m c) (A3 m c) (A4 m c) (A5 m c) i := by
  have hl : l.val < 256 := l.isLt
  have hq : pos i = ix2 R l := congrArg₂ ix2 (Fin.ext e0) (Fin.ext (by dsimp only; omega))
  rw [blk1 m c t r l R hR, blk4 m c t r l R hR, blk3 m c t r l R hR, blk5 m c t r l R hR]
  unfold out
  rw [if_neg (by omega), if_pos (by omega), hq]

theorem at_group2 (t : Fin cfg0.N) (r : Fin 512) (l : Fin 256) (i : S8192x768.Idx) (R : Fin 8192) (hR : R.val = t.val * 512 + r)
    (e0 : (i 0).val = R.val) (e1 : (i 1).val = 512 + l.val) :
    (fun a b : EReal => a * b) (iblk m c 2 t (ix2 r l)) (weight (iblk m c 5 t (ix2 r l)) (iblk m c 3 t (ix2 r l)) (iblk m c 4 t (ix2 r l)) (iblk m c 5 t (ix2 r l)))
      = out (A0 m c) (A1 m c) (A2 m c) (A3 m c) (A4 m c) (A5 m c) i := by
  have hl : l.val < 256 := l.isLt
  have hq : pos i = ix2 R l := congrArg₂ ix2 (Fin.ext e0) (Fin.ext (by dsimp only; omega))
  rw [blk2 m c t r l R hR, blk5 m c t r l R hR, blk3 m c t r l R hR, blk4 m c t r l R hR]
  unfold out
  rw [if_neg (by omega), if_neg (by omega), hq]

theorem final6 : (dats m 0 c).arrAt 6 (cfgs 0).N = out (A0 m c) (A1 m c) (A2 m c) (A3 m c) (A4 m c) (A5 m c) := by
  refine (dats m 0 c).arrAt_eq_of_covers 6 _ (by decide +kernel) fun t hf y => ?_
  blk_simp
  have ht : t.val < 16 := t.isLt
  rw [after0_6]
  have e0 : (((win0_6.blk t).view.emb y) 0).val = t.val * 512 + (y 0).val := by blk_simp [idx t]
  have e1 : (((win0_6.blk t).view.emb y) 1).val = (y 1).val := by blk_simp [idx t]
  generalize (win0_6.blk t).view.emb y = i at e0 e1
  frame_out
  clear hf
  canon_tiles x h
  · refine (piece2 _ _ _ _ _).trans ?_
    obtain ⟨r, l, rfl⟩ : ∃ (r : Fin 512) (l : Fin 256), x = ix2 r l := ⟨x 0, x 1, by funext a; fin_cases a <;> rfl⟩
    have k0 : (y 0).val = r.val := h0
    have k1 : (y 1).val = 512 + l.val := h1
    exact at_group2 m c t r l i ⟨t.val * 512 + r.val, by omega⟩ rfl (by dsimp only; omega) (by omega)
  · refine (piece1 _ _ _ _ _).trans ?_
    obtain ⟨r, l, rfl⟩ : ∃ (r : Fin 512) (l : Fin 256), x = ix2 r l := ⟨x 0, x 1, by funext a; fin_cases a <;> rfl⟩
    have k0 : (y 0).val = r.val := h0
    have k1 : (y 1).val = 256 + l.val := h1
    exact at_group1 m c t r l i ⟨t.val * 512 + r.val, by omega⟩ rfl (by dsimp only; omega) (by omega)
  · refine (piece0 _ _ _ _ _).trans ?_
    obtain ⟨r, l, rfl⟩ : ∃ (r : Fin 512) (l : Fin 256), x = ix2 r l := ⟨x 0, x 1, by funext a; fin_cases a <;> rfl⟩
    have k0 : (y 0).val = r.val := h0
    have k1 : (y 1).val = l.val := h1
    exact at_group0 m c t r l i ⟨t.val * 512 + r.val, by omega⟩ rfl (by dsimp only; omega) (by omega)

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0) = out (A0 m c) (A1 m c) (A2 m c) (A3 m c) (A4 m c) (A5 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end kernel

section reference
open Cert.CombineFwdSpecIdeal Cert.CombineFwdSpecIdeal.Gen

/-- Reference: the three weighted groups side by side, from the greatest logarithm and the sum. -/
def refOut {F : FTy → Type} [FloatOps F] (o0 o1 o2 l0 l1 l2 : Vec F S8192x256 .f32) : Vec F S8192x768 .bf16 :=
  let g := maximumf (maximumf l0 l1) l2
  let s := addf (addf (Host.exp (subf l0 g)) (Host.exp (subf l1 g))) (Host.exp (subf l2 g))
  truncf .bf16 (concatenate S8192x768 1 [⟨S8192x256, mulf o0 (Host.divf (Host.exp (subf l0 g)) s)⟩, ⟨S8192x256, mulf o1 (Host.divf (Host.exp (subf l1 g)) s)⟩, ⟨S8192x256, mulf o2 (Host.divf (Host.exp (subf l2 g)) s)⟩] concatenates_S8192x256_S8192x256_S8192x256_S8192x768_d1) bitsLt_bf16_f32

theorem ref_out (X0 X1 X2 X3 X4 X5 : Vec Ideal S8192x256 .f32) (h3 : ∀ i, ∃ x : ℝ, X3 i = x) (h4 : ∀ i, ∃ x : ℝ, X4 i = x) (h5 : ∀ i, ∃ x : ℝ, X5 i = x) :
    refOut (F := Ideal) X0 X1 X2 X3 X4 X5 = out X0 X1 X2 X3 X4 X5 := by
  have hw : ∀ (x : EReal) (q : S8192x256.Idx), Ideal.div (Ideal.exp (x - greatest (X3 q) (X4 q) (X5 q))) (total (X3 q) (X4 q) (X5 q)) = weight x (X3 q) (X4 q) (X5 q) :=
    fun x q => quotient x (h3 q) (h4 q) (h5 q)
  funext i
  unfold out
  simp only [← hw]
  dsimp only [refOut]
  by_cases g0 : (i 1).val < 256
  · simp only [if_pos g0]
    pointwise [pos, total, greatest]
    rw [dif_pos g0]
    simp only [Nat.mod_eq_of_lt g0]
  · by_cases g1 : (i 1).val < 512
    · simp only [if_neg g0, if_pos g1]
      pointwise [pos, total, greatest]
      rw [dif_neg g0, dif_pos (by omega)]
      simp only [show (i 1).val - 256 = (i 1).val % 256 by omega]
    · have hi : (i 1).val < 768 := (i 1).isLt
      simp only [if_neg g0, if_neg g1]
      pointwise [pos, total, greatest]
      rw [dif_neg g0, dif_neg (by omega)]
      simp only [show (i 1).val - 256 - 256 = (i 1).val % 256 by omega]

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
        ∧ r.2.sem = fun _ => 0 :=
  (θ_run defs _ _).mono (fun r h => ⟨fun c => (h c).2, sem_eq_zero_of_no_sems (by decide) r.2⟩)
    (Value.run m g)

end reference

section precondition
open Cert.Pre_real_lses Cert.Pre_real_lses.Gen

/-- The precondition makes every logarithm a real. -/
theorem logs (a0 a1 a2 a3 a4 a5 : Vec Ideal S8192x256 .f32) (e : Cert.Pre_real_lses.fn (F := Ideal) a0 a1 a2 a3 a4 a5 = fun _ => 1#1) :
    (∀ i, ∃ x : ℝ, a3 i = x) ∧ (∀ i, ∃ x : ℝ, a4 i = x) ∧ ∀ i, ∃ x : ℝ, a5 i = x := by
  have e0 := congrFun e (fun a => a.elim0)
  simp only [Cert.Pre_real_lses.fn] at e0
  obtain ⟨h12, h3⟩ := MemPre.and_one e0
  obtain ⟨h1, h2⟩ := MemPre.and_one h12
  refine ⟨fun i => MemPre.real_of_abs _ ?_, fun i => MemPre.real_of_abs _ ?_, fun i => MemPre.real_of_abs _ ?_⟩
  · have h := Host.reduce_andi_all _ _ _ _ _ h1 i
    pointwise at h
    exact MemPre.below h
  · have h := Host.reduce_andi_all _ _ _ _ _ h2 i
    pointwise at h
    exact MemPre.below h
  · have h := Host.reduce_andi_all _ _ _ _ _ h3 i
    pointwise at h
    exact MemPre.below h

end precondition

/-- Over the extended reals the kernel's result is the reference's, for real logarithms. -/
theorem algebraic : Cert.algebraic_CombineFwdIdeal_CombineFwdSpecIdeal_pre_real_lses := by
  pair_intro
  · run_from run m g
  · run_from CombineFwdSpecIdeal.Value.run m' g'
    obtain ⟨s3, s4, s5⟩ := logs _ _ _ _ _ _ (hpre c)
    obtain ⟨-, -, -, -, g4, g5⟩ := hagree c
    rw [g4, g5]
    exact ref_out _ _ _ _ _ _ s3 s4 s5

end Cert.CombineFwdProof

end
-- ==== Proof.Rest.CombineBwdBlock.lean ====
/- The gradient of the combination: the weights and the heads' sums of one block. -/
module

public import proofs.«01_k».proof.Proof.Gen.CombineBwdIdeal.Frame
public import proofs.«01_k».proof.Proof.Rest.CombineFwd
public import proofs.«01_k».proof.Proof.MemBlock
public import proofs.«01_k».proof.Proof.Row

@[expose] public section

set_option maxRecDepth 16384

noncomputable section

namespace Cert.CombineBwdBlock

open Idealize.ShloMosaic Idealize.ShloMosaic.TcCoe Idealize.SL.Sem
open Cert.CombineFwdProof (weight total greatest)
open Cert.CombineBwdIdeal Cert.CombineBwdIdeal.Gen

/-- The sum of the first head's lanes among 128, or of the second's as a difference, by the lane `l`. -/
def pick (l : ℕ) (g : Fin 128 → EReal) : EReal :=
  Scalar.select (IntOp.cmpi CmpIPredicate.slt (BitVec.ofNat 32 l) 64#32)
    (∑ x : Fin 128, Scalar.select (IntOp.cmpi CmpIPredicate.slt (BitVec.ofNat 32 ↑x) 64#32) (g x) 0)
    (∑ x : Fin 128, g x - ∑ x : Fin 128, Scalar.select (IntOp.cmpi CmpIPredicate.slt (BitVec.ofNat 32 ↑x) 64#32) (g x) 0)

/-- The sum over the head of column `l`, as the call takes it in each half of 128 columns. -/
def halves (f : Fin 256 → EReal) (l : Fin 256) : EReal :=
  if l.val < 128 then pick l.val fun x => f ⟨x.val, by omega⟩ else pick (l.val - 128) fun x => f ⟨128 + x.val, by omega⟩

/-- The sum over the head of column `l`. -/
def headSum (f : Fin 256 → EReal) (l : Fin 256) : EReal := ∑ d : Fin 64, f ⟨l.val / 64 * 64 + d.val, by omega⟩

/-- The lanes of the two heads together are all lanes. -/
theorem sum_lanes (g : Fin 128 → EReal) : ∑ x : Fin 128, g x = ∑ d : Fin 64, g (MemBlock.lane 0 d) + ∑ d : Fin 64, g (MemBlock.lane 1 d) := by
  rw [show (∑ x : Fin 128, g x) = ∑ x : Fin (64 + 64), g x from rfl, Fin.sum_univ_add]
  refine congrArg₂ (fun a b : EReal => a + b) (Finset.sum_congr rfl fun d _ => congrArg g ?_) (Finset.sum_congr rfl fun d _ => congrArg g ?_) <;>
    refine Fin.ext ?_ <;> simp [MemBlock.lane, add_comm]

/-- Over reals the picked sum is the sum over the lane's own head. -/
theorem pick_real (l : Fin 128) (g : Fin 128 → EReal) (hg : ∀ x, ∃ r : ℝ, g x = r) :
    pick l.val g = ∑ d : Fin 64, g (MemBlock.lane (MemBlock.headOf l) d) := by
  have hd : (∑ x : Fin 128, g x) - ∑ d : Fin 64, g (MemBlock.lane 0 d) = ∑ d : Fin 64, g (MemBlock.lane 1 d) := by
    choose r hr using hg
    rw [sum_lanes]
    simp only [hr]
    rw [Row.sum_coe, Row.sum_coe, ← EReal.coe_add, ← EReal.coe_sub, add_sub_cancel_left]
  unfold pick
  rw [MemBlock.select_lo, hd]
  exact MemBlock.mask_pick l fun h => ∑ d : Fin 64, g (MemBlock.lane h d)

/-- Over reals the call's sums are the heads' sums. -/
theorem halves_real (f : Fin 256 → EReal) (hf : ∀ x, ∃ r : ℝ, f x = r) (l : Fin 256) : halves f l = headSum f l := by
  unfold halves headSum
  by_cases g : l.val < 128
  · rw [if_pos g]
    refine (pick_real ⟨l.val, g⟩ _ fun x => hf _).trans (Finset.sum_congr rfl fun d _ => congrArg f (Fin.ext ?_))
    simp only [MemBlock.lane, MemBlock.headOf] <;> omega
  · rw [if_neg g]
    refine (pick_real ⟨l.val - 128, by omega⟩ _ fun x => hf _).trans (Finset.sum_congr rfl fun d _ => congrArg f (Fin.ext ?_))
    simp only [MemBlock.lane, MemBlock.headOf] <;> omega

variable (l0 l1 l2 o0 o1 o2 : Vec Ideal S512x256 .f32) (d0 d1 d2 : Vec Ideal S512x256 .bf16)

theorem weight0 (j : S512x256.Idx) : k0_pay11 l0 l1 l2 j = weight (l0 j) (l0 j) (l1 j) (l2 j) := by
  pointwise [k0_pay11, k0_pay10, k0_pay9, k0_pay8, k0_pay7, k0_pay6, weight, total, greatest]

theorem weight1 (j : S512x256.Idx) : k0_pay12 l0 l1 l2 j = weight (l1 j) (l0 j) (l1 j) (l2 j) := by
  pointwise [k0_pay12, k0_pay10, k0_pay9, k0_pay8, k0_pay7, k0_pay6, weight, total, greatest]

theorem weight2 (j : S512x256.Idx) : k0_pay13 l0 l1 l2 j = weight (l2 j) (l0 j) (l1 j) (l2 j) := by
  pointwise [k0_pay13, k0_pay10, k0_pay9, k0_pay8, k0_pay7, k0_pay6, weight, total, greatest]

theorem sums0 (j : S512x256.Idx) : k0_pay23 (k0_pay17 d0 o0) k0_pay19 (k0_pay21 d0 o0) (k0_pay22 d0 o0) j
    = halves (fun l => (fun a b : EReal => a * b) (d0 (ix2 (j 0) l)) (o0 (ix2 (j 0) l))) (j 1) := by
  by_cases g : (j 1).val < 128
  · unfold halves
    rw [if_pos g]
    pointwise [k0_pay23, k0_pay22, k0_pay21, k0_pay20, k0_pay19, k0_pay18, k0_pay17, k0_pay14]
    rw [dif_pos g]
    rfl
  · unfold halves
    rw [if_neg g]
    pointwise [k0_pay23, k0_pay22, k0_pay21, k0_pay20, k0_pay19, k0_pay18, k0_pay17, k0_pay14]
    rw [dif_neg g]
    rfl

/-- The mean of the heads' sums by the weights. -/
theorem mean_at (w0 w1 w2 v58 : FVec Ideal S512x256 .f32) (j : S512x256.Idx) :
    k0_pay30 w0 w1 w2 (k0_pay16 d2) v58 (k0_pay25 (k0_pay15 d1) o1) k0_pay27 (k0_pay28 (k0_pay15 d1) o1) (k0_pay29 (k0_pay15 d1) o1) o2 j
    = (fun a b c d e f : EReal => a * b + c * d + e * f) (w0 j) (v58 j)
      (w1 j) (halves (fun l => (fun a b : EReal => a * b) (d1 (ix2 (j 0) l)) (o1 (ix2 (j 0) l))) (j 1))
      (w2 j) (halves (fun l => (fun a b : EReal => a * b) (d2 (ix2 (j 0) l)) (o2 (ix2 (j 0) l))) (j 1)) := by
  by_cases g : (j 1).val < 128
  · unfold halves
    simp only [if_pos g]
    pointwise [k0_pay30, k0_pay29, k0_pay28, k0_pay27, k0_pay26, k0_pay25, k0_pay24, k0_pay16, k0_pay15]
    rw [dif_pos g, dif_pos g]
    rfl
  · unfold halves
    simp only [if_neg g]
    pointwise [k0_pay30, k0_pay29, k0_pay28, k0_pay27, k0_pay26, k0_pay25, k0_pay24, k0_pay16, k0_pay15]
    rw [dif_neg g, dif_neg g]
    rfl

end Cert.CombineBwdBlock

end
-- ==== Proof.Rest.CombineBwd.lean ====
/- The gradient of the combination of the three groups of dilated attention. -/
module

public import proofs.«01_k».proof.Proof.Gen.CombineBwdIdeal.Frame
public import proofs.«01_k».proof.Proof.Gen.CombineBwdSpecIdeal.Run
public import proofs.«01_k».proof.Proof.Gen.Pre_real_groups
public import proofs.«01_k».proof.Proof.Rest.CombineBwdBlock
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.CombineBwdProof

open Idealize.ShloMosaic Idealize.ShloMosaic.TcCoe Idealize.SL.Sem
open Cert.CombineFwdProof (weight total greatest quotient)
open Cert.CombineBwdBlock (halves headSum halves_real)

section kernel
open Cert.CombineBwdIdeal Cert.CombineBwdIdeal.Gen

/-- A group's weight at a row and a column. -/
def wgt (x l0 l1 l2 : Vec Ideal S8192x256 .f32) (R : Fin 8192) (l : Fin 256) : EReal :=
  weight (x (ix2 R l)) (l0 (ix2 R l)) (l1 (ix2 R l)) (l2 (ix2 R l))

/-- The incoming gradient of one group at a row and a column. -/
def inc (g : Fin 3) (d : Vec Ideal S8192x1024 .bf16) (R : Fin 8192) (l : Fin 256) : EReal := d (ix2 R ⟨g.val * 256 + l.val, by omega⟩)

/-- The gradient of one group's results: its weights times the incoming gradient. -/
def grad (g : Fin 3) (x l0 l1 l2 : Vec Ideal S8192x256 .f32) (d : Vec Ideal S8192x1024 .bf16) (R : Fin 8192) (l : Fin 256) : EReal :=
  wgt x l0 l1 l2 R l * inc g d R l

/-- The products of the incoming gradient with one group's results, in one row. -/
def prods (g : Fin 3) (o : Vec Ideal S8192x256 .f32) (d : Vec Ideal S8192x1024 .bf16) (R : Fin 8192) (l : Fin 256) : EReal :=
  (fun a b : EReal => a * b) (inc g d R l) (o (ix2 R l))

/-- The mean of the heads' sums `H` by the weights. -/
def mean (H : (Fin 256 → EReal) → Fin 256 → EReal) (o0 o1 o2 l0 l1 l2 : Vec Ideal S8192x256 .f32) (d : Vec Ideal S8192x1024 .bf16) (R : Fin 8192) (l : Fin 256) : EReal :=
  wgt l0 l0 l1 l2 R l * H (prods 0 o0 d R) l + wgt l1 l0 l1 l2 R l * H (prods 1 o1 d R) l + wgt l2 l0 l1 l2 R l * H (prods 2 o2 d R) l

/-- Three arrays side by side. -/
def beside (a b c : Fin 8192 → Fin 256 → EReal) : Vec Ideal S8192x768 .f32 := fun i =>
  if (i 1).val < 256 then a ⟨(i 0).val, (i 0).isLt⟩ ⟨(i 1).val % 256, by omega⟩
  else if (i 1).val < 512 then b ⟨(i 0).val, (i 0).isLt⟩ ⟨(i 1).val % 256, by omega⟩
  else c ⟨(i 0).val, (i 0).isLt⟩ ⟨(i 1).val % 256, by omega⟩

theorem beside0 (a b c : Fin 8192 → Fin 256 → EReal) (i : S8192x768.Idx) (R : Fin 8192) (l : Fin 256) (h0 : (i 0).val = R.val) (h1 : (i 1).val = 0 + l.val) :
    beside a b c i = a R l := by
  have hl : l.val < 256 := l.isLt
  unfold beside
  rw [if_pos (by omega)]
  exact congrArg₂ a (Fin.ext h0) (Fin.ext (by dsimp only; omega))

theorem beside1 (a b c : Fin 8192 → Fin 256 → EReal) (i : S8192x768.Idx) (R : Fin 8192) (l : Fin 256) (h0 : (i 0).val = R.val) (h1 : (i 1).val = 256 + l.val) :
    beside a b c i = b R l := by
  have hl : l.val < 256 := l.isLt
  unfold beside
  rw [if_neg (by omega), if_pos (by omega)]
  exact congrArg₂ b (Fin.ext h0) (Fin.ext (by dsimp only; omega))

theorem beside2 (a b c : Fin 8192 → Fin 256 → EReal) (i : S8192x768.Idx) (R : Fin 8192) (l : Fin 256) (h0 : (i 0).val = R.val) (h1 : (i 1).val = 512 + l.val) :
    beside a b c i = c R l := by
  have hl : l.val < 256 := l.isLt
  unfold beside
  rw [if_neg (by omega), if_neg (by omega)]
  exact congrArg₂ c (Fin.ext h0) (Fin.ext (by dsimp only; omega))

/-- The groups' gradients side by side. -/
def outG (l0 l1 l2 : Vec Ideal S8192x256 .f32) (d : Vec Ideal S8192x1024 .bf16) : Vec Ideal S8192x768 .f32 :=
  beside (grad 0 l0 l0 l1 l2 d) (grad 1 l1 l0 l1 l2 d) (grad 2 l2 l0 l1 l2 d)

/-- The groups' weights times the mean, side by side. -/
def outS (H : (Fin 256 → EReal) → Fin 256 → EReal) (o0 o1 o2 l0 l1 l2 : Vec Ideal S8192x256 .f32) (d : Vec Ideal S8192x1024 .bf16) : Vec Ideal S8192x768 .f32 :=
  beside (fun R l => wgt l0 l0 l1 l2 R l * mean H o0 o1 o2 l0 l1 l2 d R l)
    (fun R l => wgt l1 l0 l1 l2 R l * mean H o0 o1 o2 l0 l1 l2 d R l)
    (fun R l => wgt l2 l0 l1 l2 R l * mean H o0 o1 o2 l0 l1 l2 d R l)

variable (m : (ℓ : Loc nD τ sig) → Buf (Elt Ideal) ℓ) (c : Dev nD)

abbrev A0 : Vec Ideal S8192x256 .f32 := m ((c : Thread nD τ).loc main_arg0)
abbrev A1 : Vec Ideal S8192x256 .f32 := m ((c : Thread nD τ).loc main_arg1)
abbrev A2 : Vec Ideal S8192x256 .f32 := m ((c : Thread nD τ).loc main_arg2)
abbrev A3 : Vec Ideal S8192x256 .f32 := m ((c : Thread nD τ).loc main_arg3)
abbrev A4 : Vec Ideal S8192x256 .f32 := m ((c : Thread nD τ).loc main_arg4)
abbrev A5 : Vec Ideal S8192x256 .f32 := m ((c : Thread nD τ).loc main_arg5)
abbrev A6 : Vec Ideal S8192x1024 .bf16 := m ((c : Thread nD τ).loc main_arg6)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

theorem blk0 (t : Fin cfg0.N) (r : Fin 512) (l : Fin 256) (R : Fin 8192) (hR : R.val = t.val * 512 + r) :
    iblk m c 0 t (ix2 r l) = A0 m c (ix2 R l) := by
  blk_point [iblk, V, idx t]

theorem blk1 (t : Fin cfg0.N) (r : Fin 512) (l : Fin 256) (R : Fin 8192) (hR : R.val = t.val * 512 + r) :
    iblk m c 1 t (ix2 r l) = A1 m c (ix2 R l) := by
  blk_point [iblk, V, idx t]

theorem blk2 (t : Fin cfg0.N) (r : Fin 512) (l : Fin 256) (R : Fin 8192) (hR : R.val = t.val * 512 + r) :
    iblk m c 2 t (ix2 r l) = A2 m c (ix2 R l) := by
  blk_point [iblk, V, idx t]

theorem blk3 (t : Fin cfg0.N) (r : Fin 512) (l : Fin 256) (R : Fin 8192) (hR : R.val = t.val * 512 + r) :
    iblk m c 3 t (ix2 r l) = A3 m c (ix2 R l) := by
  blk_point [iblk, V, idx t]

theorem blk4 (t : Fin cfg0.N) (r : Fin 512) (l : Fin 256) (R : Fin 8192) (hR : R.val = t.val * 512 + r) :
    iblk m c 4 t (ix2 r l) = A4 m c (ix2 R l) := by
  blk_point [iblk, V, idx t]

theorem blk5 (t : Fin cfg0.N) (r : Fin 512) (l : Fin 256) (R : Fin 8192) (hR : R.val = t.val * 512 + r) :
    iblk m c 5 t (ix2 r l) = A5 m c (ix2 R l) := by
  blk_point [iblk, V, idx t]

theorem blk6 (t : Fin cfg0.N) (r : Fin 512) (l : Fin 768) (R : Fin 8192) (hR : R.val = t.val * 512 + r) (L : Fin 1024) (hL : L.val = l.val) :
    X0_6 m c t (ix2 r l) = A6 m c (ix2 R L) := by
  unfold X0_6 Pipeline.Window.fill
  rw [dif_pos (moved0_6 t _)]
  blk_point [iblk, V, idx t]

theorem wt0 (t : Fin cfg0.N) (r : Fin 512) (l : Fin 256) (R : Fin 8192) (hR : R.val = t.val * 512 + r) :
    k0_pay11 (iblk m c 3 t) (iblk m c 4 t) (iblk m c 5 t) (ix2 r l) = wgt (A3 m c) (A3 m c) (A4 m c) (A5 m c) R l := by
  refine (CombineBwdBlock.weight0 _ _ _ _).trans ?_
  rw [blk3 m c t r l R hR, blk4 m c t r l R hR, blk5 m c t r l R hR]
  rfl

theorem wt1 (t : Fin cfg0.N) (r : Fin 512) (l : Fin 256) (R : Fin 8192) (hR : R.val = t.val * 512 + r) :
    k0_pay12 (iblk m c 3 t) (iblk m c 4 t) (iblk m c 5 t) (ix2 r l) = wgt (A4 m c) (A3 m c) (A4 m c) (A5 m c) R l := by
  refine (CombineBwdBlock.weight1 _ _ _ _).trans ?_
  rw [blk3 m c t r l R hR, blk4 m c t r l R hR, blk5 m c t r l R hR]
  rfl

theorem wt2 (t : Fin cfg0.N) (r : Fin 512) (l : Fin 256) (R : Fin 8192) (hR : R.val = t.val * 512 + r) :
    k0_pay13 (iblk m c 3 t) (iblk m c 4 t) (iblk m c 5 t) (ix2 r l) = wgt (A5 m c) (A3 m c) (A4 m c) (A5 m c) R l := by
  refine (CombineBwdBlock.weight2 _ _ _ _).trans ?_
  rw [blk3 m c t r l R hR, blk4 m c t r l R hR, blk5 m c t r l R hR]
  rfl

theorem five {a b p q s u a' b' p' q' s' u' : EReal} (ha : a = a') (hb : b = b') (hp : p = p') (hq : q = q') (hs : s = s') (hu : u = u') :
    a * b + p * q + s * u = a' * b' + p' * q' + s' * u' := by
  rw [ha, hb, hp, hq, hs, hu]

theorem mean_pt (t : Fin cfg0.N) (r : Fin 512) (l : Fin 256) (R : Fin 8192) (hR : R.val = t.val * 512 + r) (D0 D1 D2 : Vec Ideal S512x256 .bf16)
    (e0 : ∀ k : Fin 256, D0 (ix2 r k) = inc 0 (A6 m c) R k) (e1 : ∀ k : Fin 256, D1 (ix2 r k) = inc 1 (A6 m c) R k) (e2 : ∀ k : Fin 256, D2 (ix2 r k) = inc 2 (A6 m c) R k) :
    k0_pay30 (k0_pay11 (iblk m c 3 t) (iblk m c 4 t) (iblk m c 5 t)) (k0_pay12 (iblk m c 3 t) (iblk m c 4 t) (iblk m c 5 t)) (k0_pay13 (iblk m c 3 t) (iblk m c 4 t) (iblk m c 5 t))
      (k0_pay16 D2) (k0_pay23 (k0_pay17 D0 (iblk m c 0 t)) k0_pay19 (k0_pay21 D0 (iblk m c 0 t)) (k0_pay22 D0 (iblk m c 0 t)))
      (k0_pay25 (k0_pay15 D1) (iblk m c 1 t)) k0_pay27 (k0_pay28 (k0_pay15 D1) (iblk m c 1 t)) (k0_pay29 (k0_pay15 D1) (iblk m c 1 t)) (iblk m c 2 t) (ix2 r l)
      = mean halves (A0 m c) (A1 m c) (A2 m c) (A3 m c) (A4 m c) (A5 m c) (A6 m c) R l :=
  (CombineBwdBlock.mean_at _ _ _ _ _ _ _ _ _).trans (five (wt0 m c t r l R hR)
    ((CombineBwdBlock.sums0 _ _ _).trans (congrFun (congrArg halves (funext fun k => congrArg₂ (fun a b : EReal => a * b) (e0 k) (blk0 m c t r k R hR))) l))
    (wt1 m c t r l R hR) (congrFun (congrArg halves (funext fun k => congrArg₂ (fun a b : EReal => a * b) (e1 k) (blk1 m c t r k R hR))) l)
    (wt2 m c t r l R hR) (congrFun (congrArg halves (funext fun k => congrArg₂ (fun a b : EReal => a * b) (e2 k) (blk2 m c t r k R hR))) l))

theorem final7 : (dats m 0 c).arrAt 7 (cfgs 0).N = outG (A3 m c) (A4 m c) (A5 m c) (A6 m c) := by
  refine (dats m 0 c).arrAt_eq_of_covers 7 _ (by decide +kernel) fun t hf y => ?_
  blk_simp
  have ht : t.val < 16 := t.isLt
  rw [after0_7]
  have e0 : (((win0_7.blk t).view.emb y) 0).val = t.val * 512 + (y 0).val := by blk_simp [idx t]
  have e1 : (((win0_7.blk t).view.emb y) 1).val = (y 1).val := by blk_simp [idx t]
  generalize (win0_7.blk t).view.emb y = i at e0 e1
  unfold outsAt0
  frame_out
  clear hf
  canon_tiles x h
  · obtain ⟨r, l, rfl⟩ : ∃ (r : Fin 512) (l : Fin 256), x = ix2 r l := ⟨x 0, x 1, by funext a; fin_cases a <;> rfl⟩
    have k0 : (y 0).val = r.val := h0
    have k1 : (y 1).val = 512 + l.val := h1
    have hR : (i 0).val = t.val * 512 + r.val := by omega
    have hl : (i 1).val = 512 + l.val := by omega
    refine Eq.trans ?_ (beside2 _ _ _ i ⟨t.val * 512 + r.val, by omega⟩ l hR hl).symm
    refine congrArg₂ (fun a b : EReal => a * b) (wt2 m c t r l _ rfl) ?_
    pointwise [k0_pay16]
    exact blk6 m c t r _ _ rfl _ (by dsimp only; omega)
  · obtain ⟨r, l, rfl⟩ : ∃ (r : Fin 512) (l : Fin 256), x = ix2 r l := ⟨x 0, x 1, by funext a; fin_cases a <;> rfl⟩
    have k0 : (y 0).val = r.val := h0
    have k1 : (y 1).val = 256 + l.val := h1
    have hR : (i 0).val = t.val * 512 + r.val := by omega
    have hl : (i 1).val = 256 + l.val := by omega
    refine Eq.trans ?_ (beside1 _ _ _ i ⟨t.val * 512 + r.val, by omega⟩ l hR hl).symm
    refine congrArg₂ (fun a b : EReal => a * b) (wt1 m c t r l _ rfl) ?_
    pointwise [k0_pay15]
    exact blk6 m c t r _ _ rfl _ (by dsimp only; omega)
  · obtain ⟨r, l, rfl⟩ : ∃ (r : Fin 512) (l : Fin 256), x = ix2 r l := ⟨x 0, x 1, by funext a; fin_cases a <;> rfl⟩
    have k0 : (y 0).val = r.val := h0
    have k1 : (y 1).val = l.val := h1
    have hR : (i 0).val = t.val * 512 + r.val := by omega
    have hl : (i 1).val = 0 + l.val := by omega
    refine Eq.trans ?_ (beside0 _ _ _ i ⟨t.val * 512 + r.val, by omega⟩ l hR hl).symm
    refine congrArg₂ (fun a b : EReal => a * b) (wt0 m c t r l _ rfl) ?_
    pointwise [k0_pay14]
    exact blk6 m c t r _ _ rfl _ (by dsimp only; omega)

theorem final8 : (dats m 0 c).arrAt 8 (cfgs 0).N = outS halves (A0 m c) (A1 m c) (A2 m c) (A3 m c) (A4 m c) (A5 m c) (A6 m c) := by
  refine (dats m 0 c).arrAt_eq_of_covers 8 _ (by decide +kernel) fun t hf y => ?_
  blk_simp
  have ht : t.val < 16 := t.isLt
  rw [after0_8]
  have e0 : (((win0_8.blk t).view.emb y) 0).val = t.val * 512 + (y 0).val := by blk_simp [idx t]
  have e1 : (((win0_8.blk t).view.emb y) 1).val = (y 1).val := by blk_simp [idx t]
  generalize (win0_8.blk t).view.emb y = i at e0 e1
  unfold outsAt0
  frame_out
  clear hf
  canon_tiles x h
  · obtain ⟨r, l, rfl⟩ : ∃ (r : Fin 512) (l : Fin 256), x = ix2 r l := ⟨x 0, x 1, by funext a; fin_cases a <;> rfl⟩
    have k0 : (y 0).val = r.val := h0
    have k1 : (y 1).val = 512 + l.val := h1
    have hR : (i 0).val = t.val * 512 + r.val := by omega
    have hl : (i 1).val = 512 + l.val := by omega
    refine Eq.trans ?_ (beside2 _ _ _ i ⟨t.val * 512 + r.val, by omega⟩ l hR hl).symm
    refine congrArg₂ (fun a b : EReal => a * b) (wt2 m c t r l _ rfl) (mean_pt m c t r l _ rfl _ _ _ (fun k => ?_) (fun k => ?_) (fun k => ?_)) <;>
      (pointwise; exact blk6 m c t r _ _ rfl _ (by dsimp only; omega))
  · obtain ⟨r, l, rfl⟩ : ∃ (r : Fin 512) (l : Fin 256), x = ix2 r l := ⟨x 0, x 1, by funext a; fin_cases a <;> rfl⟩
    have k0 : (y 0).val = r.val := h0
    have k1 : (y 1).val = 256 + l.val := h1
    have hR : (i 0).val = t.val * 512 + r.val := by omega
    have hl : (i 1).val = 256 + l.val := by omega
    refine Eq.trans ?_ (beside1 _ _ _ i ⟨t.val * 512 + r.val, by omega⟩ l hR hl).symm
    refine congrArg₂ (fun a b : EReal => a * b) (wt1 m c t r l _ rfl) (mean_pt m c t r l _ rfl _ _ _ (fun k => ?_) (fun k => ?_) (fun k => ?_)) <;>
      (pointwise; exact blk6 m c t r _ _ rfl _ (by dsimp only; omega))
  · obtain ⟨r, l, rfl⟩ : ∃ (r : Fin 512) (l : Fin 256), x = ix2 r l := ⟨x 0, x 1, by funext a; fin_cases a <;> rfl⟩
    have k0 : (y 0).val = r.val := h0
    have k1 : (y 1).val = l.val := h1
    have hR : (i 0).val = t.val * 512 + r.val := by omega
    have hl : (i 1).val = 0 + l.val := by omega
    refine Eq.trans ?_ (beside0 _ _ _ i ⟨t.val * 512 + r.val, by omega⟩ l hR hl).symm
    refine congrArg₂ (fun a b : EReal => a * b) (wt0 m c t r l _ rfl) (mean_pt m c t r l _ rfl _ _ _ (fun k => ?_) (fun k => ?_) (fun k => ?_)) <;>
      (pointwise; exact blk6 m c t r _ _ rfl _ (by dsimp only; omega))

/-- The kernel's run. -/
theorem run (ρ : Dev nD → PrngReg) : θ_run defs (onTc (τ := τ) (main (F := Ideal))) ⟨m, fun _ => 0, ρ⟩ fun r => ∀ c : Dev nD,
    r.2.mem ((c : Thread nD τ).loc main_v0_0) = outG (A3 m c) (A4 m c) (A5 m c) (A6 m c)
    ∧ r.2.mem ((c : Thread nD τ).loc main_v0_1) = outS halves (A0 m c) (A1 m c) (A2 m c) (A3 m c) (A4 m c) (A5 m c) (A6 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end kernel

section reference
open Cert.CombineBwdSpecIdeal Cert.CombineBwdSpecIdeal.Gen

section stages
variable {F : FTy → Type} [FloatOps F]

/-- Reference: a group's weights. -/
def refW (x l0 l1 l2 : Vec F S8192x256 .f32) : Vec F S8192x256 .f32 :=
  Host.divf (Host.exp (subf x (maximumf (maximumf l0 l1) l2)))
    (addf (addf (Host.exp (subf l0 (maximumf (maximumf l0 l1) l2))) (Host.exp (subf l1 (maximumf (maximumf l0 l1) l2)))) (Host.exp (subf l2 (maximumf (maximumf l0 l1) l2))))

/-- Reference: the incoming gradient of the groups. -/
def refD (d : Vec F S8192x1024 .bf16) : Vec F S8192x768 .f32 := extf .f32 (extractStridedSlice S8192x768 ![0, 0] d slices_S8192x1024_S8192x768_0_0) bitsLt_bf16_f32

def ref0 (d : Vec F S8192x1024 .bf16) : Vec F S8192x256 .f32 := extractStridedSlice S8192x256 ![0, 0] (refD d) slices_S8192x768_S8192x256_0_0
def ref1 (d : Vec F S8192x1024 .bf16) : Vec F S8192x256 .f32 := extractStridedSlice S8192x256 ![0, 256] (refD d) slices_S8192x768_S8192x256_0_256
def ref2 (d : Vec F S8192x1024 .bf16) : Vec F S8192x256 .f32 := extractStridedSlice S8192x256 ![0, 512] (refD d) slices_S8192x768_S8192x256_0_512

/-- Reference: each head's sum of products, at every column of the head. -/
def refH (o p : Vec F S8192x256 .f32) : Vec F S8192x256 .f32 :=
  shapeCast S8192x256 (broadcastInDim S8192x4x64 ![0, 1, 2] bcast_S8192x4x1_S8192x4x64_0_1_2 (broadcastInDim S8192x4x1 ![0, 1] bcast_S8192x4_S8192x4x1_0_1 (Host.reduceAdd (shapeCast S8192x4x64 (mulf o p) shapeCasts_S8192x256_S8192x4x64) (constant S_ .f32 0x00000000#32) reducesTo_S8192x4x64_S8192x4_d2 h_S_))) shapeCasts_S8192x4x64_S8192x256

/-- Reference: three arrays side by side. -/
def refB (a b c : Vec F S8192x256 .f32) : Vec F S8192x768 .f32 :=
  concatenate S8192x768 1 [⟨S8192x256, a⟩, ⟨S8192x256, b⟩, ⟨S8192x256, c⟩] concatenates_S8192x256_S8192x256_S8192x256_S8192x768_d1

/-- Reference: the mean of the heads' sums by the weights. -/
def refM (o0 o1 o2 l0 l1 l2 : Vec F S8192x256 .f32) (d : Vec F S8192x1024 .bf16) : Vec F S8192x256 .f32 :=
  addf (addf (mulf (refW l0 l0 l1 l2) (refH o0 (ref0 d))) (mulf (refW l1 l0 l1 l2) (refH o1 (ref1 d)))) (mulf (refW l2 l0 l1 l2) (refH o2 (ref2 d)))

def refG (l0 l1 l2 : Vec F S8192x256 .f32) (d : Vec F S8192x1024 .bf16) : Vec F S8192x768 .f32 :=
  refB (mulf (ref0 d) (refW l0 l0 l1 l2)) (mulf (ref1 d) (refW l1 l0 l1 l2)) (mulf (ref2 d) (refW l2 l0 l1 l2))

def refS (o0 o1 o2 l0 l1 l2 : Vec F S8192x256 .f32) (d : Vec F S8192x1024 .bf16) : Vec F S8192x768 .f32 :=
  refB (mulf (refW l0 l0 l1 l2) (refM o0 o1 o2 l0 l1 l2 d)) (mulf (refW l1 l0 l1 l2) (refM o0 o1 o2 l0 l1 l2 d)) (mulf (refW l2 l0 l1 l2) (refM o0 o1 o2 l0 l1 l2 d))

end stages

theorem refB_at (a b c : Vec Ideal S8192x256 .f32) : refB (F := Ideal) a b c = beside (fun R l => a (ix2 R l)) (fun R l => b (ix2 R l)) (fun R l => c (ix2 R l)) := by
  funext i
  unfold refB beside
  by_cases g0 : (i 1).val < 256
  · rw [if_pos g0]
    pointwise
    rw [dif_pos g0]
    simp only [Nat.mod_eq_of_lt g0]
  · by_cases g1 : (i 1).val < 512
    · rw [if_neg g0, if_pos g1]
      pointwise
      rw [dif_neg g0, dif_pos (by omega)]
      simp only [show (i 1).val - 256 = (i 1).val % 256 by omega]
    · have hi : (i 1).val < 768 := (i 1).isLt
      rw [if_neg g0, if_neg g1]
      pointwise
      rw [dif_neg g0, dif_neg (by omega)]
      simp only [show (i 1).val - 256 - 256 = (i 1).val % 256 by omega]

section real
variable (X0 X1 X2 X3 X4 X5 : Vec Ideal S8192x256 .f32) (X6 : Vec Ideal S8192x1024 .bf16)
  (r0 : ∀ i, ∃ x : ℝ, X0 i = x) (r1 : ∀ i, ∃ x : ℝ, X1 i = x) (r2 : ∀ i, ∃ x : ℝ, X2 i = x)
  (r3 : ∀ i, ∃ x : ℝ, X3 i = x) (r4 : ∀ i, ∃ x : ℝ, X4 i = x) (r5 : ∀ i, ∃ x : ℝ, X5 i = x)
  (r6 : ∀ (g : Fin 3) (R : Fin 8192) (l : Fin 256), ∃ x : ℝ, inc g X6 R l = x)

include r3 r4 r5 in
theorem refW_at (X : Vec Ideal S8192x256 .f32) (R : Fin 8192) (l : Fin 256) : refW (F := Ideal) X X3 X4 X5 (ix2 R l) = wgt X X3 X4 X5 R l := by
  refine Eq.trans ?_ (quotient (X (ix2 R l)) (r3 (ix2 R l)) (r4 (ix2 R l)) (r5 (ix2 R l)))
  pointwise [refW, total, greatest]

theorem ref0_at (R : Fin 8192) (l : Fin 256) : ref0 (F := Ideal) X6 (ix2 R l) = inc 0 X6 R l := by
  pointwise [ref0, refD, inc]

theorem ref1_at (R : Fin 8192) (l : Fin 256) : ref1 (F := Ideal) X6 (ix2 R l) = inc 1 X6 R l := by
  pointwise [ref1, refD, inc]

theorem ref2_at (R : Fin 8192) (l : Fin 256) : ref2 (F := Ideal) X6 (ix2 R l) = inc 2 X6 R l := by
  pointwise [ref2, refD, inc]

theorem refH_at (o p : Vec Ideal S8192x256 .f32) (R : Fin 8192) (l : Fin 256) :
    refH (F := Ideal) o p (ix2 R l) = headSum (fun k => (fun a b : EReal => a * b) (o (ix2 R k)) (p (ix2 R k))) l := by
  pointwise [refH, headSum]

theorem heads (g : Fin 3) (o p : Vec Ideal S8192x256 .f32) (hp : ∀ R l, p (ix2 R l) = inc g X6 R l) (R : Fin 8192) (l : Fin 256) :
    refH (F := Ideal) o p (ix2 R l) = headSum (prods g o X6 R) l := by
  refine (refH_at o p R l).trans (congrFun (congrArg headSum (funext fun k => ?_)) l)
  rw [hp]
  exact mul_comm _ _

include r3 r4 r5 in
theorem ref_grad : refG (F := Ideal) X3 X4 X5 X6 = outG X3 X4 X5 X6 := by
  unfold refG outG
  rw [refB_at]
  congr 1 <;> funext R l
  · exact (congrArg₂ (fun a b : EReal => a * b) (ref0_at X6 R l) (refW_at X3 X4 X5 r3 r4 r5 X3 R l)).trans (mul_comm _ _)
  · exact (congrArg₂ (fun a b : EReal => a * b) (ref1_at X6 R l) (refW_at X3 X4 X5 r3 r4 r5 X4 R l)).trans (mul_comm _ _)
  · exact (congrArg₂ (fun a b : EReal => a * b) (ref2_at X6 R l) (refW_at X3 X4 X5 r3 r4 r5 X5 R l)).trans (mul_comm _ _)

include r0 r1 r2 r6 in
theorem mean_real (R : Fin 8192) (l : Fin 256) : mean headSum X0 X1 X2 X3 X4 X5 X6 R l = mean halves X0 X1 X2 X3 X4 X5 X6 R l := by
  have hp : ∀ (g : Fin 3) (o : Vec Ideal S8192x256 .f32) (ho : ∀ i, ∃ x : ℝ, o i = x), halves (prods g o X6 R) l = headSum (prods g o X6 R) l :=
    fun g o ho => halves_real _ (fun k => by
      obtain ⟨a, ha⟩ := r6 g R k
      obtain ⟨b, hb⟩ := ho (ix2 R k)
      exact ⟨a * b, by rw [prods, ha, hb, EReal.coe_mul]⟩) l
  unfold mean
  rw [hp 0 X0 r0, hp 1 X1 r1, hp 2 X2 r2]

include r0 r1 r2 r3 r4 r5 r6 in
theorem refM_at (R : Fin 8192) (l : Fin 256) : refM (F := Ideal) X0 X1 X2 X3 X4 X5 X6 (ix2 R l) = mean halves X0 X1 X2 X3 X4 X5 X6 R l := by
  refine Eq.trans ?_ (mean_real X0 X1 X2 X3 X4 X5 X6 r0 r1 r2 r6 R l)
  exact five (refW_at X3 X4 X5 r3 r4 r5 X3 R l) (heads X6 0 X0 _ (ref0_at X6) R l) (refW_at X3 X4 X5 r3 r4 r5 X4 R l)
    (heads X6 1 X1 _ (ref1_at X6) R l) (refW_at X3 X4 X5 r3 r4 r5 X5 R l) (heads X6 2 X2 _ (ref2_at X6) R l)

include r0 r1 r2 r3 r4 r5 r6 in
theorem ref_shift : refS (F := Ideal) X0 X1 X2 X3 X4 X5 X6 = outS halves X0 X1 X2 X3 X4 X5 X6 := by
  unfold refS outS
  rw [refB_at]
  congr 1 <;> funext R l
  · exact congrArg₂ (fun a b : EReal => a * b) (refW_at X3 X4 X5 r3 r4 r5 X3 R l) (refM_at X0 X1 X2 X3 X4 X5 X6 r0 r1 r2 r3 r4 r5 r6 R l)
  · exact congrArg₂ (fun a b : EReal => a * b) (refW_at X3 X4 X5 r3 r4 r5 X4 R l) (refM_at X0 X1 X2 X3 X4 X5 X6 r0 r1 r2 r3 r4 r5 r6 R l)
  · exact congrArg₂ (fun a b : EReal => a * b) (refW_at X3 X4 X5 r3 r4 r5 X5 R l) (refM_at X0 X1 X2 X3 X4 X5 X6 r0 r1 r2 r3 r4 r5 r6 R l)

end real

theorem shift_stage (m : (ℓ : Loc nD τ sig) → Buf (Elt Ideal) ℓ) (c : Dev nD) : Value.res_main_v59 m c = refS (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v59
  generalize m ((c.tc : Thread nD τ).loc main_arg0) = X0
  generalize m ((c.tc : Thread nD τ).loc main_arg1) = X1
  generalize m ((c.tc : Thread nD τ).loc main_arg2) = X2
  generalize m ((c.tc : Thread nD τ).loc main_arg3) = X3
  generalize m ((c.tc : Thread nD τ).loc main_arg4) = X4
  generalize m ((c.tc : Thread nD τ).loc main_arg5) = X5
  generalize m ((c.tc : Thread nD τ).loc main_arg6) = X6
  rfl

/-- The reference runs, leaves its arguments unchanged and has no semaphore. -/
theorem frame_ref (m : (ℓ : Loc nD τ sig) → Buf (Elt Ideal) ℓ) (g : Dev nD → PrngReg) :
    θ_run (defs (F := Ideal)) (onTc (τ := τ) (main (F := Ideal))) ⟨m, fun _ => 0, g⟩
      fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0 :=
  (θ_run defs _ _).mono (fun r h => ⟨fun c => (h c).2.2, sem_eq_zero_of_no_sems (by decide) r.2⟩)
    (Value.run m g)

end reference

section precondition
open Cert.Pre_real_groups Cert.Pre_real_groups.Gen

/-- The precondition makes every logarithm, every result of a group and every incoming gradient a real. -/
theorem reals (a0 a1 a2 a3 a4 a5 : Vec Ideal S8192x256 .f32) (a6 : Vec Ideal S8192x1024 .bf16) (e : Cert.Pre_real_groups.fn (F := Ideal) a0 a1 a2 a3 a4 a5 a6 = fun _ => 1#1) :
    ((∀ i, ∃ x : ℝ, a0 i = x) ∧ (∀ i, ∃ x : ℝ, a1 i = x) ∧ ∀ i, ∃ x : ℝ, a2 i = x) ∧ ((∀ i, ∃ x : ℝ, a3 i = x) ∧ (∀ i, ∃ x : ℝ, a4 i = x) ∧ ∀ i, ∃ x : ℝ, a5 i = x)
      ∧ ∀ (g : Fin 3) (R : Fin 8192) (l : Fin 256), ∃ x : ℝ, inc g a6 R l = x := by
  have w0 := congrFun e (fun a => a.elim0)
  simp only [Cert.Pre_real_groups.fn] at w0
  obtain ⟨w1, h6⟩ := MemPre.and_one w0
  obtain ⟨w2, h2⟩ := MemPre.and_one w1
  obtain ⟨w3, h1⟩ := MemPre.and_one w2
  obtain ⟨w4, h0⟩ := MemPre.and_one w3
  obtain ⟨w5, h5⟩ := MemPre.and_one w4
  obtain ⟨h3, h4⟩ := MemPre.and_one w5
  have one : ∀ {x : EReal}, BitVec.ofBool (decide (max x (-x) < Ideal.ofBits .f32 0x7F800000#32)) = 1#1 → ∃ r : ℝ, x = r :=
    fun h => MemPre.real_of_abs _ (MemPre.below h)
  refine ⟨⟨fun i => ?_, fun i => ?_, fun i => ?_⟩, ⟨fun i => ?_, fun i => ?_, fun i => ?_⟩, fun g R l => ?_⟩
  · have h := Host.reduce_andi_all _ _ _ _ _ h0 i
    pointwise at h
    exact one h
  · have h := Host.reduce_andi_all _ _ _ _ _ h1 i
    pointwise at h
    exact one h
  · have h := Host.reduce_andi_all _ _ _ _ _ h2 i
    pointwise at h
    exact one h
  · have h := Host.reduce_andi_all _ _ _ _ _ h3 i
    pointwise at h
    exact one h
  · have h := Host.reduce_andi_all _ _ _ _ _ h4 i
    pointwise at h
    exact one h
  · have h := Host.reduce_andi_all _ _ _ _ _ h5 i
    pointwise at h
    exact one h
  · have h := Host.reduce_andi_all _ _ _ _ _ h6 (ix2 R ⟨g.val * 256 + l.val, by omega⟩)
    pointwise at h
    exact one h

end precondition

/-- Over the extended reals the kernel's results are the reference's, for real logarithms, results and incoming gradients. -/
theorem algebraic : Cert.algebraic_CombineBwdIdeal_CombineBwdSpecIdeal_pre_real_groups := by
  pair_intro
  · run_from run m g
  · run_from CombineBwdSpecIdeal.Value.run m' g'
    · obtain ⟨-, ⟨s3, s4, s5⟩, -⟩ := reals _ _ _ _ _ _ _ (hpre c)
      obtain ⟨g0, g1, g2, g3, g4, g5, g6⟩ := hagree c
      rw [g3, g4, g5, g6]
      exact ref_grad _ _ _ _ s3 s4 s5
    · refine (shift_stage m' c).trans ?_
      obtain ⟨⟨s0, s1, s2⟩, ⟨s3, s4, s5⟩, s6⟩ := reals _ _ _ _ _ _ _ (hpre c)
      obtain ⟨g0, g1, g2, g3, g4, g5, g6⟩ := hagree c
      rw [g0, g1, g2, g3, g4, g5, g6]
      exact ref_shift _ _ _ _ _ _ _ s0 s1 s2 s3 s4 s5 s6

end Cert.CombineBwdProof

end
-- ==== Proof.MemClaims.lean ====
/- The claims about the memory attention's gradient: the reference's frame, and the equation of the two programs. -/
module

public import proofs.«01_k».proof.Proof.MemSpec
public import proofs.«01_k».proof.Proof.MemPre
public import proofs.«01_k».proof.Proof.Gen.MemBwdIdeal.Value
public import Idealize.ShloMosaic.Lib.Claim

@[expose] public section

set_option maxRecDepth 16384

noncomputable section

namespace Cert.MemClaims

open Idealize.ShloMosaic Idealize.ShloMosaic.TcCoe Idealize.SL.Sem

/-- The reference runs, leaves its arguments unchanged and has no semaphore. -/
theorem frame_ref (m : (ℓ : Loc MemSpecIdeal.nD MemSpecIdeal.τ MemSpecIdeal.sig) → Buf (Elt Ideal) ℓ)
    (g : Dev MemSpecIdeal.nD → PrngReg) :
    θ_run (MemSpecIdeal.defs (F := Ideal)) (onTc (τ := MemSpecIdeal.τ) (MemSpecIdeal.main (F := Ideal))) ⟨m, fun _ => 0, g⟩
      fun r => (∀ c : Dev MemSpecIdeal.nD,
        r.2.mem ((c.tc : Thread MemSpecIdeal.nD MemSpecIdeal.τ).loc MemSpecIdeal.main_arg0) = m ((c.tc : Thread MemSpecIdeal.nD MemSpecIdeal.τ).loc MemSpecIdeal.main_arg0)
        ∧ r.2.mem ((c.tc : Thread MemSpecIdeal.nD MemSpecIdeal.τ).loc MemSpecIdeal.main_arg1) = m ((c.tc : Thread MemSpecIdeal.nD MemSpecIdeal.τ).loc MemSpecIdeal.main_arg1)
        ∧ r.2.mem ((c.tc : Thread MemSpecIdeal.nD MemSpecIdeal.τ).loc MemSpecIdeal.main_arg2) = m ((c.tc : Thread MemSpecIdeal.nD MemSpecIdeal.τ).loc MemSpecIdeal.main_arg2))
        ∧ r.2.sem = fun _ => 0 :=
  (θ_run MemSpecIdeal.defs _ _).mono (fun r h => ⟨fun c => (h c).2.2.2, sem_eq_zero_of_no_sems (by decide) r.2⟩)
    (MemSpecIdeal.Value.run m g)

/-- Over the extended reals the kernel's three gradients are the reference's, for real queries and keys. -/
theorem algebraic : Cert.algebraic_MemBwdIdeal_MemSpecIdeal_pre_real_scores := by
  pair_intro
  · run_from Cert.MemBwdIdeal.Value.run_blocks m g
  · run_from Cert.MemSpecIdeal.Value.run m' g'
    · exact (MemSpecIdeal.Stages.out0_eq m' c).trans (by
        rw [(hagree c).1, (hagree c).2.1, (hagree c).2.2,
          MemSpecIdeal.Stages.dqOut_eq _ _ _ (MemPre.scores _ _ _ (hpre c))]
        exact (MemArray.final4 m c).symm)
    · exact (MemSpecIdeal.Stages.out1_eq m' c).trans (by
        rw [(hagree c).1, (hagree c).2.1, (hagree c).2.2,
          MemSpecIdeal.Stages.dkOut_eq _ _ _ (MemPre.scores _ _ _ (hpre c))]
        exact (MemArray.final5 m c).symm)
    · exact (MemSpecIdeal.Stages.out2_eq m' c).trans (by
        rw [(hagree c).1, (hagree c).2.1, (hagree c).2.2,
          MemSpecIdeal.Stages.dvOut_eq _ _ _ (MemPre.scores _ _ _ (hpre c))]
        exact (MemArray.final6 m c).symm)

end Cert.MemClaims

end
-- ==== Proof.lean ====
module

public import proofs.«01_k».proof.Proof.Gen.MemBwdIdeal.Value
public import proofs.«01_k».proof.Proof.Gen.MemSpecIdeal.Run
public import proofs.«01_k».proof.Proof.Gen.MemBwdAIdeal.Frame
public import proofs.«01_k».proof.Proof.Gen.MemBwdASpecIdeal.Run
public import proofs.«01_k».proof.Proof.Gen.MemBwdA.Frame
public import proofs.«01_k».proof.Proof.Gen.FfnUpIdeal.Frame
public import proofs.«01_k».proof.Proof.Gen.FfnUpSpecIdeal.Run
public import proofs.«01_k».proof.Proof.Gen.DownFwdIdeal.Frame
public import proofs.«01_k».proof.Proof.Gen.DownFwdSpecIdeal.Run
public import proofs.«01_k».proof.Proof.Gen.AInIdeal.Frame
public import proofs.«01_k».proof.Proof.Gen.AInSpecIdeal.Run
public import proofs.«01_k».proof.Proof.Gen.MemKvIdeal.Frame
public import proofs.«01_k».proof.Proof.Gen.MemKvSpecIdeal.Run
public import proofs.«01_k».proof.Proof.Gen.OutFwdIdeal.Frame
public import proofs.«01_k».proof.Proof.Gen.OutFwdSpecIdeal.Run
public import proofs.«01_k».proof.Proof.Gen.KvFwdIdeal.Frame
public import proofs.«01_k».proof.Proof.Gen.KvFwdSpecIdeal.Run
public import proofs.«01_k».proof.Proof.Gen.BInIdeal.Frame
public import proofs.«01_k».proof.Proof.Gen.BInSpecIdeal.Run
public import proofs.«01_k».proof.Proof.Gen.DownDxIdeal.Frame
public import proofs.«01_k».proof.Proof.Gen.DownDxSpecIdeal.Run
public import proofs.«01_k».proof.Proof.Gen.DownDwIdeal.Frame
public import proofs.«01_k».proof.Proof.Gen.DownDwSpecIdeal.Run
public import proofs.«01_k».proof.Proof.Gen.UpDxIdeal.Frame
public import proofs.«01_k».proof.Proof.Gen.UpDxSpecIdeal.Run
public import proofs.«01_k».proof.Proof.Gen.UpDwIdeal.Frame
public import proofs.«01_k».proof.Proof.Gen.UpDwSpecIdeal.Run
public import proofs.«01_k».proof.Proof.Gen.OutDxIdeal.Frame
public import proofs.«01_k».proof.Proof.Gen.OutDxSpecIdeal.Run
public import proofs.«01_k».proof.Proof.Gen.OutDwIdeal.Frame
public import proofs.«01_k».proof.Proof.Gen.OutDwSpecIdeal.Run
public import proofs.«01_k».proof.Proof.Gen.BInDxIdeal.Frame
public import proofs.«01_k».proof.Proof.Gen.BInDxSpecIdeal.Run
public import proofs.«01_k».proof.Proof.Gen.KvDxIdeal.Frame
public import proofs.«01_k».proof.Proof.Gen.KvDxSpecIdeal.Run
public import proofs.«01_k».proof.Proof.Gen.KvDwIdeal.Frame
public import proofs.«01_k».proof.Proof.Gen.KvDwSpecIdeal.Run
public import proofs.«01_k».proof.Proof.Gen.MemKvDxIdeal.Frame
public import proofs.«01_k».proof.Proof.Gen.MemKvDxSpecIdeal.Run
public import proofs.«01_k».proof.Proof.Gen.MemKvDwIdeal.Frame
public import proofs.«01_k».proof.Proof.Gen.MemKvDwSpecIdeal.Run
public import proofs.«01_k».proof.Proof.Gen.AInDwIdeal.Frame
public import proofs.«01_k».proof.Proof.Gen.AInDwSpecIdeal.Run
public import proofs.«01_k».proof.Proof.Gen.AInDxIdeal.Frame
public import proofs.«01_k».proof.Proof.Gen.AInDxSpecIdeal.Run
public import proofs.«01_k».proof.Proof.Gen.AdamAInIdeal.Frame
public import proofs.«01_k».proof.Proof.Gen.AdamAInSpecIdeal.Run
public import proofs.«01_k».proof.Proof.Gen.AdamOutIdeal.Frame
public import proofs.«01_k».proof.Proof.Gen.AdamOutSpecIdeal.Run
public import proofs.«01_k».proof.Proof.Gen.AdamMemKvIdeal.Frame
public import proofs.«01_k».proof.Proof.Gen.AdamMemKvSpecIdeal.Run
public import proofs.«01_k».proof.Proof.Gen.AdamUpIdeal.Frame
public import proofs.«01_k».proof.Proof.Gen.AdamUpSpecIdeal.Run
public import proofs.«01_k».proof.Proof.Gen.AdamDownIdeal.Frame
public import proofs.«01_k».proof.Proof.Gen.AdamDownSpecIdeal.Run
public import proofs.«01_k».proof.Proof.Gen.AdamKvIdeal.Frame
public import proofs.«01_k».proof.Proof.Gen.AdamKvSpecIdeal.Run
public import proofs.«01_k».proof.Proof.Gen.AdamNormShardIdeal.Frame
public import proofs.«01_k».proof.Proof.Gen.AdamNormShardSpecIdeal.Run
public import proofs.«01_k».proof.Proof.Gen.AdamConvIdeal.Frame
public import proofs.«01_k».proof.Proof.Gen.AdamConvSpecIdeal.Run
public import proofs.«01_k».proof.Proof.Gen.AdamNormIdeal.Frame
public import proofs.«01_k».proof.Proof.Gen.AdamNormSpecIdeal.Run
public import proofs.«01_k».proof.Proof.Gen.NormBwdIdeal.Frame
public import proofs.«01_k».proof.Proof.Gen.NormBwdSpecIdeal.Run
public import proofs.«01_k».proof.Proof.Gen.MemNormBwdIdeal.Frame
public import proofs.«01_k».proof.Proof.Gen.MemNormBwdSpecIdeal.Run
public import proofs.«01_k».proof.Proof.Gen.PairNormBwdIdeal.Frame
public import proofs.«01_k».proof.Proof.Gen.PairNormBwdSpecIdeal.Run
public import proofs.«01_k».proof.Proof.Gen.LossHeadIdeal.Frame
public import proofs.«01_k».proof.Proof.Gen.LossHeadSpecIdeal.Run
public import proofs.«01_k».proof.Proof.Gen.NormFwdIdeal.Frame
public import proofs.«01_k».proof.Proof.Gen.NormFwdSpecIdeal.Run
public import proofs.«01_k».proof.Proof.Gen.MemNormFwdIdeal.Frame
public import proofs.«01_k».proof.Proof.Gen.MemNormFwdSpecIdeal.Run
public import proofs.«01_k».proof.Proof.Gen.PairNormFwdIdeal.Frame
public import proofs.«01_k».proof.Proof.Gen.PairNormFwdSpecIdeal.Run
public import proofs.«01_k».proof.Proof.Gen.MemFwdIdeal.Frame
public import proofs.«01_k».proof.Proof.Gen.MemFwdSpecIdeal.Run
public import proofs.«01_k».proof.Proof.Gen.MemFwdAIdeal.Frame
public import proofs.«01_k».proof.Proof.Gen.MemFwdASpecIdeal.Run
public import proofs.«01_k».proof.Proof.Gen.CombineFwdIdeal.Frame
public import proofs.«01_k».proof.Proof.Gen.CombineFwdSpecIdeal.Run
public import proofs.«01_k».proof.Proof.Gen.CombineBwdIdeal.Frame
public import proofs.«01_k».proof.Proof.Gen.CombineBwdSpecIdeal.Run
public import proofs.«01_k».proof.Proof.Gen.FfnUp.Frame
public import proofs.«01_k».proof.Proof.Prod.FfnUp
public import proofs.«01_k».proof.Proof.Gen.DownFwd.Frame
public import proofs.«01_k».proof.Proof.Prod.DownFwd
public import proofs.«01_k».proof.Proof.Gen.AIn.Frame
public import proofs.«01_k».proof.Proof.Prod.AIn
public import proofs.«01_k».proof.Proof.Gen.MemKv.Frame
public import proofs.«01_k».proof.Proof.Prod.MemKv
public import proofs.«01_k».proof.Proof.Gen.OutFwd.Frame
public import proofs.«01_k».proof.Proof.Prod.OutFwd
public import proofs.«01_k».proof.Proof.Gen.KvFwd.Frame
public import proofs.«01_k».proof.Proof.Prod.KvFwd
public import proofs.«01_k».proof.Proof.Gen.BIn.Frame
public import proofs.«01_k».proof.Proof.Prod.BIn
public import proofs.«01_k».proof.Proof.Gen.DownDx.Frame
public import proofs.«01_k».proof.Proof.Prod.DownDx
public import proofs.«01_k».proof.Proof.Gen.DownDw.Frame
public import proofs.«01_k».proof.Proof.Prod.DownDw
public import proofs.«01_k».proof.Proof.Gen.UpDx.Frame
public import proofs.«01_k».proof.Proof.Prod.UpDx
public import proofs.«01_k».proof.Proof.Gen.UpDw.Frame
public import proofs.«01_k».proof.Proof.Prod.UpDw
public import proofs.«01_k».proof.Proof.Gen.OutDx.Frame
public import proofs.«01_k».proof.Proof.Prod.OutDx
public import proofs.«01_k».proof.Proof.Gen.OutDw.Frame
public import proofs.«01_k».proof.Proof.Prod.OutDw
public import proofs.«01_k».proof.Proof.Gen.BInDx.Frame
public import proofs.«01_k».proof.Proof.Prod.BInDx
public import proofs.«01_k».proof.Proof.Gen.KvDx.Frame
public import proofs.«01_k».proof.Proof.Prod.KvDx
public import proofs.«01_k».proof.Proof.Gen.KvDw.Frame
public import proofs.«01_k».proof.Proof.Prod.KvDw
public import proofs.«01_k».proof.Proof.Gen.MemKvDx.Frame
public import proofs.«01_k».proof.Proof.Prod.MemKvDx
public import proofs.«01_k».proof.Proof.Gen.MemKvDw.Frame
public import proofs.«01_k».proof.Proof.Prod.MemKvDw
public import proofs.«01_k».proof.Proof.Gen.AInDw.Frame
public import proofs.«01_k».proof.Proof.Prod.AInDw
public import proofs.«01_k».proof.Proof.Gen.AInDx.Frame
public import proofs.«01_k».proof.Proof.Prod.AInDx
public import proofs.«01_k».proof.Proof.Gen.AdamAIn.Frame
public import proofs.«01_k».proof.Proof.Adam.AdamAIn
public import proofs.«01_k».proof.Proof.Gen.AdamOut.Frame
public import proofs.«01_k».proof.Proof.Adam.AdamOut
public import proofs.«01_k».proof.Proof.Gen.AdamMemKv.Frame
public import proofs.«01_k».proof.Proof.Adam.AdamMemKv
public import proofs.«01_k».proof.Proof.Gen.AdamUp.Frame
public import proofs.«01_k».proof.Proof.Adam.AdamUp
public import proofs.«01_k».proof.Proof.Gen.AdamDown.Frame
public import proofs.«01_k».proof.Proof.Adam.AdamDown
public import proofs.«01_k».proof.Proof.Gen.AdamKv.Frame
public import proofs.«01_k».proof.Proof.Adam.AdamKv
public import proofs.«01_k».proof.Proof.Gen.AdamNormShard.Frame
public import proofs.«01_k».proof.Proof.Adam.AdamNormShard
public import proofs.«01_k».proof.Proof.Gen.AdamConv.Frame
public import proofs.«01_k».proof.Proof.Adam.AdamConv
public import proofs.«01_k».proof.Proof.Gen.AdamNorm.Frame
public import proofs.«01_k».proof.Proof.Adam.AdamNorm
public import proofs.«01_k».proof.Proof.Gen.NormBwd.Frame
public import proofs.«01_k».proof.Proof.Rest.NormBwd
public import proofs.«01_k».proof.Proof.Gen.MemNormBwd.Frame
public import proofs.«01_k».proof.Proof.Rest.MemNormBwd
public import proofs.«01_k».proof.Proof.Gen.PairNormBwd.Frame
public import proofs.«01_k».proof.Proof.Rest.PairNormBwd
public import proofs.«01_k».proof.Proof.Gen.LossHead.Frame
public import proofs.«01_k».proof.Proof.Rest.LossHead
public import proofs.«01_k».proof.Proof.Gen.NormFwd.Frame
public import proofs.«01_k».proof.Proof.Rest.NormFwd
public import proofs.«01_k».proof.Proof.Gen.MemNormFwd.Frame
public import proofs.«01_k».proof.Proof.Rest.MemNormFwd
public import proofs.«01_k».proof.Proof.Gen.PairNormFwd.Frame
public import proofs.«01_k».proof.Proof.Rest.PairNormFwd
public import proofs.«01_k».proof.Proof.Gen.MemFwd.Frame
public import proofs.«01_k».proof.Proof.Rest.MemFwd
public import proofs.«01_k».proof.Proof.Gen.MemFwdA.Frame
public import proofs.«01_k».proof.Proof.Rest.MemFwdA
public import proofs.«01_k».proof.Proof.Rest.MemBwdA
public import proofs.«01_k».proof.Proof.Gen.CombineFwd.Frame
public import proofs.«01_k».proof.Proof.Rest.CombineFwd
public import proofs.«01_k».proof.Proof.Gen.CombineBwd.Frame
public import proofs.«01_k».proof.Proof.Rest.CombineBwd
public import proofs.«01_k».proof.Defs
public import proofs.«01_k».proof.Proof.Gen.MemBwd
public import proofs.«01_k».proof.Proof.Gen.MemBwd.Skeleton
public import proofs.«01_k».proof.Proof.Gen.MemBwd.Launch
public import proofs.«01_k».proof.Proof.Gen.MemBwd.Points
public import proofs.«01_k».proof.Proof.Gen.MemBwd.Frame
public import proofs.«01_k».proof.Proof.Gen.MemBwdIdeal
public import proofs.«01_k».proof.Proof.Gen.MemBwdIdeal.Skeleton
public import proofs.«01_k».proof.Proof.Gen.MemBwdIdeal.Launch
public import proofs.«01_k».proof.Proof.Gen.MemBwdIdeal.Points
public import proofs.«01_k».proof.Proof.Gen.MemBwdIdeal.Frame
public import proofs.«01_k».proof.Proof.Gen.MemSpecIdeal
public import proofs.«01_k».proof.Proof.Gen.Pre_real_scores
public import proofs.«01_k».proof.Proof.MemClaims
public import Idealize.ShloMosaic.Adequacy
public import Idealize.ShloMosaic.Init

@[expose] public section

noncomputable section

namespace Cert.Proof

open Idealize.ShloMosaic Idealize.SL.Sem

theorem claim : Cert.Claim :=
  ⟨Cert.MemBwd.Gen.facts,
    Cert.MemBwdIdeal.Gen.facts,
    Cert.MemSpecIdeal.Gen.facts,
    Cert.FfnUp.Gen.facts,
    Cert.FfnUpIdeal.Gen.facts,
    Cert.FfnUpSpecIdeal.Gen.facts,
    Cert.DownFwd.Gen.facts,
    Cert.DownFwdIdeal.Gen.facts,
    Cert.DownFwdSpecIdeal.Gen.facts,
    Cert.AIn.Gen.facts,
    Cert.AInIdeal.Gen.facts,
    Cert.AInSpecIdeal.Gen.facts,
    Cert.MemKv.Gen.facts,
    Cert.MemKvIdeal.Gen.facts,
    Cert.MemKvSpecIdeal.Gen.facts,
    Cert.OutFwd.Gen.facts,
    Cert.OutFwdIdeal.Gen.facts,
    Cert.OutFwdSpecIdeal.Gen.facts,
    Cert.KvFwd.Gen.facts,
    Cert.KvFwdIdeal.Gen.facts,
    Cert.KvFwdSpecIdeal.Gen.facts,
    Cert.BIn.Gen.facts,
    Cert.BInIdeal.Gen.facts,
    Cert.BInSpecIdeal.Gen.facts,
    Cert.DownDx.Gen.facts,
    Cert.DownDxIdeal.Gen.facts,
    Cert.DownDxSpecIdeal.Gen.facts,
    Cert.DownDw.Gen.facts,
    Cert.DownDwIdeal.Gen.facts,
    Cert.DownDwSpecIdeal.Gen.facts,
    Cert.UpDx.Gen.facts,
    Cert.UpDxIdeal.Gen.facts,
    Cert.UpDxSpecIdeal.Gen.facts,
    Cert.UpDw.Gen.facts,
    Cert.UpDwIdeal.Gen.facts,
    Cert.UpDwSpecIdeal.Gen.facts,
    Cert.OutDx.Gen.facts,
    Cert.OutDxIdeal.Gen.facts,
    Cert.OutDxSpecIdeal.Gen.facts,
    Cert.OutDw.Gen.facts,
    Cert.OutDwIdeal.Gen.facts,
    Cert.OutDwSpecIdeal.Gen.facts,
    Cert.BInDx.Gen.facts,
    Cert.BInDxIdeal.Gen.facts,
    Cert.BInDxSpecIdeal.Gen.facts,
    Cert.KvDx.Gen.facts,
    Cert.KvDxIdeal.Gen.facts,
    Cert.KvDxSpecIdeal.Gen.facts,
    Cert.KvDw.Gen.facts,
    Cert.KvDwIdeal.Gen.facts,
    Cert.KvDwSpecIdeal.Gen.facts,
    Cert.MemKvDx.Gen.facts,
    Cert.MemKvDxIdeal.Gen.facts,
    Cert.MemKvDxSpecIdeal.Gen.facts,
    Cert.MemKvDw.Gen.facts,
    Cert.MemKvDwIdeal.Gen.facts,
    Cert.MemKvDwSpecIdeal.Gen.facts,
    Cert.AInDw.Gen.facts,
    Cert.AInDwIdeal.Gen.facts,
    Cert.AInDwSpecIdeal.Gen.facts,
    Cert.AInDx.Gen.facts,
    Cert.AInDxIdeal.Gen.facts,
    Cert.AInDxSpecIdeal.Gen.facts,
    Cert.AdamAIn.Gen.facts,
    Cert.AdamAInIdeal.Gen.facts,
    Cert.AdamAInSpecIdeal.Gen.facts,
    Cert.AdamOut.Gen.facts,
    Cert.AdamOutIdeal.Gen.facts,
    Cert.AdamOutSpecIdeal.Gen.facts,
    Cert.AdamMemKv.Gen.facts,
    Cert.AdamMemKvIdeal.Gen.facts,
    Cert.AdamMemKvSpecIdeal.Gen.facts,
    Cert.AdamUp.Gen.facts,
    Cert.AdamUpIdeal.Gen.facts,
    Cert.AdamUpSpecIdeal.Gen.facts,
    Cert.AdamDown.Gen.facts,
    Cert.AdamDownIdeal.Gen.facts,
    Cert.AdamDownSpecIdeal.Gen.facts,
    Cert.AdamKv.Gen.facts,
    Cert.AdamKvIdeal.Gen.facts,
    Cert.AdamKvSpecIdeal.Gen.facts,
    Cert.AdamNormShard.Gen.facts,
    Cert.AdamNormShardIdeal.Gen.facts,
    Cert.AdamNormShardSpecIdeal.Gen.facts,
    Cert.AdamConv.Gen.facts,
    Cert.AdamConvIdeal.Gen.facts,
    Cert.AdamConvSpecIdeal.Gen.facts,
    Cert.AdamNorm.Gen.facts,
    Cert.AdamNormIdeal.Gen.facts,
    Cert.AdamNormSpecIdeal.Gen.facts,
    Cert.NormBwd.Gen.facts,
    Cert.NormBwdIdeal.Gen.facts,
    Cert.NormBwdSpecIdeal.Gen.facts,
    Cert.MemNormBwd.Gen.facts,
    Cert.MemNormBwdIdeal.Gen.facts,
    Cert.MemNormBwdSpecIdeal.Gen.facts,
    Cert.PairNormBwd.Gen.facts,
    Cert.PairNormBwdIdeal.Gen.facts,
    Cert.PairNormBwdSpecIdeal.Gen.facts,
    Cert.LossHead.Gen.facts,
    Cert.LossHeadIdeal.Gen.facts,
    Cert.LossHeadSpecIdeal.Gen.facts,
    Cert.NormFwd.Gen.facts,
    Cert.NormFwdIdeal.Gen.facts,
    Cert.NormFwdSpecIdeal.Gen.facts,
    Cert.MemNormFwd.Gen.facts,
    Cert.MemNormFwdIdeal.Gen.facts,
    Cert.MemNormFwdSpecIdeal.Gen.facts,
    Cert.PairNormFwd.Gen.facts,
    Cert.PairNormFwdIdeal.Gen.facts,
    Cert.PairNormFwdSpecIdeal.Gen.facts,
    Cert.MemFwd.Gen.facts,
    Cert.MemFwdIdeal.Gen.facts,
    Cert.MemFwdSpecIdeal.Gen.facts,
    Cert.MemFwdA.Gen.facts,
    Cert.MemFwdAIdeal.Gen.facts,
    Cert.MemFwdASpecIdeal.Gen.facts,
    Cert.MemBwdA.Gen.facts,
    Cert.MemBwdAIdeal.Gen.facts,
    Cert.MemBwdASpecIdeal.Gen.facts,
    Cert.CombineFwd.Gen.facts,
    Cert.CombineFwdIdeal.Gen.facts,
    Cert.CombineFwdSpecIdeal.Gen.facts,
    Cert.CombineBwd.Gen.facts,
    Cert.CombineBwdIdeal.Gen.facts,
    Cert.CombineBwdSpecIdeal.Gen.facts,
    Cert.Pre_real_scores.Gen.facts,
    Cert.Pre_real_scores_b.Gen.facts,
    Cert.Pre_real_scores_a.Gen.facts,
    Cert.Pre_real_scores_a_bwd.Gen.facts,
    Cert.Pre_real_lses.Gen.facts,
    Cert.Pre_real_groups.Gen.facts,
    fun m ρ _ => Cert.MemBwd.Gen.frame m ρ,
    fun m ρ _ => Cert.MemBwdIdeal.Gen.frame m ρ,
    fun m ρ _ => Cert.MemBwdIdeal.Gen.frame m ρ,
    fun m ρ _ => Cert.MemClaims.frame_ref m ρ,
    fun m ρ _ => Cert.MemClaims.frame_ref m ρ,
    fun m ρ _ => Cert.FfnUp.Gen.frame m ρ,
    fun m ρ _ => Cert.FfnUpIdeal.Gen.frame m ρ,
    fun m ρ _ => Cert.FfnUpProof.frame_ref m ρ,
    fun m ρ _ => Cert.DownFwd.Gen.frame m ρ,
    fun m ρ _ => Cert.DownFwdIdeal.Gen.frame m ρ,
    fun m ρ _ => Cert.DownFwdProof.frame_ref m ρ,
    fun m ρ _ => Cert.AIn.Gen.frame m ρ,
    fun m ρ _ => Cert.AInIdeal.Gen.frame m ρ,
    fun m ρ _ => Cert.AInProof.frame_ref m ρ,
    fun m ρ _ => Cert.MemKv.Gen.frame m ρ,
    fun m ρ _ => Cert.MemKvIdeal.Gen.frame m ρ,
    fun m ρ _ => Cert.MemKvProof.frame_ref m ρ,
    fun m ρ _ => Cert.OutFwd.Gen.frame m ρ,
    fun m ρ _ => Cert.OutFwdIdeal.Gen.frame m ρ,
    fun m ρ _ => Cert.OutFwdProof.frame_ref m ρ,
    fun m ρ _ => Cert.KvFwd.Gen.frame m ρ,
    fun m ρ _ => Cert.KvFwdIdeal.Gen.frame m ρ,
    fun m ρ _ => Cert.KvFwdProof.frame_ref m ρ,
    fun m ρ _ => Cert.BIn.Gen.frame m ρ,
    fun m ρ _ => Cert.BInIdeal.Gen.frame m ρ,
    fun m ρ _ => Cert.BInProof.frame_ref m ρ,
    fun m ρ _ => Cert.DownDx.Gen.frame m ρ,
    fun m ρ _ => Cert.DownDxIdeal.Gen.frame m ρ,
    fun m ρ _ => Cert.DownDxProof.frame_ref m ρ,
    fun m ρ _ => Cert.DownDw.Gen.frame m ρ,
    fun m ρ _ => Cert.DownDwIdeal.Gen.frame m ρ,
    fun m ρ _ => Cert.DownDwProof.frame_ref m ρ,
    fun m ρ _ => Cert.UpDx.Gen.frame m ρ,
    fun m ρ _ => Cert.UpDxIdeal.Gen.frame m ρ,
    fun m ρ _ => Cert.UpDxProof.frame_ref m ρ,
    fun m ρ _ => Cert.UpDw.Gen.frame m ρ,
    fun m ρ _ => Cert.UpDwIdeal.Gen.frame m ρ,
    fun m ρ _ => Cert.UpDwProof.frame_ref m ρ,
    fun m ρ _ => Cert.OutDx.Gen.frame m ρ,
    fun m ρ _ => Cert.OutDxIdeal.Gen.frame m ρ,
    fun m ρ _ => Cert.OutDxProof.frame_ref m ρ,
    fun m ρ _ => Cert.OutDw.Gen.frame m ρ,
    fun m ρ _ => Cert.OutDwIdeal.Gen.frame m ρ,
    fun m ρ _ => Cert.OutDwProof.frame_ref m ρ,
    fun m ρ _ => Cert.BInDx.Gen.frame m ρ,
    fun m ρ _ => Cert.BInDxIdeal.Gen.frame m ρ,
    fun m ρ _ => Cert.BInDxProof.frame_ref m ρ,
    fun m ρ _ => Cert.KvDx.Gen.frame m ρ,
    fun m ρ _ => Cert.KvDxIdeal.Gen.frame m ρ,
    fun m ρ _ => Cert.KvDxProof.frame_ref m ρ,
    fun m ρ _ => Cert.KvDw.Gen.frame m ρ,
    fun m ρ _ => Cert.KvDwIdeal.Gen.frame m ρ,
    fun m ρ _ => Cert.KvDwProof.frame_ref m ρ,
    fun m ρ _ => Cert.MemKvDx.Gen.frame m ρ,
    fun m ρ _ => Cert.MemKvDxIdeal.Gen.frame m ρ,
    fun m ρ _ => Cert.MemKvDxProof.frame_ref m ρ,
    fun m ρ _ => Cert.MemKvDw.Gen.frame m ρ,
    fun m ρ _ => Cert.MemKvDwIdeal.Gen.frame m ρ,
    fun m ρ _ => Cert.MemKvDwProof.frame_ref m ρ,
    fun m ρ _ => Cert.AInDw.Gen.frame m ρ,
    fun m ρ _ => Cert.AInDwIdeal.Gen.frame m ρ,
    fun m ρ _ => Cert.AInDwProof.frame_ref m ρ,
    fun m ρ _ => Cert.AInDx.Gen.frame m ρ,
    fun m ρ _ => Cert.AInDxIdeal.Gen.frame m ρ,
    fun m ρ _ => Cert.AInDxProof.frame_ref m ρ,
    fun m ρ _ => Cert.AdamAIn.Gen.frame m ρ,
    fun m ρ _ => Cert.AdamAInIdeal.Gen.frame m ρ,
    fun m ρ _ => Cert.AdamAInProof.frame_ref m ρ,
    fun m ρ _ => Cert.AdamOut.Gen.frame m ρ,
    fun m ρ _ => Cert.AdamOutIdeal.Gen.frame m ρ,
    fun m ρ _ => Cert.AdamOutProof.frame_ref m ρ,
    fun m ρ _ => Cert.AdamMemKv.Gen.frame m ρ,
    fun m ρ _ => Cert.AdamMemKvIdeal.Gen.frame m ρ,
    fun m ρ _ => Cert.AdamMemKvProof.frame_ref m ρ,
    fun m ρ _ => Cert.AdamUp.Gen.frame m ρ,
    fun m ρ _ => Cert.AdamUpIdeal.Gen.frame m ρ,
    fun m ρ _ => Cert.AdamUpProof.frame_ref m ρ,
    fun m ρ _ => Cert.AdamDown.Gen.frame m ρ,
    fun m ρ _ => Cert.AdamDownIdeal.Gen.frame m ρ,
    fun m ρ _ => Cert.AdamDownProof.frame_ref m ρ,
    fun m ρ _ => Cert.AdamKv.Gen.frame m ρ,
    fun m ρ _ => Cert.AdamKvIdeal.Gen.frame m ρ,
    fun m ρ _ => Cert.AdamKvProof.frame_ref m ρ,
    fun m ρ _ => Cert.AdamNormShard.Gen.frame m ρ,
    fun m ρ _ => Cert.AdamNormShardIdeal.Gen.frame m ρ,
    fun m ρ _ => Cert.AdamNormShardProof.frame_ref m ρ,
    fun m ρ _ => Cert.AdamConv.Gen.frame m ρ,
    fun m ρ _ => Cert.AdamConvIdeal.Gen.frame m ρ,
    fun m ρ _ => Cert.AdamConvProof.frame_ref m ρ,
    fun m ρ _ => Cert.AdamNorm.Gen.frame m ρ,
    fun m ρ _ => Cert.AdamNormIdeal.Gen.frame m ρ,
    fun m ρ _ => Cert.AdamNormProof.frame_ref m ρ,
    fun m ρ _ => Cert.NormBwd.Gen.frame m ρ,
    fun m ρ _ => Cert.NormBwdIdeal.Gen.frame m ρ,
    fun m ρ _ => Cert.NormBwdProof.frame_ref m ρ,
    fun m ρ _ => Cert.MemNormBwd.Gen.frame m ρ,
    fun m ρ _ => Cert.MemNormBwdIdeal.Gen.frame m ρ,
    fun m ρ _ => Cert.MemNormBwdProof.frame_ref m ρ,
    fun m ρ _ => Cert.PairNormBwd.Gen.frame m ρ,
    fun m ρ _ => Cert.PairNormBwdIdeal.Gen.frame m ρ,
    fun m ρ _ => Cert.PairNormBwdProof.frame_ref m ρ,
    fun m ρ _ => Cert.LossHead.Gen.frame m ρ,
    fun m ρ _ => Cert.LossHeadIdeal.Gen.frame m ρ,
    fun m ρ _ => Cert.LossHeadProof.frame_ref m ρ,
    fun m ρ _ => Cert.NormFwd.Gen.frame m ρ,
    fun m ρ _ => Cert.NormFwdIdeal.Gen.frame m ρ,
    fun m ρ _ => Cert.NormFwdProof.frame_ref m ρ,
    fun m ρ _ => Cert.MemNormFwd.Gen.frame m ρ,
    fun m ρ _ => Cert.MemNormFwdIdeal.Gen.frame m ρ,
    fun m ρ _ => Cert.MemNormFwdProof.frame_ref m ρ,
    fun m ρ _ => Cert.PairNormFwd.Gen.frame m ρ,
    fun m ρ _ => Cert.PairNormFwdIdeal.Gen.frame m ρ,
    fun m ρ _ => Cert.PairNormFwdProof.frame_ref m ρ,
    fun m ρ _ => Cert.MemFwd.Gen.frame m ρ,
    fun m ρ _ => Cert.MemFwdIdeal.Gen.frame m ρ,
    fun m ρ _ => Cert.MemFwdIdeal.Gen.frame m ρ,
    fun m ρ _ => Cert.MemFwdProof.frame_ref m ρ,
    fun m ρ _ => Cert.MemFwdProof.frame_ref m ρ,
    fun m ρ _ => Cert.MemFwdA.Gen.frame m ρ,
    fun m ρ _ => Cert.MemFwdAIdeal.Gen.frame m ρ,
    fun m ρ _ => Cert.MemFwdAIdeal.Gen.frame m ρ,
    fun m ρ _ => Cert.MemFwdAProof.frame_ref m ρ,
    fun m ρ _ => Cert.MemFwdAProof.frame_ref m ρ,
    fun m ρ _ => Cert.MemBwdA.Gen.frame m ρ,
    fun m ρ _ => Cert.MemBwdAIdeal.Gen.frame m ρ,
    fun m ρ _ => Cert.MemBwdAIdeal.Gen.frame m ρ,
    fun m ρ _ => Cert.MemBwdAProof.frame_ref m ρ,
    fun m ρ _ => Cert.MemBwdAProof.frame_ref m ρ,
    fun m ρ _ => Cert.CombineFwd.Gen.frame m ρ,
    fun m ρ _ => Cert.CombineFwdIdeal.Gen.frame m ρ,
    fun m ρ _ => Cert.CombineFwdIdeal.Gen.frame m ρ,
    fun m ρ _ => Cert.CombineFwdProof.frame_ref m ρ,
    fun m ρ _ => Cert.CombineFwdProof.frame_ref m ρ,
    fun m ρ _ => Cert.CombineBwd.Gen.frame m ρ,
    fun m ρ _ => Cert.CombineBwdIdeal.Gen.frame m ρ,
    fun m ρ _ => Cert.CombineBwdIdeal.Gen.frame m ρ,
    fun m ρ _ => Cert.CombineBwdProof.frame_ref m ρ,
    fun m ρ _ => Cert.CombineBwdProof.frame_ref m ρ,
    trivial, Cert.MemClaims.algebraic,
    trivial, Cert.FfnUpProof.algebraic,
    trivial, Cert.DownFwdProof.algebraic,
    trivial, Cert.AInProof.algebraic,
    trivial, Cert.MemKvProof.algebraic,
    trivial, Cert.OutFwdProof.algebraic,
    trivial, Cert.KvFwdProof.algebraic,
    trivial, Cert.BInProof.algebraic,
    trivial, Cert.DownDxProof.algebraic,
    trivial, Cert.DownDwProof.algebraic,
    trivial, Cert.UpDxProof.algebraic,
    trivial, Cert.UpDwProof.algebraic,
    trivial, Cert.OutDxProof.algebraic,
    trivial, Cert.OutDwProof.algebraic,
    trivial, Cert.BInDxProof.algebraic,
    trivial, Cert.KvDxProof.algebraic,
    trivial, Cert.KvDwProof.algebraic,
    trivial, Cert.MemKvDxProof.algebraic,
    trivial, Cert.MemKvDwProof.algebraic,
    trivial, Cert.AInDwProof.algebraic,
    trivial, Cert.AInDxProof.algebraic,
    trivial, Cert.AdamAInProof.algebraic,
    trivial, Cert.AdamOutProof.algebraic,
    trivial, Cert.AdamMemKvProof.algebraic,
    trivial, Cert.AdamUpProof.algebraic,
    trivial, Cert.AdamDownProof.algebraic,
    trivial, Cert.AdamKvProof.algebraic,
    trivial, Cert.AdamNormShardProof.algebraic,
    trivial, Cert.AdamConvProof.algebraic,
    trivial, Cert.AdamNormProof.algebraic,
    trivial, Cert.NormBwdProof.algebraic,
    trivial, Cert.MemNormBwdProof.algebraic,
    trivial, Cert.PairNormBwdProof.algebraic,
    trivial, Cert.LossHeadProof.algebraic,
    trivial, Cert.NormFwdProof.algebraic,
    trivial, Cert.MemNormFwdProof.algebraic,
    trivial, Cert.PairNormFwdProof.algebraic,
    trivial, Cert.MemFwdProof.algebraic,
    trivial, Cert.MemFwdAProof.algebraic,
    trivial, Cert.MemBwdAProof.algebraic,
    trivial, Cert.CombineFwdProof.algebraic,
    trivial, Cert.CombineBwdProof.algebraic⟩

end Cert.Proof

end
